-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_args_finite [hPre_args_finite : Cert.Pre_args_finite.Facts] (m : (ℓ : Loc Cert.KernelIdeal.nD Cert.KernelIdeal.τ Cert.KernelIdeal.sig) → Buf (Elt Ideal) ℓ) : Prop :=
  ∀ c : Dev Cert.KernelIdeal.nD,
    (Cert.Pre_args_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_args_finite [hPre_args_finite : Cert.Pre_args_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_args_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_args_finite [hPre_attn_args_finite : Cert.Pre_attn_args_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_args_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_args_finite [hPre_attn_args_finite : Cert.Pre_attn_args_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_args_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))) = (fun _ => 1#1)

def Pre_Cmlp (m : (ℓ : Loc Cert.Cmlp.nD Cert.Cmlp.τ Cert.Cmlp.sig) → Buf (Elt Bits) ℓ) : Prop :=
  True

def Pre_CmlpIdeal (m : (ℓ : Loc Cert.CmlpIdeal.nD Cert.CmlpIdeal.τ Cert.CmlpIdeal.sig) → Buf (Elt Ideal) ℓ) : Prop :=
  True

def Pre_CmlpIdeal_cmlp_args_finite [hPre_cmlp_args_finite : Cert.Pre_cmlp_args_finite.Facts] (m : (ℓ : Loc Cert.CmlpIdeal.nD Cert.CmlpIdeal.τ Cert.CmlpIdeal.sig) → Buf (Elt Ideal) ℓ) : Prop :=
  ∀ c : Dev Cert.CmlpIdeal.nD,
    (Cert.Pre_cmlp_args_finite.fn (F := Ideal) (m ((c.tc : Thread Cert.CmlpIdeal.nD Cert.CmlpIdeal.τ).loc Cert.CmlpIdeal.main_arg0)) (m ((c.tc : Thread Cert.CmlpIdeal.nD Cert.CmlpIdeal.τ).loc Cert.CmlpIdeal.main_arg1)) (m ((c.tc : Thread Cert.CmlpIdeal.nD Cert.CmlpIdeal.τ).loc Cert.CmlpIdeal.main_arg2)) (m ((c.tc : Thread Cert.CmlpIdeal.nD Cert.CmlpIdeal.τ).loc Cert.CmlpIdeal.main_arg3)) (m ((c.tc : Thread Cert.CmlpIdeal.nD Cert.CmlpIdeal.τ).loc Cert.CmlpIdeal.main_arg4)) (m ((c.tc : Thread Cert.CmlpIdeal.nD Cert.CmlpIdeal.τ).loc Cert.CmlpIdeal.main_arg5)) (m ((c.tc : Thread Cert.CmlpIdeal.nD Cert.CmlpIdeal.τ).loc Cert.CmlpIdeal.main_arg6)) (m ((c.tc : Thread Cert.CmlpIdeal.nD Cert.CmlpIdeal.τ).loc Cert.CmlpIdeal.main_arg7)) (m ((c.tc : Thread Cert.CmlpIdeal.nD Cert.CmlpIdeal.τ).loc Cert.CmlpIdeal.main_arg8)) (m ((c.tc : Thread Cert.CmlpIdeal.nD Cert.CmlpIdeal.τ).loc Cert.CmlpIdeal.main_arg9)) (m ((c.tc : Thread Cert.CmlpIdeal.nD Cert.CmlpIdeal.τ).loc Cert.CmlpIdeal.main_arg10))) = (fun _ => 1#1)

def Pre_CmlpRefIdeal (m : (ℓ : Loc Cert.CmlpRefIdeal.nD Cert.CmlpRefIdeal.τ Cert.CmlpRefIdeal.sig) → Buf (Elt Ideal) ℓ) : Prop :=
  True

def Pre_CmlpRefIdeal_cmlp_args_finite [hPre_cmlp_args_finite : Cert.Pre_cmlp_args_finite.Facts] (m : (ℓ : Loc Cert.CmlpRefIdeal.nD Cert.CmlpRefIdeal.τ Cert.CmlpRefIdeal.sig) → Buf (Elt Ideal) ℓ) : Prop :=
  ∀ c : Dev Cert.CmlpRefIdeal.nD,
    (Cert.Pre_cmlp_args_finite.fn (F := Ideal) (m ((c.tc : Thread Cert.CmlpRefIdeal.nD Cert.CmlpRefIdeal.τ).loc Cert.CmlpRefIdeal.main_arg0)) (m ((c.tc : Thread Cert.CmlpRefIdeal.nD Cert.CmlpRefIdeal.τ).loc Cert.CmlpRefIdeal.main_arg1)) (m ((c.tc : Thread Cert.CmlpRefIdeal.nD Cert.CmlpRefIdeal.τ).loc Cert.CmlpRefIdeal.main_arg2)) (m ((c.tc : Thread Cert.CmlpRefIdeal.nD Cert.CmlpRefIdeal.τ).loc Cert.CmlpRefIdeal.main_arg3)) (m ((c.tc : Thread Cert.CmlpRefIdeal.nD Cert.CmlpRefIdeal.τ).loc Cert.CmlpRefIdeal.main_arg4)) (m ((c.tc : Thread Cert.CmlpRefIdeal.nD Cert.CmlpRefIdeal.τ).loc Cert.CmlpRefIdeal.main_arg5)) (m ((c.tc : Thread Cert.CmlpRefIdeal.nD Cert.CmlpRefIdeal.τ).loc Cert.CmlpRefIdeal.main_arg6)) (m ((c.tc : Thread Cert.CmlpRefIdeal.nD Cert.CmlpRefIdeal.τ).loc Cert.CmlpRefIdeal.main_arg7)) (m ((c.tc : Thread Cert.CmlpRefIdeal.nD Cert.CmlpRefIdeal.τ).loc Cert.CmlpRefIdeal.main_arg8)) (m ((c.tc : Thread Cert.CmlpRefIdeal.nD Cert.CmlpRefIdeal.τ).loc Cert.CmlpRefIdeal.main_arg9)) (m ((c.tc : Thread Cert.CmlpRefIdeal.nD Cert.CmlpRefIdeal.τ).loc Cert.CmlpRefIdeal.main_arg10))) = (fun _ => 1#1)

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptIdeal_prompt_args_finite [hPre_prompt_args_finite : Cert.Pre_prompt_args_finite.Facts] (m : (ℓ : Loc Cert.PromptIdeal.nD Cert.PromptIdeal.τ Cert.PromptIdeal.sig) → Buf (Elt Ideal) ℓ) : Prop :=
  ∀ c : Dev Cert.PromptIdeal.nD,
    (Cert.Pre_prompt_args_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6))) = (fun _ => 1#1)

def Pre_PromptRefIdeal (m : (ℓ : Loc Cert.PromptRefIdeal.nD Cert.PromptRefIdeal.τ Cert.PromptRefIdeal.sig) → Buf (Elt Ideal) ℓ) : Prop :=
  True

def Pre_PromptRefIdeal_prompt_args_finite [hPre_prompt_args_finite : Cert.Pre_prompt_args_finite.Facts] (m : (ℓ : Loc Cert.PromptRefIdeal.nD Cert.PromptRefIdeal.τ Cert.PromptRefIdeal.sig) → Buf (Elt Ideal) ℓ) : Prop :=
  ∀ c : Dev Cert.PromptRefIdeal.nD,
    (Cert.Pre_prompt_args_finite.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5)) (m ((c.tc : Thread Cert.PromptRefIdeal.nD Cert.PromptRefIdeal.τ).loc Cert.PromptRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_args_finite [hKernelIdeal : Cert.KernelIdeal.Facts] [hPre_args_finite : Cert.Pre_args_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_args_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_args_finite [hReferenceIdeal : Cert.ReferenceIdeal.Facts] [hPre_args_finite : Cert.Pre_args_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_args_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ r.2.sem = fun _ => 0)

def quiescent_AttnIdeal_pre_attn_args_finite [hAttnIdeal : Cert.AttnIdeal.Facts] [hPre_attn_args_finite : Cert.Pre_attn_args_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_args_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10))
      ∧ r.2.sem = fun _ => 0)

def quiescent_AttnRefIdeal_pre_attn_args_finite [hAttnRefIdeal : Cert.AttnRefIdeal.Facts] [hPre_attn_args_finite : Cert.Pre_attn_args_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_args_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10))
      ∧ r.2.sem = fun _ => 0)

def quiescent_Cmlp [hCmlp : Cert.Cmlp.Facts] : Prop :=
  ∀ (m : (ℓ : Loc Cert.Cmlp.nD Cert.Cmlp.τ Cert.Cmlp.sig) → Buf (Elt Bits) ℓ) (g : Dev Cert.Cmlp.nD → PrngReg), Pre_Cmlp m →
    θ_run (Cert.Cmlp.defs (F := Bits)) (onTc (τ := Cert.Cmlp.τ) (Cert.Cmlp.main (F := Bits))) ⟨m, fun _ => 0, g⟩ (fun r => (∀ c : Dev Cert.Cmlp.nD,
      r.2.mem ((c.tc : Thread Cert.Cmlp.nD Cert.Cmlp.τ).loc Cert.Cmlp.main_arg0) = m ((c.tc : Thread Cert.Cmlp.nD Cert.Cmlp.τ).loc Cert.Cmlp.main_arg0)
      ∧ r.2.mem ((c.tc : Thread Cert.Cmlp.nD Cert.Cmlp.τ).loc Cert.Cmlp.main_arg1) = m ((c.tc : Thread Cert.Cmlp.nD Cert.Cmlp.τ).loc Cert.Cmlp.main_arg1)
      ∧ r.2.mem ((c.tc : Thread Cert.Cmlp.nD Cert.Cmlp.τ).loc Cert.Cmlp.main_arg2) = m ((c.tc : Thread Cert.Cmlp.nD Cert.Cmlp.τ).loc Cert.Cmlp.main_arg2)
      ∧ r.2.mem ((c.tc : Thread Cert.Cmlp.nD Cert.Cmlp.τ).loc Cert.Cmlp.main_arg3) = m ((c.tc : Thread Cert.Cmlp.nD Cert.Cmlp.τ).loc Cert.Cmlp.main_arg3)
      ∧ r.2.mem ((c.tc : Thread Cert.Cmlp.nD Cert.Cmlp.τ).loc Cert.Cmlp.main_arg4) = m ((c.tc : Thread Cert.Cmlp.nD Cert.Cmlp.τ).loc Cert.Cmlp.main_arg4)
      ∧ r.2.mem ((c.tc : Thread Cert.Cmlp.nD Cert.Cmlp.τ).loc Cert.Cmlp.main_arg5) = m ((c.tc : Thread Cert.Cmlp.nD Cert.Cmlp.τ).loc Cert.Cmlp.main_arg5)
      ∧ r.2.mem ((c.tc : Thread Cert.Cmlp.nD Cert.Cmlp.τ).loc Cert.Cmlp.main_arg6) = m ((c.tc : Thread Cert.Cmlp.nD Cert.Cmlp.τ).loc Cert.Cmlp.main_arg6)
      ∧ r.2.mem ((c.tc : Thread Cert.Cmlp.nD Cert.Cmlp.τ).loc Cert.Cmlp.main_arg7) = m ((c.tc : Thread Cert.Cmlp.nD Cert.Cmlp.τ).loc Cert.Cmlp.main_arg7)
      ∧ r.2.mem ((c.tc : Thread Cert.Cmlp.nD Cert.Cmlp.τ).loc Cert.Cmlp.main_arg8) = m ((c.tc : Thread Cert.Cmlp.nD Cert.Cmlp.τ).loc Cert.Cmlp.main_arg8)
      ∧ r.2.mem ((c.tc : Thread Cert.Cmlp.nD Cert.Cmlp.τ).loc Cert.Cmlp.main_arg9) = m ((c.tc : Thread Cert.Cmlp.nD Cert.Cmlp.τ).loc Cert.Cmlp.main_arg9)
      ∧ r.2.mem ((c.tc : Thread Cert.Cmlp.nD Cert.Cmlp.τ).loc Cert.Cmlp.main_arg10) = m ((c.tc : Thread Cert.Cmlp.nD Cert.Cmlp.τ).loc Cert.Cmlp.main_arg10))
      ∧ r.2.sem = fun _ => 0)

def quiescent_CmlpIdeal [hCmlpIdeal : Cert.CmlpIdeal.Facts] : Prop :=
  ∀ (m : (ℓ : Loc Cert.CmlpIdeal.nD Cert.CmlpIdeal.τ Cert.CmlpIdeal.sig) → Buf (Elt Ideal) ℓ) (g : Dev Cert.CmlpIdeal.nD → PrngReg), Pre_CmlpIdeal m →
    θ_run (Cert.CmlpIdeal.defs (F := Ideal)) (onTc (τ := Cert.CmlpIdeal.τ) (Cert.CmlpIdeal.main (F := Ideal))) ⟨m, fun _ => 0, g⟩ (fun r => (∀ c : Dev Cert.CmlpIdeal.nD,
      r.2.mem ((c.tc : Thread Cert.CmlpIdeal.nD Cert.CmlpIdeal.τ).loc Cert.CmlpIdeal.main_arg0) = m ((c.tc : Thread Cert.CmlpIdeal.nD Cert.CmlpIdeal.τ).loc Cert.CmlpIdeal.main_arg0)
      ∧ r.2.mem ((c.tc : Thread Cert.CmlpIdeal.nD Cert.CmlpIdeal.τ).loc Cert.CmlpIdeal.main_arg1) = m ((c.tc : Thread Cert.CmlpIdeal.nD Cert.CmlpIdeal.τ).loc Cert.CmlpIdeal.main_arg1)
      ∧ r.2.mem ((c.tc : Thread Cert.CmlpIdeal.nD Cert.CmlpIdeal.τ).loc Cert.CmlpIdeal.main_arg2) = m ((c.tc : Thread Cert.CmlpIdeal.nD Cert.CmlpIdeal.τ).loc Cert.CmlpIdeal.main_arg2)
      ∧ r.2.mem ((c.tc : Thread Cert.CmlpIdeal.nD Cert.CmlpIdeal.τ).loc Cert.CmlpIdeal.main_arg3) = m ((c.tc : Thread Cert.CmlpIdeal.nD Cert.CmlpIdeal.τ).loc Cert.CmlpIdeal.main_arg3)
      ∧ r.2.mem ((c.tc : Thread Cert.CmlpIdeal.nD Cert.CmlpIdeal.τ).loc Cert.CmlpIdeal.main_arg4) = m ((c.tc : Thread Cert.CmlpIdeal.nD Cert.CmlpIdeal.τ).loc Cert.CmlpIdeal.main_arg4)
      ∧ r.2.mem ((c.tc : Thread Cert.CmlpIdeal.nD Cert.CmlpIdeal.τ).loc Cert.CmlpIdeal.main_arg5) = m ((c.tc : Thread Cert.CmlpIdeal.nD Cert.CmlpIdeal.τ).loc Cert.CmlpIdeal.main_arg5)
      ∧ r.2.mem ((c.tc : Thread Cert.CmlpIdeal.nD Cert.CmlpIdeal.τ).loc Cert.CmlpIdeal.main_arg6) = m ((c.tc : Thread Cert.CmlpIdeal.nD Cert.CmlpIdeal.τ).loc Cert.CmlpIdeal.main_arg6)
      ∧ r.2.mem ((c.tc : Thread Cert.CmlpIdeal.nD Cert.CmlpIdeal.τ).loc Cert.CmlpIdeal.main_arg7) = m ((c.tc : Thread Cert.CmlpIdeal.nD Cert.CmlpIdeal.τ).loc Cert.CmlpIdeal.main_arg7)
      ∧ r.2.mem ((c.tc : Thread Cert.CmlpIdeal.nD Cert.CmlpIdeal.τ).loc Cert.CmlpIdeal.main_arg8) = m ((c.tc : Thread Cert.CmlpIdeal.nD Cert.CmlpIdeal.τ).loc Cert.CmlpIdeal.main_arg8)
      ∧ r.2.mem ((c.tc : Thread Cert.CmlpIdeal.nD Cert.CmlpIdeal.τ).loc Cert.CmlpIdeal.main_arg9) = m ((c.tc : Thread Cert.CmlpIdeal.nD Cert.CmlpIdeal.τ).loc Cert.CmlpIdeal.main_arg9)
      ∧ r.2.mem ((c.tc : Thread Cert.CmlpIdeal.nD Cert.CmlpIdeal.τ).loc Cert.CmlpIdeal.main_arg10) = m ((c.tc : Thread Cert.CmlpIdeal.nD Cert.CmlpIdeal.τ).loc Cert.CmlpIdeal.main_arg10))
      ∧ r.2.sem = fun _ => 0)

def quiescent_CmlpIdeal_pre_cmlp_args_finite [hCmlpIdeal : Cert.CmlpIdeal.Facts] [hPre_cmlp_args_finite : Cert.Pre_cmlp_args_finite.Facts] : Prop :=
  ∀ (m : (ℓ : Loc Cert.CmlpIdeal.nD Cert.CmlpIdeal.τ Cert.CmlpIdeal.sig) → Buf (Elt Ideal) ℓ) (g : Dev Cert.CmlpIdeal.nD → PrngReg), Pre_CmlpIdeal_cmlp_args_finite m →
    θ_run (Cert.CmlpIdeal.defs (F := Ideal)) (onTc (τ := Cert.CmlpIdeal.τ) (Cert.CmlpIdeal.main (F := Ideal))) ⟨m, fun _ => 0, g⟩ (fun r => (∀ c : Dev Cert.CmlpIdeal.nD,
      r.2.mem ((c.tc : Thread Cert.CmlpIdeal.nD Cert.CmlpIdeal.τ).loc Cert.CmlpIdeal.main_arg0) = m ((c.tc : Thread Cert.CmlpIdeal.nD Cert.CmlpIdeal.τ).loc Cert.CmlpIdeal.main_arg0)
      ∧ r.2.mem ((c.tc : Thread Cert.CmlpIdeal.nD Cert.CmlpIdeal.τ).loc Cert.CmlpIdeal.main_arg1) = m ((c.tc : Thread Cert.CmlpIdeal.nD Cert.CmlpIdeal.τ).loc Cert.CmlpIdeal.main_arg1)
      ∧ r.2.mem ((c.tc : Thread Cert.CmlpIdeal.nD Cert.CmlpIdeal.τ).loc Cert.CmlpIdeal.main_arg2) = m ((c.tc : Thread Cert.CmlpIdeal.nD Cert.CmlpIdeal.τ).loc Cert.CmlpIdeal.main_arg2)
      ∧ r.2.mem ((c.tc : Thread Cert.CmlpIdeal.nD Cert.CmlpIdeal.τ).loc Cert.CmlpIdeal.main_arg3) = m ((c.tc : Thread Cert.CmlpIdeal.nD Cert.CmlpIdeal.τ).loc Cert.CmlpIdeal.main_arg3)
      ∧ r.2.mem ((c.tc : Thread Cert.CmlpIdeal.nD Cert.CmlpIdeal.τ).loc Cert.CmlpIdeal.main_arg4) = m ((c.tc : Thread Cert.CmlpIdeal.nD Cert.CmlpIdeal.τ).loc Cert.CmlpIdeal.main_arg4)
      ∧ r.2.mem ((c.tc : Thread Cert.CmlpIdeal.nD Cert.CmlpIdeal.τ).loc Cert.CmlpIdeal.main_arg5) = m ((c.tc : Thread Cert.CmlpIdeal.nD Cert.CmlpIdeal.τ).loc Cert.CmlpIdeal.main_arg5)
      ∧ r.2.mem ((c.tc : Thread Cert.CmlpIdeal.nD Cert.CmlpIdeal.τ).loc Cert.CmlpIdeal.main_arg6) = m ((c.tc : Thread Cert.CmlpIdeal.nD Cert.CmlpIdeal.τ).loc Cert.CmlpIdeal.main_arg6)
      ∧ r.2.mem ((c.tc : Thread Cert.CmlpIdeal.nD Cert.CmlpIdeal.τ).loc Cert.CmlpIdeal.main_arg7) = m ((c.tc : Thread Cert.CmlpIdeal.nD Cert.CmlpIdeal.τ).loc Cert.CmlpIdeal.main_arg7)
      ∧ r.2.mem ((c.tc : Thread Cert.CmlpIdeal.nD Cert.CmlpIdeal.τ).loc Cert.CmlpIdeal.main_arg8) = m ((c.tc : Thread Cert.CmlpIdeal.nD Cert.CmlpIdeal.τ).loc Cert.CmlpIdeal.main_arg8)
      ∧ r.2.mem ((c.tc : Thread Cert.CmlpIdeal.nD Cert.CmlpIdeal.τ).loc Cert.CmlpIdeal.main_arg9) = m ((c.tc : Thread Cert.CmlpIdeal.nD Cert.CmlpIdeal.τ).loc Cert.CmlpIdeal.main_arg9)
      ∧ r.2.mem ((c.tc : Thread Cert.CmlpIdeal.nD Cert.CmlpIdeal.τ).loc Cert.CmlpIdeal.main_arg10) = m ((c.tc : Thread Cert.CmlpIdeal.nD Cert.CmlpIdeal.τ).loc Cert.CmlpIdeal.main_arg10))
      ∧ r.2.sem = fun _ => 0)

def quiescent_CmlpRefIdeal [hCmlpRefIdeal : Cert.CmlpRefIdeal.Facts] : Prop :=
  ∀ (m : (ℓ : Loc Cert.CmlpRefIdeal.nD Cert.CmlpRefIdeal.τ Cert.CmlpRefIdeal.sig) → Buf (Elt Ideal) ℓ) (g : Dev Cert.CmlpRefIdeal.nD → PrngReg), Pre_CmlpRefIdeal m →
    θ_run (Cert.CmlpRefIdeal.defs (F := Ideal)) (onTc (τ := Cert.CmlpRefIdeal.τ) (Cert.CmlpRefIdeal.main (F := Ideal))) ⟨m, fun _ => 0, g⟩ (fun r => (∀ c : Dev Cert.CmlpRefIdeal.nD,
      r.2.mem ((c.tc : Thread Cert.CmlpRefIdeal.nD Cert.CmlpRefIdeal.τ).loc Cert.CmlpRefIdeal.main_arg0) = m ((c.tc : Thread Cert.CmlpRefIdeal.nD Cert.CmlpRefIdeal.τ).loc Cert.CmlpRefIdeal.main_arg0)
      ∧ r.2.mem ((c.tc : Thread Cert.CmlpRefIdeal.nD Cert.CmlpRefIdeal.τ).loc Cert.CmlpRefIdeal.main_arg1) = m ((c.tc : Thread Cert.CmlpRefIdeal.nD Cert.CmlpRefIdeal.τ).loc Cert.CmlpRefIdeal.main_arg1)
      ∧ r.2.mem ((c.tc : Thread Cert.CmlpRefIdeal.nD Cert.CmlpRefIdeal.τ).loc Cert.CmlpRefIdeal.main_arg2) = m ((c.tc : Thread Cert.CmlpRefIdeal.nD Cert.CmlpRefIdeal.τ).loc Cert.CmlpRefIdeal.main_arg2)
      ∧ r.2.mem ((c.tc : Thread Cert.CmlpRefIdeal.nD Cert.CmlpRefIdeal.τ).loc Cert.CmlpRefIdeal.main_arg3) = m ((c.tc : Thread Cert.CmlpRefIdeal.nD Cert.CmlpRefIdeal.τ).loc Cert.CmlpRefIdeal.main_arg3)
      ∧ r.2.mem ((c.tc : Thread Cert.CmlpRefIdeal.nD Cert.CmlpRefIdeal.τ).loc Cert.CmlpRefIdeal.main_arg4) = m ((c.tc : Thread Cert.CmlpRefIdeal.nD Cert.CmlpRefIdeal.τ).loc Cert.CmlpRefIdeal.main_arg4)
      ∧ r.2.mem ((c.tc : Thread Cert.CmlpRefIdeal.nD Cert.CmlpRefIdeal.τ).loc Cert.CmlpRefIdeal.main_arg5) = m ((c.tc : Thread Cert.CmlpRefIdeal.nD Cert.CmlpRefIdeal.τ).loc Cert.CmlpRefIdeal.main_arg5)
      ∧ r.2.mem ((c.tc : Thread Cert.CmlpRefIdeal.nD Cert.CmlpRefIdeal.τ).loc Cert.CmlpRefIdeal.main_arg6) = m ((c.tc : Thread Cert.CmlpRefIdeal.nD Cert.CmlpRefIdeal.τ).loc Cert.CmlpRefIdeal.main_arg6)
      ∧ r.2.mem ((c.tc : Thread Cert.CmlpRefIdeal.nD Cert.CmlpRefIdeal.τ).loc Cert.CmlpRefIdeal.main_arg7) = m ((c.tc : Thread Cert.CmlpRefIdeal.nD Cert.CmlpRefIdeal.τ).loc Cert.CmlpRefIdeal.main_arg7)
      ∧ r.2.mem ((c.tc : Thread Cert.CmlpRefIdeal.nD Cert.CmlpRefIdeal.τ).loc Cert.CmlpRefIdeal.main_arg8) = m ((c.tc : Thread Cert.CmlpRefIdeal.nD Cert.CmlpRefIdeal.τ).loc Cert.CmlpRefIdeal.main_arg8)
      ∧ r.2.mem ((c.tc : Thread Cert.CmlpRefIdeal.nD Cert.CmlpRefIdeal.τ).loc Cert.CmlpRefIdeal.main_arg9) = m ((c.tc : Thread Cert.CmlpRefIdeal.nD Cert.CmlpRefIdeal.τ).loc Cert.CmlpRefIdeal.main_arg9)
      ∧ r.2.mem ((c.tc : Thread Cert.CmlpRefIdeal.nD Cert.CmlpRefIdeal.τ).loc Cert.CmlpRefIdeal.main_arg10) = m ((c.tc : Thread Cert.CmlpRefIdeal.nD Cert.CmlpRefIdeal.τ).loc Cert.CmlpRefIdeal.main_arg10))
      ∧ r.2.sem = fun _ => 0)

def quiescent_CmlpRefIdeal_pre_cmlp_args_finite [hCmlpRefIdeal : Cert.CmlpRefIdeal.Facts] [hPre_cmlp_args_finite : Cert.Pre_cmlp_args_finite.Facts] : Prop :=
  ∀ (m : (ℓ : Loc Cert.CmlpRefIdeal.nD Cert.CmlpRefIdeal.τ Cert.CmlpRefIdeal.sig) → Buf (Elt Ideal) ℓ) (g : Dev Cert.CmlpRefIdeal.nD → PrngReg), Pre_CmlpRefIdeal_cmlp_args_finite m →
    θ_run (Cert.CmlpRefIdeal.defs (F := Ideal)) (onTc (τ := Cert.CmlpRefIdeal.τ) (Cert.CmlpRefIdeal.main (F := Ideal))) ⟨m, fun _ => 0, g⟩ (fun r => (∀ c : Dev Cert.CmlpRefIdeal.nD,
      r.2.mem ((c.tc : Thread Cert.CmlpRefIdeal.nD Cert.CmlpRefIdeal.τ).loc Cert.CmlpRefIdeal.main_arg0) = m ((c.tc : Thread Cert.CmlpRefIdeal.nD Cert.CmlpRefIdeal.τ).loc Cert.CmlpRefIdeal.main_arg0)
      ∧ r.2.mem ((c.tc : Thread Cert.CmlpRefIdeal.nD Cert.CmlpRefIdeal.τ).loc Cert.CmlpRefIdeal.main_arg1) = m ((c.tc : Thread Cert.CmlpRefIdeal.nD Cert.CmlpRefIdeal.τ).loc Cert.CmlpRefIdeal.main_arg1)
      ∧ r.2.mem ((c.tc : Thread Cert.CmlpRefIdeal.nD Cert.CmlpRefIdeal.τ).loc Cert.CmlpRefIdeal.main_arg2) = m ((c.tc : Thread Cert.CmlpRefIdeal.nD Cert.CmlpRefIdeal.τ).loc Cert.CmlpRefIdeal.main_arg2)
      ∧ r.2.mem ((c.tc : Thread Cert.CmlpRefIdeal.nD Cert.CmlpRefIdeal.τ).loc Cert.CmlpRefIdeal.main_arg3) = m ((c.tc : Thread Cert.CmlpRefIdeal.nD Cert.CmlpRefIdeal.τ).loc Cert.CmlpRefIdeal.main_arg3)
      ∧ r.2.mem ((c.tc : Thread Cert.CmlpRefIdeal.nD Cert.CmlpRefIdeal.τ).loc Cert.CmlpRefIdeal.main_arg4) = m ((c.tc : Thread Cert.CmlpRefIdeal.nD Cert.CmlpRefIdeal.τ).loc Cert.CmlpRefIdeal.main_arg4)
      ∧ r.2.mem ((c.tc : Thread Cert.CmlpRefIdeal.nD Cert.CmlpRefIdeal.τ).loc Cert.CmlpRefIdeal.main_arg5) = m ((c.tc : Thread Cert.CmlpRefIdeal.nD Cert.CmlpRefIdeal.τ).loc Cert.CmlpRefIdeal.main_arg5)
      ∧ r.2.mem ((c.tc : Thread Cert.CmlpRefIdeal.nD Cert.CmlpRefIdeal.τ).loc Cert.CmlpRefIdeal.main_arg6) = m ((c.tc : Thread Cert.CmlpRefIdeal.nD Cert.CmlpRefIdeal.τ).loc Cert.CmlpRefIdeal.main_arg6)
      ∧ r.2.mem ((c.tc : Thread Cert.CmlpRefIdeal.nD Cert.CmlpRefIdeal.τ).loc Cert.CmlpRefIdeal.main_arg7) = m ((c.tc : Thread Cert.CmlpRefIdeal.nD Cert.CmlpRefIdeal.τ).loc Cert.CmlpRefIdeal.main_arg7)
      ∧ r.2.mem ((c.tc : Thread Cert.CmlpRefIdeal.nD Cert.CmlpRefIdeal.τ).loc Cert.CmlpRefIdeal.main_arg8) = m ((c.tc : Thread Cert.CmlpRefIdeal.nD Cert.CmlpRefIdeal.τ).loc Cert.CmlpRefIdeal.main_arg8)
      ∧ r.2.mem ((c.tc : Thread Cert.CmlpRefIdeal.nD Cert.CmlpRefIdeal.τ).loc Cert.CmlpRefIdeal.main_arg9) = m ((c.tc : Thread Cert.CmlpRefIdeal.nD Cert.CmlpRefIdeal.τ).loc Cert.CmlpRefIdeal.main_arg9)
      ∧ r.2.mem ((c.tc : Thread Cert.CmlpRefIdeal.nD Cert.CmlpRefIdeal.τ).loc Cert.CmlpRefIdeal.main_arg10) = m ((c.tc : Thread Cert.CmlpRefIdeal.nD Cert.CmlpRefIdeal.τ).loc Cert.CmlpRefIdeal.main_arg10))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6))
      ∧ r.2.sem = fun _ => 0)

def quiescent_PromptIdeal_pre_prompt_args_finite [hPromptIdeal : Cert.PromptIdeal.Facts] [hPre_prompt_args_finite : Cert.Pre_prompt_args_finite.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal_prompt_args_finite m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6))
      ∧ r.2.sem = fun _ => 0)

def quiescent_PromptRefIdeal_pre_prompt_args_finite [hPromptRefIdeal : Cert.PromptRefIdeal.Facts] [hPre_prompt_args_finite : Cert.Pre_prompt_args_finite.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal_prompt_args_finite m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6))
      ∧ r.2.sem = fun _ => 0)

def preserves_Kernel_KernelIdeal : Prop :=
  IdealRules.named_const.Statement Cert.KernelIdeal.κ "gelu_c1" .f32 0x3D122279#32 ((80338380498831 / 2251799813685248 : ℝ) : EReal)

def algebraic_KernelIdeal_ReferenceIdeal_pre_args_finite [hKernelIdeal : Cert.KernelIdeal.Facts] [hReferenceIdeal : Cert.ReferenceIdeal.Facts] [hPre_args_finite : Cert.Pre_args_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_args_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Attn_AttnIdeal : Prop :=
  True

def algebraic_AttnIdeal_AttnRefIdeal_pre_attn_args_finite [hAttnIdeal : Cert.AttnIdeal.Facts] [hAttnRefIdeal : Cert.AttnRefIdeal.Facts] [hPre_attn_args_finite : Cert.Pre_attn_args_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_args_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)
      ∧ m' ((c.tc : Thread Cert.AttnRefIdeal.nD Cert.AttnRefIdeal.τ).loc Cert.AttnRefIdeal.main_arg10) = m ((c.tc : Thread Cert.AttnIdeal.nD Cert.AttnIdeal.τ).loc Cert.AttnIdeal.main_arg10)) →
    ∃ (v0 : (c : Dev Cert.AttnIdeal.nD) → Buf (Elt Ideal) ((c.tc : Thread Cert.AttnIdeal.nD Cert.AttnIdeal.τ).loc Cert.AttnIdeal.main_v11_0)) (v1 : (c : Dev Cert.AttnIdeal.nD) → Buf (Elt Ideal) ((c.tc : Thread Cert.AttnIdeal.nD Cert.AttnIdeal.τ).loc Cert.AttnIdeal.main_v11_1)) (v2 : (c : Dev Cert.AttnIdeal.nD) → Buf (Elt Ideal) ((c.tc : Thread Cert.AttnIdeal.nD Cert.AttnIdeal.τ).loc Cert.AttnIdeal.main_v11_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v11_0) = v0 c
          ∧ r.2.mem ((c.tc : Thread Cert.AttnIdeal.nD Cert.AttnIdeal.τ).loc Cert.AttnIdeal.main_v11_1) = v1 c
          ∧ r.2.mem ((c.tc : Thread Cert.AttnIdeal.nD Cert.AttnIdeal.τ).loc Cert.AttnIdeal.main_v11_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v74) = v0 c
          ∧ r.2.mem ((c.tc : Thread Cert.AttnRefIdeal.nD Cert.AttnRefIdeal.τ).loc Cert.AttnRefIdeal.main_v20) = v1 c
          ∧ r.2.mem ((c.tc : Thread Cert.AttnRefIdeal.nD Cert.AttnRefIdeal.τ).loc Cert.AttnRefIdeal.main_v21) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9)
          ∧ r.2.mem ((c.tc : Thread Cert.AttnRefIdeal.nD Cert.AttnRefIdeal.τ).loc Cert.AttnRefIdeal.main_arg10) = m' ((c.tc : Thread Cert.AttnRefIdeal.nD Cert.AttnRefIdeal.τ).loc Cert.AttnRefIdeal.main_arg10))

def preserves_Cmlp_CmlpIdeal : Prop :=
  IdealRules.named_const.Statement Cert.CmlpIdeal.κ "gelu_c1" .f32 0x3D122279#32 ((80338380498831 / 2251799813685248 : ℝ) : EReal)

def algebraic_CmlpIdeal_CmlpRefIdeal_pre_cmlp_args_finite [hCmlpIdeal : Cert.CmlpIdeal.Facts] [hCmlpRefIdeal : Cert.CmlpRefIdeal.Facts] [hPre_cmlp_args_finite : Cert.Pre_cmlp_args_finite.Facts] : Prop :=
  ∀ (m : (ℓ : Loc Cert.CmlpIdeal.nD Cert.CmlpIdeal.τ Cert.CmlpIdeal.sig) → Buf (Elt Ideal) ℓ) (g : Dev Cert.CmlpIdeal.nD → PrngReg)
    (m' : (ℓ : Loc Cert.CmlpRefIdeal.nD Cert.CmlpRefIdeal.τ Cert.CmlpRefIdeal.sig) → Buf (Elt Ideal) ℓ) (g' : Dev Cert.CmlpRefIdeal.nD → PrngReg), Pre_CmlpIdeal_cmlp_args_finite m →
    (∀ c : Dev Cert.CmlpIdeal.nD,
      m' ((c.tc : Thread Cert.CmlpRefIdeal.nD Cert.CmlpRefIdeal.τ).loc Cert.CmlpRefIdeal.main_arg0) = m ((c.tc : Thread Cert.CmlpIdeal.nD Cert.CmlpIdeal.τ).loc Cert.CmlpIdeal.main_arg0)
      ∧ m' ((c.tc : Thread Cert.CmlpRefIdeal.nD Cert.CmlpRefIdeal.τ).loc Cert.CmlpRefIdeal.main_arg1) = m ((c.tc : Thread Cert.CmlpIdeal.nD Cert.CmlpIdeal.τ).loc Cert.CmlpIdeal.main_arg1)
      ∧ m' ((c.tc : Thread Cert.CmlpRefIdeal.nD Cert.CmlpRefIdeal.τ).loc Cert.CmlpRefIdeal.main_arg2) = m ((c.tc : Thread Cert.CmlpIdeal.nD Cert.CmlpIdeal.τ).loc Cert.CmlpIdeal.main_arg2)
      ∧ m' ((c.tc : Thread Cert.CmlpRefIdeal.nD Cert.CmlpRefIdeal.τ).loc Cert.CmlpRefIdeal.main_arg3) = m ((c.tc : Thread Cert.CmlpIdeal.nD Cert.CmlpIdeal.τ).loc Cert.CmlpIdeal.main_arg3)
      ∧ m' ((c.tc : Thread Cert.CmlpRefIdeal.nD Cert.CmlpRefIdeal.τ).loc Cert.CmlpRefIdeal.main_arg4) = m ((c.tc : Thread Cert.CmlpIdeal.nD Cert.CmlpIdeal.τ).loc Cert.CmlpIdeal.main_arg4)
      ∧ m' ((c.tc : Thread Cert.CmlpRefIdeal.nD Cert.CmlpRefIdeal.τ).loc Cert.CmlpRefIdeal.main_arg5) = m ((c.tc : Thread Cert.CmlpIdeal.nD Cert.CmlpIdeal.τ).loc Cert.CmlpIdeal.main_arg5)
      ∧ m' ((c.tc : Thread Cert.CmlpRefIdeal.nD Cert.CmlpRefIdeal.τ).loc Cert.CmlpRefIdeal.main_arg6) = m ((c.tc : Thread Cert.CmlpIdeal.nD Cert.CmlpIdeal.τ).loc Cert.CmlpIdeal.main_arg6)
      ∧ m' ((c.tc : Thread Cert.CmlpRefIdeal.nD Cert.CmlpRefIdeal.τ).loc Cert.CmlpRefIdeal.main_arg7) = m ((c.tc : Thread Cert.CmlpIdeal.nD Cert.CmlpIdeal.τ).loc Cert.CmlpIdeal.main_arg7)
      ∧ m' ((c.tc : Thread Cert.CmlpRefIdeal.nD Cert.CmlpRefIdeal.τ).loc Cert.CmlpRefIdeal.main_arg8) = m ((c.tc : Thread Cert.CmlpIdeal.nD Cert.CmlpIdeal.τ).loc Cert.CmlpIdeal.main_arg8)
      ∧ m' ((c.tc : Thread Cert.CmlpRefIdeal.nD Cert.CmlpRefIdeal.τ).loc Cert.CmlpRefIdeal.main_arg9) = m ((c.tc : Thread Cert.CmlpIdeal.nD Cert.CmlpIdeal.τ).loc Cert.CmlpIdeal.main_arg9)
      ∧ m' ((c.tc : Thread Cert.CmlpRefIdeal.nD Cert.CmlpRefIdeal.τ).loc Cert.CmlpRefIdeal.main_arg10) = m ((c.tc : Thread Cert.CmlpIdeal.nD Cert.CmlpIdeal.τ).loc Cert.CmlpIdeal.main_arg10)) →
    ∃ (v0 : (c : Dev Cert.CmlpIdeal.nD) → Buf (Elt Ideal) ((c.tc : Thread Cert.CmlpIdeal.nD Cert.CmlpIdeal.τ).loc Cert.CmlpIdeal.main_v11_0)) (v1 : (c : Dev Cert.CmlpIdeal.nD) → Buf (Elt Ideal) ((c.tc : Thread Cert.CmlpIdeal.nD Cert.CmlpIdeal.τ).loc Cert.CmlpIdeal.main_v11_1)),
      θ_run (Cert.CmlpIdeal.defs (F := Ideal)) (onTc (τ := Cert.CmlpIdeal.τ) (Cert.CmlpIdeal.main (F := Ideal))) ⟨m, fun _ => 0, g⟩ (fun r => ∀ c : Dev Cert.CmlpIdeal.nD,
          r.2.mem ((c.tc : Thread Cert.CmlpIdeal.nD Cert.CmlpIdeal.τ).loc Cert.CmlpIdeal.main_v11_0) = v0 c
          ∧ r.2.mem ((c.tc : Thread Cert.CmlpIdeal.nD Cert.CmlpIdeal.τ).loc Cert.CmlpIdeal.main_v11_1) = v1 c
          ∧ r.2.mem ((c.tc : Thread Cert.CmlpIdeal.nD Cert.CmlpIdeal.τ).loc Cert.CmlpIdeal.main_arg0) = m ((c.tc : Thread Cert.CmlpIdeal.nD Cert.CmlpIdeal.τ).loc Cert.CmlpIdeal.main_arg0)
          ∧ r.2.mem ((c.tc : Thread Cert.CmlpIdeal.nD Cert.CmlpIdeal.τ).loc Cert.CmlpIdeal.main_arg1) = m ((c.tc : Thread Cert.CmlpIdeal.nD Cert.CmlpIdeal.τ).loc Cert.CmlpIdeal.main_arg1)
          ∧ r.2.mem ((c.tc : Thread Cert.CmlpIdeal.nD Cert.CmlpIdeal.τ).loc Cert.CmlpIdeal.main_arg2) = m ((c.tc : Thread Cert.CmlpIdeal.nD Cert.CmlpIdeal.τ).loc Cert.CmlpIdeal.main_arg2)
          ∧ r.2.mem ((c.tc : Thread Cert.CmlpIdeal.nD Cert.CmlpIdeal.τ).loc Cert.CmlpIdeal.main_arg3) = m ((c.tc : Thread Cert.CmlpIdeal.nD Cert.CmlpIdeal.τ).loc Cert.CmlpIdeal.main_arg3)
          ∧ r.2.mem ((c.tc : Thread Cert.CmlpIdeal.nD Cert.CmlpIdeal.τ).loc Cert.CmlpIdeal.main_arg4) = m ((c.tc : Thread Cert.CmlpIdeal.nD Cert.CmlpIdeal.τ).loc Cert.CmlpIdeal.main_arg4)
          ∧ r.2.mem ((c.tc : Thread Cert.CmlpIdeal.nD Cert.CmlpIdeal.τ).loc Cert.CmlpIdeal.main_arg5) = m ((c.tc : Thread Cert.CmlpIdeal.nD Cert.CmlpIdeal.τ).loc Cert.CmlpIdeal.main_arg5)
          ∧ r.2.mem ((c.tc : Thread Cert.CmlpIdeal.nD Cert.CmlpIdeal.τ).loc Cert.CmlpIdeal.main_arg6) = m ((c.tc : Thread Cert.CmlpIdeal.nD Cert.CmlpIdeal.τ).loc Cert.CmlpIdeal.main_arg6)
          ∧ r.2.mem ((c.tc : Thread Cert.CmlpIdeal.nD Cert.CmlpIdeal.τ).loc Cert.CmlpIdeal.main_arg7) = m ((c.tc : Thread Cert.CmlpIdeal.nD Cert.CmlpIdeal.τ).loc Cert.CmlpIdeal.main_arg7)
          ∧ r.2.mem ((c.tc : Thread Cert.CmlpIdeal.nD Cert.CmlpIdeal.τ).loc Cert.CmlpIdeal.main_arg8) = m ((c.tc : Thread Cert.CmlpIdeal.nD Cert.CmlpIdeal.τ).loc Cert.CmlpIdeal.main_arg8)
          ∧ r.2.mem ((c.tc : Thread Cert.CmlpIdeal.nD Cert.CmlpIdeal.τ).loc Cert.CmlpIdeal.main_arg9) = m ((c.tc : Thread Cert.CmlpIdeal.nD Cert.CmlpIdeal.τ).loc Cert.CmlpIdeal.main_arg9)
          ∧ r.2.mem ((c.tc : Thread Cert.CmlpIdeal.nD Cert.CmlpIdeal.τ).loc Cert.CmlpIdeal.main_arg10) = m ((c.tc : Thread Cert.CmlpIdeal.nD Cert.CmlpIdeal.τ).loc Cert.CmlpIdeal.main_arg10))
      ∧ θ_run (Cert.CmlpRefIdeal.defs (F := Ideal)) (onTc (τ := Cert.CmlpRefIdeal.τ) (Cert.CmlpRefIdeal.main (F := Ideal))) ⟨m', fun _ => 0, g'⟩ (fun r => ∀ c : Dev Cert.CmlpRefIdeal.nD,
          r.2.mem ((c.tc : Thread Cert.CmlpRefIdeal.nD Cert.CmlpRefIdeal.τ).loc Cert.CmlpRefIdeal.main_v93) = v0 c
          ∧ r.2.mem ((c.tc : Thread Cert.CmlpRefIdeal.nD Cert.CmlpRefIdeal.τ).loc Cert.CmlpRefIdeal.main_v55) = v1 c
          ∧ r.2.mem ((c.tc : Thread Cert.CmlpRefIdeal.nD Cert.CmlpRefIdeal.τ).loc Cert.CmlpRefIdeal.main_arg0) = m' ((c.tc : Thread Cert.CmlpRefIdeal.nD Cert.CmlpRefIdeal.τ).loc Cert.CmlpRefIdeal.main_arg0)
          ∧ r.2.mem ((c.tc : Thread Cert.CmlpRefIdeal.nD Cert.CmlpRefIdeal.τ).loc Cert.CmlpRefIdeal.main_arg1) = m' ((c.tc : Thread Cert.CmlpRefIdeal.nD Cert.CmlpRefIdeal.τ).loc Cert.CmlpRefIdeal.main_arg1)
          ∧ r.2.mem ((c.tc : Thread Cert.CmlpRefIdeal.nD Cert.CmlpRefIdeal.τ).loc Cert.CmlpRefIdeal.main_arg2) = m' ((c.tc : Thread Cert.CmlpRefIdeal.nD Cert.CmlpRefIdeal.τ).loc Cert.CmlpRefIdeal.main_arg2)
          ∧ r.2.mem ((c.tc : Thread Cert.CmlpRefIdeal.nD Cert.CmlpRefIdeal.τ).loc Cert.CmlpRefIdeal.main_arg3) = m' ((c.tc : Thread Cert.CmlpRefIdeal.nD Cert.CmlpRefIdeal.τ).loc Cert.CmlpRefIdeal.main_arg3)
          ∧ r.2.mem ((c.tc : Thread Cert.CmlpRefIdeal.nD Cert.CmlpRefIdeal.τ).loc Cert.CmlpRefIdeal.main_arg4) = m' ((c.tc : Thread Cert.CmlpRefIdeal.nD Cert.CmlpRefIdeal.τ).loc Cert.CmlpRefIdeal.main_arg4)
          ∧ r.2.mem ((c.tc : Thread Cert.CmlpRefIdeal.nD Cert.CmlpRefIdeal.τ).loc Cert.CmlpRefIdeal.main_arg5) = m' ((c.tc : Thread Cert.CmlpRefIdeal.nD Cert.CmlpRefIdeal.τ).loc Cert.CmlpRefIdeal.main_arg5)
          ∧ r.2.mem ((c.tc : Thread Cert.CmlpRefIdeal.nD Cert.CmlpRefIdeal.τ).loc Cert.CmlpRefIdeal.main_arg6) = m' ((c.tc : Thread Cert.CmlpRefIdeal.nD Cert.CmlpRefIdeal.τ).loc Cert.CmlpRefIdeal.main_arg6)
          ∧ r.2.mem ((c.tc : Thread Cert.CmlpRefIdeal.nD Cert.CmlpRefIdeal.τ).loc Cert.CmlpRefIdeal.main_arg7) = m' ((c.tc : Thread Cert.CmlpRefIdeal.nD Cert.CmlpRefIdeal.τ).loc Cert.CmlpRefIdeal.main_arg7)
          ∧ r.2.mem ((c.tc : Thread Cert.CmlpRefIdeal.nD Cert.CmlpRefIdeal.τ).loc Cert.CmlpRefIdeal.main_arg8) = m' ((c.tc : Thread Cert.CmlpRefIdeal.nD Cert.CmlpRefIdeal.τ).loc Cert.CmlpRefIdeal.main_arg8)
          ∧ r.2.mem ((c.tc : Thread Cert.CmlpRefIdeal.nD Cert.CmlpRefIdeal.τ).loc Cert.CmlpRefIdeal.main_arg9) = m' ((c.tc : Thread Cert.CmlpRefIdeal.nD Cert.CmlpRefIdeal.τ).loc Cert.CmlpRefIdeal.main_arg9)
          ∧ r.2.mem ((c.tc : Thread Cert.CmlpRefIdeal.nD Cert.CmlpRefIdeal.τ).loc Cert.CmlpRefIdeal.main_arg10) = m' ((c.tc : Thread Cert.CmlpRefIdeal.nD Cert.CmlpRefIdeal.τ).loc Cert.CmlpRefIdeal.main_arg10))

def preserves_Prompt_PromptIdeal : Prop :=
  IdealRules.named_const.Statement Cert.PromptIdeal.κ "gelu_c1" .f32 0x3D122279#32 ((80338380498831 / 2251799813685248 : ℝ) : EReal)

def algebraic_PromptIdeal_PromptRefIdeal_pre_prompt_args_finite [hPromptIdeal : Cert.PromptIdeal.Facts] [hPromptRefIdeal : Cert.PromptRefIdeal.Facts] [hPre_prompt_args_finite : Cert.Pre_prompt_args_finite.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal_prompt_args_finite m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)) →
    ∃ (v0 : (c : Dev Cert.PromptIdeal.nD) → Buf (Elt Ideal) ((c.tc : Thread Cert.PromptIdeal.nD Cert.PromptIdeal.τ).loc Cert.PromptIdeal.main_v6_0)) (v1 : (c : Dev Cert.PromptIdeal.nD) → Buf (Elt Ideal) ((c.tc : Thread Cert.PromptIdeal.nD Cert.PromptIdeal.τ).loc Cert.PromptIdeal.main_v6_1)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v6_0) = v0 c
          ∧ r.2.mem ((c.tc : Thread Cert.PromptIdeal.nD Cert.PromptIdeal.τ).loc Cert.PromptIdeal.main_v6_1) = v1 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v69) = v0 c
          ∧ r.2.mem ((c.tc : Thread Cert.PromptRefIdeal.nD Cert.PromptRefIdeal.τ).loc Cert.PromptRefIdeal.main_v70) = v1 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnRefIdeal : Cert.AttnRefIdeal.Facts) (hCmlp : Cert.Cmlp.Facts) (hCmlpIdeal : Cert.CmlpIdeal.Facts) (hCmlpRefIdeal : Cert.CmlpRefIdeal.Facts) (hPrompt : Cert.Prompt.Facts) (hPromptIdeal : Cert.PromptIdeal.Facts) (hPromptRefIdeal : Cert.PromptRefIdeal.Facts) (hPre_args_finite : Cert.Pre_args_finite.Facts) (hPre_attn_args_finite : Cert.Pre_attn_args_finite.Facts) (hPre_cmlp_args_finite : Cert.Pre_cmlp_args_finite.Facts) (hPre_prompt_args_finite : Cert.Pre_prompt_args_finite.Facts),
    quiescent_Kernel (hKernel := hKernel)
    ∧ quiescent_KernelIdeal (hKernelIdeal := hKernelIdeal)
    ∧ quiescent_KernelIdeal_pre_args_finite (hKernelIdeal := hKernelIdeal) (hPre_args_finite := hPre_args_finite)
    ∧ quiescent_ReferenceIdeal (hReferenceIdeal := hReferenceIdeal)
    ∧ quiescent_ReferenceIdeal_pre_args_finite (hReferenceIdeal := hReferenceIdeal) (hPre_args_finite := hPre_args_finite)
    ∧ quiescent_Attn (hAttn := hAttn)
    ∧ quiescent_AttnIdeal (hAttnIdeal := hAttnIdeal)
    ∧ quiescent_AttnIdeal_pre_attn_args_finite (hAttnIdeal := hAttnIdeal) (hPre_attn_args_finite := hPre_attn_args_finite)
    ∧ quiescent_AttnRefIdeal (hAttnRefIdeal := hAttnRefIdeal)
    ∧ quiescent_AttnRefIdeal_pre_attn_args_finite (hAttnRefIdeal := hAttnRefIdeal) (hPre_attn_args_finite := hPre_attn_args_finite)
    ∧ quiescent_Cmlp (hCmlp := hCmlp)
    ∧ quiescent_CmlpIdeal (hCmlpIdeal := hCmlpIdeal)
    ∧ quiescent_CmlpIdeal_pre_cmlp_args_finite (hCmlpIdeal := hCmlpIdeal) (hPre_cmlp_args_finite := hPre_cmlp_args_finite)
    ∧ quiescent_CmlpRefIdeal (hCmlpRefIdeal := hCmlpRefIdeal)
    ∧ quiescent_CmlpRefIdeal_pre_cmlp_args_finite (hCmlpRefIdeal := hCmlpRefIdeal) (hPre_cmlp_args_finite := hPre_cmlp_args_finite)
    ∧ quiescent_Prompt (hPrompt := hPrompt)
    ∧ quiescent_PromptIdeal (hPromptIdeal := hPromptIdeal)
    ∧ quiescent_PromptIdeal_pre_prompt_args_finite (hPromptIdeal := hPromptIdeal) (hPre_prompt_args_finite := hPre_prompt_args_finite)
    ∧ quiescent_PromptRefIdeal (hPromptRefIdeal := hPromptRefIdeal)
    ∧ quiescent_PromptRefIdeal_pre_prompt_args_finite (hPromptRefIdeal := hPromptRefIdeal) (hPre_prompt_args_finite := hPre_prompt_args_finite)
    ∧ preserves_Kernel_KernelIdeal
    ∧ algebraic_KernelIdeal_ReferenceIdeal_pre_args_finite (hKernelIdeal := hKernelIdeal) (hReferenceIdeal := hReferenceIdeal) (hPre_args_finite := hPre_args_finite)
    ∧ preserves_Attn_AttnIdeal
    ∧ algebraic_AttnIdeal_AttnRefIdeal_pre_attn_args_finite (hAttnIdeal := hAttnIdeal) (hAttnRefIdeal := hAttnRefIdeal) (hPre_attn_args_finite := hPre_attn_args_finite)
    ∧ preserves_Cmlp_CmlpIdeal
    ∧ algebraic_CmlpIdeal_CmlpRefIdeal_pre_cmlp_args_finite (hCmlpIdeal := hCmlpIdeal) (hCmlpRefIdeal := hCmlpRefIdeal) (hPre_cmlp_args_finite := hPre_cmlp_args_finite)
    ∧ preserves_Prompt_PromptIdeal
    ∧ algebraic_PromptIdeal_PromptRefIdeal_pre_prompt_args_finite (hPromptIdeal := hPromptIdeal) (hPromptRefIdeal := hPromptRefIdeal) (hPre_prompt_args_finite := hPre_prompt_args_finite)
-- ==== Pre_args_finite.lean ====
abbrev S16x64x1024 : Shape := ⟨3, ![16, 64, 1024]⟩
abbrev S16x2x5632 : Shape := ⟨3, ![16, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S16x2x5632 : S_.BroadcastsInDim S16x2x5632 (![] : Fin 0 → Fin S16x2x5632.rank)
  reducesTo_S16x2x5632_S_d0_1_2 : S16x2x5632.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_

variable [Facts]

def fn_part1 {F : FTy → Type} [FloatOps F] (main_arg6 : FVec F S5632 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S5632 .f32 := Host.absf main_arg6
  let main_cst_6 : FVec F S_ .f32 := constant S_ .f32 0x7F800000#32
  let main_v20 : FVec F S5632 .f32 := broadcastInDim S5632 ![] bcast_S_S5632 main_cst_6
  let main_v21 : IVec S5632 1 := cmpf .olt main_v19 main_v20
  let main_c_7 : IVec S_ 1 := constantI S_ 1 1#1
  let main_v22 : IVec S_ 1 := (fun x v => Host.reduce IntOp.andi x v reducesTo_S5632_S_d0 h_S_) main_v21 main_c_7
  let main_v23 : IVec S_ 1 := andi main_v18 main_v22
  main_v23

def fn {F : FTy → Type} [FloatOps F] (main_arg0 : FVec F S16x64x1024 .f32) (main_arg1 : FVec F S16x2x5632 .f32) (main_arg2 : FVec F S1024 .f32) (main_arg3 : FVec F S1024 .f32) (main_arg4 : FVec F S1024x5632 .f32) (main_arg5 : FVec F S3x5632 .f32) (main_arg6 : FVec F S5632 .f32) (main_arg7 : FVec F S2816x1024 .f32) : IVec S_ 1 :=
  let main_v0 : FVec F S16x2x5632 .f32 := Host.absf main_arg1
  let main_cst : FVec F S_ .f32 := constant S_ .f32 0x7F800000#32
  let main_v1 : FVec F S16x2x5632 .f32 := broadcastInDim S16x2x5632 ![] bcast_S_S16x2x5632 main_cst
  let main_v2 : IVec S16x2x5632 1 := cmpf .olt main_v0 main_v1
  let main_c : IVec S_ 1 := constantI S_ 1 1#1
  let main_v3 : IVec S_ 1 := (fun x v => Host.reduce IntOp.andi x v reducesTo_S16x2x5632_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg4
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg5
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg6 main_v13 main_v16
-- ==== Pre_attn_args_finite.lean ====
abbrev S16x64x1024 : Shape := ⟨3, ![16, 64, 1024]⟩
abbrev S16x128x4x64 : Shape := ⟨4, ![16, 128, 4, 64]⟩
abbrev S1024 : Shape := ⟨1, ![1024]⟩
abbrev S2x1024x1536 : Shape := ⟨3, ![2, 1024, 1536]⟩
abbrev S1536 : Shape := ⟨1, ![1536]⟩
abbrev S2x1024x1024 : Shape := ⟨3, ![2, 1024, 1024]⟩
abbrev S16 : Shape := ⟨1, ![16]⟩
abbrev S4x4x64x192 : Shape := ⟨4, ![4, 4, 64, 192]⟩
abbrev S_ : Shape := ⟨0, ![]⟩
abbrev S1x1024x1280 : Shape := ⟨3, ![1, 1024, 1280]⟩
abbrev S1024x1280 : Shape := ⟨2, ![1024, 1280]⟩
abbrev S1280 : Shape := ⟨1, ![1280]⟩

class Facts : Prop where
  bcast_S_S16x128x4x64 : S_.BroadcastsInDim S16x128x4x64 (![] : Fin 0 → Fin S16x128x4x64.rank)
  reducesTo_S16x128x4x64_S_d0_1_2_3 : S16x128x4x64.ReducesTo [0, 1, 2, 3] S_
  h_S_ : 0 < S_.numel
  bcast_S_S1024 : S_.BroadcastsInDim S1024 (![] : Fin 0 → Fin S1024.rank)
  reducesTo_S1024_S_d0 : S1024.ReducesTo [0] S_
  slices_S2x1024x1536_S1x1024x1280_0_0_0 : S2x1024x1536.Slices ![0, 0, 0] S1x1024x1280
  shapeCasts_S1x1024x1280_S1024x1280 : S1x1024x1280.ShapeCasts S1024x1280
  bcast_S_S1024x1280 : S_.BroadcastsInDim S1024x1280 (![] : Fin 0 → Fin S1024x1280.rank)
  reducesTo_S1024x1280_S_d0_1 : S1024x1280.ReducesTo [0, 1] S_
  slices_S1536_S1280_0 : S1536.Slices ![0] S1280
  bcast_S_S1280 : S_.BroadcastsInDim S1280 (![] : Fin 0 → Fin S1280.rank)
  reducesTo_S1280_S_d0 : S1280.ReducesTo [0] S_
  bcast_S_S16 : S_.BroadcastsInDim S16 (![] : Fin 0 → Fin S16.rank)
  reducesTo_S16_S_d0 : S16.ReducesTo [0] S_
  bcast_S_S4x4x64x192 : S_.BroadcastsInDim S4x4x64x192 (![] : Fin 0 → Fin S4x4x64x192.rank)
  reducesTo_S4x4x64x192_S_d0_1_2_3 : S4x4x64x192.ReducesTo [0, 1, 2, 3] S_

variable [Facts]

def fn_part1 {F : FTy → Type} [FloatOps F] (main_arg9 : FVec F S16 .f32) (main_arg10 : FVec F S4x4x64x192 .f32) (main_v15 : IVec S_ 1) (main_v17 : FVec F S1280 .f32) : IVec S_ 1 :=
  let main_cst_4 : FVec F S_ .f32 := constant S_ .f32 0x7F800000#32
  let main_v18 : FVec F S1280 .f32 := broadcastInDim S1280 ![] bcast_S_S1280 main_cst_4
  let main_v19 : IVec S1280 1 := cmpf .olt main_v17 main_v18
  let main_c_5 : IVec S_ 1 := constantI S_ 1 1#1
  let main_v20 : IVec S_ 1 := (fun x v => Host.reduce IntOp.andi x v reducesTo_S1280_S_d0 h_S_) main_v19 main_c_5
  let main_v21 : IVec S_ 1 := andi main_v15 main_v20
  let main_v22 : FVec F S16 .f32 := Host.absf main_arg9
  let main_cst_6 : FVec F S_ .f32 := constant S_ .f32 0x7F800000#32
  let main_v23 : FVec F S16 .f32 := broadcastInDim S16 ![] bcast_S_S16 main_cst_6
  let main_v24 : IVec S16 1 := cmpf .olt main_v22 main_v23
  let main_c_7 : IVec S_ 1 := constantI S_ 1 1#1
  let main_v25 : IVec S_ 1 := (fun x v => Host.reduce IntOp.andi x v reducesTo_S16_S_d0 h_S_) main_v24 main_c_7
  let main_v26 : IVec S_ 1 := andi main_v21 main_v25
  let main_v27 : FVec F S4x4x64x192 .f32 := Host.absf main_arg10
  let main_cst_8 : FVec F S_ .f32 := constant S_ .f32 0x7F800000#32
  let main_v28 : FVec F S4x4x64x192 .f32 := broadcastInDim S4x4x64x192 ![] bcast_S_S4x4x64x192 main_cst_8
  let main_v29 : IVec S4x4x64x192 1 := cmpf .olt main_v27 main_v28
  let main_c_9 : IVec S_ 1 := constantI S_ 1 1#1
  let main_v30 : IVec S_ 1 := (fun x v => Host.reduce IntOp.andi x v reducesTo_S4x4x64x192_S_d0_1_2_3 h_S_) main_v29 main_c_9
  let main_v31 : IVec S_ 1 := andi main_v26 main_v30
  main_v31

def fn {F : FTy → Type} [FloatOps F] (main_arg0 : FVec F S16x64x1024 .f32) (main_arg1 : FVec F S16x128x4x64 .f32) (main_arg2 : FVec F S16x128x4x64 .f32) (main_arg3 : FVec F S1024 .f32) (main_arg4 : FVec F S1024 .f32) (main_arg5 : FVec F S2x1024x1536 .f32) (main_arg6 : FVec F S1536 .f32) (main_arg7 : FVec F S2x1024x1024 .f32) (main_arg8 : FVec F S1024 .f32) (main_arg9 : FVec F S16 .f32) (main_arg10 : FVec F S4x4x64x192 .f32) : IVec S_ 1 :=
  let main_v0 : FVec F S16x128x4x64 .f32 := Host.absf main_arg1
  let main_cst : FVec F S_ .f32 := constant S_ .f32 0x7F800000#32
  let main_v1 : FVec F S16x128x4x64 .f32 := broadcastInDim S16x128x4x64 ![] bcast_S_S16x128x4x64 main_cst
  let main_v2 : IVec S16x128x4x64 1 := cmpf .olt main_v0 main_v1
  let main_c : IVec S_ 1 := constantI S_ 1 1#1
  let main_v3 : IVec S_ 1 := (fun x v => Host.reduce IntOp.andi x v reducesTo_S16x128x4x64_S_d0_1_2_3 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024x1280 .f32 := (extractStridedSlice S1x1024x1280 ![0, 0, 0] · slices_S2x1024x1536_S1x1024x1280_0_0_0) main_arg5
  let main_v10 : FVec F S1024x1280 .f32 := shapeCast S1024x1280 main_v9 shapeCasts_S1x1024x1280_S1024x1280
  let main_v11 : FVec F S1024x1280 .f32 := Host.absf main_v10
  let main_cst_2 : FVec F S_ .f32 := constant S_ .f32 0x7F800000#32
  let main_v12 : FVec F S1024x1280 .f32 := broadcastInDim S1024x1280 ![] bcast_S_S1024x1280 main_cst_2
  let main_v13 : IVec S1024x1280 1 := cmpf .olt main_v11 main_v12
  let main_c_3 : IVec S_ 1 := constantI S_ 1 1#1
  let main_v14 : IVec S_ 1 := (fun x v => Host.reduce IntOp.andi x v reducesTo_S1024x1280_S_d0_1 h_S_) main_v13 main_c_3
  let main_v15 : IVec S_ 1 := andi main_v8 main_v14
  let main_v16 : FVec F S1280 .f32 := (extractStridedSlice S1280 ![0] · slices_S1536_S1280_0) main_arg6
  let main_v17 : FVec F S1280 .f32 := Host.absf main_v16
  fn_part1 (F := F) main_arg9 main_arg10 main_v15 main_v17
-- ==== Pre_cmlp_args_finite.lean ====
abbrev S16x64x1024 : Shape := ⟨3, ![16, 64, 1024]⟩
abbrev S1024 : Shape := ⟨1, ![1024]⟩
abbrev S1024x4096 : Shape := ⟨2, ![1024, 4096]⟩
abbrev S4096 : Shape := ⟨1, ![4096]⟩
abbrev S2048 : Shape := ⟨1, ![2048]⟩
abbrev S4x128x128 : Shape := ⟨3, ![4, 128, 128]⟩
abbrev S4x128 : Shape := ⟨2, ![4, 128]⟩
abbrev S2048x1024 : Shape := ⟨2, ![2048, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16x64x1024 .f32) (main_arg1 : FVec F S1024 .f32) (main_arg2 : FVec F S1024 .f32) (main_arg3 : FVec F S1024x4096 .f32) (main_arg4 : FVec F S4096 .f32) (main_arg5 : FVec F S2048 .f32) (main_arg6 : FVec F S2048 .f32) (main_arg7 : FVec F S4x128x128 .f32) (main_arg8 : FVec F S4x128 .f32) (main_arg9 : FVec F S2048x1024 .f32) (main_arg10 : FVec F S1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4096 .f32 := Host.absf main_arg3
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Pre_prompt_args_finite.lean ====
abbrev S4x4096x1024 : Shape := ⟨3, ![4, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_

variable [Facts]

def fn_part1 {F : FTy → Type} [FloatOps F] (main_v13 : IVec S_ 1) (main_v16 : IVec S5632 1) : IVec S_ 1 :=
  let main_c_5 : IVec S_ 1 := constantI S_ 1 1#1
  let main_v17 : IVec S_ 1 := (fun x v => Host.reduce IntOp.andi x v reducesTo_S5632_S_d0 h_S_) main_v16 main_c_5
  let main_v18 : IVec S_ 1 := andi main_v13 main_v17
  main_v18

def fn {F : FTy → Type} [FloatOps F] (main_arg0 : FVec F S4x4096x1024 .f32) (main_arg1 : FVec F S1024 .f32) (main_arg2 : FVec F S1024 .f32) (main_arg3 : FVec F S1024x5632 .f32) (main_arg4 : FVec F S3x5632 .f32) (main_arg5 : FVec F S5632 .f32) (main_arg6 : FVec F S2816x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x5632 .f32 := Host.absf main_arg3
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S3x5632 .f32 := Host.absf main_arg4
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_c_3 : IVec S_ 1 := constantI S_ 1 1#1
  let main_v12 : IVec S_ 1 := (fun x v => Host.reduce IntOp.andi x v reducesTo_S3x5632_S_d0_1 h_S_) main_v11 main_c_3
  let main_v13 : IVec S_ 1 := andi main_v8 main_v12
  let main_v14 : FVec F S5632 .f32 := Host.absf main_arg5
  let main_cst_4 : FVec F S_ .f32 := constant S_ .f32 0x7F800000#32
  let main_v15 : FVec F S5632 .f32 := broadcastInDim S5632 ![] bcast_S_S5632 main_cst_4
  let main_v16 : IVec S5632 1 := cmpf .olt main_v14 main_v15
  fn_part1 (F := F) main_v13 main_v16
-- ==== Kernel.lean ====
abbrev S16x64x1024 : Shape := ⟨3, ![16, 64, 1024]⟩
abbrev S16x2x5632 : Shape := ⟨3, ![16, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S8x64x1024 : Shape := ⟨3, ![8, 64, 1024]⟩
abbrev S8x2x5632 : Shape := ⟨3, ![8, 2, 5632]⟩
abbrev S512x2816 : Shape := ⟨2, ![512, 2816]⟩
abbrev S8x72x512 : Shape := ⟨3, ![8, 72, 512]⟩
abbrev S64x8x256 : Shape := ⟨3, ![64, 8, 256]⟩
abbrev S8x6x512 : Shape := ⟨3, ![8, 6, 512]⟩
abbrev S8x2x256 : Shape := ⟨3, ![8, 2, 256]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x64x256 : Shape := ⟨3, ![8, 64, 256]⟩
abbrev S3x256 : Shape := ⟨2, ![3, 256]⟩
abbrev S8x8x256 : Shape := ⟨3, ![8, 8, 256]⟩
abbrev S1x256 : Shape := ⟨2, ![1, 256]⟩
abbrev S1x1x256 : Shape := ⟨3, ![1, 1, 256]⟩
abbrev S8x8x8x256 : Shape := ⟨4, ![8, 8, 8, 256]⟩
abbrev S8x1x8x256 : Shape := ⟨4, ![8, 1, 8, 256]⟩
abbrev S8x7x8x256 : Shape := ⟨4, ![8, 7, 8, 256]⟩
abbrev S128x1024 : Shape := ⟨2, ![128, 1024]⟩
abbrev S128x2816 : Shape := ⟨2, ![128, 2816]⟩
abbrev S128 : Shape := ⟨1, ![128]⟩
abbrev S128x1 : Shape := ⟨2, ![128, 1]⟩
abbrev S2x64x1024 : Shape := ⟨3, ![2, 64, 1024]⟩

abbrev nBuf : Space → Nat
  | .hbm => 15
  | .vmem => 26
  | .smem => 0
  | _ => 0

abbrev bufTy : (tb : Table) → Fin (tcTables nBuf tb) → BufTy
  | .hbm, ⟨0, _⟩ => ⟨S16x64x1024, .f32⟩
  | .hbm, ⟨1, _⟩ => ⟨S16x2x5632, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1x1024, .f32⟩
  | .hbm, ⟨9, _⟩ => ⟨S1x1024, .f32⟩
  | .hbm, ⟨10, _⟩ => ⟨S1024x5632, .bf16⟩
  | .hbm, ⟨11, _⟩ => ⟨S1x5632, .f32⟩
  | .hbm, ⟨12, _⟩ => ⟨S2816x1024, .bf16⟩
  | .hbm, ⟨13, _⟩ => ⟨S16x64x1024, .f32⟩
  | .hbm, ⟨14, _⟩ => ⟨S16x2x5632, .f32⟩
  | .local _ .vmem, ⟨0, _⟩ => ⟨S8x64x1024, .f32⟩
  | .local _ .vmem, ⟨1, _⟩ => ⟨S8x64x1024, .f32⟩
  | .local _ .vmem, ⟨2, _⟩ => ⟨S8x2x5632, .f32⟩
  | .local _ .vmem, ⟨3, _⟩ => ⟨S8x2x5632, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S8x64x1024, .f32⟩
  | .local _ .vmem, ⟨11, _⟩ => ⟨S8x64x1024, .f32⟩
  | .local _ .vmem, ⟨12, _⟩ => ⟨S8x2x5632, .f32⟩
  | .local _ .vmem, ⟨13, _⟩ => ⟨S8x2x5632, .f32⟩
  | .local _ .vmem, ⟨14, _⟩ => ⟨S512x2816, .bf16⟩
  | .local _ .vmem, ⟨15, _⟩ => ⟨S8x72x512, .f32⟩
  | .local _ .vmem, ⟨16, _⟩ => ⟨S8x72x512, .f32⟩
  | .local _ .vmem, ⟨17, _⟩ => ⟨S8x72x512, .f32⟩
  | .local _ .vmem, ⟨18, _⟩ => ⟨S8x72x512, .f32⟩
  | .local _ .vmem, ⟨19, _⟩ => ⟨S8x72x512, .f32⟩
  | .local _ .vmem, ⟨20, _⟩ => ⟨S8x72x512, .f32⟩
  | .local _ .vmem, ⟨21, _⟩ => ⟨S8x72x512, .f32⟩
  | .local _ .vmem, ⟨22, _⟩ => ⟨S8x72x512, .f32⟩
  | .local _ .vmem, ⟨23, _⟩ => ⟨S8x72x512, .f32⟩
  | .local _ .vmem, ⟨24, _⟩ => ⟨S8x72x512, .f32⟩
  | .local _ .vmem, ⟨25, _⟩ => ⟨S8x72x512, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_635 : BitVec 32 := 0#32
  let v1627 : BitVec 1 := Scalar.cmpi .eq arg1 c0_i32_635
  let v1628 : BitVec 32 := Scalar.extui v1627
  let c0_i32_636 : BitVec 32 := 0#32
  let v1629 : BitVec 1 := Scalar.cmpi .ne v1628 c0_i32_636
  v1629

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x2x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "gelu_c1" => some ((80338380498831 / 2251799813685248 : ℝ) : EReal)
  | _ => none
-- ==== ReferenceIdeal.lean ====
abbrev S16x64x1024 : Shape := ⟨3, ![16, 64, 1024]⟩
abbrev S16x2x5632 : Shape := ⟨3, ![16, 2, 5632]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S16x64x5632 : Shape := ⟨3, ![16, 64, 5632]⟩
abbrev S16x66x5632 : Shape := ⟨3, ![16, 66, 5632]⟩
abbrev S1x5632 : Shape := ⟨2, ![1, 5632]⟩
abbrev S1x1x5632 : Shape := ⟨3, ![1, 1, 5632]⟩
abbrev S16x64x2816 : Shape := ⟨3, ![16, 64, 2816]⟩

abbrev nBuf : Space → Nat
  | .hbm => 88
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S16x2x5632, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S16x64x1024, .f32⟩
  | .hbm, ⟨9, _⟩ => ⟨S_, .f32⟩
  | .hbm, ⟨10, _⟩ => ⟨S16x64, .f32⟩
  | .hbm, ⟨11, _⟩ => ⟨S16x64x1, .f32⟩
  | .hbm, ⟨12, _⟩ => ⟨S_, .f32⟩
  | .hbm, ⟨13, _⟩ => ⟨S16x64x1, .f32⟩
  | .hbm, ⟨14, _⟩ => ⟨S16x64x1, .f32⟩
  | .hbm, ⟨15, _⟩ => ⟨S_, .f32⟩
  | .hbm, ⟨16, _⟩ => ⟨S16x64x1, .f32⟩
  | .hbm, ⟨17, _⟩ => ⟨S16x64x1, .f32⟩
  | .hbm, ⟨18, _⟩ => ⟨S16x64x1, .f32⟩
  | .hbm, ⟨19, _⟩ => ⟨S16x64x1024, .f32⟩
  | .hbm, ⟨20, _⟩ => ⟨S16x64x1024, .f32⟩
  | .hbm, ⟨21, _⟩ => ⟨S1x1x1024, .f32⟩
  | .hbm, ⟨22, _⟩ => ⟨S16x64x1024, .f32⟩
  | .hbm, ⟨23, _⟩ => ⟨S16x64x1024, .f32⟩
  | .hbm, ⟨24, _⟩ => ⟨S16x64x5632, .f32⟩
  | .hbm, ⟨25, _⟩ => ⟨S16x66x5632, .f32⟩
  | .hbm, ⟨26, _⟩ => ⟨S16x64x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S16x64x5632, .f32⟩
  | .hbm, ⟨31, _⟩ => ⟨S16x64x5632, .f32⟩
  | .hbm, ⟨32, _⟩ => ⟨S16x64x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S16x64x5632, .f32⟩
  | .hbm, ⟨37, _⟩ => ⟨S16x64x5632, .f32⟩
  | .hbm, ⟨38, _⟩ => ⟨S16x64x5632, .f32⟩
  | .hbm, ⟨39, _⟩ => ⟨S16x64x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S16x64x5632, .f32⟩
  | .hbm, ⟨44, _⟩ => ⟨S16x64x5632, .f32⟩
  | .hbm, ⟨45, _⟩ => ⟨S16x64x5632, .f32⟩
  | .hbm, ⟨46, _⟩ => ⟨S1x1x5632, .f32⟩
  | .hbm, ⟨47, _⟩ => ⟨S16x64x5632, .f32⟩
  | .hbm, ⟨48, _⟩ => ⟨S16x64x5632, .f32⟩
  | .hbm, ⟨49, _⟩ => ⟨S16x64x2816, .f32⟩
  | .hbm, ⟨50, _⟩ => ⟨S16x64x2816, .f32⟩
  | .hbm, ⟨51, _⟩ => ⟨S16x64x2816, .f32⟩
  | .hbm, ⟨52, _⟩ => ⟨S16x64x2816, .f32⟩
  | .hbm, ⟨53, _⟩ => ⟨S_, .f32⟩
  | .hbm, ⟨54, _⟩ => ⟨S16x64x2816, .f32⟩
  | .hbm, ⟨55, _⟩ => ⟨S16x64x2816, .f32⟩
  | .hbm, ⟨56, _⟩ => ⟨S16x64x2816, .f32⟩
  | .hbm, ⟨57, _⟩ => ⟨S_, .f32⟩
  | .hbm, ⟨58, _⟩ => ⟨S16x64x2816, .f32⟩
  | .hbm, ⟨59, _⟩ => ⟨S16x64x2816, .f32⟩
  | .hbm, ⟨60, _⟩ => ⟨S16x64x2816, .f32⟩
  | .hbm, ⟨61, _⟩ => ⟨S_, .f32⟩
  | .hbm, ⟨62, _⟩ => ⟨S16x64x2816, .f32⟩
  | .hbm, ⟨63, _⟩ => ⟨S16x64x2816, .f32⟩
  | .hbm, ⟨64, _⟩ => ⟨S_, .f32⟩
  | .hbm, ⟨65, _⟩ => ⟨S16x64x2816, .f32⟩
  | .hbm, ⟨66, _⟩ => ⟨S16x64x2816, .f32⟩
  | .hbm, ⟨67, _⟩ => ⟨S16x64x2816, .f32⟩
  | .hbm, ⟨68, _⟩ => ⟨S16x64x2816, .f32⟩
  | .hbm, ⟨69, _⟩ => ⟨S16x64x1024, .f32⟩
  | .hbm, ⟨70, _⟩ => ⟨S16x64x1024, .f32⟩
  | .hbm, ⟨71, _⟩ => ⟨S_, .f32⟩
  | .hbm, ⟨72, _⟩ => ⟨S16x64, .f32⟩
  | .hbm, ⟨73, _⟩ => ⟨S16x64x1, .f32⟩
  | .hbm, ⟨74, _⟩ => ⟨S_, .f32⟩
  | .hbm, ⟨75, _⟩ => ⟨S16x64x1, .f32⟩
  | .hbm, ⟨76, _⟩ => ⟨S16x64x1, .f32⟩
  | .hbm, ⟨77, _⟩ => ⟨S_, .f32⟩
  | .hbm, ⟨78, _⟩ => ⟨S16x64x1, .f32⟩
  | .hbm, ⟨79, _⟩ => ⟨S16x64x1, .f32⟩
  | .hbm, ⟨80, _⟩ => ⟨S16x64x1, .f32⟩
  | .hbm, ⟨81, _⟩ => ⟨S16x64x1024, .f32⟩
  | .hbm, ⟨82, _⟩ => ⟨S16x64x1024, .f32⟩
  | .hbm, ⟨83, _⟩ => ⟨S1x1x1024, .f32⟩
  | .hbm, ⟨84, _⟩ => ⟨S16x64x1024, .f32⟩
  | .hbm, ⟨85, _⟩ => ⟨S16x64x1024, .f32⟩
  | .hbm, ⟨86, _⟩ => ⟨S16x64x1024, .f32⟩
  | .hbm, ⟨87, _⟩ => ⟨S16x2x5632, .f32⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_2 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Attn.lean ====
abbrev S16x64x1024 : Shape := ⟨3, ![16, 64, 1024]⟩
abbrev S16x128x4x64 : Shape := ⟨4, ![16, 128, 4, 64]⟩
abbrev S1024 : Shape := ⟨1, ![1024]⟩
abbrev S2x1024x1536 : Shape := ⟨3, ![2, 1024, 1536]⟩
abbrev S1536 : Shape := ⟨1, ![1536]⟩
abbrev S2x1024x1024 : Shape := ⟨3, ![2, 1024, 1024]⟩
abbrev S16 : Shape := ⟨1, ![16]⟩
abbrev S4x4x64x192 : Shape := ⟨4, ![4, 4, 64, 192]⟩
abbrev S4x2x2x64x192 : Shape := ⟨5, ![4, 2, 2, 64, 192]⟩
abbrev S4x2x192x2x64 : Shape := ⟨5, ![4, 2, 192, 2, 64]⟩
abbrev S16x128x256 : Shape := ⟨3, ![16, 128, 256]⟩
abbrev S1x1024 : Shape := ⟨2, ![1, 1024]⟩
abbrev S1x1536 : Shape := ⟨2, ![1, 1536]⟩
abbrev S4x2x192x128 : Shape := ⟨4, ![4, 2, 192, 128]⟩
abbrev S16x64x256 : Shape := ⟨3, ![16, 64, 256]⟩
abbrev S8x64x1024 : Shape := ⟨3, ![8, 64, 1024]⟩
abbrev S8x128x256 : Shape := ⟨3, ![8, 128, 256]⟩
abbrev S1x1024x1536 : Shape := ⟨3, ![1, 1024, 1536]⟩
abbrev S1x1024x1024 : Shape := ⟨3, ![1, 1024, 1024]⟩
abbrev S8x64x256 : Shape := ⟨3, ![8, 64, 256]⟩
abbrev S512x1024 : Shape := ⟨2, ![512, 1024]⟩
abbrev S8x4x2x192x128 : Shape := ⟨5, ![8, 4, 2, 192, 128]⟩
abbrev S1x128 : Shape := ⟨2, ![1, 128]⟩
abbrev S8x128x128 : Shape := ⟨3, ![8, 128, 128]⟩
abbrev S1024x128 : Shape := ⟨2, ![1024, 128]⟩
abbrev S1x1x128 : Shape := ⟨3, ![1, 1, 128]⟩
abbrev S8x1x1x128x128 : Shape := ⟨5, ![8, 1, 1, 128, 128]⟩
abbrev S4x64x1024 : Shape := ⟨3, ![4, 64, 1024]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x256 : Shape := ⟨2, ![1, 256]⟩
abbrev S4x64x256 : Shape := ⟨3, ![4, 64, 256]⟩
abbrev S4x64x128 : Shape := ⟨3, ![4, 64, 128]⟩
abbrev S256x128 : Shape := ⟨2, ![256, 128]⟩
abbrev S4x1x1x64x128 : Shape := ⟨5, ![4, 1, 1, 64, 128]⟩
abbrev S64x128 : Shape := ⟨2, ![64, 128]⟩
abbrev S1x1x1x192x128 : Shape := ⟨5, ![1, 1, 1, 192, 128]⟩
abbrev S192x128 : Shape := ⟨2, ![192, 128]⟩
abbrev S384x128 : Shape := ⟨2, ![384, 128]⟩
abbrev S128x128 : Shape := ⟨2, ![128, 128]⟩
abbrev S1x1x192x128 : Shape := ⟨4, ![1, 1, 192, 128]⟩
abbrev S1 : Shape := ⟨1, ![1]⟩
abbrev S128 : Shape := ⟨1, ![128]⟩

abbrev nBuf : Space → Nat
  | .hbm => 25
  | .vmem => 24
  | .smem => 1
  | _ => 0

abbrev bufTy : (tb : Table) → Fin (tcTables nBuf tb) → BufTy
  | .hbm, ⟨0, _⟩ => ⟨S16x64x1024, .f32⟩
  | .hbm, ⟨1, _⟩ => ⟨S16x128x4x64, .f32⟩
  | .hbm, ⟨2, _⟩ => ⟨S16x128x4x64, .f32⟩
  | .hbm, ⟨3, _⟩ => ⟨S1024, .f32⟩
  | .hbm, ⟨4, _⟩ => ⟨S1024, .f32⟩
  | .hbm, ⟨5, _⟩ => ⟨S2x1024x1536, .f32⟩
  | .hbm, ⟨6, _⟩ => ⟨S1536, .f32⟩
  | .hbm, ⟨7, _⟩ => ⟨S2x1024x1024, .f32⟩
  | .hbm, ⟨8, _⟩ => ⟨S1024, .f32⟩
  | .hbm, ⟨9, _⟩ => ⟨S16, .f32⟩
  | .hbm, ⟨10, _⟩ => ⟨S4x4x64x192, .f32⟩
  | .hbm, ⟨11, _⟩ => ⟨S4x2x2x64x192, .f32⟩
  | .hbm, ⟨12, _⟩ => ⟨S4x2x192x2x64, .f32⟩
  | .hbm, ⟨13, _⟩ => ⟨S16x128x256, .f32⟩
  | .hbm, ⟨14, _⟩ => ⟨S16x128x256, .f32⟩
  | .hbm, ⟨15, _⟩ => ⟨S1x1024, .f32⟩
  | .hbm, ⟨16, _⟩ => ⟨S1x1024, .f32⟩
  | .hbm, ⟨17, _⟩ => ⟨S2x1024x1536, .bf16⟩
  | .hbm, ⟨18, _⟩ => ⟨S1x1536, .f32⟩
  | .hbm, ⟨19, _⟩ => ⟨S2x1024x1024, .bf16⟩
  | .hbm, ⟨20, _⟩ => ⟨S1x1024, .f32⟩
  | .hbm, ⟨21, _⟩ => ⟨S4x2x192x128, .f32⟩
  | .hbm, ⟨22, _⟩ => ⟨S16x64x1024, .f32⟩
  | .hbm, ⟨23, _⟩ => ⟨S16x64x256, .f32⟩
  | .hbm, ⟨24, _⟩ => ⟨S16x64x256, .f32⟩
  | .local _ .vmem, ⟨0, _⟩ => ⟨S8x64x1024, .f32⟩
  | .local _ .vmem, ⟨1, _⟩ => ⟨S8x64x1024, .f32⟩
  | .local _ .vmem, ⟨2, _⟩ => ⟨S8x128x256, .f32⟩
  | .local _ .vmem, ⟨3, _⟩ => ⟨S8x128x256, .f32⟩
  | .local _ .vmem, ⟨4, _⟩ => ⟨S8x128x256, .f32⟩
  | .local _ .vmem, ⟨5, _⟩ => ⟨S8x128x256, .f32⟩
  | .local _ .vmem, ⟨6, _⟩ => ⟨S1x1024, .f32⟩
  | .local _ .vmem, ⟨7, _⟩ => ⟨S1x1024, .f32⟩
  | .local _ .vmem, ⟨8, _⟩ => ⟨S1x1024x1536, .bf16⟩
  | .local _ .vmem, ⟨9, _⟩ => ⟨S1x1536, .f32⟩
  | .local _ .vmem, ⟨10, _⟩ => ⟨S1x1024x1024, .bf16⟩
  | .local _ .vmem, ⟨11, _⟩ => ⟨S1x1024, .f32⟩
  | .local _ .vmem, ⟨12, _⟩ => ⟨S4x2x192x128, .f32⟩
  | .local _ .vmem, ⟨13, _⟩ => ⟨S8x64x1024, .f32⟩
  | .local _ .vmem, ⟨14, _⟩ => ⟨S8x64x1024, .f32⟩
  | .local _ .vmem, ⟨15, _⟩ => ⟨S8x64x256, .f32⟩
  | .local _ .vmem, ⟨16, _⟩ => ⟨S8x64x256, .f32⟩
  | .local _ .vmem, ⟨17, _⟩ => ⟨S8x64x256, .f32⟩
  | .local _ .vmem, ⟨18, _⟩ => ⟨S8x64x256, .f32⟩
  | .local _ .vmem, ⟨19, _⟩ => ⟨S512x1024, .bf16⟩
  | .local _ .vmem, ⟨20, _⟩ => ⟨S8x4x2x192x128, .bf16⟩
  | .local _ .vmem, ⟨21, _⟩ => ⟨S8x4x2x192x128, .bf16⟩
  | .local _ .vmem, ⟨22, _⟩ => ⟨S512x1024, .bf16⟩
  | .local _ .vmem, ⟨23, _⟩ => ⟨S512x1024, .f32⟩
  | .local _ .smem, ⟨0, _⟩ => ⟨S16, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x2x192x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== AttnRefIdeal.lean ====
abbrev S16x64x1024 : Shape := ⟨3, ![16, 64, 1024]⟩
abbrev S16x128x4x64 : Shape := ⟨4, ![16, 128, 4, 64]⟩
abbrev S1024 : Shape := ⟨1, ![1024]⟩
abbrev S2x1024x1536 : Shape := ⟨3, ![2, 1024, 1536]⟩
abbrev S1536 : Shape := ⟨1, ![1536]⟩
abbrev S2x1024x1024 : Shape := ⟨3, ![2, 1024, 1024]⟩
abbrev S16 : Shape := ⟨1, ![16]⟩
abbrev S4x4x64x192 : Shape := ⟨4, ![4, 4, 64, 192]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S1x1024x1536 : Shape := ⟨3, ![1, 1024, 1536]⟩
abbrev S1024x1536 : Shape := ⟨2, ![1024, 1536]⟩
abbrev S16x64x1536 : Shape := ⟨3, ![16, 64, 1536]⟩
abbrev S1x1x1536 : Shape := ⟨3, ![1, 1, 1536]⟩
abbrev S16x64x256 : Shape := ⟨3, ![16, 64, 256]⟩
abbrev S16x64x4x4x64 : Shape := ⟨5, ![16, 64, 4, 4, 64]⟩
abbrev S16x64x4x64 : Shape := ⟨4, ![16, 64, 4, 64]⟩
abbrev S16x192x4x64 : Shape := ⟨4, ![16, 192, 4, 64]⟩
abbrev S16x4x192x64x4 : Shape := ⟨5, ![16, 4, 192, 64, 4]⟩
abbrev S16x4x4x64x192 : Shape := ⟨5, ![16, 4, 4, 64, 192]⟩
abbrev S1x4x4x64x192 : Shape := ⟨5, ![1, 4, 4, 64, 192]⟩
abbrev S4x4x1x1 : Shape := ⟨4, ![4, 4, 1, 1]⟩
abbrev S16x4x4x64 : Shape := ⟨4, ![16, 4, 4, 64]⟩
abbrev S16x4x4x64x1 : Shape := ⟨5, ![16, 4, 4, 64, 1]⟩
abbrev S1x4x4x1x1 : Shape := ⟨5, ![1, 4, 4, 1, 1]⟩
abbrev S16x4x64x4x64 : Shape := ⟨5, ![16, 4, 64, 4, 64]⟩
abbrev S1x1024x1024 : Shape := ⟨3, ![1, 1024, 1024]⟩
abbrev S1024x1024 : Shape := ⟨2, ![1024, 1024]⟩

abbrev nBuf : Space → Nat
  | .hbm => 95
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S16x128x4x64, .f32⟩
  | .hbm, ⟨2, _⟩ => ⟨S16x128x4x64, .f32⟩
  | .hbm, ⟨3, _⟩ => ⟨S1024, .f32⟩
  | .hbm, ⟨4, _⟩ => ⟨S1024, .f32⟩
  | .hbm, ⟨5, _⟩ => ⟨S2x1024x1536, .f32⟩
  | .hbm, ⟨6, _⟩ => ⟨S1536, .f32⟩
  | .hbm, ⟨7, _⟩ => ⟨S2x1024x1024, .f32⟩
  | .hbm, ⟨8, _⟩ => ⟨S1024, .f32⟩
  | .hbm, ⟨9, _⟩ => ⟨S16, .f32⟩
  | .hbm, ⟨10, _⟩ => ⟨S4x4x64x192, .f32⟩
  | .hbm, ⟨11, _⟩ => ⟨S16x64x1024, .f32⟩
  | .hbm, ⟨12, _⟩ => ⟨S_, .f32⟩
  | .hbm, ⟨13, _⟩ => ⟨S16x64, .f32⟩
  | .hbm, ⟨14, _⟩ => ⟨S16x64x1, .f32⟩
  | .hbm, ⟨15, _⟩ => ⟨S_, .f32⟩
  | .hbm, ⟨16, _⟩ => ⟨S16x64x1, .f32⟩
  | .hbm, ⟨17, _⟩ => ⟨S16x64x1, .f32⟩
  | .hbm, ⟨18, _⟩ => ⟨S_, .f32⟩
  | .hbm, ⟨19, _⟩ => ⟨S16x64x1, .f32⟩
  | .hbm, ⟨20, _⟩ => ⟨S16x64x1, .f32⟩
  | .hbm, ⟨21, _⟩ => ⟨S16x64x1, .f32⟩
  | .hbm, ⟨22, _⟩ => ⟨S16x64x1024, .f32⟩
  | .hbm, ⟨23, _⟩ => ⟨S16x64x1024, .f32⟩
  | .hbm, ⟨24, _⟩ => ⟨S1x1x1024, .f32⟩
  | .hbm, ⟨25, _⟩ => ⟨S16x64x1024, .f32⟩
  | .hbm, ⟨26, _⟩ => ⟨S16x64x1024, .f32⟩
  | .hbm, ⟨27, _⟩ => ⟨S1x1024x1536, .f32⟩
  | .hbm, ⟨28, _⟩ => ⟨S1024x1536, .f32⟩
  | .hbm, ⟨29, _⟩ => ⟨S16x64x1536, .f32⟩
  | .hbm, ⟨30, _⟩ => ⟨S1x1x1536, .f32⟩
  | .hbm, ⟨31, _⟩ => ⟨S16x64x1536, .f32⟩
  | .hbm, ⟨32, _⟩ => ⟨S16x64x1536, .f32⟩
  | .hbm, ⟨33, _⟩ => ⟨S16x64x1024, .f32⟩
  | .hbm, ⟨34, _⟩ => ⟨S16x64x256, .f32⟩
  | .hbm, ⟨35, _⟩ => ⟨S16x64x256, .f32⟩
  | .hbm, ⟨36, _⟩ => ⟨S16x64x4x4x64, .f32⟩
  | .hbm, ⟨37, _⟩ => ⟨S16x64x4x64, .f32⟩
  | .hbm, ⟨38, _⟩ => ⟨S16x192x4x64, .f32⟩
  | .hbm, ⟨39, _⟩ => ⟨S16x64x4x64, .f32⟩
  | .hbm, ⟨40, _⟩ => ⟨S16x192x4x64, .f32⟩
  | .hbm, ⟨41, _⟩ => ⟨S16x4x192x64x4, .f32⟩
  | .hbm, ⟨42, _⟩ => ⟨S16x4x4x64x192, .f32⟩
  | .hbm, ⟨43, _⟩ => ⟨S_, .f32⟩
  | .hbm, ⟨44, _⟩ => ⟨S16x4x4x64x192, .f32⟩
  | .hbm, ⟨45, _⟩ => ⟨S16x4x4x64x192, .f32⟩
  | .hbm, ⟨46, _⟩ => ⟨S1x4x4x64x192, .f32⟩
  | .hbm, ⟨47, _⟩ => ⟨S16x4x4x64x192, .f32⟩
  | .hbm, ⟨48, _⟩ => ⟨S16x4x4x64x192, .f32⟩
  | .hbm, ⟨49, _⟩ => ⟨S4x4x1x1, .f32⟩
  | .hbm, ⟨50, _⟩ => ⟨S_, .f32⟩
  | .hbm, ⟨51, _⟩ => ⟨S16x4x4x64, .f32⟩
  | .hbm, ⟨52, _⟩ => ⟨S16x4x4x64x1, .f32⟩
  | .hbm, ⟨53, _⟩ => ⟨S1x4x4x1x1, .f32⟩
  | .hbm, ⟨54, _⟩ => ⟨S16x4x4x64x1, .f32⟩
  | .hbm, ⟨55, _⟩ => ⟨S16x4x4x64x1, .f32⟩
  | .hbm, ⟨56, _⟩ => ⟨S16x4x4x64x192, .f32⟩
  | .hbm, ⟨57, _⟩ => ⟨S16x4x4x64x192, .f32⟩
  | .hbm, ⟨58, _⟩ => ⟨S16x4x4x64x192, .f32⟩
  | .hbm, ⟨59, _⟩ => ⟨S_, .f32⟩
  | .hbm, ⟨60, _⟩ => ⟨S16x4x4x64, .f32⟩
  | .hbm, ⟨61, _⟩ => ⟨S16x4x4x64x1, .f32⟩
  | .hbm, ⟨62, _⟩ => ⟨S1x4x4x1x1, .f32⟩
  | .hbm, ⟨63, _⟩ => ⟨S16x4x4x64x1, .f32⟩
  | .hbm, ⟨64, _⟩ => ⟨S16x4x4x64x1, .f32⟩
  | .hbm, ⟨65, _⟩ => ⟨S16x4x4x64x1, .f32⟩
  | .hbm, ⟨66, _⟩ => ⟨S16x4x4x64x1, .f32⟩
  | .hbm, ⟨67, _⟩ => ⟨S16x4x4x64x192, .f32⟩
  | .hbm, ⟨68, _⟩ => ⟨S16x4x4x64x192, .f32⟩
  | .hbm, ⟨69, _⟩ => ⟨S16x4x64x4x64, .f32⟩
  | .hbm, ⟨70, _⟩ => ⟨S16x64x4x4x64, .f32⟩
  | .hbm, ⟨71, _⟩ => ⟨S16x64x1024, .f32⟩
  | .hbm, ⟨72, _⟩ => ⟨S1x1024x1024, .f32⟩
  | .hbm, ⟨73, _⟩ => ⟨S1024x1024, .f32⟩
  | .hbm, ⟨74, _⟩ => ⟨S16x64x1024, .f32⟩
  | .hbm, ⟨75, _⟩ => ⟨S1x1x1024, .f32⟩
  | .hbm, ⟨76, _⟩ => ⟨S16x64x1024, .f32⟩
  | .hbm, ⟨77, _⟩ => ⟨S16x64x1024, .f32⟩
  | .hbm, ⟨78, _⟩ => ⟨S16x64x1024, .f32⟩
  | .hbm, ⟨79, _⟩ => ⟨S_, .f32⟩
  | .hbm, ⟨80, _⟩ => ⟨S16x64, .f32⟩
  | .hbm, ⟨81, _⟩ => ⟨S16x64x1, .f32⟩
  | .hbm, ⟨82, _⟩ => ⟨S_, .f32⟩
  | .hbm, ⟨83, _⟩ => ⟨S16x64x1, .f32⟩
  | .hbm, ⟨84, _⟩ => ⟨S16x64x1, .f32⟩
  | .hbm, ⟨85, _⟩ => ⟨S_, .f32⟩
  | .hbm, ⟨86, _⟩ => ⟨S16x64x1, .f32⟩
  | .hbm, ⟨87, _⟩ => ⟨S16x64x1, .f32⟩
  | .hbm, ⟨88, _⟩ => ⟨S16x64x1, .f32⟩
  | .hbm, ⟨89, _⟩ => ⟨S16x64x1024, .f32⟩
  | .hbm, ⟨90, _⟩ => ⟨S16x64x1024, .f32⟩
  | .hbm, ⟨91, _⟩ => ⟨S1x1x1024, .f32⟩
  | .hbm, ⟨92, _⟩ => ⟨S16x64x1024, .f32⟩
  | .hbm, ⟨93, _⟩ => ⟨S16x64x1024, .f32⟩
  | .hbm, ⟨94, _⟩ => ⟨S16x64x1024, .f32⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_5 : Ref sig .tc := ⟨.hbm, 79, rfl⟩
abbrev main_v62 : Ref sig .tc := ⟨.hbm, 80, rfl⟩
abbrev main_v63 : Ref sig .tc := ⟨.hbm, 81, rfl⟩
abbrev main_cst_6 : Ref sig .tc := ⟨.hbm, 82, rfl⟩
abbrev main_v64 : Ref sig .tc := ⟨.hbm, 83, rfl⟩
abbrev main_v65 : Ref sig .tc := ⟨.hbm, 84, rfl⟩
abbrev main_cst_7 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Cmlp.lean ====
abbrev S16x64x1024 : Shape := ⟨3, ![16, 64, 1024]⟩
abbrev S1024 : Shape := ⟨1, ![1024]⟩
abbrev S1024x4096 : Shape := ⟨2, ![1024, 4096]⟩
abbrev S4096 : Shape := ⟨1, ![4096]⟩
abbrev S2048 : Shape := ⟨1, ![2048]⟩
abbrev S4x128x128 : Shape := ⟨3, ![4, 128, 128]⟩
abbrev S4x128 : Shape := ⟨2, ![4, 128]⟩
abbrev S2048x1024 : Shape := ⟨2, ![2048, 1024]⟩
abbrev S1x1024 : Shape := ⟨2, ![1, 1024]⟩
abbrev S1x4096 : Shape := ⟨2, ![1, 4096]⟩
abbrev S1x2048 : Shape := ⟨2, ![1, 2048]⟩
abbrev S4x64x64 : Shape := ⟨3, ![4, 64, 64]⟩
abbrev S4x64 : Shape := ⟨2, ![4, 64]⟩
abbrev S4x64x1 : Shape := ⟨3, ![4, 64, 1]⟩
abbrev S16x64x2048 : Shape := ⟨3, ![16, 64, 2048]⟩
abbrev S8x64x1024 : Shape := ⟨3, ![8, 64, 1024]⟩
abbrev S8x64x2048 : Shape := ⟨3, ![8, 64, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024x2048 : Shape := ⟨2, ![1024, 2048]⟩
abbrev S64x64 : Shape := ⟨2, ![64, 64]⟩
abbrev S1024x512 : Shape := ⟨2, ![1024, 512]⟩
abbrev S512x512 : Shape := ⟨2, ![512, 512]⟩
abbrev S1x512 : Shape := ⟨2, ![1, 512]⟩
abbrev S1x64x64 : Shape := ⟨3, ![1, 64, 64]⟩
abbrev S64x512 : Shape := ⟨2, ![64, 512]⟩
abbrev S1x64x1 : Shape := ⟨3, ![1, 64, 1]⟩
abbrev S64x1 : Shape := ⟨2, ![64, 1]⟩

abbrev nBuf : Space → Nat
  | .hbm => 24
  | .vmem => 18
  | .smem => 0
  | _ => 0

abbrev bufTy : (tb : Table) → Fin (tcTables nBuf tb) → BufTy
  | .hbm, ⟨0, _⟩ => ⟨S16x64x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096, .f32⟩
  | .hbm, ⟨5, _⟩ => ⟨S2048, .f32⟩
  | .hbm, ⟨6, _⟩ => ⟨S2048, .f32⟩
  | .hbm, ⟨7, _⟩ => ⟨S4x128x128, .f32⟩
  | .hbm, ⟨8, _⟩ => ⟨S4x128, .f32⟩
  | .hbm, ⟨9, _⟩ => ⟨S2048x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1024x4096, .bf16⟩
  | .hbm, ⟨14, _⟩ => ⟨S1x4096, .f32⟩
  | .hbm, ⟨15, _⟩ => ⟨S1x2048, .f32⟩
  | .hbm, ⟨16, _⟩ => ⟨S1x2048, .f32⟩
  | .hbm, ⟨17, _⟩ => ⟨S2048x1024, .bf16⟩
  | .hbm, ⟨18, _⟩ => ⟨S1x1024, .f32⟩
  | .hbm, ⟨19, _⟩ => ⟨S4x64x64, .f32⟩
  | .hbm, ⟨20, _⟩ => ⟨S4x64, .f32⟩
  | .hbm, ⟨21, _⟩ => ⟨S4x64x1, .f32⟩
  | .hbm, ⟨22, _⟩ => ⟨S16x64x1024, .f32⟩
  | .hbm, ⟨23, _⟩ => ⟨S16x64x2048, .f32⟩
  | .local _ .vmem, ⟨0, _⟩ => ⟨S8x64x1024, .f32⟩
  | .local _ .vmem, ⟨1, _⟩ => ⟨S8x64x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .bf16⟩
  | .local _ .vmem, ⟨5, _⟩ => ⟨S1x4096, .f32⟩
  | .local _ .vmem, ⟨6, _⟩ => ⟨S1x2048, .f32⟩
  | .local _ .vmem, ⟨7, _⟩ => ⟨S1x2048, .f32⟩
  | .local _ .vmem, ⟨8, _⟩ => ⟨S4x64x64, .f32⟩
  | .local _ .vmem, ⟨9, _⟩ => ⟨S4x64x1, .f32⟩
  | .local _ .vmem, ⟨10, _⟩ => ⟨S2048x1024, .bf16⟩
  | .local _ .vmem, ⟨11, _⟩ => ⟨S1x1024, .f32⟩
  | .local _ .vmem, ⟨12, _⟩ => ⟨S8x64x1024, .f32⟩
  | .local _ .vmem, ⟨13, _⟩ => ⟨S8x64x1024, .f32⟩
  | .local _ .vmem, ⟨14, _⟩ => ⟨S8x64x2048, .f32⟩
  | .local _ .vmem, ⟨15, _⟩ => ⟨S8x64x2048, .f32⟩
  | .local _ .vmem, ⟨16, _⟩ => ⟨S512x2048, .bf16⟩
  | .local _ .vmem, ⟨17, _⟩ => ⟨S512x2048, .bf16⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== CmlpIdeal.lean ====
variable {F : FTy → Type} [FloatOps F] [Named F]
def κ : String → Option EReal := fun
  | "gelu_c1" => some ((80338380498831 / 2251799813685248 : ℝ) : EReal)
  | _ => none
-- ==== CmlpRefIdeal.lean ====
abbrev S16x64x1024 : Shape := ⟨3, ![16, 64, 1024]⟩
abbrev S1024 : Shape := ⟨1, ![1024]⟩
abbrev S1024x4096 : Shape := ⟨2, ![1024, 4096]⟩
abbrev S4096 : Shape := ⟨1, ![4096]⟩
abbrev S2048 : Shape := ⟨1, ![2048]⟩
abbrev S4x128x128 : Shape := ⟨3, ![4, 128, 128]⟩
abbrev S4x128 : Shape := ⟨2, ![4, 128]⟩
abbrev S2048x1024 : Shape := ⟨2, ![2048, 1024]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S16x64x4096 : Shape := ⟨3, ![16, 64, 4096]⟩
abbrev S1x1x4096 : Shape := ⟨3, ![1, 1, 4096]⟩
abbrev S16x64x2048 : Shape := ⟨3, ![16, 64, 2048]⟩
abbrev S1x1x2048 : Shape := ⟨3, ![1, 1, 2048]⟩
abbrev S16x64x4x512 : Shape := ⟨4, ![16, 64, 4, 512]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S4x64x64 : Shape := ⟨3, ![4, 64, 64]⟩
abbrev S4x16x512x64 : Shape := ⟨4, ![4, 16, 512, 64]⟩
abbrev S4x64 : Shape := ⟨2, ![4, 64]⟩
abbrev S64x4 : Shape := ⟨2, ![64, 4]⟩
abbrev S1x64x4x1 : Shape := ⟨4, ![1, 64, 4, 1]⟩

abbrev nBuf : Space → Nat
  | .hbm => 158
  | .vmem => 0
  | .smem => 0
  | _ => 0

abbrev hbmTy0_0 (i : Nat) : BufTy := match i % 128 with
  | 0 => ⟨S16x64x1024, .f32⟩
  | 1 => ⟨S1024, .f32⟩
  | 2 => ⟨S1024, .f32⟩
  | 3 => ⟨S1024x4096, .f32⟩
  | 4 => ⟨S4096, .f32⟩
  | 5 => ⟨S2048, .f32⟩
  | 6 => ⟨S2048, .f32⟩
  | 7 => ⟨S4x128x128, .f32⟩
  | 8 => ⟨S4x128, .f32⟩
  | 9 => ⟨S2048x1024, .f32⟩
  | 10 => ⟨S1024, .f32⟩
  | 11 => ⟨S16x64x1024, .f32⟩
  | 12 => ⟨S_, .f32⟩
  | 13 => ⟨S16x64, .f32⟩
  | 14 => ⟨S16x64x1, .f32⟩
  | 15 => ⟨S_, .f32⟩
  | 16 => ⟨S16x64x1, .f32⟩
  | 17 => ⟨S16x64x1, .f32⟩
  | 18 => ⟨S_, .f32⟩
  | 19 => ⟨S16x64x1, .f32⟩
  | 20 => ⟨S16x64x1, .f32⟩
  | 21 => ⟨S16x64x1, .f32⟩
  | 22 => ⟨S16x64x1024, .f32⟩
  | 23 => ⟨S16x64x1024, .f32⟩
  | 24 => ⟨S1x1x1024, .f32⟩
  | 25 => ⟨S16x64x1024, .f32⟩
  | 26 => ⟨S16x64x1024, .f32⟩
  | 27 => ⟨S16x64x4096, .f32⟩
  | 28 => ⟨S1x1x4096, .f32⟩
  | 29 => ⟨S16x64x4096, .f32⟩
  | 30 => ⟨S16x64x4096, .f32⟩
  | 31 => ⟨S16x64x4096, .f32⟩
  | 32 => ⟨S16x64x4096, .f32⟩
  | 33 => ⟨S_, .f32⟩
  | 34 => ⟨S16x64x4096, .f32⟩
  | 35 => ⟨S16x64x4096, .f32⟩
  | 36 => ⟨S16x64x4096, .f32⟩
  | 37 => ⟨S_, .f32⟩
  | 38 => ⟨S16x64x4096, .f32⟩
  | 39 => ⟨S16x64x4096, .f32⟩
  | 40 => ⟨S16x64x4096, .f32⟩
  | 41 => ⟨S_, .f32⟩
  | 42 => ⟨S16x64x4096, .f32⟩
  | 43 => ⟨S16x64x4096, .f32⟩
  | 44 => ⟨S_, .f32⟩
  | 45 => ⟨S16x64x4096, .f32⟩
  | 46 => ⟨S16x64x4096, .f32⟩
  | 47 => ⟨S16x64x4096, .f32⟩
  | 48 => ⟨S16x64x2048, .f32⟩
  | 49 => ⟨S16x64x2048, .f32⟩
  | 50 => ⟨S_, .f32⟩
  | 51 => ⟨S16x64, .f32⟩
  | 52 => ⟨S16x64x1, .f32⟩
  | 53 => ⟨S_, .f32⟩
  | 54 => ⟨S16x64x1, .f32⟩
  | 55 => ⟨S16x64x1, .f32⟩
  | 56 => ⟨S16x64x2048, .f32⟩
  | 57 => ⟨S16x64x2048, .f32⟩
  | 58 => ⟨S16x64x2048, .f32⟩
  | 59 => ⟨S_, .f32⟩
  | 60 => ⟨S16x64, .f32⟩
  | 61 => ⟨S16x64x1, .f32⟩
  | 62 => ⟨S_, .f32⟩
  | 63 => ⟨S16x64x1, .f32⟩
  | 64 => ⟨S16x64x1, .f32⟩
  | 65 => ⟨S16x64x2048, .f32⟩
  | 66 => ⟨S16x64x2048, .f32⟩
  | 67 => ⟨S_, .f32⟩
  | 68 => ⟨S16x64x1, .f32⟩
  | 69 => ⟨S16x64x1, .f32⟩
  | 70 => ⟨S16x64x1, .f32⟩
  | 71 => ⟨S16x64x2048, .f32⟩
  | 72 => ⟨S16x64x2048, .f32⟩
  | 73 => ⟨S1x1x2048, .f32⟩
  | 74 => ⟨S16x64x2048, .f32⟩
  | 75 => ⟨S16x64x2048, .f32⟩
  | 76 => ⟨S1x1x2048, .f32⟩
  | 77 => ⟨S16x64x2048, .f32⟩
  | 78 => ⟨S16x64x2048, .f32⟩
  | 79 => ⟨S16x64x4x512, .f32⟩
  | 80 => ⟨S64, .i32⟩
  | 81 => ⟨S1x64, .i32⟩
  | 82 => ⟨S_, .i32⟩
  | 83 => ⟨S_, .i32⟩
  | 84 => ⟨S1x64, .i32⟩
  | 85 => ⟨S1x64, .i32⟩
  | 86 => ⟨S1x64, .i32⟩
  | 87 => ⟨S_, .i32⟩
  | 88 => ⟨S1x64, .i32⟩
  | 89 => ⟨S1x64, .i1⟩
  | 90 => ⟨S1x64, .i32⟩
  | 91 => ⟨S1x64, .i32⟩
  | 92 => ⟨S_, .i32⟩
  | 93 => ⟨S1x64, .i32⟩
  | 94 => ⟨S1x64, .i1⟩
  | 95 => ⟨S1x64, .i1⟩
  | 96 => ⟨S_, .i32⟩
  | 97 => ⟨S1x64, .i32⟩
  | 98 => ⟨S1x64, .i32⟩
  | 99 => ⟨S1x64, .i32⟩
  | 100 => ⟨S64x1, .i32⟩
  | 101 => ⟨S_, .i32⟩
  | 102 => ⟨S_, .i32⟩
  | 103 => ⟨S64x1, .i32⟩
  | 104 => ⟨S64x1, .i32⟩
  | 105 => ⟨S64x1, .i32⟩
  | 106 => ⟨S_, .i32⟩
  | 107 => ⟨S64x1, .i32⟩
  | 108 => ⟨S64x1, .i1⟩
  | 109 => ⟨S64x1, .i32⟩
  | 110 => ⟨S64x1, .i32⟩
  | 111 => ⟨S_, .i32⟩
  | 112 => ⟨S64x1, .i32⟩
  | 113 => ⟨S64x1, .i1⟩
  | 114 => ⟨S64x1, .i1⟩
  | 115 => ⟨S_, .i32⟩
  | 116 => ⟨S64x1, .i32⟩
  | 117 => ⟨S64x1, .i32⟩
  | 118 => ⟨S64x1, .i32⟩
  | 119 => ⟨S64x64, .i32⟩
  | 120 => ⟨S64x64, .i32⟩
  | 121 => ⟨S64x64, .i1⟩
  | 122 => ⟨S4x64x64, .f32⟩
  | 123 => ⟨S_, .f32⟩
  | 124 => ⟨S_, .f32⟩
  | 125 => ⟨S4x64x64, .i1⟩
  | 126 => ⟨S4x64x64, .f32⟩
  | 127 => ⟨S4x64x64, .f32⟩
  | _ => ⟨S16x64x1024, .f32⟩

abbrev hbmTy0_1 (i : Nat) : BufTy := match i % 128 with
  | 0 => ⟨S4x16x512x64, .f32⟩
  | 1 => ⟨S16x64x4x512, .f32⟩
  | 2 => ⟨S4x64, .f32⟩
  | 3 => ⟨S64x4, .f32⟩
  | 4 => ⟨S1x64x4x1, .f32⟩
  | 5 => ⟨S16x64x4x512, .f32⟩
  | 6 => ⟨S16x64x4x512, .f32⟩
  | 7 => ⟨S16x64x2048, .f32⟩
  | 8 => ⟨S16x64x2048, .f32⟩
  | 9 => ⟨S16x64x1024, .f32⟩
  | 10 => ⟨S1x1x1024, .f32⟩
  | 11 => ⟨S16x64x1024, .f32⟩
  | 12 => ⟨S16x64x1024, .f32⟩
  | 13 => ⟨S16x64x1024, .f32⟩
  | 14 => ⟨S_, .f32⟩
  | 15 => ⟨S16x64, .f32⟩
  | 16 => ⟨S16x64x1, .f32⟩
  | 17 => ⟨S_, .f32⟩
  | 18 => ⟨S16x64x1, .f32⟩
  | 19 => ⟨S16x64x1, .f32⟩
  | 20 => ⟨S_, .f32⟩
  | 21 => ⟨S16x64x1, .f32⟩
  | 22 => ⟨S16x64x1, .f32⟩
  | 23 => ⟨S16x64x1, .f32⟩
  | 24 => ⟨S16x64x1024, .f32⟩
  | 25 => ⟨S16x64x1024, .f32⟩
  | 26 => ⟨S1x1x1024, .f32⟩
  | 27 => ⟨S16x64x1024, .f32⟩
  | 28 => ⟨S16x64x1024, .f32⟩
  | 29 => ⟨S16x64x1024, .f32⟩
  | _ => ⟨S16x64x1024, .f32⟩

abbrev hbmTy (i : Nat) : BufTy := match i / 128 with
  | 0 => hbmTy0_0 i
  | 1 => hbmTy0_1 i
  | _ => ⟨S16x64x1024, .f32⟩

abbrev bufTy : (tb : Table) → Fin (tcTables nBuf tb) → BufTy
  | .hbm, ⟨i, _⟩ => hbmTy i
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_c : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_c_0 : Ref sig .tc := ⟨.hbm, 96, rfl⟩
abbrev main_call0_v12 : Ref sig .tc := ⟨.hbm, 97, rfl⟩
abbrev main_call0_v13 : Ref sig .tc := ⟨.hbm, 98, rfl⟩
abbrev main_v59 : Ref sig .tc := ⟨.hbm, 99, rfl⟩
abbrev main_v60 : Ref sig .tc := ⟨.hbm, 100, rfl⟩
abbrev main_c_11 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_v8 : Ref sig .tc := ⟨.hbm, 110, rfl⟩
abbrev main_call1_c : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_c_0 : Ref sig .tc := ⟨.hbm, 115, rfl⟩
abbrev main_call1_v12 : Ref sig .tc := ⟨.hbm, 116, rfl⟩
abbrev main_call1_v13 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_cst_12 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_cst_13 : Ref sig .tc := ⟨.hbm, 142, rfl⟩
abbrev main_v81 : Ref sig .tc := ⟨.hbm, 143, rfl⟩
abbrev main_v82 : Ref sig .tc := ⟨.hbm, 144, rfl⟩
abbrev main_cst_14 : Ref sig .tc := ⟨.hbm, 145, rfl⟩
abbrev main_v83 : Ref sig .tc := ⟨.hbm, 146, rfl⟩
abbrev main_v84 : Ref sig .tc := ⟨.hbm, 147, rfl⟩
abbrev main_cst_15 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩

abbrev nD : Nat := 1
abbrev τ : Topo := Topo.v7x

variable {F : FTy → Type} [FloatOps F]
-- ==== Prompt.lean ====
abbrev S4x4096x1024 : Shape := ⟨3, ![4, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x2x5632 : Shape := ⟨3, ![4, 2, 5632]⟩
abbrev S1x1024 : Shape := ⟨2, ![1, 1024]⟩
abbrev S1x5632 : Shape := ⟨2, ![1, 5632]⟩
abbrev S1x512x1024 : Shape := ⟨3, ![1, 512, 1024]⟩
abbrev S1x2x5632 : Shape := ⟨3, ![1, 2, 5632]⟩
abbrev S512x2816 : Shape := ⟨2, ![512, 2816]⟩
abbrev S1x520x512 : Shape := ⟨3, ![1, 520, 512]⟩
abbrev S64x8x256 : Shape := ⟨3, ![64, 8, 256]⟩
abbrev S1x6x512 : Shape := ⟨3, ![1, 6, 512]⟩
abbrev S1x2x256 : Shape := ⟨3, ![1, 2, 256]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩
abbrev S3x256 : Shape := ⟨2, ![3, 256]⟩
abbrev S1x8x256 : Shape := ⟨3, ![1, 8, 256]⟩
abbrev S1x256 : Shape := ⟨2, ![1, 256]⟩
abbrev S1x1x256 : Shape := ⟨3, ![1, 1, 256]⟩
abbrev S1x64x8x256 : Shape := ⟨4, ![1, 64, 8, 256]⟩
abbrev S1x1x8x256 : Shape := ⟨4, ![1, 1, 8, 256]⟩
abbrev S1x63x8x256 : Shape := ⟨4, ![1, 63, 8, 256]⟩
abbrev S128x1024 : Shape := ⟨2, ![128, 1024]⟩
abbrev S128x2816 : Shape := ⟨2, ![128, 2816]⟩
abbrev S128 : Shape := ⟨1, ![128]⟩
abbrev S128x1 : Shape := ⟨2, ![128, 1]⟩
abbrev S1x128x1024 : Shape := ⟨3, ![1, 128, 1024]⟩

abbrev nBuf : Space → Nat
  | .hbm => 16
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S_, .f32⟩
  | .hbm, ⟨8, _⟩ => ⟨S4x2x5632, .f32⟩
  | .hbm, ⟨9, _⟩ => ⟨S1x1024, .f32⟩
  | .hbm, ⟨10, _⟩ => ⟨S1x1024, .f32⟩
  | .hbm, ⟨11, _⟩ => ⟨S1024x5632, .bf16⟩
  | .hbm, ⟨12, _⟩ => ⟨S1x5632, .f32⟩
  | .hbm, ⟨13, _⟩ => ⟨S2816x1024, .bf16⟩
  | .hbm, ⟨14, _⟩ => ⟨S4x4096x1024, .f32⟩
  | .hbm, ⟨15, _⟩ => ⟨S4x2x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x2x5632, .f32⟩
  | .local _ .vmem, ⟨3, _⟩ => ⟨S1x2x5632, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x2x5632, .f32⟩
  | .local _ .vmem, ⟨13, _⟩ => ⟨S1x2x5632, .f32⟩
  | .local _ .vmem, ⟨14, _⟩ => ⟨S512x2816, .bf16⟩
  | .local _ .vmem, ⟨15, _⟩ => ⟨S1x520x512, .f32⟩
  | .local _ .vmem, ⟨16, _⟩ => ⟨S1x520x512, .f32⟩
  | .local _ .vmem, ⟨17, _⟩ => ⟨S1x520x512, .f32⟩
  | .local _ .vmem, ⟨18, _⟩ => ⟨S1x520x512, .f32⟩
  | .local _ .vmem, ⟨19, _⟩ => ⟨S1x520x512, .f32⟩
  | .local _ .vmem, ⟨20, _⟩ => ⟨S1x520x512, .f32⟩
  | .local _ .vmem, ⟨21, _⟩ => ⟨S1x520x512, .f32⟩
  | .local _ .vmem, ⟨22, _⟩ => ⟨S1x520x512, .f32⟩
  | .local _ .vmem, ⟨23, _⟩ => ⟨S1x520x512, .f32⟩
  | .local _ .vmem, ⟨24, _⟩ => ⟨S1x520x512, .f32⟩
  | .local _ .vmem, ⟨25, _⟩ => ⟨S1x520x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v1697 : BitVec 1 := Scalar.cmpi .eq arg1 c7_i32
  let v1698 : BitVec 32 := Scalar.extui v1697
  let c0_i32_703 : BitVec 32 := 0#32
  let v1699 : BitVec 1 := Scalar.cmpi .ne v1698 c0_i32_703
  v1699

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== PromptIdeal.lean ====
variable {F : FTy → Type} [FloatOps F] [Named F]
def κ : String → Option EReal := fun
  | "gelu_c1" => some ((80338380498831 / 2251799813685248 : ℝ) : EReal)
  | _ => none
-- ==== PromptRefIdeal.lean ====
abbrev S4x4096x1024 : Shape := ⟨3, ![4, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x2x5632 : Shape := ⟨3, ![4, 2, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x5632, .f32⟩
  | .hbm, ⟨24, _⟩ => ⟨S_, .f32⟩
  | .hbm, ⟨25, _⟩ => ⟨S4x2x5632, .f32⟩
  | .hbm, ⟨26, _⟩ => ⟨S4x4098x5632, .f32⟩
  | .hbm, ⟨27, _⟩ => ⟨S4x4096x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S4x4096x5632, .f32⟩
  | .hbm, ⟨32, _⟩ => ⟨S4x4096x5632, .f32⟩
  | .hbm, ⟨33, _⟩ => ⟨S4x4096x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S4x4096x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S4x4096x5632, .f32⟩
  | .hbm, ⟨45, _⟩ => ⟨S4x4096x5632, .f32⟩
  | .hbm, ⟨46, _⟩ => ⟨S4x4096x5632, .f32⟩
  | .hbm, ⟨47, _⟩ => ⟨S1x1x5632, .f32⟩
  | .hbm, ⟨48, _⟩ => ⟨S4x4096x5632, .f32⟩
  | .hbm, ⟨49, _⟩ => ⟨S4x4096x5632, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S_, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S_, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S_, .f32⟩
  | .hbm, ⟨63, _⟩ => ⟨S4x4096x2816, .f32⟩
  | .hbm, ⟨64, _⟩ => ⟨S4x4096x2816, .f32⟩
  | .hbm, ⟨65, _⟩ => ⟨S_, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S4x4096x2816, .f32⟩
  | .hbm, ⟨70, _⟩ => ⟨S4x4096x1024, .f32⟩
  | .hbm, ⟨71, _⟩ => ⟨S4x4096x1024, .f32⟩
  | .hbm, ⟨72, _⟩ => ⟨S_, .f32⟩
  | .hbm, ⟨73, _⟩ => ⟨S4x4096, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x1, .f32⟩
  | .hbm, ⟨82, _⟩ => ⟨S4x4096x1024, .f32⟩
  | .hbm, ⟨83, _⟩ => ⟨S4x4096x1024, .f32⟩
  | .hbm, ⟨84, _⟩ => ⟨S1x1x1024, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S4x2x5632, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Proof.UpBuffer.lean ====
/-
  One chunk's buffer of the ConvFFN kernel: rows 0 to 5 are zero, rows 6 and 7 hold the carried state and rows 8 to 71
  the up projection, each in two halves of 256 lanes (the gate's and the value's). The lemmas read the buffer back
  through the boxes the kernel loads.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvFfn

open Cert.KernelIdeal Cert.KernelIdeal.Gen Idealize.ShloMosaic Idealize.ShloMosaic.TcCoe

variable {Val : EltTy → Type} [∀ e, Nonempty (Val e)]

/-- The eight history rows of one half: six rows of the fill, then the two state rows. -/
def histRows (z : S8x6x512.Idx → Val .f32) (s : S8x2x256.Idx → Val .f32) (lane : ℕ) (hl : lane + 256 ≤ 512) :
    S8x8x256.Idx → Val .f32 := fun x =>
  if h : (x 1).val < 6 then z (ix3 (n0 := 8) (n1 := 6) (n2 := 512) (x 0) ⟨(x 1).val, h⟩ ⟨lane + (x 2).val, by have h2 : (x 2).val < 256 := (x 2).isLt; omega⟩)
  else s (ix3 (n0 := 8) (n1 := 2) (n2 := 256) (x 0) ⟨(x 1).val - 6, by have h1 : (x 1).val < 8 := (x 1).isLt; omega⟩ (x 2))

/-- The last two rows of a block of 64 rows. -/
def lastRows (p : S8x64x256.Idx → Val .f32) : S8x2x256.Idx → Val .f32 := fun x =>
  p (ix3 (n0 := 8) (n1 := 64) (n2 := 256) (x 0) ⟨62 + (x 1).val, by have h1 : (x 1).val < 2 := (x 1).isLt; omega⟩ (x 2))

variable (v : View sig .tc .vmem S8x72x512 .f32)
  {h1 : ∀ a, (![0, 8, 256] : Fin S8x72x512.rank → ℕ) a + (![8, 64, 256] : Fin S8x72x512.rank → ℕ) a ≤ S8x72x512.size a}
  {h2 : ∀ a, (![0, 8, 0] : Fin S8x72x512.rank → ℕ) a + (![8, 64, 256] : Fin S8x72x512.rank → ℕ) a ≤ S8x72x512.size a}
  {h3 : ∀ a, (![0, 6, 256] : Fin S8x72x512.rank → ℕ) a + (![8, 2, 256] : Fin S8x72x512.rank → ℕ) a ≤ S8x72x512.size a}
  {h4 : ∀ a, (![0, 6, 0] : Fin S8x72x512.rank → ℕ) a + (![8, 2, 256] : Fin S8x72x512.rank → ℕ) a ≤ S8x72x512.size a}
  {h5 : ∀ a, (![0, 0, 0] : Fin S8x72x512.rank → ℕ) a + (![8, 6, 512] : Fin S8x72x512.rank → ℕ) a ≤ S8x72x512.size a}
  (p1 : (Rect.unit (s := S8x72x512) ![0, 8, 256] ![8, 64, 256] h1).shape.Idx → Val .f32)
  (p2 : (Rect.unit (s := S8x72x512) ![0, 8, 0] ![8, 64, 256] h2).shape.Idx → Val .f32)
  (p3 : (Rect.unit (s := S8x72x512) ![0, 6, 256] ![8, 2, 256] h3).shape.Idx → Val .f32)
  (p4 : (Rect.unit (s := S8x72x512) ![0, 6, 0] ![8, 2, 256] h4).shape.Idx → Val .f32)
  (p5 : (Rect.unit (s := S8x72x512) ![0, 0, 0] ![8, 6, 512] h5).shape.Idx → Val .f32)

/-- An index lies outside a unit-stride rectangle when it does on one axis. -/
theorem not_mem_unit {s : Shape} {off size : Fin s.rank → ℕ} {inb : ∀ a, off a + size a ≤ s.size a} {y : s.Idx} (a : Fin s.rank)
    (h : (y a).val < off a ∨ off a + size a ≤ (y a).val) : y ∉ (Rect.unit off size inb).set := by
  intro hy
  have := (Rect.mem_set_unit.mp hy) a
  omega

/-- Rows 8 to 71 of the second half: what was stored there last. -/
theorem load_cur_hi {g : ∀ a, (![0, 8, 256] : Fin S8x72x512.rank → ℕ) a + (![8, 64, 256] : Fin S8x72x512.rank → ℕ) a ≤ S8x72x512.size a} :
    v.readCov [⟨Rect.unit ![0, 8, 256] ![8, 64, 256] h1, p1⟩, ⟨Rect.unit ![0, 8, 0] ![8, 64, 256] h2, p2⟩, ⟨Rect.unit ![0, 6, 256] ![8, 2, 256] h3, p3⟩,
      ⟨Rect.unit ![0, 6, 0] ![8, 2, 256] h4, p4⟩, ⟨Rect.unit ![0, 0, 0] ![8, 6, 512] h5, p5⟩] (Rect.unit (s := S8x72x512) ![0, 8, 256] ![8, 64, 256] g).toLoadRect = p1 :=
  View.readCov_cons_toLoadRect v (Rect.unit (s := S8x72x512) ![0, 8, 256] ![8, 64, 256] h1) p1 _

/-- Rows 8 to 71 of the first half. -/
theorem load_cur_lo {g : ∀ a, (![0, 8, 0] : Fin S8x72x512.rank → ℕ) a + (![8, 64, 256] : Fin S8x72x512.rank → ℕ) a ≤ S8x72x512.size a} :
    v.readCov [⟨Rect.unit ![0, 8, 256] ![8, 64, 256] h1, p1⟩, ⟨Rect.unit ![0, 8, 0] ![8, 64, 256] h2, p2⟩, ⟨Rect.unit ![0, 6, 256] ![8, 2, 256] h3, p3⟩,
      ⟨Rect.unit ![0, 6, 0] ![8, 2, 256] h4, p4⟩, ⟨Rect.unit ![0, 0, 0] ![8, 6, 512] h5, p5⟩] (Rect.unit (s := S8x72x512) ![0, 8, 0] ![8, 64, 256] g).toLoadRect = p2 := by
  rw [View.readCov_skip v _ p1 _ _ rfl]
  exact View.readCov_cons_toLoadRect v (Rect.unit (s := S8x72x512) ![0, 8, 0] ![8, 64, 256] h2) p2 _

/-- The last two of those rows, second half. -/
theorem load_last_hi {g : ∀ a, (![0, 70, 256] : Fin S8x72x512.rank → ℕ) a + (![8, 2, 256] : Fin S8x72x512.rank → ℕ) a ≤ S8x72x512.size a} :
    v.readCov [⟨Rect.unit ![0, 8, 256] ![8, 64, 256] h1, p1⟩, ⟨Rect.unit ![0, 8, 0] ![8, 64, 256] h2, p2⟩, ⟨Rect.unit ![0, 6, 256] ![8, 2, 256] h3, p3⟩,
      ⟨Rect.unit ![0, 6, 0] ![8, 2, 256] h4, p4⟩, ⟨Rect.unit ![0, 0, 0] ![8, 6, 512] h5, p5⟩] (Rect.unit (s := S8x72x512) ![0, 70, 256] ![8, 2, 256] g).toLoadRect = lastRows p1 := by
  rw [View.readCov_eq_canon']
  funext x
  have hx1 : (x 1).val < 2 := (x 1).isLt
  refine (congrArg _ (?_ : _ = (Rect.unit (s := S8x72x512) ![0, 8, 256] ![8, 64, 256] h1).emb (ix3 (n0 := 8) (n1 := 64) (n2 := 256) (x 0) ⟨62 + (x 1).val, by omega⟩ (x 2)))).trans
    (View.canon_cons_emb (Rect.unit (s := S8x72x512) ![0, 8, 256] ![8, 64, 256] h1) p1 _ _)
  funext a
  apply Fin.ext
  fin_cases a
  · rfl
  · show 70 + 1 * (x 1).val = 8 + 1 * (62 + (x 1).val); omega
  · rfl

/-- The last two of those rows, first half. -/
theorem load_last_lo {g : ∀ a, (![0, 70, 0] : Fin S8x72x512.rank → ℕ) a + (![8, 2, 256] : Fin S8x72x512.rank → ℕ) a ≤ S8x72x512.size a} :
    v.readCov [⟨Rect.unit ![0, 8, 256] ![8, 64, 256] h1, p1⟩, ⟨Rect.unit ![0, 8, 0] ![8, 64, 256] h2, p2⟩, ⟨Rect.unit ![0, 6, 256] ![8, 2, 256] h3, p3⟩,
      ⟨Rect.unit ![0, 6, 0] ![8, 2, 256] h4, p4⟩, ⟨Rect.unit ![0, 0, 0] ![8, 6, 512] h5, p5⟩] (Rect.unit (s := S8x72x512) ![0, 70, 0] ![8, 2, 256] g).toLoadRect = lastRows p2 := by
  rw [View.readCov_skip v _ p1 _ _ rfl, View.readCov_eq_canon']
  funext x
  have hx1 : (x 1).val < 2 := (x 1).isLt
  refine (congrArg _ (?_ : _ = (Rect.unit (s := S8x72x512) ![0, 8, 0] ![8, 64, 256] h2).emb (ix3 (n0 := 8) (n1 := 64) (n2 := 256) (x 0) ⟨62 + (x 1).val, by omega⟩ (x 2)))).trans
    (View.canon_cons_emb (Rect.unit (s := S8x72x512) ![0, 8, 0] ![8, 64, 256] h2) p2 _ _)
  funext a
  apply Fin.ext
  fin_cases a
  · rfl
  · show 70 + 1 * (x 1).val = 8 + 1 * (62 + (x 1).val); omega
  · rfl

/-- The eight history rows, second half. -/
theorem load_hist_hi {g : ∀ a, (![0, 0, 256] : Fin S8x72x512.rank → ℕ) a + (![8, 8, 256] : Fin S8x72x512.rank → ℕ) a ≤ S8x72x512.size a} :
    v.readCov [⟨Rect.unit ![0, 8, 256] ![8, 64, 256] h1, p1⟩, ⟨Rect.unit ![0, 8, 0] ![8, 64, 256] h2, p2⟩, ⟨Rect.unit ![0, 6, 256] ![8, 2, 256] h3, p3⟩,
      ⟨Rect.unit ![0, 6, 0] ![8, 2, 256] h4, p4⟩, ⟨Rect.unit ![0, 0, 0] ![8, 6, 512] h5, p5⟩] (Rect.unit (s := S8x72x512) ![0, 0, 256] ![8, 8, 256] g).toLoadRect
      = histRows p5 p3 256 (by decide) := by
  rw [View.readCov_skip v _ p1 _ _ rfl, View.readCov_skip v _ p2 _ _ rfl, View.readCov_eq_canon']
  funext x
  have hx1 : (x 1).val < 8 := (x 1).isLt
  have hx2 : (x 2).val < 256 := (x 2).isLt
  unfold histRows
  by_cases h : (x 1).val < 6
  · rw [dif_pos h]
    have k3 : (Rect.unit (s := S8x72x512) ![0, 0, 256] ![8, 8, 256] g).toLoadRect.idx x ∉ (Rect.unit (s := S8x72x512) ![0, 6, 256] ![8, 2, 256] h3).set :=
      not_mem_unit (s := S8x72x512) (off := ![0, 6, 256]) (size := ![8, 2, 256]) 1 (Or.inl (show 0 + 1 * (x 1).val < 6 by omega))
    have k4 : (Rect.unit (s := S8x72x512) ![0, 0, 256] ![8, 8, 256] g).toLoadRect.idx x ∉ (Rect.unit (s := S8x72x512) ![0, 6, 0] ![8, 2, 256] h4).set :=
      not_mem_unit (s := S8x72x512) (off := ![0, 6, 0]) (size := ![8, 2, 256]) 1 (Or.inl (show 0 + 1 * (x 1).val < 6 by omega))
    refine (View.canon_cons_of_not_mem ⟨Rect.unit (s := S8x72x512) ![0, 6, 256] ![8, 2, 256] h3, p3⟩ _ k3).trans ?_
    refine (View.canon_cons_of_not_mem ⟨Rect.unit (s := S8x72x512) ![0, 6, 0] ![8, 2, 256] h4, p4⟩ _ k4).trans ?_
    refine (congrArg _ (?_ : _ = (Rect.unit (s := S8x72x512) ![0, 0, 0] ![8, 6, 512] h5).emb (ix3 (n0 := 8) (n1 := 6) (n2 := 512) (x 0) ⟨(x 1).val, h⟩ ⟨256 + (x 2).val, by omega⟩))).trans
      (View.canon_cons_emb (Rect.unit (s := S8x72x512) ![0, 0, 0] ![8, 6, 512] h5) p5 _ _)
    funext a
    apply Fin.ext
    fin_cases a
    · rfl
    · rfl
    · show 256 + 1 * (x 2).val = 0 + 1 * (256 + (x 2).val); omega
  · rw [dif_neg h]
    refine (congrArg _ (?_ : _ = (Rect.unit (s := S8x72x512) ![0, 6, 256] ![8, 2, 256] h3).emb (ix3 (n0 := 8) (n1 := 2) (n2 := 256) (x 0) ⟨(x 1).val - 6, by omega⟩ (x 2)))).trans
      (View.canon_cons_emb (Rect.unit (s := S8x72x512) ![0, 6, 256] ![8, 2, 256] h3) p3 _ _)
    funext a
    apply Fin.ext
    fin_cases a
    · rfl
    · show 0 + 1 * (x 1).val = 6 + 1 * ((x 1).val - 6); omega
    · rfl

/-- The eight history rows, first half. -/
theorem load_hist_lo {g : ∀ a, (![0, 0, 0] : Fin S8x72x512.rank → ℕ) a + (![8, 8, 256] : Fin S8x72x512.rank → ℕ) a ≤ S8x72x512.size a} :
    v.readCov [⟨Rect.unit ![0, 8, 256] ![8, 64, 256] h1, p1⟩, ⟨Rect.unit ![0, 8, 0] ![8, 64, 256] h2, p2⟩, ⟨Rect.unit ![0, 6, 256] ![8, 2, 256] h3, p3⟩,
      ⟨Rect.unit ![0, 6, 0] ![8, 2, 256] h4, p4⟩, ⟨Rect.unit ![0, 0, 0] ![8, 6, 512] h5, p5⟩] (Rect.unit (s := S8x72x512) ![0, 0, 0] ![8, 8, 256] g).toLoadRect
      = histRows p5 p4 0 (by decide) := by
  rw [View.readCov_skip v _ p1 _ _ rfl, View.readCov_skip v _ p2 _ _ rfl, View.readCov_skip v _ p3 _ _ rfl, View.readCov_eq_canon']
  funext x
  have hx1 : (x 1).val < 8 := (x 1).isLt
  have hx2 : (x 2).val < 256 := (x 2).isLt
  unfold histRows
  by_cases h : (x 1).val < 6
  · rw [dif_pos h]
    have k4 : (Rect.unit (s := S8x72x512) ![0, 0, 0] ![8, 8, 256] g).toLoadRect.idx x ∉ (Rect.unit (s := S8x72x512) ![0, 6, 0] ![8, 2, 256] h4).set :=
      not_mem_unit (s := S8x72x512) (off := ![0, 6, 0]) (size := ![8, 2, 256]) 1 (Or.inl (show 0 + 1 * (x 1).val < 6 by omega))
    refine (View.canon_cons_of_not_mem ⟨Rect.unit (s := S8x72x512) ![0, 6, 0] ![8, 2, 256] h4, p4⟩ _ k4).trans ?_
    refine (congrArg _ (?_ : _ = (Rect.unit (s := S8x72x512) ![0, 0, 0] ![8, 6, 512] h5).emb (ix3 (n0 := 8) (n1 := 6) (n2 := 512) (x 0) ⟨(x 1).val, h⟩ ⟨0 + (x 2).val, by omega⟩))).trans
      (View.canon_cons_emb (Rect.unit (s := S8x72x512) ![0, 0, 0] ![8, 6, 512] h5) p5 _ _)
    funext a
    apply Fin.ext
    fin_cases a
    · rfl
    · rfl
    · show 0 + 1 * (x 2).val = 0 + 1 * (0 + (x 2).val); omega
  · rw [dif_neg h]
    refine (congrArg _ (?_ : _ = (Rect.unit (s := S8x72x512) ![0, 6, 0] ![8, 2, 256] h4).emb (ix3 (n0 := 8) (n1 := 2) (n2 := 256) (x 0) ⟨(x 1).val - 6, by omega⟩ (x 2)))).trans
      (View.canon_cons_emb (Rect.unit (s := S8x72x512) ![0, 6, 0] ![8, 2, 256] h4) p4 _ _)
    funext a
    apply Fin.ext
    fin_cases a
    · rfl
    · show 0 + 1 * (x 1).val = 6 + 1 * ((x 1).val - 6); omega
    · rfl

end Cert.ConvFfn

end
-- ==== Proof.ChunkPay.lean ====
/-
  One chunk of the ConvFFN kernel as a vector function: the two depthwise convolutions over delayed tiles, the gate's gelu
  and their product. The printed payloads of the eleven chunks cut this function at different places; all of them are it.
  Read at an index the convolution is three shifted products, the shift crossing into the history rows at a sequence's
  first two steps.
-/
module

public import proofs.«01_k».proof.Proof.UpBuffer

@[expose] public section

set_option maxRecDepth 16384

noncomputable section

namespace Cert.ConvFfn

open Cert.KernelIdeal Cert.KernelIdeal.Gen Idealize.ShloMosaic Idealize.ShloMosaic.TcCoe

section Generic
variable {F : FTy → Type} [FloatOps F] [Named F]

/-- The tile's row number at every index. -/
abbrev rowNo : IVec S64x8x256 32 := iota Kind.tc S64x8x256 32 [1] iota_S64x8x256_d1_w32

/-- The up projection of 256 columns, stored in sequences. -/
def upV (h : FVec F S512x1024 .bf16) (w : Vec F S1024x256 .bf16) : FVec F S8x64x256 .f32 :=
  shapeCast S8x64x256 (shapeCast S8x64x256 (matmul dot_S512x1024_S1024x256_S512x256_1_0_0_1_n_n none h
    (shapeCast S1024x256 w shapeCasts_S1024x256_S1024x256 : FVec F S1024x256 .bf16) (constant S512x256 .f32 0x00000000#32)) shapeCasts_S512x256_S8x64x256)
    shapeCasts_S8x64x256_S8x64x256

/-- A row of taps, over tiles. -/
def tapV (k : ℕ) (h : S3x256.Slices ![k, 0] S1x256) (w : Vec F S3x256 .f32) : FVec F S1x1x256 .f32 :=
  shapeCast S1x1x256 (extractStridedSlice S1x256 ![k, 0] w h) shapeCasts_S1x256_S1x1x256

/-- The rows moved down by one: within a tile by the rotation, a tile's first row from the tile before it, and a
    sequence's first row from the rotated history. -/
def delayV (cur : FVec F S64x8x256 .f32) (hist : FVec F S8x8x256 .f32) : FVec F S64x8x256 .f32 :=
  select (cmpi .slt rowNo (broadcast S64x8x256 1#32))
    (shapeCast S64x8x256 (concatenate S8x8x8x256 1 [⟨S8x1x8x256, shapeCast S8x1x8x256 hist shapeCasts_S8x8x256_S8x1x8x256⟩,
      ⟨S8x7x8x256, extractStridedSlice S8x7x8x256 ![0, 0, 0, 0] (shapeCast S8x8x8x256 (dynamicRotate 1 1#32 none cur rotates_S64x8x256_d1) shapeCasts_S64x8x256_S8x8x8x256)
        slices_S8x8x8x256_o0_0_0_0_S8x7x8x256⟩] concatenates_S8x1x8x256_S8x7x8x256_S8x8x8x256_d1) shapeCasts_S8x8x8x256_S64x8x256)
    (dynamicRotate 1 1#32 none cur rotates_S64x8x256_d1)

/-- The depthwise convolution of one half of a chunk. -/
def convV (w : Vec F S3x256 .f32) (cur : Vec F S8x64x256 .f32) (hist : Vec F S8x8x256 .f32) (b : Vec F S1x256 .f32) : FVec F S512x256 .f32 :=
  shapeCast S512x256
    (addf
      (addf (mulf (shapeCast S64x8x256 cur shapeCasts_S8x64x256_S64x8x256 : FVec F S64x8x256 .f32) (broadcastTo S64x8x256 (tapV 2 slices_S3x256_o2_0_S1x256 w) broadcasts_S1x1x256_S64x8x256))
        (broadcastTo S64x8x256 (shapeCast S1x1x256 (shapeCast S1x256 b shapeCasts_S1x256_S1x256 : FVec F S1x256 .f32) shapeCasts_S1x256_S1x1x256) broadcasts_S1x1x256_S64x8x256))
      (delayV
        (addf (mulf (shapeCast S64x8x256 cur shapeCasts_S8x64x256_S64x8x256 : FVec F S64x8x256 .f32) (broadcastTo S64x8x256 (tapV 1 slices_S3x256_o1_0_S1x256 w) broadcasts_S1x1x256_S64x8x256))
          (delayV (mulf (shapeCast S64x8x256 cur shapeCasts_S8x64x256_S64x8x256 : FVec F S64x8x256 .f32) (broadcastTo S64x8x256 (tapV 0 slices_S3x256_o0_0_S1x256 w) broadcasts_S1x1x256_S64x8x256))
            (dynamicRotate 1 1#32 none (mulf hist (broadcastTo S8x8x256 (tapV 0 slices_S3x256_o0_0_S1x256 w) broadcasts_S1x1x256_S8x8x256)) rotates_S8x8x256_d1)))
        (dynamicRotate 1 1#32 none
          (addf (mulf hist (broadcastTo S8x8x256 (tapV 1 slices_S3x256_o1_0_S1x256 w) broadcasts_S1x1x256_S8x8x256))
            (dynamicRotate 1 1#32 none (mulf hist (broadcastTo S8x8x256 (tapV 0 slices_S3x256_o0_0_S1x256 w) broadcasts_S1x1x256_S8x8x256)) rotates_S8x8x256_d1))
          rotates_S8x8x256_d1)))
    shapeCasts_S64x8x256_S512x256

/-- The gate's gelu as the kernel writes it. -/
def geluV (x : FVec F S512x256 .f32) : FVec F S512x256 .f32 :=
  addf (mulf (broadcast S512x256 (Scalar.ofBits .f32 0x3F000000#32)) x)
    (mulf (mulf (broadcast S512x256 (Scalar.ofBits .f32 0x3F000000#32)) x)
      (tanh (mulf x (addf (broadcast S512x256 (Scalar.ofBits .f32 0x3F4C422A#32))
        (mulf (broadcast S512x256 (Named.named κ "gelu_c1" 0x3D122279#32)) (mulf x x))))))

/-- What a chunk stores for the down projection. -/
def actV (wg : Vec F S3x256 .f32) (cg : Vec F S8x64x256 .f32) (hg : Vec F S8x8x256 .f32) (bg : Vec F S1x256 .f32)
    (wu : Vec F S3x256 .f32) (cu : Vec F S8x64x256 .f32) (hu : Vec F S8x8x256 .f32) (bu : Vec F S1x256 .f32) : FVec F S512x256 .bf16 :=
  shapeCast S512x256 (truncf .bf16 (mulf (geluV (convV wg cg hg bg)) (convV wu cu hu bu)) bitsLt_bf16_f32) shapeCasts_S512x256_S512x256

/-- The first chunk's payload is the function. -/
theorem chunk0 (wg : Vec F S3x256 .f32) (cg : Vec F S8x64x256 .f32) (hg : Vec F S8x8x256 .f32) (bg : Vec F S1x256 .f32)
    (wu : Vec F S3x256 .f32) (cu : Vec F S8x64x256 .f32) (hu : Vec F S8x8x256 .f32) (bu : Vec F S1x256 .f32) :
    k0_pay47 rowNo (k0_pay42 (k0_pay39 cg) (k0_pay40 rowNo wg cg hg) (k0_pay41 wg) bg) wu (k0_pay43 cu) hu (k0_pay44 wu hu)
      (k0_pay45 rowNo wu cu hu) (k0_pay46 wu) bu = actV wg cg hg bg wu cu hu bu := rfl

end Generic

/-- Two reads at indices of the same numbers are one. -/
theorem at_eq {n0 n1 n2 : Nat} {α : Type} (f : Shape.Idx ⟨3, ![n0, n1, n2]⟩ → α) {a a' : Fin n0} {b b' : Fin n1} (j : Fin n2)
    (ha : a.val = a'.val) (hb : b.val = b'.val) : f (ix3 a b j) = f (ix3 a' b' j) := by
  obtain rfl := Fin.ext ha
  obtain rfl := Fin.ext hb
  rfl

/-- The delayed rows at an index: the row before in the same sequence, or at a sequence's first row the rotated history's
    first row. -/
theorem delayV_apply (cur : FVec Ideal S64x8x256 .f32) (hist : FVec Ideal S8x8x256 .f32) (n : Fin 64) (s : Fin 8) (j : Fin 256) :
    delayV cur hist (ix3 n s j) =
      if s.val = 0 then
        (if n.val % 8 = 0 then hist (ix3 ⟨n.val / 8, by omega⟩ 0 j) else cur (ix3 ⟨n.val - 1, by omega⟩ 7 j))
      else cur (ix3 n ⟨s.val - 1, by omega⟩ j) := by
  pointwise [delayV]
  have hc : ∀ s : Fin 8, IntOp.cmpi CmpIPredicate.slt (BitVec.ofNat 32 s.val) 1#32 = if s.val = 0 then 1#1 else 0#1 := by decide
  rw [hc]
  by_cases hs : s.val = 0
  · simp only [if_pos hs, ValueIdx.select_one]
    split
    · next h =>
      have h' : n.val % 8 < 1 := h
      have hz : n.val % 8 = 0 := by omega
      refine Eq.trans ?_ (if_pos hz).symm
      exact at_eq hist j rfl hs
    · next h =>
      have h' : ¬ n.val % 8 < 1 := h
      have hz : ¬ n.val % 8 = 0 := by omega
      refine Eq.trans ?_ (if_neg hz).symm
      exact at_eq cur j (show n.val / 8 * 8 + (n.val % 8 - 1) = n.val - 1 by omega) (show (s.val + 8 - 1) % 8 = 7 by omega)
  · simp only [if_neg hs, ValueIdx.select_zero]
    exact at_eq cur j rfl (show (s.val + 8 - 1) % 8 = s.val - 1 by omega)

/-- The convolution at an index, of rows `X b τ`: those of number 0 and 1 are the history's last two, the others the
    sequence's own. -/
theorem convV_apply (w : FVec Ideal S3x256 .f32) (cur : FVec Ideal S8x64x256 .f32) (hist : FVec Ideal S8x8x256 .f32) (b : FVec Ideal S1x256 .f32)
    (X : Fin 8 → Nat → Fin 256 → EReal)
    (h6 : ∀ (b : Fin 8) (j : Fin 256), hist (ix3 b 6 j) = X b 0 j) (h7 : ∀ (b : Fin 8) (j : Fin 256), hist (ix3 b 7 j) = X b 1 j)
    (hc : ∀ (b : Fin 8) (s : Fin 64) (j : Fin 256), cur (ix3 b s j) = X b (s.val + 2) j)
    (r : Fin 512) (j : Fin 256) :
    convV (F := Ideal) w cur hist b (ix2 r j) =
      X ⟨r.val / 64, by omega⟩ (r.val % 64 + 2) j * w (ix2 2 j) + b (ix2 0 j)
      + (X ⟨r.val / 64, by omega⟩ (r.val % 64 + 1) j * w (ix2 1 j) + X ⟨r.val / 64, by omega⟩ (r.val % 64) j * w (ix2 0 j)) := by
  pointwise [convV, delayV_apply, tapV]
  simp only [h6, h7, hc]
  have e : ∀ {p q : Fin 8} {a b : Nat}, p.val = q.val → a = b → X p a j = X q b j := by
    intro p q a b hp hq
    rw [Fin.ext hp, hq]
  split_ifs
  all_goals
    congr 2
    all_goals refine congrArg (fun z => z * _) (e (by dsimp only; omega) (by omega))

end Cert.ConvFfn

end
-- ==== Proof.Spec.lean ====
/-
  The ConvFFN layer, one sequence at a time, over the extended reals: root-mean-square norm, the up projection, the
  three-tap convolution over the carried rows and the projection's own, the gated product, the down projection and the
  normed residual. The gate's gelu is a parameter, since the two programs write it differently.
-/
module

public import Idealize.ShloMosaic.Lib.Pointwise

@[expose] public section

noncomputable section

namespace Cert.ConvFfn

open Idealize.ShloMosaic

/-- The reciprocal of a row's root mean square. -/
def rmsS (v : Fin 1024 → EReal) : EReal :=
  Ideal.rsqrt (Ideal.div (∑ k, v k * v k) (Ideal.ofBits .f32 0x44800000#32) + Ideal.ofBits .f32 0x358637BD#32)

/-- The up projection of a normed row, one column. -/
def upS (x g : Fin 1024 → EReal) (w : Fin 1024 → EReal) : EReal := ∑ k, x k * rmsS x * g k * w k

/-- What the layer reads for one sequence of `T` steps. -/
structure Rows (T : ℕ) where
  /-- The sequence. -/
  x : Fin T → Fin 1024 → EReal
  /-- The two carried rows. -/
  st : Fin 2 → Fin 5632 → EReal
  /-- The gain before the projection. -/
  gi : Fin 1024 → EReal
  /-- The gain after it. -/
  go : Fin 1024 → EReal
  /-- The up projection's weights. -/
  wu : Fin 1024 → Fin 5632 → EReal
  /-- The taps. -/
  wd : Fin 3 → Fin 5632 → EReal
  /-- The convolution's bias. -/
  bd : Fin 5632 → EReal
  /-- The down projection's weights. -/
  wo : Fin 2816 → Fin 1024 → EReal

variable {T : ℕ}

/-- The rows the convolution reads: the two carried ones, then the projected ones. -/
def xpS (R : Rows T) (τ : ℕ) (l : Fin 5632) : EReal :=
  if h : τ < 2 then R.st ⟨τ, h⟩ l else if h : τ - 2 < T then upS (R.x ⟨τ - 2, h⟩) R.gi (fun k => R.wu k l) else 0

/-- The convolution. -/
def convS (R : Rows T) (t : Fin T) (l : Fin 5632) : EReal :=
  xpS R t.val l * R.wd 0 l + xpS R (t.val + 1) l * R.wd 1 l + xpS R (t.val + 2) l * R.wd 2 l + R.bd l

/-- The gated product. -/
def actS (G : EReal → EReal) (R : Rows T) (t : Fin T) (k : Fin 2816) : EReal :=
  G (convS R t ⟨k.val, by omega⟩) * convS R t ⟨2816 + k.val, by omega⟩

/-- The down projection. -/
def downS (G : EReal → EReal) (R : Rows T) (t : Fin T) (n : Fin 1024) : EReal := ∑ k, actS G R t k * R.wo k n

/-- The layer's row. -/
def outS (G : EReal → EReal) (R : Rows T) (t : Fin T) (n : Fin 1024) : EReal :=
  R.x t n + downS G R t n * rmsS (downS G R t) * R.go n

/-- The rows carried on. -/
def nextS (R : Rows T) (i : Fin 2) (l : Fin 5632) : EReal := xpS R (T + i.val) l

end Cert.ConvFfn

end
-- ==== Proof.Consts.lean ====
/-
  The constants of the ConvFFN layer as reals, and the fact that the norm's and the convolution's values are real.
-/
module

public import proofs.«01_k».proof.Proof.Spec
public import Idealize.ShloMosaic.PureOps.Ideal.Laws
public import Idealize.ShloMosaic.Lib.IdealHost

@[expose] public section

noncomputable section

namespace Cert.ConvFfn

open Idealize.ShloMosaic

/-- The row length. -/
theorem width_eq : Ideal.ofBits .f32 0x44800000#32 = ((1024 : ℝ) : EReal) := by
  simp [Ideal.ofBits, Ideal.ieee, -EReal.coe_mul]; norm_num

/-- One half. -/
theorem half_eq : Ideal.ofBits .f32 0x3F000000#32 = ((1 / 2 : ℝ) : EReal) := by
  simp [Ideal.ofBits, Ideal.ieee, -EReal.coe_mul]; norm_num

/-- The norm's small addend. -/
theorem eps_eq : Ideal.ofBits .f32 0x358637BD#32 = ((8796093 / 8796093022208 : ℝ) : EReal) := by
  simp [Ideal.ofBits, Ideal.ieee, -EReal.coe_mul]; norm_num

/-- The gelu's outer constant. -/
theorem outer_eq : Ideal.ofBits .f32 0x3F4C422A#32 = ((13386282 / 16777216 : ℝ) : EReal) := by
  simp [Ideal.ofBits, Ideal.ieee, -EReal.coe_mul]; norm_num

/-- The gelu's cubic constant. -/
theorem cubic_eq : Ideal.ofBits .f32 0x3D372713#32 = ((12003091 / 268435456 : ℝ) : EReal) := by
  simp [Ideal.ofBits, Ideal.ieee, -EReal.coe_mul]; norm_num

/-- The bound of the precondition. -/
theorem inf_eq : Ideal.ofBits .f32 0x7F800000#32 = ⊤ := by
  simp [Ideal.ofBits, Ideal.ieee, -EReal.coe_mul]

/-- A value that is no infinity. -/
def Real' (x : EReal) : Prop := ∃ r : ℝ, x = (r : EReal)

theorem Real'.add {x y : EReal} : Real' x → Real' y → Real' (x + y) := by
  rintro ⟨a, rfl⟩ ⟨b, rfl⟩; exact ⟨a + b, (EReal.coe_add a b).symm⟩

theorem Real'.mul {x y : EReal} : Real' x → Real' y → Real' (x * y) := by
  rintro ⟨a, rfl⟩ ⟨b, rfl⟩; exact ⟨a * b, (EReal.coe_mul a b).symm⟩

theorem Real'.sum {ι : Type} (s : Finset ι) {f : ι → EReal} (h : ∀ i, Real' (f i)) : Real' (∑ i ∈ s, f i) := by
  choose g hg using h
  refine ⟨∑ i ∈ s, g i, ?_⟩
  simp only [hg]
  induction s using Finset.cons_induction with
  | empty => simp
  | cons a s ha ih => rw [Finset.sum_cons, Finset.sum_cons, ih, EReal.coe_add]

theorem real_of_ne {x : EReal} (ht : x ≠ ⊤) (hb : x ≠ ⊥) : Real' x := ⟨x.toReal, (EReal.coe_toReal ht hb).symm⟩

/-- A value below infinity in magnitude is real. -/
theorem real_of_abs_lt {x : EReal} (h : max x (-x) < ⊤) : Real' x := by
  induction x using EReal.rec with
  | bot => exact absurd h (by simp)
  | coe r => exact ⟨r, rfl⟩
  | top => exact absurd h (by simp)

/-- A square is no less than zero. -/
theorem sq_nonneg' (x : EReal) : 0 ≤ x * x := by
  induction x using EReal.rec with
  | bot => simp
  | coe r => rw [← EReal.coe_mul]; exact_mod_cast mul_self_nonneg r
  | top => simp

/-- A normed row is real whatever the row holds: a row with an infinity is normed to zero. -/
theorem real_norm (v : Fin 1024 → EReal) (k : Fin 1024) : Real' (v k * rmsS v) := by
  unfold rmsS
  rw [width_eq, eps_eq, Ideal.div_coe (by norm_num)]
  by_cases h : ∀ j, Real' (v j)
  · have hs : Real' (∑ j, v j * v j) := Real'.sum _ fun j => (h j).mul (h j)
    obtain ⟨s, hs⟩ := hs
    have hp : 0 ≤ s := by
      have : (0 : EReal) ≤ ∑ j, v j * v j := Finset.sum_nonneg fun j _ => sq_nonneg' _
      rw [hs] at this
      exact_mod_cast this
    refine (h k).mul ?_
    have hq : 0 < s * (1 / 1024) + 8796093 / 8796093022208 := by positivity
    rw [hs, ← EReal.coe_mul, ← EReal.coe_add, Ideal.rsqrt_coe, if_neg (not_lt.mpr hq.le), if_neg hq.ne']
    exact ⟨_, rfl⟩
  · obtain ⟨j, hj⟩ := not_forall.1 h
    have ht : v j * v j = ⊤ := by
      by_cases h1 : v j = ⊤
      · rw [h1]; rfl
      · by_cases h2 : v j = ⊥
        · rw [h2]; rfl
        · exact absurd (real_of_ne h1 h2) hj
    have hs : ∑ j, v j * v j = ⊤ := by
      refine top_unique (ht ▸ ?_)
      exact Finset.single_le_sum (f := fun j => v j * v j) (fun i _ => sq_nonneg' (v i)) (Finset.mem_univ j)
    rw [hs, EReal.top_mul_coe_of_pos (by norm_num), EReal.top_add_coe, Ideal.rsqrt_top, mul_zero]
    exact ⟨0, rfl⟩

/-- The arguments the convolution reads beside the sequence are real. -/
structure Rows.Fin' {T : ℕ} (R : Rows T) : Prop where
  st : ∀ i l, Real' (R.st i l)
  gi : ∀ k, Real' (R.gi k)
  wu : ∀ k l, Real' (R.wu k l)
  wd : ∀ i l, Real' (R.wd i l)
  bd : ∀ l, Real' (R.bd l)

theorem real_xpS {T : ℕ} (R : Rows T) (h : R.Fin') (τ : ℕ) (l : Fin 5632) : Real' (xpS R τ l) := by
  unfold xpS
  split
  · exact h.st _ _
  · split
    · exact Real'.sum _ fun k => ((real_norm _ k).mul (h.gi k)).mul (h.wu k l)
    · exact ⟨0, rfl⟩

theorem real_convS {T : ℕ} (R : Rows T) (h : R.Fin') (t : Fin T) (l : Fin 5632) : Real' (convS R t l) :=
  ((((real_xpS R h _ l).mul (h.wd _ _)).add ((real_xpS R h _ l).mul (h.wd _ _))).add
    ((real_xpS R h _ l).mul (h.wd _ _))).add (h.bd l)

/-- The gelu as the kernel writes it. -/
def geluK (x : EReal) : EReal :=
  Ideal.ofBits .f32 0x3F000000#32 * x + Ideal.ofBits .f32 0x3F000000#32 * x *
    Ideal.tanh (x * (Ideal.ofBits .f32 0x3F4C422A#32 + ((80338380498831 / 2251799813685248 : ℝ) : EReal) * (x * x)))

/-- The gelu as the reference writes it. -/
def geluR (x : EReal) : EReal :=
  x * (Ideal.ofBits .f32 0x3F000000#32 * (1 + Ideal.tanh (Ideal.ofBits .f32 0x3F4C422A#32 *
    (x + Ideal.ofBits .f32 0x3D372713#32 * (x * x * x)))))

/-- On a real number the two are one. -/
theorem gelu_eq {x : EReal} (h : Real' x) : geluK x = geluR x := by
  obtain ⟨r, rfl⟩ := h
  unfold geluK geluR
  rw [half_eq, outer_eq, cubic_eq]
  simp only [← EReal.coe_mul, ← EReal.coe_add, Ideal.tanh_coe, ← EReal.coe_one]
  have e : r * (13386282 / 16777216 + 80338380498831 / 2251799813685248 * (r * r))
      = 13386282 / 16777216 * (r + 12003091 / 268435456 * (r * r * r)) := by ring
  rw [e]
  congr 1
  ring

/-- So the layer with the one is the layer with the other. -/
theorem outS_eq {T : ℕ} (R : Rows T) (h : R.Fin') : outS geluK R = outS geluR R := by
  have ha : actS geluK R = actS geluR R := by
    funext t k
    unfold actS
    rw [gelu_eq (real_convS R h t _)]
  have hd : downS geluK R = downS geluR R := by
    unfold downS
    rw [ha]
  unfold outS
  rw [hd]

end Cert.ConvFfn

end
-- ==== Proof.PayApply.lean ====
/-
  The block's payloads read at an index, in the layer's terms: the normed rows, their projection, one chunk's gated
  product and one part of the down projection with its norm and residual.
-/
module

public import proofs.«01_k».proof.Proof.ChunkPay
public import proofs.«01_k».proof.Proof.Consts

@[expose] public section

set_option maxRecDepth 16384

noncomputable section

namespace Cert.ConvFfn

open Cert.KernelIdeal Cert.KernelIdeal.Gen Idealize.ShloMosaic Idealize.ShloMosaic.TcCoe

variable (x : FVec Ideal S8x64x1024 .f32) (st : FVec Ideal S8x2x5632 .f32) (gi go : FVec Ideal S1x1024 .f32)
  (wu : FVec Ideal S1024x5632 .bf16) (wd : FVec Ideal S3x5632 .f32) (bd : FVec Ideal S1x5632 .f32) (wo : FVec Ideal S2816x1024 .bf16)

/-- One sequence's share of a grid point's blocks. -/
def rowsBlk (b : Fin 8) : Rows 64 where
  x t k := x (ix3 b t k)
  st i l := st (ix3 b i l)
  gi k := gi (ix2 0 k)
  go k := go (ix2 0 k)
  wu k l := wu (ix2 k l)
  wd i l := wd (ix2 i l)
  bd l := bd (ix2 0 l)
  wo k n := wo (ix2 k n)

/-- 256 columns of the up projection's weights. -/
abbrev ldU (lo : ℕ) (h : ∀ a, (![0, lo] : Fin S1024x5632.rank → ℕ) a + (![1024, 256] : Fin S1024x5632.rank → ℕ) a ≤ S1024x5632.size a) :
    Vec Ideal S1024x256 .bf16 := View.ld (Val := Elt Ideal) wu (Rect.unit (s := S1024x5632) ![0, lo] ![1024, 256] h)

/-- 256 columns of the taps. -/
abbrev ldT (lo : ℕ) (h : ∀ a, (![0, lo] : Fin S3x5632.rank → ℕ) a + (![3, 256] : Fin S3x5632.rank → ℕ) a ≤ S3x5632.size a) :
    Vec Ideal S3x256 .f32 := View.ld (Val := Elt Ideal) wd (Rect.unit (s := S3x5632) ![0, lo] ![3, 256] h)

/-- 256 columns of the bias. -/
abbrev ldB (lo : ℕ) (h : ∀ a, (![0, lo] : Fin S1x5632.rank → ℕ) a + (![1, 256] : Fin S1x5632.rank → ℕ) a ≤ S1x5632.size a) :
    Vec Ideal S1x256 .f32 := View.ld (Val := Elt Ideal) bd (Rect.unit (s := S1x5632) ![0, lo] ![1, 256] h)

/-- 256 columns of the carried rows. -/
abbrev ldS (lo : ℕ) (h : ∀ a, (![0, 0, lo] : Fin S8x2x5632.rank → ℕ) a + (![8, 2, 256] : Fin S8x2x5632.rank → ℕ) a ≤ S8x2x5632.size a) :
    Vec Ideal S8x2x256 .f32 := View.ld (Val := Elt Ideal) st (Rect.unit (s := S8x2x5632) ![0, 0, lo] ![8, 2, 256] h)

theorem ldU_apply (lo : ℕ) (h) (k : Fin 1024) (j : Fin 256) (hlo : lo + 256 ≤ 5632) : ldU wu lo h (ix2 k j) = wu (ix2 k ⟨lo + j.val, by omega⟩) := by
  pointwise [ldU]

theorem ldT_apply (lo : ℕ) (h) (k : Fin 3) (j : Fin 256) (hlo : lo + 256 ≤ 5632) : ldT wd lo h (ix2 k j) = wd (ix2 k ⟨lo + j.val, by omega⟩) := by
  pointwise [ldT]

theorem ldB_apply (lo : ℕ) (h) (k : Fin 1) (j : Fin 256) (hlo : lo + 256 ≤ 5632) : ldB bd lo h (ix2 k j) = bd (ix2 0 ⟨lo + j.val, by omega⟩) := by
  pointwise [ldB]

theorem ldS_apply (lo : ℕ) (h) (b : Fin 8) (i : Fin 2) (j : Fin 256) (hlo : lo + 256 ≤ 5632) : ldS st lo h (ix3 b i j) = st (ix3 b i ⟨lo + j.val, by omega⟩) := by
  pointwise [ldS]

/-- The normed rows. -/
theorem hidden_apply (g : FVec Ideal S1x1024 .f32) (r : Fin 512) (k : Fin 1024) :
    k0_pay35 (F := Ideal) x g (ix2 r k) = x (ix3 ⟨r.val / 64, by omega⟩ ⟨r.val % 64, by omega⟩ k)
      * rmsS (fun k => x (ix3 ⟨r.val / 64, by omega⟩ ⟨r.val % 64, by omega⟩ k)) * g (ix2 0 k) := by
  pointwise [k0_pay35, k0_pay34]
  rfl

theorem upV_apply (h : FVec Ideal S512x1024 .bf16) (w : FVec Ideal S1024x256 .bf16) (b : Fin 8) (s : Fin 64) (j : Fin 256) :
    upV (F := Ideal) h w (ix3 b s j) = ∑ k : Fin 1024, h (ix2 ⟨b.val * 64 + s.val, by omega⟩ k) * w (ix2 k j) := by
  pointwise [upV]

/-- A chunk's projected rows are the layer's. -/
theorem up_rows (lo : ℕ) (hlo : lo + 256 ≤ 5632) (hw) (b : Fin 8) (s : Fin 64) (j : Fin 256) :
    upV (F := Ideal) (k0_pay35 x gi) (ldU wu lo hw) (ix3 b s j)
      = xpS (rowsBlk x st gi go wu wd bd wo b) (s.val + 2) ⟨lo + j.val, by omega⟩ := by
  rw [upV_apply]
  simp only [hidden_apply, ldU_apply wu lo hw _ j hlo]
  unfold xpS
  rw [dif_neg (by omega), dif_pos (show s.val + 2 - 2 < 64 by omega)]
  have e : ∀ k, x (ix3 (⟨(b.val * 64 + s.val) / 64, by omega⟩ : Fin 8) (⟨(b.val * 64 + s.val) % 64, by omega⟩ : Fin 64) k) = x (ix3 b s k) :=
    fun k => at_eq x k (show (b.val * 64 + s.val) / 64 = b.val by omega) (show (b.val * 64 + s.val) % 64 = s.val by omega)
  simp only [e]
  rfl

/-- A chunk's two carried rows are the layer's. -/
theorem hist_rows (z : Vec Ideal S8x6x512 .f32) (lane : ℕ) (hl : lane + 256 ≤ 512) (lo : ℕ) (hlo : lo + 256 ≤ 5632) (hs)
    (i : Fin 2) (b : Fin 8) (j : Fin 256) :
    histRows (Val := Elt Ideal) z (shapeCast S8x2x256 (ldS st lo hs) shapeCasts_S8x2x256_S8x2x256) lane hl (ix3 b ⟨6 + i.val, by omega⟩ j)
      = xpS (rowsBlk x st gi go wu wd bd wo b) i.val ⟨lo + j.val, by omega⟩ := by
  unfold xpS
  rw [dif_pos i.isLt]
  refine (dif_neg (show ¬ (6 + i.val) < 6 by omega)).trans ?_
  refine (?_ : _ = ldS st lo hs (ix3 b i j)).trans (ldS_apply st lo hs b i j hlo)
  have e : shapeCast S8x2x256 (ldS st lo hs) shapeCasts_S8x2x256_S8x2x256 (ix3 b ⟨6 + i.val - 6, by omega⟩ j) = ldS st lo hs (ix3 b i j) := by
    pointwise
  exact e

/-- The gated product at an index. -/
theorem actV_apply (wg : FVec Ideal S3x256 .f32) (cg : FVec Ideal S8x64x256 .f32) (hg : FVec Ideal S8x8x256 .f32) (bg : FVec Ideal S1x256 .f32)
    (wu : FVec Ideal S3x256 .f32) (cu : FVec Ideal S8x64x256 .f32) (hu : FVec Ideal S8x8x256 .f32) (bu : FVec Ideal S1x256 .f32) (r : Fin 512) (j : Fin 256) :
    actV (F := Ideal) wg cg hg bg wu cu hu bu (ix2 r j) = geluK (convV (F := Ideal) wg cg hg bg (ix2 r j)) * convV (F := Ideal) wu cu hu bu (ix2 r j) := by
  pointwise [actV, geluV]
  rw [IdealRules.named_const.ideal_named_scalar κ "gelu_c1" _ _ rfl]
  rfl

/-- A half chunk's convolution is the layer's. -/
theorem conv_rows (z : Vec Ideal S8x6x512 .f32) (lane : ℕ) (hl : lane + 256 ≤ 512) (lo : ℕ) (hlo : lo + 256 ≤ 5632) (hs) (hw) (hd) (hb)
    (r : Fin 512) (j : Fin 256) :
    convV (F := Ideal) (ldT wd lo hd) (upV (k0_pay35 x gi) (ldU wu lo hw))
      (histRows (Val := Elt Ideal) z (shapeCast S8x2x256 (ldS st lo hs) shapeCasts_S8x2x256_S8x2x256) lane hl)
      (ldB bd lo hb) (ix2 r j)
      = convS (rowsBlk x st gi go wu wd bd wo ⟨r.val / 64, by omega⟩) ⟨r.val % 64, by omega⟩ ⟨lo + j.val, by omega⟩ := by
  rw [convV_apply _ _ _ _ (fun b τ j => xpS (rowsBlk x st gi go wu wd bd wo b) τ ⟨lo + j.val, by omega⟩)
    (fun b j => hist_rows x st gi go wu wd bd wo z lane hl lo hlo hs 0 b j)
    (fun b j => hist_rows x st gi go wu wd bd wo z lane hl lo hlo hs 1 b j)
    (fun b s j => up_rows x st gi go wu wd bd wo lo hlo hw b s j)]
  rw [ldT_apply wd lo hd _ j hlo, ldT_apply wd lo hd _ j hlo, ldT_apply wd lo hd _ j hlo, ldB_apply bd lo hb _ j hlo]
  unfold convS
  simp only [rowsBlk]
  ac_rfl

/-- One chunk's payload is the layer's gated product. -/
theorem chunk_rows (z : Vec Ideal S8x6x512 .f32) (lo up : ℕ) (hlo : lo + 256 ≤ 2816) (hup : up = 2816 + lo) (hs) (hw) (hd) (hb) (hs') (hw') (hd') (hb')
    (r : Fin 512) (j : Fin 256) :
    actV (F := Ideal) (ldT wd lo hd) (upV (k0_pay35 x gi) (ldU wu lo hw))
      (histRows (Val := Elt Ideal) z (shapeCast S8x2x256 (ldS st lo hs) shapeCasts_S8x2x256_S8x2x256) 0 (by decide)) (ldB bd lo hb)
      (ldT wd up hd') (upV (k0_pay35 x gi) (ldU wu up hw'))
      (histRows (Val := Elt Ideal) z (shapeCast S8x2x256 (ldS st up hs') shapeCasts_S8x2x256_S8x2x256) 256 (by decide)) (ldB bd up hb') (ix2 r j)
      = actS geluK (rowsBlk x st gi go wu wd bd wo ⟨r.val / 64, by omega⟩) ⟨r.val % 64, by omega⟩ ⟨lo + j.val, by omega⟩ := by
  subst hup
  rw [actV_apply, conv_rows x st gi go wu wd bd wo z 0 _ lo (by omega), conv_rows x st gi go wu wd bd wo z 256 _ (2816 + lo) (by omega)]
  unfold actS
  simp only [Nat.add_assoc]

/-- One part of the last stage, over rows of the gated product that are the layer's. -/
theorem down_rows (a : FVec Ideal S128x2816 .bf16) (q : ℕ) (hq : q < 4)
    (ha : ∀ (p : Fin 128) (k : Fin 2816), a (ix2 p k)
      = actS geluK (rowsBlk x st gi go wu wd bd wo ⟨2 * q + p.val / 64, by omega⟩) ⟨p.val % 64, by omega⟩ k)
    (b : Fin 2) (s : Fin 64) (n : Fin 1024) :
    x (ix3 ⟨2 * q + b.val, by omega⟩ s n) + (∑ k, a (ix2 ⟨b.val * 64 + s.val, by omega⟩ k) * wo (ix2 k n)) *
          Ideal.rsqrt (Ideal.div (∑ l, (∑ k, a (ix2 ⟨b.val * 64 + s.val, by omega⟩ k) * wo (ix2 k l)) *
                    ∑ k, a (ix2 ⟨b.val * 64 + s.val, by omega⟩ k) * wo (ix2 k l)) (Ideal.ofBits FTy.f32 1149239296#32) +
              Ideal.ofBits FTy.f32 897988541#32) * go (ix2 0 n)
      = outS geluK (rowsBlk x st gi go wu wd bd wo ⟨2 * q + b.val, by omega⟩) s n := by
  have e : ∀ k, a (ix2 (⟨b.val * 64 + s.val, by omega⟩ : Fin 128) k) = actS geluK (rowsBlk x st gi go wu wd bd wo ⟨2 * q + b.val, by omega⟩) s k := by
    intro k
    rw [ha]
    congr 1
    · exact congrArg _ (Fin.ext (by dsimp only; omega))
    · exact Fin.ext (by dsimp only; omega)
  simp only [e]
  rfl

/-- Part 0 of the last stage: sequences 0 and 1. -/
theorem part0 (a : FVec Ideal S128x2816 .bf16)
    (ha : ∀ (p : Fin 128) (k : Fin 2816), a (ix2 p k)
      = actS geluK (rowsBlk x st gi go wu wd bd wo ⟨2 * 0 + p.val / 64, by omega⟩) ⟨p.val % 64, by omega⟩ k)
    (b : Fin 2) (s : Fin 64) (n : Fin 1024) :
    k0_pay174 (F := Ideal) (k0_pay34 (F := Ideal) x) a wo go (ix3 b s n)
      = outS geluK (rowsBlk x st gi go wu wd bd wo ⟨2 * 0 + b.val, by omega⟩) s n := by
  refine Eq.trans ?_ (down_rows x st gi go wu wd bd wo a 0 (by decide) ha b s n)
  have e : x (ix3 (⟨(b.val * 64 + s.val) / 64, by omega⟩ : Fin 8) s n) = x (ix3 (⟨b.val, by omega⟩ : Fin 8) s n) := by
    have hb : (⟨(b.val * 64 + s.val) / 64, by omega⟩ : Fin 8) = ⟨b.val, by omega⟩ := Fin.ext (by dsimp only; omega)
    rw [hb]
  pointwise [k0_pay174, k0_pay34]
  rw [e]

/-- Part 1 of the last stage: sequences 2 and 3. -/
theorem part1 (a : FVec Ideal S128x2816 .bf16)
    (ha : ∀ (p : Fin 128) (k : Fin 2816), a (ix2 p k)
      = actS geluK (rowsBlk x st gi go wu wd bd wo ⟨2 * 1 + p.val / 64, by omega⟩) ⟨p.val % 64, by omega⟩ k)
    (b : Fin 2) (s : Fin 64) (n : Fin 1024) :
    k0_pay179 (F := Ideal) (k0_pay175 (k0_pay34 (F := Ideal) x)) (k0_pay176 a wo) (k0_pay177 go) (k0_pay178 a wo) (FloatOps.ofBits .f32 897988541#32) (ix3 b s n)
      = outS geluK (rowsBlk x st gi go wu wd bd wo ⟨2 * 1 + b.val, by omega⟩) s n := by
  pointwise [k0_pay179, k0_pay175, k0_pay176, k0_pay177, k0_pay178, k0_pay34]
  rw [← down_rows x st gi go wu wd bd wo a 1 (by decide) ha b s n]
  have e : x (ix3 (⟨(128 + (b.val * 64 + s.val)) / 64, by omega⟩ : Fin 8) s n) = x (ix3 (⟨2 * 1 + b.val, by omega⟩ : Fin 8) s n) := by
    have hb : (⟨(128 + (b.val * 64 + s.val)) / 64, by omega⟩ : Fin 8) = ⟨2 * 1 + b.val, by omega⟩ := Fin.ext (by dsimp only; omega)
    rw [hb]
  rw [e]

/-- Part 2 of the last stage: sequences 4 and 5. -/
theorem part2 (a : FVec Ideal S128x2816 .bf16)
    (ha : ∀ (p : Fin 128) (k : Fin 2816), a (ix2 p k)
      = actS geluK (rowsBlk x st gi go wu wd bd wo ⟨2 * 2 + p.val / 64, by omega⟩) ⟨p.val % 64, by omega⟩ k)
    (b : Fin 2) (s : Fin 64) (n : Fin 1024) :
    k0_pay180 (F := Ideal) (k0_pay34 (F := Ideal) x) a wo go (ix3 b s n)
      = outS geluK (rowsBlk x st gi go wu wd bd wo ⟨2 * 2 + b.val, by omega⟩) s n := by
  pointwise [k0_pay180, k0_pay34]
  rw [← down_rows x st gi go wu wd bd wo a 2 (by decide) ha b s n]
  have e : x (ix3 (⟨(256 + (b.val * 64 + s.val)) / 64, by omega⟩ : Fin 8) s n) = x (ix3 (⟨2 * 2 + b.val, by omega⟩ : Fin 8) s n) := by
    have hb : (⟨(256 + (b.val * 64 + s.val)) / 64, by omega⟩ : Fin 8) = ⟨2 * 2 + b.val, by omega⟩ := Fin.ext (by dsimp only; omega)
    rw [hb]
  rw [e]

/-- Part 3 of the last stage: sequences 6 and 7. -/
theorem part3 (a : FVec Ideal S128x2816 .bf16)
    (ha : ∀ (p : Fin 128) (k : Fin 2816), a (ix2 p k)
      = actS geluK (rowsBlk x st gi go wu wd bd wo ⟨2 * 3 + p.val / 64, by omega⟩) ⟨p.val % 64, by omega⟩ k)
    (b : Fin 2) (s : Fin 64) (n : Fin 1024) :
    k0_pay183 (F := Ideal) (k0_pay181 (k0_pay34 (F := Ideal) x)) (k0_pay182 a wo) go (ix3 b s n)
      = outS geluK (rowsBlk x st gi go wu wd bd wo ⟨2 * 3 + b.val, by omega⟩) s n := by
  pointwise [k0_pay183, k0_pay181, k0_pay182, k0_pay34]
  rw [← down_rows x st gi go wu wd bd wo a 3 (by decide) ha b s n]
  have e : x (ix3 (⟨(384 + (b.val * 64 + s.val)) / 64, by omega⟩ : Fin 8) s n) = x (ix3 (⟨2 * 3 + b.val, by omega⟩ : Fin 8) s n) := by
    have hb : (⟨(384 + (b.val * 64 + s.val)) / 64, by omega⟩ : Fin 8) = ⟨2 * 3 + b.val, by omega⟩ := Fin.ext (by dsimp only; omega)
    rw [hb]
  rw [e]

end Cert.ConvFfn

end
-- ==== Proof.KernelBlock.lean ====
/-
  The block a grid point writes: the eleven chunks' stores make up the gated product, the four parts read it back and
  store the layer's rows, and the rows carried on are the last two projected rows of each sequence.
-/
module

public import proofs.«01_k».proof.Proof.PayApply

@[expose] public section

set_option maxRecDepth 16384

noncomputable section

namespace Cert.ConvFfn

open Cert.KernelIdeal Cert.KernelIdeal.Gen Idealize.ShloMosaic Idealize.ShloMosaic.TcCoe

variable (x : FVec Ideal S8x64x1024 .f32) (st : FVec Ideal S8x2x5632 .f32) (gi go : FVec Ideal S1x1024 .f32)
  (wu : FVec Ideal S1024x5632 .bf16) (wd : FVec Ideal S3x5632 .f32) (bd : FVec Ideal S1x5632 .f32) (wo : FVec Ideal S2816x1024 .bf16)

/-- The gated product of a grid point's 512 rows. -/
def actBuf : S512x2816.Idx → Elt Ideal .bf16 := fun y =>
  actS geluK (rowsBlk x st gi go wu wd bd wo ⟨(y 0).val / 64, by have h0 : (y 0).val < 512 := (y 0).isLt; omega⟩)
    ⟨(y 0).val % 64, Nat.mod_lt _ (by decide)⟩ ⟨(y 1).val, (y 1).isLt⟩

/-- The layer's rows of a grid point's eight sequences. -/
def outBuf : S8x64x1024.Idx → Elt Ideal .f32 := fun y =>
  outS geluK (rowsBlk x st gi go wu wd bd wo ⟨(y 0).val, (y 0).isLt⟩) ⟨(y 1).val, (y 1).isLt⟩ ⟨(y 2).val, (y 2).isLt⟩

/-- The rows carried on. -/
def nextBuf : S8x2x5632.Idx → Elt Ideal .f32 := fun y =>
  nextS (rowsBlk x st gi go wu wd bd wo ⟨(y 0).val, (y 0).isLt⟩) ⟨(y 1).val, (y 1).isLt⟩ ⟨(y 2).val, (y 2).isLt⟩

/-- A chunk's store, as a piece of the gated product. -/
theorem chunk_piece (z : Vec Ideal S8x6x512 .f32) (lo up : ℕ) (hlo : lo + 256 ≤ 2816) (hup : up = 2816 + lo) (hs) (hw) (hd) (hb) (hs') (hw') (hd') (hb')
    (h : ∀ a, (![0, lo] : Fin S512x2816.rank → ℕ) a + (![512, 256] : Fin S512x2816.rank → ℕ) a ≤ S512x2816.size a)
    (y : (Rect.unit (s := S512x2816) ![0, lo] ![512, 256] h).shape.Idx) :
    actV (F := Ideal) (ldT wd lo hd) (upV (k0_pay35 x gi) (ldU wu lo hw))
      (histRows (Val := Elt Ideal) z (shapeCast S8x2x256 (ldS st lo hs) shapeCasts_S8x2x256_S8x2x256) 0 (by decide)) (ldB bd lo hb)
      (ldT wd up hd') (upV (k0_pay35 x gi) (ldU wu up hw'))
      (histRows (Val := Elt Ideal) z (shapeCast S8x2x256 (ldS st up hs') shapeCasts_S8x2x256_S8x2x256) 256 (by decide)) (ldB bd up hb') y
      = actBuf x st gi go wu wd bd wo ((Rect.unit (s := S512x2816) ![0, lo] ![512, 256] h).emb y) := by
  have h0 : (y 0).val < 512 := (y 0).isLt
  have h1 : (y 1).val < 256 := (y 1).isLt
  have ey : y = ix2 (n0 := 512) (n1 := 256) ⟨(y 0).val, h0⟩ ⟨(y 1).val, h1⟩ := by
    funext a; fin_cases a <;> rfl
  rw [ey]
  rw [chunk_rows x st gi go wu wd bd wo z lo up hlo hup hs hw hd hb hs' hw' hd' hb']
  unfold actBuf
  have e0 : (((Rect.unit (s := S512x2816) ![0, lo] ![512, 256] h).emb (ix2 (n0 := 512) (n1 := 256) ⟨(y 0).val, h0⟩ ⟨(y 1).val, h1⟩)) 0).val = (y 0).val := by
    show 0 + 1 * (y 0).val = _; omega
  have e1 : (((Rect.unit (s := S512x2816) ![0, lo] ![512, 256] h).emb (ix2 (n0 := 512) (n1 := 256) ⟨(y 0).val, h0⟩ ⟨(y 1).val, h1⟩)) 1).val = lo + (y 1).val := by
    show lo + 1 * (y 1).val = _; omega
  simp only [e0, e1]

/-- 128 rows of the gated product, loaded. -/
theorem act_load {κ' : Kind} {sp : Space} {v : View sig κ' sp S512x2816 .bf16} {L : List (View.Piece (Elt Ideal) S512x2816 .bf16)}
    (hL : View.PiecesOf (actBuf x st gi go wu wd bd wo) L) (hc : ∀ y, ∃ p ∈ L, y ∈ p.1.set) (q : ℕ) (off : ℕ) (hq : q < 4) (hoff : off = 128 * q)
    (h : ∀ a, (![off, 0] : Fin S512x2816.rank → ℕ) a + (![128, 2816] : Fin S512x2816.rank → ℕ) a ≤ S512x2816.size a) (p : Fin 128) (k : Fin 2816) :
    View.readCov (Val := Elt Ideal) v L (Rect.unit (s := S512x2816) ![off, 0] ![128, 2816] h).toLoadRect (ix2 (n0 := 128) (n1 := 2816) p k)
      = actS geluK (rowsBlk x st gi go wu wd bd wo ⟨2 * q + p.val / 64, by omega⟩) ⟨p.val % 64, by omega⟩ k := by
  rw [View.readCov_eq_canon']
  refine (View.canon_apply_of_pieces _ L hL.mem _ (hc _)).trans ?_
  unfold actBuf
  have e0 : (((Rect.unit (s := S512x2816) ![off, 0] ![128, 2816] h).toLoadRect.idx (ix2 (n0 := 128) (n1 := 2816) p k)) 0).val = off + p.val := by
    show off + 1 * p.val = _; omega
  have e1 : (((Rect.unit (s := S512x2816) ![off, 0] ![128, 2816] h).toLoadRect.idx (ix2 (n0 := 128) (n1 := 2816) p k)) 1).val = k.val := by
    show 0 + 1 * k.val = _; omega
  simp only [e0, e1]
  congr 1
  · exact congrArg _ (Fin.ext (by dsimp only; omega))
  · exact Fin.ext (by dsimp only; omega)

/-- A part's store, as a piece of the layer's rows. -/
theorem part_piece (off : ℕ) (q : ℕ) (hq : q < 4) (hoff : off = 2 * q)
    (h : ∀ a, (![off, 0, 0] : Fin S8x64x1024.rank → ℕ) a + (![2, 64, 1024] : Fin S8x64x1024.rank → ℕ) a ≤ S8x64x1024.size a)
    (P : S2x64x1024.Idx → Elt Ideal .f32) (hP : ∀ (b : Fin 2) (s : Fin 64) (n : Fin 1024),
      P (ix3 b s n) = outS geluK (rowsBlk x st gi go wu wd bd wo ⟨2 * q + b.val, by omega⟩) s n)
    (y : (Rect.unit (s := S8x64x1024) ![off, 0, 0] ![2, 64, 1024] h).shape.Idx) :
    P y = outBuf x st gi go wu wd bd wo ((Rect.unit (s := S8x64x1024) ![off, 0, 0] ![2, 64, 1024] h).emb y) := by
  have h0 : (y 0).val < 2 := (y 0).isLt
  have h1 : (y 1).val < 64 := (y 1).isLt
  have h2 : (y 2).val < 1024 := (y 2).isLt
  have ey : y = ix3 (n0 := 2) (n1 := 64) (n2 := 1024) ⟨(y 0).val, h0⟩ ⟨(y 1).val, h1⟩ ⟨(y 2).val, h2⟩ := by
    funext a; fin_cases a <;> rfl
  rw [ey]
  refine (hP _ _ _).trans ?_
  subst hoff
  unfold outBuf
  have e0 : (((Rect.unit (s := S8x64x1024) ![2 * q, 0, 0] ![2, 64, 1024] h).emb (ix3 (n0 := 2) (n1 := 64) (n2 := 1024) ⟨(y 0).val, h0⟩ ⟨(y 1).val, h1⟩ ⟨(y 2).val, h2⟩)) 0).val = 2 * q + (y 0).val := by
    show 2 * q + 1 * (y 0).val = _; omega
  have e1 : (((Rect.unit (s := S8x64x1024) ![2 * q, 0, 0] ![2, 64, 1024] h).emb (ix3 (n0 := 2) (n1 := 64) (n2 := 1024) ⟨(y 0).val, h0⟩ ⟨(y 1).val, h1⟩ ⟨(y 2).val, h2⟩)) 1).val = (y 1).val := by
    show 0 + 1 * (y 1).val = _; omega
  have e2 : (((Rect.unit (s := S8x64x1024) ![2 * q, 0, 0] ![2, 64, 1024] h).emb (ix3 (n0 := 2) (n1 := 64) (n2 := 1024) ⟨(y 0).val, h0⟩ ⟨(y 1).val, h1⟩ ⟨(y 2).val, h2⟩)) 2).val = (y 2).val := by
    show 0 + 1 * (y 2).val = _; omega
  simp only [e0, e1, e2]

/-- A chunk half's two rows carried on, as a piece. -/
theorem next_piece (lo : ℕ) (hlo : lo + 256 ≤ 5632) (hw)
    (h : ∀ a, (![0, 0, lo] : Fin S8x2x5632.rank → ℕ) a + (![8, 2, 256] : Fin S8x2x5632.rank → ℕ) a ≤ S8x2x5632.size a)
    (y : (Rect.unit (s := S8x2x5632) ![0, 0, lo] ![8, 2, 256] h).shape.Idx) :
    lastRows (Val := Elt Ideal) (upV (F := Ideal) (k0_pay35 x gi) (ldU wu lo hw)) y
      = nextBuf x st gi go wu wd bd wo ((Rect.unit (s := S8x2x5632) ![0, 0, lo] ![8, 2, 256] h).emb y) := by
  have h0 : (y 0).val < 8 := (y 0).isLt
  have h1 : (y 1).val < 2 := (y 1).isLt
  have h2 : (y 2).val < 256 := (y 2).isLt
  have ey : y = ix3 (n0 := 8) (n1 := 2) (n2 := 256) ⟨(y 0).val, h0⟩ ⟨(y 1).val, h1⟩ ⟨(y 2).val, h2⟩ := by
    funext a; fin_cases a <;> rfl
  rw [ey]
  refine (up_rows x st gi go wu wd bd wo lo hlo hw ⟨(y 0).val, h0⟩ ⟨62 + (y 1).val, by omega⟩ ⟨(y 2).val, h2⟩).trans ?_
  unfold nextBuf nextS
  have e0 : (((Rect.unit (s := S8x2x5632) ![0, 0, lo] ![8, 2, 256] h).emb (ix3 (n0 := 8) (n1 := 2) (n2 := 256) ⟨(y 0).val, h0⟩ ⟨(y 1).val, h1⟩ ⟨(y 2).val, h2⟩)) 0).val = (y 0).val := by
    show 0 + 1 * (y 0).val = _; omega
  have e1 : (((Rect.unit (s := S8x2x5632) ![0, 0, lo] ![8, 2, 256] h).emb (ix3 (n0 := 8) (n1 := 2) (n2 := 256) ⟨(y 0).val, h0⟩ ⟨(y 1).val, h1⟩ ⟨(y 2).val, h2⟩)) 1).val = (y 1).val := by
    show 0 + 1 * (y 1).val = _; omega
  have e2 : (((Rect.unit (s := S8x2x5632) ![0, 0, lo] ![8, 2, 256] h).emb (ix3 (n0 := 8) (n1 := 2) (n2 := 256) ⟨(y 0).val, h0⟩ ⟨(y 1).val, h1⟩ ⟨(y 2).val, h2⟩)) 2).val = lo + (y 2).val := by
    show lo + 1 * (y 2).val = _; omega
  simp only [e0, e1, e2]
  rw [show 62 + (y 1).val + 2 = 64 + (y 1).val by omega]

/-- The four parts, over a gated product that is the layer's. -/
theorem parts_out {κ' : Kind} {sp : Space} {v : View sig κ' sp S512x2816 .bf16} {L : List (View.Piece (Elt Ideal) S512x2816 .bf16)}
    (hL : View.PiecesOf (actBuf x st gi go wu wd bd wo) L) (hc : ∀ y, ∃ p ∈ L, y ∈ p.1.set) {h0 h1 h2 h3 g0 g1 g2 g3} :
    View.canon (Val := Elt Ideal) [
      ⟨Rect.unit (s := S8x64x1024) ![6, 0, 0] ![2, 64, 1024] h3, k0_pay183 (F := Ideal) (k0_pay181 (k0_pay34 x)) (k0_pay182 (View.readCov (Val := Elt Ideal) v L (Rect.unit (s := S512x2816) ![384, 0] ![128, 2816] g3).toLoadRect) wo) go⟩,
      ⟨Rect.unit (s := S8x64x1024) ![4, 0, 0] ![2, 64, 1024] h2, k0_pay180 (F := Ideal) (k0_pay34 x) (View.readCov (Val := Elt Ideal) v L (Rect.unit (s := S512x2816) ![256, 0] ![128, 2816] g2).toLoadRect) wo go⟩,
      ⟨Rect.unit (s := S8x64x1024) ![2, 0, 0] ![2, 64, 1024] h1, k0_pay179 (F := Ideal) (k0_pay175 (k0_pay34 x)) (k0_pay176 (View.readCov (Val := Elt Ideal) v L (Rect.unit (s := S512x2816) ![128, 0] ![128, 2816] g1).toLoadRect) wo) (k0_pay177 go)
        (k0_pay178 (View.readCov (Val := Elt Ideal) v L (Rect.unit (s := S512x2816) ![128, 0] ![128, 2816] g1).toLoadRect) wo) (FloatOps.ofBits .f32 897988541#32)⟩,
      ⟨Rect.unit (s := S8x64x1024) ![0, 0, 0] ![2, 64, 1024] h0, k0_pay174 (F := Ideal) (k0_pay34 x) (View.readCov (Val := Elt Ideal) v L (Rect.unit (s := S512x2816) ![0, 0] ![128, 2816] g0).toLoadRect) wo go⟩]
      = outBuf x st gi go wu wd bd wo := by
  funext y
  refine View.canon_apply_of_pieces _ _ ?_ y (View.cover_of_tiledL _ ![2, 64, 1024] (by sl_kernel_rfl) y)
  refine View.PiecesOf.mem ⟨?_, ?_, ?_, ?_, trivial⟩
  · exact part_piece x st gi go wu wd bd wo 6 3 (by decide) rfl h3 _
      (part3 x st gi go wu wd bd wo _ (act_load x st gi go wu wd bd wo hL hc 3 384 (by decide) rfl g3))
  · exact part_piece x st gi go wu wd bd wo 4 2 (by decide) rfl h2 _
      (part2 x st gi go wu wd bd wo _ (act_load x st gi go wu wd bd wo hL hc 2 256 (by decide) rfl g2))
  · exact part_piece x st gi go wu wd bd wo 2 1 (by decide) rfl h1 _
      (part1 x st gi go wu wd bd wo _ (act_load x st gi go wu wd bd wo hL hc 1 128 (by decide) rfl g1))
  · exact part_piece x st gi go wu wd bd wo 0 0 (by decide) rfl h0 _
      (part0 x st gi go wu wd bd wo _ (act_load x st gi go wu wd bd wo hL hc 0 0 (by decide) rfl g0))

end Cert.ConvFfn

end
-- ==== Proof.KernelPoint.lean ====
/-
  What a grid point's body leaves in the two output blocks, as the layer's rows of the point's input blocks.
-/
module

public import proofs.«01_k».proof.Proof.KernelBlock

@[expose] public section

set_option maxRecDepth 16384

noncomputable section

namespace Cert.KernelIdeal.Value

open Cert.KernelIdeal Cert.KernelIdeal.Gen Idealize.ShloMosaic Idealize.ShloMosaic.TcCoe Idealize.SL.Sem Cert.ConvFfn

variable (m : (ℓ : Loc nD τ sig) → Buf (Elt Ideal) ℓ)

/-- The rows a grid point writes. -/
theorem out_point (c : Dev nD) (t : Fin cfg0.N) :
    (outsAt0 m c t).1 = outBuf (iblk m c 0 t) (iblk m c 1 t) (iblk m c 2 t) (iblk m c 3 t) (iblk m c 4 t) (iblk m c 5 t) (iblk m c 6 t) (iblk m c 7 t) := by
  unfold outsAt0
  frame_open
  simp only [↓ load_cur_hi, ↓ load_cur_lo, ↓ load_hist_hi, ↓ load_hist_lo]
  frame_out
  refine parts_out (iblk m c 0 t) (iblk m c 1 t) (iblk m c 2 t) (iblk m c 3 t) (iblk m c 4 t) (iblk m c 5 t) (iblk m c 6 t) (iblk m c 7 t) ?_
    (View.cover_of_tiledL _ ![512, 256] (by sl_kernel_rfl))
  refine ⟨?_, ?_, ?_, ?_, ?_, ?_, ?_, ?_, ?_, ?_, ?_, trivial⟩
  · exact chunk_piece (iblk m c 0 t) (iblk m c 1 t) (iblk m c 2 t) (iblk m c 3 t) (iblk m c 4 t) (iblk m c 5 t) (iblk m c 6 t) (iblk m c 7 t) _ 2560 5376 (by decide) rfl _ _ _ _ _ _ _ _ (by decide)
  · exact chunk_piece (iblk m c 0 t) (iblk m c 1 t) (iblk m c 2 t) (iblk m c 3 t) (iblk m c 4 t) (iblk m c 5 t) (iblk m c 6 t) (iblk m c 7 t) _ 2304 5120 (by decide) rfl _ _ _ _ _ _ _ _ (by decide)
  · exact chunk_piece (iblk m c 0 t) (iblk m c 1 t) (iblk m c 2 t) (iblk m c 3 t) (iblk m c 4 t) (iblk m c 5 t) (iblk m c 6 t) (iblk m c 7 t) _ 2048 4864 (by decide) rfl _ _ _ _ _ _ _ _ (by decide)
  · exact chunk_piece (iblk m c 0 t) (iblk m c 1 t) (iblk m c 2 t) (iblk m c 3 t) (iblk m c 4 t) (iblk m c 5 t) (iblk m c 6 t) (iblk m c 7 t) _ 1792 4608 (by decide) rfl _ _ _ _ _ _ _ _ (by decide)
  · exact chunk_piece (iblk m c 0 t) (iblk m c 1 t) (iblk m c 2 t) (iblk m c 3 t) (iblk m c 4 t) (iblk m c 5 t) (iblk m c 6 t) (iblk m c 7 t) _ 1536 4352 (by decide) rfl _ _ _ _ _ _ _ _ (by decide)
  · exact chunk_piece (iblk m c 0 t) (iblk m c 1 t) (iblk m c 2 t) (iblk m c 3 t) (iblk m c 4 t) (iblk m c 5 t) (iblk m c 6 t) (iblk m c 7 t) _ 1280 4096 (by decide) rfl _ _ _ _ _ _ _ _ (by decide)
  · exact chunk_piece (iblk m c 0 t) (iblk m c 1 t) (iblk m c 2 t) (iblk m c 3 t) (iblk m c 4 t) (iblk m c 5 t) (iblk m c 6 t) (iblk m c 7 t) _ 1024 3840 (by decide) rfl _ _ _ _ _ _ _ _ (by decide)
  · exact chunk_piece (iblk m c 0 t) (iblk m c 1 t) (iblk m c 2 t) (iblk m c 3 t) (iblk m c 4 t) (iblk m c 5 t) (iblk m c 6 t) (iblk m c 7 t) _ 768 3584 (by decide) rfl _ _ _ _ _ _ _ _ (by decide)
  · exact chunk_piece (iblk m c 0 t) (iblk m c 1 t) (iblk m c 2 t) (iblk m c 3 t) (iblk m c 4 t) (iblk m c 5 t) (iblk m c 6 t) (iblk m c 7 t) _ 512 3328 (by decide) rfl _ _ _ _ _ _ _ _ (by decide)
  · exact chunk_piece (iblk m c 0 t) (iblk m c 1 t) (iblk m c 2 t) (iblk m c 3 t) (iblk m c 4 t) (iblk m c 5 t) (iblk m c 6 t) (iblk m c 7 t) _ 256 3072 (by decide) rfl _ _ _ _ _ _ _ _ (by decide)
  · exact chunk_piece (iblk m c 0 t) (iblk m c 1 t) (iblk m c 2 t) (iblk m c 3 t) (iblk m c 4 t) (iblk m c 5 t) (iblk m c 6 t) (iblk m c 7 t) _ 0 2816 (by decide) rfl _ _ _ _ _ _ _ _ (by decide)

/-- The rows it carries on. -/
theorem next_point (c : Dev nD) (t : Fin cfg0.N) :
    (outsAt0 m c t).2 = nextBuf (iblk m c 0 t) (iblk m c 1 t) (iblk m c 2 t) (iblk m c 3 t) (iblk m c 4 t) (iblk m c 5 t) (iblk m c 6 t) (iblk m c 7 t) := by
  unfold outsAt0
  frame_open
  simp only [↓ load_last_hi, ↓ load_last_lo]
  frame_out
  funext y
  refine View.canon_apply_of_pieces _ _ ?_ y (View.cover_of_tiledL _ ![8, 2, 256] (by sl_kernel_rfl) y)
  refine View.PiecesOf.mem ⟨?_, ?_, ?_, ?_, ?_, ?_, ?_, ?_, ?_, ?_, ?_, ?_, ?_, ?_, ?_, ?_, ?_, ?_, ?_, ?_, ?_, ?_, trivial⟩
  · exact next_piece (iblk m c 0 t) (iblk m c 1 t) (iblk m c 2 t) (iblk m c 3 t) (iblk m c 4 t) (iblk m c 5 t) (iblk m c 6 t) (iblk m c 7 t) 5376 (by decide) _ (by decide)
  · exact next_piece (iblk m c 0 t) (iblk m c 1 t) (iblk m c 2 t) (iblk m c 3 t) (iblk m c 4 t) (iblk m c 5 t) (iblk m c 6 t) (iblk m c 7 t) 2560 (by decide) _ (by decide)
  · exact next_piece (iblk m c 0 t) (iblk m c 1 t) (iblk m c 2 t) (iblk m c 3 t) (iblk m c 4 t) (iblk m c 5 t) (iblk m c 6 t) (iblk m c 7 t) 5120 (by decide) _ (by decide)
  · exact next_piece (iblk m c 0 t) (iblk m c 1 t) (iblk m c 2 t) (iblk m c 3 t) (iblk m c 4 t) (iblk m c 5 t) (iblk m c 6 t) (iblk m c 7 t) 2304 (by decide) _ (by decide)
  · exact next_piece (iblk m c 0 t) (iblk m c 1 t) (iblk m c 2 t) (iblk m c 3 t) (iblk m c 4 t) (iblk m c 5 t) (iblk m c 6 t) (iblk m c 7 t) 4864 (by decide) _ (by decide)
  · exact next_piece (iblk m c 0 t) (iblk m c 1 t) (iblk m c 2 t) (iblk m c 3 t) (iblk m c 4 t) (iblk m c 5 t) (iblk m c 6 t) (iblk m c 7 t) 2048 (by decide) _ (by decide)
  · exact next_piece (iblk m c 0 t) (iblk m c 1 t) (iblk m c 2 t) (iblk m c 3 t) (iblk m c 4 t) (iblk m c 5 t) (iblk m c 6 t) (iblk m c 7 t) 4608 (by decide) _ (by decide)
  · exact next_piece (iblk m c 0 t) (iblk m c 1 t) (iblk m c 2 t) (iblk m c 3 t) (iblk m c 4 t) (iblk m c 5 t) (iblk m c 6 t) (iblk m c 7 t) 1792 (by decide) _ (by decide)
  · exact next_piece (iblk m c 0 t) (iblk m c 1 t) (iblk m c 2 t) (iblk m c 3 t) (iblk m c 4 t) (iblk m c 5 t) (iblk m c 6 t) (iblk m c 7 t) 4352 (by decide) _ (by decide)
  · exact next_piece (iblk m c 0 t) (iblk m c 1 t) (iblk m c 2 t) (iblk m c 3 t) (iblk m c 4 t) (iblk m c 5 t) (iblk m c 6 t) (iblk m c 7 t) 1536 (by decide) _ (by decide)
  · exact next_piece (iblk m c 0 t) (iblk m c 1 t) (iblk m c 2 t) (iblk m c 3 t) (iblk m c 4 t) (iblk m c 5 t) (iblk m c 6 t) (iblk m c 7 t) 4096 (by decide) _ (by decide)
  · exact next_piece (iblk m c 0 t) (iblk m c 1 t) (iblk m c 2 t) (iblk m c 3 t) (iblk m c 4 t) (iblk m c 5 t) (iblk m c 6 t) (iblk m c 7 t) 1280 (by decide) _ (by decide)
  · exact next_piece (iblk m c 0 t) (iblk m c 1 t) (iblk m c 2 t) (iblk m c 3 t) (iblk m c 4 t) (iblk m c 5 t) (iblk m c 6 t) (iblk m c 7 t) 3840 (by decide) _ (by decide)
  · exact next_piece (iblk m c 0 t) (iblk m c 1 t) (iblk m c 2 t) (iblk m c 3 t) (iblk m c 4 t) (iblk m c 5 t) (iblk m c 6 t) (iblk m c 7 t) 1024 (by decide) _ (by decide)
  · exact next_piece (iblk m c 0 t) (iblk m c 1 t) (iblk m c 2 t) (iblk m c 3 t) (iblk m c 4 t) (iblk m c 5 t) (iblk m c 6 t) (iblk m c 7 t) 3584 (by decide) _ (by decide)
  · exact next_piece (iblk m c 0 t) (iblk m c 1 t) (iblk m c 2 t) (iblk m c 3 t) (iblk m c 4 t) (iblk m c 5 t) (iblk m c 6 t) (iblk m c 7 t) 768 (by decide) _ (by decide)
  · exact next_piece (iblk m c 0 t) (iblk m c 1 t) (iblk m c 2 t) (iblk m c 3 t) (iblk m c 4 t) (iblk m c 5 t) (iblk m c 6 t) (iblk m c 7 t) 3328 (by decide) _ (by decide)
  · exact next_piece (iblk m c 0 t) (iblk m c 1 t) (iblk m c 2 t) (iblk m c 3 t) (iblk m c 4 t) (iblk m c 5 t) (iblk m c 6 t) (iblk m c 7 t) 512 (by decide) _ (by decide)
  · exact next_piece (iblk m c 0 t) (iblk m c 1 t) (iblk m c 2 t) (iblk m c 3 t) (iblk m c 4 t) (iblk m c 5 t) (iblk m c 6 t) (iblk m c 7 t) 3072 (by decide) _ (by decide)
  · exact next_piece (iblk m c 0 t) (iblk m c 1 t) (iblk m c 2 t) (iblk m c 3 t) (iblk m c 4 t) (iblk m c 5 t) (iblk m c 6 t) (iblk m c 7 t) 256 (by decide) _ (by decide)
  · exact next_piece (iblk m c 0 t) (iblk m c 1 t) (iblk m c 2 t) (iblk m c 3 t) (iblk m c 4 t) (iblk m c 5 t) (iblk m c 6 t) (iblk m c 7 t) 2816 (by decide) _ (by decide)
  · exact next_piece (iblk m c 0 t) (iblk m c 1 t) (iblk m c 2 t) (iblk m c 3 t) (iblk m c 4 t) (iblk m c 5 t) (iblk m c 6 t) (iblk m c 7 t) 0 (by decide) _ (by decide)

end Cert.KernelIdeal.Value

end
-- ==== Proof.RefValue.lean ====
/-
  The reference's two results, read at an index: the layer of Spec with the reference's gelu.
-/
module

public import proofs.«01_k».proof.Proof.Consts
public import proofs.«01_k».proof.Proof.Gen.ReferenceIdeal.Read

@[expose] public section

set_option maxRecDepth 16384

noncomputable section

namespace Cert.ConvFfn

open Cert.ReferenceIdeal Cert.ReferenceIdeal.Gen Cert.ReferenceIdeal.Read Idealize.ShloMosaic

variable (x0 : FVec Ideal S16x64x1024 .f32) (x1 : FVec Ideal S16x2x5632 .f32) (x2 x3 : FVec Ideal S1024 .f32)
  (x4 : FVec Ideal S1024x5632 .f32) (x5 : FVec Ideal S3x5632 .f32) (x6 : FVec Ideal S5632 .f32) (x7 : FVec Ideal S2816x1024 .f32)

/-- One sequence's share of the argument arrays. -/
def rowsOf (b : Fin 16) : Rows 64 where
  x t k := x0 (ix3 b t k)
  st i l := x1 (ix3 b i l)
  gi k := x2 (ix1 k)
  go k := x3 (ix1 k)
  wu k l := x4 (ix2 k l)
  wd i l := x5 (ix2 i l)
  bd l := x6 (ix1 l)
  wo k n := x7 (ix2 k n)

/-- The normed rows. -/
theorem refHidden (b : Fin 16) (t : Fin 64) (k : Fin 1024) : val_main_v12 (F := Ideal) x0 x2 (ix3 b t k)
    = x0 (ix3 b t k) * rmsS (fun k => x0 (ix3 b t k)) * x2 (ix1 k) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The rows the convolution reads. -/
theorem refRows (b : Fin 16) (t : Fin 66) (l : Fin 5632) : val_main_v14 (F := Ideal) x0 x1 x2 x4 (ix3 b t l)
    = xpS (rowsOf x0 x1 x2 x3 x4 x5 x6 x7 b) t.val l := by
  pointwise [val_main_v14, val_main_v13, refHidden]
  unfold xpS
  by_cases h : t.val < 2
  · rw [dif_pos h, dif_pos h]
    rfl
  · rw [dif_neg h, dif_neg h, dif_pos (show t.val - 2 < 64 by omega)]
    rfl

/-- The convolution. -/
theorem refConv (b : Fin 16) (t : Fin 64) (l : Fin 5632) : val_main_v37 (F := Ideal) x0 x1 x2 x4 x5 x6 (ix3 b t l)
    = convS (rowsOf x0 x1 x2 x3 x4 x5 x6 x7 b) t l := by
  pointwise [val_main_v37, val_main_v36, val_main_v35, val_main_v34, val_main_v33, val_main_v32, val_main_v31, val_main_v30, val_main_v29, val_main_v28,
   val_main_v27, val_main_v26, val_main_v25, val_main_v24, val_main_v23, val_main_v22, val_main_v21, val_main_v20, val_main_v19, val_main_v18, val_main_v17, val_main_v16, val_main_v15]
  simp only [refRows x0 x1 x2 x3 x4 x5 x6 x7]
  unfold convS
  rw [Nat.add_comm t.val 1, Nat.add_comm t.val 2]
  rfl

/-- The gated product. -/
theorem refAct (b : Fin 16) (t : Fin 64) (k : Fin 2816) : val_main_v53 (F := Ideal) x0 x1 x2 x4 x5 x6 (ix3 b t k)
    = actS geluR (rowsOf x0 x1 x2 x3 x4 x5 x6 x7 b) t k := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_cst_2, val_main_cst_3, val_main_cst_4, val_main_cst_5]
  simp only [refConv x0 x1 x2 x3 x4 x5 x6 x7]
  rfl

/-- The first result. -/
theorem refOut (b : Fin 16) (t : Fin 64) (n : Fin 1024) : val_main_v68 (F := Ideal) x0 x1 x2 x3 x4 x5 x6 x7 (ix3 b t n)
    = outS geluR (rowsOf x0 x1 x2 x3 x4 x5 x6 x7 b) t n := by
  pointwise [val_main_v68, val_main_v67, val_main_v66, val_main_v65, val_main_v64, val_main_v63, val_main_v62, val_main_v61, val_main_v60, val_main_v59, val_main_v58, val_main_v57, val_main_v56, val_main_v55, val_main_v54, val_main_cst_6, val_main_cst_7, val_main_cst_8]
  simp only [refAct x0 x1 x2 x3 x4 x5 x6 x7]
  rfl

/-- The second result. -/
theorem refNext (b : Fin 16) (i : Fin 2) (l : Fin 5632) : val_main_v69 (F := Ideal) x0 x1 x2 x4 (ix3 b i l)
    = nextS (rowsOf x0 x1 x2 x3 x4 x5 x6 x7 b) i l := by
  pointwise [val_main_v69]
  exact refRows x0 x1 x2 x3 x4 x5 x6 x7 b _ l

end Cert.ConvFfn

end
-- ==== Proof.KernelValue.lean ====
/-
  The two result arrays after the run, at an index, as the layer's rows of the argument arrays.
-/
module

public import proofs.«01_k».proof.Proof.KernelPoint
public import proofs.«01_k».proof.Proof.RefValue

@[expose] public section

set_option maxRecDepth 16384

noncomputable section

namespace Cert.KernelIdeal.Value

open Cert.KernelIdeal Cert.KernelIdeal.Gen Idealize.ShloMosaic Idealize.ShloMosaic.TcCoe Idealize.SL.Sem Cert.ConvFfn

variable (m : (ℓ : Loc nD τ sig) → Buf (Elt Ideal) ℓ)

/-- The windows' blocks: eight sequences a grid point, and the whole of the weights. -/
theorem at_x : ∀ t : Fin cfg0.N, win0_0.index t = ![t.val, 0, 0] := (by decide +kernel : ∀ t : Fin grid0.N, win0_0.index t = ![t.val, 0, 0])
theorem at_state : ∀ t : Fin cfg0.N, win0_1.index t = ![t.val, 0, 0] := (by decide +kernel : ∀ t : Fin grid0.N, win0_1.index t = ![t.val, 0, 0])
theorem at_gain_in : ∀ t : Fin cfg0.N, win0_2.index t = ![0, 0] := (by decide +kernel : ∀ t : Fin grid0.N, win0_2.index t = ![0, 0])
theorem at_gain_out : ∀ t : Fin cfg0.N, win0_3.index t = ![0, 0] := (by decide +kernel : ∀ t : Fin grid0.N, win0_3.index t = ![0, 0])
theorem at_up : ∀ t : Fin cfg0.N, win0_4.index t = ![0, 0] := (by decide +kernel : ∀ t : Fin grid0.N, win0_4.index t = ![0, 0])
theorem at_taps : ∀ t : Fin cfg0.N, win0_5.index t = ![0, 0] := (by decide +kernel : ∀ t : Fin grid0.N, win0_5.index t = ![0, 0])
theorem at_bias : ∀ t : Fin cfg0.N, win0_6.index t = ![0, 0] := (by decide +kernel : ∀ t : Fin grid0.N, win0_6.index t = ![0, 0])
theorem at_down : ∀ t : Fin cfg0.N, win0_7.index t = ![0, 0] := (by decide +kernel : ∀ t : Fin grid0.N, win0_7.index t = ![0, 0])
theorem at_out : ∀ t : Fin cfg0.N, win0_8.index t = ![t.val, 0, 0] := (by decide +kernel : ∀ t : Fin grid0.N, win0_8.index t = ![t.val, 0, 0])
theorem at_next : ∀ t : Fin cfg0.N, win0_9.index t = ![t.val, 0, 0] := (by decide +kernel : ∀ t : Fin grid0.N, win0_9.index t = ![t.val, 0, 0])

/-- The sequence that a grid point's block holds at `b`. -/
def seqOf (t : Fin cfg0.N) (b : Fin 8) : Fin 16 := ⟨t.val * 8 + b.val, by have h : t.val < 2 := t.isLt; omega⟩

theorem blk_x (c : Dev nD) (t : Fin cfg0.N) (b : Fin 8) (s : Fin 64) (k : Fin 1024) :
    iblk m c 0 t (ix3 b s k) = m ((c : Thread nD τ).loc main_arg0) (ix3 (seqOf t b) s k) := by
  blk_point [iblk, V, at_x t]
  try rfl
theorem blk_state (c : Dev nD) (t : Fin cfg0.N) (b : Fin 8) (i : Fin 2) (l : Fin 5632) :
    iblk m c 1 t (ix3 b i l) = m ((c : Thread nD τ).loc main_arg1) (ix3 (seqOf t b) i l) := by
  blk_point [iblk, V, at_state t]
  try rfl
theorem blk_gain_in (c : Dev nD) (t : Fin cfg0.N) (k : Fin 1024) : iblk m c 2 t (ix2 0 k) = m ((c : Thread nD τ).loc main_arg2) (ix1 k) := by
  blk_point [iblk, V, at_gain_in t]
theorem blk_gain_out (c : Dev nD) (t : Fin cfg0.N) (k : Fin 1024) : iblk m c 3 t (ix2 0 k) = m ((c : Thread nD τ).loc main_arg3) (ix1 k) := by
  blk_point [iblk, V, at_gain_out t]
theorem blk_up (c : Dev nD) (t : Fin cfg0.N) (k : Fin 1024) (l : Fin 5632) : iblk m c 4 t (ix2 k l) = m ((c : Thread nD τ).loc main_arg4) (ix2 k l) := by
  blk_point [iblk, V, at_up t]
theorem blk_taps (c : Dev nD) (t : Fin cfg0.N) (k : Fin 3) (l : Fin 5632) : iblk m c 5 t (ix2 k l) = m ((c : Thread nD τ).loc main_arg5) (ix2 k l) := by
  blk_point [iblk, V, at_taps t]
theorem blk_bias (c : Dev nD) (t : Fin cfg0.N) (l : Fin 5632) : iblk m c 6 t (ix2 0 l) = m ((c : Thread nD τ).loc main_arg6) (ix1 l) := by
  blk_point [iblk, V, at_bias t]
theorem blk_down (c : Dev nD) (t : Fin cfg0.N) (k : Fin 2816) (n : Fin 1024) : iblk m c 7 t (ix2 k n) = m ((c : Thread nD τ).loc main_arg7) (ix2 k n) := by
  blk_point [iblk, V, at_down t]

/-- One sequence's share of the argument arrays. -/
abbrev argRows (c : Dev nD) (b : Fin 16) : Rows 64 :=
  rowsOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) b

/-- A block's rows are the arrays'. -/
theorem rows_eq (c : Dev nD) (t : Fin cfg0.N) (b : Fin 8) :
    rowsBlk (iblk m c 0 t) (iblk m c 1 t) (iblk m c 2 t) (iblk m c 3 t) (iblk m c 4 t) (iblk m c 5 t) (iblk m c 6 t) (iblk m c 7 t) b = argRows m c (seqOf t b) := by
  unfold rowsBlk argRows rowsOf
  simp only [blk_x, blk_state, blk_gain_in, blk_gain_out, blk_up, blk_taps, blk_bias, blk_down]

/-- The first result array. -/
theorem out_array (c : Dev nD) :
    (dats m 0 c).arrAt 8 cfg0.N = fun i : S16x64x1024.Idx => outS geluK (argRows m c ⟨(i 0).val, (i 0).isLt⟩) ⟨(i 1).val, (i 1).isLt⟩ ⟨(i 2).val, (i 2).isLt⟩ := by
  refine (dats m 0 c).arrAt_eq_of_covers 8 _ (by decide +kernel) fun t hf y => ?_
  blk_simp
  rw [after0_8, out_point]
  unfold outBuf
  rw [rows_eq]
  have e0 : win0_8.index t 0 * 8 + (y 0).val = t.val * 8 + (y 0).val := by rw [at_out t]; rfl
  have e1 : win0_8.index t 1 * 64 + (y 1).val = (y 1).val := by rw [at_out t]; exact Nat.zero_add _
  have e2 : win0_8.index t 2 * 1024 + (y 2).val = (y 2).val := by rw [at_out t]; exact Nat.zero_add _
  simp only [e0, e1, e2]
  rfl

/-- The second. -/
theorem next_array (c : Dev nD) :
    (dats m 0 c).arrAt 9 cfg0.N = fun i : S16x2x5632.Idx => nextS (argRows m c ⟨(i 0).val, (i 0).isLt⟩) ⟨(i 1).val, (i 1).isLt⟩ ⟨(i 2).val, (i 2).isLt⟩ := by
  refine (dats m 0 c).arrAt_eq_of_covers 9 _ (by decide +kernel) fun t hf y => ?_
  blk_simp
  rw [after0_9, next_point]
  unfold nextBuf
  rw [rows_eq]
  have e0 : win0_9.index t 0 * 8 + (y 0).val = t.val * 8 + (y 0).val := by rw [at_next t]; rfl
  have e1 : win0_9.index t 1 * 2 + (y 1).val = (y 1).val := by rw [at_next t]; exact Nat.zero_add _
  have e2 : win0_9.index t 2 * 5632 + (y 2).val = (y 2).val := by rw [at_next t]; exact Nat.zero_add _
  simp only [e0, e1, e2]
  rfl

end Cert.KernelIdeal.Value

end
-- ==== Proof.Pre.lean ====
/-
  The precondition, decoded: an array whose magnitudes are all below infinity holds real numbers.
-/
module

public import proofs.«01_k».proof.Proof.Consts
public import proofs.«01_k».proof.Proof.Gen.Pre_args_finite
public import Idealize.ShloMosaic.Lib.ReduceAll

@[expose] public section

set_option maxRecDepth 16384

noncomputable section

namespace Cert.ConvFfn

open Cert.Pre_args_finite Cert.Pre_args_finite.Gen Idealize.ShloMosaic

/-- One comparison of a magnitude with infinity. -/
theorem real_of_cmp {x : EReal} (h : Ideal.cmp .olt (max x (-x)) (Ideal.ofBits .f32 0x7F800000#32) = 1#1) : Real' x := by
  rw [inf_eq] at h
  refine real_of_abs_lt ?_
  by_contra hn
  exact absurd h (by simp [Ideal.cmp, hn])

variable (x0 : FVec Ideal S16x64x1024 .f32) (x1 : FVec Ideal S16x2x5632 .f32) (x2 x3 : FVec Ideal S1024 .f32)
  (x4 : FVec Ideal S1024x5632 .f32) (x5 : FVec Ideal S3x5632 .f32) (x6 : FVec Ideal S5632 .f32) (x7 : FVec Ideal S2816x1024 .f32)

/-- The five arrays that the precondition names hold real numbers. -/
theorem reals_of_pre (h : fn (F := Ideal) x0 x1 x2 x3 x4 x5 x6 x7 = fun _ => 1#1) :
    (∀ i, Real' (x1 i)) ∧ (∀ i, Real' (x2 i)) ∧ (∀ i, Real' (x4 i)) ∧ (∀ i, Real' (x5 i)) ∧ ∀ i, Real' (x6 i) := by
  have : Subsingleton S_.Idx := ⟨fun a b => funext fun k => k.elim0⟩
  have e := congrFun h (fun k => k.elim0)
  obtain ⟨e, e6⟩ := IntOp.andi_eq_one.1 e
  obtain ⟨e, e5⟩ := IntOp.andi_eq_one.1 e
  obtain ⟨e, e4⟩ := IntOp.andi_eq_one.1 e
  obtain ⟨e1, e2⟩ := IntOp.andi_eq_one.1 e
  exact ⟨fun i => real_of_cmp (Host.reduce_andi_all _ _ _ _ _ e1 i), fun i => real_of_cmp (Host.reduce_andi_all _ _ _ _ _ e2 i),
    fun i => real_of_cmp (Host.reduce_andi_all _ _ _ _ _ e4 i), fun i => real_of_cmp (Host.reduce_andi_all _ _ _ _ _ e5 i),
    fun i => real_of_cmp (Host.reduce_andi_all _ _ _ _ _ e6 i)⟩

end Cert.ConvFfn

end
-- ==== Proof.FfnClaims.lean ====
/-
  The claims about the ConvFFN call, each on its own: the frames, what the idealization changes, and the equality of the
  results.
-/
module

public import proofs.«01_k».proof.Defs
public import proofs.«01_k».proof.Proof.Gen.Kernel.Frame
public import proofs.«01_k».proof.Proof.KernelValue
public import proofs.«01_k».proof.Proof.Pre

@[expose] public section

set_option maxRecDepth 16384

noncomputable section

namespace Cert.Proof.Ffn

open Idealize.ShloMosaic Idealize.ShloMosaic.TcCoe Idealize.SL.Sem Cert.ConvFfn

/-- The kernel runs, keeps its arguments and ends with every semaphore at zero, on words and on the extended reals. -/
theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_args_finite := fun m ρ _ => Cert.KernelIdeal.Gen.frame m ρ

/-- The reference's run; it declares no semaphore. -/
theorem frame_ref : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)
theorem frame_ref_pre : Cert.quiescent_ReferenceIdeal_pre_args_finite := fun m ρ _ => frame_ref m ρ trivial

/-- The named constant lies within its literal's rounding. -/
theorem preserves : Cert.preserves_Kernel_KernelIdeal :=
  IdealRules.named_const.statement Cert.KernelIdeal.κ "gelu_c1" .f32 0x3D122279#32 ((80338380498831 / 2251799813685248 : ℝ) : EReal) rfl

/-- Where the arguments named by the precondition are real, so is each sequence's share of them. -/
theorem rows_real (m : (ℓ : Loc Cert.KernelIdeal.nD Cert.KernelIdeal.τ Cert.KernelIdeal.sig) → Buf (Elt Ideal) ℓ) (h : Cert.Pre_KernelIdeal_args_finite m)
    (c : Dev Cert.KernelIdeal.nD) (b : Fin 16) : (Cert.KernelIdeal.Value.argRows m c b).Fin' := by
  obtain ⟨h1, h2, h4, h5, h6⟩ := reals_of_pre _ _ _ _ _ _ _ _ (h c)
  exact ⟨fun _ _ => h1 _, fun _ => h2 _, fun _ _ => h4 _, fun _ _ => h5 _, fun _ => h6 _⟩

/-- At the extended reals the kernel's two results are the reference's. -/
theorem algebraic : Cert.algebraic_KernelIdeal_ReferenceIdeal_pre_args_finite := by
  intro m ρ m' ρ' hpre hagree
  refine ⟨_, _, Cert.KernelIdeal.Value.run_blocks (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.KernelIdeal.Value.out_array, Cert.ReferenceIdeal.Read.val_main_v68_eq]
    obtain ⟨a0, a1, a2, a3, a4, a5, a6, a7⟩ := hagree c
    rw [a0, a1, a2, a3, a4, a5, a6, a7]
    funext i
    have e := refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1) (i 2)
    rw [← outS_eq _ (rows_real m hpre c (i 0))] at e
    refine Eq.trans (congrArg _ ?_) e
    funext a; fin_cases a <;> rfl
  · rw [Cert.KernelIdeal.Value.next_array]
    obtain ⟨a0, a1, a2, a3, a4, a5, a6, a7⟩ := hagree c
    rw [a0, a1, a2, a4]
    funext i
    have e := refNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1) (i 2)
    refine Eq.trans (congrArg _ ?_) e
    funext a; fin_cases a <;> rfl

end Cert.Proof.Ffn

end
-- ==== Proof.AttnSpec.lean ====
/-
  The attention layer with sinks over the cached and the new positions, one stream at a time, over the extended reals:
  root-mean-square norm, the three projections, each head's scores with a bias by head, query and key, the softmax whose
  denominator also counts the head's sink, the weighted values, the projection back and the normed residual. How an
  exponential is divided by its denominator is a parameter, since the two programs write it differently.
-/
module

public import proofs.«01_k».proof.Proof.Consts

@[expose] public section

noncomputable section

namespace Cert.SinkAttn

open Idealize.ShloMosaic Cert.ConvFfn

/-- What the layer reads for one stream. -/
structure Rows where
  /-- The new rows. -/
  x : Fin 64 → Fin 1024 → EReal
  /-- The cached keys: position, head, lane. -/
  ck : Fin 128 → Fin 4 → Fin 64 → EReal
  /-- The cached values. -/
  cv : Fin 128 → Fin 4 → Fin 64 → EReal
  /-- The gain before the projections. -/
  gi : Fin 1024 → EReal
  /-- The gain of the residual's norm. -/
  go : Fin 1024 → EReal
  /-- The weights of the three projections side by side. -/
  w : Fin 1024 → Fin 1536 → EReal
  /-- Their bias. -/
  b : Fin 1536 → EReal
  /-- The weights of the projection back. -/
  wo : Fin 1024 → Fin 1024 → EReal
  /-- Its bias. -/
  bo : Fin 1024 → EReal
  /-- The sinks, one a query head. -/
  sk : Fin 16 → EReal
  /-- The bias of a score: key head, query head of its group, query, key. -/
  bias : Fin 4 → Fin 4 → Fin 64 → Fin 192 → EReal

/-- The factor of the scores. -/
def cS : EReal := Ideal.ofBits .f32 0x3E000000#32

/-- The projections of a normed row. -/
def projS (R : Rows) (t : Fin 64) (l : Fin 1536) : EReal := (∑ k, R.x t k * rmsS (R.x t) * R.gi k * R.w k l) + R.b l

/-- The keys: the cached ones, then the new ones. -/
def keyS (R : Rows) (p : Fin 192) (j : Fin 4) (d : Fin 64) : EReal :=
  if h : p.val < 128 then R.ck ⟨p.val, h⟩ j d else projS R ⟨p.val - 128, by omega⟩ ⟨1024 + 64 * j.val + d.val, by omega⟩

/-- The values. -/
def valS (R : Rows) (p : Fin 192) (j : Fin 4) (d : Fin 64) : EReal :=
  if h : p.val < 128 then R.cv ⟨p.val, h⟩ j d else projS R ⟨p.val - 128, by omega⟩ ⟨1280 + 64 * j.val + d.val, by omega⟩

/-- A score. -/
def scoreS (R : Rows) (j g : Fin 4) (q : Fin 64) (p : Fin 192) : EReal :=
  (∑ d : Fin 64, keyS R p j d * projS R q ⟨256 * j.val + 64 * g.val + d.val, by omega⟩) * cS + R.bias j g q p

/-- The sink of a head. -/
def sinkS (R : Rows) (j g : Fin 4) : EReal := R.sk ⟨4 * j.val + g.val, by omega⟩

/-- The greatest of a column of scores and its sink. -/
def topOf (s : Fin 192 → EReal) (k : EReal) : EReal := max (Finset.univ.fold max (Ideal.ofBits .f32 0xFF800000#32) s) k

/-- Its denominator. -/
def denOf (s : Fin 192 → EReal) (k : EReal) : EReal := (∑ p, Ideal.exp (s p - topOf s k)) + Ideal.exp (k - topOf s k)

/-- A head's row: the values under the weights of a query. -/
def attS (D : EReal → EReal → EReal) (R : Rows) (q : Fin 64) (j g : Fin 4) (d : Fin 64) : EReal :=
  ∑ p, D (Ideal.exp (scoreS R j g q p - topOf (scoreS R j g q) (sinkS R j g))) (denOf (scoreS R j g q) (sinkS R j g)) * valS R p j d

/-- The projection back of the heads side by side. -/
def backS (D : EReal → EReal → EReal) (R : Rows) (t : Fin 64) (n : Fin 1024) : EReal :=
  (∑ k : Fin 1024, attS D R t ⟨k.val / 256, by omega⟩ ⟨k.val % 256 / 64, by omega⟩ ⟨k.val % 64, by omega⟩ * R.wo k n) + R.bo n

/-- The layer's row. -/
def outS (D : EReal → EReal → EReal) (R : Rows) (t : Fin 64) (n : Fin 1024) : EReal :=
  R.x t n + backS D R t n * rmsS (backS D R t) * R.go n

/-- The division as the reference writes it. -/
def divR (e d : EReal) : EReal := Ideal.div e d

/-- The division as the kernel writes it. -/
def divK (e d : EReal) : EReal := e * Ideal.div 1 d

theorem bot_eq : Ideal.ofBits .f32 0xFF800000#32 = ⊥ := by
  simp [Ideal.ofBits, Ideal.ieee, -EReal.coe_mul]

theorem cS_eq : cS = ((1 / 8 : ℝ) : EReal) := by
  unfold cS
  simp [Ideal.ofBits, Ideal.ieee, -EReal.coe_mul]
  norm_num

/-- A nonzero denominator gives one quotient. -/
theorem div_eq (e d : EReal) (h : d ≠ 0) : divK e d = divR e d := by
  unfold divK divR Ideal.div
  rw [if_neg h, if_neg h, one_mul]

/-- The scores' factor may be taken into one operand. -/
theorem sum_scale {n : ℕ} (f g : Fin n → EReal) : ∑ d, f d * (g d * cS) = (∑ d, f d * g d) * cS := by
  have h0 : 0 ≤ cS := by rw [cS_eq]; exact_mod_cast (by norm_num : (0 : ℝ) ≤ 1 / 8)
  have ht : cS ≠ ⊤ := by rw [cS_eq]; exact EReal.coe_ne_top _
  have key : ∀ s : Finset (Fin n), ∑ d ∈ s, f d * (g d * cS) = (∑ d ∈ s, f d * g d) * cS := by
    intro s
    induction s using Finset.induction_on with
    | empty => simp
    | insert a s ha ih => rw [Finset.sum_insert ha, Finset.sum_insert ha, ih, EReal.right_distrib_of_nonneg_of_ne_top h0 ht, mul_assoc]
  exact key _

/-- A sum over two halves of which the other one's terms vanish. -/
theorem sum_half (v : Fin 2) (f : Fin 128 → EReal) (h : ∀ l : Fin 128, l.val / 64 ≠ v.val → f l = 0) :
    ∑ l, f l = ∑ d : Fin 64, f ⟨64 * v.val + d.val, by omega⟩ := by
  have e : ∑ l, f l = (∑ d : Fin 64, f ⟨d.val, by omega⟩) + ∑ d : Fin 64, f ⟨64 + d.val, by omega⟩ := Fin.sum_univ_add (a := 64) (b := 64) f
  rw [e]
  fin_cases v
  · rw [Finset.sum_eq_zero (f := fun d : Fin 64 => f ⟨64 + d.val, by omega⟩) fun d _ => h _ (by show (64 + d.val) / 64 ≠ 0; omega), add_zero]
    exact Finset.sum_congr rfl fun d _ => congrArg f (Fin.ext (by show d.val = 64 * 0 + d.val; omega))
  · rw [Finset.sum_eq_zero (f := fun d : Fin 64 => f ⟨d.val, by omega⟩) fun d _ => h _ (by show d.val / 64 ≠ 1; omega), zero_add]
    exact Finset.sum_congr rfl fun d _ => congrArg f (Fin.ext (by show 64 + d.val = 64 * 1 + d.val; omega))

/-- The scores in the order the kernel sums them: keys set in their half of the lanes, queries already scaled. -/
theorem score_half (R : Rows) (j g : Fin 4) (q : Fin 64) (p : Fin 192) (v : Fin 2) (kz qs : Fin 128 → EReal)
    (hk : ∀ l : Fin 128, kz l = if l.val / 64 = v.val then keyS R p j ⟨l.val % 64, by omega⟩ else 0)
    (hq : ∀ d : Fin 64, qs ⟨64 * v.val + d.val, by omega⟩ = projS R q ⟨256 * j.val + 64 * g.val + d.val, by omega⟩ * cS) :
    (∑ l, kz l * qs l) + R.bias j g q p = scoreS R j g q p := by
  have e : ∑ l, kz l * qs l = ∑ d : Fin 64, keyS R p j d * (projS R q ⟨256 * j.val + 64 * g.val + d.val, by omega⟩ * cS) := by
    rw [sum_half v _ fun l hl => by rw [hk, if_neg hl, zero_mul]]
    refine Finset.sum_congr rfl fun d _ => ?_
    rw [hq, hk, if_pos (by show (64 * v.val + d.val) / 64 = v.val; omega)]
    exact congrArg (· * _) (congrArg _ (Fin.ext (by show (64 * v.val + d.val) % 64 = d.val; omega)))
  rw [e, sum_scale]
  rfl

/-- The arguments that the scores depend on are real. -/
structure Rows.Fin' (R : Rows) : Prop where
  ck : ∀ p j d, Real' (R.ck p j d)
  gi : ∀ k, Real' (R.gi k)
  w : ∀ k l, l.val < 1280 → Real' (R.w k l)
  b : ∀ l, l.val < 1280 → Real' (R.b l)
  sk : ∀ h, Real' (R.sk h)
  bias : ∀ j g q p, Real' (R.bias j g q p)

theorem real_projS (R : Rows) (h : R.Fin') (t : Fin 64) (l : Fin 1536) (hl : l.val < 1280) : Real' (projS R t l) :=
  (Real'.sum _ fun k => ((real_norm _ k).mul (h.gi k)).mul (h.w k l hl)).add (h.b l hl)

theorem real_keyS (R : Rows) (h : R.Fin') (p : Fin 192) (j : Fin 4) (d : Fin 64) : Real' (keyS R p j d) := by
  unfold keyS
  split
  · exact h.ck _ _ _
  · exact real_projS R h _ _ (by show 1024 + 64 * j.val + d.val < 1280; omega)

theorem real_scoreS (R : Rows) (h : R.Fin') (j g : Fin 4) (q : Fin 64) (p : Fin 192) : Real' (scoreS R j g q p) :=
  ((Real'.sum _ fun d => (real_keyS R h p j d).mul (real_projS R h q _ (by show 256 * j.val + 64 * g.val + d.val < 1280; omega))).mul ⟨_, cS_eq⟩).add
    (h.bias j g q p)

/-- The greatest of real scores and a real sink is real. -/
theorem real_topOf (s : Fin 192 → EReal) (k : EReal) (hs : ∀ p, Real' (s p)) (hk : Real' k) : Real' (topOf s k) := by
  have key : ∀ S : Finset (Fin 192), Real' (max (S.fold max ⊥ s) k) := by
    intro S
    induction S using Finset.induction_on with
    | empty => simpa using hk
    | insert a S ha ih =>
      rw [Finset.fold_insert ha, max_assoc]
      rcases max_choice (s a) (max (S.fold max ⊥ s) k) with e | e <;> rw [e]
      · exact hs a
      · exact ih
  unfold topOf
  rw [bot_eq]
  exact key _

theorem exp_nonneg (x : EReal) : 0 ≤ Ideal.exp x := by
  unfold Ideal.exp
  split <;> simp [Real.exp_nonneg]

/-- So no denominator is zero. -/
theorem denOf_ne (s : Fin 192 → EReal) (k : EReal) (hs : ∀ p, Real' (s p)) (hk : Real' k) : denOf s k ≠ 0 := by
  obtain ⟨t, ht⟩ := real_topOf s k hs hk
  obtain ⟨r, rfl⟩ := hk
  have h1 : 0 < Ideal.exp ((r : EReal) - topOf s r) := by
    rw [ht, ← EReal.coe_sub]
    show (0 : EReal) < ((Real.exp (r - t) : ℝ) : EReal)
    exact_mod_cast Real.exp_pos _
  have h2 : 0 ≤ ∑ p, Ideal.exp (s p - topOf s r) := Finset.sum_nonneg fun p _ => exp_nonneg _
  exact ne_of_gt (lt_of_lt_of_le h1 (le_add_of_nonneg_left h2))

/-- With real scores the two divisions give one layer. -/
theorem attS_eq (R : Rows) (h : R.Fin') : attS divK R = attS divR R := by
  funext q j g d
  unfold attS
  refine Finset.sum_congr rfl fun p _ => ?_
  exact congrArg (· * _) (div_eq _ _ (denOf_ne _ _ (real_scoreS R h j g q) (h.sk _)))

theorem outS_eq (R : Rows) (h : R.Fin') : outS divK R = outS divR R := by
  have hb : backS divK R = backS divR R := by
    unfold backS
    rw [attS_eq R h]
  unfold outS
  rw [hb]

end Cert.SinkAttn

end
-- ==== Proof.AttnPay.lean ====
/-
  The attention kernel's payloads read at an index, in the layer's terms: the normed rows, the projections, a head's keys
  or values set in one half of the lanes, a pair of heads' scores and their weighted values.
-/
module

public import proofs.«01_k».proof.Proof.AttnSpec
public import proofs.«01_k».proof.Proof.Gen.AttnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SinkAttn

open Cert.AttnIdeal Cert.AttnIdeal.Gen Idealize.ShloMosaic Idealize.ShloMosaic.TcCoe Cert.ConvFfn

section Generic
variable {F : FTy → Type} [FloatOps F]

/-- The lanes at `o` of the new rows' keys or values. -/
def newV (o : ℕ) (h : S4x64x256.Slices ![0, 0, o] S4x64x128) (kv : FVec F S4x64x256 .f32) : FVec F S4x64x128 .f32 :=
  extractStridedSlice S4x64x128 ![0, 0, o] kv h

/-- The two halves of the lanes exchanged. -/
def newSwap (t : FVec F S4x64x128 .f32) : FVec F S4x64x128 .f32 :=
  shapeCast S4x64x128 (dynamicRotate 1 64#32 none (shapeCast S256x128 t shapeCasts_S4x64x128_S256x128 : FVec F S256x128 .f32) rotates_S256x128_d1) shapeCasts_S256x128_S4x64x128

/-- The lanes at `o` of the cached keys or values. -/
def oldV (o : ℕ) (h : S8x128x256.Slices ![0, 0, o] S8x128x128) (kv : Vec F S8x128x256 .f32) : FVec F S8x128x128 .f32 :=
  extractStridedSlice S8x128x128 ![0, 0, o] (shapeCast S8x128x256 kv shapeCasts_S8x128x256_S8x128x256 : FVec F S8x128x256 .f32) h

/-- Their two halves exchanged. -/
def oldSwap (t : FVec F S8x128x128 .f32) : FVec F S8x128x128 .f32 :=
  shapeCast S8x128x128 (dynamicRotate 1 64#32 none (shapeCast S1024x128 t shapeCasts_S8x128x128_S1024x128 : FVec F S1024x128 .f32) rotates_S1024x128_d1) shapeCasts_S1024x128_S8x128x128

/-- The low half kept. -/
def newLow (t : FVec F S4x64x128 .f32) : FVec F S4x1x1x64x128 .bf16 := k0_pay37 t k0_pay35 k0_pay36

/-- The high half kept. -/
def newHigh (t : FVec F S4x64x128 .f32) : FVec F S4x1x1x64x128 .bf16 := k0_pay38 k0_pay28 t

/-- The low half kept. -/
def oldLow (t : FVec F S8x128x128 .f32) : FVec F S8x1x1x128x128 .bf16 := k0_pay29 t

/-- The high half kept. -/
def oldHigh (t : FVec F S8x128x128 .f32) : FVec F S8x1x1x128x128 .bf16 := k0_pay30 t

/-- The scores of a pair of heads that take the same half of the lanes: keys by queries, both heads' queries side by side. -/
def scV (o : ℕ) (h : S384x128.Slices ![o, 0] S192x128) (q0 q1 : Vec F S64x128 .bf16) (k0 k1 : Vec F S1x1x1x192x128 .bf16) (b : Vec F S1x1x192x128 .f32) :
    FVec F S192x128 .f32 :=
  addf (extractStridedSlice S192x128 ![o, 0] (k0_pay113 q0 q1 k0 k1) h) (shapeCast S192x128 b shapeCasts_S1x1x192x128_S192x128 : FVec F S192x128 .f32)

/-- The sinks of a pair of heads. -/
def skV (a b : Elt F .f32) : FVec F S1x128 .f32 := k0_pay116 k0_pay28 a b

/-- A group's four heads: the weighted values of one pair's lanes by the other's rows. -/
def unitV (q0 q1 : Vec F S64x128 .bf16) (k0 k1 : Vec F S1x1x1x192x128 .bf16) (b0 b1 : Vec F S1x1x192x128 .f32) (s0 s2 s1 s3 : Elt F .f32)
    (v0 v1 : Vec F S1x1x1x192x128 .bf16) : FVec F S128x128 .f32 :=
  k0_pay118 k0_pay28 (scV 0 slices_S384x128_o0_0_S192x128 q0 q1 k0 k1 b0) (scV 192 slices_S384x128_o192_0_S192x128 q0 q1 k0 k1 b1)
    (skV s0 s2) (k0_pay117 (scV 0 slices_S384x128_o0_0_S192x128 q0 q1 k0 k1 b0)) s1 s3 v0 v1

end Generic

/-- The mask of the low half. -/
theorem low_apply (l : Fin 128) : k0_pay28 (ix2 0 l) = if l.val < 64 then 1#1 else 0#1 := by
  pointwise [k0_pay28]
  revert l
  decide

theorem sel_low (l : Fin 128) (a b : EReal) : Scalar.select (k0_pay28 (ix2 0 l)) a b = if l.val < 64 then a else b := by
  rw [low_apply]
  split <;> rfl

theorem newV_apply (o : ℕ) (h) (kv : FVec Ideal S4x64x256 .f32) (b : Fin 4) (t : Fin 64) (l : Fin 128) (ho : o + 128 ≤ 256) :
    newV o h kv (ix3 b t l) = kv (ix3 b t ⟨o + l.val, by omega⟩) := by
  pointwise [newV]

theorem newSwap_apply (x : FVec Ideal S4x64x128 .f32) (b : Fin 4) (t : Fin 64) (l : Fin 128) :
    newSwap x (ix3 b t l) = x (ix3 b t ⟨(l.val + 128 - 64) % 128, by omega⟩) := by
  pointwise [newSwap]

theorem oldV_apply (o : ℕ) (h) (kv : FVec Ideal S8x128x256 .f32) (b : Fin 8) (t : Fin 128) (l : Fin 128) (ho : o + 128 ≤ 256) :
    oldV o h kv (ix3 b t l) = kv (ix3 b t ⟨o + l.val, by omega⟩) := by
  pointwise [oldV]

theorem oldSwap_apply (x : FVec Ideal S8x128x128 .f32) (b : Fin 8) (t : Fin 128) (l : Fin 128) :
    oldSwap x (ix3 b t l) = x (ix3 b t ⟨(l.val + 128 - 64) % 128, by omega⟩) := by
  pointwise [oldSwap]

theorem newLow_apply (x : FVec Ideal S4x64x128 .f32) (b : Fin 4) (t : Fin 64) (l : Fin 128) :
    newLow x (ix5 b 0 0 t l) = if l.val < 64 then x (ix3 b t l) else 0 := by
  pointwise [newLow, k0_pay37, k0_pay35, k0_pay36]
  exact sel_low _ _ _

theorem newHigh_apply (x : FVec Ideal S4x64x128 .f32) (b : Fin 4) (t : Fin 64) (l : Fin 128) :
    newHigh x (ix5 b 0 0 t l) = if l.val < 64 then 0 else x (ix3 b t l) := by
  pointwise [newHigh, k0_pay38]
  exact sel_low _ _ _

theorem oldLow_apply (x : FVec Ideal S8x128x128 .f32) (b : Fin 8) (t : Fin 128) (l : Fin 128) :
    oldLow x (ix5 b 0 0 t l) = if l.val < 64 then x (ix3 b t l) else 0 := by
  pointwise [oldLow, k0_pay29]
  exact sel_low _ _ _

theorem oldHigh_apply (x : FVec Ideal S8x128x128 .f32) (b : Fin 8) (t : Fin 128) (l : Fin 128) :
    oldHigh x (ix5 b 0 0 t l) = if l.val < 64 then 0 else x (ix3 b t l) := by
  pointwise [oldHigh, k0_pay30]
  exact sel_low _ _ _

/-- The normed rows. -/
theorem hidden_apply (x : FVec Ideal S4x64x1024 .f32) (gi : FVec Ideal S1x1024 .f32) (r : Fin 256) (k : Fin 1024) :
    k0_pay31 (F := Ideal) x gi (ix2 r k) = x (ix3 ⟨r.val / 64, by omega⟩ ⟨r.val % 64, by omega⟩ k)
      * rmsS (fun k => x (ix3 ⟨r.val / 64, by omega⟩ ⟨r.val % 64, by omega⟩ k)) * gi (ix2 0 k) := by
  pointwise [k0_pay31]
  rfl

/-- The new rows' keys or values. -/
theorem kv_apply (h : FVec Ideal S256x1024 .bf16) (w : FVec Ideal S1x1024x256 .bf16) (c : FVec Ideal S1x256 .f32) (b : Fin 4) (t : Fin 64) (l : Fin 256) :
    k0_pay99 (F := Ideal) h w c (ix3 b t l) = (∑ k, h (ix2 ⟨b.val * 64 + t.val, by omega⟩ k) * w (ix3 0 k l)) + c (ix2 0 l) := by
  pointwise [k0_pay99]

/-- The queries. -/
theorem q_apply (h : FVec Ideal S256x1024 .bf16) (w : FVec Ideal S1x1024x256 .bf16) (c : FVec Ideal S1x256 .f32) (r l : Fin 256) :
    k0_pay62 (F := Ideal) h w c (ix2 r l) = ((∑ k, h (ix2 r k) * w (ix3 0 k l)) + c (ix2 0 l)) * cS := by
  pointwise [k0_pay62]
  rfl

/-- The projection back. -/
theorem back_apply (h : FVec Ideal S256x1024 .bf16) (w : FVec Ideal S1x1024x256 .bf16) (c : FVec Ideal S1x256 .f32) (r l : Fin 256) :
    k0_pay416 (F := Ideal) h w c (ix2 r l) = (∑ k, h (ix2 r k) * w (ix3 0 k l)) + c (ix2 0 l) := by
  pointwise [k0_pay416]

/-- The residual. -/
theorem resid_apply (y : FVec Ideal S256x1024 .f32) (x : FVec Ideal S256x1024 .f32) (go : FVec Ideal S1x1024 .f32) (b : Fin 4) (t : Fin 64) (n : Fin 1024) :
    k0_pay387 (F := Ideal) y x go (ix3 b t n) = x (ix2 ⟨b.val * 64 + t.val, by omega⟩ n)
      + y (ix2 ⟨b.val * 64 + t.val, by omega⟩ n) * rmsS (fun n => y (ix2 ⟨b.val * 64 + t.val, by omega⟩ n)) * go (ix2 0 n) := by
  pointwise [k0_pay387]
  rfl

theorem skV_apply (a b : Elt Ideal .f32) (l : Fin 128) : skV (F := Ideal) a b (ix2 0 l) = if l.val < 64 then a else b := by
  pointwise [skV, k0_pay116]
  exact sel_low _ _ _

theorem sc_apply (o : ℕ) (h) (q0 q1 : FVec Ideal S64x128 .bf16) (k0 k1 : FVec Ideal S1x1x1x192x128 .bf16) (b : FVec Ideal S1x1x192x128 .f32) (p : Fin 192) (l : Fin 128)
    (ho : o + 192 ≤ 384) :
    scV (F := Ideal) o h q0 q1 k0 k1 b (ix2 p l) = (∑ x : Fin 128, (if h_1 : o + p.val < 192 then k0 (ix5 0 0 0 ⟨o + p.val, h_1⟩ x) else k1 (ix5 0 0 0 ⟨o + p.val - 192, by omega⟩ x)) *
      (if h : l.val < 64 then q0 (ix2 ⟨l.val, h⟩ x) else q1 (ix2 ⟨l.val - 64, by omega⟩ x))) + b (ix4 0 0 p l) := by
  pointwise [scV, k0_pay113]

/-- What a group's loads hold, in the layer's terms. -/
structure Loads (R : Rows) (j : Fin 4) (q0 q1 : FVec Ideal S64x128 .bf16) (k0 k1 v0 v1 : FVec Ideal S1x1x1x192x128 .bf16) (b0 b1 : FVec Ideal S1x1x192x128 .f32)
    (s0 s2 s1 s3 : Elt Ideal .f32) : Prop where
  q0 : ∀ (q : Fin 64) (l : Fin 128), q0 (ix2 q l) = projS R q ⟨256 * j.val + l.val, by omega⟩ * cS
  q1 : ∀ (q : Fin 64) (l : Fin 128), q1 (ix2 q l) = projS R q ⟨256 * j.val + 128 + l.val, by omega⟩ * cS
  k0 : ∀ (p : Fin 192) (l : Fin 128), k0 (ix5 0 0 0 p l) = if l.val / 64 = 0 then keyS R p j ⟨l.val % 64, by omega⟩ else 0
  k1 : ∀ (p : Fin 192) (l : Fin 128), k1 (ix5 0 0 0 p l) = if l.val / 64 = 1 then keyS R p j ⟨l.val % 64, by omega⟩ else 0
  v0 : ∀ (p : Fin 192) (l : Fin 128), v0 (ix5 0 0 0 p l) = if l.val / 64 = 0 then valS R p j ⟨l.val % 64, by omega⟩ else 0
  v1 : ∀ (p : Fin 192) (l : Fin 128), v1 (ix5 0 0 0 p l) = if l.val / 64 = 1 then valS R p j ⟨l.val % 64, by omega⟩ else 0
  b0 : ∀ (p : Fin 192) (r : Fin 128), b0 (ix4 0 0 p r) = R.bias j ⟨2 * (r.val / 64), by omega⟩ ⟨r.val % 64, by omega⟩ p
  b1 : ∀ (p : Fin 192) (r : Fin 128), b1 (ix4 0 0 p r) = R.bias j ⟨2 * (r.val / 64) + 1, by omega⟩ ⟨r.val % 64, by omega⟩ p
  s0 : s0 = sinkS R j 0
  s2 : s2 = sinkS R j 2
  s1 : s1 = sinkS R j 1
  s3 : s3 = sinkS R j 3

variable {R : Rows} {j : Fin 4} {q0 q1 : FVec Ideal S64x128 .bf16} {k0 k1 v0 v1 : FVec Ideal S1x1x1x192x128 .bf16} {b0 b1 : FVec Ideal S1x1x192x128 .f32}
  {s0 s2 s1 s3 : Elt Ideal .f32}

/-- A query's row of a pair, in the kernel's lanes. -/
theorem Loads.qrow (H : Loads R j q0 q1 k0 k1 v0 v1 b0 b1 s0 s2 s1 s3) (r x : Fin 128) :
    (if h : r.val < 64 then q0 (ix2 ⟨r.val, h⟩ x) else q1 (ix2 ⟨r.val - 64, by omega⟩ x))
      = projS R ⟨r.val % 64, by omega⟩ ⟨256 * j.val + 128 * (r.val / 64) + x.val, by omega⟩ * cS := by
  split
  · rename_i h
    rw [H.q0]
    exact congrArg (· * _) (congr (congrArg _ (Fin.ext (by show r.val = r.val % 64; omega))) (Fin.ext (by show 256 * j.val + x.val = 256 * j.val + 128 * (r.val / 64) + x.val; omega)))
  · rename_i h
    rw [H.q1]
    exact congrArg (· * _) (congr (congrArg _ (Fin.ext (by show r.val - 64 = r.val % 64; omega))) (Fin.ext (by show 256 * j.val + 128 + x.val = 256 * j.val + 128 * (r.val / 64) + x.val; omega)))

theorem Loads.sc0 (H : Loads R j q0 q1 k0 k1 v0 v1 b0 b1 s0 s2 s1 s3) (h) (p : Fin 192) (r : Fin 128) :
    scV (F := Ideal) 0 h q0 q1 k0 k1 b0 (ix2 p r) = scoreS R j ⟨2 * (r.val / 64), by omega⟩ ⟨r.val % 64, by omega⟩ p := by
  rw [sc_apply 0 h q0 q1 k0 k1 b0 p r (by omega), H.b0]
  refine score_half R j ⟨2 * (r.val / 64), by omega⟩ ⟨r.val % 64, by omega⟩ p 0 _ _ (fun l => ?_) fun d => ?_
  · rw [dif_pos (by omega), H.k0]
    exact if_congr Iff.rfl (congrArg (fun p => keyS R p j _) (Fin.ext (by show 0 + p.val = p.val; omega))) rfl
  · rw [H.qrow]
    exact congrArg (· * _) (congrArg _ (Fin.ext (by show 256 * j.val + 128 * (r.val / 64) + (64 * 0 + d.val) = 256 * j.val + 64 * (2 * (r.val / 64)) + d.val; omega)))

theorem Loads.sc1 (H : Loads R j q0 q1 k0 k1 v0 v1 b0 b1 s0 s2 s1 s3) (h) (p : Fin 192) (r : Fin 128) :
    scV (F := Ideal) 192 h q0 q1 k0 k1 b1 (ix2 p r) = scoreS R j ⟨2 * (r.val / 64) + 1, by omega⟩ ⟨r.val % 64, by omega⟩ p := by
  rw [sc_apply 192 h q0 q1 k0 k1 b1 p r (by omega), H.b1]
  refine score_half R j ⟨2 * (r.val / 64) + 1, by omega⟩ ⟨r.val % 64, by omega⟩ p 1 _ _ (fun l => ?_) fun d => ?_
  · rw [dif_neg (by omega), H.k1]
    exact if_congr Iff.rfl (congrArg (fun p => keyS R p j _) (Fin.ext (by show 192 + p.val - 192 = p.val; omega))) rfl
  · rw [H.qrow]
    exact congrArg (· * _) (congrArg _ (Fin.ext (by show 256 * j.val + 128 * (r.val / 64) + (64 * 1 + d.val) = 256 * j.val + 64 * (2 * (r.val / 64) + 1) + d.val; omega)))

theorem Loads.sk0 (H : Loads R j q0 q1 k0 k1 v0 v1 b0 b1 s0 s2 s1 s3) (r : Fin 128) :
    skV (F := Ideal) s0 s2 (ix2 0 r) = sinkS R j ⟨2 * (r.val / 64), by omega⟩ := by
  rw [skV_apply, H.s0, H.s2]
  split
  · exact congrArg _ (Fin.ext (by show 0 = 2 * (r.val / 64); omega))
  · exact congrArg _ (Fin.ext (by show 2 = 2 * (r.val / 64); omega))

theorem Loads.sk1 (H : Loads R j q0 q1 k0 k1 v0 v1 b0 b1 s0 s2 s1 s3) (r : Fin 128) :
    Scalar.select (k0_pay28 (ix2 0 r)) s1 s3 = sinkS R j ⟨2 * (r.val / 64) + 1, by omega⟩ := by
  rw [sel_low, H.s1, H.s3]
  split
  · exact congrArg _ (Fin.ext (by show 1 = 2 * (r.val / 64) + 1; omega))
  · exact congrArg _ (Fin.ext (by show 3 = 2 * (r.val / 64) + 1; omega))

theorem unit_apply (q0 q1 : FVec Ideal S64x128 .bf16) (k0 k1 v0 v1 : FVec Ideal S1x1x1x192x128 .bf16) (b0 b1 : FVec Ideal S1x1x192x128 .f32) (s0 s2 s1 s3 : Elt Ideal .f32)
    (r l : Fin 128) (S0 S1 : Fin 192 → EReal) (K0 K1 : EReal) (e0 : ∀ p h, scV (F := Ideal) 0 h q0 q1 k0 k1 b0 (ix2 p r) = S0 p)
    (e1 : ∀ p h, scV (F := Ideal) 192 h q0 q1 k0 k1 b1 (ix2 p r) = S1 p) (f0 : skV (F := Ideal) s0 s2 (ix2 0 r) = K0)
    (f1 : Scalar.select (k0_pay28 (ix2 0 r)) s1 s3 = K1) :
    unitV (F := Ideal) q0 q1 k0 k1 b0 b1 s0 s2 s1 s3 v0 v1 (ix2 r l)
      = (∑ p, divK (Ideal.exp (S0 p - topOf S0 K0)) (denOf S0 K0) * v0 (ix5 0 0 0 p l)) + ∑ p, divK (Ideal.exp (S1 p - topOf S1 K1)) (denOf S1 K1) * v1 (ix5 0 0 0 p l) := by
  pointwise [unitV, k0_pay118, k0_pay117]
  simp only [e0, e1, f0, f1]
  rfl

/-- A group's rows. -/
theorem Loads.unit (H : Loads R j q0 q1 k0 k1 v0 v1 b0 b1 s0 s2 s1 s3) (r l : Fin 128) :
    unitV (F := Ideal) q0 q1 k0 k1 b0 b1 s0 s2 s1 s3 v0 v1 (ix2 r l)
      = attS divK R ⟨r.val % 64, by omega⟩ j ⟨2 * (r.val / 64) + l.val / 64, by omega⟩ ⟨l.val % 64, by omega⟩ := by
  rw [unit_apply q0 q1 k0 k1 v0 v1 b0 b1 s0 s2 s1 s3 r l _ _ _ _ (fun p h => H.sc0 h p r) (fun p h => H.sc1 h p r) (H.sk0 r) (H.sk1 r)]
  simp only [H.v0, H.v1]
  unfold attS
  rcases (by omega : l.val / 64 = 0 ∨ l.val / 64 = 1) with hl | hl
  · have eg : (⟨2 * (r.val / 64) + l.val / 64, by omega⟩ : Fin 4) = ⟨2 * (r.val / 64), by omega⟩ := Fin.ext (by show 2 * (r.val / 64) + l.val / 64 = 2 * (r.val / 64); omega)
    rw [eg]
    simp [hl]
  · have eg : (⟨2 * (r.val / 64) + l.val / 64, by omega⟩ : Fin 4) = ⟨2 * (r.val / 64) + 1, by omega⟩ := Fin.ext (by show 2 * (r.val / 64) + l.val / 64 = 2 * (r.val / 64) + 1; omega)
    rw [eg]
    simp [hl]

theorem lo_apply (u : FVec Ideal S128x128 .f32) (q : Fin 64) (l : Fin 128) : k0_pay119 (F := Ideal) u (ix2 q l) = u (ix2 ⟨q.val, by omega⟩ l) := by
  pointwise [k0_pay119]

theorem hi_apply (u : FVec Ideal S128x128 .f32) (q : Fin 64) (l : Fin 128) : k0_pay120 (F := Ideal) u (ix2 q l) = u (ix2 ⟨64 + q.val, by omega⟩ l) := by
  pointwise [k0_pay120]

end Cert.SinkAttn

end
-- ==== Proof.AttnBufs.lean ====
/-
  The buffers a grid point of the attention fills, in the layer's terms, and the pieces and loads of them: the queries, the
  keys and the values set in one half of the lanes, the heads' rows and their projection back.
-/
module

public import proofs.«01_k».proof.Proof.AttnPay
public import Idealize.ShloMosaic.Lib.WholeRead

@[expose] public section

set_option maxRecDepth 16384

noncomputable section

namespace Cert.SinkAttn

open Cert.AttnIdeal Cert.AttnIdeal.Gen Idealize.ShloMosaic Idealize.ShloMosaic.TcCoe Cert.ConvFfn

/-- A load reads what the pieces that cover it store. -/
theorem read_pieces {s : Shape} {e : EltTy} {κ' : Kind} {sp : Space} {v : View sig κ' sp s e} {G : s.Idx → Elt Ideal e} {L : List (View.Piece (Elt Ideal) s e)}
    (hL : View.PiecesOf G L) (B : LoadRect s) (t : LoadRect.Cov) (h : LoadRect.covChk (L.map Sigma.fst) B t = true) (j : B.shape.Idx) :
    v.readCov L B j = G (B.idx j) := by
  rw [View.readCov_eq_canon']
  exact View.canon_apply_of_pieces G L hL.mem _ (LoadRect.cover_of_covChk L B t h j)

variable (x0 : FVec Ideal S8x64x1024 .f32) (x1 x2 : FVec Ideal S8x128x256 .f32) (x3 x4 : FVec Ideal S1x1024 .f32) (x5 : FVec Ideal S1x1024x1536 .bf16)
  (x6 : FVec Ideal S1x1536 .f32) (x7 : FVec Ideal S1x1024x1024 .bf16) (x8 : FVec Ideal S1x1024 .f32) (x9 : FVec Ideal S16 .f32) (x10 : FVec Ideal S4x2x192x128 .f32)

/-- One stream's share of a grid point's blocks. -/
def rowsBlk (b : Fin 8) : Rows where
  x t k := x0 (ix3 b t k)
  ck p j d := x1 (ix3 b p ⟨64 * j.val + d.val, by omega⟩)
  cv p j d := x2 (ix3 b p ⟨64 * j.val + d.val, by omega⟩)
  gi k := x3 (ix2 0 k)
  go k := x4 (ix2 0 k)
  w k l := x5 (ix3 0 k l)
  b l := x6 (ix2 0 l)
  wo k n := x7 (ix3 0 k n)
  bo n := x8 (ix2 0 n)
  sk h := x9 (ix1 h)
  bias j g q p := x10 (ix4 j ⟨g.val % 2, by omega⟩ p ⟨64 * (g.val / 2) + q.val, by omega⟩)

/-- The scaled queries of the eight streams, one under the other. -/
def qB : S512x1024.Idx → Elt Ideal .bf16 := fun y =>
  projS (rowsBlk x0 x1 x2 x3 x4 x5 x6 x7 x8 x9 x10 ⟨(y 0).val / 64, by have h0 : (y 0).val < 512 := (y 0).isLt; omega⟩)
    ⟨(y 0).val % 64, Nat.mod_lt _ (by decide)⟩ ⟨(y 1).val, by have h1 : (y 1).val < 1024 := (y 1).isLt; omega⟩ * cS

/-- Keys or values, cached and new, set in one half of the lanes. -/
def halfB (C : Rows → Fin 128 → Fin 4 → Fin 64 → EReal) (base : ℕ) (hb : base + 256 ≤ 1536) : S8x4x2x192x128.Idx → Elt Ideal .bf16 := fun y =>
  if (y 4).val / 64 = (y 2).val then
    (if h : (y 3).val < 128 then C (rowsBlk x0 x1 x2 x3 x4 x5 x6 x7 x8 x9 x10 ⟨(y 0).val, (y 0).isLt⟩) ⟨(y 3).val, h⟩ ⟨(y 1).val, (y 1).isLt⟩ ⟨(y 4).val % 64, Nat.mod_lt _ (by decide)⟩
    else projS (rowsBlk x0 x1 x2 x3 x4 x5 x6 x7 x8 x9 x10 ⟨(y 0).val, (y 0).isLt⟩)
      ⟨(y 3).val - 128, by have h3 : (y 3).val < 192 := (y 3).isLt; omega⟩
      ⟨base + 64 * (y 1).val + (y 4).val % 64, by have h1 : (y 1).val < 4 := (y 1).isLt; omega⟩)
  else 0

/-- The heads' rows of the eight streams, one under the other. -/
def oB : S512x1024.Idx → Elt Ideal .bf16 := fun y =>
  attS divK (rowsBlk x0 x1 x2 x3 x4 x5 x6 x7 x8 x9 x10 ⟨(y 0).val / 64, by have h0 : (y 0).val < 512 := (y 0).isLt; omega⟩)
    ⟨(y 0).val % 64, Nat.mod_lt _ (by decide)⟩ ⟨(y 1).val / 256, by have h1 : (y 1).val < 1024 := (y 1).isLt; omega⟩
    ⟨(y 1).val % 256 / 64, by omega⟩ ⟨(y 1).val % 64, Nat.mod_lt _ (by decide)⟩

/-- Their projection back. -/
def yB : S512x1024.Idx → Elt Ideal .f32 := fun y =>
  backS divK (rowsBlk x0 x1 x2 x3 x4 x5 x6 x7 x8 x9 x10 ⟨(y 0).val / 64, by have h0 : (y 0).val < 512 := (y 0).isLt; omega⟩)
    ⟨(y 0).val % 64, Nat.mod_lt _ (by decide)⟩ ⟨(y 1).val, (y 1).isLt⟩

/-- The layer's rows of a grid point's eight streams. -/
def outB : S8x64x1024.Idx → Elt Ideal .f32 := fun y =>
  outS divK (rowsBlk x0 x1 x2 x3 x4 x5 x6 x7 x8 x9 x10 ⟨(y 0).val, (y 0).isLt⟩) ⟨(y 1).val, (y 1).isLt⟩ ⟨(y 2).val, (y 2).isLt⟩

/-- Their keys or values. -/
def kvB (base : ℕ) (hb : base + 256 ≤ 1536) : S8x64x256.Idx → Elt Ideal .f32 := fun y =>
  projS (rowsBlk x0 x1 x2 x3 x4 x5 x6 x7 x8 x9 x10 ⟨(y 0).val, (y 0).isLt⟩) ⟨(y 1).val, (y 1).isLt⟩
    ⟨base + (y 2).val, by have h2 : (y 2).val < 256 := (y 2).isLt; omega⟩

variable {arg2 : Memref sig .tc .vmem S8x64x1024 .f32} (harg2 : arg2.IsWhole) {arg3 : Memref sig .tc .vmem S8x128x256 .f32} (harg3 : arg3.IsWhole)
  {arg5 : Memref sig .tc .vmem S1x1024 .f32} (harg5 : arg5.IsWhole) {arg7 : Memref sig .tc .vmem S1x1024x1536 .bf16} (harg7 : arg7.IsWhole)
  {arg8 : Memref sig .tc .vmem S1x1536 .f32} (harg8 : arg8.IsWhole) {arg9 : Memref sig .tc .vmem S1x1024x1024 .bf16} (harg9 : arg9.IsWhole)
  {arg11 : Memref sig .tc .smem S16 .f32} (harg11 : arg11.IsWhole) {arg12 : Memref sig .tc .vmem S4x2x192x128 .f32} (harg12 : arg12.IsWhole)

/-- Four streams' rows. -/
abbrev rdX (o : ℕ) (h : ∀ a, (![o, 0, 0] : Fin S8x64x1024.rank → ℕ) a + S4x64x1024.size a ≤ S8x64x1024.size a) : Vec Ideal S4x64x1024 .f32 :=
  View.readAt (Elt Ideal) arg2.view (Rect.unit (s := S8x64x1024) ![o, 0, 0] S4x64x1024.size h).toLoadRect (harg2.unread x0)

/-- The cached keys or values. -/
abbrev rdC (h : ∀ a, (![0, 0, 0] : Fin S8x128x256.rank → ℕ) a + S8x128x256.size a ≤ S8x128x256.size a) : Vec Ideal S8x128x256 .f32 :=
  View.readAt (Elt Ideal) arg3.view (Rect.unit (s := S8x128x256) ![0, 0, 0] S8x128x256.size h).toLoadRect (harg3.unread x1)

/-- A whole row of gains or of a bias. -/
abbrev rdG (h : ∀ a, (![0, 0] : Fin S1x1024.rank → ℕ) a + S1x1024.size a ≤ S1x1024.size a) : Vec Ideal S1x1024 .f32 :=
  View.readAt (Elt Ideal) arg5.view (Rect.unit (s := S1x1024) ![0, 0] S1x1024.size h).toLoadRect (harg5.unread x3)

/-- 256 columns of a bias of the width of the model. -/
abbrev rdD (o : ℕ) (h : ∀ a, (![0, o] : Fin S1x1024.rank → ℕ) a + S1x256.size a ≤ S1x1024.size a) : Vec Ideal S1x256 .f32 :=
  View.readAt (Elt Ideal) arg5.view (Rect.unit (s := S1x1024) ![0, o] S1x256.size h).toLoadRect (harg5.unread x3)

/-- 256 columns of the projections' weights. -/
abbrev rdW (o : ℕ) (h : ∀ a, (![0, 0, o] : Fin S1x1024x1536.rank → ℕ) a + S1x1024x256.size a ≤ S1x1024x1536.size a) : Vec Ideal S1x1024x256 .bf16 :=
  View.readAt (Elt Ideal) arg7.view (Rect.unit (s := S1x1024x1536) ![0, 0, o] S1x1024x256.size h).toLoadRect (harg7.unread x5)

/-- 256 columns of their bias. -/
abbrev rdB (o : ℕ) (h : ∀ a, (![0, o] : Fin S1x1536.rank → ℕ) a + S1x256.size a ≤ S1x1536.size a) : Vec Ideal S1x256 .f32 :=
  View.readAt (Elt Ideal) arg8.view (Rect.unit (s := S1x1536) ![0, o] S1x256.size h).toLoadRect (harg8.unread x6)

/-- 256 columns of the weights of the projection back. -/
abbrev rdO (o : ℕ) (h : ∀ a, (![0, 0, o] : Fin S1x1024x1024.rank → ℕ) a + S1x1024x256.size a ≤ S1x1024x1024.size a) : Vec Ideal S1x1024x256 .bf16 :=
  View.readAt (Elt Ideal) arg9.view (Rect.unit (s := S1x1024x1024) ![0, 0, o] S1x1024x256.size h).toLoadRect (harg9.unread x7)

/-- A sink. -/
abbrev rdS (o : ℕ) (h : ∀ a, (![o] : Fin S16.rank → ℕ) a + S1.size a ≤ S16.size a) (h1 : 0 < S1.numel) : Elt Ideal .f32 :=
  View.readAt (Elt Ideal) arg11.view (Rect.unit (s := S16) ![o] S1.size h).toLoadRect (harg11.unread x9) (Shape.Idx.first h1)

/-- A pair of heads' bias. -/
abbrev rdT (j v : ℕ) (h : ∀ a, (![j, v, 0, 0] : Fin S4x2x192x128.rank → ℕ) a + S1x1x192x128.size a ≤ S4x2x192x128.size a) : Vec Ideal S1x1x192x128 .f32 :=
  View.readAt (Elt Ideal) arg12.view (Rect.unit (s := S4x2x192x128) ![j, v, 0, 0] S1x1x192x128.size h).toLoadRect (harg12.unread x10)

theorem rdX_apply (o : ℕ) (h) (ho : o + 4 ≤ 8) (b : Fin 4) (t : Fin 64) (k : Fin 1024) : rdX x0 harg2 o h (ix3 b t k) = x0 (ix3 ⟨o + b.val, by omega⟩ t k) := by
  refine (Memref.IsWhole.readAt_unread (Val := Elt Ideal) harg2 x0 _ _).trans (congrArg x0 ?_)
  funext a
  fin_cases a
  · exact Fin.ext (by show o + 1 * b.val = o + b.val; omega)
  · exact Fin.ext (by show 0 + 1 * t.val = t.val; omega)
  · exact Fin.ext (by show 0 + 1 * k.val = k.val; omega)

theorem rdC_apply (h) (b : Fin 8) (t : Fin 128) (k : Fin 256) : rdC x1 harg3 h (ix3 b t k) = x1 (ix3 b t k) := by
  refine (Memref.IsWhole.readAt_unread (Val := Elt Ideal) harg3 x1 _ _).trans (congrArg x1 ?_)
  funext a
  fin_cases a
  · exact Fin.ext (by show 0 + 1 * b.val = b.val; omega)
  · exact Fin.ext (by show 0 + 1 * t.val = t.val; omega)
  · exact Fin.ext (by show 0 + 1 * k.val = k.val; omega)

theorem rdG_apply (h) (k : Fin 1024) : rdG x3 harg5 h (ix2 0 k) = x3 (ix2 0 k) := by
  refine (Memref.IsWhole.readAt_unread (Val := Elt Ideal) harg5 x3 _ _).trans (congrArg x3 ?_)
  funext a
  fin_cases a
  · rfl
  · exact Fin.ext (by show 0 + 1 * k.val = k.val; omega)

theorem rdD_apply (o : ℕ) (h) (ho : o + 256 ≤ 1024) (k : Fin 256) : rdD x3 harg5 o h (ix2 0 k) = x3 (ix2 0 ⟨o + k.val, by omega⟩) := by
  refine (Memref.IsWhole.readAt_unread (Val := Elt Ideal) harg5 x3 _ _).trans (congrArg x3 ?_)
  funext a
  fin_cases a
  · rfl
  · exact Fin.ext (by show o + 1 * k.val = o + k.val; omega)

theorem rdW_apply (o : ℕ) (h) (ho : o + 256 ≤ 1536) (k : Fin 1024) (l : Fin 256) : rdW x5 harg7 o h (ix3 0 k l) = x5 (ix3 0 k ⟨o + l.val, by omega⟩) := by
  refine (Memref.IsWhole.readAt_unread (Val := Elt Ideal) harg7 x5 _ _).trans (congrArg x5 ?_)
  funext a
  fin_cases a
  · rfl
  · exact Fin.ext (by show 0 + 1 * k.val = k.val; omega)
  · exact Fin.ext (by show o + 1 * l.val = o + l.val; omega)

theorem rdB_apply (o : ℕ) (h) (ho : o + 256 ≤ 1536) (k : Fin 256) : rdB x6 harg8 o h (ix2 0 k) = x6 (ix2 0 ⟨o + k.val, by omega⟩) := by
  refine (Memref.IsWhole.readAt_unread (Val := Elt Ideal) harg8 x6 _ _).trans (congrArg x6 ?_)
  funext a
  fin_cases a
  · rfl
  · exact Fin.ext (by show o + 1 * k.val = o + k.val; omega)

theorem rdO_apply (o : ℕ) (h) (ho : o + 256 ≤ 1024) (k : Fin 1024) (l : Fin 256) : rdO x7 harg9 o h (ix3 0 k l) = x7 (ix3 0 k ⟨o + l.val, by omega⟩) := by
  refine (Memref.IsWhole.readAt_unread (Val := Elt Ideal) harg9 x7 _ _).trans (congrArg x7 ?_)
  funext a
  fin_cases a
  · rfl
  · exact Fin.ext (by show 0 + 1 * k.val = k.val; omega)
  · exact Fin.ext (by show o + 1 * l.val = o + l.val; omega)

theorem rdS_apply (o : ℕ) (h) (h1) (ho : o < 16) : rdS x9 harg11 o h h1 = x9 (ix1 ⟨o, ho⟩) := by
  refine (Memref.IsWhole.readAt_unread (Val := Elt Ideal) harg11 x9 _ _).trans (congrArg x9 ?_)
  funext a
  fin_cases a
  exact Fin.ext (by show o + 1 * 0 = o; omega)

theorem rdT_apply (j v : ℕ) (h) (hj : j < 4) (hv : v < 2) (p : Fin 192) (l : Fin 128) : rdT x10 harg12 j v h (ix4 0 0 p l) = x10 (ix4 ⟨j, hj⟩ ⟨v, hv⟩ p l) := by
  refine (Memref.IsWhole.readAt_unread (Val := Elt Ideal) harg12 x10 _ _).trans (congrArg x10 ?_)
  funext a
  fin_cases a
  · exact Fin.ext (by show j + 1 * 0 = j; omega)
  · exact Fin.ext (by show v + 1 * 0 = v; omega)
  · exact Fin.ext (by show 0 + 1 * p.val = p.val; omega)
  · exact Fin.ext (by show 0 + 1 * l.val = l.val; omega)

/-- The normed rows of four streams. -/
abbrev hid (o : ℕ) (h : ∀ a, (![o, 0, 0] : Fin S8x64x1024.rank → ℕ) a + S4x64x1024.size a ≤ S8x64x1024.size a)
    (hg : ∀ a, (![0, 0] : Fin S1x1024.rank → ℕ) a + S1x1024.size a ≤ S1x1024.size a) : FVec Ideal S256x1024 .bf16 :=
  k0_pay31 (F := Ideal) (rdX x0 harg2 o h) (rdG x3 harg5 hg)

theorem hid_apply (o : ℕ) (h) (hg) (ho : o + 4 ≤ 8) (r : Fin 256) (k : Fin 1024) :
    hid x0 x3 harg2 harg5 o h hg (ix2 r k) = x0 (ix3 ⟨o + r.val / 64, by omega⟩ ⟨r.val % 64, by omega⟩ k)
      * rmsS (fun k => x0 (ix3 ⟨o + r.val / 64, by omega⟩ ⟨r.val % 64, by omega⟩ k)) * x3 (ix2 0 k) := by
  unfold hid
  rw [hidden_apply, rdG_apply]
  simp only [rdX_apply x0 harg2 o h ho]

/-- The projections of four streams' normed rows. -/
theorem proj_rows (o base : ℕ) (h) (hg) (hw) (hc) (ho : o + 4 ≤ 8) (hb : base + 256 ≤ 1536) (r l : Fin 256) :
    (∑ k, hid x0 x3 harg2 harg5 o h hg (ix2 r k) * rdW x5 harg7 base hw (ix3 0 k l)) + rdB x6 harg8 base hc (ix2 0 l)
      = projS (rowsBlk x0 x1 x2 x3 x4 x5 x6 x7 x8 x9 x10 ⟨o + r.val / 64, by omega⟩) ⟨r.val % 64, by omega⟩ ⟨base + l.val, by omega⟩ := by
  rw [rdB_apply x6 harg8 base hc hb]
  simp only [hid_apply x0 x3 harg2 harg5 o h hg ho, rdW_apply x5 harg7 base hw hb]
  rfl

/-- Four streams' keys or values. -/
abbrev kvV (o base : ℕ) (h : ∀ a, (![o, 0, 0] : Fin S8x64x1024.rank → ℕ) a + S4x64x1024.size a ≤ S8x64x1024.size a)
    (hg : ∀ a, (![0, 0] : Fin S1x1024.rank → ℕ) a + S1x1024.size a ≤ S1x1024.size a)
    (hw : ∀ a, (![0, 0, base] : Fin S1x1024x1536.rank → ℕ) a + S1x1024x256.size a ≤ S1x1024x1536.size a)
    (hc : ∀ a, (![0, base] : Fin S1x1536.rank → ℕ) a + S1x256.size a ≤ S1x1536.size a) : FVec Ideal S4x64x256 .f32 :=
  k0_pay99 (F := Ideal) (hid x0 x3 harg2 harg5 o h hg) (rdW x5 harg7 base hw) (rdB x6 harg8 base hc)

theorem kvV_apply (o base : ℕ) (h) (hg) (hw) (hc) (ho : o + 4 ≤ 8) (hb : base + 256 ≤ 1536) (b : Fin 4) (t : Fin 64) (l : Fin 256) :
    kvV x0 x3 x5 x6 harg2 harg5 harg7 harg8 o base h hg hw hc (ix3 b t l)
      = projS (rowsBlk x0 x1 x2 x3 x4 x5 x6 x7 x8 x9 x10 ⟨o + b.val, by omega⟩) t ⟨base + l.val, by omega⟩ := by
  refine (kv_apply _ _ _ b t l).trans ?_
  rw [proj_rows x0 x1 x2 x3 x4 x5 x6 x7 x8 x9 x10 harg2 harg5 harg7 harg8 o base h hg hw hc ho hb]
  have e1 : (⟨o + (b.val * 64 + t.val) / 64, by omega⟩ : Fin 8) = ⟨o + b.val, by omega⟩ := Fin.ext (by show o + (b.val * 64 + t.val) / 64 = o + b.val; omega)
  have e2 : (⟨(b.val * 64 + t.val) % 64, by omega⟩ : Fin 64) = t := Fin.ext (by show (b.val * 64 + t.val) % 64 = t.val; omega)
  rw [e1, e2]

/-- A store of four streams' queries. -/
theorem q_piece (o r0 c0 : ℕ) (h) (hg) (hw) (hc) (ho : o + 4 ≤ 8) (hr : r0 = 64 * o) (hb : c0 + 256 ≤ 1024)
    (hs : ∀ a, (![r0, c0] : Fin S512x1024.rank → ℕ) a + S256x256.size a ≤ S512x1024.size a) (y : (Rect.unit (s := S512x1024) ![r0, c0] S256x256.size hs).shape.Idx) :
    k0_pay62 (F := Ideal) (hid x0 x3 harg2 harg5 o h hg) (rdW x5 harg7 c0 hw) (rdB x6 harg8 c0 hc) y
      = qB x0 x1 x2 x3 x4 x5 x6 x7 x8 x9 x10 ((Rect.unit (s := S512x1024) ![r0, c0] S256x256.size hs).emb y) := by
  have h0 : (y 0).val < 256 := (y 0).isLt
  have h1 : (y 1).val < 256 := (y 1).isLt
  have ey : y = ix2 (n0 := 256) (n1 := 256) ⟨(y 0).val, h0⟩ ⟨(y 1).val, h1⟩ := by
    funext a; fin_cases a <;> rfl
  rw [ey]
  refine (q_apply _ _ _ _ _).trans ?_
  rw [proj_rows x0 x1 x2 x3 x4 x5 x6 x7 x8 x9 x10 harg2 harg5 harg7 harg8 o c0 h hg hw hc ho (by omega)]
  unfold qB
  have e0 : (((Rect.unit (s := S512x1024) ![r0, c0] S256x256.size hs).emb (ix2 (n0 := 256) (n1 := 256) ⟨(y 0).val, h0⟩ ⟨(y 1).val, h1⟩)) 0).val = r0 + (y 0).val := by
    show r0 + 1 * (y 0).val = _; omega
  have e1 : (((Rect.unit (s := S512x1024) ![r0, c0] S256x256.size hs).emb (ix2 (n0 := 256) (n1 := 256) ⟨(y 0).val, h0⟩ ⟨(y 1).val, h1⟩)) 1).val = c0 + (y 1).val := by
    show c0 + 1 * (y 1).val = _; omega
  simp only [e0, e1]
  have f0 : (⟨(r0 + (y 0).val) / 64, by omega⟩ : Fin 8) = ⟨o + (y 0).val / 64, by omega⟩ := Fin.ext (by show (r0 + (y 0).val) / 64 = o + (y 0).val / 64; omega)
  have f1 : (⟨(r0 + (y 0).val) % 64, by omega⟩ : Fin 64) = ⟨(y 0).val % 64, by omega⟩ := Fin.ext (by show (r0 + (y 0).val) % 64 = (y 0).val % 64; omega)
  rw [f0, f1]

/-- A head's queries read back. -/
theorem q_load (s j w r0 c0 : ℕ) (hs : s < 8) (hj : j < 4) (hw : w < 2) (hr : r0 = 64 * s) (hc : c0 = 256 * j + 128 * w)
    (h : ∀ a, (![r0, c0] : Fin S512x1024.rank → ℕ) a + S64x128.size a ≤ S512x1024.size a) (q : Fin 64) (l : Fin 128) :
    qB x0 x1 x2 x3 x4 x5 x6 x7 x8 x9 x10 ((Rect.unit (s := S512x1024) ![r0, c0] S64x128.size h).toLoadRect.idx (ix2 (n0 := 64) (n1 := 128) q l))
      = projS (rowsBlk x0 x1 x2 x3 x4 x5 x6 x7 x8 x9 x10 ⟨s, hs⟩) q ⟨256 * j + 128 * w + l.val, by omega⟩ * cS := by
  unfold qB
  have e0 : (((Rect.unit (s := S512x1024) ![r0, c0] S64x128.size h).toLoadRect.idx (ix2 (n0 := 64) (n1 := 128) q l)) 0).val = r0 + q.val := by
    show r0 + 1 * q.val = _; omega
  have e1 : (((Rect.unit (s := S512x1024) ![r0, c0] S64x128.size h).toLoadRect.idx (ix2 (n0 := 64) (n1 := 128) q l)) 1).val = c0 + l.val := by
    show c0 + 1 * l.val = _; omega
  simp only [e0, e1]
  have f0 : (⟨(r0 + q.val) / 64, by omega⟩ : Fin 8) = ⟨s, hs⟩ := Fin.ext (by show (r0 + q.val) / 64 = s; omega)
  have f1 : (⟨(r0 + q.val) % 64, by omega⟩ : Fin 64) = q := Fin.ext (by show (r0 + q.val) % 64 = q.val; omega)
  have f2 : (⟨c0 + l.val, by omega⟩ : Fin 1536) = ⟨256 * j + 128 * w + l.val, by omega⟩ := Fin.ext (by show c0 + l.val = 256 * j + 128 * w + l.val; omega)
  rw [f0, f1, f2]

variable (C : Rows → Fin 128 → Fin 4 → Fin 64 → EReal) (base : ℕ) (hb : base + 256 ≤ 1536)

/-- A store of the new rows' keys or values of one head in one half of the lanes. -/
theorem new_piece (o j v : ℕ) (ho : o + 4 ≤ 8) (hj : j < 4) (P : FVec Ideal S4x1x1x64x128 .bf16)
    (hP : ∀ (b : Fin 4) (t : Fin 64) (l : Fin 128), P (ix5 b 0 0 t l) = if l.val / 64 = v then
      projS (rowsBlk x0 x1 x2 x3 x4 x5 x6 x7 x8 x9 x10 ⟨o + b.val, by omega⟩) t ⟨base + 64 * j + l.val % 64, by omega⟩ else 0)
    (hs : ∀ a, (![o, j, v, 128, 0] : Fin S8x4x2x192x128.rank → ℕ) a + S4x1x1x64x128.size a ≤ S8x4x2x192x128.size a)
    (y : (Rect.unit (s := S8x4x2x192x128) ![o, j, v, 128, 0] S4x1x1x64x128.size hs).shape.Idx) :
    P y = halfB x0 x1 x2 x3 x4 x5 x6 x7 x8 x9 x10 C base hb ((Rect.unit (s := S8x4x2x192x128) ![o, j, v, 128, 0] S4x1x1x64x128.size hs).emb y) := by
  have h0 : (y 0).val < 4 := (y 0).isLt
  have h1 : (y 1).val < 1 := (y 1).isLt
  have h2 : (y 2).val < 1 := (y 2).isLt
  have h3 : (y 3).val < 64 := (y 3).isLt
  have h4 : (y 4).val < 128 := (y 4).isLt
  have ey : y = ix5 (n0 := 4) (n1 := 1) (n2 := 1) (n3 := 64) (n4 := 128) ⟨(y 0).val, h0⟩ 0 0 ⟨(y 3).val, h3⟩ ⟨(y 4).val, h4⟩ := by
    funext a
    fin_cases a
    · rfl
    · exact Fin.ext (by show (y 1).val = 0; omega)
    · exact Fin.ext (by show (y 2).val = 0; omega)
    · rfl
    · rfl
  rw [ey]
  refine (hP _ _ _).trans ?_
  unfold halfB
  have e0 : (((Rect.unit (s := S8x4x2x192x128) ![o, j, v, 128, 0] S4x1x1x64x128.size hs).emb (ix5 (n0 := 4) (n1 := 1) (n2 := 1) (n3 := 64) (n4 := 128) ⟨(y 0).val, h0⟩ 0 0 ⟨(y 3).val, h3⟩ ⟨(y 4).val, h4⟩)) 0).val = o + (y 0).val := by
    show o + 1 * (y 0).val = _; omega
  have e1 : (((Rect.unit (s := S8x4x2x192x128) ![o, j, v, 128, 0] S4x1x1x64x128.size hs).emb (ix5 (n0 := 4) (n1 := 1) (n2 := 1) (n3 := 64) (n4 := 128) ⟨(y 0).val, h0⟩ 0 0 ⟨(y 3).val, h3⟩ ⟨(y 4).val, h4⟩)) 1).val = j := by
    show j + 1 * 0 = _; omega
  have e2 : (((Rect.unit (s := S8x4x2x192x128) ![o, j, v, 128, 0] S4x1x1x64x128.size hs).emb (ix5 (n0 := 4) (n1 := 1) (n2 := 1) (n3 := 64) (n4 := 128) ⟨(y 0).val, h0⟩ 0 0 ⟨(y 3).val, h3⟩ ⟨(y 4).val, h4⟩)) 2).val = v := by
    show v + 1 * 0 = _; omega
  have e3 : (((Rect.unit (s := S8x4x2x192x128) ![o, j, v, 128, 0] S4x1x1x64x128.size hs).emb (ix5 (n0 := 4) (n1 := 1) (n2 := 1) (n3 := 64) (n4 := 128) ⟨(y 0).val, h0⟩ 0 0 ⟨(y 3).val, h3⟩ ⟨(y 4).val, h4⟩)) 3).val = 128 + (y 3).val := by
    show 128 + 1 * (y 3).val = _; omega
  have e4 : (((Rect.unit (s := S8x4x2x192x128) ![o, j, v, 128, 0] S4x1x1x64x128.size hs).emb (ix5 (n0 := 4) (n1 := 1) (n2 := 1) (n3 := 64) (n4 := 128) ⟨(y 0).val, h0⟩ 0 0 ⟨(y 3).val, h3⟩ ⟨(y 4).val, h4⟩)) 4).val = (y 4).val := by
    show 0 + 1 * (y 4).val = _; omega
  simp only [e0, e1, e2, e3, e4]
  rw [dif_neg (by omega)]
  have f : (⟨128 + (y 3).val - 128, by omega⟩ : Fin 64) = ⟨(y 3).val, h3⟩ := Fin.ext (by show 128 + (y 3).val - 128 = (y 3).val; omega)
  rw [f]

/-- A store of the cached keys or values of one head in one half of the lanes. -/
theorem old_piece (j v : ℕ) (hj : j < 4) (P : FVec Ideal S8x1x1x128x128 .bf16)
    (hP : ∀ (b : Fin 8) (t : Fin 128) (l : Fin 128), P (ix5 b 0 0 t l) = if l.val / 64 = v then
      C (rowsBlk x0 x1 x2 x3 x4 x5 x6 x7 x8 x9 x10 b) t ⟨j, hj⟩ ⟨l.val % 64, by omega⟩ else 0)
    (hs : ∀ a, (![0, j, v, 0, 0] : Fin S8x4x2x192x128.rank → ℕ) a + S8x1x1x128x128.size a ≤ S8x4x2x192x128.size a)
    (y : (Rect.unit (s := S8x4x2x192x128) ![0, j, v, 0, 0] S8x1x1x128x128.size hs).shape.Idx) :
    P y = halfB x0 x1 x2 x3 x4 x5 x6 x7 x8 x9 x10 C base hb ((Rect.unit (s := S8x4x2x192x128) ![0, j, v, 0, 0] S8x1x1x128x128.size hs).emb y) := by
  have h0 : (y 0).val < 8 := (y 0).isLt
  have h1 : (y 1).val < 1 := (y 1).isLt
  have h2 : (y 2).val < 1 := (y 2).isLt
  have h3 : (y 3).val < 128 := (y 3).isLt
  have h4 : (y 4).val < 128 := (y 4).isLt
  have ey : y = ix5 (n0 := 8) (n1 := 1) (n2 := 1) (n3 := 128) (n4 := 128) ⟨(y 0).val, h0⟩ 0 0 ⟨(y 3).val, h3⟩ ⟨(y 4).val, h4⟩ := by
    funext a
    fin_cases a
    · rfl
    · exact Fin.ext (by show (y 1).val = 0; omega)
    · exact Fin.ext (by show (y 2).val = 0; omega)
    · rfl
    · rfl
  rw [ey]
  refine (hP _ _ _).trans ?_
  unfold halfB
  have e0 : (((Rect.unit (s := S8x4x2x192x128) ![0, j, v, 0, 0] S8x1x1x128x128.size hs).emb (ix5 (n0 := 8) (n1 := 1) (n2 := 1) (n3 := 128) (n4 := 128) ⟨(y 0).val, h0⟩ 0 0 ⟨(y 3).val, h3⟩ ⟨(y 4).val, h4⟩)) 0).val = (y 0).val := by
    show 0 + 1 * (y 0).val = _; omega
  have e1 : (((Rect.unit (s := S8x4x2x192x128) ![0, j, v, 0, 0] S8x1x1x128x128.size hs).emb (ix5 (n0 := 8) (n1 := 1) (n2 := 1) (n3 := 128) (n4 := 128) ⟨(y 0).val, h0⟩ 0 0 ⟨(y 3).val, h3⟩ ⟨(y 4).val, h4⟩)) 1).val = j := by
    show j + 1 * 0 = _; omega
  have e2 : (((Rect.unit (s := S8x4x2x192x128) ![0, j, v, 0, 0] S8x1x1x128x128.size hs).emb (ix5 (n0 := 8) (n1 := 1) (n2 := 1) (n3 := 128) (n4 := 128) ⟨(y 0).val, h0⟩ 0 0 ⟨(y 3).val, h3⟩ ⟨(y 4).val, h4⟩)) 2).val = v := by
    show v + 1 * 0 = _; omega
  have e3 : (((Rect.unit (s := S8x4x2x192x128) ![0, j, v, 0, 0] S8x1x1x128x128.size hs).emb (ix5 (n0 := 8) (n1 := 1) (n2 := 1) (n3 := 128) (n4 := 128) ⟨(y 0).val, h0⟩ 0 0 ⟨(y 3).val, h3⟩ ⟨(y 4).val, h4⟩)) 3).val = (y 3).val := by
    show 0 + 1 * (y 3).val = _; omega
  have e4 : (((Rect.unit (s := S8x4x2x192x128) ![0, j, v, 0, 0] S8x1x1x128x128.size hs).emb (ix5 (n0 := 8) (n1 := 1) (n2 := 1) (n3 := 128) (n4 := 128) ⟨(y 0).val, h0⟩ 0 0 ⟨(y 3).val, h3⟩ ⟨(y 4).val, h4⟩)) 4).val = (y 4).val := by
    show 0 + 1 * (y 4).val = _; omega
  simp only [e0, e1, e2, e3, e4]
  rw [dif_pos h3]

/-- One head's keys or values of one stream read back. -/
theorem half_load (s j v : ℕ) (hs : s < 8) (hj : j < 4)
    (h : ∀ a, (![s, j, v, 0, 0] : Fin S8x4x2x192x128.rank → ℕ) a + S1x1x1x192x128.size a ≤ S8x4x2x192x128.size a) (p : Fin 192) (l : Fin 128) :
    halfB x0 x1 x2 x3 x4 x5 x6 x7 x8 x9 x10 C base hb
      ((Rect.unit (s := S8x4x2x192x128) ![s, j, v, 0, 0] S1x1x1x192x128.size h).toLoadRect.idx (ix5 (n0 := 1) (n1 := 1) (n2 := 1) (n3 := 192) (n4 := 128) 0 0 0 p l))
      = if l.val / 64 = v then
          (if h : p.val < 128 then C (rowsBlk x0 x1 x2 x3 x4 x5 x6 x7 x8 x9 x10 ⟨s, hs⟩) ⟨p.val, h⟩ ⟨j, hj⟩ ⟨l.val % 64, by omega⟩
          else projS (rowsBlk x0 x1 x2 x3 x4 x5 x6 x7 x8 x9 x10 ⟨s, hs⟩) ⟨p.val - 128, by omega⟩ ⟨base + 64 * j + l.val % 64, by omega⟩) else 0 := by
  unfold halfB
  have e0 : (((Rect.unit (s := S8x4x2x192x128) ![s, j, v, 0, 0] S1x1x1x192x128.size h).toLoadRect.idx (ix5 (n0 := 1) (n1 := 1) (n2 := 1) (n3 := 192) (n4 := 128) 0 0 0 p l)) 0).val = s := by
    show s + 1 * 0 = _; omega
  have e1 : (((Rect.unit (s := S8x4x2x192x128) ![s, j, v, 0, 0] S1x1x1x192x128.size h).toLoadRect.idx (ix5 (n0 := 1) (n1 := 1) (n2 := 1) (n3 := 192) (n4 := 128) 0 0 0 p l)) 1).val = j := by
    show j + 1 * 0 = _; omega
  have e2 : (((Rect.unit (s := S8x4x2x192x128) ![s, j, v, 0, 0] S1x1x1x192x128.size h).toLoadRect.idx (ix5 (n0 := 1) (n1 := 1) (n2 := 1) (n3 := 192) (n4 := 128) 0 0 0 p l)) 2).val = v := by
    show v + 1 * 0 = _; omega
  have e3 : (((Rect.unit (s := S8x4x2x192x128) ![s, j, v, 0, 0] S1x1x1x192x128.size h).toLoadRect.idx (ix5 (n0 := 1) (n1 := 1) (n2 := 1) (n3 := 192) (n4 := 128) 0 0 0 p l)) 3).val = p.val := by
    show 0 + 1 * p.val = _; omega
  have e4 : (((Rect.unit (s := S8x4x2x192x128) ![s, j, v, 0, 0] S1x1x1x192x128.size h).toLoadRect.idx (ix5 (n0 := 1) (n1 := 1) (n2 := 1) (n3 := 192) (n4 := 128) 0 0 0 p l)) 4).val = l.val := by
    show 0 + 1 * l.val = _; omega
  simp only [e0, e1, e2, e3, e4]

/-- New rows of an even head, first half. -/
theorem new_lo (o j c : ℕ) (ho : o + 4 ≤ 8) (hj : j < 4) (hc : c = 64 * j) (hc2 : c + 128 ≤ 256) (h) (hg) (hw) (hd) (hs)
    (hr : ∀ a, (![o, j, 0, 128, 0] : Fin S8x4x2x192x128.rank → ℕ) a + S4x1x1x64x128.size a ≤ S8x4x2x192x128.size a)
    (y : (Rect.unit (s := S8x4x2x192x128) ![o, j, 0, 128, 0] S4x1x1x64x128.size hr).shape.Idx) :
    newLow (F := Ideal) (newV c hs (kvV x0 x3 x5 x6 harg2 harg5 harg7 harg8 o base h hg hw hd)) y
      = halfB x0 x1 x2 x3 x4 x5 x6 x7 x8 x9 x10 C base hb ((Rect.unit (s := S8x4x2x192x128) ![o, j, 0, 128, 0] S4x1x1x64x128.size hr).emb y) := by
  refine new_piece x0 x1 x2 x3 x4 x5 x6 x7 x8 x9 x10 C base hb o j 0 ho hj _ (fun b t l => ?_) hr y
  rw [newLow_apply]
  by_cases hl : l.val < 64
  · rw [if_pos hl, if_pos (by omega), newV_apply c hs _ _ _ _ hc2, kvV_apply x0 x1 x2 x3 x4 x5 x6 x7 x8 x9 x10 harg2 harg5 harg7 harg8 o base h hg hw hd ho hb]
    exact congrArg _ (Fin.ext (by show base + (c + l.val) = base + 64 * j + l.val % 64; omega))
  · rw [if_neg hl, if_neg (by omega)]

/-- Cached rows of an even head, first half. -/
theorem old_lo (j c : ℕ) (hj : j < 4) (hc : c = 64 * j) (hc2 : c + 128 ≤ 256) (z : FVec Ideal S8x128x256 .f32) (h) (hs)
    (hz : ∀ b t (d : Fin 64), z (ix3 b t ⟨64 * j + d.val, by omega⟩) = C (rowsBlk x0 x1 x2 x3 x4 x5 x6 x7 x8 x9 x10 b) t ⟨j, hj⟩ d)
    (hr : ∀ a, (![0, j, 0, 0, 0] : Fin S8x4x2x192x128.rank → ℕ) a + S8x1x1x128x128.size a ≤ S8x4x2x192x128.size a)
    (y : (Rect.unit (s := S8x4x2x192x128) ![0, j, 0, 0, 0] S8x1x1x128x128.size hr).shape.Idx) :
    oldLow (F := Ideal) (oldV c hs (rdC z harg3 h)) y
      = halfB x0 x1 x2 x3 x4 x5 x6 x7 x8 x9 x10 C base hb ((Rect.unit (s := S8x4x2x192x128) ![0, j, 0, 0, 0] S8x1x1x128x128.size hr).emb y) := by
  refine old_piece x0 x1 x2 x3 x4 x5 x6 x7 x8 x9 x10 C base hb j 0 hj _ (fun b t l => ?_) hr y
  rw [oldLow_apply]
  by_cases hl : l.val < 64
  · rw [if_pos hl, if_pos (by omega), oldV_apply c hs _ _ _ _ hc2, rdC_apply z harg3 h, ← hz b t ⟨l.val % 64, by omega⟩]
    exact congrArg z (congrArg _ (Fin.ext (by show c + l.val = 64 * j + l.val % 64; omega)))
  · rw [if_neg hl, if_neg (by omega)]

/-- New rows of an even head, second half. -/
theorem new_hi_swap (o j c : ℕ) (ho : o + 4 ≤ 8) (hj : j < 4) (hc : c = 64 * j) (hc2 : c + 128 ≤ 256) (h) (hg) (hw) (hd) (hs)
    (hr : ∀ a, (![o, j, 1, 128, 0] : Fin S8x4x2x192x128.rank → ℕ) a + S4x1x1x64x128.size a ≤ S8x4x2x192x128.size a)
    (y : (Rect.unit (s := S8x4x2x192x128) ![o, j, 1, 128, 0] S4x1x1x64x128.size hr).shape.Idx) :
    newHigh (F := Ideal) (newSwap (newV c hs (kvV x0 x3 x5 x6 harg2 harg5 harg7 harg8 o base h hg hw hd))) y
      = halfB x0 x1 x2 x3 x4 x5 x6 x7 x8 x9 x10 C base hb ((Rect.unit (s := S8x4x2x192x128) ![o, j, 1, 128, 0] S4x1x1x64x128.size hr).emb y) := by
  refine new_piece x0 x1 x2 x3 x4 x5 x6 x7 x8 x9 x10 C base hb o j 1 ho hj _ (fun b t l => ?_) hr y
  rw [newHigh_apply]
  by_cases hl : l.val < 64
  · rw [if_pos hl, if_neg (by omega)]
  · rw [if_neg hl, if_pos (by omega), newSwap_apply, newV_apply c hs _ _ _ _ hc2, kvV_apply x0 x1 x2 x3 x4 x5 x6 x7 x8 x9 x10 harg2 harg5 harg7 harg8 o base h hg hw hd ho hb]
    exact congrArg _ (Fin.ext (by show base + (c + (l.val + 128 - 64) % 128) = base + 64 * j + l.val % 64; omega))

/-- Cached rows of an even head, second half. -/
theorem old_hi_swap (j c : ℕ) (hj : j < 4) (hc : c = 64 * j) (hc2 : c + 128 ≤ 256) (z : FVec Ideal S8x128x256 .f32) (h) (hs)
    (hz : ∀ b t (d : Fin 64), z (ix3 b t ⟨64 * j + d.val, by omega⟩) = C (rowsBlk x0 x1 x2 x3 x4 x5 x6 x7 x8 x9 x10 b) t ⟨j, hj⟩ d)
    (hr : ∀ a, (![0, j, 1, 0, 0] : Fin S8x4x2x192x128.rank → ℕ) a + S8x1x1x128x128.size a ≤ S8x4x2x192x128.size a)
    (y : (Rect.unit (s := S8x4x2x192x128) ![0, j, 1, 0, 0] S8x1x1x128x128.size hr).shape.Idx) :
    oldHigh (F := Ideal) (oldSwap (oldV c hs (rdC z harg3 h))) y
      = halfB x0 x1 x2 x3 x4 x5 x6 x7 x8 x9 x10 C base hb ((Rect.unit (s := S8x4x2x192x128) ![0, j, 1, 0, 0] S8x1x1x128x128.size hr).emb y) := by
  refine old_piece x0 x1 x2 x3 x4 x5 x6 x7 x8 x9 x10 C base hb j 1 hj _ (fun b t l => ?_) hr y
  rw [oldHigh_apply]
  by_cases hl : l.val < 64
  · rw [if_pos hl, if_neg (by omega)]
  · rw [if_neg hl, if_pos (by omega), oldSwap_apply, oldV_apply c hs _ _ _ _ hc2, rdC_apply z harg3 h, ← hz b t ⟨l.val % 64, by omega⟩]
    exact congrArg z (congrArg _ (Fin.ext (by show c + (l.val + 128 - 64) % 128 = 64 * j + l.val % 64; omega)))

/-- New rows of an odd head, first half. -/
theorem new_lo_swap (o j c : ℕ) (ho : o + 4 ≤ 8) (hj : j < 4) (hc : c + 64 = 64 * j) (hc2 : c + 128 ≤ 256) (h) (hg) (hw) (hd) (hs)
    (hr : ∀ a, (![o, j, 0, 128, 0] : Fin S8x4x2x192x128.rank → ℕ) a + S4x1x1x64x128.size a ≤ S8x4x2x192x128.size a)
    (y : (Rect.unit (s := S8x4x2x192x128) ![o, j, 0, 128, 0] S4x1x1x64x128.size hr).shape.Idx) :
    newLow (F := Ideal) (newSwap (newV c hs (kvV x0 x3 x5 x6 harg2 harg5 harg7 harg8 o base h hg hw hd))) y
      = halfB x0 x1 x2 x3 x4 x5 x6 x7 x8 x9 x10 C base hb ((Rect.unit (s := S8x4x2x192x128) ![o, j, 0, 128, 0] S4x1x1x64x128.size hr).emb y) := by
  refine new_piece x0 x1 x2 x3 x4 x5 x6 x7 x8 x9 x10 C base hb o j 0 ho hj _ (fun b t l => ?_) hr y
  rw [newLow_apply]
  by_cases hl : l.val < 64
  · rw [if_pos hl, if_pos (by omega), newSwap_apply, newV_apply c hs _ _ _ _ hc2, kvV_apply x0 x1 x2 x3 x4 x5 x6 x7 x8 x9 x10 harg2 harg5 harg7 harg8 o base h hg hw hd ho hb]
    exact congrArg _ (Fin.ext (by show base + (c + (l.val + 128 - 64) % 128) = base + 64 * j + l.val % 64; omega))
  · rw [if_neg hl, if_neg (by omega)]

/-- Cached rows of an odd head, first half. -/
theorem old_lo_swap (j c : ℕ) (hj : j < 4) (hc : c + 64 = 64 * j) (hc2 : c + 128 ≤ 256) (z : FVec Ideal S8x128x256 .f32) (h) (hs)
    (hz : ∀ b t (d : Fin 64), z (ix3 b t ⟨64 * j + d.val, by omega⟩) = C (rowsBlk x0 x1 x2 x3 x4 x5 x6 x7 x8 x9 x10 b) t ⟨j, hj⟩ d)
    (hr : ∀ a, (![0, j, 0, 0, 0] : Fin S8x4x2x192x128.rank → ℕ) a + S8x1x1x128x128.size a ≤ S8x4x2x192x128.size a)
    (y : (Rect.unit (s := S8x4x2x192x128) ![0, j, 0, 0, 0] S8x1x1x128x128.size hr).shape.Idx) :
    oldLow (F := Ideal) (oldSwap (oldV c hs (rdC z harg3 h))) y
      = halfB x0 x1 x2 x3 x4 x5 x6 x7 x8 x9 x10 C base hb ((Rect.unit (s := S8x4x2x192x128) ![0, j, 0, 0, 0] S8x1x1x128x128.size hr).emb y) := by
  refine old_piece x0 x1 x2 x3 x4 x5 x6 x7 x8 x9 x10 C base hb j 0 hj _ (fun b t l => ?_) hr y
  rw [oldLow_apply]
  by_cases hl : l.val < 64
  · rw [if_pos hl, if_pos (by omega), oldSwap_apply, oldV_apply c hs _ _ _ _ hc2, rdC_apply z harg3 h, ← hz b t ⟨l.val % 64, by omega⟩]
    exact congrArg z (congrArg _ (Fin.ext (by show c + (l.val + 128 - 64) % 128 = 64 * j + l.val % 64; omega)))
  · rw [if_neg hl, if_neg (by omega)]

/-- New rows of an odd head, second half. -/
theorem new_hi (o j c : ℕ) (ho : o + 4 ≤ 8) (hj : j < 4) (hc : c + 64 = 64 * j) (hc2 : c + 128 ≤ 256) (h) (hg) (hw) (hd) (hs)
    (hr : ∀ a, (![o, j, 1, 128, 0] : Fin S8x4x2x192x128.rank → ℕ) a + S4x1x1x64x128.size a ≤ S8x4x2x192x128.size a)
    (y : (Rect.unit (s := S8x4x2x192x128) ![o, j, 1, 128, 0] S4x1x1x64x128.size hr).shape.Idx) :
    newHigh (F := Ideal) (newV c hs (kvV x0 x3 x5 x6 harg2 harg5 harg7 harg8 o base h hg hw hd)) y
      = halfB x0 x1 x2 x3 x4 x5 x6 x7 x8 x9 x10 C base hb ((Rect.unit (s := S8x4x2x192x128) ![o, j, 1, 128, 0] S4x1x1x64x128.size hr).emb y) := by
  refine new_piece x0 x1 x2 x3 x4 x5 x6 x7 x8 x9 x10 C base hb o j 1 ho hj _ (fun b t l => ?_) hr y
  rw [newHigh_apply]
  by_cases hl : l.val < 64
  · rw [if_pos hl, if_neg (by omega)]
  · rw [if_neg hl, if_pos (by omega), newV_apply c hs _ _ _ _ hc2, kvV_apply x0 x1 x2 x3 x4 x5 x6 x7 x8 x9 x10 harg2 harg5 harg7 harg8 o base h hg hw hd ho hb]
    exact congrArg _ (Fin.ext (by show base + (c + l.val) = base + 64 * j + l.val % 64; omega))

/-- Cached rows of an odd head, second half. -/
theorem old_hi (j c : ℕ) (hj : j < 4) (hc : c + 64 = 64 * j) (hc2 : c + 128 ≤ 256) (z : FVec Ideal S8x128x256 .f32) (h) (hs)
    (hz : ∀ b t (d : Fin 64), z (ix3 b t ⟨64 * j + d.val, by omega⟩) = C (rowsBlk x0 x1 x2 x3 x4 x5 x6 x7 x8 x9 x10 b) t ⟨j, hj⟩ d)
    (hr : ∀ a, (![0, j, 1, 0, 0] : Fin S8x4x2x192x128.rank → ℕ) a + S8x1x1x128x128.size a ≤ S8x4x2x192x128.size a)
    (y : (Rect.unit (s := S8x4x2x192x128) ![0, j, 1, 0, 0] S8x1x1x128x128.size hr).shape.Idx) :
    oldHigh (F := Ideal) (oldV c hs (rdC z harg3 h)) y
      = halfB x0 x1 x2 x3 x4 x5 x6 x7 x8 x9 x10 C base hb ((Rect.unit (s := S8x4x2x192x128) ![0, j, 1, 0, 0] S8x1x1x128x128.size hr).emb y) := by
  refine old_piece x0 x1 x2 x3 x4 x5 x6 x7 x8 x9 x10 C base hb j 1 hj _ (fun b t l => ?_) hr y
  rw [oldHigh_apply]
  by_cases hl : l.val < 64
  · rw [if_pos hl, if_neg (by omega)]
  · rw [if_neg hl, if_pos (by omega), oldV_apply c hs _ _ _ _ hc2, rdC_apply z harg3 h, ← hz b t ⟨l.val % 64, by omega⟩]
    exact congrArg z (congrArg _ (Fin.ext (by show c + l.val = 64 * j + l.val % 64; omega)))

end Cert.SinkAttn

end
-- ==== Proof.AttnUnit.lean ====
/-
  A group's four heads from what its loads read, and the two stores of their rows.
-/
module

public import proofs.«01_k».proof.Proof.AttnBufs

@[expose] public section

set_option maxRecDepth 16384

noncomputable section

namespace Cert.SinkAttn

open Cert.AttnIdeal Cert.AttnIdeal.Gen Idealize.ShloMosaic Idealize.ShloMosaic.TcCoe Cert.ConvFfn

variable (x0 : FVec Ideal S8x64x1024 .f32) (x1 x2 : FVec Ideal S8x128x256 .f32) (x3 x4 : FVec Ideal S1x1024 .f32) (x5 : FVec Ideal S1x1024x1536 .bf16)
  (x6 : FVec Ideal S1x1536 .f32) (x7 : FVec Ideal S1x1024x1024 .bf16) (x8 : FVec Ideal S1x1024 .f32) (x9 : FVec Ideal S16 .f32) (x10 : FVec Ideal S4x2x192x128 .f32)
  {arg11 : Memref sig .tc .smem S16 .f32} (harg11 : arg11.IsWhole) {arg12 : Memref sig .tc .vmem S4x2x192x128 .f32} (harg12 : arg12.IsWhole)
  {q0 q1 : FVec Ideal S64x128 .bf16} {k0 k1 v0 v1 : FVec Ideal S1x1x1x192x128 .bf16} {b0 b1 : FVec Ideal S1x1x192x128 .f32} {s0 s2 s1 s3 : Elt Ideal .f32}

/-- A pair's bias, as the layer's. -/
theorem bias_load (s : Fin 8) (j : ℕ) (hj : j < 4) (v : ℕ) (hv : v < 2) (h) (p : Fin 192) (r : Fin 128) :
    rdT x10 harg12 j v h (ix4 0 0 p r) = (rowsBlk x0 x1 x2 x3 x4 x5 x6 x7 x8 x9 x10 s).bias ⟨j, hj⟩ ⟨2 * (r.val / 64) + v, by omega⟩ ⟨r.val % 64, by omega⟩ p := by
  rw [rdT_apply x10 harg12 j v h hj hv]
  show _ = x10 (ix4 ⟨j, hj⟩ ⟨(2 * (r.val / 64) + v) % 2, by omega⟩ p ⟨64 * ((2 * (r.val / 64) + v) / 2) + r.val % 64, by omega⟩)
  have e1 : (⟨v, hv⟩ : Fin 2) = ⟨(2 * (r.val / 64) + v) % 2, by omega⟩ := Fin.ext (by show v = (2 * (r.val / 64) + v) % 2; omega)
  have e2 : r = ⟨64 * ((2 * (r.val / 64) + v) / 2) + r.val % 64, by omega⟩ := Fin.ext (by show r.val = 64 * ((2 * (r.val / 64) + v) / 2) + r.val % 64; omega)
  rw [← e1, ← e2]

/-- What a group's loads hold, from the queries', keys' and values' loads. -/
theorem loads_mk (s j c0 c1 c2 c3 : ℕ) (hs : s < 8) (hj : j < 4) (e0 : c0 = 4 * j) (e1 : c1 = 4 * j + 1) (e2 : c2 = 4 * j + 2) (e3 : c3 = 4 * j + 3)
    (hq0 : ∀ (q : Fin 64) (l : Fin 128), q0 (ix2 q l) = projS (rowsBlk x0 x1 x2 x3 x4 x5 x6 x7 x8 x9 x10 ⟨s, hs⟩) q ⟨256 * j + 128 * 0 + l.val, by omega⟩ * cS)
    (hq1 : ∀ (q : Fin 64) (l : Fin 128), q1 (ix2 q l) = projS (rowsBlk x0 x1 x2 x3 x4 x5 x6 x7 x8 x9 x10 ⟨s, hs⟩) q ⟨256 * j + 128 * 1 + l.val, by omega⟩ * cS)
    (hk0 : ∀ (p : Fin 192) (l : Fin 128), k0 (ix5 0 0 0 p l) = if l.val / 64 = 0 then keyS (rowsBlk x0 x1 x2 x3 x4 x5 x6 x7 x8 x9 x10 ⟨s, hs⟩) p ⟨j, hj⟩ ⟨l.val % 64, by omega⟩ else 0)
    (hk1 : ∀ (p : Fin 192) (l : Fin 128), k1 (ix5 0 0 0 p l) = if l.val / 64 = 1 then keyS (rowsBlk x0 x1 x2 x3 x4 x5 x6 x7 x8 x9 x10 ⟨s, hs⟩) p ⟨j, hj⟩ ⟨l.val % 64, by omega⟩ else 0)
    (hv0 : ∀ (p : Fin 192) (l : Fin 128), v0 (ix5 0 0 0 p l) = if l.val / 64 = 0 then valS (rowsBlk x0 x1 x2 x3 x4 x5 x6 x7 x8 x9 x10 ⟨s, hs⟩) p ⟨j, hj⟩ ⟨l.val % 64, by omega⟩ else 0)
    (hv1 : ∀ (p : Fin 192) (l : Fin 128), v1 (ix5 0 0 0 p l) = if l.val / 64 = 1 then valS (rowsBlk x0 x1 x2 x3 x4 x5 x6 x7 x8 x9 x10 ⟨s, hs⟩) p ⟨j, hj⟩ ⟨l.val % 64, by omega⟩ else 0)
    (t0) (t1) (g0) (g1) (g2) (g3) (n0) (n1) (n2) (n3) :
    Loads (rowsBlk x0 x1 x2 x3 x4 x5 x6 x7 x8 x9 x10 ⟨s, hs⟩) ⟨j, hj⟩ q0 q1 k0 k1 v0 v1 (rdT x10 harg12 j 0 t0) (rdT x10 harg12 j 1 t1)
      (rdS x9 harg11 c0 g0 n0) (rdS x9 harg11 c2 g2 n2) (rdS x9 harg11 c1 g1 n1) (rdS x9 harg11 c3 g3 n3) where
  q0 q l := (hq0 q l).trans (congrArg (· * _) (congrArg _ (Fin.ext (by show 256 * j + 128 * 0 + l.val = 256 * j + l.val; omega))))
  q1 q l := (hq1 q l).trans (congrArg (· * _) (congrArg _ (Fin.ext (by show 256 * j + 128 * 1 + l.val = 256 * j + 128 + l.val; omega))))
  k0 := hk0
  k1 := hk1
  v0 := hv0
  v1 := hv1
  b0 p r := bias_load x0 x1 x2 x3 x4 x5 x6 x7 x8 x9 x10 harg12 ⟨s, hs⟩ j hj 0 (by decide) t0 p r
  b1 p r := bias_load x0 x1 x2 x3 x4 x5 x6 x7 x8 x9 x10 harg12 ⟨s, hs⟩ j hj 1 (by decide) t1 p r
  s0 := by subst e0; exact rdS_apply x9 harg11 (4 * j) g0 n0 (by omega)
  s1 := by subst e1; exact rdS_apply x9 harg11 (4 * j + 1) g1 n1 (by omega)
  s2 := by subst e2; exact rdS_apply x9 harg11 (4 * j + 2) g2 n2 (by omega)
  s3 := by subst e3; exact rdS_apply x9 harg11 (4 * j + 3) g3 n3 (by omega)

/-- The store of a group's first two heads. -/
theorem tile_lo (s j r0 c0 : ℕ) (hs : s < 8) (hj : j < 4) (hr : r0 = 64 * s) (hc : c0 = 256 * j)
    (H : Loads (rowsBlk x0 x1 x2 x3 x4 x5 x6 x7 x8 x9 x10 ⟨s, hs⟩) ⟨j, hj⟩ q0 q1 k0 k1 v0 v1 b0 b1 s0 s2 s1 s3)
    (h : ∀ a, (![r0, c0] : Fin S512x1024.rank → ℕ) a + S64x128.size a ≤ S512x1024.size a) (y : (Rect.unit (s := S512x1024) ![r0, c0] S64x128.size h).shape.Idx) :
    k0_pay119 (F := Ideal) (unitV q0 q1 k0 k1 b0 b1 s0 s2 s1 s3 v0 v1) y
      = oB x0 x1 x2 x3 x4 x5 x6 x7 x8 x9 x10 ((Rect.unit (s := S512x1024) ![r0, c0] S64x128.size h).emb y) := by
  have h0 : (y 0).val < 64 := (y 0).isLt
  have h1 : (y 1).val < 128 := (y 1).isLt
  have ey : y = ix2 (n0 := 64) (n1 := 128) ⟨(y 0).val, h0⟩ ⟨(y 1).val, h1⟩ := by
    funext a; fin_cases a <;> rfl
  rw [ey]
  refine (lo_apply _ _ _).trans ((H.unit _ _).trans ?_)
  unfold oB
  have e0 : (((Rect.unit (s := S512x1024) ![r0, c0] S64x128.size h).emb (ix2 (n0 := 64) (n1 := 128) ⟨(y 0).val, h0⟩ ⟨(y 1).val, h1⟩)) 0).val = r0 + (y 0).val := by
    show r0 + 1 * (y 0).val = _; omega
  have e1 : (((Rect.unit (s := S512x1024) ![r0, c0] S64x128.size h).emb (ix2 (n0 := 64) (n1 := 128) ⟨(y 0).val, h0⟩ ⟨(y 1).val, h1⟩)) 1).val = c0 + (y 1).val := by
    show c0 + 1 * (y 1).val = _; omega
  simp only [e0, e1]
  have f0 : (⟨(r0 + (y 0).val) / 64, by omega⟩ : Fin 8) = ⟨s, hs⟩ := Fin.ext (by show (r0 + (y 0).val) / 64 = s; omega)
  have f1 : (⟨(r0 + (y 0).val) % 64, by omega⟩ : Fin 64) = ⟨(y 0).val % 64, by omega⟩ := Fin.ext (by show (r0 + (y 0).val) % 64 = (y 0).val % 64; omega)
  have f2 : (⟨(c0 + (y 1).val) / 256, by omega⟩ : Fin 4) = ⟨j, hj⟩ := Fin.ext (by show (c0 + (y 1).val) / 256 = j; omega)
  have f3 : (⟨(c0 + (y 1).val) % 256 / 64, by omega⟩ : Fin 4) = ⟨2 * ((y 0).val / 64) + (y 1).val / 64, by omega⟩ :=
    Fin.ext (by show (c0 + (y 1).val) % 256 / 64 = 2 * ((y 0).val / 64) + (y 1).val / 64; omega)
  have f4 : (⟨(c0 + (y 1).val) % 64, by omega⟩ : Fin 64) = ⟨(y 1).val % 64, by omega⟩ := Fin.ext (by show (c0 + (y 1).val) % 64 = (y 1).val % 64; omega)
  rw [f0, f1, f2, f3, f4]

/-- The store of a group's last two heads. -/
theorem tile_hi (s j r0 c0 : ℕ) (hs : s < 8) (hj : j < 4) (hr : r0 = 64 * s) (hc : c0 = 256 * j + 128)
    (H : Loads (rowsBlk x0 x1 x2 x3 x4 x5 x6 x7 x8 x9 x10 ⟨s, hs⟩) ⟨j, hj⟩ q0 q1 k0 k1 v0 v1 b0 b1 s0 s2 s1 s3)
    (h : ∀ a, (![r0, c0] : Fin S512x1024.rank → ℕ) a + S64x128.size a ≤ S512x1024.size a) (y : (Rect.unit (s := S512x1024) ![r0, c0] S64x128.size h).shape.Idx) :
    k0_pay120 (F := Ideal) (unitV q0 q1 k0 k1 b0 b1 s0 s2 s1 s3 v0 v1) y
      = oB x0 x1 x2 x3 x4 x5 x6 x7 x8 x9 x10 ((Rect.unit (s := S512x1024) ![r0, c0] S64x128.size h).emb y) := by
  have h0 : (y 0).val < 64 := (y 0).isLt
  have h1 : (y 1).val < 128 := (y 1).isLt
  have ey : y = ix2 (n0 := 64) (n1 := 128) ⟨(y 0).val, h0⟩ ⟨(y 1).val, h1⟩ := by
    funext a; fin_cases a <;> rfl
  rw [ey]
  refine (hi_apply _ _ _).trans ((H.unit _ _).trans ?_)
  unfold oB
  have e0 : (((Rect.unit (s := S512x1024) ![r0, c0] S64x128.size h).emb (ix2 (n0 := 64) (n1 := 128) ⟨(y 0).val, h0⟩ ⟨(y 1).val, h1⟩)) 0).val = r0 + (y 0).val := by
    show r0 + 1 * (y 0).val = _; omega
  have e1 : (((Rect.unit (s := S512x1024) ![r0, c0] S64x128.size h).emb (ix2 (n0 := 64) (n1 := 128) ⟨(y 0).val, h0⟩ ⟨(y 1).val, h1⟩)) 1).val = c0 + (y 1).val := by
    show c0 + 1 * (y 1).val = _; omega
  simp only [e0, e1]
  have f0 : (⟨(r0 + (y 0).val) / 64, by omega⟩ : Fin 8) = ⟨s, hs⟩ := Fin.ext (by show (r0 + (y 0).val) / 64 = s; omega)
  have f1 : (⟨(r0 + (y 0).val) % 64, by omega⟩ : Fin 64) = ⟨(64 + (y 0).val) % 64, by omega⟩ := Fin.ext (by show (r0 + (y 0).val) % 64 = (64 + (y 0).val) % 64; omega)
  have f2 : (⟨(c0 + (y 1).val) / 256, by omega⟩ : Fin 4) = ⟨j, hj⟩ := Fin.ext (by show (c0 + (y 1).val) / 256 = j; omega)
  have f3 : (⟨(c0 + (y 1).val) % 256 / 64, by omega⟩ : Fin 4) = ⟨2 * ((64 + (y 0).val) / 64) + (y 1).val / 64, by omega⟩ :=
    Fin.ext (by show (c0 + (y 1).val) % 256 / 64 = 2 * ((64 + (y 0).val) / 64) + (y 1).val / 64; omega)
  have f4 : (⟨(c0 + (y 1).val) % 64, by omega⟩ : Fin 64) = ⟨(y 1).val % 64, by omega⟩ := Fin.ext (by show (c0 + (y 1).val) % 64 = (y 1).val % 64; omega)
  rw [f0, f1, f2, f3, f4]

/-- A head's queries, loaded. -/
theorem q_word {κ' : Kind} {sp : Space} {v : View sig κ' sp S512x1024 .bf16} {L : List (View.Piece (Elt Ideal) S512x1024 .bf16)}
    (hL : View.PiecesOf (qB x0 x1 x2 x3 x4 x5 x6 x7 x8 x9 x10) L) (t : LoadRect.Cov) (s j w r0 c0 : ℕ) (hs : s < 8) (hj : j < 4) (hw : w < 2) (hr : r0 = 64 * s)
    (hc : c0 = 256 * j + 128 * w) (h : ∀ a, (![r0, c0] : Fin S512x1024.rank → ℕ) a + S64x128.size a ≤ S512x1024.size a)
    (hcov : LoadRect.covChk (L.map Sigma.fst) (Rect.unit (s := S512x1024) ![r0, c0] S64x128.size h).toLoadRect t = true) (q : Fin 64) (l : Fin 128) :
    v.readCov L (Rect.unit (s := S512x1024) ![r0, c0] S64x128.size h).toLoadRect (ix2 (n0 := 64) (n1 := 128) q l)
      = projS (rowsBlk x0 x1 x2 x3 x4 x5 x6 x7 x8 x9 x10 ⟨s, hs⟩) q ⟨256 * j + 128 * w + l.val, by omega⟩ * cS :=
  (read_pieces hL _ t hcov _).trans (q_load x0 x1 x2 x3 x4 x5 x6 x7 x8 x9 x10 s j w r0 c0 hs hj hw hr hc h q l)

/-- A head's keys, loaded. -/
theorem k_word {κ' : Kind} {sp : Space} {w : View sig κ' sp S8x4x2x192x128 .bf16} {L : List (View.Piece (Elt Ideal) S8x4x2x192x128 .bf16)}
    (hL : View.PiecesOf (halfB x0 x1 x2 x3 x4 x5 x6 x7 x8 x9 x10 Rows.ck 1024 (by decide)) L) (t : LoadRect.Cov) (s j v : ℕ) (hs : s < 8) (hj : j < 4)
    (h : ∀ a, (![s, j, v, 0, 0] : Fin S8x4x2x192x128.rank → ℕ) a + S1x1x1x192x128.size a ≤ S8x4x2x192x128.size a)
    (hcov : LoadRect.covChk (L.map Sigma.fst) (Rect.unit (s := S8x4x2x192x128) ![s, j, v, 0, 0] S1x1x1x192x128.size h).toLoadRect t = true) (p : Fin 192) (l : Fin 128) :
    w.readCov L (Rect.unit (s := S8x4x2x192x128) ![s, j, v, 0, 0] S1x1x1x192x128.size h).toLoadRect (ix5 (n0 := 1) (n1 := 1) (n2 := 1) (n3 := 192) (n4 := 128) 0 0 0 p l)
      = if l.val / 64 = v then keyS (rowsBlk x0 x1 x2 x3 x4 x5 x6 x7 x8 x9 x10 ⟨s, hs⟩) p ⟨j, hj⟩ ⟨l.val % 64, by omega⟩ else 0 :=
  (read_pieces hL _ t hcov _).trans (half_load x0 x1 x2 x3 x4 x5 x6 x7 x8 x9 x10 Rows.ck 1024 (by decide) s j v hs hj h p l)

/-- A head's values, loaded. -/
theorem v_word {κ' : Kind} {sp : Space} {w : View sig κ' sp S8x4x2x192x128 .bf16} {L : List (View.Piece (Elt Ideal) S8x4x2x192x128 .bf16)}
    (hL : View.PiecesOf (halfB x0 x1 x2 x3 x4 x5 x6 x7 x8 x9 x10 Rows.cv 1280 (by decide)) L) (t : LoadRect.Cov) (s j v : ℕ) (hs : s < 8) (hj : j < 4)
    (h : ∀ a, (![s, j, v, 0, 0] : Fin S8x4x2x192x128.rank → ℕ) a + S1x1x1x192x128.size a ≤ S8x4x2x192x128.size a)
    (hcov : LoadRect.covChk (L.map Sigma.fst) (Rect.unit (s := S8x4x2x192x128) ![s, j, v, 0, 0] S1x1x1x192x128.size h).toLoadRect t = true) (p : Fin 192) (l : Fin 128) :
    w.readCov L (Rect.unit (s := S8x4x2x192x128) ![s, j, v, 0, 0] S1x1x1x192x128.size h).toLoadRect (ix5 (n0 := 1) (n1 := 1) (n2 := 1) (n3 := 192) (n4 := 128) 0 0 0 p l)
      = if l.val / 64 = v then valS (rowsBlk x0 x1 x2 x3 x4 x5 x6 x7 x8 x9 x10 ⟨s, hs⟩) p ⟨j, hj⟩ ⟨l.val % 64, by omega⟩ else 0 :=
  (read_pieces hL _ t hcov _).trans (half_load x0 x1 x2 x3 x4 x5 x6 x7 x8 x9 x10 Rows.cv 1280 (by decide) s j v hs hj h p l)

variable {arg2 : Memref sig .tc .vmem S8x64x1024 .f32} (harg2 : arg2.IsWhole) {arg5 : Memref sig .tc .vmem S1x1024 .f32} (harg5 : arg5.IsWhole)
  {arg6 : Memref sig .tc .vmem S1x1024 .f32} (harg6 : arg6.IsWhole) {arg7 : Memref sig .tc .vmem S1x1024x1536 .bf16} (harg7 : arg7.IsWhole)
  {arg8 : Memref sig .tc .vmem S1x1536 .f32} (harg8 : arg8.IsWhole) {arg9 : Memref sig .tc .vmem S1x1024x1024 .bf16} (harg9 : arg9.IsWhole)
  {arg10 : Memref sig .tc .vmem S1x1024 .f32} (harg10 : arg10.IsWhole)

/-- The heads' rows of four streams, loaded. -/
theorem o_word {κ' : Kind} {sp : Space} {v : View sig κ' sp S512x1024 .bf16} {L : List (View.Piece (Elt Ideal) S512x1024 .bf16)}
    (hL : View.PiecesOf (oB x0 x1 x2 x3 x4 x5 x6 x7 x8 x9 x10) L) (t : LoadRect.Cov) (o r0 : ℕ) (ho : o + 4 ≤ 8) (hr : r0 = 64 * o)
    (h : ∀ a, (![r0, 0] : Fin S512x1024.rank → ℕ) a + S256x1024.size a ≤ S512x1024.size a)
    (hcov : LoadRect.covChk (L.map Sigma.fst) (Rect.unit (s := S512x1024) ![r0, 0] S256x1024.size h).toLoadRect t = true) (r : Fin 256) (k : Fin 1024) :
    v.readCov L (Rect.unit (s := S512x1024) ![r0, 0] S256x1024.size h).toLoadRect (ix2 (n0 := 256) (n1 := 1024) r k)
      = attS divK (rowsBlk x0 x1 x2 x3 x4 x5 x6 x7 x8 x9 x10 ⟨o + r.val / 64, by omega⟩) ⟨r.val % 64, by omega⟩ ⟨k.val / 256, by omega⟩ ⟨k.val % 256 / 64, by omega⟩ ⟨k.val % 64, by omega⟩ := by
  refine (read_pieces hL _ t hcov _).trans ?_
  unfold oB
  have e0 : (((Rect.unit (s := S512x1024) ![r0, 0] S256x1024.size h).toLoadRect.idx (ix2 (n0 := 256) (n1 := 1024) r k)) 0).val = r0 + r.val := by
    show r0 + 1 * r.val = _; omega
  have e1 : (((Rect.unit (s := S512x1024) ![r0, 0] S256x1024.size h).toLoadRect.idx (ix2 (n0 := 256) (n1 := 1024) r k)) 1).val = k.val := by
    show 0 + 1 * k.val = _; omega
  simp only [e0, e1]
  have f0 : (⟨(r0 + r.val) / 64, by omega⟩ : Fin 8) = ⟨o + r.val / 64, by omega⟩ := Fin.ext (by show (r0 + r.val) / 64 = o + r.val / 64; omega)
  have f1 : (⟨(r0 + r.val) % 64, by omega⟩ : Fin 64) = ⟨r.val % 64, by omega⟩ := Fin.ext (by show (r0 + r.val) % 64 = r.val % 64; omega)
  rw [f0, f1]

/-- A store of four streams' projection back. -/
theorem y_piece (o r0 c0 : ℕ) (ho : o + 4 ≤ 8) (hr : r0 = 64 * o) (hc : c0 + 256 ≤ 1024) (V : FVec Ideal S256x1024 .bf16)
    (hV : ∀ (r : Fin 256) (k : Fin 1024), V (ix2 r k)
      = attS divK (rowsBlk x0 x1 x2 x3 x4 x5 x6 x7 x8 x9 x10 ⟨o + r.val / 64, by omega⟩) ⟨r.val % 64, by omega⟩ ⟨k.val / 256, by omega⟩ ⟨k.val % 256 / 64, by omega⟩ ⟨k.val % 64, by omega⟩)
    (hw) (hd) (h : ∀ a, (![r0, c0] : Fin S512x1024.rank → ℕ) a + S256x256.size a ≤ S512x1024.size a)
    (y : (Rect.unit (s := S512x1024) ![r0, c0] S256x256.size h).shape.Idx) :
    k0_pay416 (F := Ideal) V (rdO x7 harg9 c0 hw) (rdD x8 harg10 c0 hd) y
      = yB x0 x1 x2 x3 x4 x5 x6 x7 x8 x9 x10 ((Rect.unit (s := S512x1024) ![r0, c0] S256x256.size h).emb y) := by
  have h0 : (y 0).val < 256 := (y 0).isLt
  have h1 : (y 1).val < 256 := (y 1).isLt
  have ey : y = ix2 (n0 := 256) (n1 := 256) ⟨(y 0).val, h0⟩ ⟨(y 1).val, h1⟩ := by
    funext a; fin_cases a <;> rfl
  rw [ey]
  refine (back_apply _ _ _ _ _).trans ?_
  rw [rdD_apply x8 harg10 c0 hd hc]
  simp only [hV, rdO_apply x7 harg9 c0 hw hc]
  unfold yB
  have e0 : (((Rect.unit (s := S512x1024) ![r0, c0] S256x256.size h).emb (ix2 (n0 := 256) (n1 := 256) ⟨(y 0).val, h0⟩ ⟨(y 1).val, h1⟩)) 0).val = r0 + (y 0).val := by
    show r0 + 1 * (y 0).val = _; omega
  have e1 : (((Rect.unit (s := S512x1024) ![r0, c0] S256x256.size h).emb (ix2 (n0 := 256) (n1 := 256) ⟨(y 0).val, h0⟩ ⟨(y 1).val, h1⟩)) 1).val = c0 + (y 1).val := by
    show c0 + 1 * (y 1).val = _; omega
  simp only [e0, e1]
  have f0 : (⟨(r0 + (y 0).val) / 64, by omega⟩ : Fin 8) = ⟨o + (y 0).val / 64, by omega⟩ := Fin.ext (by show (r0 + (y 0).val) / 64 = o + (y 0).val / 64; omega)
  have f1 : (⟨(r0 + (y 0).val) % 64, by omega⟩ : Fin 64) = ⟨(y 0).val % 64, by omega⟩ := Fin.ext (by show (r0 + (y 0).val) % 64 = (y 0).val % 64; omega)
  rw [f0, f1]
  rfl

/-- Four streams' projection back, loaded. -/
theorem y_word {κ' : Kind} {sp : Space} {v : View sig κ' sp S512x1024 .f32} {L : List (View.Piece (Elt Ideal) S512x1024 .f32)}
    (hL : View.PiecesOf (yB x0 x1 x2 x3 x4 x5 x6 x7 x8 x9 x10) L) (t : LoadRect.Cov) (o r0 : ℕ) (ho : o + 4 ≤ 8) (hr : r0 = 64 * o)
    (h : ∀ a, (![r0, 0] : Fin S512x1024.rank → ℕ) a + S256x1024.size a ≤ S512x1024.size a)
    (hcov : LoadRect.covChk (L.map Sigma.fst) (Rect.unit (s := S512x1024) ![r0, 0] S256x1024.size h).toLoadRect t = true) (r : Fin 256) (n : Fin 1024) :
    v.readCov L (Rect.unit (s := S512x1024) ![r0, 0] S256x1024.size h).toLoadRect (ix2 (n0 := 256) (n1 := 1024) r n)
      = backS divK (rowsBlk x0 x1 x2 x3 x4 x5 x6 x7 x8 x9 x10 ⟨o + r.val / 64, by omega⟩) ⟨r.val % 64, by omega⟩ n := by
  refine (read_pieces hL _ t hcov _).trans ?_
  unfold yB
  have e0 : (((Rect.unit (s := S512x1024) ![r0, 0] S256x1024.size h).toLoadRect.idx (ix2 (n0 := 256) (n1 := 1024) r n)) 0).val = r0 + r.val := by
    show r0 + 1 * r.val = _; omega
  have e1 : (((Rect.unit (s := S512x1024) ![r0, 0] S256x1024.size h).toLoadRect.idx (ix2 (n0 := 256) (n1 := 1024) r n)) 1).val = n.val := by
    show 0 + 1 * n.val = _; omega
  simp only [e0, e1]
  have f0 : (⟨(r0 + r.val) / 64, by omega⟩ : Fin 8) = ⟨o + r.val / 64, by omega⟩ := Fin.ext (by show (r0 + r.val) / 64 = o + r.val / 64; omega)
  have f1 : (⟨(r0 + r.val) % 64, by omega⟩ : Fin 64) = ⟨r.val % 64, by omega⟩ := Fin.ext (by show (r0 + r.val) % 64 = r.val % 64; omega)
  rw [f0, f1]

theorem flat_apply (z : FVec Ideal S4x64x1024 .f32) (r : Fin 256) (n : Fin 1024) :
    k0_pay386 (F := Ideal) z (ix2 r n) = z (ix3 ⟨r.val / 64, by omega⟩ ⟨r.val % 64, by omega⟩ n) := by
  pointwise [k0_pay386]

/-- A store of four streams' rows. -/
theorem out_piece (o : ℕ) (ho : o + 4 ≤ 8) (V : FVec Ideal S256x1024 .f32)
    (hV : ∀ (r : Fin 256) (n : Fin 1024), V (ix2 r n) = backS divK (rowsBlk x0 x1 x2 x3 x4 x5 x6 x7 x8 x9 x10 ⟨o + r.val / 64, by omega⟩) ⟨r.val % 64, by omega⟩ n)
    (hx) (hg) (h : ∀ a, (![o, 0, 0] : Fin S8x64x1024.rank → ℕ) a + S4x64x1024.size a ≤ S8x64x1024.size a)
    (y : (Rect.unit (s := S8x64x1024) ![o, 0, 0] S4x64x1024.size h).shape.Idx) :
    k0_pay387 (F := Ideal) V (k0_pay386 (rdX x0 harg2 o hx)) (rdG x4 harg6 hg) y
      = outB x0 x1 x2 x3 x4 x5 x6 x7 x8 x9 x10 ((Rect.unit (s := S8x64x1024) ![o, 0, 0] S4x64x1024.size h).emb y) := by
  have h0 : (y 0).val < 4 := (y 0).isLt
  have h1 : (y 1).val < 64 := (y 1).isLt
  have h2 : (y 2).val < 1024 := (y 2).isLt
  have ey : y = ix3 (n0 := 4) (n1 := 64) (n2 := 1024) ⟨(y 0).val, h0⟩ ⟨(y 1).val, h1⟩ ⟨(y 2).val, h2⟩ := by
    funext a; fin_cases a <;> rfl
  rw [ey]
  refine (resid_apply _ _ _ _ _ _).trans ?_
  rw [rdG_apply]
  simp only [hV, flat_apply, rdX_apply x0 harg2 o hx ho]
  unfold outB
  have e0 : (((Rect.unit (s := S8x64x1024) ![o, 0, 0] S4x64x1024.size h).emb (ix3 (n0 := 4) (n1 := 64) (n2 := 1024) ⟨(y 0).val, h0⟩ ⟨(y 1).val, h1⟩ ⟨(y 2).val, h2⟩)) 0).val = o + (y 0).val := by
    show o + 1 * (y 0).val = _; omega
  have e1 : (((Rect.unit (s := S8x64x1024) ![o, 0, 0] S4x64x1024.size h).emb (ix3 (n0 := 4) (n1 := 64) (n2 := 1024) ⟨(y 0).val, h0⟩ ⟨(y 1).val, h1⟩ ⟨(y 2).val, h2⟩)) 1).val = (y 1).val := by
    show 0 + 1 * (y 1).val = _; omega
  have e2 : (((Rect.unit (s := S8x64x1024) ![o, 0, 0] S4x64x1024.size h).emb (ix3 (n0 := 4) (n1 := 64) (n2 := 1024) ⟨(y 0).val, h0⟩ ⟨(y 1).val, h1⟩ ⟨(y 2).val, h2⟩)) 2).val = (y 2).val := by
    show 0 + 1 * (y 2).val = _; omega
  simp only [e0, e1, e2]
  have f0 : (⟨o + ((y 0).val * 64 + (y 1).val) / 64, by omega⟩ : Fin 8) = ⟨o + (y 0).val, by omega⟩ := Fin.ext (by show o + ((y 0).val * 64 + (y 1).val) / 64 = o + (y 0).val; omega)
  have f1 : (⟨((y 0).val * 64 + (y 1).val) % 64, by omega⟩ : Fin 64) = ⟨(y 1).val, h1⟩ := Fin.ext (by show ((y 0).val * 64 + (y 1).val) % 64 = (y 1).val; omega)
  rw [f0, f1]
  rfl

/-- A store of four streams' keys or values. -/
theorem kv_piece (base : ℕ) (hb : base + 256 ≤ 1536) (o : ℕ) (ho : o + 4 ≤ 8) (hx) (hg) (hw) (hd)
    (h : ∀ a, (![o, 0, 0] : Fin S8x64x256.rank → ℕ) a + S4x64x256.size a ≤ S8x64x256.size a)
    (y : (Rect.unit (s := S8x64x256) ![o, 0, 0] S4x64x256.size h).shape.Idx) :
    kvV x0 x3 x5 x6 harg2 harg5 harg7 harg8 o base hx hg hw hd y
      = kvB x0 x1 x2 x3 x4 x5 x6 x7 x8 x9 x10 base hb ((Rect.unit (s := S8x64x256) ![o, 0, 0] S4x64x256.size h).emb y) := by
  have h0 : (y 0).val < 4 := (y 0).isLt
  have h1 : (y 1).val < 64 := (y 1).isLt
  have h2 : (y 2).val < 256 := (y 2).isLt
  have ey : y = ix3 (n0 := 4) (n1 := 64) (n2 := 256) ⟨(y 0).val, h0⟩ ⟨(y 1).val, h1⟩ ⟨(y 2).val, h2⟩ := by
    funext a; fin_cases a <;> rfl
  rw [ey]
  refine (kvV_apply x0 x1 x2 x3 x4 x5 x6 x7 x8 x9 x10 harg2 harg5 harg7 harg8 o base hx hg hw hd ho hb _ _ _).trans ?_
  unfold kvB
  have e0 : (((Rect.unit (s := S8x64x256) ![o, 0, 0] S4x64x256.size h).emb (ix3 (n0 := 4) (n1 := 64) (n2 := 256) ⟨(y 0).val, h0⟩ ⟨(y 1).val, h1⟩ ⟨(y 2).val, h2⟩)) 0).val = o + (y 0).val := by
    show o + 1 * (y 0).val = _; omega
  have e1 : (((Rect.unit (s := S8x64x256) ![o, 0, 0] S4x64x256.size h).emb (ix3 (n0 := 4) (n1 := 64) (n2 := 256) ⟨(y 0).val, h0⟩ ⟨(y 1).val, h1⟩ ⟨(y 2).val, h2⟩)) 1).val = (y 1).val := by
    show 0 + 1 * (y 1).val = _; omega
  have e2 : (((Rect.unit (s := S8x64x256) ![o, 0, 0] S4x64x256.size h).emb (ix3 (n0 := 4) (n1 := 64) (n2 := 256) ⟨(y 0).val, h0⟩ ⟨(y 1).val, h1⟩ ⟨(y 2).val, h2⟩)) 2).val = (y 2).val := by
    show 0 + 1 * (y 2).val = _; omega
  simp only [e0, e1, e2]

end Cert.SinkAttn

end
-- ==== Proof.AttnPieces.lean ====
/-
  The stores of the attention's first three buffers, piece by piece.
-/
module

public import proofs.«01_k».proof.Proof.AttnBufs

@[expose] public section

set_option maxRecDepth 16384

noncomputable section

namespace Cert.SinkAttn

open Cert.AttnIdeal Cert.AttnIdeal.Gen Idealize.ShloMosaic Idealize.ShloMosaic.TcCoe Cert.ConvFfn

variable (c : Dev nD) (x0 : FVec Ideal S8x64x1024 .f32) (x1 x2 : FVec Ideal S8x128x256 .f32) (x3 x4 : FVec Ideal S1x1024 .f32) (x5 : FVec Ideal S1x1024x1536 .bf16)
  (x6 : FVec Ideal S1x1536 .f32) (x7 : FVec Ideal S1x1024x1024 .bf16) (x8 : FVec Ideal S1x1024 .f32) (x9 : FVec Ideal S16 .f32) (x10 : FVec Ideal S4x2x192x128 .f32)
  (arg2 : Memref sig .tc .vmem S8x64x1024 .f32) (harg2 : arg2.IsWhole) (arg3 : Memref sig .tc .vmem S8x128x256 .f32) (harg3 : arg3.IsWhole)
  (arg4 : Memref sig .tc .vmem S8x128x256 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x1024x1536 .bf16) (harg7 : arg7.IsWhole)
  (arg8 : Memref sig .tc .vmem S1x1536 .f32) (harg8 : arg8.IsWhole) (arg9 : Memref sig .tc .vmem S1x1024x1024 .bf16) (harg9 : arg9.IsWhole)
  (arg10 : Memref sig .tc .vmem S1x1024 .f32) (harg10 : arg10.IsWhole)
  (arg11 : Memref sig .tc .smem S16 .f32) (harg11 : arg11.IsWhole) (arg12 : Memref sig .tc .vmem S4x2x192x128 .f32) (harg12 : arg12.IsWhole)
  (arg16 : Memref sig .tc .vmem S512x1024 .bf16) (arg17 arg18 : Memref sig .tc .vmem S8x4x2x192x128 .bf16) (arg19 : Memref sig .tc .vmem S512x1024 .bf16)
  (arg20 : Memref sig .tc .vmem S512x1024 .f32)

/-- The stores of the queries, as far as they go. -/
theorem pieces_HS0_4 : View.PiecesOf (qB x0 x1 x2 x3 x4 x5 x6 x7 x8 x9 x10) (kernelRun0_A.sl.HS0_4 (F := Ideal) c arg2 harg2 arg5 harg5 arg7 harg7 arg8 harg8 x0 x3 x5 x6) := by
  unfold kernelRun0_A.sl.HS0_4
  exact ⟨fun y => q_piece x0 x1 x2 x3 x4 x5 x6 x7 x8 x9 x10 harg2 harg5 harg7 harg8 0 0 768 _ _ _ _ (by decide) (by decide) (by decide) inb_S512x1024_S256x256_0_768 y,
    fun y => q_piece x0 x1 x2 x3 x4 x5 x6 x7 x8 x9 x10 harg2 harg5 harg7 harg8 0 0 512 _ _ _ _ (by decide) (by decide) (by decide) inb_S512x1024_S256x256_0_512 y,
    fun y => q_piece x0 x1 x2 x3 x4 x5 x6 x7 x8 x9 x10 harg2 harg5 harg7 harg8 0 0 256 _ _ _ _ (by decide) (by decide) (by decide) inb_S512x1024_S256x256_0_256 y,
    fun y => q_piece x0 x1 x2 x3 x4 x5 x6 x7 x8 x9 x10 harg2 harg5 harg7 harg8 0 0 0 _ _ _ _ (by decide) (by decide) (by decide) inb_S512x1024_S256x256_0_0 y,
    trivial⟩

/-- The stores of the queries, as far as they go. -/
theorem pieces_HS0_5 : View.PiecesOf (qB x0 x1 x2 x3 x4 x5 x6 x7 x8 x9 x10) (kernelRun0_A.sl.HS0_5 (F := Ideal) c arg2 harg2 arg5 harg5 arg7 harg7 arg8 harg8 x0 x3 x5 x6) := by
  unfold kernelRun0_A.sl.HS0_5
  exact ⟨fun y => q_piece x0 x1 x2 x3 x4 x5 x6 x7 x8 x9 x10 harg2 harg5 harg7 harg8 4 256 0 _ _ _ _ (by decide) (by decide) (by decide) inb_S512x1024_S256x256_256_0 y,
    pieces_HS0_4 c x0 x1 x2 x3 x4 x5 x6 x7 x8 x9 x10 arg2 harg2 arg5 harg5 arg7 harg7 arg8 harg8⟩

/-- The stores of the queries, as far as they go. -/
theorem pieces_HS0_6 : View.PiecesOf (qB x0 x1 x2 x3 x4 x5 x6 x7 x8 x9 x10) (kernelRun0_A.sl.HS0_6 (F := Ideal) c arg2 harg2 arg5 harg5 arg7 harg7 arg8 harg8 x0 x3 x5 x6) := by
  unfold kernelRun0_A.sl.HS0_6
  exact ⟨fun y => q_piece x0 x1 x2 x3 x4 x5 x6 x7 x8 x9 x10 harg2 harg5 harg7 harg8 4 256 256 _ _ _ _ (by decide) (by decide) (by decide) inb_S512x1024_S256x256_256_256 y,
    pieces_HS0_5 c x0 x1 x2 x3 x4 x5 x6 x7 x8 x9 x10 arg2 harg2 arg5 harg5 arg7 harg7 arg8 harg8⟩

/-- The stores of the queries, as far as they go. -/
theorem pieces_HS0_7 : View.PiecesOf (qB x0 x1 x2 x3 x4 x5 x6 x7 x8 x9 x10) (kernelRun0_A.sl.HS0_7 (F := Ideal) c arg2 harg2 arg5 harg5 arg7 harg7 arg8 harg8 x0 x3 x5 x6) := by
  unfold kernelRun0_A.sl.HS0_7
  exact ⟨fun y => q_piece x0 x1 x2 x3 x4 x5 x6 x7 x8 x9 x10 harg2 harg5 harg7 harg8 4 256 512 _ _ _ _ (by decide) (by decide) (by decide) inb_S512x1024_S256x256_256_512 y,
    pieces_HS0_6 c x0 x1 x2 x3 x4 x5 x6 x7 x8 x9 x10 arg2 harg2 arg5 harg5 arg7 harg7 arg8 harg8⟩

/-- The stores of the queries, as far as they go. -/
theorem pieces_HS0_8 : View.PiecesOf (qB x0 x1 x2 x3 x4 x5 x6 x7 x8 x9 x10) (kernelRun0_A.sl.HS0_8 (F := Ideal) c arg2 harg2 arg5 harg5 arg7 harg7 arg8 harg8 x0 x3 x5 x6) := by
  unfold kernelRun0_A.sl.HS0_8
  exact ⟨fun y => q_piece x0 x1 x2 x3 x4 x5 x6 x7 x8 x9 x10 harg2 harg5 harg7 harg8 4 256 768 _ _ _ _ (by decide) (by decide) (by decide) inb_S512x1024_S256x256_256_768 y,
    pieces_HS0_7 c x0 x1 x2 x3 x4 x5 x6 x7 x8 x9 x10 arg2 harg2 arg5 harg5 arg7 harg7 arg8 harg8⟩

/-- The stores of the keys, as far as they go. -/
theorem pieces_HS1_16 : View.PiecesOf (halfB x0 x1 x2 x3 x4 x5 x6 x7 x8 x9 x10 Rows.ck 1024 (by decide)) (kernelRun0_A.sl.HS1_16 (F := Ideal) c arg2 harg2 arg3 harg3 arg5 harg5 arg7 harg7 arg8 harg8 x0 x1 x3 x5 x6) := by
  unfold kernelRun0_A.sl.HS1_16
  exact ⟨fun y => new_hi x0 x1 x2 x3 x4 x5 x6 x7 x8 x9 x10 harg2 harg5 harg7 harg8 Rows.ck 1024 (by decide) 0 3 128 (by decide) (by decide) (by decide) (by decide) _ _ _ _ (by decide) inb_S8x4x2x192x128_S4x1x1x64x128_0_3_1_128_0 y,
    fun y => new_lo_swap x0 x1 x2 x3 x4 x5 x6 x7 x8 x9 x10 harg2 harg5 harg7 harg8 Rows.ck 1024 (by decide) 0 3 128 (by decide) (by decide) (by decide) (by decide) _ _ _ _ (by decide) inb_S8x4x2x192x128_S4x1x1x64x128_0_3_0_128_0 y,
    fun y => new_hi_swap x0 x1 x2 x3 x4 x5 x6 x7 x8 x9 x10 harg2 harg5 harg7 harg8 Rows.ck 1024 (by decide) 0 2 128 (by decide) (by decide) (by decide) (by decide) _ _ _ _ (by decide) inb_S8x4x2x192x128_S4x1x1x64x128_0_2_1_128_0 y,
    fun y => new_lo x0 x1 x2 x3 x4 x5 x6 x7 x8 x9 x10 harg2 harg5 harg7 harg8 Rows.ck 1024 (by decide) 0 2 128 (by decide) (by decide) (by decide) (by decide) _ _ _ _ (by decide) inb_S8x4x2x192x128_S4x1x1x64x128_0_2_0_128_0 y,
    fun y => new_hi x0 x1 x2 x3 x4 x5 x6 x7 x8 x9 x10 harg2 harg5 harg7 harg8 Rows.ck 1024 (by decide) 0 1 0 (by decide) (by decide) (by decide) (by decide) _ _ _ _ (by decide) inb_S8x4x2x192x128_S4x1x1x64x128_0_1_1_128_0 y,
    fun y => new_lo_swap x0 x1 x2 x3 x4 x5 x6 x7 x8 x9 x10 harg2 harg5 harg7 harg8 Rows.ck 1024 (by decide) 0 1 0 (by decide) (by decide) (by decide) (by decide) _ _ _ _ (by decide) inb_S8x4x2x192x128_S4x1x1x64x128_0_1_0_128_0 y,
    fun y => new_hi_swap x0 x1 x2 x3 x4 x5 x6 x7 x8 x9 x10 harg2 harg5 harg7 harg8 Rows.ck 1024 (by decide) 0 0 0 (by decide) (by decide) (by decide) (by decide) _ _ _ _ (by decide) inb_S8x4x2x192x128_S4x1x1x64x128_0_0_1_128_0 y,
    fun y => new_lo x0 x1 x2 x3 x4 x5 x6 x7 x8 x9 x10 harg2 harg5 harg7 harg8 Rows.ck 1024 (by decide) 0 0 0 (by decide) (by decide) (by decide) (by decide) _ _ _ _ (by decide) inb_S8x4x2x192x128_S4x1x1x64x128_0_0_0_128_0 y,
    fun y => old_hi x0 x1 x2 x3 x4 x5 x6 x7 x8 x9 x10 harg3 Rows.ck 1024 (by decide) 3 128 (by decide) (by decide) (by decide) x1 _ (by decide) (fun _ _ _ => rfl) inb_S8x4x2x192x128_S8x1x1x128x128_0_3_1_0_0 y,
    fun y => old_lo_swap x0 x1 x2 x3 x4 x5 x6 x7 x8 x9 x10 harg3 Rows.ck 1024 (by decide) 3 128 (by decide) (by decide) (by decide) x1 _ (by decide) (fun _ _ _ => rfl) inb_S8x4x2x192x128_S8x1x1x128x128_0_3_0_0_0 y,
    fun y => old_hi_swap x0 x1 x2 x3 x4 x5 x6 x7 x8 x9 x10 harg3 Rows.ck 1024 (by decide) 2 128 (by decide) (by decide) (by decide) x1 _ (by decide) (fun _ _ _ => rfl) inb_S8x4x2x192x128_S8x1x1x128x128_0_2_1_0_0 y,
    fun y => old_lo x0 x1 x2 x3 x4 x5 x6 x7 x8 x9 x10 harg3 Rows.ck 1024 (by decide) 2 128 (by decide) (by decide) (by decide) x1 _ (by decide) (fun _ _ _ => rfl) inb_S8x4x2x192x128_S8x1x1x128x128_0_2_0_0_0 y,
    fun y => old_hi x0 x1 x2 x3 x4 x5 x6 x7 x8 x9 x10 harg3 Rows.ck 1024 (by decide) 1 0 (by decide) (by decide) (by decide) x1 _ (by decide) (fun _ _ _ => rfl) inb_S8x4x2x192x128_S8x1x1x128x128_0_1_1_0_0 y,
    fun y => old_lo_swap x0 x1 x2 x3 x4 x5 x6 x7 x8 x9 x10 harg3 Rows.ck 1024 (by decide) 1 0 (by decide) (by decide) (by decide) x1 _ (by decide) (fun _ _ _ => rfl) inb_S8x4x2x192x128_S8x1x1x128x128_0_1_0_0_0 y,
    fun y => old_hi_swap x0 x1 x2 x3 x4 x5 x6 x7 x8 x9 x10 harg3 Rows.ck 1024 (by decide) 0 0 (by decide) (by decide) (by decide) x1 _ (by decide) (fun _ _ _ => rfl) inb_S8x4x2x192x128_S8x1x1x128x128_0_0_1_0_0 y,
    fun y => old_lo x0 x1 x2 x3 x4 x5 x6 x7 x8 x9 x10 harg3 Rows.ck 1024 (by decide) 0 0 (by decide) (by decide) (by decide) x1 _ (by decide) (fun _ _ _ => rfl) inb_S8x4x2x192x128_S8x1x1x128x128_0_0_0_0_0 y,
    trivial⟩

/-- The stores of the keys, as far as they go. -/
theorem pieces_HS1_24 : View.PiecesOf (halfB x0 x1 x2 x3 x4 x5 x6 x7 x8 x9 x10 Rows.ck 1024 (by decide)) (kernelRun0_A.sl.HS1_24 (F := Ideal) c arg2 harg2 arg3 harg3 arg5 harg5 arg7 harg7 arg8 harg8 x0 x1 x3 x5 x6) := by
  unfold kernelRun0_A.sl.HS1_24
  exact ⟨fun y => new_hi x0 x1 x2 x3 x4 x5 x6 x7 x8 x9 x10 harg2 harg5 harg7 harg8 Rows.ck 1024 (by decide) 4 3 128 (by decide) (by decide) (by decide) (by decide) _ _ _ _ (by decide) inb_S8x4x2x192x128_S4x1x1x64x128_4_3_1_128_0 y,
    fun y => new_lo_swap x0 x1 x2 x3 x4 x5 x6 x7 x8 x9 x10 harg2 harg5 harg7 harg8 Rows.ck 1024 (by decide) 4 3 128 (by decide) (by decide) (by decide) (by decide) _ _ _ _ (by decide) inb_S8x4x2x192x128_S4x1x1x64x128_4_3_0_128_0 y,
    fun y => new_hi_swap x0 x1 x2 x3 x4 x5 x6 x7 x8 x9 x10 harg2 harg5 harg7 harg8 Rows.ck 1024 (by decide) 4 2 128 (by decide) (by decide) (by decide) (by decide) _ _ _ _ (by decide) inb_S8x4x2x192x128_S4x1x1x64x128_4_2_1_128_0 y,
    fun y => new_lo x0 x1 x2 x3 x4 x5 x6 x7 x8 x9 x10 harg2 harg5 harg7 harg8 Rows.ck 1024 (by decide) 4 2 128 (by decide) (by decide) (by decide) (by decide) _ _ _ _ (by decide) inb_S8x4x2x192x128_S4x1x1x64x128_4_2_0_128_0 y,
    fun y => new_hi x0 x1 x2 x3 x4 x5 x6 x7 x8 x9 x10 harg2 harg5 harg7 harg8 Rows.ck 1024 (by decide) 4 1 0 (by decide) (by decide) (by decide) (by decide) _ _ _ _ (by decide) inb_S8x4x2x192x128_S4x1x1x64x128_4_1_1_128_0 y,
    fun y => new_lo_swap x0 x1 x2 x3 x4 x5 x6 x7 x8 x9 x10 harg2 harg5 harg7 harg8 Rows.ck 1024 (by decide) 4 1 0 (by decide) (by decide) (by decide) (by decide) _ _ _ _ (by decide) inb_S8x4x2x192x128_S4x1x1x64x128_4_1_0_128_0 y,
    fun y => new_hi_swap x0 x1 x2 x3 x4 x5 x6 x7 x8 x9 x10 harg2 harg5 harg7 harg8 Rows.ck 1024 (by decide) 4 0 0 (by decide) (by decide) (by decide) (by decide) _ _ _ _ (by decide) inb_S8x4x2x192x128_S4x1x1x64x128_4_0_1_128_0 y,
    fun y => new_lo x0 x1 x2 x3 x4 x5 x6 x7 x8 x9 x10 harg2 harg5 harg7 harg8 Rows.ck 1024 (by decide) 4 0 0 (by decide) (by decide) (by decide) (by decide) _ _ _ _ (by decide) inb_S8x4x2x192x128_S4x1x1x64x128_4_0_0_128_0 y,
    pieces_HS1_16 c x0 x1 x2 x3 x4 x5 x6 x7 x8 x9 x10 arg2 harg2 arg3 harg3 arg5 harg5 arg7 harg7 arg8 harg8⟩

/-- The stores of the values, as far as they go. -/
theorem pieces_HS2_24 : View.PiecesOf (halfB x0 x1 x2 x3 x4 x5 x6 x7 x8 x9 x10 Rows.cv 1280 (by decide)) (kernelRun0_A.sl.HS2_24 (F := Ideal) c arg2 harg2 arg4 harg4 arg5 harg5 arg7 harg7 arg8 harg8 x0 x2 x3 x5 x6) := by
  unfold kernelRun0_A.sl.HS2_24
  exact ⟨fun y => new_hi x0 x1 x2 x3 x4 x5 x6 x7 x8 x9 x10 harg2 harg5 harg7 harg8 Rows.cv 1280 (by decide) 4 3 128 (by decide) (by decide) (by decide) (by decide) _ _ _ _ (by decide) inb_S8x4x2x192x128_S4x1x1x64x128_4_3_1_128_0 y,
    fun y => new_lo_swap x0 x1 x2 x3 x4 x5 x6 x7 x8 x9 x10 harg2 harg5 harg7 harg8 Rows.cv 1280 (by decide) 4 3 128 (by decide) (by decide) (by decide) (by decide) _ _ _ _ (by decide) inb_S8x4x2x192x128_S4x1x1x64x128_4_3_0_128_0 y,
    fun y => new_hi_swap x0 x1 x2 x3 x4 x5 x6 x7 x8 x9 x10 harg2 harg5 harg7 harg8 Rows.cv 1280 (by decide) 4 2 128 (by decide) (by decide) (by decide) (by decide) _ _ _ _ (by decide) inb_S8x4x2x192x128_S4x1x1x64x128_4_2_1_128_0 y,
    fun y => new_lo x0 x1 x2 x3 x4 x5 x6 x7 x8 x9 x10 harg2 harg5 harg7 harg8 Rows.cv 1280 (by decide) 4 2 128 (by decide) (by decide) (by decide) (by decide) _ _ _ _ (by decide) inb_S8x4x2x192x128_S4x1x1x64x128_4_2_0_128_0 y,
    fun y => new_hi x0 x1 x2 x3 x4 x5 x6 x7 x8 x9 x10 harg2 harg5 harg7 harg8 Rows.cv 1280 (by decide) 4 1 0 (by decide) (by decide) (by decide) (by decide) _ _ _ _ (by decide) inb_S8x4x2x192x128_S4x1x1x64x128_4_1_1_128_0 y,
    fun y => new_lo_swap x0 x1 x2 x3 x4 x5 x6 x7 x8 x9 x10 harg2 harg5 harg7 harg8 Rows.cv 1280 (by decide) 4 1 0 (by decide) (by decide) (by decide) (by decide) _ _ _ _ (by decide) inb_S8x4x2x192x128_S4x1x1x64x128_4_1_0_128_0 y,
    fun y => new_hi_swap x0 x1 x2 x3 x4 x5 x6 x7 x8 x9 x10 harg2 harg5 harg7 harg8 Rows.cv 1280 (by decide) 4 0 0 (by decide) (by decide) (by decide) (by decide) _ _ _ _ (by decide) inb_S8x4x2x192x128_S4x1x1x64x128_4_0_1_128_0 y,
    fun y => new_lo x0 x1 x2 x3 x4 x5 x6 x7 x8 x9 x10 harg2 harg5 harg7 harg8 Rows.cv 1280 (by decide) 4 0 0 (by decide) (by decide) (by decide) (by decide) _ _ _ _ (by decide) inb_S8x4x2x192x128_S4x1x1x64x128_4_0_0_128_0 y,
    fun y => new_hi x0 x1 x2 x3 x4 x5 x6 x7 x8 x9 x10 harg2 harg5 harg7 harg8 Rows.cv 1280 (by decide) 0 3 128 (by decide) (by decide) (by decide) (by decide) _ _ _ _ (by decide) inb_S8x4x2x192x128_S4x1x1x64x128_0_3_1_128_0 y,
    fun y => new_lo_swap x0 x1 x2 x3 x4 x5 x6 x7 x8 x9 x10 harg2 harg5 harg7 harg8 Rows.cv 1280 (by decide) 0 3 128 (by decide) (by decide) (by decide) (by decide) _ _ _ _ (by decide) inb_S8x4x2x192x128_S4x1x1x64x128_0_3_0_128_0 y,
    fun y => new_hi_swap x0 x1 x2 x3 x4 x5 x6 x7 x8 x9 x10 harg2 harg5 harg7 harg8 Rows.cv 1280 (by decide) 0 2 128 (by decide) (by decide) (by decide) (by decide) _ _ _ _ (by decide) inb_S8x4x2x192x128_S4x1x1x64x128_0_2_1_128_0 y,
    fun y => new_lo x0 x1 x2 x3 x4 x5 x6 x7 x8 x9 x10 harg2 harg5 harg7 harg8 Rows.cv 1280 (by decide) 0 2 128 (by decide) (by decide) (by decide) (by decide) _ _ _ _ (by decide) inb_S8x4x2x192x128_S4x1x1x64x128_0_2_0_128_0 y,
    fun y => new_hi x0 x1 x2 x3 x4 x5 x6 x7 x8 x9 x10 harg2 harg5 harg7 harg8 Rows.cv 1280 (by decide) 0 1 0 (by decide) (by decide) (by decide) (by decide) _ _ _ _ (by decide) inb_S8x4x2x192x128_S4x1x1x64x128_0_1_1_128_0 y,
    fun y => new_lo_swap x0 x1 x2 x3 x4 x5 x6 x7 x8 x9 x10 harg2 harg5 harg7 harg8 Rows.cv 1280 (by decide) 0 1 0 (by decide) (by decide) (by decide) (by decide) _ _ _ _ (by decide) inb_S8x4x2x192x128_S4x1x1x64x128_0_1_0_128_0 y,
    fun y => new_hi_swap x0 x1 x2 x3 x4 x5 x6 x7 x8 x9 x10 harg2 harg5 harg7 harg8 Rows.cv 1280 (by decide) 0 0 0 (by decide) (by decide) (by decide) (by decide) _ _ _ _ (by decide) inb_S8x4x2x192x128_S4x1x1x64x128_0_0_1_128_0 y,
    fun y => new_lo x0 x1 x2 x3 x4 x5 x6 x7 x8 x9 x10 harg2 harg5 harg7 harg8 Rows.cv 1280 (by decide) 0 0 0 (by decide) (by decide) (by decide) (by decide) _ _ _ _ (by decide) inb_S8x4x2x192x128_S4x1x1x64x128_0_0_0_128_0 y,
    fun y => old_hi x0 x1 x2 x3 x4 x5 x6 x7 x8 x9 x10 harg4 Rows.cv 1280 (by decide) 3 128 (by decide) (by decide) (by decide) x2 _ (by decide) (fun _ _ _ => rfl) inb_S8x4x2x192x128_S8x1x1x128x128_0_3_1_0_0 y,
    fun y => old_lo_swap x0 x1 x2 x3 x4 x5 x6 x7 x8 x9 x10 harg4 Rows.cv 1280 (by decide) 3 128 (by decide) (by decide) (by decide) x2 _ (by decide) (fun _ _ _ => rfl) inb_S8x4x2x192x128_S8x1x1x128x128_0_3_0_0_0 y,
    fun y => old_hi_swap x0 x1 x2 x3 x4 x5 x6 x7 x8 x9 x10 harg4 Rows.cv 1280 (by decide) 2 128 (by decide) (by decide) (by decide) x2 _ (by decide) (fun _ _ _ => rfl) inb_S8x4x2x192x128_S8x1x1x128x128_0_2_1_0_0 y,
    fun y => old_lo x0 x1 x2 x3 x4 x5 x6 x7 x8 x9 x10 harg4 Rows.cv 1280 (by decide) 2 128 (by decide) (by decide) (by decide) x2 _ (by decide) (fun _ _ _ => rfl) inb_S8x4x2x192x128_S8x1x1x128x128_0_2_0_0_0 y,
    fun y => old_hi x0 x1 x2 x3 x4 x5 x6 x7 x8 x9 x10 harg4 Rows.cv 1280 (by decide) 1 0 (by decide) (by decide) (by decide) x2 _ (by decide) (fun _ _ _ => rfl) inb_S8x4x2x192x128_S8x1x1x128x128_0_1_1_0_0 y,
    fun y => old_lo_swap x0 x1 x2 x3 x4 x5 x6 x7 x8 x9 x10 harg4 Rows.cv 1280 (by decide) 1 0 (by decide) (by decide) (by decide) x2 _ (by decide) (fun _ _ _ => rfl) inb_S8x4x2x192x128_S8x1x1x128x128_0_1_0_0_0 y,
    fun y => old_hi_swap x0 x1 x2 x3 x4 x5 x6 x7 x8 x9 x10 harg4 Rows.cv 1280 (by decide) 0 0 (by decide) (by decide) (by decide) x2 _ (by decide) (fun _ _ _ => rfl) inb_S8x4x2x192x128_S8x1x1x128x128_0_0_1_0_0 y,
    fun y => old_lo x0 x1 x2 x3 x4 x5 x6 x7 x8 x9 x10 harg4 Rows.cv 1280 (by decide) 0 0 (by decide) (by decide) (by decide) x2 _ (by decide) (fun _ _ _ => rfl) inb_S8x4x2x192x128_S8x1x1x128x128_0_0_0_0_0 y,
    trivial⟩

end Cert.SinkAttn

end
-- ==== Proof.AttnUnits0.lean ====
/-
  What the loads of the groups of streams 0 and 1 hold.
-/
module

public import proofs.«01_k».proof.Proof.AttnUnit
public import proofs.«01_k».proof.Proof.AttnPieces

@[expose] public section

set_option maxRecDepth 16384

noncomputable section

namespace Cert.SinkAttn

open Cert.AttnIdeal Cert.AttnIdeal.Gen Idealize.ShloMosaic Idealize.ShloMosaic.TcCoe Cert.ConvFfn

variable (c : Dev nD) (x0 : FVec Ideal S8x64x1024 .f32) (x1 x2 : FVec Ideal S8x128x256 .f32) (x3 x4 : FVec Ideal S1x1024 .f32) (x5 : FVec Ideal S1x1024x1536 .bf16)
  (x6 : FVec Ideal S1x1536 .f32) (x7 : FVec Ideal S1x1024x1024 .bf16) (x8 : FVec Ideal S1x1024 .f32) (x9 : FVec Ideal S16 .f32) (x10 : FVec Ideal S4x2x192x128 .f32)
  (arg2 : Memref sig .tc .vmem S8x64x1024 .f32) (harg2 : arg2.IsWhole) (arg3 : Memref sig .tc .vmem S8x128x256 .f32) (harg3 : arg3.IsWhole)
  (arg4 : Memref sig .tc .vmem S8x128x256 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x1024x1536 .bf16) (harg7 : arg7.IsWhole)
  (arg8 : Memref sig .tc .vmem S1x1536 .f32) (harg8 : arg8.IsWhole) (arg9 : Memref sig .tc .vmem S1x1024x1024 .bf16) (harg9 : arg9.IsWhole)
  (arg10 : Memref sig .tc .vmem S1x1024 .f32) (harg10 : arg10.IsWhole)
  (arg11 : Memref sig .tc .smem S16 .f32) (harg11 : arg11.IsWhole) (arg12 : Memref sig .tc .vmem S4x2x192x128 .f32) (harg12 : arg12.IsWhole)
  (arg16 : Memref sig .tc .vmem S512x1024 .bf16) (arg17 arg18 : Memref sig .tc .vmem S8x4x2x192x128 .bf16) (arg19 : Memref sig .tc .vmem S512x1024 .bf16)
  (arg20 : Memref sig .tc .vmem S512x1024 .f32)

/-- A load of the queries. -/
theorem word_v254 (q : Fin 64) (l : Fin 128) : (kernelRun0_A.sl.v254 (F := Ideal) c arg2 harg2 arg5 harg5 arg7 harg7 arg8 harg8 arg16 x0 x3 x5 x6) (ix2 q l)
    = projS (rowsBlk x0 x1 x2 x3 x4 x5 x6 x7 x8 x9 x10 ⟨0, by decide⟩) q ⟨0 + l.val, by omega⟩ * cS := by
  unfold kernelRun0_A.sl.v254
  exact q_word x0 x1 x2 x3 x4 x5 x6 x7 x8 x9 x10 (pieces_HS0_4 c x0 x1 x2 x3 x4 x5 x6 x7 x8 x9 x10 arg2 harg2 arg5 harg5 arg7 harg7 arg8 harg8) (.leaf 3) 0 0 0 0 0 (by decide) (by decide) (by decide) rfl rfl inb_S512x1024_S64x128_0_0 (by sl_kernel_rfl) q l

/-- A load of the queries. -/
theorem word_v255 (q : Fin 64) (l : Fin 128) : (kernelRun0_A.sl.v255 (F := Ideal) c arg2 harg2 arg5 harg5 arg7 harg7 arg8 harg8 arg16 x0 x3 x5 x6) (ix2 q l)
    = projS (rowsBlk x0 x1 x2 x3 x4 x5 x6 x7 x8 x9 x10 ⟨0, by decide⟩) q ⟨128 + l.val, by omega⟩ * cS := by
  unfold kernelRun0_A.sl.v255
  exact q_word x0 x1 x2 x3 x4 x5 x6 x7 x8 x9 x10 (pieces_HS0_4 c x0 x1 x2 x3 x4 x5 x6 x7 x8 x9 x10 arg2 harg2 arg5 harg5 arg7 harg7 arg8 harg8) (.leaf 3) 0 0 1 0 128 (by decide) (by decide) (by decide) rfl rfl inb_S512x1024_S64x128_0_128 (by sl_kernel_rfl) q l

/-- A load of the keys. -/
theorem word_v256 (p : Fin 192) (l : Fin 128) : (kernelRun0_A.sl.v256 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨0, by decide⟩) p ⟨0, by decide⟩ ⟨l.val % 64, by omega⟩ else 0 := by
  unfold kernelRun0_A.sl.v256
  exact k_word x0 x1 x2 x3 x4 x5 x6 x7 x8 x9 x10 (pieces_HS1_16 c x0 x1 x2 x3 x4 x5 x6 x7 x8 x9 x10 arg2 harg2 arg3 harg3 arg5 harg5 arg7 harg7 arg8 harg8) (.split 3 128 (.leaf 15) (.leaf 7)) 0 0 0 (by decide) (by decide) inb_S8x4x2x192x128_S1x1x1x192x128_0_0_0_0_0 (by sl_kernel_rfl) p l

/-- A load of the keys. -/
theorem word_v258 (p : Fin 192) (l : Fin 128) : (kernelRun0_A.sl.v258 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨0, by decide⟩) p ⟨0, by decide⟩ ⟨l.val % 64, by omega⟩ else 0 := by
  unfold kernelRun0_A.sl.v258
  exact k_word x0 x1 x2 x3 x4 x5 x6 x7 x8 x9 x10 (pieces_HS1_16 c x0 x1 x2 x3 x4 x5 x6 x7 x8 x9 x10 arg2 harg2 arg3 harg3 arg5 harg5 arg7 harg7 arg8 harg8) (.split 3 128 (.leaf 14) (.leaf 6)) 0 0 1 (by decide) (by decide) inb_S8x4x2x192x128_S1x1x1x192x128_0_0_1_0_0 (by sl_kernel_rfl) p l

/-- A load of the values. -/
theorem word_v544 (p : Fin 192) (l : Fin 128) : (kernelRun0_A.sl.v544 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨0, by decide⟩) p ⟨0, by decide⟩ ⟨l.val % 64, by omega⟩ else 0 := by
  unfold kernelRun0_A.sl.v544
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 23) (.leaf 15)) 0 0 0 (by decide) (by decide) inb_S8x4x2x192x128_S1x1x1x192x128_0_0_0_0_0 (by sl_kernel_rfl) p l

/-- A load of the values. -/
theorem word_v546 (p : Fin 192) (l : Fin 128) : (kernelRun0_A.sl.v546 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨0, by decide⟩) p ⟨0, by decide⟩ ⟨l.val % 64, by omega⟩ else 0 := by
  unfold kernelRun0_A.sl.v546
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 22) (.leaf 14)) 0 0 1 (by decide) (by decide) inb_S8x4x2x192x128_S1x1x1x192x128_0_0_1_0_0 (by sl_kernel_rfl) p l

/-- What the loads of stream 0's group 0 hold. -/
theorem unit_0_0 : Loads (rowsBlk x0 x1 x2 x3 x4 x5 x6 x7 x8 x9 x10 ⟨0, by decide⟩) ⟨0, by decide⟩
    (kernelRun0_A.sl.v254 (F := Ideal) c arg2 harg2 arg5 harg5 arg7 harg7 arg8 harg8 arg16 x0 x3 x5 x6)
    (kernelRun0_A.sl.v255 (F := Ideal) c arg2 harg2 arg5 harg5 arg7 harg7 arg8 harg8 arg16 x0 x3 x5 x6)
    (kernelRun0_A.sl.v256 (F := Ideal) c arg2 harg2 arg3 harg3 arg5 harg5 arg7 harg7 arg8 harg8 arg17 x0 x1 x3 x5 x6)
    (kernelRun0_A.sl.v258 (F := Ideal) c arg2 harg2 arg3 harg3 arg5 harg5 arg7 harg7 arg8 harg8 arg17 x0 x1 x3 x5 x6)
    (kernelRun0_A.sl.v544 (F := Ideal) c arg2 harg2 arg4 harg4 arg5 harg5 arg7 harg7 arg8 harg8 arg18 x0 x2 x3 x5 x6)
    (kernelRun0_A.sl.v546 (F := Ideal) c arg2 harg2 arg4 harg4 arg5 harg5 arg7 harg7 arg8 harg8 arg18 x0 x2 x3 x5 x6)
    (rdT x10 harg12 0 0 inb_S4x2x192x128_S1x1x192x128_0_0_0_0) (rdT x10 harg12 0 1 inb_S4x2x192x128_S1x1x192x128_0_1_0_0)
    (rdS x9 harg11 0 inb_S16_S1_0 (by decide)) (rdS x9 harg11 2 inb_S16_S1_2 (by decide)) (rdS x9 harg11 1 inb_S16_S1_1 (by decide)) (rdS x9 harg11 3 inb_S16_S1_3 (by decide)) :=
  loads_mk x0 x1 x2 x3 x4 x5 x6 x7 x8 x9 x10 harg11 harg12 0 0 0 1 2 3 (by decide) (by decide) rfl rfl rfl rfl
    (word_v254 c x0 x1 x2 x3 x4 x5 x6 x7 x8 x9 x10 arg2 harg2 arg5 harg5 arg7 harg7 arg8 harg8 arg16)
    (word_v255 c x0 x1 x2 x3 x4 x5 x6 x7 x8 x9 x10 arg2 harg2 arg5 harg5 arg7 harg7 arg8 harg8 arg16)
    (word_v256 c x0 x1 x2 x3 x4 x5 x6 x7 x8 x9 x10 arg2 harg2 arg3 harg3 arg5 harg5 arg7 harg7 arg8 harg8 arg17)
    (word_v258 c x0 x1 x2 x3 x4 x5 x6 x7 x8 x9 x10 arg2 harg2 arg3 harg3 arg5 harg5 arg7 harg7 arg8 harg8 arg17)
    (word_v544 c x0 x1 x2 x3 x4 x5 x6 x7 x8 x9 x10 arg2 harg2 arg4 harg4 arg5 harg5 arg7 harg7 arg8 harg8 arg18)
    (word_v546 c x0 x1 x2 x3 x4 x5 x6 x7 x8 x9 x10 arg2 harg2 arg4 harg4 arg5 harg5 arg7 harg7 arg8 harg8 arg18)
    _ _ _ _ _ _ _ _ _ _

/-- A load of the queries. -/
theorem word_v271 (q : Fin 64) (l : Fin 128) : (kernelRun0_A.sl.v271 (F := Ideal) c arg2 harg2 arg5 harg5 arg7 harg7 arg8 harg8 arg16 x0 x3 x5 x6) (ix2 q l)
    = projS (rowsBlk x0 x1 x2 x3 x4 x5 x6 x7 x8 x9 x10 ⟨0, by decide⟩) q ⟨256 + l.val, by omega⟩ * cS := by
  unfold kernelRun0_A.sl.v271
  exact q_word x0 x1 x2 x3 x4 x5 x6 x7 x8 x9 x10 (pieces_HS0_4 c x0 x1 x2 x3 x4 x5 x6 x7 x8 x9 x10 arg2 harg2 arg5 harg5 arg7 harg7 arg8 harg8) (.leaf 2) 0 1 0 0 256 (by decide) (by decide) (by decide) rfl rfl inb_S512x1024_S64x128_0_256 (by sl_kernel_rfl) q l

/-- A load of the queries. -/
theorem word_v272 (q : Fin 64) (l : Fin 128) : (kernelRun0_A.sl.v272 (F := Ideal) c arg2 harg2 arg5 harg5 arg7 harg7 arg8 harg8 arg16 x0 x3 x5 x6) (ix2 q l)
    = projS (rowsBlk x0 x1 x2 x3 x4 x5 x6 x7 x8 x9 x10 ⟨0, by decide⟩) q ⟨384 + l.val, by omega⟩ * cS := by
  unfold kernelRun0_A.sl.v272
  exact q_word x0 x1 x2 x3 x4 x5 x6 x7 x8 x9 x10 (pieces_HS0_4 c x0 x1 x2 x3 x4 x5 x6 x7 x8 x9 x10 arg2 harg2 arg5 harg5 arg7 harg7 arg8 harg8) (.leaf 2) 0 1 1 0 384 (by decide) (by decide) (by decide) rfl rfl inb_S512x1024_S64x128_0_384 (by sl_kernel_rfl) q l

/-- A load of the keys. -/
theorem word_v273 (p : Fin 192) (l : Fin 128) : (kernelRun0_A.sl.v273 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨0, by decide⟩) p ⟨1, by decide⟩ ⟨l.val % 64, by omega⟩ else 0 := by
  unfold kernelRun0_A.sl.v273
  exact k_word x0 x1 x2 x3 x4 x5 x6 x7 x8 x9 x10 (pieces_HS1_16 c x0 x1 x2 x3 x4 x5 x6 x7 x8 x9 x10 arg2 harg2 arg3 harg3 arg5 harg5 arg7 harg7 arg8 harg8) (.split 3 128 (.leaf 13) (.leaf 5)) 0 1 0 (by decide) (by decide) inb_S8x4x2x192x128_S1x1x1x192x128_0_1_0_0_0 (by sl_kernel_rfl) p l

/-- A load of the keys. -/
theorem word_v275 (p : Fin 192) (l : Fin 128) : (kernelRun0_A.sl.v275 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨0, by decide⟩) p ⟨1, by decide⟩ ⟨l.val % 64, by omega⟩ else 0 := by
  unfold kernelRun0_A.sl.v275
  exact k_word x0 x1 x2 x3 x4 x5 x6 x7 x8 x9 x10 (pieces_HS1_16 c x0 x1 x2 x3 x4 x5 x6 x7 x8 x9 x10 arg2 harg2 arg3 harg3 arg5 harg5 arg7 harg7 arg8 harg8) (.split 3 128 (.leaf 12) (.leaf 4)) 0 1 1 (by decide) (by decide) inb_S8x4x2x192x128_S1x1x1x192x128_0_1_1_0_0 (by sl_kernel_rfl) p l

/-- A load of the values. -/
theorem word_v620 (p : Fin 192) (l : Fin 128) : (kernelRun0_A.sl.v620 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨0, by decide⟩) p ⟨1, by decide⟩ ⟨l.val % 64, by omega⟩ else 0 := by
  unfold kernelRun0_A.sl.v620
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 21) (.leaf 13)) 0 1 0 (by decide) (by decide) inb_S8x4x2x192x128_S1x1x1x192x128_0_1_0_0_0 (by sl_kernel_rfl) p l

/-- A load of the values. -/
theorem word_v622 (p : Fin 192) (l : Fin 128) : (kernelRun0_A.sl.v622 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨0, by decide⟩) p ⟨1, by decide⟩ ⟨l.val % 64, by omega⟩ else 0 := by
  unfold kernelRun0_A.sl.v622
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 20) (.leaf 12)) 0 1 1 (by decide) (by decide) inb_S8x4x2x192x128_S1x1x1x192x128_0_1_1_0_0 (by sl_kernel_rfl) p l

/-- What the loads of stream 0's group 1 hold. -/
theorem unit_0_1 : Loads (rowsBlk x0 x1 x2 x3 x4 x5 x6 x7 x8 x9 x10 ⟨0, by decide⟩) ⟨1, by decide⟩
    (kernelRun0_A.sl.v271 (F := Ideal) c arg2 harg2 arg5 harg5 arg7 harg7 arg8 harg8 arg16 x0 x3 x5 x6)
    (kernelRun0_A.sl.v272 (F := Ideal) c arg2 harg2 arg5 harg5 arg7 harg7 arg8 harg8 arg16 x0 x3 x5 x6)
    (kernelRun0_A.sl.v273 (F := Ideal) c arg2 harg2 arg3 harg3 arg5 harg5 arg7 harg7 arg8 harg8 arg17 x0 x1 x3 x5 x6)
    (kernelRun0_A.sl.v275 (F := Ideal) c arg2 harg2 arg3 harg3 arg5 harg5 arg7 harg7 arg8 harg8 arg17 x0 x1 x3 x5 x6)
    (kernelRun0_A.sl.v620 (F := Ideal) c arg2 harg2 arg4 harg4 arg5 harg5 arg7 harg7 arg8 harg8 arg18 x0 x2 x3 x5 x6)
    (kernelRun0_A.sl.v622 (F := Ideal) c arg2 harg2 arg4 harg4 arg5 harg5 arg7 harg7 arg8 harg8 arg18 x0 x2 x3 x5 x6)
    (rdT x10 harg12 1 0 inb_S4x2x192x128_S1x1x192x128_1_0_0_0) (rdT x10 harg12 1 1 inb_S4x2x192x128_S1x1x192x128_1_1_0_0)
    (rdS x9 harg11 4 inb_S16_S1_4 (by decide)) (rdS x9 harg11 6 inb_S16_S1_6 (by decide)) (rdS x9 harg11 5 inb_S16_S1_5 (by decide)) (rdS x9 harg11 7 inb_S16_S1_7 (by decide)) :=
  loads_mk x0 x1 x2 x3 x4 x5 x6 x7 x8 x9 x10 harg11 harg12 0 1 4 5 6 7 (by decide) (by decide) rfl rfl rfl rfl
    (word_v271 c x0 x1 x2 x3 x4 x5 x6 x7 x8 x9 x10 arg2 harg2 arg5 harg5 arg7 harg7 arg8 harg8 arg16)
    (word_v272 c x0 x1 x2 x3 x4 x5 x6 x7 x8 x9 x10 arg2 harg2 arg5 harg5 arg7 harg7 arg8 harg8 arg16)
    (word_v273 c x0 x1 x2 x3 x4 x5 x6 x7 x8 x9 x10 arg2 harg2 arg3 harg3 arg5 harg5 arg7 harg7 arg8 harg8 arg17)
    (word_v275 c x0 x1 x2 x3 x4 x5 x6 x7 x8 x9 x10 arg2 harg2 arg3 harg3 arg5 harg5 arg7 harg7 arg8 harg8 arg17)
    (word_v620 c x0 x1 x2 x3 x4 x5 x6 x7 x8 x9 x10 arg2 harg2 arg4 harg4 arg5 harg5 arg7 harg7 arg8 harg8 arg18)
    (word_v622 c x0 x1 x2 x3 x4 x5 x6 x7 x8 x9 x10 arg2 harg2 arg4 harg4 arg5 harg5 arg7 harg7 arg8 harg8 arg18)
    _ _ _ _ _ _ _ _ _ _

/-- A load of the queries. -/
theorem word_v369 (q : Fin 64) (l : Fin 128) : (kernelRun0_A.sl.v369 (F := Ideal) c arg2 harg2 arg5 harg5 arg7 harg7 arg8 harg8 arg16 x0 x3 x5 x6) (ix2 q l)
    = projS (rowsBlk x0 x1 x2 x3 x4 x5 x6 x7 x8 x9 x10 ⟨0, by decide⟩) q ⟨512 + l.val, by omega⟩ * cS := by
  unfold kernelRun0_A.sl.v369
  exact q_word x0 x1 x2 x3 x4 x5 x6 x7 x8 x9 x10 (pieces_HS0_4 c x0 x1 x2 x3 x4 x5 x6 x7 x8 x9 x10 arg2 harg2 arg5 harg5 arg7 harg7 arg8 harg8) (.leaf 1) 0 2 0 0 512 (by decide) (by decide) (by decide) rfl rfl inb_S512x1024_S64x128_0_512 (by sl_kernel_rfl) q l

/-- A load of the queries. -/
theorem word_v370 (q : Fin 64) (l : Fin 128) : (kernelRun0_A.sl.v370 (F := Ideal) c arg2 harg2 arg5 harg5 arg7 harg7 arg8 harg8 arg16 x0 x3 x5 x6) (ix2 q l)
    = projS (rowsBlk x0 x1 x2 x3 x4 x5 x6 x7 x8 x9 x10 ⟨0, by decide⟩) q ⟨640 + l.val, by omega⟩ * cS := by
  unfold kernelRun0_A.sl.v370
  exact q_word x0 x1 x2 x3 x4 x5 x6 x7 x8 x9 x10 (pieces_HS0_4 c x0 x1 x2 x3 x4 x5 x6 x7 x8 x9 x10 arg2 harg2 arg5 harg5 arg7 harg7 arg8 harg8) (.leaf 1) 0 2 1 0 640 (by decide) (by decide) (by decide) rfl rfl inb_S512x1024_S64x128_0_640 (by sl_kernel_rfl) q l

/-- A load of the keys. -/
theorem word_v371 (p : Fin 192) (l : Fin 128) : (kernelRun0_A.sl.v371 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨0, by decide⟩) p ⟨2, by decide⟩ ⟨l.val % 64, by omega⟩ else 0 := by
  unfold kernelRun0_A.sl.v371
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 19) (.leaf 11)) 0 2 0 (by decide) (by decide) inb_S8x4x2x192x128_S1x1x1x192x128_0_2_0_0_0 (by sl_kernel_rfl) p l

/-- A load of the keys. -/
theorem word_v373 (p : Fin 192) (l : Fin 128) : (kernelRun0_A.sl.v373 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨0, by decide⟩) p ⟨2, by decide⟩ ⟨l.val % 64, by omega⟩ else 0 := by
  unfold kernelRun0_A.sl.v373
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 18) (.leaf 10)) 0 2 1 (by decide) (by decide) inb_S8x4x2x192x128_S1x1x1x192x128_0_2_1_0_0 (by sl_kernel_rfl) p l

/-- A load of the values. -/
theorem word_v709 (p : Fin 192) (l : Fin 128) : (kernelRun0_A.sl.v709 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨0, by decide⟩) p ⟨2, by decide⟩ ⟨l.val % 64, by omega⟩ else 0 := by
  unfold kernelRun0_A.sl.v709
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 19) (.leaf 11)) 0 2 0 (by decide) (by decide) inb_S8x4x2x192x128_S1x1x1x192x128_0_2_0_0_0 (by sl_kernel_rfl) p l

/-- A load of the values. -/
theorem word_v711 (p : Fin 192) (l : Fin 128) : (kernelRun0_A.sl.v711 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨0, by decide⟩) p ⟨2, by decide⟩ ⟨l.val % 64, by omega⟩ else 0 := by
  unfold kernelRun0_A.sl.v711
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 18) (.leaf 10)) 0 2 1 (by decide) (by decide) inb_S8x4x2x192x128_S1x1x1x192x128_0_2_1_0_0 (by sl_kernel_rfl) p l

/-- What the loads of stream 0's group 2 hold. -/
theorem unit_0_2 : Loads (rowsBlk x0 x1 x2 x3 x4 x5 x6 x7 x8 x9 x10 ⟨0, by decide⟩) ⟨2, by decide⟩
    (kernelRun0_A.sl.v369 (F := Ideal) c arg2 harg2 arg5 harg5 arg7 harg7 arg8 harg8 arg16 x0 x3 x5 x6)
    (kernelRun0_A.sl.v370 (F := Ideal) c arg2 harg2 arg5 harg5 arg7 harg7 arg8 harg8 arg16 x0 x3 x5 x6)
    (kernelRun0_A.sl.v371 (F := Ideal) c arg2 harg2 arg3 harg3 arg5 harg5 arg7 harg7 arg8 harg8 arg17 x0 x1 x3 x5 x6)
    (kernelRun0_A.sl.v373 (F := Ideal) c arg2 harg2 arg3 harg3 arg5 harg5 arg7 harg7 arg8 harg8 arg17 x0 x1 x3 x5 x6)
    (kernelRun0_A.sl.v709 (F := Ideal) c arg2 harg2 arg4 harg4 arg5 harg5 arg7 harg7 arg8 harg8 arg18 x0 x2 x3 x5 x6)
    (kernelRun0_A.sl.v711 (F := Ideal) c arg2 harg2 arg4 harg4 arg5 harg5 arg7 harg7 arg8 harg8 arg18 x0 x2 x3 x5 x6)
    (rdT x10 harg12 2 0 inb_S4x2x192x128_S1x1x192x128_2_0_0_0) (rdT x10 harg12 2 1 inb_S4x2x192x128_S1x1x192x128_2_1_0_0)
    (rdS x9 harg11 8 inb_S16_S1_8 (by decide)) (rdS x9 harg11 10 inb_S16_S1_10 (by decide)) (rdS x9 harg11 9 inb_S16_S1_9 (by decide)) (rdS x9 harg11 11 inb_S16_S1_11 (by decide)) :=
  loads_mk x0 x1 x2 x3 x4 x5 x6 x7 x8 x9 x10 harg11 harg12 0 2 8 9 10 11 (by decide) (by decide) rfl rfl rfl rfl
    (word_v369 c x0 x1 x2 x3 x4 x5 x6 x7 x8 x9 x10 arg2 harg2 arg5 harg5 arg7 harg7 arg8 harg8 arg16)
    (word_v370 c x0 x1 x2 x3 x4 x5 x6 x7 x8 x9 x10 arg2 harg2 arg5 harg5 arg7 harg7 arg8 harg8 arg16)
    (word_v371 c x0 x1 x2 x3 x4 x5 x6 x7 x8 x9 x10 arg2 harg2 arg3 harg3 arg5 harg5 arg7 harg7 arg8 harg8 arg17)
    (word_v373 c x0 x1 x2 x3 x4 x5 x6 x7 x8 x9 x10 arg2 harg2 arg3 harg3 arg5 harg5 arg7 harg7 arg8 harg8 arg17)
    (word_v709 c x0 x1 x2 x3 x4 x5 x6 x7 x8 x9 x10 arg2 harg2 arg4 harg4 arg5 harg5 arg7 harg7 arg8 harg8 arg18)
    (word_v711 c x0 x1 x2 x3 x4 x5 x6 x7 x8 x9 x10 arg2 harg2 arg4 harg4 arg5 harg5 arg7 harg7 arg8 harg8 arg18)
    _ _ _ _ _ _ _ _ _ _

/-- A load of the queries. -/
theorem word_v386 (q : Fin 64) (l : Fin 128) : (kernelRun0_A.sl.v386 (F := Ideal) c arg2 harg2 arg5 harg5 arg7 harg7 arg8 harg8 arg16 x0 x3 x5 x6) (ix2 q l)
    = projS (rowsBlk x0 x1 x2 x3 x4 x5 x6 x7 x8 x9 x10 ⟨0, by decide⟩) q ⟨768 + l.val, by omega⟩ * cS := by
  unfold kernelRun0_A.sl.v386
  exact q_word x0 x1 x2 x3 x4 x5 x6 x7 x8 x9 x10 (pieces_HS0_4 c x0 x1 x2 x3 x4 x5 x6 x7 x8 x9 x10 arg2 harg2 arg5 harg5 arg7 harg7 arg8 harg8) (.leaf 0) 0 3 0 0 768 (by decide) (by decide) (by decide) rfl rfl inb_S512x1024_S64x128_0_768 (by sl_kernel_rfl) q l

/-- A load of the queries. -/
theorem word_v387 (q : Fin 64) (l : Fin 128) : (kernelRun0_A.sl.v387 (F := Ideal) c arg2 harg2 arg5 harg5 arg7 harg7 arg8 harg8 arg16 x0 x3 x5 x6) (ix2 q l)
    = projS (rowsBlk x0 x1 x2 x3 x4 x5 x6 x7 x8 x9 x10 ⟨0, by decide⟩) q ⟨896 + l.val, by omega⟩ * cS := by
  unfold kernelRun0_A.sl.v387
  exact q_word x0 x1 x2 x3 x4 x5 x6 x7 x8 x9 x10 (pieces_HS0_4 c x0 x1 x2 x3 x4 x5 x6 x7 x8 x9 x10 arg2 harg2 arg5 harg5 arg7 harg7 arg8 harg8) (.leaf 0) 0 3 1 0 896 (by decide) (by decide) (by decide) rfl rfl inb_S512x1024_S64x128_0_896 (by sl_kernel_rfl) q l

/-- A load of the keys. -/
theorem word_v388 (p : Fin 192) (l : Fin 128) : (kernelRun0_A.sl.v388 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨0, by decide⟩) p ⟨3, by decide⟩ ⟨l.val % 64, by omega⟩ else 0 := by
  unfold kernelRun0_A.sl.v388
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 17) (.leaf 9)) 0 3 0 (by decide) (by decide) inb_S8x4x2x192x128_S1x1x1x192x128_0_3_0_0_0 (by sl_kernel_rfl) p l

/-- A load of the keys. -/
theorem word_v390 (p : Fin 192) (l : Fin 128) : (kernelRun0_A.sl.v390 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨0, by decide⟩) p ⟨3, by decide⟩ ⟨l.val % 64, by omega⟩ else 0 := by
  unfold kernelRun0_A.sl.v390
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 16) (.leaf 8)) 0 3 1 (by decide) (by decide) inb_S8x4x2x192x128_S1x1x1x192x128_0_3_1_0_0 (by sl_kernel_rfl) p l

/-- A load of the values. -/
theorem word_v785 (p : Fin 192) (l : Fin 128) : (kernelRun0_A.sl.v785 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨0, by decide⟩) p ⟨3, by decide⟩ ⟨l.val % 64, by omega⟩ else 0 := by
  unfold kernelRun0_A.sl.v785
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 17) (.leaf 9)) 0 3 0 (by decide) (by decide) inb_S8x4x2x192x128_S1x1x1x192x128_0_3_0_0_0 (by sl_kernel_rfl) p l

/-- A load of the values. -/
theorem word_v787 (p : Fin 192) (l : Fin 128) : (kernelRun0_A.sl.v787 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨0, by decide⟩) p ⟨3, by decide⟩ ⟨l.val % 64, by omega⟩ else 0 := by
  unfold kernelRun0_A.sl.v787
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 16) (.leaf 8)) 0 3 1 (by decide) (by decide) inb_S8x4x2x192x128_S1x1x1x192x128_0_3_1_0_0 (by sl_kernel_rfl) p l

/-- What the loads of stream 0's group 3 hold. -/
theorem unit_0_3 : Loads (rowsBlk x0 x1 x2 x3 x4 x5 x6 x7 x8 x9 x10 ⟨0, by decide⟩) ⟨3, by decide⟩
    (kernelRun0_A.sl.v386 (F := Ideal) c arg2 harg2 arg5 harg5 arg7 harg7 arg8 harg8 arg16 x0 x3 x5 x6)
    (kernelRun0_A.sl.v387 (F := Ideal) c arg2 harg2 arg5 harg5 arg7 harg7 arg8 harg8 arg16 x0 x3 x5 x6)
    (kernelRun0_A.sl.v388 (F := Ideal) c arg2 harg2 arg3 harg3 arg5 harg5 arg7 harg7 arg8 harg8 arg17 x0 x1 x3 x5 x6)
    (kernelRun0_A.sl.v390 (F := Ideal) c arg2 harg2 arg3 harg3 arg5 harg5 arg7 harg7 arg8 harg8 arg17 x0 x1 x3 x5 x6)
    (kernelRun0_A.sl.v785 (F := Ideal) c arg2 harg2 arg4 harg4 arg5 harg5 arg7 harg7 arg8 harg8 arg18 x0 x2 x3 x5 x6)
    (kernelRun0_A.sl.v787 (F := Ideal) c arg2 harg2 arg4 harg4 arg5 harg5 arg7 harg7 arg8 harg8 arg18 x0 x2 x3 x5 x6)
    (rdT x10 harg12 3 0 inb_S4x2x192x128_S1x1x192x128_3_0_0_0) (rdT x10 harg12 3 1 inb_S4x2x192x128_S1x1x192x128_3_1_0_0)
    (rdS x9 harg11 12 inb_S16_S1_12 (by decide)) (rdS x9 harg11 14 inb_S16_S1_14 (by decide)) (rdS x9 harg11 13 inb_S16_S1_13 (by decide)) (rdS x9 harg11 15 inb_S16_S1_15 (by decide)) :=
  loads_mk x0 x1 x2 x3 x4 x5 x6 x7 x8 x9 x10 harg11 harg12 0 3 12 13 14 15 (by decide) (by decide) rfl rfl rfl rfl
    (word_v386 c x0 x1 x2 x3 x4 x5 x6 x7 x8 x9 x10 arg2 harg2 arg5 harg5 arg7 harg7 arg8 harg8 arg16)
    (word_v387 c x0 x1 x2 x3 x4 x5 x6 x7 x8 x9 x10 arg2 harg2 arg5 harg5 arg7 harg7 arg8 harg8 arg16)
    (word_v388 c x0 x1 x2 x3 x4 x5 x6 x7 x8 x9 x10 arg2 harg2 arg3 harg3 arg5 harg5 arg7 harg7 arg8 harg8 arg17)
    (word_v390 c x0 x1 x2 x3 x4 x5 x6 x7 x8 x9 x10 arg2 harg2 arg3 harg3 arg5 harg5 arg7 harg7 arg8 harg8 arg17)
    (word_v785 c x0 x1 x2 x3 x4 x5 x6 x7 x8 x9 x10 arg2 harg2 arg4 harg4 arg5 harg5 arg7 harg7 arg8 harg8 arg18)
    (word_v787 c x0 x1 x2 x3 x4 x5 x6 x7 x8 x9 x10 arg2 harg2 arg4 harg4 arg5 harg5 arg7 harg7 arg8 harg8 arg18)
    _ _ _ _ _ _ _ _ _ _

/-- A load of the queries. -/
theorem word_v484 (q : Fin 64) (l : Fin 128) : (kernelRun0_A.sl.v484 (F := Ideal) c arg2 harg2 arg5 harg5 arg7 harg7 arg8 harg8 arg16 x0 x3 x5 x6) (ix2 q l)
    = projS (rowsBlk x0 x1 x2 x3 x4 x5 x6 x7 x8 x9 x10 ⟨1, by decide⟩) q ⟨0 + l.val, by omega⟩ * cS := by
  unfold kernelRun0_A.sl.v484
  exact q_word x0 x1 x2 x3 x4 x5 x6 x7 x8 x9 x10 (pieces_HS0_4 c x0 x1 x2 x3 x4 x5 x6 x7 x8 x9 x10 arg2 harg2 arg5 harg5 arg7 harg7 arg8 harg8) (.leaf 3) 1 0 0 64 0 (by decide) (by decide) (by decide) rfl rfl inb_S512x1024_S64x128_64_0 (by sl_kernel_rfl) q l

/-- A load of the queries. -/
theorem word_v485 (q : Fin 64) (l : Fin 128) : (kernelRun0_A.sl.v485 (F := Ideal) c arg2 harg2 arg5 harg5 arg7 harg7 arg8 harg8 arg16 x0 x3 x5 x6) (ix2 q l)
    = projS (rowsBlk x0 x1 x2 x3 x4 x5 x6 x7 x8 x9 x10 ⟨1, by decide⟩) q ⟨128 + l.val, by omega⟩ * cS := by
  unfold kernelRun0_A.sl.v485
  exact q_word x0 x1 x2 x3 x4 x5 x6 x7 x8 x9 x10 (pieces_HS0_4 c x0 x1 x2 x3 x4 x5 x6 x7 x8 x9 x10 arg2 harg2 arg5 harg5 arg7 harg7 arg8 harg8) (.leaf 3) 1 0 1 64 128 (by decide) (by decide) (by decide) rfl rfl inb_S512x1024_S64x128_64_128 (by sl_kernel_rfl) q l

/-- A load of the keys. -/
theorem word_v486 (p : Fin 192) (l : Fin 128) : (kernelRun0_A.sl.v486 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨1, by decide⟩) p ⟨0, by decide⟩ ⟨l.val % 64, by omega⟩ else 0 := by
  unfold kernelRun0_A.sl.v486
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 23) (.leaf 15)) 1 0 0 (by decide) (by decide) inb_S8x4x2x192x128_S1x1x1x192x128_1_0_0_0_0 (by sl_kernel_rfl) p l

/-- A load of the keys. -/
theorem word_v488 (p : Fin 192) (l : Fin 128) : (kernelRun0_A.sl.v488 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨1, by decide⟩) p ⟨0, by decide⟩ ⟨l.val % 64, by omega⟩ else 0 := by
  unfold kernelRun0_A.sl.v488
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 22) (.leaf 14)) 1 0 1 (by decide) (by decide) inb_S8x4x2x192x128_S1x1x1x192x128_1_0_1_0_0 (by sl_kernel_rfl) p l

/-- A load of the values. -/
theorem word_v874 (p : Fin 192) (l : Fin 128) : (kernelRun0_A.sl.v874 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨1, by decide⟩) p ⟨0, by decide⟩ ⟨l.val % 64, by omega⟩ else 0 := by
  unfold kernelRun0_A.sl.v874
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 23) (.leaf 15)) 1 0 0 (by decide) (by decide) inb_S8x4x2x192x128_S1x1x1x192x128_1_0_0_0_0 (by sl_kernel_rfl) p l

/-- A load of the values. -/
theorem word_v876 (p : Fin 192) (l : Fin 128) : (kernelRun0_A.sl.v876 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨1, by decide⟩) p ⟨0, by decide⟩ ⟨l.val % 64, by omega⟩ else 0 := by
  unfold kernelRun0_A.sl.v876
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 22) (.leaf 14)) 1 0 1 (by decide) (by decide) inb_S8x4x2x192x128_S1x1x1x192x128_1_0_1_0_0 (by sl_kernel_rfl) p l

/-- What the loads of stream 1's group 0 hold. -/
theorem unit_1_0 : Loads (rowsBlk x0 x1 x2 x3 x4 x5 x6 x7 x8 x9 x10 ⟨1, by decide⟩) ⟨0, by decide⟩
    (kernelRun0_A.sl.v484 (F := Ideal) c arg2 harg2 arg5 harg5 arg7 harg7 arg8 harg8 arg16 x0 x3 x5 x6)
    (kernelRun0_A.sl.v485 (F := Ideal) c arg2 harg2 arg5 harg5 arg7 harg7 arg8 harg8 arg16 x0 x3 x5 x6)
    (kernelRun0_A.sl.v486 (F := Ideal) c arg2 harg2 arg3 harg3 arg5 harg5 arg7 harg7 arg8 harg8 arg17 x0 x1 x3 x5 x6)
    (kernelRun0_A.sl.v488 (F := Ideal) c arg2 harg2 arg3 harg3 arg5 harg5 arg7 harg7 arg8 harg8 arg17 x0 x1 x3 x5 x6)
    (kernelRun0_A.sl.v874 (F := Ideal) c arg2 harg2 arg4 harg4 arg5 harg5 arg7 harg7 arg8 harg8 arg18 x0 x2 x3 x5 x6)
    (kernelRun0_A.sl.v876 (F := Ideal) c arg2 harg2 arg4 harg4 arg5 harg5 arg7 harg7 arg8 harg8 arg18 x0 x2 x3 x5 x6)
    (rdT x10 harg12 0 0 inb_S4x2x192x128_S1x1x192x128_0_0_0_0) (rdT x10 harg12 0 1 inb_S4x2x192x128_S1x1x192x128_0_1_0_0)
    (rdS x9 harg11 0 inb_S16_S1_0 (by decide)) (rdS x9 harg11 2 inb_S16_S1_2 (by decide)) (rdS x9 harg11 1 inb_S16_S1_1 (by decide)) (rdS x9 harg11 3 inb_S16_S1_3 (by decide)) :=
  loads_mk x0 x1 x2 x3 x4 x5 x6 x7 x8 x9 x10 harg11 harg12 1 0 0 1 2 3 (by decide) (by decide) rfl rfl rfl rfl
    (word_v484 c x0 x1 x2 x3 x4 x5 x6 x7 x8 x9 x10 arg2 harg2 arg5 harg5 arg7 harg7 arg8 harg8 arg16)
    (word_v485 c x0 x1 x2 x3 x4 x5 x6 x7 x8 x9 x10 arg2 harg2 arg5 harg5 arg7 harg7 arg8 harg8 arg16)
    (word_v486 c x0 x1 x2 x3 x4 x5 x6 x7 x8 x9 x10 arg2 harg2 arg3 harg3 arg5 harg5 arg7 harg7 arg8 harg8 arg17)
    (word_v488 c x0 x1 x2 x3 x4 x5 x6 x7 x8 x9 x10 arg2 harg2 arg3 harg3 arg5 harg5 arg7 harg7 arg8 harg8 arg17)
    (word_v874 c x0 x1 x2 x3 x4 x5 x6 x7 x8 x9 x10 arg2 harg2 arg4 harg4 arg5 harg5 arg7 harg7 arg8 harg8 arg18)
    (word_v876 c x0 x1 x2 x3 x4 x5 x6 x7 x8 x9 x10 arg2 harg2 arg4 harg4 arg5 harg5 arg7 harg7 arg8 harg8 arg18)
    _ _ _ _ _ _ _ _ _ _

/-- A load of the queries. -/
theorem word_v560 (q : Fin 64) (l : Fin 128) : (kernelRun0_A.sl.v560 (F := Ideal) c arg2 harg2 arg5 harg5 arg7 harg7 arg8 harg8 arg16 x0 x3 x5 x6) (ix2 q l)
    = projS (rowsBlk x0 x1 x2 x3 x4 x5 x6 x7 x8 x9 x10 ⟨1, by decide⟩) q ⟨256 + l.val, by omega⟩ * cS := by
  unfold kernelRun0_A.sl.v560
  exact q_word x0 x1 x2 x3 x4 x5 x6 x7 x8 x9 x10 (pieces_HS0_4 c x0 x1 x2 x3 x4 x5 x6 x7 x8 x9 x10 arg2 harg2 arg5 harg5 arg7 harg7 arg8 harg8) (.leaf 2) 1 1 0 64 256 (by decide) (by decide) (by decide) rfl rfl inb_S512x1024_S64x128_64_256 (by sl_kernel_rfl) q l

/-- A load of the queries. -/
theorem word_v561 (q : Fin 64) (l : Fin 128) : (kernelRun0_A.sl.v561 (F := Ideal) c arg2 harg2 arg5 harg5 arg7 harg7 arg8 harg8 arg16 x0 x3 x5 x6) (ix2 q l)
    = projS (rowsBlk x0 x1 x2 x3 x4 x5 x6 x7 x8 x9 x10 ⟨1, by decide⟩) q ⟨384 + l.val, by omega⟩ * cS := by
  unfold kernelRun0_A.sl.v561
  exact q_word x0 x1 x2 x3 x4 x5 x6 x7 x8 x9 x10 (pieces_HS0_4 c x0 x1 x2 x3 x4 x5 x6 x7 x8 x9 x10 arg2 harg2 arg5 harg5 arg7 harg7 arg8 harg8) (.leaf 2) 1 1 1 64 384 (by decide) (by decide) (by decide) rfl rfl inb_S512x1024_S64x128_64_384 (by sl_kernel_rfl) q l

/-- A load of the keys. -/
theorem word_v562 (p : Fin 192) (l : Fin 128) : (kernelRun0_A.sl.v562 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨1, by decide⟩) p ⟨1, by decide⟩ ⟨l.val % 64, by omega⟩ else 0 := by
  unfold kernelRun0_A.sl.v562
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 21) (.leaf 13)) 1 1 0 (by decide) (by decide) inb_S8x4x2x192x128_S1x1x1x192x128_1_1_0_0_0 (by sl_kernel_rfl) p l

/-- A load of the keys. -/
theorem word_v564 (p : Fin 192) (l : Fin 128) : (kernelRun0_A.sl.v564 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨1, by decide⟩) p ⟨1, by decide⟩ ⟨l.val % 64, by omega⟩ else 0 := by
  unfold kernelRun0_A.sl.v564
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 20) (.leaf 12)) 1 1 1 (by decide) (by decide) inb_S8x4x2x192x128_S1x1x1x192x128_1_1_1_0_0 (by sl_kernel_rfl) p l

/-- A load of the values. -/
theorem word_v950 (p : Fin 192) (l : Fin 128) : (kernelRun0_A.sl.v950 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨1, by decide⟩) p ⟨1, by decide⟩ ⟨l.val % 64, by omega⟩ else 0 := by
  unfold kernelRun0_A.sl.v950
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 21) (.leaf 13)) 1 1 0 (by decide) (by decide) inb_S8x4x2x192x128_S1x1x1x192x128_1_1_0_0_0 (by sl_kernel_rfl) p l

/-- A load of the values. -/
theorem word_v952 (p : Fin 192) (l : Fin 128) : (kernelRun0_A.sl.v952 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨1, by decide⟩) p ⟨1, by decide⟩ ⟨l.val % 64, by omega⟩ else 0 := by
  unfold kernelRun0_A.sl.v952
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 20) (.leaf 12)) 1 1 1 (by decide) (by decide) inb_S8x4x2x192x128_S1x1x1x192x128_1_1_1_0_0 (by sl_kernel_rfl) p l

/-- What the loads of stream 1's group 1 hold. -/
theorem unit_1_1 : Loads (rowsBlk x0 x1 x2 x3 x4 x5 x6 x7 x8 x9 x10 ⟨1, by decide⟩) ⟨1, by decide⟩
    (kernelRun0_A.sl.v560 (F := Ideal) c arg2 harg2 arg5 harg5 arg7 harg7 arg8 harg8 arg16 x0 x3 x5 x6)
    (kernelRun0_A.sl.v561 (F := Ideal) c arg2 harg2 arg5 harg5 arg7 harg7 arg8 harg8 arg16 x0 x3 x5 x6)
    (kernelRun0_A.sl.v562 (F := Ideal) c arg2 harg2 arg3 harg3 arg5 harg5 arg7 harg7 arg8 harg8 arg17 x0 x1 x3 x5 x6)
    (kernelRun0_A.sl.v564 (F := Ideal) c arg2 harg2 arg3 harg3 arg5 harg5 arg7 harg7 arg8 harg8 arg17 x0 x1 x3 x5 x6)
    (kernelRun0_A.sl.v950 (F := Ideal) c arg2 harg2 arg4 harg4 arg5 harg5 arg7 harg7 arg8 harg8 arg18 x0 x2 x3 x5 x6)
    (kernelRun0_A.sl.v952 (F := Ideal) c arg2 harg2 arg4 harg4 arg5 harg5 arg7 harg7 arg8 harg8 arg18 x0 x2 x3 x5 x6)
    (rdT x10 harg12 1 0 inb_S4x2x192x128_S1x1x192x128_1_0_0_0) (rdT x10 harg12 1 1 inb_S4x2x192x128_S1x1x192x128_1_1_0_0)
    (rdS x9 harg11 4 inb_S16_S1_4 (by decide)) (rdS x9 harg11 6 inb_S16_S1_6 (by decide)) (rdS x9 harg11 5 inb_S16_S1_5 (by decide)) (rdS x9 harg11 7 inb_S16_S1_7 (by decide)) :=
  loads_mk x0 x1 x2 x3 x4 x5 x6 x7 x8 x9 x10 harg11 harg12 1 1 4 5 6 7 (by decide) (by decide) rfl rfl rfl rfl
    (word_v560 c x0 x1 x2 x3 x4 x5 x6 x7 x8 x9 x10 arg2 harg2 arg5 harg5 arg7 harg7 arg8 harg8 arg16)
    (word_v561 c x0 x1 x2 x3 x4 x5 x6 x7 x8 x9 x10 arg2 harg2 arg5 harg5 arg7 harg7 arg8 harg8 arg16)
    (word_v562 c x0 x1 x2 x3 x4 x5 x6 x7 x8 x9 x10 arg2 harg2 arg3 harg3 arg5 harg5 arg7 harg7 arg8 harg8 arg17)
    (word_v564 c x0 x1 x2 x3 x4 x5 x6 x7 x8 x9 x10 arg2 harg2 arg3 harg3 arg5 harg5 arg7 harg7 arg8 harg8 arg17)
    (word_v950 c x0 x1 x2 x3 x4 x5 x6 x7 x8 x9 x10 arg2 harg2 arg4 harg4 arg5 harg5 arg7 harg7 arg8 harg8 arg18)
    (word_v952 c x0 x1 x2 x3 x4 x5 x6 x7 x8 x9 x10 arg2 harg2 arg4 harg4 arg5 harg5 arg7 harg7 arg8 harg8 arg18)
    _ _ _ _ _ _ _ _ _ _

/-- A load of the queries. -/
theorem word_v649 (q : Fin 64) (l : Fin 128) : (kernelRun0_A.sl.v649 (F := Ideal) c arg2 harg2 arg5 harg5 arg7 harg7 arg8 harg8 arg16 x0 x3 x5 x6) (ix2 q l)
    = projS (rowsBlk x0 x1 x2 x3 x4 x5 x6 x7 x8 x9 x10 ⟨1, by decide⟩) q ⟨512 + l.val, by omega⟩ * cS := by
  unfold kernelRun0_A.sl.v649
  exact q_word x0 x1 x2 x3 x4 x5 x6 x7 x8 x9 x10 (pieces_HS0_5 c x0 x1 x2 x3 x4 x5 x6 x7 x8 x9 x10 arg2 harg2 arg5 harg5 arg7 harg7 arg8 harg8) (.leaf 2) 1 2 0 64 512 (by decide) (by decide) (by decide) rfl rfl inb_S512x1024_S64x128_64_512 (by sl_kernel_rfl) q l

/-- A load of the queries. -/
theorem word_v650 (q : Fin 64) (l : Fin 128) : (kernelRun0_A.sl.v650 (F := Ideal) c arg2 harg2 arg5 harg5 arg7 harg7 arg8 harg8 arg16 x0 x3 x5 x6) (ix2 q l)
    = projS (rowsBlk x0 x1 x2 x3 x4 x5 x6 x7 x8 x9 x10 ⟨1, by decide⟩) q ⟨640 + l.val, by omega⟩ * cS := by
  unfold kernelRun0_A.sl.v650
  exact q_word x0 x1 x2 x3 x4 x5 x6 x7 x8 x9 x10 (pieces_HS0_5 c x0 x1 x2 x3 x4 x5 x6 x7 x8 x9 x10 arg2 harg2 arg5 harg5 arg7 harg7 arg8 harg8) (.leaf 2) 1 2 1 64 640 (by decide) (by decide) (by decide) rfl rfl inb_S512x1024_S64x128_64_640 (by sl_kernel_rfl) q l

/-- A load of the keys. -/
theorem word_v651 (p : Fin 192) (l : Fin 128) : (kernelRun0_A.sl.v651 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨1, by decide⟩) p ⟨2, by decide⟩ ⟨l.val % 64, by omega⟩ else 0 := by
  unfold kernelRun0_A.sl.v651
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 19) (.leaf 11)) 1 2 0 (by decide) (by decide) inb_S8x4x2x192x128_S1x1x1x192x128_1_2_0_0_0 (by sl_kernel_rfl) p l

/-- A load of the keys. -/
theorem word_v653 (p : Fin 192) (l : Fin 128) : (kernelRun0_A.sl.v653 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨1, by decide⟩) p ⟨2, by decide⟩ ⟨l.val % 64, by omega⟩ else 0 := by
  unfold kernelRun0_A.sl.v653
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 18) (.leaf 10)) 1 2 1 (by decide) (by decide) inb_S8x4x2x192x128_S1x1x1x192x128_1_2_1_0_0 (by sl_kernel_rfl) p l

/-- A load of the values. -/
theorem word_v1039 (p : Fin 192) (l : Fin 128) : (kernelRun0_A.sl.v1039 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨1, by decide⟩) p ⟨2, by decide⟩ ⟨l.val % 64, by omega⟩ else 0 := by
  unfold kernelRun0_A.sl.v1039
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 19) (.leaf 11)) 1 2 0 (by decide) (by decide) inb_S8x4x2x192x128_S1x1x1x192x128_1_2_0_0_0 (by sl_kernel_rfl) p l

/-- A load of the values. -/
theorem word_v1041 (p : Fin 192) (l : Fin 128) : (kernelRun0_A.sl.v1041 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨1, by decide⟩) p ⟨2, by decide⟩ ⟨l.val % 64, by omega⟩ else 0 := by
  unfold kernelRun0_A.sl.v1041
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 18) (.leaf 10)) 1 2 1 (by decide) (by decide) inb_S8x4x2x192x128_S1x1x1x192x128_1_2_1_0_0 (by sl_kernel_rfl) p l

/-- What the loads of stream 1's group 2 hold. -/
theorem unit_1_2 : Loads (rowsBlk x0 x1 x2 x3 x4 x5 x6 x7 x8 x9 x10 ⟨1, by decide⟩) ⟨2, by decide⟩
    (kernelRun0_A.sl.v649 (F := Ideal) c arg2 harg2 arg5 harg5 arg7 harg7 arg8 harg8 arg16 x0 x3 x5 x6)
    (kernelRun0_A.sl.v650 (F := Ideal) c arg2 harg2 arg5 harg5 arg7 harg7 arg8 harg8 arg16 x0 x3 x5 x6)
    (kernelRun0_A.sl.v651 (F := Ideal) c arg2 harg2 arg3 harg3 arg5 harg5 arg7 harg7 arg8 harg8 arg17 x0 x1 x3 x5 x6)
    (kernelRun0_A.sl.v653 (F := Ideal) c arg2 harg2 arg3 harg3 arg5 harg5 arg7 harg7 arg8 harg8 arg17 x0 x1 x3 x5 x6)
    (kernelRun0_A.sl.v1039 (F := Ideal) c arg2 harg2 arg4 harg4 arg5 harg5 arg7 harg7 arg8 harg8 arg18 x0 x2 x3 x5 x6)
    (kernelRun0_A.sl.v1041 (F := Ideal) c arg2 harg2 arg4 harg4 arg5 harg5 arg7 harg7 arg8 harg8 arg18 x0 x2 x3 x5 x6)
    (rdT x10 harg12 2 0 inb_S4x2x192x128_S1x1x192x128_2_0_0_0) (rdT x10 harg12 2 1 inb_S4x2x192x128_S1x1x192x128_2_1_0_0)
    (rdS x9 harg11 8 inb_S16_S1_8 (by decide)) (rdS x9 harg11 10 inb_S16_S1_10 (by decide)) (rdS x9 harg11 9 inb_S16_S1_9 (by decide)) (rdS x9 harg11 11 inb_S16_S1_11 (by decide)) :=
  loads_mk x0 x1 x2 x3 x4 x5 x6 x7 x8 x9 x10 harg11 harg12 1 2 8 9 10 11 (by decide) (by decide) rfl rfl rfl rfl
    (word_v649 c x0 x1 x2 x3 x4 x5 x6 x7 x8 x9 x10 arg2 harg2 arg5 harg5 arg7 harg7 arg8 harg8 arg16)
    (word_v650 c x0 x1 x2 x3 x4 x5 x6 x7 x8 x9 x10 arg2 harg2 arg5 harg5 arg7 harg7 arg8 harg8 arg16)
    (word_v651 c x0 x1 x2 x3 x4 x5 x6 x7 x8 x9 x10 arg2 harg2 arg3 harg3 arg5 harg5 arg7 harg7 arg8 harg8 arg17)
    (word_v653 c x0 x1 x2 x3 x4 x5 x6 x7 x8 x9 x10 arg2 harg2 arg3 harg3 arg5 harg5 arg7 harg7 arg8 harg8 arg17)
    (word_v1039 c x0 x1 x2 x3 x4 x5 x6 x7 x8 x9 x10 arg2 harg2 arg4 harg4 arg5 harg5 arg7 harg7 arg8 harg8 arg18)
    (word_v1041 c x0 x1 x2 x3 x4 x5 x6 x7 x8 x9 x10 arg2 harg2 arg4 harg4 arg5 harg5 arg7 harg7 arg8 harg8 arg18)
    _ _ _ _ _ _ _ _ _ _

/-- A load of the queries. -/
theorem word_v725 (q : Fin 64) (l : Fin 128) : (kernelRun0_A.sl.v725 (F := Ideal) c arg2 harg2 arg5 harg5 arg7 harg7 arg8 harg8 arg16 x0 x3 x5 x6) (ix2 q l)
    = projS (rowsBlk x0 x1 x2 x3 x4 x5 x6 x7 x8 x9 x10 ⟨1, by decide⟩) q ⟨768 + l.val, by omega⟩ * cS := by
  unfold kernelRun0_A.sl.v725
  exact q_word x0 x1 x2 x3 x4 x5 x6 x7 x8 x9 x10 (pieces_HS0_5 c x0 x1 x2 x3 x4 x5 x6 x7 x8 x9 x10 arg2 harg2 arg5 harg5 arg7 harg7 arg8 harg8) (.leaf 1) 1 3 0 64 768 (by decide) (by decide) (by decide) rfl rfl inb_S512x1024_S64x128_64_768 (by sl_kernel_rfl) q l

/-- A load of the queries. -/
theorem word_v726 (q : Fin 64) (l : Fin 128) : (kernelRun0_A.sl.v726 (F := Ideal) c arg2 harg2 arg5 harg5 arg7 harg7 arg8 harg8 arg16 x0 x3 x5 x6) (ix2 q l)
    = projS (rowsBlk x0 x1 x2 x3 x4 x5 x6 x7 x8 x9 x10 ⟨1, by decide⟩) q ⟨896 + l.val, by omega⟩ * cS := by
  unfold kernelRun0_A.sl.v726
  exact q_word x0 x1 x2 x3 x4 x5 x6 x7 x8 x9 x10 (pieces_HS0_5 c x0 x1 x2 x3 x4 x5 x6 x7 x8 x9 x10 arg2 harg2 arg5 harg5 arg7 harg7 arg8 harg8) (.leaf 1) 1 3 1 64 896 (by decide) (by decide) (by decide) rfl rfl inb_S512x1024_S64x128_64_896 (by sl_kernel_rfl) q l

/-- A load of the keys. -/
theorem word_v727 (p : Fin 192) (l : Fin 128) : (kernelRun0_A.sl.v727 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨1, by decide⟩) p ⟨3, by decide⟩ ⟨l.val % 64, by omega⟩ else 0 := by
  unfold kernelRun0_A.sl.v727
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 17) (.leaf 9)) 1 3 0 (by decide) (by decide) inb_S8x4x2x192x128_S1x1x1x192x128_1_3_0_0_0 (by sl_kernel_rfl) p l

/-- A load of the keys. -/
theorem word_v729 (p : Fin 192) (l : Fin 128) : (kernelRun0_A.sl.v729 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨1, by decide⟩) p ⟨3, by decide⟩ ⟨l.val % 64, by omega⟩ else 0 := by
  unfold kernelRun0_A.sl.v729
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 16) (.leaf 8)) 1 3 1 (by decide) (by decide) inb_S8x4x2x192x128_S1x1x1x192x128_1_3_1_0_0 (by sl_kernel_rfl) p l

/-- A load of the values. -/
theorem word_v1115 (p : Fin 192) (l : Fin 128) : (kernelRun0_A.sl.v1115 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨1, by decide⟩) p ⟨3, by decide⟩ ⟨l.val % 64, by omega⟩ else 0 := by
  unfold kernelRun0_A.sl.v1115
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 17) (.leaf 9)) 1 3 0 (by decide) (by decide) inb_S8x4x2x192x128_S1x1x1x192x128_1_3_0_0_0 (by sl_kernel_rfl) p l

/-- A load of the values. -/
theorem word_v1117 (p : Fin 192) (l : Fin 128) : (kernelRun0_A.sl.v1117 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨1, by decide⟩) p ⟨3, by decide⟩ ⟨l.val % 64, by omega⟩ else 0 := by
  unfold kernelRun0_A.sl.v1117
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 16) (.leaf 8)) 1 3 1 (by decide) (by decide) inb_S8x4x2x192x128_S1x1x1x192x128_1_3_1_0_0 (by sl_kernel_rfl) p l

/-- What the loads of stream 1's group 3 hold. -/
theorem unit_1_3 : Loads (rowsBlk x0 x1 x2 x3 x4 x5 x6 x7 x8 x9 x10 ⟨1, by decide⟩) ⟨3, by decide⟩
    (kernelRun0_A.sl.v725 (F := Ideal) c arg2 harg2 arg5 harg5 arg7 harg7 arg8 harg8 arg16 x0 x3 x5 x6)
    (kernelRun0_A.sl.v726 (F := Ideal) c arg2 harg2 arg5 harg5 arg7 harg7 arg8 harg8 arg16 x0 x3 x5 x6)
    (kernelRun0_A.sl.v727 (F := Ideal) c arg2 harg2 arg3 harg3 arg5 harg5 arg7 harg7 arg8 harg8 arg17 x0 x1 x3 x5 x6)
    (kernelRun0_A.sl.v729 (F := Ideal) c arg2 harg2 arg3 harg3 arg5 harg5 arg7 harg7 arg8 harg8 arg17 x0 x1 x3 x5 x6)
    (kernelRun0_A.sl.v1115 (F := Ideal) c arg2 harg2 arg4 harg4 arg5 harg5 arg7 harg7 arg8 harg8 arg18 x0 x2 x3 x5 x6)
    (kernelRun0_A.sl.v1117 (F := Ideal) c arg2 harg2 arg4 harg4 arg5 harg5 arg7 harg7 arg8 harg8 arg18 x0 x2 x3 x5 x6)
    (rdT x10 harg12 3 0 inb_S4x2x192x128_S1x1x192x128_3_0_0_0) (rdT x10 harg12 3 1 inb_S4x2x192x128_S1x1x192x128_3_1_0_0)
    (rdS x9 harg11 12 inb_S16_S1_12 (by decide)) (rdS x9 harg11 14 inb_S16_S1_14 (by decide)) (rdS x9 harg11 13 inb_S16_S1_13 (by decide)) (rdS x9 harg11 15 inb_S16_S1_15 (by decide)) :=
  loads_mk x0 x1 x2 x3 x4 x5 x6 x7 x8 x9 x10 harg11 harg12 1 3 12 13 14 15 (by decide) (by decide) rfl rfl rfl rfl
    (word_v725 c x0 x1 x2 x3 x4 x5 x6 x7 x8 x9 x10 arg2 harg2 arg5 harg5 arg7 harg7 arg8 harg8 arg16)
    (word_v726 c x0 x1 x2 x3 x4 x5 x6 x7 x8 x9 x10 arg2 harg2 arg5 harg5 arg7 harg7 arg8 harg8 arg16)
    (word_v727 c x0 x1 x2 x3 x4 x5 x6 x7 x8 x9 x10 arg2 harg2 arg3 harg3 arg5 harg5 arg7 harg7 arg8 harg8 arg17)
    (word_v729 c x0 x1 x2 x3 x4 x5 x6 x7 x8 x9 x10 arg2 harg2 arg3 harg3 arg5 harg5 arg7 harg7 arg8 harg8 arg17)
    (word_v1115 c x0 x1 x2 x3 x4 x5 x6 x7 x8 x9 x10 arg2 harg2 arg4 harg4 arg5 harg5 arg7 harg7 arg8 harg8 arg18)
    (word_v1117 c x0 x1 x2 x3 x4 x5 x6 x7 x8 x9 x10 arg2 harg2 arg4 harg4 arg5 harg5 arg7 harg7 arg8 harg8 arg18)
    _ _ _ _ _ _ _ _ _ _

end Cert.SinkAttn

end
-- ==== Proof.AttnUnits1.lean ====
/-
  What the loads of the groups of streams 2 and 3 hold.
-/
module

public import proofs.«01_k».proof.Proof.AttnUnit
public import proofs.«01_k».proof.Proof.AttnPieces

@[expose] public section

set_option maxRecDepth 16384

noncomputable section

namespace Cert.SinkAttn

open Cert.AttnIdeal Cert.AttnIdeal.Gen Idealize.ShloMosaic Idealize.ShloMosaic.TcCoe Cert.ConvFfn

variable (c : Dev nD) (x0 : FVec Ideal S8x64x1024 .f32) (x1 x2 : FVec Ideal S8x128x256 .f32) (x3 x4 : FVec Ideal S1x1024 .f32) (x5 : FVec Ideal S1x1024x1536 .bf16)
  (x6 : FVec Ideal S1x1536 .f32) (x7 : FVec Ideal S1x1024x1024 .bf16) (x8 : FVec Ideal S1x1024 .f32) (x9 : FVec Ideal S16 .f32) (x10 : FVec Ideal S4x2x192x128 .f32)
  (arg2 : Memref sig .tc .vmem S8x64x1024 .f32) (harg2 : arg2.IsWhole) (arg3 : Memref sig .tc .vmem S8x128x256 .f32) (harg3 : arg3.IsWhole)
  (arg4 : Memref sig .tc .vmem S8x128x256 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x1024x1536 .bf16) (harg7 : arg7.IsWhole)
  (arg8 : Memref sig .tc .vmem S1x1536 .f32) (harg8 : arg8.IsWhole) (arg9 : Memref sig .tc .vmem S1x1024x1024 .bf16) (harg9 : arg9.IsWhole)
  (arg10 : Memref sig .tc .vmem S1x1024 .f32) (harg10 : arg10.IsWhole)
  (arg11 : Memref sig .tc .smem S16 .f32) (harg11 : arg11.IsWhole) (arg12 : Memref sig .tc .vmem S4x2x192x128 .f32) (harg12 : arg12.IsWhole)
  (arg16 : Memref sig .tc .vmem S512x1024 .bf16) (arg17 arg18 : Memref sig .tc .vmem S8x4x2x192x128 .bf16) (arg19 : Memref sig .tc .vmem S512x1024 .bf16)
  (arg20 : Memref sig .tc .vmem S512x1024 .f32)

/-- A load of the queries. -/
theorem word_v814 (q : Fin 64) (l : Fin 128) : (kernelRun0_A.sl.v814 (F := Ideal) c arg2 harg2 arg5 harg5 arg7 harg7 arg8 harg8 arg16 x0 x3 x5 x6) (ix2 q l)
    = projS (rowsBlk x0 x1 x2 x3 x4 x5 x6 x7 x8 x9 x10 ⟨2, by decide⟩) q ⟨0 + l.val, by omega⟩ * cS := by
  unfold kernelRun0_A.sl.v814
  exact q_word x0 x1 x2 x3 x4 x5 x6 x7 x8 x9 x10 (pieces_HS0_6 c x0 x1 x2 x3 x4 x5 x6 x7 x8 x9 x10 arg2 harg2 arg5 harg5 arg7 harg7 arg8 harg8) (.leaf 5) 2 0 0 128 0 (by decide) (by decide) (by decide) rfl rfl inb_S512x1024_S64x128_128_0 (by sl_kernel_rfl) q l

/-- A load of the queries. -/
theorem word_v815 (q : Fin 64) (l : Fin 128) : (kernelRun0_A.sl.v815 (F := Ideal) c arg2 harg2 arg5 harg5 arg7 harg7 arg8 harg8 arg16 x0 x3 x5 x6) (ix2 q l)
    = projS (rowsBlk x0 x1 x2 x3 x4 x5 x6 x7 x8 x9 x10 ⟨2, by decide⟩) q ⟨128 + l.val, by omega⟩ * cS := by
  unfold kernelRun0_A.sl.v815
  exact q_word x0 x1 x2 x3 x4 x5 x6 x7 x8 x9 x10 (pieces_HS0_6 c x0 x1 x2 x3 x4 x5 x6 x7 x8 x9 x10 arg2 harg2 arg5 harg5 arg7 harg7 arg8 harg8) (.leaf 5) 2 0 1 128 128 (by decide) (by decide) (by decide) rfl rfl inb_S512x1024_S64x128_128_128 (by sl_kernel_rfl) q l

/-- A load of the keys. -/
theorem word_v816 (p : Fin 192) (l : Fin 128) : (kernelRun0_A.sl.v816 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨2, by decide⟩) p ⟨0, by decide⟩ ⟨l.val % 64, by omega⟩ else 0 := by
  unfold kernelRun0_A.sl.v816
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 23) (.leaf 15)) 2 0 0 (by decide) (by decide) inb_S8x4x2x192x128_S1x1x1x192x128_2_0_0_0_0 (by sl_kernel_rfl) p l

/-- A load of the keys. -/
theorem word_v818 (p : Fin 192) (l : Fin 128) : (kernelRun0_A.sl.v818 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨2, by decide⟩) p ⟨0, by decide⟩ ⟨l.val % 64, by omega⟩ else 0 := by
  unfold kernelRun0_A.sl.v818
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 22) (.leaf 14)) 2 0 1 (by decide) (by decide) inb_S8x4x2x192x128_S1x1x1x192x128_2_0_1_0_0 (by sl_kernel_rfl) p l

/-- A load of the values. -/
theorem word_v1204 (p : Fin 192) (l : Fin 128) : (kernelRun0_A.sl.v1204 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨2, by decide⟩) p ⟨0, by decide⟩ ⟨l.val % 64, by omega⟩ else 0 := by
  unfold kernelRun0_A.sl.v1204
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 23) (.leaf 15)) 2 0 0 (by decide) (by decide) inb_S8x4x2x192x128_S1x1x1x192x128_2_0_0_0_0 (by sl_kernel_rfl) p l

/-- A load of the values. -/
theorem word_v1206 (p : Fin 192) (l : Fin 128) : (kernelRun0_A.sl.v1206 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨2, by decide⟩) p ⟨0, by decide⟩ ⟨l.val % 64, by omega⟩ else 0 := by
  unfold kernelRun0_A.sl.v1206
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 22) (.leaf 14)) 2 0 1 (by decide) (by decide) inb_S8x4x2x192x128_S1x1x1x192x128_2_0_1_0_0 (by sl_kernel_rfl) p l

/-- What the loads of stream 2's group 0 hold. -/
theorem unit_2_0 : Loads (rowsBlk x0 x1 x2 x3 x4 x5 x6 x7 x8 x9 x10 ⟨2, by decide⟩) ⟨0, by decide⟩
    (kernelRun0_A.sl.v814 (F := Ideal) c arg2 harg2 arg5 harg5 arg7 harg7 arg8 harg8 arg16 x0 x3 x5 x6)
    (kernelRun0_A.sl.v815 (F := Ideal) c arg2 harg2 arg5 harg5 arg7 harg7 arg8 harg8 arg16 x0 x3 x5 x6)
    (kernelRun0_A.sl.v816 (F := Ideal) c arg2 harg2 arg3 harg3 arg5 harg5 arg7 harg7 arg8 harg8 arg17 x0 x1 x3 x5 x6)
    (kernelRun0_A.sl.v818 (F := Ideal) c arg2 harg2 arg3 harg3 arg5 harg5 arg7 harg7 arg8 harg8 arg17 x0 x1 x3 x5 x6)
    (kernelRun0_A.sl.v1204 (F := Ideal) c arg2 harg2 arg4 harg4 arg5 harg5 arg7 harg7 arg8 harg8 arg18 x0 x2 x3 x5 x6)
    (kernelRun0_A.sl.v1206 (F := Ideal) c arg2 harg2 arg4 harg4 arg5 harg5 arg7 harg7 arg8 harg8 arg18 x0 x2 x3 x5 x6)
    (rdT x10 harg12 0 0 inb_S4x2x192x128_S1x1x192x128_0_0_0_0) (rdT x10 harg12 0 1 inb_S4x2x192x128_S1x1x192x128_0_1_0_0)
    (rdS x9 harg11 0 inb_S16_S1_0 (by decide)) (rdS x9 harg11 2 inb_S16_S1_2 (by decide)) (rdS x9 harg11 1 inb_S16_S1_1 (by decide)) (rdS x9 harg11 3 inb_S16_S1_3 (by decide)) :=
  loads_mk x0 x1 x2 x3 x4 x5 x6 x7 x8 x9 x10 harg11 harg12 2 0 0 1 2 3 (by decide) (by decide) rfl rfl rfl rfl
    (word_v814 c x0 x1 x2 x3 x4 x5 x6 x7 x8 x9 x10 arg2 harg2 arg5 harg5 arg7 harg7 arg8 harg8 arg16)
    (word_v815 c x0 x1 x2 x3 x4 x5 x6 x7 x8 x9 x10 arg2 harg2 arg5 harg5 arg7 harg7 arg8 harg8 arg16)
    (word_v816 c x0 x1 x2 x3 x4 x5 x6 x7 x8 x9 x10 arg2 harg2 arg3 harg3 arg5 harg5 arg7 harg7 arg8 harg8 arg17)
    (word_v818 c x0 x1 x2 x3 x4 x5 x6 x7 x8 x9 x10 arg2 harg2 arg3 harg3 arg5 harg5 arg7 harg7 arg8 harg8 arg17)
    (word_v1204 c x0 x1 x2 x3 x4 x5 x6 x7 x8 x9 x10 arg2 harg2 arg4 harg4 arg5 harg5 arg7 harg7 arg8 harg8 arg18)
    (word_v1206 c x0 x1 x2 x3 x4 x5 x6 x7 x8 x9 x10 arg2 harg2 arg4 harg4 arg5 harg5 arg7 harg7 arg8 harg8 arg18)
    _ _ _ _ _ _ _ _ _ _

/-- A load of the queries. -/
theorem word_v890 (q : Fin 64) (l : Fin 128) : (kernelRun0_A.sl.v890 (F := Ideal) c arg2 harg2 arg5 harg5 arg7 harg7 arg8 harg8 arg16 x0 x3 x5 x6) (ix2 q l)
    = projS (rowsBlk x0 x1 x2 x3 x4 x5 x6 x7 x8 x9 x10 ⟨2, by decide⟩) q ⟨256 + l.val, by omega⟩ * cS := by
  unfold kernelRun0_A.sl.v890
  exact q_word x0 x1 x2 x3 x4 x5 x6 x7 x8 x9 x10 (pieces_HS0_6 c x0 x1 x2 x3 x4 x5 x6 x7 x8 x9 x10 arg2 harg2 arg5 harg5 arg7 harg7 arg8 harg8) (.leaf 4) 2 1 0 128 256 (by decide) (by decide) (by decide) rfl rfl inb_S512x1024_S64x128_128_256 (by sl_kernel_rfl) q l

/-- A load of the queries. -/
theorem word_v891 (q : Fin 64) (l : Fin 128) : (kernelRun0_A.sl.v891 (F := Ideal) c arg2 harg2 arg5 harg5 arg7 harg7 arg8 harg8 arg16 x0 x3 x5 x6) (ix2 q l)
    = projS (rowsBlk x0 x1 x2 x3 x4 x5 x6 x7 x8 x9 x10 ⟨2, by decide⟩) q ⟨384 + l.val, by omega⟩ * cS := by
  unfold kernelRun0_A.sl.v891
  exact q_word x0 x1 x2 x3 x4 x5 x6 x7 x8 x9 x10 (pieces_HS0_6 c x0 x1 x2 x3 x4 x5 x6 x7 x8 x9 x10 arg2 harg2 arg5 harg5 arg7 harg7 arg8 harg8) (.leaf 4) 2 1 1 128 384 (by decide) (by decide) (by decide) rfl rfl inb_S512x1024_S64x128_128_384 (by sl_kernel_rfl) q l

/-- A load of the keys. -/
theorem word_v892 (p : Fin 192) (l : Fin 128) : (kernelRun0_A.sl.v892 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨2, by decide⟩) p ⟨1, by decide⟩ ⟨l.val % 64, by omega⟩ else 0 := by
  unfold kernelRun0_A.sl.v892
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 21) (.leaf 13)) 2 1 0 (by decide) (by decide) inb_S8x4x2x192x128_S1x1x1x192x128_2_1_0_0_0 (by sl_kernel_rfl) p l

/-- A load of the keys. -/
theorem word_v894 (p : Fin 192) (l : Fin 128) : (kernelRun0_A.sl.v894 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨2, by decide⟩) p ⟨1, by decide⟩ ⟨l.val % 64, by omega⟩ else 0 := by
  unfold kernelRun0_A.sl.v894
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 20) (.leaf 12)) 2 1 1 (by decide) (by decide) inb_S8x4x2x192x128_S1x1x1x192x128_2_1_1_0_0 (by sl_kernel_rfl) p l

/-- A load of the values. -/
theorem word_v1280 (p : Fin 192) (l : Fin 128) : (kernelRun0_A.sl.v1280 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨2, by decide⟩) p ⟨1, by decide⟩ ⟨l.val % 64, by omega⟩ else 0 := by
  unfold kernelRun0_A.sl.v1280
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 21) (.leaf 13)) 2 1 0 (by decide) (by decide) inb_S8x4x2x192x128_S1x1x1x192x128_2_1_0_0_0 (by sl_kernel_rfl) p l

/-- A load of the values. -/
theorem word_v1282 (p : Fin 192) (l : Fin 128) : (kernelRun0_A.sl.v1282 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨2, by decide⟩) p ⟨1, by decide⟩ ⟨l.val % 64, by omega⟩ else 0 := by
  unfold kernelRun0_A.sl.v1282
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 20) (.leaf 12)) 2 1 1 (by decide) (by decide) inb_S8x4x2x192x128_S1x1x1x192x128_2_1_1_0_0 (by sl_kernel_rfl) p l

/-- What the loads of stream 2's group 1 hold. -/
theorem unit_2_1 : Loads (rowsBlk x0 x1 x2 x3 x4 x5 x6 x7 x8 x9 x10 ⟨2, by decide⟩) ⟨1, by decide⟩
    (kernelRun0_A.sl.v890 (F := Ideal) c arg2 harg2 arg5 harg5 arg7 harg7 arg8 harg8 arg16 x0 x3 x5 x6)
    (kernelRun0_A.sl.v891 (F := Ideal) c arg2 harg2 arg5 harg5 arg7 harg7 arg8 harg8 arg16 x0 x3 x5 x6)
    (kernelRun0_A.sl.v892 (F := Ideal) c arg2 harg2 arg3 harg3 arg5 harg5 arg7 harg7 arg8 harg8 arg17 x0 x1 x3 x5 x6)
    (kernelRun0_A.sl.v894 (F := Ideal) c arg2 harg2 arg3 harg3 arg5 harg5 arg7 harg7 arg8 harg8 arg17 x0 x1 x3 x5 x6)
    (kernelRun0_A.sl.v1280 (F := Ideal) c arg2 harg2 arg4 harg4 arg5 harg5 arg7 harg7 arg8 harg8 arg18 x0 x2 x3 x5 x6)
    (kernelRun0_A.sl.v1282 (F := Ideal) c arg2 harg2 arg4 harg4 arg5 harg5 arg7 harg7 arg8 harg8 arg18 x0 x2 x3 x5 x6)
    (rdT x10 harg12 1 0 inb_S4x2x192x128_S1x1x192x128_1_0_0_0) (rdT x10 harg12 1 1 inb_S4x2x192x128_S1x1x192x128_1_1_0_0)
    (rdS x9 harg11 4 inb_S16_S1_4 (by decide)) (rdS x9 harg11 6 inb_S16_S1_6 (by decide)) (rdS x9 harg11 5 inb_S16_S1_5 (by decide)) (rdS x9 harg11 7 inb_S16_S1_7 (by decide)) :=
  loads_mk x0 x1 x2 x3 x4 x5 x6 x7 x8 x9 x10 harg11 harg12 2 1 4 5 6 7 (by decide) (by decide) rfl rfl rfl rfl
    (word_v890 c x0 x1 x2 x3 x4 x5 x6 x7 x8 x9 x10 arg2 harg2 arg5 harg5 arg7 harg7 arg8 harg8 arg16)
    (word_v891 c x0 x1 x2 x3 x4 x5 x6 x7 x8 x9 x10 arg2 harg2 arg5 harg5 arg7 harg7 arg8 harg8 arg16)
    (word_v892 c x0 x1 x2 x3 x4 x5 x6 x7 x8 x9 x10 arg2 harg2 arg3 harg3 arg5 harg5 arg7 harg7 arg8 harg8 arg17)
    (word_v894 c x0 x1 x2 x3 x4 x5 x6 x7 x8 x9 x10 arg2 harg2 arg3 harg3 arg5 harg5 arg7 harg7 arg8 harg8 arg17)
    (word_v1280 c x0 x1 x2 x3 x4 x5 x6 x7 x8 x9 x10 arg2 harg2 arg4 harg4 arg5 harg5 arg7 harg7 arg8 harg8 arg18)
    (word_v1282 c x0 x1 x2 x3 x4 x5 x6 x7 x8 x9 x10 arg2 harg2 arg4 harg4 arg5 harg5 arg7 harg7 arg8 harg8 arg18)
    _ _ _ _ _ _ _ _ _ _

/-- A load of the queries. -/
theorem word_v979 (q : Fin 64) (l : Fin 128) : (kernelRun0_A.sl.v979 (F := Ideal) c arg2 harg2 arg5 harg5 arg7 harg7 arg8 harg8 arg16 x0 x3 x5 x6) (ix2 q l)
    = projS (rowsBlk x0 x1 x2 x3 x4 x5 x6 x7 x8 x9 x10 ⟨2, by decide⟩) q ⟨512 + l.val, by omega⟩ * cS := by
  unfold kernelRun0_A.sl.v979
  exact q_word x0 x1 x2 x3 x4 x5 x6 x7 x8 x9 x10 (pieces_HS0_7 c x0 x1 x2 x3 x4 x5 x6 x7 x8 x9 x10 arg2 harg2 arg5 harg5 arg7 harg7 arg8 harg8) (.leaf 4) 2 2 0 128 512 (by decide) (by decide) (by decide) rfl rfl inb_S512x1024_S64x128_128_512 (by sl_kernel_rfl) q l

/-- A load of the queries. -/
theorem word_v980 (q : Fin 64) (l : Fin 128) : (kernelRun0_A.sl.v980 (F := Ideal) c arg2 harg2 arg5 harg5 arg7 harg7 arg8 harg8 arg16 x0 x3 x5 x6) (ix2 q l)
    = projS (rowsBlk x0 x1 x2 x3 x4 x5 x6 x7 x8 x9 x10 ⟨2, by decide⟩) q ⟨640 + l.val, by omega⟩ * cS := by
  unfold kernelRun0_A.sl.v980
  exact q_word x0 x1 x2 x3 x4 x5 x6 x7 x8 x9 x10 (pieces_HS0_7 c x0 x1 x2 x3 x4 x5 x6 x7 x8 x9 x10 arg2 harg2 arg5 harg5 arg7 harg7 arg8 harg8) (.leaf 4) 2 2 1 128 640 (by decide) (by decide) (by decide) rfl rfl inb_S512x1024_S64x128_128_640 (by sl_kernel_rfl) q l

/-- A load of the keys. -/
theorem word_v981 (p : Fin 192) (l : Fin 128) : (kernelRun0_A.sl.v981 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨2, by decide⟩) p ⟨2, by decide⟩ ⟨l.val % 64, by omega⟩ else 0 := by
  unfold kernelRun0_A.sl.v981
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 19) (.leaf 11)) 2 2 0 (by decide) (by decide) inb_S8x4x2x192x128_S1x1x1x192x128_2_2_0_0_0 (by sl_kernel_rfl) p l

/-- A load of the keys. -/
theorem word_v983 (p : Fin 192) (l : Fin 128) : (kernelRun0_A.sl.v983 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨2, by decide⟩) p ⟨2, by decide⟩ ⟨l.val % 64, by omega⟩ else 0 := by
  unfold kernelRun0_A.sl.v983
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 18) (.leaf 10)) 2 2 1 (by decide) (by decide) inb_S8x4x2x192x128_S1x1x1x192x128_2_2_1_0_0 (by sl_kernel_rfl) p l

/-- A load of the values. -/
theorem word_v1356 (p : Fin 192) (l : Fin 128) : (kernelRun0_A.sl.v1356 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨2, by decide⟩) p ⟨2, by decide⟩ ⟨l.val % 64, by omega⟩ else 0 := by
  unfold kernelRun0_A.sl.v1356
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 19) (.leaf 11)) 2 2 0 (by decide) (by decide) inb_S8x4x2x192x128_S1x1x1x192x128_2_2_0_0_0 (by sl_kernel_rfl) p l

/-- A load of the values. -/
theorem word_v1358 (p : Fin 192) (l : Fin 128) : (kernelRun0_A.sl.v1358 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨2, by decide⟩) p ⟨2, by decide⟩ ⟨l.val % 64, by omega⟩ else 0 := by
  unfold kernelRun0_A.sl.v1358
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 18) (.leaf 10)) 2 2 1 (by decide) (by decide) inb_S8x4x2x192x128_S1x1x1x192x128_2_2_1_0_0 (by sl_kernel_rfl) p l

/-- What the loads of stream 2's group 2 hold. -/
theorem unit_2_2 : Loads (rowsBlk x0 x1 x2 x3 x4 x5 x6 x7 x8 x9 x10 ⟨2, by decide⟩) ⟨2, by decide⟩
    (kernelRun0_A.sl.v979 (F := Ideal) c arg2 harg2 arg5 harg5 arg7 harg7 arg8 harg8 arg16 x0 x3 x5 x6)
    (kernelRun0_A.sl.v980 (F := Ideal) c arg2 harg2 arg5 harg5 arg7 harg7 arg8 harg8 arg16 x0 x3 x5 x6)
    (kernelRun0_A.sl.v981 (F := Ideal) c arg2 harg2 arg3 harg3 arg5 harg5 arg7 harg7 arg8 harg8 arg17 x0 x1 x3 x5 x6)
    (kernelRun0_A.sl.v983 (F := Ideal) c arg2 harg2 arg3 harg3 arg5 harg5 arg7 harg7 arg8 harg8 arg17 x0 x1 x3 x5 x6)
    (kernelRun0_A.sl.v1356 (F := Ideal) c arg2 harg2 arg4 harg4 arg5 harg5 arg7 harg7 arg8 harg8 arg18 x0 x2 x3 x5 x6)
    (kernelRun0_A.sl.v1358 (F := Ideal) c arg2 harg2 arg4 harg4 arg5 harg5 arg7 harg7 arg8 harg8 arg18 x0 x2 x3 x5 x6)
    (rdT x10 harg12 2 0 inb_S4x2x192x128_S1x1x192x128_2_0_0_0) (rdT x10 harg12 2 1 inb_S4x2x192x128_S1x1x192x128_2_1_0_0)
    (rdS x9 harg11 8 inb_S16_S1_8 (by decide)) (rdS x9 harg11 10 inb_S16_S1_10 (by decide)) (rdS x9 harg11 9 inb_S16_S1_9 (by decide)) (rdS x9 harg11 11 inb_S16_S1_11 (by decide)) :=
  loads_mk x0 x1 x2 x3 x4 x5 x6 x7 x8 x9 x10 harg11 harg12 2 2 8 9 10 11 (by decide) (by decide) rfl rfl rfl rfl
    (word_v979 c x0 x1 x2 x3 x4 x5 x6 x7 x8 x9 x10 arg2 harg2 arg5 harg5 arg7 harg7 arg8 harg8 arg16)
    (word_v980 c x0 x1 x2 x3 x4 x5 x6 x7 x8 x9 x10 arg2 harg2 arg5 harg5 arg7 harg7 arg8 harg8 arg16)
    (word_v981 c x0 x1 x2 x3 x4 x5 x6 x7 x8 x9 x10 arg2 harg2 arg3 harg3 arg5 harg5 arg7 harg7 arg8 harg8 arg17)
    (word_v983 c x0 x1 x2 x3 x4 x5 x6 x7 x8 x9 x10 arg2 harg2 arg3 harg3 arg5 harg5 arg7 harg7 arg8 harg8 arg17)
    (word_v1356 c x0 x1 x2 x3 x4 x5 x6 x7 x8 x9 x10 arg2 harg2 arg4 harg4 arg5 harg5 arg7 harg7 arg8 harg8 arg18)
    (word_v1358 c x0 x1 x2 x3 x4 x5 x6 x7 x8 x9 x10 arg2 harg2 arg4 harg4 arg5 harg5 arg7 harg7 arg8 harg8 arg18)
    _ _ _ _ _ _ _ _ _ _

/-- A load of the queries. -/
theorem word_v1055 (q : Fin 64) (l : Fin 128) : (kernelRun0_A.sl.v1055 (F := Ideal) c arg2 harg2 arg5 harg5 arg7 harg7 arg8 harg8 arg16 x0 x3 x5 x6) (ix2 q l)
    = projS (rowsBlk x0 x1 x2 x3 x4 x5 x6 x7 x8 x9 x10 ⟨2, by decide⟩) q ⟨768 + l.val, by omega⟩ * cS := by
  unfold kernelRun0_A.sl.v1055
  exact q_word x0 x1 x2 x3 x4 x5 x6 x7 x8 x9 x10 (pieces_HS0_7 c x0 x1 x2 x3 x4 x5 x6 x7 x8 x9 x10 arg2 harg2 arg5 harg5 arg7 harg7 arg8 harg8) (.leaf 3) 2 3 0 128 768 (by decide) (by decide) (by decide) rfl rfl inb_S512x1024_S64x128_128_768 (by sl_kernel_rfl) q l

/-- A load of the queries. -/
theorem word_v1056 (q : Fin 64) (l : Fin 128) : (kernelRun0_A.sl.v1056 (F := Ideal) c arg2 harg2 arg5 harg5 arg7 harg7 arg8 harg8 arg16 x0 x3 x5 x6) (ix2 q l)
    = projS (rowsBlk x0 x1 x2 x3 x4 x5 x6 x7 x8 x9 x10 ⟨2, by decide⟩) q ⟨896 + l.val, by omega⟩ * cS := by
  unfold kernelRun0_A.sl.v1056
  exact q_word x0 x1 x2 x3 x4 x5 x6 x7 x8 x9 x10 (pieces_HS0_7 c x0 x1 x2 x3 x4 x5 x6 x7 x8 x9 x10 arg2 harg2 arg5 harg5 arg7 harg7 arg8 harg8) (.leaf 3) 2 3 1 128 896 (by decide) (by decide) (by decide) rfl rfl inb_S512x1024_S64x128_128_896 (by sl_kernel_rfl) q l

/-- A load of the keys. -/
theorem word_v1057 (p : Fin 192) (l : Fin 128) : (kernelRun0_A.sl.v1057 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨2, by decide⟩) p ⟨3, by decide⟩ ⟨l.val % 64, by omega⟩ else 0 := by
  unfold kernelRun0_A.sl.v1057
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 17) (.leaf 9)) 2 3 0 (by decide) (by decide) inb_S8x4x2x192x128_S1x1x1x192x128_2_3_0_0_0 (by sl_kernel_rfl) p l

/-- A load of the keys. -/
theorem word_v1059 (p : Fin 192) (l : Fin 128) : (kernelRun0_A.sl.v1059 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨2, by decide⟩) p ⟨3, by decide⟩ ⟨l.val % 64, by omega⟩ else 0 := by
  unfold kernelRun0_A.sl.v1059
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 16) (.leaf 8)) 2 3 1 (by decide) (by decide) inb_S8x4x2x192x128_S1x1x1x192x128_2_3_1_0_0 (by sl_kernel_rfl) p l

/-- A load of the values. -/
theorem word_v1432 (p : Fin 192) (l : Fin 128) : (kernelRun0_A.sl.v1432 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨2, by decide⟩) p ⟨3, by decide⟩ ⟨l.val % 64, by omega⟩ else 0 := by
  unfold kernelRun0_A.sl.v1432
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 17) (.leaf 9)) 2 3 0 (by decide) (by decide) inb_S8x4x2x192x128_S1x1x1x192x128_2_3_0_0_0 (by sl_kernel_rfl) p l

/-- A load of the values. -/
theorem word_v1434 (p : Fin 192) (l : Fin 128) : (kernelRun0_A.sl.v1434 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨2, by decide⟩) p ⟨3, by decide⟩ ⟨l.val % 64, by omega⟩ else 0 := by
  unfold kernelRun0_A.sl.v1434
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 16) (.leaf 8)) 2 3 1 (by decide) (by decide) inb_S8x4x2x192x128_S1x1x1x192x128_2_3_1_0_0 (by sl_kernel_rfl) p l

/-- What the loads of stream 2's group 3 hold. -/
theorem unit_2_3 : Loads (rowsBlk x0 x1 x2 x3 x4 x5 x6 x7 x8 x9 x10 ⟨2, by decide⟩) ⟨3, by decide⟩
    (kernelRun0_A.sl.v1055 (F := Ideal) c arg2 harg2 arg5 harg5 arg7 harg7 arg8 harg8 arg16 x0 x3 x5 x6)
    (kernelRun0_A.sl.v1056 (F := Ideal) c arg2 harg2 arg5 harg5 arg7 harg7 arg8 harg8 arg16 x0 x3 x5 x6)
    (kernelRun0_A.sl.v1057 (F := Ideal) c arg2 harg2 arg3 harg3 arg5 harg5 arg7 harg7 arg8 harg8 arg17 x0 x1 x3 x5 x6)
    (kernelRun0_A.sl.v1059 (F := Ideal) c arg2 harg2 arg3 harg3 arg5 harg5 arg7 harg7 arg8 harg8 arg17 x0 x1 x3 x5 x6)
    (kernelRun0_A.sl.v1432 (F := Ideal) c arg2 harg2 arg4 harg4 arg5 harg5 arg7 harg7 arg8 harg8 arg18 x0 x2 x3 x5 x6)
    (kernelRun0_A.sl.v1434 (F := Ideal) c arg2 harg2 arg4 harg4 arg5 harg5 arg7 harg7 arg8 harg8 arg18 x0 x2 x3 x5 x6)
    (rdT x10 harg12 3 0 inb_S4x2x192x128_S1x1x192x128_3_0_0_0) (rdT x10 harg12 3 1 inb_S4x2x192x128_S1x1x192x128_3_1_0_0)
    (rdS x9 harg11 12 inb_S16_S1_12 (by decide)) (rdS x9 harg11 14 inb_S16_S1_14 (by decide)) (rdS x9 harg11 13 inb_S16_S1_13 (by decide)) (rdS x9 harg11 15 inb_S16_S1_15 (by decide)) :=
  loads_mk x0 x1 x2 x3 x4 x5 x6 x7 x8 x9 x10 harg11 harg12 2 3 12 13 14 15 (by decide) (by decide) rfl rfl rfl rfl
    (word_v1055 c x0 x1 x2 x3 x4 x5 x6 x7 x8 x9 x10 arg2 harg2 arg5 harg5 arg7 harg7 arg8 harg8 arg16)
    (word_v1056 c x0 x1 x2 x3 x4 x5 x6 x7 x8 x9 x10 arg2 harg2 arg5 harg5 arg7 harg7 arg8 harg8 arg16)
    (word_v1057 c x0 x1 x2 x3 x4 x5 x6 x7 x8 x9 x10 arg2 harg2 arg3 harg3 arg5 harg5 arg7 harg7 arg8 harg8 arg17)
    (word_v1059 c x0 x1 x2 x3 x4 x5 x6 x7 x8 x9 x10 arg2 harg2 arg3 harg3 arg5 harg5 arg7 harg7 arg8 harg8 arg17)
    (word_v1432 c x0 x1 x2 x3 x4 x5 x6 x7 x8 x9 x10 arg2 harg2 arg4 harg4 arg5 harg5 arg7 harg7 arg8 harg8 arg18)
    (word_v1434 c x0 x1 x2 x3 x4 x5 x6 x7 x8 x9 x10 arg2 harg2 arg4 harg4 arg5 harg5 arg7 harg7 arg8 harg8 arg18)
    _ _ _ _ _ _ _ _ _ _

/-- A load of the queries. -/
theorem word_v1144 (q : Fin 64) (l : Fin 128) : (kernelRun0_A.sl.v1144 (F := Ideal) c arg2 harg2 arg5 harg5 arg7 harg7 arg8 harg8 arg16 x0 x3 x5 x6) (ix2 q l)
    = projS (rowsBlk x0 x1 x2 x3 x4 x5 x6 x7 x8 x9 x10 ⟨3, by decide⟩) q ⟨0 + l.val, by omega⟩ * cS := by
  unfold kernelRun0_A.sl.v1144
  exact q_word x0 x1 x2 x3 x4 x5 x6 x7 x8 x9 x10 (pieces_HS0_8 c x0 x1 x2 x3 x4 x5 x6 x7 x8 x9 x10 arg2 harg2 arg5 harg5 arg7 harg7 arg8 harg8) (.leaf 7) 3 0 0 192 0 (by decide) (by decide) (by decide) rfl rfl inb_S512x1024_S64x128_192_0 (by sl_kernel_rfl) q l

/-- A load of the queries. -/
theorem word_v1145 (q : Fin 64) (l : Fin 128) : (kernelRun0_A.sl.v1145 (F := Ideal) c arg2 harg2 arg5 harg5 arg7 harg7 arg8 harg8 arg16 x0 x3 x5 x6) (ix2 q l)
    = projS (rowsBlk x0 x1 x2 x3 x4 x5 x6 x7 x8 x9 x10 ⟨3, by decide⟩) q ⟨128 + l.val, by omega⟩ * cS := by
  unfold kernelRun0_A.sl.v1145
  exact q_word x0 x1 x2 x3 x4 x5 x6 x7 x8 x9 x10 (pieces_HS0_8 c x0 x1 x2 x3 x4 x5 x6 x7 x8 x9 x10 arg2 harg2 arg5 harg5 arg7 harg7 arg8 harg8) (.leaf 7) 3 0 1 192 128 (by decide) (by decide) (by decide) rfl rfl inb_S512x1024_S64x128_192_128 (by sl_kernel_rfl) q l

/-- A load of the keys. -/
theorem word_v1146 (p : Fin 192) (l : Fin 128) : (kernelRun0_A.sl.v1146 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨3, by decide⟩) p ⟨0, by decide⟩ ⟨l.val % 64, by omega⟩ else 0 := by
  unfold kernelRun0_A.sl.v1146
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 23) (.leaf 15)) 3 0 0 (by decide) (by decide) inb_S8x4x2x192x128_S1x1x1x192x128_3_0_0_0_0 (by sl_kernel_rfl) p l

/-- A load of the keys. -/
theorem word_v1148 (p : Fin 192) (l : Fin 128) : (kernelRun0_A.sl.v1148 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨3, by decide⟩) p ⟨0, by decide⟩ ⟨l.val % 64, by omega⟩ else 0 := by
  unfold kernelRun0_A.sl.v1148
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 22) (.leaf 14)) 3 0 1 (by decide) (by decide) inb_S8x4x2x192x128_S1x1x1x192x128_3_0_1_0_0 (by sl_kernel_rfl) p l

/-- A load of the values. -/
theorem word_v1491 (p : Fin 192) (l : Fin 128) : (kernelRun0_A.sl.v1491 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨3, by decide⟩) p ⟨0, by decide⟩ ⟨l.val % 64, by omega⟩ else 0 := by
  unfold kernelRun0_A.sl.v1491
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 23) (.leaf 15)) 3 0 0 (by decide) (by decide) inb_S8x4x2x192x128_S1x1x1x192x128_3_0_0_0_0 (by sl_kernel_rfl) p l

/-- A load of the values. -/
theorem word_v1493 (p : Fin 192) (l : Fin 128) : (kernelRun0_A.sl.v1493 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨3, by decide⟩) p ⟨0, by decide⟩ ⟨l.val % 64, by omega⟩ else 0 := by
  unfold kernelRun0_A.sl.v1493
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 22) (.leaf 14)) 3 0 1 (by decide) (by decide) inb_S8x4x2x192x128_S1x1x1x192x128_3_0_1_0_0 (by sl_kernel_rfl) p l

/-- What the loads of stream 3's group 0 hold. -/
theorem unit_3_0 : Loads (rowsBlk x0 x1 x2 x3 x4 x5 x6 x7 x8 x9 x10 ⟨3, by decide⟩) ⟨0, by decide⟩
    (kernelRun0_A.sl.v1144 (F := Ideal) c arg2 harg2 arg5 harg5 arg7 harg7 arg8 harg8 arg16 x0 x3 x5 x6)
    (kernelRun0_A.sl.v1145 (F := Ideal) c arg2 harg2 arg5 harg5 arg7 harg7 arg8 harg8 arg16 x0 x3 x5 x6)
    (kernelRun0_A.sl.v1146 (F := Ideal) c arg2 harg2 arg3 harg3 arg5 harg5 arg7 harg7 arg8 harg8 arg17 x0 x1 x3 x5 x6)
    (kernelRun0_A.sl.v1148 (F := Ideal) c arg2 harg2 arg3 harg3 arg5 harg5 arg7 harg7 arg8 harg8 arg17 x0 x1 x3 x5 x6)
    (kernelRun0_A.sl.v1491 (F := Ideal) c arg2 harg2 arg4 harg4 arg5 harg5 arg7 harg7 arg8 harg8 arg18 x0 x2 x3 x5 x6)
    (kernelRun0_A.sl.v1493 (F := Ideal) c arg2 harg2 arg4 harg4 arg5 harg5 arg7 harg7 arg8 harg8 arg18 x0 x2 x3 x5 x6)
    (rdT x10 harg12 0 0 inb_S4x2x192x128_S1x1x192x128_0_0_0_0) (rdT x10 harg12 0 1 inb_S4x2x192x128_S1x1x192x128_0_1_0_0)
    (rdS x9 harg11 0 inb_S16_S1_0 (by decide)) (rdS x9 harg11 2 inb_S16_S1_2 (by decide)) (rdS x9 harg11 1 inb_S16_S1_1 (by decide)) (rdS x9 harg11 3 inb_S16_S1_3 (by decide)) :=
  loads_mk x0 x1 x2 x3 x4 x5 x6 x7 x8 x9 x10 harg11 harg12 3 0 0 1 2 3 (by decide) (by decide) rfl rfl rfl rfl
    (word_v1144 c x0 x1 x2 x3 x4 x5 x6 x7 x8 x9 x10 arg2 harg2 arg5 harg5 arg7 harg7 arg8 harg8 arg16)
    (word_v1145 c x0 x1 x2 x3 x4 x5 x6 x7 x8 x9 x10 arg2 harg2 arg5 harg5 arg7 harg7 arg8 harg8 arg16)
    (word_v1146 c x0 x1 x2 x3 x4 x5 x6 x7 x8 x9 x10 arg2 harg2 arg3 harg3 arg5 harg5 arg7 harg7 arg8 harg8 arg17)
    (word_v1148 c x0 x1 x2 x3 x4 x5 x6 x7 x8 x9 x10 arg2 harg2 arg3 harg3 arg5 harg5 arg7 harg7 arg8 harg8 arg17)
    (word_v1491 c x0 x1 x2 x3 x4 x5 x6 x7 x8 x9 x10 arg2 harg2 arg4 harg4 arg5 harg5 arg7 harg7 arg8 harg8 arg18)
    (word_v1493 c x0 x1 x2 x3 x4 x5 x6 x7 x8 x9 x10 arg2 harg2 arg4 harg4 arg5 harg5 arg7 harg7 arg8 harg8 arg18)
    _ _ _ _ _ _ _ _ _ _

/-- A load of the queries. -/
theorem word_v1220 (q : Fin 64) (l : Fin 128) : (kernelRun0_A.sl.v1220 (F := Ideal) c arg2 harg2 arg5 harg5 arg7 harg7 arg8 harg8 arg16 x0 x3 x5 x6) (ix2 q l)
    = projS (rowsBlk x0 x1 x2 x3 x4 x5 x6 x7 x8 x9 x10 ⟨3, by decide⟩) q ⟨256 + l.val, by omega⟩ * cS := by
  unfold kernelRun0_A.sl.v1220
  exact q_word x0 x1 x2 x3 x4 x5 x6 x7 x8 x9 x10 (pieces_HS0_8 c x0 x1 x2 x3 x4 x5 x6 x7 x8 x9 x10 arg2 harg2 arg5 harg5 arg7 harg7 arg8 harg8) (.leaf 6) 3 1 0 192 256 (by decide) (by decide) (by decide) rfl rfl inb_S512x1024_S64x128_192_256 (by sl_kernel_rfl) q l

/-- A load of the queries. -/
theorem word_v1221 (q : Fin 64) (l : Fin 128) : (kernelRun0_A.sl.v1221 (F := Ideal) c arg2 harg2 arg5 harg5 arg7 harg7 arg8 harg8 arg16 x0 x3 x5 x6) (ix2 q l)
    = projS (rowsBlk x0 x1 x2 x3 x4 x5 x6 x7 x8 x9 x10 ⟨3, by decide⟩) q ⟨384 + l.val, by omega⟩ * cS := by
  unfold kernelRun0_A.sl.v1221
  exact q_word x0 x1 x2 x3 x4 x5 x6 x7 x8 x9 x10 (pieces_HS0_8 c x0 x1 x2 x3 x4 x5 x6 x7 x8 x9 x10 arg2 harg2 arg5 harg5 arg7 harg7 arg8 harg8) (.leaf 6) 3 1 1 192 384 (by decide) (by decide) (by decide) rfl rfl inb_S512x1024_S64x128_192_384 (by sl_kernel_rfl) q l

/-- A load of the keys. -/
theorem word_v1222 (p : Fin 192) (l : Fin 128) : (kernelRun0_A.sl.v1222 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨3, by decide⟩) p ⟨1, by decide⟩ ⟨l.val % 64, by omega⟩ else 0 := by
  unfold kernelRun0_A.sl.v1222
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 21) (.leaf 13)) 3 1 0 (by decide) (by decide) inb_S8x4x2x192x128_S1x1x1x192x128_3_1_0_0_0 (by sl_kernel_rfl) p l

/-- A load of the keys. -/
theorem word_v1224 (p : Fin 192) (l : Fin 128) : (kernelRun0_A.sl.v1224 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨3, by decide⟩) p ⟨1, by decide⟩ ⟨l.val % 64, by omega⟩ else 0 := by
  unfold kernelRun0_A.sl.v1224
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 20) (.leaf 12)) 3 1 1 (by decide) (by decide) inb_S8x4x2x192x128_S1x1x1x192x128_3_1_1_0_0 (by sl_kernel_rfl) p l

/-- A load of the values. -/
theorem word_v1550 (p : Fin 192) (l : Fin 128) : (kernelRun0_A.sl.v1550 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨3, by decide⟩) p ⟨1, by decide⟩ ⟨l.val % 64, by omega⟩ else 0 := by
  unfold kernelRun0_A.sl.v1550
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 21) (.leaf 13)) 3 1 0 (by decide) (by decide) inb_S8x4x2x192x128_S1x1x1x192x128_3_1_0_0_0 (by sl_kernel_rfl) p l

/-- A load of the values. -/
theorem word_v1552 (p : Fin 192) (l : Fin 128) : (kernelRun0_A.sl.v1552 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨3, by decide⟩) p ⟨1, by decide⟩ ⟨l.val % 64, by omega⟩ else 0 := by
  unfold kernelRun0_A.sl.v1552
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 20) (.leaf 12)) 3 1 1 (by decide) (by decide) inb_S8x4x2x192x128_S1x1x1x192x128_3_1_1_0_0 (by sl_kernel_rfl) p l

/-- What the loads of stream 3's group 1 hold. -/
theorem unit_3_1 : Loads (rowsBlk x0 x1 x2 x3 x4 x5 x6 x7 x8 x9 x10 ⟨3, by decide⟩) ⟨1, by decide⟩
    (kernelRun0_A.sl.v1220 (F := Ideal) c arg2 harg2 arg5 harg5 arg7 harg7 arg8 harg8 arg16 x0 x3 x5 x6)
    (kernelRun0_A.sl.v1221 (F := Ideal) c arg2 harg2 arg5 harg5 arg7 harg7 arg8 harg8 arg16 x0 x3 x5 x6)
    (kernelRun0_A.sl.v1222 (F := Ideal) c arg2 harg2 arg3 harg3 arg5 harg5 arg7 harg7 arg8 harg8 arg17 x0 x1 x3 x5 x6)
    (kernelRun0_A.sl.v1224 (F := Ideal) c arg2 harg2 arg3 harg3 arg5 harg5 arg7 harg7 arg8 harg8 arg17 x0 x1 x3 x5 x6)
    (kernelRun0_A.sl.v1550 (F := Ideal) c arg2 harg2 arg4 harg4 arg5 harg5 arg7 harg7 arg8 harg8 arg18 x0 x2 x3 x5 x6)
    (kernelRun0_A.sl.v1552 (F := Ideal) c arg2 harg2 arg4 harg4 arg5 harg5 arg7 harg7 arg8 harg8 arg18 x0 x2 x3 x5 x6)
    (rdT x10 harg12 1 0 inb_S4x2x192x128_S1x1x192x128_1_0_0_0) (rdT x10 harg12 1 1 inb_S4x2x192x128_S1x1x192x128_1_1_0_0)
    (rdS x9 harg11 4 inb_S16_S1_4 (by decide)) (rdS x9 harg11 6 inb_S16_S1_6 (by decide)) (rdS x9 harg11 5 inb_S16_S1_5 (by decide)) (rdS x9 harg11 7 inb_S16_S1_7 (by decide)) :=
  loads_mk x0 x1 x2 x3 x4 x5 x6 x7 x8 x9 x10 harg11 harg12 3 1 4 5 6 7 (by decide) (by decide) rfl rfl rfl rfl
    (word_v1220 c x0 x1 x2 x3 x4 x5 x6 x7 x8 x9 x10 arg2 harg2 arg5 harg5 arg7 harg7 arg8 harg8 arg16)
    (word_v1221 c x0 x1 x2 x3 x4 x5 x6 x7 x8 x9 x10 arg2 harg2 arg5 harg5 arg7 harg7 arg8 harg8 arg16)
    (word_v1222 c x0 x1 x2 x3 x4 x5 x6 x7 x8 x9 x10 arg2 harg2 arg3 harg3 arg5 harg5 arg7 harg7 arg8 harg8 arg17)
    (word_v1224 c x0 x1 x2 x3 x4 x5 x6 x7 x8 x9 x10 arg2 harg2 arg3 harg3 arg5 harg5 arg7 harg7 arg8 harg8 arg17)
    (word_v1550 c x0 x1 x2 x3 x4 x5 x6 x7 x8 x9 x10 arg2 harg2 arg4 harg4 arg5 harg5 arg7 harg7 arg8 harg8 arg18)
    (word_v1552 c x0 x1 x2 x3 x4 x5 x6 x7 x8 x9 x10 arg2 harg2 arg4 harg4 arg5 harg5 arg7 harg7 arg8 harg8 arg18)
    _ _ _ _ _ _ _ _ _ _

/-- A load of the queries. -/
theorem word_v1296 (q : Fin 64) (l : Fin 128) : (kernelRun0_A.sl.v1296 (F := Ideal) c arg2 harg2 arg5 harg5 arg7 harg7 arg8 harg8 arg16 x0 x3 x5 x6) (ix2 q l)
    = projS (rowsBlk x0 x1 x2 x3 x4 x5 x6 x7 x8 x9 x10 ⟨3, by decide⟩) q ⟨512 + l.val, by omega⟩ * cS := by
  unfold kernelRun0_A.sl.v1296
  exact q_word x0 x1 x2 x3 x4 x5 x6 x7 x8 x9 x10 (pieces_HS0_8 c x0 x1 x2 x3 x4 x5 x6 x7 x8 x9 x10 arg2 harg2 arg5 harg5 arg7 harg7 arg8 harg8) (.leaf 5) 3 2 0 192 512 (by decide) (by decide) (by decide) rfl rfl inb_S512x1024_S64x128_192_512 (by sl_kernel_rfl) q l

/-- A load of the queries. -/
theorem word_v1297 (q : Fin 64) (l : Fin 128) : (kernelRun0_A.sl.v1297 (F := Ideal) c arg2 harg2 arg5 harg5 arg7 harg7 arg8 harg8 arg16 x0 x3 x5 x6) (ix2 q l)
    = projS (rowsBlk x0 x1 x2 x3 x4 x5 x6 x7 x8 x9 x10 ⟨3, by decide⟩) q ⟨640 + l.val, by omega⟩ * cS := by
  unfold kernelRun0_A.sl.v1297
  exact q_word x0 x1 x2 x3 x4 x5 x6 x7 x8 x9 x10 (pieces_HS0_8 c x0 x1 x2 x3 x4 x5 x6 x7 x8 x9 x10 arg2 harg2 arg5 harg5 arg7 harg7 arg8 harg8) (.leaf 5) 3 2 1 192 640 (by decide) (by decide) (by decide) rfl rfl inb_S512x1024_S64x128_192_640 (by sl_kernel_rfl) q l

/-- A load of the keys. -/
theorem word_v1298 (p : Fin 192) (l : Fin 128) : (kernelRun0_A.sl.v1298 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨3, by decide⟩) p ⟨2, by decide⟩ ⟨l.val % 64, by omega⟩ else 0 := by
  unfold kernelRun0_A.sl.v1298
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 19) (.leaf 11)) 3 2 0 (by decide) (by decide) inb_S8x4x2x192x128_S1x1x1x192x128_3_2_0_0_0 (by sl_kernel_rfl) p l

/-- A load of the keys. -/
theorem word_v1300 (p : Fin 192) (l : Fin 128) : (kernelRun0_A.sl.v1300 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨3, by decide⟩) p ⟨2, by decide⟩ ⟨l.val % 64, by omega⟩ else 0 := by
  unfold kernelRun0_A.sl.v1300
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 18) (.leaf 10)) 3 2 1 (by decide) (by decide) inb_S8x4x2x192x128_S1x1x1x192x128_3_2_1_0_0 (by sl_kernel_rfl) p l

/-- A load of the values. -/
theorem word_v1609 (p : Fin 192) (l : Fin 128) : (kernelRun0_A.sl.v1609 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨3, by decide⟩) p ⟨2, by decide⟩ ⟨l.val % 64, by omega⟩ else 0 := by
  unfold kernelRun0_A.sl.v1609
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 19) (.leaf 11)) 3 2 0 (by decide) (by decide) inb_S8x4x2x192x128_S1x1x1x192x128_3_2_0_0_0 (by sl_kernel_rfl) p l

/-- A load of the values. -/
theorem word_v1611 (p : Fin 192) (l : Fin 128) : (kernelRun0_A.sl.v1611 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨3, by decide⟩) p ⟨2, by decide⟩ ⟨l.val % 64, by omega⟩ else 0 := by
  unfold kernelRun0_A.sl.v1611
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 18) (.leaf 10)) 3 2 1 (by decide) (by decide) inb_S8x4x2x192x128_S1x1x1x192x128_3_2_1_0_0 (by sl_kernel_rfl) p l

/-- What the loads of stream 3's group 2 hold. -/
theorem unit_3_2 : Loads (rowsBlk x0 x1 x2 x3 x4 x5 x6 x7 x8 x9 x10 ⟨3, by decide⟩) ⟨2, by decide⟩
    (kernelRun0_A.sl.v1296 (F := Ideal) c arg2 harg2 arg5 harg5 arg7 harg7 arg8 harg8 arg16 x0 x3 x5 x6)
    (kernelRun0_A.sl.v1297 (F := Ideal) c arg2 harg2 arg5 harg5 arg7 harg7 arg8 harg8 arg16 x0 x3 x5 x6)
    (kernelRun0_A.sl.v1298 (F := Ideal) c arg2 harg2 arg3 harg3 arg5 harg5 arg7 harg7 arg8 harg8 arg17 x0 x1 x3 x5 x6)
    (kernelRun0_A.sl.v1300 (F := Ideal) c arg2 harg2 arg3 harg3 arg5 harg5 arg7 harg7 arg8 harg8 arg17 x0 x1 x3 x5 x6)
    (kernelRun0_A.sl.v1609 (F := Ideal) c arg2 harg2 arg4 harg4 arg5 harg5 arg7 harg7 arg8 harg8 arg18 x0 x2 x3 x5 x6)
    (kernelRun0_A.sl.v1611 (F := Ideal) c arg2 harg2 arg4 harg4 arg5 harg5 arg7 harg7 arg8 harg8 arg18 x0 x2 x3 x5 x6)
    (rdT x10 harg12 2 0 inb_S4x2x192x128_S1x1x192x128_2_0_0_0) (rdT x10 harg12 2 1 inb_S4x2x192x128_S1x1x192x128_2_1_0_0)
    (rdS x9 harg11 8 inb_S16_S1_8 (by decide)) (rdS x9 harg11 10 inb_S16_S1_10 (by decide)) (rdS x9 harg11 9 inb_S16_S1_9 (by decide)) (rdS x9 harg11 11 inb_S16_S1_11 (by decide)) :=
  loads_mk x0 x1 x2 x3 x4 x5 x6 x7 x8 x9 x10 harg11 harg12 3 2 8 9 10 11 (by decide) (by decide) rfl rfl rfl rfl
    (word_v1296 c x0 x1 x2 x3 x4 x5 x6 x7 x8 x9 x10 arg2 harg2 arg5 harg5 arg7 harg7 arg8 harg8 arg16)
    (word_v1297 c x0 x1 x2 x3 x4 x5 x6 x7 x8 x9 x10 arg2 harg2 arg5 harg5 arg7 harg7 arg8 harg8 arg16)
    (word_v1298 c x0 x1 x2 x3 x4 x5 x6 x7 x8 x9 x10 arg2 harg2 arg3 harg3 arg5 harg5 arg7 harg7 arg8 harg8 arg17)
    (word_v1300 c x0 x1 x2 x3 x4 x5 x6 x7 x8 x9 x10 arg2 harg2 arg3 harg3 arg5 harg5 arg7 harg7 arg8 harg8 arg17)
    (word_v1609 c x0 x1 x2 x3 x4 x5 x6 x7 x8 x9 x10 arg2 harg2 arg4 harg4 arg5 harg5 arg7 harg7 arg8 harg8 arg18)
    (word_v1611 c x0 x1 x2 x3 x4 x5 x6 x7 x8 x9 x10 arg2 harg2 arg4 harg4 arg5 harg5 arg7 harg7 arg8 harg8 arg18)
    _ _ _ _ _ _ _ _ _ _

/-- A load of the queries. -/
theorem word_v1372 (q : Fin 64) (l : Fin 128) : (kernelRun0_A.sl.v1372 (F := Ideal) c arg2 harg2 arg5 harg5 arg7 harg7 arg8 harg8 arg16 x0 x3 x5 x6) (ix2 q l)
    = projS (rowsBlk x0 x1 x2 x3 x4 x5 x6 x7 x8 x9 x10 ⟨3, by decide⟩) q ⟨768 + l.val, by omega⟩ * cS := by
  unfold kernelRun0_A.sl.v1372
  exact q_word x0 x1 x2 x3 x4 x5 x6 x7 x8 x9 x10 (pieces_HS0_8 c x0 x1 x2 x3 x4 x5 x6 x7 x8 x9 x10 arg2 harg2 arg5 harg5 arg7 harg7 arg8 harg8) (.leaf 4) 3 3 0 192 768 (by decide) (by decide) (by decide) rfl rfl inb_S512x1024_S64x128_192_768 (by sl_kernel_rfl) q l

/-- A load of the queries. -/
theorem word_v1373 (q : Fin 64) (l : Fin 128) : (kernelRun0_A.sl.v1373 (F := Ideal) c arg2 harg2 arg5 harg5 arg7 harg7 arg8 harg8 arg16 x0 x3 x5 x6) (ix2 q l)
    = projS (rowsBlk x0 x1 x2 x3 x4 x5 x6 x7 x8 x9 x10 ⟨3, by decide⟩) q ⟨896 + l.val, by omega⟩ * cS := by
  unfold kernelRun0_A.sl.v1373
  exact q_word x0 x1 x2 x3 x4 x5 x6 x7 x8 x9 x10 (pieces_HS0_8 c x0 x1 x2 x3 x4 x5 x6 x7 x8 x9 x10 arg2 harg2 arg5 harg5 arg7 harg7 arg8 harg8) (.leaf 4) 3 3 1 192 896 (by decide) (by decide) (by decide) rfl rfl inb_S512x1024_S64x128_192_896 (by sl_kernel_rfl) q l

/-- A load of the keys. -/
theorem word_v1374 (p : Fin 192) (l : Fin 128) : (kernelRun0_A.sl.v1374 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨3, by decide⟩) p ⟨3, by decide⟩ ⟨l.val % 64, by omega⟩ else 0 := by
  unfold kernelRun0_A.sl.v1374
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 17) (.leaf 9)) 3 3 0 (by decide) (by decide) inb_S8x4x2x192x128_S1x1x1x192x128_3_3_0_0_0 (by sl_kernel_rfl) p l

/-- A load of the keys. -/
theorem word_v1376 (p : Fin 192) (l : Fin 128) : (kernelRun0_A.sl.v1376 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨3, by decide⟩) p ⟨3, by decide⟩ ⟨l.val % 64, by omega⟩ else 0 := by
  unfold kernelRun0_A.sl.v1376
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 16) (.leaf 8)) 3 3 1 (by decide) (by decide) inb_S8x4x2x192x128_S1x1x1x192x128_3_3_1_0_0 (by sl_kernel_rfl) p l

/-- A load of the values. -/
theorem word_v1668 (p : Fin 192) (l : Fin 128) : (kernelRun0_A.sl.v1668 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨3, by decide⟩) p ⟨3, by decide⟩ ⟨l.val % 64, by omega⟩ else 0 := by
  unfold kernelRun0_A.sl.v1668
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 17) (.leaf 9)) 3 3 0 (by decide) (by decide) inb_S8x4x2x192x128_S1x1x1x192x128_3_3_0_0_0 (by sl_kernel_rfl) p l

/-- A load of the values. -/
theorem word_v1670 (p : Fin 192) (l : Fin 128) : (kernelRun0_A.sl.v1670 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨3, by decide⟩) p ⟨3, by decide⟩ ⟨l.val % 64, by omega⟩ else 0 := by
  unfold kernelRun0_A.sl.v1670
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 16) (.leaf 8)) 3 3 1 (by decide) (by decide) inb_S8x4x2x192x128_S1x1x1x192x128_3_3_1_0_0 (by sl_kernel_rfl) p l

/-- What the loads of stream 3's group 3 hold. -/
theorem unit_3_3 : Loads (rowsBlk x0 x1 x2 x3 x4 x5 x6 x7 x8 x9 x10 ⟨3, by decide⟩) ⟨3, by decide⟩
    (kernelRun0_A.sl.v1372 (F := Ideal) c arg2 harg2 arg5 harg5 arg7 harg7 arg8 harg8 arg16 x0 x3 x5 x6)
    (kernelRun0_A.sl.v1373 (F := Ideal) c arg2 harg2 arg5 harg5 arg7 harg7 arg8 harg8 arg16 x0 x3 x5 x6)
    (kernelRun0_A.sl.v1374 (F := Ideal) c arg2 harg2 arg3 harg3 arg5 harg5 arg7 harg7 arg8 harg8 arg17 x0 x1 x3 x5 x6)
    (kernelRun0_A.sl.v1376 (F := Ideal) c arg2 harg2 arg3 harg3 arg5 harg5 arg7 harg7 arg8 harg8 arg17 x0 x1 x3 x5 x6)
    (kernelRun0_A.sl.v1668 (F := Ideal) c arg2 harg2 arg4 harg4 arg5 harg5 arg7 harg7 arg8 harg8 arg18 x0 x2 x3 x5 x6)
    (kernelRun0_A.sl.v1670 (F := Ideal) c arg2 harg2 arg4 harg4 arg5 harg5 arg7 harg7 arg8 harg8 arg18 x0 x2 x3 x5 x6)
    (rdT x10 harg12 3 0 inb_S4x2x192x128_S1x1x192x128_3_0_0_0) (rdT x10 harg12 3 1 inb_S4x2x192x128_S1x1x192x128_3_1_0_0)
    (rdS x9 harg11 12 inb_S16_S1_12 (by decide)) (rdS x9 harg11 14 inb_S16_S1_14 (by decide)) (rdS x9 harg11 13 inb_S16_S1_13 (by decide)) (rdS x9 harg11 15 inb_S16_S1_15 (by decide)) :=
  loads_mk x0 x1 x2 x3 x4 x5 x6 x7 x8 x9 x10 harg11 harg12 3 3 12 13 14 15 (by decide) (by decide) rfl rfl rfl rfl
    (word_v1372 c x0 x1 x2 x3 x4 x5 x6 x7 x8 x9 x10 arg2 harg2 arg5 harg5 arg7 harg7 arg8 harg8 arg16)
    (word_v1373 c x0 x1 x2 x3 x4 x5 x6 x7 x8 x9 x10 arg2 harg2 arg5 harg5 arg7 harg7 arg8 harg8 arg16)
    (word_v1374 c x0 x1 x2 x3 x4 x5 x6 x7 x8 x9 x10 arg2 harg2 arg3 harg3 arg5 harg5 arg7 harg7 arg8 harg8 arg17)
    (word_v1376 c x0 x1 x2 x3 x4 x5 x6 x7 x8 x9 x10 arg2 harg2 arg3 harg3 arg5 harg5 arg7 harg7 arg8 harg8 arg17)
    (word_v1668 c x0 x1 x2 x3 x4 x5 x6 x7 x8 x9 x10 arg2 harg2 arg4 harg4 arg5 harg5 arg7 harg7 arg8 harg8 arg18)
    (word_v1670 c x0 x1 x2 x3 x4 x5 x6 x7 x8 x9 x10 arg2 harg2 arg4 harg4 arg5 harg5 arg7 harg7 arg8 harg8 arg18)
    _ _ _ _ _ _ _ _ _ _

end Cert.SinkAttn

end
-- ==== Proof.AttnUnits2.lean ====
/-
  What the loads of the groups of streams 4 and 5 hold.
-/
module

public import proofs.«01_k».proof.Proof.AttnUnit
public import proofs.«01_k».proof.Proof.AttnPieces

@[expose] public section

set_option maxRecDepth 16384

noncomputable section

namespace Cert.SinkAttn

open Cert.AttnIdeal Cert.AttnIdeal.Gen Idealize.ShloMosaic Idealize.ShloMosaic.TcCoe Cert.ConvFfn

variable (c : Dev nD) (x0 : FVec Ideal S8x64x1024 .f32) (x1 x2 : FVec Ideal S8x128x256 .f32) (x3 x4 : FVec Ideal S1x1024 .f32) (x5 : FVec Ideal S1x1024x1536 .bf16)
  (x6 : FVec Ideal S1x1536 .f32) (x7 : FVec Ideal S1x1024x1024 .bf16) (x8 : FVec Ideal S1x1024 .f32) (x9 : FVec Ideal S16 .f32) (x10 : FVec Ideal S4x2x192x128 .f32)
  (arg2 : Memref sig .tc .vmem S8x64x1024 .f32) (harg2 : arg2.IsWhole) (arg3 : Memref sig .tc .vmem S8x128x256 .f32) (harg3 : arg3.IsWhole)
  (arg4 : Memref sig .tc .vmem S8x128x256 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x1024x1536 .bf16) (harg7 : arg7.IsWhole)
  (arg8 : Memref sig .tc .vmem S1x1536 .f32) (harg8 : arg8.IsWhole) (arg9 : Memref sig .tc .vmem S1x1024x1024 .bf16) (harg9 : arg9.IsWhole)
  (arg10 : Memref sig .tc .vmem S1x1024 .f32) (harg10 : arg10.IsWhole)
  (arg11 : Memref sig .tc .smem S16 .f32) (harg11 : arg11.IsWhole) (arg12 : Memref sig .tc .vmem S4x2x192x128 .f32) (harg12 : arg12.IsWhole)
  (arg16 : Memref sig .tc .vmem S512x1024 .bf16) (arg17 arg18 : Memref sig .tc .vmem S8x4x2x192x128 .bf16) (arg19 : Memref sig .tc .vmem S512x1024 .bf16)
  (arg20 : Memref sig .tc .vmem S512x1024 .f32)

/-- A load of the queries. -/
theorem word_v1684 (q : Fin 64) (l : Fin 128) : (kernelRun0_A.sl.v1684 (F := Ideal) c arg2 harg2 arg5 harg5 arg7 harg7 arg8 harg8 arg16 x0 x3 x5 x6) (ix2 q l)
    = projS (rowsBlk x0 x1 x2 x3 x4 x5 x6 x7 x8 x9 x10 ⟨4, by decide⟩) q ⟨0 + l.val, by omega⟩ * cS := by
  unfold kernelRun0_A.sl.v1684
  exact q_word x0 x1 x2 x3 x4 x5 x6 x7 x8 x9 x10 (pieces_HS0_8 c x0 x1 x2 x3 x4 x5 x6 x7 x8 x9 x10 arg2 harg2 arg5 harg5 arg7 harg7 arg8 harg8) (.leaf 3) 4 0 0 256 0 (by decide) (by decide) (by decide) rfl rfl inb_S512x1024_S64x128_256_0 (by sl_kernel_rfl) q l

/-- A load of the queries. -/
theorem word_v1685 (q : Fin 64) (l : Fin 128) : (kernelRun0_A.sl.v1685 (F := Ideal) c arg2 harg2 arg5 harg5 arg7 harg7 arg8 harg8 arg16 x0 x3 x5 x6) (ix2 q l)
    = projS (rowsBlk x0 x1 x2 x3 x4 x5 x6 x7 x8 x9 x10 ⟨4, by decide⟩) q ⟨128 + l.val, by omega⟩ * cS := by
  unfold kernelRun0_A.sl.v1685
  exact q_word x0 x1 x2 x3 x4 x5 x6 x7 x8 x9 x10 (pieces_HS0_8 c x0 x1 x2 x3 x4 x5 x6 x7 x8 x9 x10 arg2 harg2 arg5 harg5 arg7 harg7 arg8 harg8) (.leaf 3) 4 0 1 256 128 (by decide) (by decide) (by decide) rfl rfl inb_S512x1024_S64x128_256_128 (by sl_kernel_rfl) q l

/-- A load of the keys. -/
theorem word_v1686 (p : Fin 192) (l : Fin 128) : (kernelRun0_A.sl.v1686 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨4, by decide⟩) p ⟨0, by decide⟩ ⟨l.val % 64, by omega⟩ else 0 := by
  unfold kernelRun0_A.sl.v1686
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 23) (.leaf 7)) 4 0 0 (by decide) (by decide) inb_S8x4x2x192x128_S1x1x1x192x128_4_0_0_0_0 (by sl_kernel_rfl) p l

/-- A load of the keys. -/
theorem word_v1688 (p : Fin 192) (l : Fin 128) : (kernelRun0_A.sl.v1688 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨4, by decide⟩) p ⟨0, by decide⟩ ⟨l.val % 64, by omega⟩ else 0 := by
  unfold kernelRun0_A.sl.v1688
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 22) (.leaf 6)) 4 0 1 (by decide) (by decide) inb_S8x4x2x192x128_S1x1x1x192x128_4_0_1_0_0 (by sl_kernel_rfl) p l

/-- A load of the values. -/
theorem word_v1823 (p : Fin 192) (l : Fin 128) : (kernelRun0_A.sl.v1823 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨4, by decide⟩) p ⟨0, by decide⟩ ⟨l.val % 64, by omega⟩ else 0 := by
  unfold kernelRun0_A.sl.v1823
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 23) (.leaf 7)) 4 0 0 (by decide) (by decide) inb_S8x4x2x192x128_S1x1x1x192x128_4_0_0_0_0 (by sl_kernel_rfl) p l

/-- A load of the values. -/
theorem word_v1825 (p : Fin 192) (l : Fin 128) : (kernelRun0_A.sl.v1825 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨4, by decide⟩) p ⟨0, by decide⟩ ⟨l.val % 64, by omega⟩ else 0 := by
  unfold kernelRun0_A.sl.v1825
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 22) (.leaf 6)) 4 0 1 (by decide) (by decide) inb_S8x4x2x192x128_S1x1x1x192x128_4_0_1_0_0 (by sl_kernel_rfl) p l

/-- What the loads of stream 4's group 0 hold. -/
theorem unit_4_0 : Loads (rowsBlk x0 x1 x2 x3 x4 x5 x6 x7 x8 x9 x10 ⟨4, by decide⟩) ⟨0, by decide⟩
    (kernelRun0_A.sl.v1684 (F := Ideal) c arg2 harg2 arg5 harg5 arg7 harg7 arg8 harg8 arg16 x0 x3 x5 x6)
    (kernelRun0_A.sl.v1685 (F := Ideal) c arg2 harg2 arg5 harg5 arg7 harg7 arg8 harg8 arg16 x0 x3 x5 x6)
    (kernelRun0_A.sl.v1686 (F := Ideal) c arg2 harg2 arg3 harg3 arg5 harg5 arg7 harg7 arg8 harg8 arg17 x0 x1 x3 x5 x6)
    (kernelRun0_A.sl.v1688 (F := Ideal) c arg2 harg2 arg3 harg3 arg5 harg5 arg7 harg7 arg8 harg8 arg17 x0 x1 x3 x5 x6)
    (kernelRun0_A.sl.v1823 (F := Ideal) c arg2 harg2 arg4 harg4 arg5 harg5 arg7 harg7 arg8 harg8 arg18 x0 x2 x3 x5 x6)
    (kernelRun0_A.sl.v1825 (F := Ideal) c arg2 harg2 arg4 harg4 arg5 harg5 arg7 harg7 arg8 harg8 arg18 x0 x2 x3 x5 x6)
    (rdT x10 harg12 0 0 inb_S4x2x192x128_S1x1x192x128_0_0_0_0) (rdT x10 harg12 0 1 inb_S4x2x192x128_S1x1x192x128_0_1_0_0)
    (rdS x9 harg11 0 inb_S16_S1_0 (by decide)) (rdS x9 harg11 2 inb_S16_S1_2 (by decide)) (rdS x9 harg11 1 inb_S16_S1_1 (by decide)) (rdS x9 harg11 3 inb_S16_S1_3 (by decide)) :=
  loads_mk x0 x1 x2 x3 x4 x5 x6 x7 x8 x9 x10 harg11 harg12 4 0 0 1 2 3 (by decide) (by decide) rfl rfl rfl rfl
    (word_v1684 c x0 x1 x2 x3 x4 x5 x6 x7 x8 x9 x10 arg2 harg2 arg5 harg5 arg7 harg7 arg8 harg8 arg16)
    (word_v1685 c x0 x1 x2 x3 x4 x5 x6 x7 x8 x9 x10 arg2 harg2 arg5 harg5 arg7 harg7 arg8 harg8 arg16)
    (word_v1686 c x0 x1 x2 x3 x4 x5 x6 x7 x8 x9 x10 arg2 harg2 arg3 harg3 arg5 harg5 arg7 harg7 arg8 harg8 arg17)
    (word_v1688 c x0 x1 x2 x3 x4 x5 x6 x7 x8 x9 x10 arg2 harg2 arg3 harg3 arg5 harg5 arg7 harg7 arg8 harg8 arg17)
    (word_v1823 c x0 x1 x2 x3 x4 x5 x6 x7 x8 x9 x10 arg2 harg2 arg4 harg4 arg5 harg5 arg7 harg7 arg8 harg8 arg18)
    (word_v1825 c x0 x1 x2 x3 x4 x5 x6 x7 x8 x9 x10 arg2 harg2 arg4 harg4 arg5 harg5 arg7 harg7 arg8 harg8 arg18)
    _ _ _ _ _ _ _ _ _ _

/-- A load of the queries. -/
theorem word_v1701 (q : Fin 64) (l : Fin 128) : (kernelRun0_A.sl.v1701 (F := Ideal) c arg2 harg2 arg5 harg5 arg7 harg7 arg8 harg8 arg16 x0 x3 x5 x6) (ix2 q l)
    = projS (rowsBlk x0 x1 x2 x3 x4 x5 x6 x7 x8 x9 x10 ⟨4, by decide⟩) q ⟨256 + l.val, by omega⟩ * cS := by
  unfold kernelRun0_A.sl.v1701
  exact q_word x0 x1 x2 x3 x4 x5 x6 x7 x8 x9 x10 (pieces_HS0_8 c x0 x1 x2 x3 x4 x5 x6 x7 x8 x9 x10 arg2 harg2 arg5 harg5 arg7 harg7 arg8 harg8) (.leaf 2) 4 1 0 256 256 (by decide) (by decide) (by decide) rfl rfl inb_S512x1024_S64x128_256_256 (by sl_kernel_rfl) q l

/-- A load of the queries. -/
theorem word_v1702 (q : Fin 64) (l : Fin 128) : (kernelRun0_A.sl.v1702 (F := Ideal) c arg2 harg2 arg5 harg5 arg7 harg7 arg8 harg8 arg16 x0 x3 x5 x6) (ix2 q l)
    = projS (rowsBlk x0 x1 x2 x3 x4 x5 x6 x7 x8 x9 x10 ⟨4, by decide⟩) q ⟨384 + l.val, by omega⟩ * cS := by
  unfold kernelRun0_A.sl.v1702
  exact q_word x0 x1 x2 x3 x4 x5 x6 x7 x8 x9 x10 (pieces_HS0_8 c x0 x1 x2 x3 x4 x5 x6 x7 x8 x9 x10 arg2 harg2 arg5 harg5 arg7 harg7 arg8 harg8) (.leaf 2) 4 1 1 256 384 (by decide) (by decide) (by decide) rfl rfl inb_S512x1024_S64x128_256_384 (by sl_kernel_rfl) q l

/-- A load of the keys. -/
theorem word_v1703 (p : Fin 192) (l : Fin 128) : (kernelRun0_A.sl.v1703 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨4, by decide⟩) p ⟨1, by decide⟩ ⟨l.val % 64, by omega⟩ else 0 := by
  unfold kernelRun0_A.sl.v1703
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 21) (.leaf 5)) 4 1 0 (by decide) (by decide) inb_S8x4x2x192x128_S1x1x1x192x128_4_1_0_0_0 (by sl_kernel_rfl) p l

/-- A load of the keys. -/
theorem word_v1705 (p : Fin 192) (l : Fin 128) : (kernelRun0_A.sl.v1705 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨4, by decide⟩) p ⟨1, by decide⟩ ⟨l.val % 64, by omega⟩ else 0 := by
  unfold kernelRun0_A.sl.v1705
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 20) (.leaf 4)) 4 1 1 (by decide) (by decide) inb_S8x4x2x192x128_S1x1x1x192x128_4_1_1_0_0 (by sl_kernel_rfl) p l

/-- A load of the values. -/
theorem word_v1899 (p : Fin 192) (l : Fin 128) : (kernelRun0_A.sl.v1899 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨4, by decide⟩) p ⟨1, by decide⟩ ⟨l.val % 64, by omega⟩ else 0 := by
  unfold kernelRun0_A.sl.v1899
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 21) (.leaf 5)) 4 1 0 (by decide) (by decide) inb_S8x4x2x192x128_S1x1x1x192x128_4_1_0_0_0 (by sl_kernel_rfl) p l

/-- A load of the values. -/
theorem word_v1901 (p : Fin 192) (l : Fin 128) : (kernelRun0_A.sl.v1901 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨4, by decide⟩) p ⟨1, by decide⟩ ⟨l.val % 64, by omega⟩ else 0 := by
  unfold kernelRun0_A.sl.v1901
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 20) (.leaf 4)) 4 1 1 (by decide) (by decide) inb_S8x4x2x192x128_S1x1x1x192x128_4_1_1_0_0 (by sl_kernel_rfl) p l

/-- What the loads of stream 4's group 1 hold. -/
theorem unit_4_1 : Loads (rowsBlk x0 x1 x2 x3 x4 x5 x6 x7 x8 x9 x10 ⟨4, by decide⟩) ⟨1, by decide⟩
    (kernelRun0_A.sl.v1701 (F := Ideal) c arg2 harg2 arg5 harg5 arg7 harg7 arg8 harg8 arg16 x0 x3 x5 x6)
    (kernelRun0_A.sl.v1702 (F := Ideal) c arg2 harg2 arg5 harg5 arg7 harg7 arg8 harg8 arg16 x0 x3 x5 x6)
    (kernelRun0_A.sl.v1703 (F := Ideal) c arg2 harg2 arg3 harg3 arg5 harg5 arg7 harg7 arg8 harg8 arg17 x0 x1 x3 x5 x6)
    (kernelRun0_A.sl.v1705 (F := Ideal) c arg2 harg2 arg3 harg3 arg5 harg5 arg7 harg7 arg8 harg8 arg17 x0 x1 x3 x5 x6)
    (kernelRun0_A.sl.v1899 (F := Ideal) c arg2 harg2 arg4 harg4 arg5 harg5 arg7 harg7 arg8 harg8 arg18 x0 x2 x3 x5 x6)
    (kernelRun0_A.sl.v1901 (F := Ideal) c arg2 harg2 arg4 harg4 arg5 harg5 arg7 harg7 arg8 harg8 arg18 x0 x2 x3 x5 x6)
    (rdT x10 harg12 1 0 inb_S4x2x192x128_S1x1x192x128_1_0_0_0) (rdT x10 harg12 1 1 inb_S4x2x192x128_S1x1x192x128_1_1_0_0)
    (rdS x9 harg11 4 inb_S16_S1_4 (by decide)) (rdS x9 harg11 6 inb_S16_S1_6 (by decide)) (rdS x9 harg11 5 inb_S16_S1_5 (by decide)) (rdS x9 harg11 7 inb_S16_S1_7 (by decide)) :=
  loads_mk x0 x1 x2 x3 x4 x5 x6 x7 x8 x9 x10 harg11 harg12 4 1 4 5 6 7 (by decide) (by decide) rfl rfl rfl rfl
    (word_v1701 c x0 x1 x2 x3 x4 x5 x6 x7 x8 x9 x10 arg2 harg2 arg5 harg5 arg7 harg7 arg8 harg8 arg16)
    (word_v1702 c x0 x1 x2 x3 x4 x5 x6 x7 x8 x9 x10 arg2 harg2 arg5 harg5 arg7 harg7 arg8 harg8 arg16)
    (word_v1703 c x0 x1 x2 x3 x4 x5 x6 x7 x8 x9 x10 arg2 harg2 arg3 harg3 arg5 harg5 arg7 harg7 arg8 harg8 arg17)
    (word_v1705 c x0 x1 x2 x3 x4 x5 x6 x7 x8 x9 x10 arg2 harg2 arg3 harg3 arg5 harg5 arg7 harg7 arg8 harg8 arg17)
    (word_v1899 c x0 x1 x2 x3 x4 x5 x6 x7 x8 x9 x10 arg2 harg2 arg4 harg4 arg5 harg5 arg7 harg7 arg8 harg8 arg18)
    (word_v1901 c x0 x1 x2 x3 x4 x5 x6 x7 x8 x9 x10 arg2 harg2 arg4 harg4 arg5 harg5 arg7 harg7 arg8 harg8 arg18)
    _ _ _ _ _ _ _ _ _ _

/-- A load of the queries. -/
theorem word_v1718 (q : Fin 64) (l : Fin 128) : (kernelRun0_A.sl.v1718 (F := Ideal) c arg2 harg2 arg5 harg5 arg7 harg7 arg8 harg8 arg16 x0 x3 x5 x6) (ix2 q l)
    = projS (rowsBlk x0 x1 x2 x3 x4 x5 x6 x7 x8 x9 x10 ⟨4, by decide⟩) q ⟨512 + l.val, by omega⟩ * cS := by
  unfold kernelRun0_A.sl.v1718
  exact q_word x0 x1 x2 x3 x4 x5 x6 x7 x8 x9 x10 (pieces_HS0_8 c x0 x1 x2 x3 x4 x5 x6 x7 x8 x9 x10 arg2 harg2 arg5 harg5 arg7 harg7 arg8 harg8) (.leaf 1) 4 2 0 256 512 (by decide) (by decide) (by decide) rfl rfl inb_S512x1024_S64x128_256_512 (by sl_kernel_rfl) q l

/-- A load of the queries. -/
theorem word_v1719 (q : Fin 64) (l : Fin 128) : (kernelRun0_A.sl.v1719 (F := Ideal) c arg2 harg2 arg5 harg5 arg7 harg7 arg8 harg8 arg16 x0 x3 x5 x6) (ix2 q l)
    = projS (rowsBlk x0 x1 x2 x3 x4 x5 x6 x7 x8 x9 x10 ⟨4, by decide⟩) q ⟨640 + l.val, by omega⟩ * cS := by
  unfold kernelRun0_A.sl.v1719
  exact q_word x0 x1 x2 x3 x4 x5 x6 x7 x8 x9 x10 (pieces_HS0_8 c x0 x1 x2 x3 x4 x5 x6 x7 x8 x9 x10 arg2 harg2 arg5 harg5 arg7 harg7 arg8 harg8) (.leaf 1) 4 2 1 256 640 (by decide) (by decide) (by decide) rfl rfl inb_S512x1024_S64x128_256_640 (by sl_kernel_rfl) q l

/-- A load of the keys. -/
theorem word_v1720 (p : Fin 192) (l : Fin 128) : (kernelRun0_A.sl.v1720 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨4, by decide⟩) p ⟨2, by decide⟩ ⟨l.val % 64, by omega⟩ else 0 := by
  unfold kernelRun0_A.sl.v1720
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 19) (.leaf 3)) 4 2 0 (by decide) (by decide) inb_S8x4x2x192x128_S1x1x1x192x128_4_2_0_0_0 (by sl_kernel_rfl) p l

/-- A load of the keys. -/
theorem word_v1722 (p : Fin 192) (l : Fin 128) : (kernelRun0_A.sl.v1722 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨4, by decide⟩) p ⟨2, by decide⟩ ⟨l.val % 64, by omega⟩ else 0 := by
  unfold kernelRun0_A.sl.v1722
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 18) (.leaf 2)) 4 2 1 (by decide) (by decide) inb_S8x4x2x192x128_S1x1x1x192x128_4_2_1_0_0 (by sl_kernel_rfl) p l

/-- A load of the values. -/
theorem word_v1986 (p : Fin 192) (l : Fin 128) : (kernelRun0_A.sl.v1986 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨4, by decide⟩) p ⟨2, by decide⟩ ⟨l.val % 64, by omega⟩ else 0 := by
  unfold kernelRun0_A.sl.v1986
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 19) (.leaf 3)) 4 2 0 (by decide) (by decide) inb_S8x4x2x192x128_S1x1x1x192x128_4_2_0_0_0 (by sl_kernel_rfl) p l

/-- A load of the values. -/
theorem word_v1988 (p : Fin 192) (l : Fin 128) : (kernelRun0_A.sl.v1988 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨4, by decide⟩) p ⟨2, by decide⟩ ⟨l.val % 64, by omega⟩ else 0 := by
  unfold kernelRun0_A.sl.v1988
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 18) (.leaf 2)) 4 2 1 (by decide) (by decide) inb_S8x4x2x192x128_S1x1x1x192x128_4_2_1_0_0 (by sl_kernel_rfl) p l

/-- What the loads of stream 4's group 2 hold. -/
theorem unit_4_2 : Loads (rowsBlk x0 x1 x2 x3 x4 x5 x6 x7 x8 x9 x10 ⟨4, by decide⟩) ⟨2, by decide⟩
    (kernelRun0_A.sl.v1718 (F := Ideal) c arg2 harg2 arg5 harg5 arg7 harg7 arg8 harg8 arg16 x0 x3 x5 x6)
    (kernelRun0_A.sl.v1719 (F := Ideal) c arg2 harg2 arg5 harg5 arg7 harg7 arg8 harg8 arg16 x0 x3 x5 x6)
    (kernelRun0_A.sl.v1720 (F := Ideal) c arg2 harg2 arg3 harg3 arg5 harg5 arg7 harg7 arg8 harg8 arg17 x0 x1 x3 x5 x6)
    (kernelRun0_A.sl.v1722 (F := Ideal) c arg2 harg2 arg3 harg3 arg5 harg5 arg7 harg7 arg8 harg8 arg17 x0 x1 x3 x5 x6)
    (kernelRun0_A.sl.v1986 (F := Ideal) c arg2 harg2 arg4 harg4 arg5 harg5 arg7 harg7 arg8 harg8 arg18 x0 x2 x3 x5 x6)
    (kernelRun0_A.sl.v1988 (F := Ideal) c arg2 harg2 arg4 harg4 arg5 harg5 arg7 harg7 arg8 harg8 arg18 x0 x2 x3 x5 x6)
    (rdT x10 harg12 2 0 inb_S4x2x192x128_S1x1x192x128_2_0_0_0) (rdT x10 harg12 2 1 inb_S4x2x192x128_S1x1x192x128_2_1_0_0)
    (rdS x9 harg11 8 inb_S16_S1_8 (by decide)) (rdS x9 harg11 10 inb_S16_S1_10 (by decide)) (rdS x9 harg11 9 inb_S16_S1_9 (by decide)) (rdS x9 harg11 11 inb_S16_S1_11 (by decide)) :=
  loads_mk x0 x1 x2 x3 x4 x5 x6 x7 x8 x9 x10 harg11 harg12 4 2 8 9 10 11 (by decide) (by decide) rfl rfl rfl rfl
    (word_v1718 c x0 x1 x2 x3 x4 x5 x6 x7 x8 x9 x10 arg2 harg2 arg5 harg5 arg7 harg7 arg8 harg8 arg16)
    (word_v1719 c x0 x1 x2 x3 x4 x5 x6 x7 x8 x9 x10 arg2 harg2 arg5 harg5 arg7 harg7 arg8 harg8 arg16)
    (word_v1720 c x0 x1 x2 x3 x4 x5 x6 x7 x8 x9 x10 arg2 harg2 arg3 harg3 arg5 harg5 arg7 harg7 arg8 harg8 arg17)
    (word_v1722 c x0 x1 x2 x3 x4 x5 x6 x7 x8 x9 x10 arg2 harg2 arg3 harg3 arg5 harg5 arg7 harg7 arg8 harg8 arg17)
    (word_v1986 c x0 x1 x2 x3 x4 x5 x6 x7 x8 x9 x10 arg2 harg2 arg4 harg4 arg5 harg5 arg7 harg7 arg8 harg8 arg18)
    (word_v1988 c x0 x1 x2 x3 x4 x5 x6 x7 x8 x9 x10 arg2 harg2 arg4 harg4 arg5 harg5 arg7 harg7 arg8 harg8 arg18)
    _ _ _ _ _ _ _ _ _ _

/-- A load of the queries. -/
theorem word_v1746 (q : Fin 64) (l : Fin 128) : (kernelRun0_A.sl.v1746 (F := Ideal) c arg2 harg2 arg5 harg5 arg7 harg7 arg8 harg8 arg16 x0 x3 x5 x6) (ix2 q l)
    = projS (rowsBlk x0 x1 x2 x3 x4 x5 x6 x7 x8 x9 x10 ⟨4, by decide⟩) q ⟨768 + l.val, by omega⟩ * cS := by
  unfold kernelRun0_A.sl.v1746
  exact q_word x0 x1 x2 x3 x4 x5 x6 x7 x8 x9 x10 (pieces_HS0_8 c x0 x1 x2 x3 x4 x5 x6 x7 x8 x9 x10 arg2 harg2 arg5 harg5 arg7 harg7 arg8 harg8) (.leaf 0) 4 3 0 256 768 (by decide) (by decide) (by decide) rfl rfl inb_S512x1024_S64x128_256_768 (by sl_kernel_rfl) q l

/-- A load of the queries. -/
theorem word_v1747 (q : Fin 64) (l : Fin 128) : (kernelRun0_A.sl.v1747 (F := Ideal) c arg2 harg2 arg5 harg5 arg7 harg7 arg8 harg8 arg16 x0 x3 x5 x6) (ix2 q l)
    = projS (rowsBlk x0 x1 x2 x3 x4 x5 x6 x7 x8 x9 x10 ⟨4, by decide⟩) q ⟨896 + l.val, by omega⟩ * cS := by
  unfold kernelRun0_A.sl.v1747
  exact q_word x0 x1 x2 x3 x4 x5 x6 x7 x8 x9 x10 (pieces_HS0_8 c x0 x1 x2 x3 x4 x5 x6 x7 x8 x9 x10 arg2 harg2 arg5 harg5 arg7 harg7 arg8 harg8) (.leaf 0) 4 3 1 256 896 (by decide) (by decide) (by decide) rfl rfl inb_S512x1024_S64x128_256_896 (by sl_kernel_rfl) q l

/-- A load of the keys. -/
theorem word_v1748 (p : Fin 192) (l : Fin 128) : (kernelRun0_A.sl.v1748 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨4, by decide⟩) p ⟨3, by decide⟩ ⟨l.val % 64, by omega⟩ else 0 := by
  unfold kernelRun0_A.sl.v1748
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 17) (.leaf 1)) 4 3 0 (by decide) (by decide) inb_S8x4x2x192x128_S1x1x1x192x128_4_3_0_0_0 (by sl_kernel_rfl) p l

/-- A load of the keys. -/
theorem word_v1750 (p : Fin 192) (l : Fin 128) : (kernelRun0_A.sl.v1750 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨4, by decide⟩) p ⟨3, by decide⟩ ⟨l.val % 64, by omega⟩ else 0 := by
  unfold kernelRun0_A.sl.v1750
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 16) (.leaf 0)) 4 3 1 (by decide) (by decide) inb_S8x4x2x192x128_S1x1x1x192x128_4_3_1_0_0 (by sl_kernel_rfl) p l

/-- A load of the values. -/
theorem word_v2062 (p : Fin 192) (l : Fin 128) : (kernelRun0_A.sl.v2062 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨4, by decide⟩) p ⟨3, by decide⟩ ⟨l.val % 64, by omega⟩ else 0 := by
  unfold kernelRun0_A.sl.v2062
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 17) (.leaf 1)) 4 3 0 (by decide) (by decide) inb_S8x4x2x192x128_S1x1x1x192x128_4_3_0_0_0 (by sl_kernel_rfl) p l

/-- A load of the values. -/
theorem word_v2064 (p : Fin 192) (l : Fin 128) : (kernelRun0_A.sl.v2064 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨4, by decide⟩) p ⟨3, by decide⟩ ⟨l.val % 64, by omega⟩ else 0 := by
  unfold kernelRun0_A.sl.v2064
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 16) (.leaf 0)) 4 3 1 (by decide) (by decide) inb_S8x4x2x192x128_S1x1x1x192x128_4_3_1_0_0 (by sl_kernel_rfl) p l

/-- What the loads of stream 4's group 3 hold. -/
theorem unit_4_3 : Loads (rowsBlk x0 x1 x2 x3 x4 x5 x6 x7 x8 x9 x10 ⟨4, by decide⟩) ⟨3, by decide⟩
    (kernelRun0_A.sl.v1746 (F := Ideal) c arg2 harg2 arg5 harg5 arg7 harg7 arg8 harg8 arg16 x0 x3 x5 x6)
    (kernelRun0_A.sl.v1747 (F := Ideal) c arg2 harg2 arg5 harg5 arg7 harg7 arg8 harg8 arg16 x0 x3 x5 x6)
    (kernelRun0_A.sl.v1748 (F := Ideal) c arg2 harg2 arg3 harg3 arg5 harg5 arg7 harg7 arg8 harg8 arg17 x0 x1 x3 x5 x6)
    (kernelRun0_A.sl.v1750 (F := Ideal) c arg2 harg2 arg3 harg3 arg5 harg5 arg7 harg7 arg8 harg8 arg17 x0 x1 x3 x5 x6)
    (kernelRun0_A.sl.v2062 (F := Ideal) c arg2 harg2 arg4 harg4 arg5 harg5 arg7 harg7 arg8 harg8 arg18 x0 x2 x3 x5 x6)
    (kernelRun0_A.sl.v2064 (F := Ideal) c arg2 harg2 arg4 harg4 arg5 harg5 arg7 harg7 arg8 harg8 arg18 x0 x2 x3 x5 x6)
    (rdT x10 harg12 3 0 inb_S4x2x192x128_S1x1x192x128_3_0_0_0) (rdT x10 harg12 3 1 inb_S4x2x192x128_S1x1x192x128_3_1_0_0)
    (rdS x9 harg11 12 inb_S16_S1_12 (by decide)) (rdS x9 harg11 14 inb_S16_S1_14 (by decide)) (rdS x9 harg11 13 inb_S16_S1_13 (by decide)) (rdS x9 harg11 15 inb_S16_S1_15 (by decide)) :=
  loads_mk x0 x1 x2 x3 x4 x5 x6 x7 x8 x9 x10 harg11 harg12 4 3 12 13 14 15 (by decide) (by decide) rfl rfl rfl rfl
    (word_v1746 c x0 x1 x2 x3 x4 x5 x6 x7 x8 x9 x10 arg2 harg2 arg5 harg5 arg7 harg7 arg8 harg8 arg16)
    (word_v1747 c x0 x1 x2 x3 x4 x5 x6 x7 x8 x9 x10 arg2 harg2 arg5 harg5 arg7 harg7 arg8 harg8 arg16)
    (word_v1748 c x0 x1 x2 x3 x4 x5 x6 x7 x8 x9 x10 arg2 harg2 arg3 harg3 arg5 harg5 arg7 harg7 arg8 harg8 arg17)
    (word_v1750 c x0 x1 x2 x3 x4 x5 x6 x7 x8 x9 x10 arg2 harg2 arg3 harg3 arg5 harg5 arg7 harg7 arg8 harg8 arg17)
    (word_v2062 c x0 x1 x2 x3 x4 x5 x6 x7 x8 x9 x10 arg2 harg2 arg4 harg4 arg5 harg5 arg7 harg7 arg8 harg8 arg18)
    (word_v2064 c x0 x1 x2 x3 x4 x5 x6 x7 x8 x9 x10 arg2 harg2 arg4 harg4 arg5 harg5 arg7 harg7 arg8 harg8 arg18)
    _ _ _ _ _ _ _ _ _ _

/-- A load of the queries. -/
theorem word_v1763 (q : Fin 64) (l : Fin 128) : (kernelRun0_A.sl.v1763 (F := Ideal) c arg2 harg2 arg5 harg5 arg7 harg7 arg8 harg8 arg16 x0 x3 x5 x6) (ix2 q l)
    = projS (rowsBlk x0 x1 x2 x3 x4 x5 x6 x7 x8 x9 x10 ⟨5, by decide⟩) q ⟨0 + l.val, by omega⟩ * cS := by
  unfold kernelRun0_A.sl.v1763
  exact q_word x0 x1 x2 x3 x4 x5 x6 x7 x8 x9 x10 (pieces_HS0_8 c x0 x1 x2 x3 x4 x5 x6 x7 x8 x9 x10 arg2 harg2 arg5 harg5 arg7 harg7 arg8 harg8) (.leaf 3) 5 0 0 320 0 (by decide) (by decide) (by decide) rfl rfl inb_S512x1024_S64x128_320_0 (by sl_kernel_rfl) q l

/-- A load of the queries. -/
theorem word_v1764 (q : Fin 64) (l : Fin 128) : (kernelRun0_A.sl.v1764 (F := Ideal) c arg2 harg2 arg5 harg5 arg7 harg7 arg8 harg8 arg16 x0 x3 x5 x6) (ix2 q l)
    = projS (rowsBlk x0 x1 x2 x3 x4 x5 x6 x7 x8 x9 x10 ⟨5, by decide⟩) q ⟨128 + l.val, by omega⟩ * cS := by
  unfold kernelRun0_A.sl.v1764
  exact q_word x0 x1 x2 x3 x4 x5 x6 x7 x8 x9 x10 (pieces_HS0_8 c x0 x1 x2 x3 x4 x5 x6 x7 x8 x9 x10 arg2 harg2 arg5 harg5 arg7 harg7 arg8 harg8) (.leaf 3) 5 0 1 320 128 (by decide) (by decide) (by decide) rfl rfl inb_S512x1024_S64x128_320_128 (by sl_kernel_rfl) q l

/-- A load of the keys. -/
theorem word_v1765 (p : Fin 192) (l : Fin 128) : (kernelRun0_A.sl.v1765 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨5, by decide⟩) p ⟨0, by decide⟩ ⟨l.val % 64, by omega⟩ else 0 := by
  unfold kernelRun0_A.sl.v1765
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 23) (.leaf 7)) 5 0 0 (by decide) (by decide) inb_S8x4x2x192x128_S1x1x1x192x128_5_0_0_0_0 (by sl_kernel_rfl) p l

/-- A load of the keys. -/
theorem word_v1767 (p : Fin 192) (l : Fin 128) : (kernelRun0_A.sl.v1767 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨5, by decide⟩) p ⟨0, by decide⟩ ⟨l.val % 64, by omega⟩ else 0 := by
  unfold kernelRun0_A.sl.v1767
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 22) (.leaf 6)) 5 0 1 (by decide) (by decide) inb_S8x4x2x192x128_S1x1x1x192x128_5_0_1_0_0 (by sl_kernel_rfl) p l

/-- A load of the values. -/
theorem word_v2138 (p : Fin 192) (l : Fin 128) : (kernelRun0_A.sl.v2138 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨5, by decide⟩) p ⟨0, by decide⟩ ⟨l.val % 64, by omega⟩ else 0 := by
  unfold kernelRun0_A.sl.v2138
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 23) (.leaf 7)) 5 0 0 (by decide) (by decide) inb_S8x4x2x192x128_S1x1x1x192x128_5_0_0_0_0 (by sl_kernel_rfl) p l

/-- A load of the values. -/
theorem word_v2140 (p : Fin 192) (l : Fin 128) : (kernelRun0_A.sl.v2140 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨5, by decide⟩) p ⟨0, by decide⟩ ⟨l.val % 64, by omega⟩ else 0 := by
  unfold kernelRun0_A.sl.v2140
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 22) (.leaf 6)) 5 0 1 (by decide) (by decide) inb_S8x4x2x192x128_S1x1x1x192x128_5_0_1_0_0 (by sl_kernel_rfl) p l

/-- What the loads of stream 5's group 0 hold. -/
theorem unit_5_0 : Loads (rowsBlk x0 x1 x2 x3 x4 x5 x6 x7 x8 x9 x10 ⟨5, by decide⟩) ⟨0, by decide⟩
    (kernelRun0_A.sl.v1763 (F := Ideal) c arg2 harg2 arg5 harg5 arg7 harg7 arg8 harg8 arg16 x0 x3 x5 x6)
    (kernelRun0_A.sl.v1764 (F := Ideal) c arg2 harg2 arg5 harg5 arg7 harg7 arg8 harg8 arg16 x0 x3 x5 x6)
    (kernelRun0_A.sl.v1765 (F := Ideal) c arg2 harg2 arg3 harg3 arg5 harg5 arg7 harg7 arg8 harg8 arg17 x0 x1 x3 x5 x6)
    (kernelRun0_A.sl.v1767 (F := Ideal) c arg2 harg2 arg3 harg3 arg5 harg5 arg7 harg7 arg8 harg8 arg17 x0 x1 x3 x5 x6)
    (kernelRun0_A.sl.v2138 (F := Ideal) c arg2 harg2 arg4 harg4 arg5 harg5 arg7 harg7 arg8 harg8 arg18 x0 x2 x3 x5 x6)
    (kernelRun0_A.sl.v2140 (F := Ideal) c arg2 harg2 arg4 harg4 arg5 harg5 arg7 harg7 arg8 harg8 arg18 x0 x2 x3 x5 x6)
    (rdT x10 harg12 0 0 inb_S4x2x192x128_S1x1x192x128_0_0_0_0) (rdT x10 harg12 0 1 inb_S4x2x192x128_S1x1x192x128_0_1_0_0)
    (rdS x9 harg11 0 inb_S16_S1_0 (by decide)) (rdS x9 harg11 2 inb_S16_S1_2 (by decide)) (rdS x9 harg11 1 inb_S16_S1_1 (by decide)) (rdS x9 harg11 3 inb_S16_S1_3 (by decide)) :=
  loads_mk x0 x1 x2 x3 x4 x5 x6 x7 x8 x9 x10 harg11 harg12 5 0 0 1 2 3 (by decide) (by decide) rfl rfl rfl rfl
    (word_v1763 c x0 x1 x2 x3 x4 x5 x6 x7 x8 x9 x10 arg2 harg2 arg5 harg5 arg7 harg7 arg8 harg8 arg16)
    (word_v1764 c x0 x1 x2 x3 x4 x5 x6 x7 x8 x9 x10 arg2 harg2 arg5 harg5 arg7 harg7 arg8 harg8 arg16)
    (word_v1765 c x0 x1 x2 x3 x4 x5 x6 x7 x8 x9 x10 arg2 harg2 arg3 harg3 arg5 harg5 arg7 harg7 arg8 harg8 arg17)
    (word_v1767 c x0 x1 x2 x3 x4 x5 x6 x7 x8 x9 x10 arg2 harg2 arg3 harg3 arg5 harg5 arg7 harg7 arg8 harg8 arg17)
    (word_v2138 c x0 x1 x2 x3 x4 x5 x6 x7 x8 x9 x10 arg2 harg2 arg4 harg4 arg5 harg5 arg7 harg7 arg8 harg8 arg18)
    (word_v2140 c x0 x1 x2 x3 x4 x5 x6 x7 x8 x9 x10 arg2 harg2 arg4 harg4 arg5 harg5 arg7 harg7 arg8 harg8 arg18)
    _ _ _ _ _ _ _ _ _ _

/-- A load of the queries. -/
theorem word_v1839 (q : Fin 64) (l : Fin 128) : (kernelRun0_A.sl.v1839 (F := Ideal) c arg2 harg2 arg5 harg5 arg7 harg7 arg8 harg8 arg16 x0 x3 x5 x6) (ix2 q l)
    = projS (rowsBlk x0 x1 x2 x3 x4 x5 x6 x7 x8 x9 x10 ⟨5, by decide⟩) q ⟨256 + l.val, by omega⟩ * cS := by
  unfold kernelRun0_A.sl.v1839
  exact q_word x0 x1 x2 x3 x4 x5 x6 x7 x8 x9 x10 (pieces_HS0_8 c x0 x1 x2 x3 x4 x5 x6 x7 x8 x9 x10 arg2 harg2 arg5 harg5 arg7 harg7 arg8 harg8) (.leaf 2) 5 1 0 320 256 (by decide) (by decide) (by decide) rfl rfl inb_S512x1024_S64x128_320_256 (by sl_kernel_rfl) q l

/-- A load of the queries. -/
theorem word_v1840 (q : Fin 64) (l : Fin 128) : (kernelRun0_A.sl.v1840 (F := Ideal) c arg2 harg2 arg5 harg5 arg7 harg7 arg8 harg8 arg16 x0 x3 x5 x6) (ix2 q l)
    = projS (rowsBlk x0 x1 x2 x3 x4 x5 x6 x7 x8 x9 x10 ⟨5, by decide⟩) q ⟨384 + l.val, by omega⟩ * cS := by
  unfold kernelRun0_A.sl.v1840
  exact q_word x0 x1 x2 x3 x4 x5 x6 x7 x8 x9 x10 (pieces_HS0_8 c x0 x1 x2 x3 x4 x5 x6 x7 x8 x9 x10 arg2 harg2 arg5 harg5 arg7 harg7 arg8 harg8) (.leaf 2) 5 1 1 320 384 (by decide) (by decide) (by decide) rfl rfl inb_S512x1024_S64x128_320_384 (by sl_kernel_rfl) q l

/-- A load of the keys. -/
theorem word_v1841 (p : Fin 192) (l : Fin 128) : (kernelRun0_A.sl.v1841 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨5, by decide⟩) p ⟨1, by decide⟩ ⟨l.val % 64, by omega⟩ else 0 := by
  unfold kernelRun0_A.sl.v1841
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 21) (.leaf 5)) 5 1 0 (by decide) (by decide) inb_S8x4x2x192x128_S1x1x1x192x128_5_1_0_0_0 (by sl_kernel_rfl) p l

/-- A load of the keys. -/
theorem word_v1843 (p : Fin 192) (l : Fin 128) : (kernelRun0_A.sl.v1843 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨5, by decide⟩) p ⟨1, by decide⟩ ⟨l.val % 64, by omega⟩ else 0 := by
  unfold kernelRun0_A.sl.v1843
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 20) (.leaf 4)) 5 1 1 (by decide) (by decide) inb_S8x4x2x192x128_S1x1x1x192x128_5_1_1_0_0 (by sl_kernel_rfl) p l

/-- A load of the values. -/
theorem word_v2225 (p : Fin 192) (l : Fin 128) : (kernelRun0_A.sl.v2225 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨5, by decide⟩) p ⟨1, by decide⟩ ⟨l.val % 64, by omega⟩ else 0 := by
  unfold kernelRun0_A.sl.v2225
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 21) (.leaf 5)) 5 1 0 (by decide) (by decide) inb_S8x4x2x192x128_S1x1x1x192x128_5_1_0_0_0 (by sl_kernel_rfl) p l

/-- A load of the values. -/
theorem word_v2227 (p : Fin 192) (l : Fin 128) : (kernelRun0_A.sl.v2227 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨5, by decide⟩) p ⟨1, by decide⟩ ⟨l.val % 64, by omega⟩ else 0 := by
  unfold kernelRun0_A.sl.v2227
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 20) (.leaf 4)) 5 1 1 (by decide) (by decide) inb_S8x4x2x192x128_S1x1x1x192x128_5_1_1_0_0 (by sl_kernel_rfl) p l

/-- What the loads of stream 5's group 1 hold. -/
theorem unit_5_1 : Loads (rowsBlk x0 x1 x2 x3 x4 x5 x6 x7 x8 x9 x10 ⟨5, by decide⟩) ⟨1, by decide⟩
    (kernelRun0_A.sl.v1839 (F := Ideal) c arg2 harg2 arg5 harg5 arg7 harg7 arg8 harg8 arg16 x0 x3 x5 x6)
    (kernelRun0_A.sl.v1840 (F := Ideal) c arg2 harg2 arg5 harg5 arg7 harg7 arg8 harg8 arg16 x0 x3 x5 x6)
    (kernelRun0_A.sl.v1841 (F := Ideal) c arg2 harg2 arg3 harg3 arg5 harg5 arg7 harg7 arg8 harg8 arg17 x0 x1 x3 x5 x6)
    (kernelRun0_A.sl.v1843 (F := Ideal) c arg2 harg2 arg3 harg3 arg5 harg5 arg7 harg7 arg8 harg8 arg17 x0 x1 x3 x5 x6)
    (kernelRun0_A.sl.v2225 (F := Ideal) c arg2 harg2 arg4 harg4 arg5 harg5 arg7 harg7 arg8 harg8 arg18 x0 x2 x3 x5 x6)
    (kernelRun0_A.sl.v2227 (F := Ideal) c arg2 harg2 arg4 harg4 arg5 harg5 arg7 harg7 arg8 harg8 arg18 x0 x2 x3 x5 x6)
    (rdT x10 harg12 1 0 inb_S4x2x192x128_S1x1x192x128_1_0_0_0) (rdT x10 harg12 1 1 inb_S4x2x192x128_S1x1x192x128_1_1_0_0)
    (rdS x9 harg11 4 inb_S16_S1_4 (by decide)) (rdS x9 harg11 6 inb_S16_S1_6 (by decide)) (rdS x9 harg11 5 inb_S16_S1_5 (by decide)) (rdS x9 harg11 7 inb_S16_S1_7 (by decide)) :=
  loads_mk x0 x1 x2 x3 x4 x5 x6 x7 x8 x9 x10 harg11 harg12 5 1 4 5 6 7 (by decide) (by decide) rfl rfl rfl rfl
    (word_v1839 c x0 x1 x2 x3 x4 x5 x6 x7 x8 x9 x10 arg2 harg2 arg5 harg5 arg7 harg7 arg8 harg8 arg16)
    (word_v1840 c x0 x1 x2 x3 x4 x5 x6 x7 x8 x9 x10 arg2 harg2 arg5 harg5 arg7 harg7 arg8 harg8 arg16)
    (word_v1841 c x0 x1 x2 x3 x4 x5 x6 x7 x8 x9 x10 arg2 harg2 arg3 harg3 arg5 harg5 arg7 harg7 arg8 harg8 arg17)
    (word_v1843 c x0 x1 x2 x3 x4 x5 x6 x7 x8 x9 x10 arg2 harg2 arg3 harg3 arg5 harg5 arg7 harg7 arg8 harg8 arg17)
    (word_v2225 c x0 x1 x2 x3 x4 x5 x6 x7 x8 x9 x10 arg2 harg2 arg4 harg4 arg5 harg5 arg7 harg7 arg8 harg8 arg18)
    (word_v2227 c x0 x1 x2 x3 x4 x5 x6 x7 x8 x9 x10 arg2 harg2 arg4 harg4 arg5 harg5 arg7 harg7 arg8 harg8 arg18)
    _ _ _ _ _ _ _ _ _ _

/-- A load of the queries. -/
theorem word_v1926 (q : Fin 64) (l : Fin 128) : (kernelRun0_A.sl.v1926 (F := Ideal) c arg2 harg2 arg5 harg5 arg7 harg7 arg8 harg8 arg16 x0 x3 x5 x6) (ix2 q l)
    = projS (rowsBlk x0 x1 x2 x3 x4 x5 x6 x7 x8 x9 x10 ⟨5, by decide⟩) q ⟨512 + l.val, by omega⟩ * cS := by
  unfold kernelRun0_A.sl.v1926
  exact q_word x0 x1 x2 x3 x4 x5 x6 x7 x8 x9 x10 (pieces_HS0_8 c x0 x1 x2 x3 x4 x5 x6 x7 x8 x9 x10 arg2 harg2 arg5 harg5 arg7 harg7 arg8 harg8) (.leaf 1) 5 2 0 320 512 (by decide) (by decide) (by decide) rfl rfl inb_S512x1024_S64x128_320_512 (by sl_kernel_rfl) q l

/-- A load of the queries. -/
theorem word_v1927 (q : Fin 64) (l : Fin 128) : (kernelRun0_A.sl.v1927 (F := Ideal) c arg2 harg2 arg5 harg5 arg7 harg7 arg8 harg8 arg16 x0 x3 x5 x6) (ix2 q l)
    = projS (rowsBlk x0 x1 x2 x3 x4 x5 x6 x7 x8 x9 x10 ⟨5, by decide⟩) q ⟨640 + l.val, by omega⟩ * cS := by
  unfold kernelRun0_A.sl.v1927
  exact q_word x0 x1 x2 x3 x4 x5 x6 x7 x8 x9 x10 (pieces_HS0_8 c x0 x1 x2 x3 x4 x5 x6 x7 x8 x9 x10 arg2 harg2 arg5 harg5 arg7 harg7 arg8 harg8) (.leaf 1) 5 2 1 320 640 (by decide) (by decide) (by decide) rfl rfl inb_S512x1024_S64x128_320_640 (by sl_kernel_rfl) q l

/-- A load of the keys. -/
theorem word_v1928 (p : Fin 192) (l : Fin 128) : (kernelRun0_A.sl.v1928 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨5, by decide⟩) p ⟨2, by decide⟩ ⟨l.val % 64, by omega⟩ else 0 := by
  unfold kernelRun0_A.sl.v1928
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 19) (.leaf 3)) 5 2 0 (by decide) (by decide) inb_S8x4x2x192x128_S1x1x1x192x128_5_2_0_0_0 (by sl_kernel_rfl) p l

/-- A load of the keys. -/
theorem word_v1930 (p : Fin 192) (l : Fin 128) : (kernelRun0_A.sl.v1930 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨5, by decide⟩) p ⟨2, by decide⟩ ⟨l.val % 64, by omega⟩ else 0 := by
  unfold kernelRun0_A.sl.v1930
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 18) (.leaf 2)) 5 2 1 (by decide) (by decide) inb_S8x4x2x192x128_S1x1x1x192x128_5_2_1_0_0 (by sl_kernel_rfl) p l

/-- A load of the values. -/
theorem word_v2301 (p : Fin 192) (l : Fin 128) : (kernelRun0_A.sl.v2301 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨5, by decide⟩) p ⟨2, by decide⟩ ⟨l.val % 64, by omega⟩ else 0 := by
  unfold kernelRun0_A.sl.v2301
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 19) (.leaf 3)) 5 2 0 (by decide) (by decide) inb_S8x4x2x192x128_S1x1x1x192x128_5_2_0_0_0 (by sl_kernel_rfl) p l

/-- A load of the values. -/
theorem word_v2303 (p : Fin 192) (l : Fin 128) : (kernelRun0_A.sl.v2303 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨5, by decide⟩) p ⟨2, by decide⟩ ⟨l.val % 64, by omega⟩ else 0 := by
  unfold kernelRun0_A.sl.v2303
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 18) (.leaf 2)) 5 2 1 (by decide) (by decide) inb_S8x4x2x192x128_S1x1x1x192x128_5_2_1_0_0 (by sl_kernel_rfl) p l

/-- What the loads of stream 5's group 2 hold. -/
theorem unit_5_2 : Loads (rowsBlk x0 x1 x2 x3 x4 x5 x6 x7 x8 x9 x10 ⟨5, by decide⟩) ⟨2, by decide⟩
    (kernelRun0_A.sl.v1926 (F := Ideal) c arg2 harg2 arg5 harg5 arg7 harg7 arg8 harg8 arg16 x0 x3 x5 x6)
    (kernelRun0_A.sl.v1927 (F := Ideal) c arg2 harg2 arg5 harg5 arg7 harg7 arg8 harg8 arg16 x0 x3 x5 x6)
    (kernelRun0_A.sl.v1928 (F := Ideal) c arg2 harg2 arg3 harg3 arg5 harg5 arg7 harg7 arg8 harg8 arg17 x0 x1 x3 x5 x6)
    (kernelRun0_A.sl.v1930 (F := Ideal) c arg2 harg2 arg3 harg3 arg5 harg5 arg7 harg7 arg8 harg8 arg17 x0 x1 x3 x5 x6)
    (kernelRun0_A.sl.v2301 (F := Ideal) c arg2 harg2 arg4 harg4 arg5 harg5 arg7 harg7 arg8 harg8 arg18 x0 x2 x3 x5 x6)
    (kernelRun0_A.sl.v2303 (F := Ideal) c arg2 harg2 arg4 harg4 arg5 harg5 arg7 harg7 arg8 harg8 arg18 x0 x2 x3 x5 x6)
    (rdT x10 harg12 2 0 inb_S4x2x192x128_S1x1x192x128_2_0_0_0) (rdT x10 harg12 2 1 inb_S4x2x192x128_S1x1x192x128_2_1_0_0)
    (rdS x9 harg11 8 inb_S16_S1_8 (by decide)) (rdS x9 harg11 10 inb_S16_S1_10 (by decide)) (rdS x9 harg11 9 inb_S16_S1_9 (by decide)) (rdS x9 harg11 11 inb_S16_S1_11 (by decide)) :=
  loads_mk x0 x1 x2 x3 x4 x5 x6 x7 x8 x9 x10 harg11 harg12 5 2 8 9 10 11 (by decide) (by decide) rfl rfl rfl rfl
    (word_v1926 c x0 x1 x2 x3 x4 x5 x6 x7 x8 x9 x10 arg2 harg2 arg5 harg5 arg7 harg7 arg8 harg8 arg16)
    (word_v1927 c x0 x1 x2 x3 x4 x5 x6 x7 x8 x9 x10 arg2 harg2 arg5 harg5 arg7 harg7 arg8 harg8 arg16)
    (word_v1928 c x0 x1 x2 x3 x4 x5 x6 x7 x8 x9 x10 arg2 harg2 arg3 harg3 arg5 harg5 arg7 harg7 arg8 harg8 arg17)
    (word_v1930 c x0 x1 x2 x3 x4 x5 x6 x7 x8 x9 x10 arg2 harg2 arg3 harg3 arg5 harg5 arg7 harg7 arg8 harg8 arg17)
    (word_v2301 c x0 x1 x2 x3 x4 x5 x6 x7 x8 x9 x10 arg2 harg2 arg4 harg4 arg5 harg5 arg7 harg7 arg8 harg8 arg18)
    (word_v2303 c x0 x1 x2 x3 x4 x5 x6 x7 x8 x9 x10 arg2 harg2 arg4 harg4 arg5 harg5 arg7 harg7 arg8 harg8 arg18)
    _ _ _ _ _ _ _ _ _ _

/-- A load of the queries. -/
theorem word_v2002 (q : Fin 64) (l : Fin 128) : (kernelRun0_A.sl.v2002 (F := Ideal) c arg2 harg2 arg5 harg5 arg7 harg7 arg8 harg8 arg16 x0 x3 x5 x6) (ix2 q l)
    = projS (rowsBlk x0 x1 x2 x3 x4 x5 x6 x7 x8 x9 x10 ⟨5, by decide⟩) q ⟨768 + l.val, by omega⟩ * cS := by
  unfold kernelRun0_A.sl.v2002
  exact q_word x0 x1 x2 x3 x4 x5 x6 x7 x8 x9 x10 (pieces_HS0_8 c x0 x1 x2 x3 x4 x5 x6 x7 x8 x9 x10 arg2 harg2 arg5 harg5 arg7 harg7 arg8 harg8) (.leaf 0) 5 3 0 320 768 (by decide) (by decide) (by decide) rfl rfl inb_S512x1024_S64x128_320_768 (by sl_kernel_rfl) q l

/-- A load of the queries. -/
theorem word_v2003 (q : Fin 64) (l : Fin 128) : (kernelRun0_A.sl.v2003 (F := Ideal) c arg2 harg2 arg5 harg5 arg7 harg7 arg8 harg8 arg16 x0 x3 x5 x6) (ix2 q l)
    = projS (rowsBlk x0 x1 x2 x3 x4 x5 x6 x7 x8 x9 x10 ⟨5, by decide⟩) q ⟨896 + l.val, by omega⟩ * cS := by
  unfold kernelRun0_A.sl.v2003
  exact q_word x0 x1 x2 x3 x4 x5 x6 x7 x8 x9 x10 (pieces_HS0_8 c x0 x1 x2 x3 x4 x5 x6 x7 x8 x9 x10 arg2 harg2 arg5 harg5 arg7 harg7 arg8 harg8) (.leaf 0) 5 3 1 320 896 (by decide) (by decide) (by decide) rfl rfl inb_S512x1024_S64x128_320_896 (by sl_kernel_rfl) q l

/-- A load of the keys. -/
theorem word_v2004 (p : Fin 192) (l : Fin 128) : (kernelRun0_A.sl.v2004 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨5, by decide⟩) p ⟨3, by decide⟩ ⟨l.val % 64, by omega⟩ else 0 := by
  unfold kernelRun0_A.sl.v2004
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 17) (.leaf 1)) 5 3 0 (by decide) (by decide) inb_S8x4x2x192x128_S1x1x1x192x128_5_3_0_0_0 (by sl_kernel_rfl) p l

/-- A load of the keys. -/
theorem word_v2006 (p : Fin 192) (l : Fin 128) : (kernelRun0_A.sl.v2006 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨5, by decide⟩) p ⟨3, by decide⟩ ⟨l.val % 64, by omega⟩ else 0 := by
  unfold kernelRun0_A.sl.v2006
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 16) (.leaf 0)) 5 3 1 (by decide) (by decide) inb_S8x4x2x192x128_S1x1x1x192x128_5_3_1_0_0 (by sl_kernel_rfl) p l

/-- A load of the values. -/
theorem word_v2377 (p : Fin 192) (l : Fin 128) : (kernelRun0_A.sl.v2377 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨5, by decide⟩) p ⟨3, by decide⟩ ⟨l.val % 64, by omega⟩ else 0 := by
  unfold kernelRun0_A.sl.v2377
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 17) (.leaf 1)) 5 3 0 (by decide) (by decide) inb_S8x4x2x192x128_S1x1x1x192x128_5_3_0_0_0 (by sl_kernel_rfl) p l

/-- A load of the values. -/
theorem word_v2379 (p : Fin 192) (l : Fin 128) : (kernelRun0_A.sl.v2379 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨5, by decide⟩) p ⟨3, by decide⟩ ⟨l.val % 64, by omega⟩ else 0 := by
  unfold kernelRun0_A.sl.v2379
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 16) (.leaf 0)) 5 3 1 (by decide) (by decide) inb_S8x4x2x192x128_S1x1x1x192x128_5_3_1_0_0 (by sl_kernel_rfl) p l

/-- What the loads of stream 5's group 3 hold. -/
theorem unit_5_3 : Loads (rowsBlk x0 x1 x2 x3 x4 x5 x6 x7 x8 x9 x10 ⟨5, by decide⟩) ⟨3, by decide⟩
    (kernelRun0_A.sl.v2002 (F := Ideal) c arg2 harg2 arg5 harg5 arg7 harg7 arg8 harg8 arg16 x0 x3 x5 x6)
    (kernelRun0_A.sl.v2003 (F := Ideal) c arg2 harg2 arg5 harg5 arg7 harg7 arg8 harg8 arg16 x0 x3 x5 x6)
    (kernelRun0_A.sl.v2004 (F := Ideal) c arg2 harg2 arg3 harg3 arg5 harg5 arg7 harg7 arg8 harg8 arg17 x0 x1 x3 x5 x6)
    (kernelRun0_A.sl.v2006 (F := Ideal) c arg2 harg2 arg3 harg3 arg5 harg5 arg7 harg7 arg8 harg8 arg17 x0 x1 x3 x5 x6)
    (kernelRun0_A.sl.v2377 (F := Ideal) c arg2 harg2 arg4 harg4 arg5 harg5 arg7 harg7 arg8 harg8 arg18 x0 x2 x3 x5 x6)
    (kernelRun0_A.sl.v2379 (F := Ideal) c arg2 harg2 arg4 harg4 arg5 harg5 arg7 harg7 arg8 harg8 arg18 x0 x2 x3 x5 x6)
    (rdT x10 harg12 3 0 inb_S4x2x192x128_S1x1x192x128_3_0_0_0) (rdT x10 harg12 3 1 inb_S4x2x192x128_S1x1x192x128_3_1_0_0)
    (rdS x9 harg11 12 inb_S16_S1_12 (by decide)) (rdS x9 harg11 14 inb_S16_S1_14 (by decide)) (rdS x9 harg11 13 inb_S16_S1_13 (by decide)) (rdS x9 harg11 15 inb_S16_S1_15 (by decide)) :=
  loads_mk x0 x1 x2 x3 x4 x5 x6 x7 x8 x9 x10 harg11 harg12 5 3 12 13 14 15 (by decide) (by decide) rfl rfl rfl rfl
    (word_v2002 c x0 x1 x2 x3 x4 x5 x6 x7 x8 x9 x10 arg2 harg2 arg5 harg5 arg7 harg7 arg8 harg8 arg16)
    (word_v2003 c x0 x1 x2 x3 x4 x5 x6 x7 x8 x9 x10 arg2 harg2 arg5 harg5 arg7 harg7 arg8 harg8 arg16)
    (word_v2004 c x0 x1 x2 x3 x4 x5 x6 x7 x8 x9 x10 arg2 harg2 arg3 harg3 arg5 harg5 arg7 harg7 arg8 harg8 arg17)
    (word_v2006 c x0 x1 x2 x3 x4 x5 x6 x7 x8 x9 x10 arg2 harg2 arg3 harg3 arg5 harg5 arg7 harg7 arg8 harg8 arg17)
    (word_v2377 c x0 x1 x2 x3 x4 x5 x6 x7 x8 x9 x10 arg2 harg2 arg4 harg4 arg5 harg5 arg7 harg7 arg8 harg8 arg18)
    (word_v2379 c x0 x1 x2 x3 x4 x5 x6 x7 x8 x9 x10 arg2 harg2 arg4 harg4 arg5 harg5 arg7 harg7 arg8 harg8 arg18)
    _ _ _ _ _ _ _ _ _ _

end Cert.SinkAttn

end
-- ==== Proof.AttnUnits3.lean ====
/-
  What the loads of the groups of streams 6 and 7 hold.
-/
module

public import proofs.«01_k».proof.Proof.AttnUnit
public import proofs.«01_k».proof.Proof.AttnPieces

@[expose] public section

set_option maxRecDepth 16384

noncomputable section

namespace Cert.SinkAttn

open Cert.AttnIdeal Cert.AttnIdeal.Gen Idealize.ShloMosaic Idealize.ShloMosaic.TcCoe Cert.ConvFfn

variable (c : Dev nD) (x0 : FVec Ideal S8x64x1024 .f32) (x1 x2 : FVec Ideal S8x128x256 .f32) (x3 x4 : FVec Ideal S1x1024 .f32) (x5 : FVec Ideal S1x1024x1536 .bf16)
  (x6 : FVec Ideal S1x1536 .f32) (x7 : FVec Ideal S1x1024x1024 .bf16) (x8 : FVec Ideal S1x1024 .f32) (x9 : FVec Ideal S16 .f32) (x10 : FVec Ideal S4x2x192x128 .f32)
  (arg2 : Memref sig .tc .vmem S8x64x1024 .f32) (harg2 : arg2.IsWhole) (arg3 : Memref sig .tc .vmem S8x128x256 .f32) (harg3 : arg3.IsWhole)
  (arg4 : Memref sig .tc .vmem S8x128x256 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x1024x1536 .bf16) (harg7 : arg7.IsWhole)
  (arg8 : Memref sig .tc .vmem S1x1536 .f32) (harg8 : arg8.IsWhole) (arg9 : Memref sig .tc .vmem S1x1024x1024 .bf16) (harg9 : arg9.IsWhole)
  (arg10 : Memref sig .tc .vmem S1x1024 .f32) (harg10 : arg10.IsWhole)
  (arg11 : Memref sig .tc .smem S16 .f32) (harg11 : arg11.IsWhole) (arg12 : Memref sig .tc .vmem S4x2x192x128 .f32) (harg12 : arg12.IsWhole)
  (arg16 : Memref sig .tc .vmem S512x1024 .bf16) (arg17 arg18 : Memref sig .tc .vmem S8x4x2x192x128 .bf16) (arg19 : Memref sig .tc .vmem S512x1024 .bf16)
  (arg20 : Memref sig .tc .vmem S512x1024 .f32)

/-- A load of the queries. -/
theorem word_v2078 (q : Fin 64) (l : Fin 128) : (kernelRun0_A.sl.v2078 (F := Ideal) c arg2 harg2 arg5 harg5 arg7 harg7 arg8 harg8 arg16 x0 x3 x5 x6) (ix2 q l)
    = projS (rowsBlk x0 x1 x2 x3 x4 x5 x6 x7 x8 x9 x10 ⟨6, by decide⟩) q ⟨0 + l.val, by omega⟩ * cS := by
  unfold kernelRun0_A.sl.v2078
  exact q_word x0 x1 x2 x3 x4 x5 x6 x7 x8 x9 x10 (pieces_HS0_8 c x0 x1 x2 x3 x4 x5 x6 x7 x8 x9 x10 arg2 harg2 arg5 harg5 arg7 harg7 arg8 harg8) (.leaf 3) 6 0 0 384 0 (by decide) (by decide) (by decide) rfl rfl inb_S512x1024_S64x128_384_0 (by sl_kernel_rfl) q l

/-- A load of the queries. -/
theorem word_v2079 (q : Fin 64) (l : Fin 128) : (kernelRun0_A.sl.v2079 (F := Ideal) c arg2 harg2 arg5 harg5 arg7 harg7 arg8 harg8 arg16 x0 x3 x5 x6) (ix2 q l)
    = projS (rowsBlk x0 x1 x2 x3 x4 x5 x6 x7 x8 x9 x10 ⟨6, by decide⟩) q ⟨128 + l.val, by omega⟩ * cS := by
  unfold kernelRun0_A.sl.v2079
  exact q_word x0 x1 x2 x3 x4 x5 x6 x7 x8 x9 x10 (pieces_HS0_8 c x0 x1 x2 x3 x4 x5 x6 x7 x8 x9 x10 arg2 harg2 arg5 harg5 arg7 harg7 arg8 harg8) (.leaf 3) 6 0 1 384 128 (by decide) (by decide) (by decide) rfl rfl inb_S512x1024_S64x128_384_128 (by sl_kernel_rfl) q l

/-- A load of the keys. -/
theorem word_v2080 (p : Fin 192) (l : Fin 128) : (kernelRun0_A.sl.v2080 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨6, by decide⟩) p ⟨0, by decide⟩ ⟨l.val % 64, by omega⟩ else 0 := by
  unfold kernelRun0_A.sl.v2080
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 23) (.leaf 7)) 6 0 0 (by decide) (by decide) inb_S8x4x2x192x128_S1x1x1x192x128_6_0_0_0_0 (by sl_kernel_rfl) p l

/-- A load of the keys. -/
theorem word_v2082 (p : Fin 192) (l : Fin 128) : (kernelRun0_A.sl.v2082 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨6, by decide⟩) p ⟨0, by decide⟩ ⟨l.val % 64, by omega⟩ else 0 := by
  unfold kernelRun0_A.sl.v2082
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 22) (.leaf 6)) 6 0 1 (by decide) (by decide) inb_S8x4x2x192x128_S1x1x1x192x128_6_0_1_0_0 (by sl_kernel_rfl) p l

/-- A load of the values. -/
theorem word_v2464 (p : Fin 192) (l : Fin 128) : (kernelRun0_A.sl.v2464 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨6, by decide⟩) p ⟨0, by decide⟩ ⟨l.val % 64, by omega⟩ else 0 := by
  unfold kernelRun0_A.sl.v2464
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 23) (.leaf 7)) 6 0 0 (by decide) (by decide) inb_S8x4x2x192x128_S1x1x1x192x128_6_0_0_0_0 (by sl_kernel_rfl) p l

/-- A load of the values. -/
theorem word_v2466 (p : Fin 192) (l : Fin 128) : (kernelRun0_A.sl.v2466 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨6, by decide⟩) p ⟨0, by decide⟩ ⟨l.val % 64, by omega⟩ else 0 := by
  unfold kernelRun0_A.sl.v2466
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 22) (.leaf 6)) 6 0 1 (by decide) (by decide) inb_S8x4x2x192x128_S1x1x1x192x128_6_0_1_0_0 (by sl_kernel_rfl) p l

/-- What the loads of stream 6's group 0 hold. -/
theorem unit_6_0 : Loads (rowsBlk x0 x1 x2 x3 x4 x5 x6 x7 x8 x9 x10 ⟨6, by decide⟩) ⟨0, by decide⟩
    (kernelRun0_A.sl.v2078 (F := Ideal) c arg2 harg2 arg5 harg5 arg7 harg7 arg8 harg8 arg16 x0 x3 x5 x6)
    (kernelRun0_A.sl.v2079 (F := Ideal) c arg2 harg2 arg5 harg5 arg7 harg7 arg8 harg8 arg16 x0 x3 x5 x6)
    (kernelRun0_A.sl.v2080 (F := Ideal) c arg2 harg2 arg3 harg3 arg5 harg5 arg7 harg7 arg8 harg8 arg17 x0 x1 x3 x5 x6)
    (kernelRun0_A.sl.v2082 (F := Ideal) c arg2 harg2 arg3 harg3 arg5 harg5 arg7 harg7 arg8 harg8 arg17 x0 x1 x3 x5 x6)
    (kernelRun0_A.sl.v2464 (F := Ideal) c arg2 harg2 arg4 harg4 arg5 harg5 arg7 harg7 arg8 harg8 arg18 x0 x2 x3 x5 x6)
    (kernelRun0_A.sl.v2466 (F := Ideal) c arg2 harg2 arg4 harg4 arg5 harg5 arg7 harg7 arg8 harg8 arg18 x0 x2 x3 x5 x6)
    (rdT x10 harg12 0 0 inb_S4x2x192x128_S1x1x192x128_0_0_0_0) (rdT x10 harg12 0 1 inb_S4x2x192x128_S1x1x192x128_0_1_0_0)
    (rdS x9 harg11 0 inb_S16_S1_0 (by decide)) (rdS x9 harg11 2 inb_S16_S1_2 (by decide)) (rdS x9 harg11 1 inb_S16_S1_1 (by decide)) (rdS x9 harg11 3 inb_S16_S1_3 (by decide)) :=
  loads_mk x0 x1 x2 x3 x4 x5 x6 x7 x8 x9 x10 harg11 harg12 6 0 0 1 2 3 (by decide) (by decide) rfl rfl rfl rfl
    (word_v2078 c x0 x1 x2 x3 x4 x5 x6 x7 x8 x9 x10 arg2 harg2 arg5 harg5 arg7 harg7 arg8 harg8 arg16)
    (word_v2079 c x0 x1 x2 x3 x4 x5 x6 x7 x8 x9 x10 arg2 harg2 arg5 harg5 arg7 harg7 arg8 harg8 arg16)
    (word_v2080 c x0 x1 x2 x3 x4 x5 x6 x7 x8 x9 x10 arg2 harg2 arg3 harg3 arg5 harg5 arg7 harg7 arg8 harg8 arg17)
    (word_v2082 c x0 x1 x2 x3 x4 x5 x6 x7 x8 x9 x10 arg2 harg2 arg3 harg3 arg5 harg5 arg7 harg7 arg8 harg8 arg17)
    (word_v2464 c x0 x1 x2 x3 x4 x5 x6 x7 x8 x9 x10 arg2 harg2 arg4 harg4 arg5 harg5 arg7 harg7 arg8 harg8 arg18)
    (word_v2466 c x0 x1 x2 x3 x4 x5 x6 x7 x8 x9 x10 arg2 harg2 arg4 harg4 arg5 harg5 arg7 harg7 arg8 harg8 arg18)
    _ _ _ _ _ _ _ _ _ _

/-- A load of the queries. -/
theorem word_v2165 (q : Fin 64) (l : Fin 128) : (kernelRun0_A.sl.v2165 (F := Ideal) c arg2 harg2 arg5 harg5 arg7 harg7 arg8 harg8 arg16 x0 x3 x5 x6) (ix2 q l)
    = projS (rowsBlk x0 x1 x2 x3 x4 x5 x6 x7 x8 x9 x10 ⟨6, by decide⟩) q ⟨256 + l.val, by omega⟩ * cS := by
  unfold kernelRun0_A.sl.v2165
  exact q_word x0 x1 x2 x3 x4 x5 x6 x7 x8 x9 x10 (pieces_HS0_8 c x0 x1 x2 x3 x4 x5 x6 x7 x8 x9 x10 arg2 harg2 arg5 harg5 arg7 harg7 arg8 harg8) (.leaf 2) 6 1 0 384 256 (by decide) (by decide) (by decide) rfl rfl inb_S512x1024_S64x128_384_256 (by sl_kernel_rfl) q l

/-- A load of the queries. -/
theorem word_v2166 (q : Fin 64) (l : Fin 128) : (kernelRun0_A.sl.v2166 (F := Ideal) c arg2 harg2 arg5 harg5 arg7 harg7 arg8 harg8 arg16 x0 x3 x5 x6) (ix2 q l)
    = projS (rowsBlk x0 x1 x2 x3 x4 x5 x6 x7 x8 x9 x10 ⟨6, by decide⟩) q ⟨384 + l.val, by omega⟩ * cS := by
  unfold kernelRun0_A.sl.v2166
  exact q_word x0 x1 x2 x3 x4 x5 x6 x7 x8 x9 x10 (pieces_HS0_8 c x0 x1 x2 x3 x4 x5 x6 x7 x8 x9 x10 arg2 harg2 arg5 harg5 arg7 harg7 arg8 harg8) (.leaf 2) 6 1 1 384 384 (by decide) (by decide) (by decide) rfl rfl inb_S512x1024_S64x128_384_384 (by sl_kernel_rfl) q l

/-- A load of the keys. -/
theorem word_v2167 (p : Fin 192) (l : Fin 128) : (kernelRun0_A.sl.v2167 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨6, by decide⟩) p ⟨1, by decide⟩ ⟨l.val % 64, by omega⟩ else 0 := by
  unfold kernelRun0_A.sl.v2167
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 21) (.leaf 5)) 6 1 0 (by decide) (by decide) inb_S8x4x2x192x128_S1x1x1x192x128_6_1_0_0_0 (by sl_kernel_rfl) p l

/-- A load of the keys. -/
theorem word_v2169 (p : Fin 192) (l : Fin 128) : (kernelRun0_A.sl.v2169 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨6, by decide⟩) p ⟨1, by decide⟩ ⟨l.val % 64, by omega⟩ else 0 := by
  unfold kernelRun0_A.sl.v2169
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 20) (.leaf 4)) 6 1 1 (by decide) (by decide) inb_S8x4x2x192x128_S1x1x1x192x128_6_1_1_0_0 (by sl_kernel_rfl) p l

/-- A load of the values. -/
theorem word_v2540 (p : Fin 192) (l : Fin 128) : (kernelRun0_A.sl.v2540 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨6, by decide⟩) p ⟨1, by decide⟩ ⟨l.val % 64, by omega⟩ else 0 := by
  unfold kernelRun0_A.sl.v2540
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 21) (.leaf 5)) 6 1 0 (by decide) (by decide) inb_S8x4x2x192x128_S1x1x1x192x128_6_1_0_0_0 (by sl_kernel_rfl) p l

/-- A load of the values. -/
theorem word_v2542 (p : Fin 192) (l : Fin 128) : (kernelRun0_A.sl.v2542 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨6, by decide⟩) p ⟨1, by decide⟩ ⟨l.val % 64, by omega⟩ else 0 := by
  unfold kernelRun0_A.sl.v2542
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 20) (.leaf 4)) 6 1 1 (by decide) (by decide) inb_S8x4x2x192x128_S1x1x1x192x128_6_1_1_0_0 (by sl_kernel_rfl) p l

/-- What the loads of stream 6's group 1 hold. -/
theorem unit_6_1 : Loads (rowsBlk x0 x1 x2 x3 x4 x5 x6 x7 x8 x9 x10 ⟨6, by decide⟩) ⟨1, by decide⟩
    (kernelRun0_A.sl.v2165 (F := Ideal) c arg2 harg2 arg5 harg5 arg7 harg7 arg8 harg8 arg16 x0 x3 x5 x6)
    (kernelRun0_A.sl.v2166 (F := Ideal) c arg2 harg2 arg5 harg5 arg7 harg7 arg8 harg8 arg16 x0 x3 x5 x6)
    (kernelRun0_A.sl.v2167 (F := Ideal) c arg2 harg2 arg3 harg3 arg5 harg5 arg7 harg7 arg8 harg8 arg17 x0 x1 x3 x5 x6)
    (kernelRun0_A.sl.v2169 (F := Ideal) c arg2 harg2 arg3 harg3 arg5 harg5 arg7 harg7 arg8 harg8 arg17 x0 x1 x3 x5 x6)
    (kernelRun0_A.sl.v2540 (F := Ideal) c arg2 harg2 arg4 harg4 arg5 harg5 arg7 harg7 arg8 harg8 arg18 x0 x2 x3 x5 x6)
    (kernelRun0_A.sl.v2542 (F := Ideal) c arg2 harg2 arg4 harg4 arg5 harg5 arg7 harg7 arg8 harg8 arg18 x0 x2 x3 x5 x6)
    (rdT x10 harg12 1 0 inb_S4x2x192x128_S1x1x192x128_1_0_0_0) (rdT x10 harg12 1 1 inb_S4x2x192x128_S1x1x192x128_1_1_0_0)
    (rdS x9 harg11 4 inb_S16_S1_4 (by decide)) (rdS x9 harg11 6 inb_S16_S1_6 (by decide)) (rdS x9 harg11 5 inb_S16_S1_5 (by decide)) (rdS x9 harg11 7 inb_S16_S1_7 (by decide)) :=
  loads_mk x0 x1 x2 x3 x4 x5 x6 x7 x8 x9 x10 harg11 harg12 6 1 4 5 6 7 (by decide) (by decide) rfl rfl rfl rfl
    (word_v2165 c x0 x1 x2 x3 x4 x5 x6 x7 x8 x9 x10 arg2 harg2 arg5 harg5 arg7 harg7 arg8 harg8 arg16)
    (word_v2166 c x0 x1 x2 x3 x4 x5 x6 x7 x8 x9 x10 arg2 harg2 arg5 harg5 arg7 harg7 arg8 harg8 arg16)
    (word_v2167 c x0 x1 x2 x3 x4 x5 x6 x7 x8 x9 x10 arg2 harg2 arg3 harg3 arg5 harg5 arg7 harg7 arg8 harg8 arg17)
    (word_v2169 c x0 x1 x2 x3 x4 x5 x6 x7 x8 x9 x10 arg2 harg2 arg3 harg3 arg5 harg5 arg7 harg7 arg8 harg8 arg17)
    (word_v2540 c x0 x1 x2 x3 x4 x5 x6 x7 x8 x9 x10 arg2 harg2 arg4 harg4 arg5 harg5 arg7 harg7 arg8 harg8 arg18)
    (word_v2542 c x0 x1 x2 x3 x4 x5 x6 x7 x8 x9 x10 arg2 harg2 arg4 harg4 arg5 harg5 arg7 harg7 arg8 harg8 arg18)
    _ _ _ _ _ _ _ _ _ _

/-- A load of the queries. -/
theorem word_v2241 (q : Fin 64) (l : Fin 128) : (kernelRun0_A.sl.v2241 (F := Ideal) c arg2 harg2 arg5 harg5 arg7 harg7 arg8 harg8 arg16 x0 x3 x5 x6) (ix2 q l)
    = projS (rowsBlk x0 x1 x2 x3 x4 x5 x6 x7 x8 x9 x10 ⟨6, by decide⟩) q ⟨512 + l.val, by omega⟩ * cS := by
  unfold kernelRun0_A.sl.v2241
  exact q_word x0 x1 x2 x3 x4 x5 x6 x7 x8 x9 x10 (pieces_HS0_8 c x0 x1 x2 x3 x4 x5 x6 x7 x8 x9 x10 arg2 harg2 arg5 harg5 arg7 harg7 arg8 harg8) (.leaf 1) 6 2 0 384 512 (by decide) (by decide) (by decide) rfl rfl inb_S512x1024_S64x128_384_512 (by sl_kernel_rfl) q l

/-- A load of the queries. -/
theorem word_v2242 (q : Fin 64) (l : Fin 128) : (kernelRun0_A.sl.v2242 (F := Ideal) c arg2 harg2 arg5 harg5 arg7 harg7 arg8 harg8 arg16 x0 x3 x5 x6) (ix2 q l)
    = projS (rowsBlk x0 x1 x2 x3 x4 x5 x6 x7 x8 x9 x10 ⟨6, by decide⟩) q ⟨640 + l.val, by omega⟩ * cS := by
  unfold kernelRun0_A.sl.v2242
  exact q_word x0 x1 x2 x3 x4 x5 x6 x7 x8 x9 x10 (pieces_HS0_8 c x0 x1 x2 x3 x4 x5 x6 x7 x8 x9 x10 arg2 harg2 arg5 harg5 arg7 harg7 arg8 harg8) (.leaf 1) 6 2 1 384 640 (by decide) (by decide) (by decide) rfl rfl inb_S512x1024_S64x128_384_640 (by sl_kernel_rfl) q l

/-- A load of the keys. -/
theorem word_v2243 (p : Fin 192) (l : Fin 128) : (kernelRun0_A.sl.v2243 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨6, by decide⟩) p ⟨2, by decide⟩ ⟨l.val % 64, by omega⟩ else 0 := by
  unfold kernelRun0_A.sl.v2243
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 19) (.leaf 3)) 6 2 0 (by decide) (by decide) inb_S8x4x2x192x128_S1x1x1x192x128_6_2_0_0_0 (by sl_kernel_rfl) p l

/-- A load of the keys. -/
theorem word_v2245 (p : Fin 192) (l : Fin 128) : (kernelRun0_A.sl.v2245 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨6, by decide⟩) p ⟨2, by decide⟩ ⟨l.val % 64, by omega⟩ else 0 := by
  unfold kernelRun0_A.sl.v2245
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 18) (.leaf 2)) 6 2 1 (by decide) (by decide) inb_S8x4x2x192x128_S1x1x1x192x128_6_2_1_0_0 (by sl_kernel_rfl) p l

/-- A load of the values. -/
theorem word_v2616 (p : Fin 192) (l : Fin 128) : (kernelRun0_A.sl.v2616 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨6, by decide⟩) p ⟨2, by decide⟩ ⟨l.val % 64, by omega⟩ else 0 := by
  unfold kernelRun0_A.sl.v2616
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 19) (.leaf 3)) 6 2 0 (by decide) (by decide) inb_S8x4x2x192x128_S1x1x1x192x128_6_2_0_0_0 (by sl_kernel_rfl) p l

/-- A load of the values. -/
theorem word_v2618 (p : Fin 192) (l : Fin 128) : (kernelRun0_A.sl.v2618 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨6, by decide⟩) p ⟨2, by decide⟩ ⟨l.val % 64, by omega⟩ else 0 := by
  unfold kernelRun0_A.sl.v2618
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 18) (.leaf 2)) 6 2 1 (by decide) (by decide) inb_S8x4x2x192x128_S1x1x1x192x128_6_2_1_0_0 (by sl_kernel_rfl) p l

/-- What the loads of stream 6's group 2 hold. -/
theorem unit_6_2 : Loads (rowsBlk x0 x1 x2 x3 x4 x5 x6 x7 x8 x9 x10 ⟨6, by decide⟩) ⟨2, by decide⟩
    (kernelRun0_A.sl.v2241 (F := Ideal) c arg2 harg2 arg5 harg5 arg7 harg7 arg8 harg8 arg16 x0 x3 x5 x6)
    (kernelRun0_A.sl.v2242 (F := Ideal) c arg2 harg2 arg5 harg5 arg7 harg7 arg8 harg8 arg16 x0 x3 x5 x6)
    (kernelRun0_A.sl.v2243 (F := Ideal) c arg2 harg2 arg3 harg3 arg5 harg5 arg7 harg7 arg8 harg8 arg17 x0 x1 x3 x5 x6)
    (kernelRun0_A.sl.v2245 (F := Ideal) c arg2 harg2 arg3 harg3 arg5 harg5 arg7 harg7 arg8 harg8 arg17 x0 x1 x3 x5 x6)
    (kernelRun0_A.sl.v2616 (F := Ideal) c arg2 harg2 arg4 harg4 arg5 harg5 arg7 harg7 arg8 harg8 arg18 x0 x2 x3 x5 x6)
    (kernelRun0_A.sl.v2618 (F := Ideal) c arg2 harg2 arg4 harg4 arg5 harg5 arg7 harg7 arg8 harg8 arg18 x0 x2 x3 x5 x6)
    (rdT x10 harg12 2 0 inb_S4x2x192x128_S1x1x192x128_2_0_0_0) (rdT x10 harg12 2 1 inb_S4x2x192x128_S1x1x192x128_2_1_0_0)
    (rdS x9 harg11 8 inb_S16_S1_8 (by decide)) (rdS x9 harg11 10 inb_S16_S1_10 (by decide)) (rdS x9 harg11 9 inb_S16_S1_9 (by decide)) (rdS x9 harg11 11 inb_S16_S1_11 (by decide)) :=
  loads_mk x0 x1 x2 x3 x4 x5 x6 x7 x8 x9 x10 harg11 harg12 6 2 8 9 10 11 (by decide) (by decide) rfl rfl rfl rfl
    (word_v2241 c x0 x1 x2 x3 x4 x5 x6 x7 x8 x9 x10 arg2 harg2 arg5 harg5 arg7 harg7 arg8 harg8 arg16)
    (word_v2242 c x0 x1 x2 x3 x4 x5 x6 x7 x8 x9 x10 arg2 harg2 arg5 harg5 arg7 harg7 arg8 harg8 arg16)
    (word_v2243 c x0 x1 x2 x3 x4 x5 x6 x7 x8 x9 x10 arg2 harg2 arg3 harg3 arg5 harg5 arg7 harg7 arg8 harg8 arg17)
    (word_v2245 c x0 x1 x2 x3 x4 x5 x6 x7 x8 x9 x10 arg2 harg2 arg3 harg3 arg5 harg5 arg7 harg7 arg8 harg8 arg17)
    (word_v2616 c x0 x1 x2 x3 x4 x5 x6 x7 x8 x9 x10 arg2 harg2 arg4 harg4 arg5 harg5 arg7 harg7 arg8 harg8 arg18)
    (word_v2618 c x0 x1 x2 x3 x4 x5 x6 x7 x8 x9 x10 arg2 harg2 arg4 harg4 arg5 harg5 arg7 harg7 arg8 harg8 arg18)
    _ _ _ _ _ _ _ _ _ _

/-- A load of the queries. -/
theorem word_v2317 (q : Fin 64) (l : Fin 128) : (kernelRun0_A.sl.v2317 (F := Ideal) c arg2 harg2 arg5 harg5 arg7 harg7 arg8 harg8 arg16 x0 x3 x5 x6) (ix2 q l)
    = projS (rowsBlk x0 x1 x2 x3 x4 x5 x6 x7 x8 x9 x10 ⟨6, by decide⟩) q ⟨768 + l.val, by omega⟩ * cS := by
  unfold kernelRun0_A.sl.v2317
  exact q_word x0 x1 x2 x3 x4 x5 x6 x7 x8 x9 x10 (pieces_HS0_8 c x0 x1 x2 x3 x4 x5 x6 x7 x8 x9 x10 arg2 harg2 arg5 harg5 arg7 harg7 arg8 harg8) (.leaf 0) 6 3 0 384 768 (by decide) (by decide) (by decide) rfl rfl inb_S512x1024_S64x128_384_768 (by sl_kernel_rfl) q l

/-- A load of the queries. -/
theorem word_v2318 (q : Fin 64) (l : Fin 128) : (kernelRun0_A.sl.v2318 (F := Ideal) c arg2 harg2 arg5 harg5 arg7 harg7 arg8 harg8 arg16 x0 x3 x5 x6) (ix2 q l)
    = projS (rowsBlk x0 x1 x2 x3 x4 x5 x6 x7 x8 x9 x10 ⟨6, by decide⟩) q ⟨896 + l.val, by omega⟩ * cS := by
  unfold kernelRun0_A.sl.v2318
  exact q_word x0 x1 x2 x3 x4 x5 x6 x7 x8 x9 x10 (pieces_HS0_8 c x0 x1 x2 x3 x4 x5 x6 x7 x8 x9 x10 arg2 harg2 arg5 harg5 arg7 harg7 arg8 harg8) (.leaf 0) 6 3 1 384 896 (by decide) (by decide) (by decide) rfl rfl inb_S512x1024_S64x128_384_896 (by sl_kernel_rfl) q l

/-- A load of the keys. -/
theorem word_v2319 (p : Fin 192) (l : Fin 128) : (kernelRun0_A.sl.v2319 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨6, by decide⟩) p ⟨3, by decide⟩ ⟨l.val % 64, by omega⟩ else 0 := by
  unfold kernelRun0_A.sl.v2319
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 17) (.leaf 1)) 6 3 0 (by decide) (by decide) inb_S8x4x2x192x128_S1x1x1x192x128_6_3_0_0_0 (by sl_kernel_rfl) p l

/-- A load of the keys. -/
theorem word_v2321 (p : Fin 192) (l : Fin 128) : (kernelRun0_A.sl.v2321 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨6, by decide⟩) p ⟨3, by decide⟩ ⟨l.val % 64, by omega⟩ else 0 := by
  unfold kernelRun0_A.sl.v2321
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 16) (.leaf 0)) 6 3 1 (by decide) (by decide) inb_S8x4x2x192x128_S1x1x1x192x128_6_3_1_0_0 (by sl_kernel_rfl) p l

/-- A load of the values. -/
theorem word_v2712 (p : Fin 192) (l : Fin 128) : (kernelRun0_A.sl.v2712 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨6, by decide⟩) p ⟨3, by decide⟩ ⟨l.val % 64, by omega⟩ else 0 := by
  unfold kernelRun0_A.sl.v2712
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 17) (.leaf 1)) 6 3 0 (by decide) (by decide) inb_S8x4x2x192x128_S1x1x1x192x128_6_3_0_0_0 (by sl_kernel_rfl) p l

/-- A load of the values. -/
theorem word_v2714 (p : Fin 192) (l : Fin 128) : (kernelRun0_A.sl.v2714 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨6, by decide⟩) p ⟨3, by decide⟩ ⟨l.val % 64, by omega⟩ else 0 := by
  unfold kernelRun0_A.sl.v2714
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 16) (.leaf 0)) 6 3 1 (by decide) (by decide) inb_S8x4x2x192x128_S1x1x1x192x128_6_3_1_0_0 (by sl_kernel_rfl) p l

/-- What the loads of stream 6's group 3 hold. -/
theorem unit_6_3 : Loads (rowsBlk x0 x1 x2 x3 x4 x5 x6 x7 x8 x9 x10 ⟨6, by decide⟩) ⟨3, by decide⟩
    (kernelRun0_A.sl.v2317 (F := Ideal) c arg2 harg2 arg5 harg5 arg7 harg7 arg8 harg8 arg16 x0 x3 x5 x6)
    (kernelRun0_A.sl.v2318 (F := Ideal) c arg2 harg2 arg5 harg5 arg7 harg7 arg8 harg8 arg16 x0 x3 x5 x6)
    (kernelRun0_A.sl.v2319 (F := Ideal) c arg2 harg2 arg3 harg3 arg5 harg5 arg7 harg7 arg8 harg8 arg17 x0 x1 x3 x5 x6)
    (kernelRun0_A.sl.v2321 (F := Ideal) c arg2 harg2 arg3 harg3 arg5 harg5 arg7 harg7 arg8 harg8 arg17 x0 x1 x3 x5 x6)
    (kernelRun0_A.sl.v2712 (F := Ideal) c arg2 harg2 arg4 harg4 arg5 harg5 arg7 harg7 arg8 harg8 arg18 x0 x2 x3 x5 x6)
    (kernelRun0_A.sl.v2714 (F := Ideal) c arg2 harg2 arg4 harg4 arg5 harg5 arg7 harg7 arg8 harg8 arg18 x0 x2 x3 x5 x6)
    (rdT x10 harg12 3 0 inb_S4x2x192x128_S1x1x192x128_3_0_0_0) (rdT x10 harg12 3 1 inb_S4x2x192x128_S1x1x192x128_3_1_0_0)
    (rdS x9 harg11 12 inb_S16_S1_12 (by decide)) (rdS x9 harg11 14 inb_S16_S1_14 (by decide)) (rdS x9 harg11 13 inb_S16_S1_13 (by decide)) (rdS x9 harg11 15 inb_S16_S1_15 (by decide)) :=
  loads_mk x0 x1 x2 x3 x4 x5 x6 x7 x8 x9 x10 harg11 harg12 6 3 12 13 14 15 (by decide) (by decide) rfl rfl rfl rfl
    (word_v2317 c x0 x1 x2 x3 x4 x5 x6 x7 x8 x9 x10 arg2 harg2 arg5 harg5 arg7 harg7 arg8 harg8 arg16)
    (word_v2318 c x0 x1 x2 x3 x4 x5 x6 x7 x8 x9 x10 arg2 harg2 arg5 harg5 arg7 harg7 arg8 harg8 arg16)
    (word_v2319 c x0 x1 x2 x3 x4 x5 x6 x7 x8 x9 x10 arg2 harg2 arg3 harg3 arg5 harg5 arg7 harg7 arg8 harg8 arg17)
    (word_v2321 c x0 x1 x2 x3 x4 x5 x6 x7 x8 x9 x10 arg2 harg2 arg3 harg3 arg5 harg5 arg7 harg7 arg8 harg8 arg17)
    (word_v2712 c x0 x1 x2 x3 x4 x5 x6 x7 x8 x9 x10 arg2 harg2 arg4 harg4 arg5 harg5 arg7 harg7 arg8 harg8 arg18)
    (word_v2714 c x0 x1 x2 x3 x4 x5 x6 x7 x8 x9 x10 arg2 harg2 arg4 harg4 arg5 harg5 arg7 harg7 arg8 harg8 arg18)
    _ _ _ _ _ _ _ _ _ _

/-- A load of the queries. -/
theorem word_v2404 (q : Fin 64) (l : Fin 128) : (kernelRun0_A.sl.v2404 (F := Ideal) c arg2 harg2 arg5 harg5 arg7 harg7 arg8 harg8 arg16 x0 x3 x5 x6) (ix2 q l)
    = projS (rowsBlk x0 x1 x2 x3 x4 x5 x6 x7 x8 x9 x10 ⟨7, by decide⟩) q ⟨0 + l.val, by omega⟩ * cS := by
  unfold kernelRun0_A.sl.v2404
  exact q_word x0 x1 x2 x3 x4 x5 x6 x7 x8 x9 x10 (pieces_HS0_8 c x0 x1 x2 x3 x4 x5 x6 x7 x8 x9 x10 arg2 harg2 arg5 harg5 arg7 harg7 arg8 harg8) (.leaf 3) 7 0 0 448 0 (by decide) (by decide) (by decide) rfl rfl inb_S512x1024_S64x128_448_0 (by sl_kernel_rfl) q l

/-- A load of the queries. -/
theorem word_v2405 (q : Fin 64) (l : Fin 128) : (kernelRun0_A.sl.v2405 (F := Ideal) c arg2 harg2 arg5 harg5 arg7 harg7 arg8 harg8 arg16 x0 x3 x5 x6) (ix2 q l)
    = projS (rowsBlk x0 x1 x2 x3 x4 x5 x6 x7 x8 x9 x10 ⟨7, by decide⟩) q ⟨128 + l.val, by omega⟩ * cS := by
  unfold kernelRun0_A.sl.v2405
  exact q_word x0 x1 x2 x3 x4 x5 x6 x7 x8 x9 x10 (pieces_HS0_8 c x0 x1 x2 x3 x4 x5 x6 x7 x8 x9 x10 arg2 harg2 arg5 harg5 arg7 harg7 arg8 harg8) (.leaf 3) 7 0 1 448 128 (by decide) (by decide) (by decide) rfl rfl inb_S512x1024_S64x128_448_128 (by sl_kernel_rfl) q l

/-- A load of the keys. -/
theorem word_v2406 (p : Fin 192) (l : Fin 128) : (kernelRun0_A.sl.v2406 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨7, by decide⟩) p ⟨0, by decide⟩ ⟨l.val % 64, by omega⟩ else 0 := by
  unfold kernelRun0_A.sl.v2406
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 23) (.leaf 7)) 7 0 0 (by decide) (by decide) inb_S8x4x2x192x128_S1x1x1x192x128_7_0_0_0_0 (by sl_kernel_rfl) p l

/-- A load of the keys. -/
theorem word_v2408 (p : Fin 192) (l : Fin 128) : (kernelRun0_A.sl.v2408 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨7, by decide⟩) p ⟨0, by decide⟩ ⟨l.val % 64, by omega⟩ else 0 := by
  unfold kernelRun0_A.sl.v2408
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 22) (.leaf 6)) 7 0 1 (by decide) (by decide) inb_S8x4x2x192x128_S1x1x1x192x128_7_0_1_0_0 (by sl_kernel_rfl) p l

/-- A load of the values. -/
theorem word_v2771 (p : Fin 192) (l : Fin 128) : (kernelRun0_A.sl.v2771 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨7, by decide⟩) p ⟨0, by decide⟩ ⟨l.val % 64, by omega⟩ else 0 := by
  unfold kernelRun0_A.sl.v2771
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 23) (.leaf 7)) 7 0 0 (by decide) (by decide) inb_S8x4x2x192x128_S1x1x1x192x128_7_0_0_0_0 (by sl_kernel_rfl) p l

/-- A load of the values. -/
theorem word_v2773 (p : Fin 192) (l : Fin 128) : (kernelRun0_A.sl.v2773 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨7, by decide⟩) p ⟨0, by decide⟩ ⟨l.val % 64, by omega⟩ else 0 := by
  unfold kernelRun0_A.sl.v2773
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 22) (.leaf 6)) 7 0 1 (by decide) (by decide) inb_S8x4x2x192x128_S1x1x1x192x128_7_0_1_0_0 (by sl_kernel_rfl) p l

/-- What the loads of stream 7's group 0 hold. -/
theorem unit_7_0 : Loads (rowsBlk x0 x1 x2 x3 x4 x5 x6 x7 x8 x9 x10 ⟨7, by decide⟩) ⟨0, by decide⟩
    (kernelRun0_A.sl.v2404 (F := Ideal) c arg2 harg2 arg5 harg5 arg7 harg7 arg8 harg8 arg16 x0 x3 x5 x6)
    (kernelRun0_A.sl.v2405 (F := Ideal) c arg2 harg2 arg5 harg5 arg7 harg7 arg8 harg8 arg16 x0 x3 x5 x6)
    (kernelRun0_A.sl.v2406 (F := Ideal) c arg2 harg2 arg3 harg3 arg5 harg5 arg7 harg7 arg8 harg8 arg17 x0 x1 x3 x5 x6)
    (kernelRun0_A.sl.v2408 (F := Ideal) c arg2 harg2 arg3 harg3 arg5 harg5 arg7 harg7 arg8 harg8 arg17 x0 x1 x3 x5 x6)
    (kernelRun0_A.sl.v2771 (F := Ideal) c arg2 harg2 arg4 harg4 arg5 harg5 arg7 harg7 arg8 harg8 arg18 x0 x2 x3 x5 x6)
    (kernelRun0_A.sl.v2773 (F := Ideal) c arg2 harg2 arg4 harg4 arg5 harg5 arg7 harg7 arg8 harg8 arg18 x0 x2 x3 x5 x6)
    (rdT x10 harg12 0 0 inb_S4x2x192x128_S1x1x192x128_0_0_0_0) (rdT x10 harg12 0 1 inb_S4x2x192x128_S1x1x192x128_0_1_0_0)
    (rdS x9 harg11 0 inb_S16_S1_0 (by decide)) (rdS x9 harg11 2 inb_S16_S1_2 (by decide)) (rdS x9 harg11 1 inb_S16_S1_1 (by decide)) (rdS x9 harg11 3 inb_S16_S1_3 (by decide)) :=
  loads_mk x0 x1 x2 x3 x4 x5 x6 x7 x8 x9 x10 harg11 harg12 7 0 0 1 2 3 (by decide) (by decide) rfl rfl rfl rfl
    (word_v2404 c x0 x1 x2 x3 x4 x5 x6 x7 x8 x9 x10 arg2 harg2 arg5 harg5 arg7 harg7 arg8 harg8 arg16)
    (word_v2405 c x0 x1 x2 x3 x4 x5 x6 x7 x8 x9 x10 arg2 harg2 arg5 harg5 arg7 harg7 arg8 harg8 arg16)
    (word_v2406 c x0 x1 x2 x3 x4 x5 x6 x7 x8 x9 x10 arg2 harg2 arg3 harg3 arg5 harg5 arg7 harg7 arg8 harg8 arg17)
    (word_v2408 c x0 x1 x2 x3 x4 x5 x6 x7 x8 x9 x10 arg2 harg2 arg3 harg3 arg5 harg5 arg7 harg7 arg8 harg8 arg17)
    (word_v2771 c x0 x1 x2 x3 x4 x5 x6 x7 x8 x9 x10 arg2 harg2 arg4 harg4 arg5 harg5 arg7 harg7 arg8 harg8 arg18)
    (word_v2773 c x0 x1 x2 x3 x4 x5 x6 x7 x8 x9 x10 arg2 harg2 arg4 harg4 arg5 harg5 arg7 harg7 arg8 harg8 arg18)
    _ _ _ _ _ _ _ _ _ _

/-- A load of the queries. -/
theorem word_v2480 (q : Fin 64) (l : Fin 128) : (kernelRun0_A.sl.v2480 (F := Ideal) c arg2 harg2 arg5 harg5 arg7 harg7 arg8 harg8 arg16 x0 x3 x5 x6) (ix2 q l)
    = projS (rowsBlk x0 x1 x2 x3 x4 x5 x6 x7 x8 x9 x10 ⟨7, by decide⟩) q ⟨256 + l.val, by omega⟩ * cS := by
  unfold kernelRun0_A.sl.v2480
  exact q_word x0 x1 x2 x3 x4 x5 x6 x7 x8 x9 x10 (pieces_HS0_8 c x0 x1 x2 x3 x4 x5 x6 x7 x8 x9 x10 arg2 harg2 arg5 harg5 arg7 harg7 arg8 harg8) (.leaf 2) 7 1 0 448 256 (by decide) (by decide) (by decide) rfl rfl inb_S512x1024_S64x128_448_256 (by sl_kernel_rfl) q l

/-- A load of the queries. -/
theorem word_v2481 (q : Fin 64) (l : Fin 128) : (kernelRun0_A.sl.v2481 (F := Ideal) c arg2 harg2 arg5 harg5 arg7 harg7 arg8 harg8 arg16 x0 x3 x5 x6) (ix2 q l)
    = projS (rowsBlk x0 x1 x2 x3 x4 x5 x6 x7 x8 x9 x10 ⟨7, by decide⟩) q ⟨384 + l.val, by omega⟩ * cS := by
  unfold kernelRun0_A.sl.v2481
  exact q_word x0 x1 x2 x3 x4 x5 x6 x7 x8 x9 x10 (pieces_HS0_8 c x0 x1 x2 x3 x4 x5 x6 x7 x8 x9 x10 arg2 harg2 arg5 harg5 arg7 harg7 arg8 harg8) (.leaf 2) 7 1 1 448 384 (by decide) (by decide) (by decide) rfl rfl inb_S512x1024_S64x128_448_384 (by sl_kernel_rfl) q l

/-- A load of the keys. -/
theorem word_v2482 (p : Fin 192) (l : Fin 128) : (kernelRun0_A.sl.v2482 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨7, by decide⟩) p ⟨1, by decide⟩ ⟨l.val % 64, by omega⟩ else 0 := by
  unfold kernelRun0_A.sl.v2482
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 21) (.leaf 5)) 7 1 0 (by decide) (by decide) inb_S8x4x2x192x128_S1x1x1x192x128_7_1_0_0_0 (by sl_kernel_rfl) p l

/-- A load of the keys. -/
theorem word_v2484 (p : Fin 192) (l : Fin 128) : (kernelRun0_A.sl.v2484 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨7, by decide⟩) p ⟨1, by decide⟩ ⟨l.val % 64, by omega⟩ else 0 := by
  unfold kernelRun0_A.sl.v2484
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 20) (.leaf 4)) 7 1 1 (by decide) (by decide) inb_S8x4x2x192x128_S1x1x1x192x128_7_1_1_0_0 (by sl_kernel_rfl) p l

/-- A load of the values. -/
theorem word_v2830 (p : Fin 192) (l : Fin 128) : (kernelRun0_A.sl.v2830 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨7, by decide⟩) p ⟨1, by decide⟩ ⟨l.val % 64, by omega⟩ else 0 := by
  unfold kernelRun0_A.sl.v2830
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 21) (.leaf 5)) 7 1 0 (by decide) (by decide) inb_S8x4x2x192x128_S1x1x1x192x128_7_1_0_0_0 (by sl_kernel_rfl) p l

/-- A load of the values. -/
theorem word_v2832 (p : Fin 192) (l : Fin 128) : (kernelRun0_A.sl.v2832 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨7, by decide⟩) p ⟨1, by decide⟩ ⟨l.val % 64, by omega⟩ else 0 := by
  unfold kernelRun0_A.sl.v2832
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 20) (.leaf 4)) 7 1 1 (by decide) (by decide) inb_S8x4x2x192x128_S1x1x1x192x128_7_1_1_0_0 (by sl_kernel_rfl) p l

/-- What the loads of stream 7's group 1 hold. -/
theorem unit_7_1 : Loads (rowsBlk x0 x1 x2 x3 x4 x5 x6 x7 x8 x9 x10 ⟨7, by decide⟩) ⟨1, by decide⟩
    (kernelRun0_A.sl.v2480 (F := Ideal) c arg2 harg2 arg5 harg5 arg7 harg7 arg8 harg8 arg16 x0 x3 x5 x6)
    (kernelRun0_A.sl.v2481 (F := Ideal) c arg2 harg2 arg5 harg5 arg7 harg7 arg8 harg8 arg16 x0 x3 x5 x6)
    (kernelRun0_A.sl.v2482 (F := Ideal) c arg2 harg2 arg3 harg3 arg5 harg5 arg7 harg7 arg8 harg8 arg17 x0 x1 x3 x5 x6)
    (kernelRun0_A.sl.v2484 (F := Ideal) c arg2 harg2 arg3 harg3 arg5 harg5 arg7 harg7 arg8 harg8 arg17 x0 x1 x3 x5 x6)
    (kernelRun0_A.sl.v2830 (F := Ideal) c arg2 harg2 arg4 harg4 arg5 harg5 arg7 harg7 arg8 harg8 arg18 x0 x2 x3 x5 x6)
    (kernelRun0_A.sl.v2832 (F := Ideal) c arg2 harg2 arg4 harg4 arg5 harg5 arg7 harg7 arg8 harg8 arg18 x0 x2 x3 x5 x6)
    (rdT x10 harg12 1 0 inb_S4x2x192x128_S1x1x192x128_1_0_0_0) (rdT x10 harg12 1 1 inb_S4x2x192x128_S1x1x192x128_1_1_0_0)
    (rdS x9 harg11 4 inb_S16_S1_4 (by decide)) (rdS x9 harg11 6 inb_S16_S1_6 (by decide)) (rdS x9 harg11 5 inb_S16_S1_5 (by decide)) (rdS x9 harg11 7 inb_S16_S1_7 (by decide)) :=
  loads_mk x0 x1 x2 x3 x4 x5 x6 x7 x8 x9 x10 harg11 harg12 7 1 4 5 6 7 (by decide) (by decide) rfl rfl rfl rfl
    (word_v2480 c x0 x1 x2 x3 x4 x5 x6 x7 x8 x9 x10 arg2 harg2 arg5 harg5 arg7 harg7 arg8 harg8 arg16)
    (word_v2481 c x0 x1 x2 x3 x4 x5 x6 x7 x8 x9 x10 arg2 harg2 arg5 harg5 arg7 harg7 arg8 harg8 arg16)
    (word_v2482 c x0 x1 x2 x3 x4 x5 x6 x7 x8 x9 x10 arg2 harg2 arg3 harg3 arg5 harg5 arg7 harg7 arg8 harg8 arg17)
    (word_v2484 c x0 x1 x2 x3 x4 x5 x6 x7 x8 x9 x10 arg2 harg2 arg3 harg3 arg5 harg5 arg7 harg7 arg8 harg8 arg17)
    (word_v2830 c x0 x1 x2 x3 x4 x5 x6 x7 x8 x9 x10 arg2 harg2 arg4 harg4 arg5 harg5 arg7 harg7 arg8 harg8 arg18)
    (word_v2832 c x0 x1 x2 x3 x4 x5 x6 x7 x8 x9 x10 arg2 harg2 arg4 harg4 arg5 harg5 arg7 harg7 arg8 harg8 arg18)
    _ _ _ _ _ _ _ _ _ _

/-- A load of the queries. -/
theorem word_v2556 (q : Fin 64) (l : Fin 128) : (kernelRun0_A.sl.v2556 (F := Ideal) c arg2 harg2 arg5 harg5 arg7 harg7 arg8 harg8 arg16 x0 x3 x5 x6) (ix2 q l)
    = projS (rowsBlk x0 x1 x2 x3 x4 x5 x6 x7 x8 x9 x10 ⟨7, by decide⟩) q ⟨512 + l.val, by omega⟩ * cS := by
  unfold kernelRun0_A.sl.v2556
  exact q_word x0 x1 x2 x3 x4 x5 x6 x7 x8 x9 x10 (pieces_HS0_8 c x0 x1 x2 x3 x4 x5 x6 x7 x8 x9 x10 arg2 harg2 arg5 harg5 arg7 harg7 arg8 harg8) (.leaf 1) 7 2 0 448 512 (by decide) (by decide) (by decide) rfl rfl inb_S512x1024_S64x128_448_512 (by sl_kernel_rfl) q l

/-- A load of the queries. -/
theorem word_v2557 (q : Fin 64) (l : Fin 128) : (kernelRun0_A.sl.v2557 (F := Ideal) c arg2 harg2 arg5 harg5 arg7 harg7 arg8 harg8 arg16 x0 x3 x5 x6) (ix2 q l)
    = projS (rowsBlk x0 x1 x2 x3 x4 x5 x6 x7 x8 x9 x10 ⟨7, by decide⟩) q ⟨640 + l.val, by omega⟩ * cS := by
  unfold kernelRun0_A.sl.v2557
  exact q_word x0 x1 x2 x3 x4 x5 x6 x7 x8 x9 x10 (pieces_HS0_8 c x0 x1 x2 x3 x4 x5 x6 x7 x8 x9 x10 arg2 harg2 arg5 harg5 arg7 harg7 arg8 harg8) (.leaf 1) 7 2 1 448 640 (by decide) (by decide) (by decide) rfl rfl inb_S512x1024_S64x128_448_640 (by sl_kernel_rfl) q l

/-- A load of the keys. -/
theorem word_v2558 (p : Fin 192) (l : Fin 128) : (kernelRun0_A.sl.v2558 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨7, by decide⟩) p ⟨2, by decide⟩ ⟨l.val % 64, by omega⟩ else 0 := by
  unfold kernelRun0_A.sl.v2558
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 19) (.leaf 3)) 7 2 0 (by decide) (by decide) inb_S8x4x2x192x128_S1x1x1x192x128_7_2_0_0_0 (by sl_kernel_rfl) p l

/-- A load of the keys. -/
theorem word_v2560 (p : Fin 192) (l : Fin 128) : (kernelRun0_A.sl.v2560 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨7, by decide⟩) p ⟨2, by decide⟩ ⟨l.val % 64, by omega⟩ else 0 := by
  unfold kernelRun0_A.sl.v2560
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 18) (.leaf 2)) 7 2 1 (by decide) (by decide) inb_S8x4x2x192x128_S1x1x1x192x128_7_2_1_0_0 (by sl_kernel_rfl) p l

/-- A load of the values. -/
theorem word_v2889 (p : Fin 192) (l : Fin 128) : (kernelRun0_A.sl.v2889 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨7, by decide⟩) p ⟨2, by decide⟩ ⟨l.val % 64, by omega⟩ else 0 := by
  unfold kernelRun0_A.sl.v2889
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 19) (.leaf 3)) 7 2 0 (by decide) (by decide) inb_S8x4x2x192x128_S1x1x1x192x128_7_2_0_0_0 (by sl_kernel_rfl) p l

/-- A load of the values. -/
theorem word_v2891 (p : Fin 192) (l : Fin 128) : (kernelRun0_A.sl.v2891 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨7, by decide⟩) p ⟨2, by decide⟩ ⟨l.val % 64, by omega⟩ else 0 := by
  unfold kernelRun0_A.sl.v2891
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 18) (.leaf 2)) 7 2 1 (by decide) (by decide) inb_S8x4x2x192x128_S1x1x1x192x128_7_2_1_0_0 (by sl_kernel_rfl) p l

/-- What the loads of stream 7's group 2 hold. -/
theorem unit_7_2 : Loads (rowsBlk x0 x1 x2 x3 x4 x5 x6 x7 x8 x9 x10 ⟨7, by decide⟩) ⟨2, by decide⟩
    (kernelRun0_A.sl.v2556 (F := Ideal) c arg2 harg2 arg5 harg5 arg7 harg7 arg8 harg8 arg16 x0 x3 x5 x6)
    (kernelRun0_A.sl.v2557 (F := Ideal) c arg2 harg2 arg5 harg5 arg7 harg7 arg8 harg8 arg16 x0 x3 x5 x6)
    (kernelRun0_A.sl.v2558 (F := Ideal) c arg2 harg2 arg3 harg3 arg5 harg5 arg7 harg7 arg8 harg8 arg17 x0 x1 x3 x5 x6)
    (kernelRun0_A.sl.v2560 (F := Ideal) c arg2 harg2 arg3 harg3 arg5 harg5 arg7 harg7 arg8 harg8 arg17 x0 x1 x3 x5 x6)
    (kernelRun0_A.sl.v2889 (F := Ideal) c arg2 harg2 arg4 harg4 arg5 harg5 arg7 harg7 arg8 harg8 arg18 x0 x2 x3 x5 x6)
    (kernelRun0_A.sl.v2891 (F := Ideal) c arg2 harg2 arg4 harg4 arg5 harg5 arg7 harg7 arg8 harg8 arg18 x0 x2 x3 x5 x6)
    (rdT x10 harg12 2 0 inb_S4x2x192x128_S1x1x192x128_2_0_0_0) (rdT x10 harg12 2 1 inb_S4x2x192x128_S1x1x192x128_2_1_0_0)
    (rdS x9 harg11 8 inb_S16_S1_8 (by decide)) (rdS x9 harg11 10 inb_S16_S1_10 (by decide)) (rdS x9 harg11 9 inb_S16_S1_9 (by decide)) (rdS x9 harg11 11 inb_S16_S1_11 (by decide)) :=
  loads_mk x0 x1 x2 x3 x4 x5 x6 x7 x8 x9 x10 harg11 harg12 7 2 8 9 10 11 (by decide) (by decide) rfl rfl rfl rfl
    (word_v2556 c x0 x1 x2 x3 x4 x5 x6 x7 x8 x9 x10 arg2 harg2 arg5 harg5 arg7 harg7 arg8 harg8 arg16)
    (word_v2557 c x0 x1 x2 x3 x4 x5 x6 x7 x8 x9 x10 arg2 harg2 arg5 harg5 arg7 harg7 arg8 harg8 arg16)
    (word_v2558 c x0 x1 x2 x3 x4 x5 x6 x7 x8 x9 x10 arg2 harg2 arg3 harg3 arg5 harg5 arg7 harg7 arg8 harg8 arg17)
    (word_v2560 c x0 x1 x2 x3 x4 x5 x6 x7 x8 x9 x10 arg2 harg2 arg3 harg3 arg5 harg5 arg7 harg7 arg8 harg8 arg17)
    (word_v2889 c x0 x1 x2 x3 x4 x5 x6 x7 x8 x9 x10 arg2 harg2 arg4 harg4 arg5 harg5 arg7 harg7 arg8 harg8 arg18)
    (word_v2891 c x0 x1 x2 x3 x4 x5 x6 x7 x8 x9 x10 arg2 harg2 arg4 harg4 arg5 harg5 arg7 harg7 arg8 harg8 arg18)
    _ _ _ _ _ _ _ _ _ _

/-- A load of the queries. -/
theorem word_v2652 (q : Fin 64) (l : Fin 128) : (kernelRun0_A.sl.v2652 (F := Ideal) c arg2 harg2 arg5 harg5 arg7 harg7 arg8 harg8 arg16 x0 x3 x5 x6) (ix2 q l)
    = projS (rowsBlk x0 x1 x2 x3 x4 x5 x6 x7 x8 x9 x10 ⟨7, by decide⟩) q ⟨768 + l.val, by omega⟩ * cS := by
  unfold kernelRun0_A.sl.v2652
  exact q_word x0 x1 x2 x3 x4 x5 x6 x7 x8 x9 x10 (pieces_HS0_8 c x0 x1 x2 x3 x4 x5 x6 x7 x8 x9 x10 arg2 harg2 arg5 harg5 arg7 harg7 arg8 harg8) (.leaf 0) 7 3 0 448 768 (by decide) (by decide) (by decide) rfl rfl inb_S512x1024_S64x128_448_768 (by sl_kernel_rfl) q l

/-- A load of the queries. -/
theorem word_v2653 (q : Fin 64) (l : Fin 128) : (kernelRun0_A.sl.v2653 (F := Ideal) c arg2 harg2 arg5 harg5 arg7 harg7 arg8 harg8 arg16 x0 x3 x5 x6) (ix2 q l)
    = projS (rowsBlk x0 x1 x2 x3 x4 x5 x6 x7 x8 x9 x10 ⟨7, by decide⟩) q ⟨896 + l.val, by omega⟩ * cS := by
  unfold kernelRun0_A.sl.v2653
  exact q_word x0 x1 x2 x3 x4 x5 x6 x7 x8 x9 x10 (pieces_HS0_8 c x0 x1 x2 x3 x4 x5 x6 x7 x8 x9 x10 arg2 harg2 arg5 harg5 arg7 harg7 arg8 harg8) (.leaf 0) 7 3 1 448 896 (by decide) (by decide) (by decide) rfl rfl inb_S512x1024_S64x128_448_896 (by sl_kernel_rfl) q l

/-- A load of the keys. -/
theorem word_v2654 (p : Fin 192) (l : Fin 128) : (kernelRun0_A.sl.v2654 (F := Ideal) c arg2 harg2 arg3 harg3 arg5 harg5 arg7 harg7 arg8 harg8 arg17 x0 x1 x3 x5 x6) (ix5 0 0 0 p l)
    = if l.val / 64 = 0 then keyS (rowsBlk x0 x1 x2 x3 x4 x5 x6 x7 x8 x9 x10 ⟨7, by decide⟩) p ⟨3, by decide⟩ ⟨l.val % 64, by omega⟩ else 0 := by
  unfold kernelRun0_A.sl.v2654
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 17) (.leaf 1)) 7 3 0 (by decide) (by decide) inb_S8x4x2x192x128_S1x1x1x192x128_7_3_0_0_0 (by sl_kernel_rfl) p l

/-- A load of the keys. -/
theorem word_v2656 (p : Fin 192) (l : Fin 128) : (kernelRun0_A.sl.v2656 (F := Ideal) c arg2 harg2 arg3 harg3 arg5 harg5 arg7 harg7 arg8 harg8 arg17 x0 x1 x3 x5 x6) (ix5 0 0 0 p l)
    = if l.val / 64 = 1 then keyS (rowsBlk x0 x1 x2 x3 x4 x5 x6 x7 x8 x9 x10 ⟨7, by decide⟩) p ⟨3, by decide⟩ ⟨l.val % 64, by omega⟩ else 0 := by
  unfold kernelRun0_A.sl.v2656
  exact k_word x0 x1 x2 x3 x4 x5 x6 x7 x8 x9 x10 (pieces_HS1_24 c x0 x1 x2 x3 x4 x5 x6 x7 x8 x9 x10 arg2 harg2 arg3 harg3 arg5 harg5 arg7 harg7 arg8 harg8) (.split 3 128 (.leaf 16) (.leaf 0)) 7 3 1 (by decide) (by decide) inb_S8x4x2x192x128_S1x1x1x192x128_7_3_1_0_0 (by sl_kernel_rfl) p l

/-- A load of the values. -/
theorem word_v2948 (p : Fin 192) (l : Fin 128) : (kernelRun0_A.sl.v2948 (F := Ideal) c arg2 harg2 arg4 harg4 arg5 harg5 arg7 harg7 arg8 harg8 arg18 x0 x2 x3 x5 x6) (ix5 0 0 0 p l)
    = if l.val / 64 = 0 then valS (rowsBlk x0 x1 x2 x3 x4 x5 x6 x7 x8 x9 x10 ⟨7, by decide⟩) p ⟨3, by decide⟩ ⟨l.val % 64, by omega⟩ else 0 := by
  unfold kernelRun0_A.sl.v2948
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 17) (.leaf 1)) 7 3 0 (by decide) (by decide) inb_S8x4x2x192x128_S1x1x1x192x128_7_3_0_0_0 (by sl_kernel_rfl) p l

/-- A load of the values. -/
theorem word_v2950 (p : Fin 192) (l : Fin 128) : (kernelRun0_A.sl.v2950 (F := Ideal) c arg2 harg2 arg4 harg4 arg5 harg5 arg7 harg7 arg8 harg8 arg18 x0 x2 x3 x5 x6) (ix5 0 0 0 p l)
    = if l.val / 64 = 1 then valS (rowsBlk x0 x1 x2 x3 x4 x5 x6 x7 x8 x9 x10 ⟨7, by decide⟩) p ⟨3, by decide⟩ ⟨l.val % 64, by omega⟩ else 0 := by
  unfold kernelRun0_A.sl.v2950
  exact v_word x0 x1 x2 x3 x4 x5 x6 x7 x8 x9 x10 (pieces_HS2_24 c x0 x1 x2 x3 x4 x5 x6 x7 x8 x9 x10 arg2 harg2 arg4 harg4 arg5 harg5 arg7 harg7 arg8 harg8) (.split 3 128 (.leaf 16) (.leaf 0)) 7 3 1 (by decide) (by decide) inb_S8x4x2x192x128_S1x1x1x192x128_7_3_1_0_0 (by sl_kernel_rfl) p l

/-- What the loads of stream 7's group 3 hold. -/
theorem unit_7_3 : Loads (rowsBlk x0 x1 x2 x3 x4 x5 x6 x7 x8 x9 x10 ⟨7, by decide⟩) ⟨3, by decide⟩
    (kernelRun0_A.sl.v2652 (F := Ideal) c arg2 harg2 arg5 harg5 arg7 harg7 arg8 harg8 arg16 x0 x3 x5 x6)
    (kernelRun0_A.sl.v2653 (F := Ideal) c arg2 harg2 arg5 harg5 arg7 harg7 arg8 harg8 arg16 x0 x3 x5 x6)
    (kernelRun0_A.sl.v2654 (F := Ideal) c arg2 harg2 arg3 harg3 arg5 harg5 arg7 harg7 arg8 harg8 arg17 x0 x1 x3 x5 x6)
    (kernelRun0_A.sl.v2656 (F := Ideal) c arg2 harg2 arg3 harg3 arg5 harg5 arg7 harg7 arg8 harg8 arg17 x0 x1 x3 x5 x6)
    (kernelRun0_A.sl.v2948 (F := Ideal) c arg2 harg2 arg4 harg4 arg5 harg5 arg7 harg7 arg8 harg8 arg18 x0 x2 x3 x5 x6)
    (kernelRun0_A.sl.v2950 (F := Ideal) c arg2 harg2 arg4 harg4 arg5 harg5 arg7 harg7 arg8 harg8 arg18 x0 x2 x3 x5 x6)
    (rdT x10 harg12 3 0 inb_S4x2x192x128_S1x1x192x128_3_0_0_0) (rdT x10 harg12 3 1 inb_S4x2x192x128_S1x1x192x128_3_1_0_0)
    (rdS x9 harg11 12 inb_S16_S1_12 (by decide)) (rdS x9 harg11 14 inb_S16_S1_14 (by decide)) (rdS x9 harg11 13 inb_S16_S1_13 (by decide)) (rdS x9 harg11 15 inb_S16_S1_15 (by decide)) :=
  loads_mk x0 x1 x2 x3 x4 x5 x6 x7 x8 x9 x10 harg11 harg12 7 3 12 13 14 15 (by decide) (by decide) rfl rfl rfl rfl
    (word_v2652 c x0 x1 x2 x3 x4 x5 x6 x7 x8 x9 x10 arg2 harg2 arg5 harg5 arg7 harg7 arg8 harg8 arg16)
    (word_v2653 c x0 x1 x2 x3 x4 x5 x6 x7 x8 x9 x10 arg2 harg2 arg5 harg5 arg7 harg7 arg8 harg8 arg16)
    (word_v2654 c x0 x1 x2 x3 x4 x5 x6 x7 x8 x9 x10 arg2 harg2 arg3 harg3 arg5 harg5 arg7 harg7 arg8 harg8 arg17)
    (word_v2656 c x0 x1 x2 x3 x4 x5 x6 x7 x8 x9 x10 arg2 harg2 arg3 harg3 arg5 harg5 arg7 harg7 arg8 harg8 arg17)
    (word_v2948 c x0 x1 x2 x3 x4 x5 x6 x7 x8 x9 x10 arg2 harg2 arg4 harg4 arg5 harg5 arg7 harg7 arg8 harg8 arg18)
    (word_v2950 c x0 x1 x2 x3 x4 x5 x6 x7 x8 x9 x10 arg2 harg2 arg4 harg4 arg5 harg5 arg7 harg7 arg8 harg8 arg18)
    _ _ _ _ _ _ _ _ _ _

end Cert.SinkAttn

end
-- ==== Proof.AttnTiles.lean ====
/-
  The stores of the heads' rows, tile by tile.
-/
module

public import proofs.«01_k».proof.Proof.AttnUnits0
public import proofs.«01_k».proof.Proof.AttnUnits1
public import proofs.«01_k».proof.Proof.AttnUnits2
public import proofs.«01_k».proof.Proof.AttnUnits3

@[expose] public section

set_option maxRecDepth 16384

noncomputable section

namespace Cert.SinkAttn

open Cert.AttnIdeal Cert.AttnIdeal.Gen Idealize.ShloMosaic Idealize.ShloMosaic.TcCoe Cert.ConvFfn

variable (c : Dev nD) (x0 : FVec Ideal S8x64x1024 .f32) (x1 x2 : FVec Ideal S8x128x256 .f32) (x3 x4 : FVec Ideal S1x1024 .f32) (x5 : FVec Ideal S1x1024x1536 .bf16)
  (x6 : FVec Ideal S1x1536 .f32) (x7 : FVec Ideal S1x1024x1024 .bf16) (x8 : FVec Ideal S1x1024 .f32) (x9 : FVec Ideal S16 .f32) (x10 : FVec Ideal S4x2x192x128 .f32)
  (arg2 : Memref sig .tc .vmem S8x64x1024 .f32) (harg2 : arg2.IsWhole) (arg3 : Memref sig .tc .vmem S8x128x256 .f32) (harg3 : arg3.IsWhole)
  (arg4 : Memref sig .tc .vmem S8x128x256 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x1024x1536 .bf16) (harg7 : arg7.IsWhole)
  (arg8 : Memref sig .tc .vmem S1x1536 .f32) (harg8 : arg8.IsWhole) (arg9 : Memref sig .tc .vmem S1x1024x1024 .bf16) (harg9 : arg9.IsWhole)
  (arg10 : Memref sig .tc .vmem S1x1024 .f32) (harg10 : arg10.IsWhole)
  (arg11 : Memref sig .tc .smem S16 .f32) (harg11 : arg11.IsWhole) (arg12 : Memref sig .tc .vmem S4x2x192x128 .f32) (harg12 : arg12.IsWhole)
  (arg16 : Memref sig .tc .vmem S512x1024 .bf16) (arg17 arg18 : Memref sig .tc .vmem S8x4x2x192x128 .bf16) (arg19 : Memref sig .tc .vmem S512x1024 .bf16)
  (arg20 : Memref sig .tc .vmem S512x1024 .f32)

/-- The stores of the heads' rows, as far as they go. -/
theorem pieces_HS3_32 : View.PiecesOf (oB x0 x1 x2 x3 x4 x5 x6 x7 x8 x9 x10) (kernelRun0_A.sl.HS3_32 (F := Ideal) c arg2 harg2 arg3 harg3 arg4 harg4 arg5 harg5 arg7 harg7 arg8 harg8 arg11 harg11 arg12 harg12 arg16 arg17 arg18 x0 x1 x2 x3 x5 x6 x9 x10) := by
  unfold kernelRun0_A.sl.HS3_32
  exact ⟨fun y => tile_hi x0 x1 x2 x3 x4 x5 x6 x7 x8 x9 x10 3 3 192 896 (by decide) (by decide) rfl rfl (unit_3_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_192_896 y,
    fun y => tile_lo x0 x1 x2 x3 x4 x5 x6 x7 x8 x9 x10 3 3 192 768 (by decide) (by decide) rfl rfl (unit_3_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_192_768 y,
    fun y => tile_hi x0 x1 x2 x3 x4 x5 x6 x7 x8 x9 x10 3 2 192 640 (by decide) (by decide) rfl rfl (unit_3_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_192_640 y,
    fun y => tile_lo x0 x1 x2 x3 x4 x5 x6 x7 x8 x9 x10 3 2 192 512 (by decide) (by decide) rfl rfl (unit_3_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_192_512 y,
    fun y => tile_hi x0 x1 x2 x3 x4 x5 x6 x7 x8 x9 x10 3 1 192 384 (by decide) (by decide) rfl rfl (unit_3_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_192_384 y,
    fun y => tile_lo x0 x1 x2 x3 x4 x5 x6 x7 x8 x9 x10 3 1 192 256 (by decide) (by decide) rfl rfl (unit_3_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_192_256 y,
    fun y => tile_hi x0 x1 x2 x3 x4 x5 x6 x7 x8 x9 x10 3 0 192 128 (by decide) (by decide) rfl rfl (unit_3_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_192_128 y,
    fun y => tile_lo x0 x1 x2 x3 x4 x5 x6 x7 x8 x9 x10 3 0 192 0 (by decide) (by decide) rfl rfl (unit_3_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_192_0 y,
    fun y => tile_hi x0 x1 x2 x3 x4 x5 x6 x7 x8 x9 x10 2 3 128 896 (by decide) (by decide) rfl rfl (unit_2_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_128_896 y,
    fun y => tile_lo x0 x1 x2 x3 x4 x5 x6 x7 x8 x9 x10 2 3 128 768 (by decide) (by decide) rfl rfl (unit_2_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_128_768 y,
    fun y => tile_hi x0 x1 x2 x3 x4 x5 x6 x7 x8 x9 x10 2 2 128 640 (by decide) (by decide) rfl rfl (unit_2_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_128_640 y,
    fun y => tile_lo x0 x1 x2 x3 x4 x5 x6 x7 x8 x9 x10 2 2 128 512 (by decide) (by decide) rfl rfl (unit_2_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_128_512 y,
    fun y => tile_hi x0 x1 x2 x3 x4 x5 x6 x7 x8 x9 x10 2 1 128 384 (by decide) (by decide) rfl rfl (unit_2_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_128_384 y,
    fun y => tile_lo x0 x1 x2 x3 x4 x5 x6 x7 x8 x9 x10 2 1 128 256 (by decide) (by decide) rfl rfl (unit_2_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_128_256 y,
    fun y => tile_hi x0 x1 x2 x3 x4 x5 x6 x7 x8 x9 x10 2 0 128 128 (by decide) (by decide) rfl rfl (unit_2_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_128_128 y,
    fun y => tile_lo x0 x1 x2 x3 x4 x5 x6 x7 x8 x9 x10 2 0 128 0 (by decide) (by decide) rfl rfl (unit_2_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_128_0 y,
    fun y => tile_hi x0 x1 x2 x3 x4 x5 x6 x7 x8 x9 x10 1 3 64 896 (by decide) (by decide) rfl rfl (unit_1_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_64_896 y,
    fun y => tile_lo x0 x1 x2 x3 x4 x5 x6 x7 x8 x9 x10 1 3 64 768 (by decide) (by decide) rfl rfl (unit_1_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_64_768 y,
    fun y => tile_hi x0 x1 x2 x3 x4 x5 x6 x7 x8 x9 x10 1 2 64 640 (by decide) (by decide) rfl rfl (unit_1_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_64_640 y,
    fun y => tile_lo x0 x1 x2 x3 x4 x5 x6 x7 x8 x9 x10 1 2 64 512 (by decide) (by decide) rfl rfl (unit_1_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_64_512 y,
    fun y => tile_hi x0 x1 x2 x3 x4 x5 x6 x7 x8 x9 x10 1 1 64 384 (by decide) (by decide) rfl rfl (unit_1_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_64_384 y,
    fun y => tile_lo x0 x1 x2 x3 x4 x5 x6 x7 x8 x9 x10 1 1 64 256 (by decide) (by decide) rfl rfl (unit_1_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_64_256 y,
    fun y => tile_hi x0 x1 x2 x3 x4 x5 x6 x7 x8 x9 x10 1 0 64 128 (by decide) (by decide) rfl rfl (unit_1_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_64_128 y,
    fun y => tile_lo x0 x1 x2 x3 x4 x5 x6 x7 x8 x9 x10 1 0 64 0 (by decide) (by decide) rfl rfl (unit_1_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_64_0 y,
    fun y => tile_hi x0 x1 x2 x3 x4 x5 x6 x7 x8 x9 x10 0 3 0 896 (by decide) (by decide) rfl rfl (unit_0_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_0_896 y,
    fun y => tile_lo x0 x1 x2 x3 x4 x5 x6 x7 x8 x9 x10 0 3 0 768 (by decide) (by decide) rfl rfl (unit_0_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_0_768 y,
    fun y => tile_hi x0 x1 x2 x3 x4 x5 x6 x7 x8 x9 x10 0 2 0 640 (by decide) (by decide) rfl rfl (unit_0_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_0_640 y,
    fun y => tile_lo x0 x1 x2 x3 x4 x5 x6 x7 x8 x9 x10 0 2 0 512 (by decide) (by decide) rfl rfl (unit_0_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_0_512 y,
    fun y => tile_hi x0 x1 x2 x3 x4 x5 x6 x7 x8 x9 x10 0 1 0 384 (by decide) (by decide) rfl rfl (unit_0_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_0_384 y,
    fun y => tile_lo x0 x1 x2 x3 x4 x5 x6 x7 x8 x9 x10 0 1 0 256 (by decide) (by decide) rfl rfl (unit_0_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_0_256 y,
    fun y => tile_hi x0 x1 x2 x3 x4 x5 x6 x7 x8 x9 x10 0 0 0 128 (by decide) (by decide) rfl rfl (unit_0_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_0_128 y,
    fun y => tile_lo x0 x1 x2 x3 x4 x5 x6 x7 x8 x9 x10 0 0 0 0 (by decide) (by decide) rfl rfl (unit_0_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_0_0 y,
    trivial⟩

/-- The stores of the heads' rows, as far as they go. -/
theorem pieces_HS3_36 : View.PiecesOf (oB x0 x1 x2 x3 x4 x5 x6 x7 x8 x9 x10) (kernelRun0_A.sl.HS3_36 (F := Ideal) c arg2 harg2 arg3 harg3 arg4 harg4 arg5 harg5 arg7 harg7 arg8 harg8 arg11 harg11 arg12 harg12 arg16 arg17 arg18 x0 x1 x2 x3 x5 x6 x9 x10) := by
  unfold kernelRun0_A.sl.HS3_36
  exact ⟨fun y => tile_hi x0 x1 x2 x3 x4 x5 x6 x7 x8 x9 x10 4 1 256 384 (by decide) (by decide) rfl rfl (unit_4_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_256_384 y,
    fun y => tile_lo x0 x1 x2 x3 x4 x5 x6 x7 x8 x9 x10 4 1 256 256 (by decide) (by decide) rfl rfl (unit_4_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_256_256 y,
    fun y => tile_hi x0 x1 x2 x3 x4 x5 x6 x7 x8 x9 x10 4 0 256 128 (by decide) (by decide) rfl rfl (unit_4_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_256_128 y,
    fun y => tile_lo x0 x1 x2 x3 x4 x5 x6 x7 x8 x9 x10 4 0 256 0 (by decide) (by decide) rfl rfl (unit_4_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_256_0 y,
    pieces_HS3_32 c x0 x1 x2 x3 x4 x5 x6 x7 x8 x9 x10 arg2 harg2 arg3 harg3 arg4 harg4 arg5 harg5 arg7 harg7 arg8 harg8 arg11 harg11 arg12 harg12 arg16 arg17 arg18⟩

/-- The stores of the heads' rows, as far as they go. -/
theorem pieces_HS3_42 : View.PiecesOf (oB x0 x1 x2 x3 x4 x5 x6 x7 x8 x9 x10) (kernelRun0_A.sl.HS3_42 (F := Ideal) c arg2 harg2 arg3 harg3 arg4 harg4 arg5 harg5 arg7 harg7 arg8 harg8 arg11 harg11 arg12 harg12 arg16 arg17 arg18 x0 x1 x2 x3 x5 x6 x9 x10) := by
  unfold kernelRun0_A.sl.HS3_42
  exact ⟨fun y => tile_hi x0 x1 x2 x3 x4 x5 x6 x7 x8 x9 x10 5 0 320 128 (by decide) (by decide) rfl rfl (unit_5_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_320_128 y,
    fun y => tile_lo x0 x1 x2 x3 x4 x5 x6 x7 x8 x9 x10 5 0 320 0 (by decide) (by decide) rfl rfl (unit_5_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_320_0 y,
    fun y => tile_hi x0 x1 x2 x3 x4 x5 x6 x7 x8 x9 x10 4 3 256 896 (by decide) (by decide) rfl rfl (unit_4_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_256_896 y,
    fun y => tile_lo x0 x1 x2 x3 x4 x5 x6 x7 x8 x9 x10 4 3 256 768 (by decide) (by decide) rfl rfl (unit_4_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_256_768 y,
    fun y => tile_hi x0 x1 x2 x3 x4 x5 x6 x7 x8 x9 x10 4 2 256 640 (by decide) (by decide) rfl rfl (unit_4_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_256_640 y,
    fun y => tile_lo x0 x1 x2 x3 x4 x5 x6 x7 x8 x9 x10 4 2 256 512 (by decide) (by decide) rfl rfl (unit_4_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_256_512 y,
    pieces_HS3_36 c x0 x1 x2 x3 x4 x5 x6 x7 x8 x9 x10 arg2 harg2 arg3 harg3 arg4 harg4 arg5 harg5 arg7 harg7 arg8 harg8 arg11 harg11 arg12 harg12 arg16 arg17 arg18⟩

/-- The stores of the heads' rows, as far as they go. -/
theorem pieces_HS3_48 : View.PiecesOf (oB x0 x1 x2 x3 x4 x5 x6 x7 x8 x9 x10) (kernelRun0_A.sl.HS3_48 (F := Ideal) c arg2 harg2 arg3 harg3 arg4 harg4 arg5 harg5 arg7 harg7 arg8 harg8 arg11 harg11 arg12 harg12 arg16 arg17 arg18 x0 x1 x2 x3 x5 x6 x9 x10) := by
  unfold kernelRun0_A.sl.HS3_48
  exact ⟨fun y => tile_hi x0 x1 x2 x3 x4 x5 x6 x7 x8 x9 x10 5 3 320 896 (by decide) (by decide) rfl rfl (unit_5_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_320_896 y,
    fun y => tile_lo x0 x1 x2 x3 x4 x5 x6 x7 x8 x9 x10 5 3 320 768 (by decide) (by decide) rfl rfl (unit_5_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_320_768 y,
    fun y => tile_hi x0 x1 x2 x3 x4 x5 x6 x7 x8 x9 x10 5 2 320 640 (by decide) (by decide) rfl rfl (unit_5_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_320_640 y,
    fun y => tile_lo x0 x1 x2 x3 x4 x5 x6 x7 x8 x9 x10 5 2 320 512 (by decide) (by decide) rfl rfl (unit_5_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_320_512 y,
    fun y => tile_hi x0 x1 x2 x3 x4 x5 x6 x7 x8 x9 x10 5 1 320 384 (by decide) (by decide) rfl rfl (unit_5_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_320_384 y,
    fun y => tile_lo x0 x1 x2 x3 x4 x5 x6 x7 x8 x9 x10 5 1 320 256 (by decide) (by decide) rfl rfl (unit_5_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_320_256 y,
    pieces_HS3_42 c x0 x1 x2 x3 x4 x5 x6 x7 x8 x9 x10 arg2 harg2 arg3 harg3 arg4 harg4 arg5 harg5 arg7 harg7 arg8 harg8 arg11 harg11 arg12 harg12 arg16 arg17 arg18⟩

/-- The stores of the heads' rows, as far as they go. -/
theorem pieces_HS3_64 : View.PiecesOf (oB x0 x1 x2 x3 x4 x5 x6 x7 x8 x9 x10) (kernelRun0_A.sl.HS3_64 (F := Ideal) c arg2 harg2 arg3 harg3 arg4 harg4 arg5 harg5 arg7 harg7 arg8 harg8 arg11 harg11 arg12 harg12 arg16 arg17 arg18 x0 x1 x2 x3 x5 x6 x9 x10) := by
  unfold kernelRun0_A.sl.HS3_64
  exact ⟨fun y => tile_hi x0 x1 x2 x3 x4 x5 x6 x7 x8 x9 x10 7 3 448 896 (by decide) (by decide) rfl rfl (unit_7_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_448_896 y,
    fun y => tile_lo x0 x1 x2 x3 x4 x5 x6 x7 x8 x9 x10 7 3 448 768 (by decide) (by decide) rfl rfl (unit_7_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_448_768 y,
    fun y => tile_hi x0 x1 x2 x3 x4 x5 x6 x7 x8 x9 x10 7 2 448 640 (by decide) (by decide) rfl rfl (unit_7_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_448_640 y,
    fun y => tile_lo x0 x1 x2 x3 x4 x5 x6 x7 x8 x9 x10 7 2 448 512 (by decide) (by decide) rfl rfl (unit_7_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_448_512 y,
    fun y => tile_hi x0 x1 x2 x3 x4 x5 x6 x7 x8 x9 x10 7 1 448 384 (by decide) (by decide) rfl rfl (unit_7_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_448_384 y,
    fun y => tile_lo x0 x1 x2 x3 x4 x5 x6 x7 x8 x9 x10 7 1 448 256 (by decide) (by decide) rfl rfl (unit_7_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_448_256 y,
    fun y => tile_hi x0 x1 x2 x3 x4 x5 x6 x7 x8 x9 x10 7 0 448 128 (by decide) (by decide) rfl rfl (unit_7_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_448_128 y,
    fun y => tile_lo x0 x1 x2 x3 x4 x5 x6 x7 x8 x9 x10 7 0 448 0 (by decide) (by decide) rfl rfl (unit_7_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_448_0 y,
    fun y => tile_hi x0 x1 x2 x3 x4 x5 x6 x7 x8 x9 x10 6 3 384 896 (by decide) (by decide) rfl rfl (unit_6_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_384_896 y,
    fun y => tile_lo x0 x1 x2 x3 x4 x5 x6 x7 x8 x9 x10 6 3 384 768 (by decide) (by decide) rfl rfl (unit_6_3 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_384_768 y,
    fun y => tile_hi x0 x1 x2 x3 x4 x5 x6 x7 x8 x9 x10 6 2 384 640 (by decide) (by decide) rfl rfl (unit_6_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_384_640 y,
    fun y => tile_lo x0 x1 x2 x3 x4 x5 x6 x7 x8 x9 x10 6 2 384 512 (by decide) (by decide) rfl rfl (unit_6_2 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_384_512 y,
    fun y => tile_hi x0 x1 x2 x3 x4 x5 x6 x7 x8 x9 x10 6 1 384 384 (by decide) (by decide) rfl rfl (unit_6_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_384_384 y,
    fun y => tile_lo x0 x1 x2 x3 x4 x5 x6 x7 x8 x9 x10 6 1 384 256 (by decide) (by decide) rfl rfl (unit_6_1 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_384_256 y,
    fun y => tile_hi x0 x1 x2 x3 x4 x5 x6 x7 x8 x9 x10 6 0 384 128 (by decide) (by decide) rfl rfl (unit_6_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_384_128 y,
    fun y => tile_lo x0 x1 x2 x3 x4 x5 x6 x7 x8 x9 x10 6 0 384 0 (by decide) (by decide) rfl rfl (unit_6_0 c x0 x1 x2 x3 x4 x5 x6 x7 x8 x9 x10 arg2 harg2 arg3 harg3 arg4 harg4 arg5 harg5 arg7 harg7 arg8 harg8 arg11 harg11 arg12 harg12 arg16 arg17 arg18) inb_S512x1024_S64x128_384_0 y,
    pieces_HS3_48 c x0 x1 x2 x3 x4 x5 x6 x7 x8 x9 x10 arg2 harg2 arg3 harg3 arg4 harg4 arg5 harg5 arg7 harg7 arg8 harg8 arg11 harg11 arg12 harg12 arg16 arg17 arg18⟩

end Cert.SinkAttn

end
-- ==== Proof.AttnBack.lean ====
/-
  The projection back, four streams at a time, and the buffer that holds it.
-/
module

public import proofs.«01_k».proof.Proof.AttnTiles

@[expose] public section

set_option maxRecDepth 16384

noncomputable section

namespace Cert.SinkAttn

open Cert.AttnIdeal Cert.AttnIdeal.Gen Idealize.ShloMosaic Idealize.ShloMosaic.TcCoe Cert.ConvFfn

variable (c : Dev nD) (x0 : FVec Ideal S8x64x1024 .f32) (x1 x2 : FVec Ideal S8x128x256 .f32) (x3 x4 : FVec Ideal S1x1024 .f32) (x5 : FVec Ideal S1x1024x1536 .bf16)
  (x6 : FVec Ideal S1x1536 .f32) (x7 : FVec Ideal S1x1024x1024 .bf16) (x8 : FVec Ideal S1x1024 .f32) (x9 : FVec Ideal S16 .f32) (x10 : FVec Ideal S4x2x192x128 .f32)
  (arg2 : Memref sig .tc .vmem S8x64x1024 .f32) (harg2 : arg2.IsWhole) (arg3 : Memref sig .tc .vmem S8x128x256 .f32) (harg3 : arg3.IsWhole)
  (arg4 : Memref sig .tc .vmem S8x128x256 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x1024x1536 .bf16) (harg7 : arg7.IsWhole)
  (arg8 : Memref sig .tc .vmem S1x1536 .f32) (harg8 : arg8.IsWhole) (arg9 : Memref sig .tc .vmem S1x1024x1024 .bf16) (harg9 : arg9.IsWhole)
  (arg10 : Memref sig .tc .vmem S1x1024 .f32) (harg10 : arg10.IsWhole)
  (arg11 : Memref sig .tc .smem S16 .f32) (harg11 : arg11.IsWhole) (arg12 : Memref sig .tc .vmem S4x2x192x128 .f32) (harg12 : arg12.IsWhole)
  (arg16 : Memref sig .tc .vmem S512x1024 .bf16) (arg17 arg18 : Memref sig .tc .vmem S8x4x2x192x128 .bf16) (arg19 : Memref sig .tc .vmem S512x1024 .bf16)
  (arg20 : Memref sig .tc .vmem S512x1024 .f32)

/-- A load of four streams' heads. -/
theorem word_v1735 (r : Fin 256) (k : Fin 1024) : (kernelRun0_A.sl.v1735 (F := Ideal) c arg2 harg2 arg3 harg3 arg4 harg4 arg5 harg5 arg7 harg7 arg8 harg8 arg11 harg11 arg12 harg12 arg16 arg17 arg18 arg19 x0 x1 x2 x3 x5 x6 x9 x10) (ix2 r k)
    = attS divK (rowsBlk x0 x1 x2 x3 x4 x5 x6 x7 x8 x9 x10 ⟨0 + r.val / 64, by omega⟩) ⟨r.val % 64, by omega⟩ ⟨k.val / 256, by omega⟩ ⟨k.val % 256 / 64, by omega⟩ ⟨k.val % 64, by omega⟩ := by
  unfold kernelRun0_A.sl.v1735
  exact o_word x0 x1 x2 x3 x4 x5 x6 x7 x8 x9 x10 (pieces_HS3_32 c x0 x1 x2 x3 x4 x5 x6 x7 x8 x9 x10 arg2 harg2 arg3 harg3 arg4 harg4 arg5 harg5 arg7 harg7 arg8 harg8 arg11 harg11 arg12 harg12 arg16 arg17 arg18) (.split 0 128 (.split 0 64 (.split 1 512 (.split 1 256 (.split 1 128 (.leaf 31) (.leaf 30)) (.split 1 128 (.leaf 29) (.leaf 28))) (.split 1 256 (.split 1 128 (.leaf 27) (.leaf 26)) (.split 1 128 (.leaf 25) (.leaf 24)))) (.split 1 512 (.split 1 256 (.split 1 128 (.leaf 23) (.leaf 22)) (.split 1 128 (.leaf 21) (.leaf 20))) (.split 1 256 (.split 1 128 (.leaf 19) (.leaf 18)) (.split 1 128 (.leaf 17) (.leaf 16))))) (.split 0 64 (.split 1 512 (.split 1 256 (.split 1 128 (.leaf 15) (.leaf 14)) (.split 1 128 (.leaf 13) (.leaf 12))) (.split 1 256 (.split 1 128 (.leaf 11) (.leaf 10)) (.split 1 128 (.leaf 9) (.leaf 8)))) (.split 1 512 (.split 1 256 (.split 1 128 (.leaf 7) (.leaf 6)) (.split 1 128 (.leaf 5) (.leaf 4))) (.split 1 256 (.split 1 128 (.leaf 3) (.leaf 2)) (.split 1 128 (.leaf 1) (.leaf 0)))))) 0 0 (by decide) rfl inb_S512x1024_S256x1024_0_0 (by sl_kernel_rfl) r k

/-- A load of four streams' heads. -/
theorem word_v1915 (r : Fin 256) (k : Fin 1024) : (kernelRun0_A.sl.v1915 (F := Ideal) c arg2 harg2 arg3 harg3 arg4 harg4 arg5 harg5 arg7 harg7 arg8 harg8 arg11 harg11 arg12 harg12 arg16 arg17 arg18 arg19 x0 x1 x2 x3 x5 x6 x9 x10) (ix2 r k)
    = attS divK (rowsBlk x0 x1 x2 x3 x4 x5 x6 x7 x8 x9 x10 ⟨0 + r.val / 64, by omega⟩) ⟨r.val % 64, by omega⟩ ⟨k.val / 256, by omega⟩ ⟨k.val % 256 / 64, by omega⟩ ⟨k.val % 64, by omega⟩ := by
  unfold kernelRun0_A.sl.v1915
  exact o_word x0 x1 x2 x3 x4 x5 x6 x7 x8 x9 x10 (pieces_HS3_36 c x0 x1 x2 x3 x4 x5 x6 x7 x8 x9 x10 arg2 harg2 arg3 harg3 arg4 harg4 arg5 harg5 arg7 harg7 arg8 harg8 arg11 harg11 arg12 harg12 arg16 arg17 arg18) (.split 0 128 (.split 0 64 (.split 1 512 (.split 1 256 (.split 1 128 (.leaf 35) (.leaf 34)) (.split 1 128 (.leaf 33) (.leaf 32))) (.split 1 256 (.split 1 128 (.leaf 31) (.leaf 30)) (.split 1 128 (.leaf 29) (.leaf 28)))) (.split 1 512 (.split 1 256 (.split 1 128 (.leaf 27) (.leaf 26)) (.split 1 128 (.leaf 25) (.leaf 24))) (.split 1 256 (.split 1 128 (.leaf 23) (.leaf 22)) (.split 1 128 (.leaf 21) (.leaf 20))))) (.split 0 64 (.split 1 512 (.split 1 256 (.split 1 128 (.leaf 19) (.leaf 18)) (.split 1 128 (.leaf 17) (.leaf 16))) (.split 1 256 (.split 1 128 (.leaf 15) (.leaf 14)) (.split 1 128 (.leaf 13) (.leaf 12)))) (.split 1 512 (.split 1 256 (.split 1 128 (.leaf 11) (.leaf 10)) (.split 1 128 (.leaf 9) (.leaf 8))) (.split 1 256 (.split 1 128 (.leaf 7) (.leaf 6)) (.split 1 128 (.leaf 5) (.leaf 4)))))) 0 0 (by decide) rfl inb_S512x1024_S256x1024_0_0 (by sl_kernel_rfl) r k

/-- A load of four streams' heads. -/
theorem word_v2154 (r : Fin 256) (k : Fin 1024) : (kernelRun0_A.sl.v2154 (F := Ideal) c arg2 harg2 arg3 harg3 arg4 harg4 arg5 harg5 arg7 harg7 arg8 harg8 arg11 harg11 arg12 harg12 arg16 arg17 arg18 arg19 x0 x1 x2 x3 x5 x6 x9 x10) (ix2 r k)
    = attS divK (rowsBlk x0 x1 x2 x3 x4 x5 x6 x7 x8 x9 x10 ⟨0 + r.val / 64, by omega⟩) ⟨r.val % 64, by omega⟩ ⟨k.val / 256, by omega⟩ ⟨k.val % 256 / 64, by omega⟩ ⟨k.val % 64, by omega⟩ := by
  unfold kernelRun0_A.sl.v2154
  exact o_word x0 x1 x2 x3 x4 x5 x6 x7 x8 x9 x10 (pieces_HS3_42 c x0 x1 x2 x3 x4 x5 x6 x7 x8 x9 x10 arg2 harg2 arg3 harg3 arg4 harg4 arg5 harg5 arg7 harg7 arg8 harg8 arg11 harg11 arg12 harg12 arg16 arg17 arg18) (.split 0 128 (.split 0 64 (.split 1 512 (.split 1 256 (.split 1 128 (.leaf 41) (.leaf 40)) (.split 1 128 (.leaf 39) (.leaf 38))) (.split 1 256 (.split 1 128 (.leaf 37) (.leaf 36)) (.split 1 128 (.leaf 35) (.leaf 34)))) (.split 1 512 (.split 1 256 (.split 1 128 (.leaf 33) (.leaf 32)) (.split 1 128 (.leaf 31) (.leaf 30))) (.split 1 256 (.split 1 128 (.leaf 29) (.leaf 28)) (.split 1 128 (.leaf 27) (.leaf 26))))) (.split 0 64 (.split 1 512 (.split 1 256 (.split 1 128 (.leaf 25) (.leaf 24)) (.split 1 128 (.leaf 23) (.leaf 22))) (.split 1 256 (.split 1 128 (.leaf 21) (.leaf 20)) (.split 1 128 (.leaf 19) (.leaf 18)))) (.split 1 512 (.split 1 256 (.split 1 128 (.leaf 17) (.leaf 16)) (.split 1 128 (.leaf 15) (.leaf 14))) (.split 1 256 (.split 1 128 (.leaf 13) (.leaf 12)) (.split 1 128 (.leaf 11) (.leaf 10)))))) 0 0 (by decide) rfl inb_S512x1024_S256x1024_0_0 (by sl_kernel_rfl) r k

/-- A load of four streams' heads. -/
theorem word_v2393 (r : Fin 256) (k : Fin 1024) : (kernelRun0_A.sl.v2393 (F := Ideal) c arg2 harg2 arg3 harg3 arg4 harg4 arg5 harg5 arg7 harg7 arg8 harg8 arg11 harg11 arg12 harg12 arg16 arg17 arg18 arg19 x0 x1 x2 x3 x5 x6 x9 x10) (ix2 r k)
    = attS divK (rowsBlk x0 x1 x2 x3 x4 x5 x6 x7 x8 x9 x10 ⟨0 + r.val / 64, by omega⟩) ⟨r.val % 64, by omega⟩ ⟨k.val / 256, by omega⟩ ⟨k.val % 256 / 64, by omega⟩ ⟨k.val % 64, by omega⟩ := by
  unfold kernelRun0_A.sl.v2393
  exact o_word x0 x1 x2 x3 x4 x5 x6 x7 x8 x9 x10 (pieces_HS3_48 c x0 x1 x2 x3 x4 x5 x6 x7 x8 x9 x10 arg2 harg2 arg3 harg3 arg4 harg4 arg5 harg5 arg7 harg7 arg8 harg8 arg11 harg11 arg12 harg12 arg16 arg17 arg18) (.split 0 128 (.split 0 64 (.split 1 512 (.split 1 256 (.split 1 128 (.leaf 47) (.leaf 46)) (.split 1 128 (.leaf 45) (.leaf 44))) (.split 1 256 (.split 1 128 (.leaf 43) (.leaf 42)) (.split 1 128 (.leaf 41) (.leaf 40)))) (.split 1 512 (.split 1 256 (.split 1 128 (.leaf 39) (.leaf 38)) (.split 1 128 (.leaf 37) (.leaf 36))) (.split 1 256 (.split 1 128 (.leaf 35) (.leaf 34)) (.split 1 128 (.leaf 33) (.leaf 32))))) (.split 0 64 (.split 1 512 (.split 1 256 (.split 1 128 (.leaf 31) (.leaf 30)) (.split 1 128 (.leaf 29) (.leaf 28))) (.split 1 256 (.split 1 128 (.leaf 27) (.leaf 26)) (.split 1 128 (.leaf 25) (.leaf 24)))) (.split 1 512 (.split 1 256 (.split 1 128 (.leaf 23) (.leaf 22)) (.split 1 128 (.leaf 21) (.leaf 20))) (.split 1 256 (.split 1 128 (.leaf 19) (.leaf 18)) (.split 1 128 (.leaf 17) (.leaf 16)))))) 0 0 (by decide) rfl inb_S512x1024_S256x1024_0_0 (by sl_kernel_rfl) r k

/-- A load of four streams' heads. -/
theorem word_v2964 (r : Fin 256) (k : Fin 1024) : (kernelRun0_A.sl.v2964 (F := Ideal) c arg2 harg2 arg3 harg3 arg4 harg4 arg5 harg5 arg7 harg7 arg8 harg8 arg11 harg11 arg12 harg12 arg16 arg17 arg18 arg19 x0 x1 x2 x3 x5 x6 x9 x10) (ix2 r k)
    = attS divK (rowsBlk x0 x1 x2 x3 x4 x5 x6 x7 x8 x9 x10 ⟨4 + r.val / 64, by omega⟩) ⟨r.val % 64, by omega⟩ ⟨k.val / 256, by omega⟩ ⟨k.val % 256 / 64, by omega⟩ ⟨k.val % 64, by omega⟩ := by
  unfold kernelRun0_A.sl.v2964
  exact o_word x0 x1 x2 x3 x4 x5 x6 x7 x8 x9 x10 (pieces_HS3_64 c x0 x1 x2 x3 x4 x5 x6 x7 x8 x9 x10 arg2 harg2 arg3 harg3 arg4 harg4 arg5 harg5 arg7 harg7 arg8 harg8 arg11 harg11 arg12 harg12 arg16 arg17 arg18) (.split 0 128 (.split 0 64 (.split 1 512 (.split 1 256 (.split 1 128 (.leaf 31) (.leaf 30)) (.split 1 128 (.leaf 29) (.leaf 28))) (.split 1 256 (.split 1 128 (.leaf 27) (.leaf 26)) (.split 1 128 (.leaf 25) (.leaf 24)))) (.split 1 512 (.split 1 256 (.split 1 128 (.leaf 23) (.leaf 22)) (.split 1 128 (.leaf 21) (.leaf 20))) (.split 1 256 (.split 1 128 (.leaf 19) (.leaf 18)) (.split 1 128 (.leaf 17) (.leaf 16))))) (.split 0 64 (.split 1 512 (.split 1 256 (.split 1 128 (.leaf 15) (.leaf 14)) (.split 1 128 (.leaf 13) (.leaf 12))) (.split 1 256 (.split 1 128 (.leaf 11) (.leaf 10)) (.split 1 128 (.leaf 9) (.leaf 8)))) (.split 1 512 (.split 1 256 (.split 1 128 (.leaf 7) (.leaf 6)) (.split 1 128 (.leaf 5) (.leaf 4))) (.split 1 256 (.split 1 128 (.leaf 3) (.leaf 2)) (.split 1 128 (.leaf 1) (.leaf 0)))))) 4 256 (by decide) rfl inb_S512x1024_S256x1024_256_0 (by sl_kernel_rfl) r k

/-- The stores of the first four streams' projection back. -/
theorem pieces_HS4_4 : View.PiecesOf (yB x0 x1 x2 x3 x4 x5 x6 x7 x8 x9 x10) (kernelRun0_A.sl.HS4_4 (F := Ideal) c arg2 harg2 arg3 harg3 arg4 harg4 arg5 harg5 arg7 harg7 arg8 harg8 arg9 harg9 arg10 harg10 arg11 harg11 arg12 harg12 arg16 arg17 arg18 arg19 x0 x1 x2 x3 x5 x6 x7 x8 x9 x10) := by
  unfold kernelRun0_A.sl.HS4_4
  exact ⟨fun y => y_piece x0 x1 x2 x3 x4 x5 x6 x7 x8 x9 x10 harg9 harg10 0 0 768 (by decide) rfl (by decide) (kernelRun0_A.sl.v2393 (F := Ideal) c arg2 harg2 arg3 harg3 arg4 harg4 arg5 harg5 arg7 harg7 arg8 harg8 arg11 harg11 arg12 harg12 arg16 arg17 arg18 arg19 x0 x1 x2 x3 x5 x6 x9 x10) (word_v2393 c x0 x1 x2 x3 x4 x5 x6 x7 x8 x9 x10 arg2 harg2 arg3 harg3 arg4 harg4 arg5 harg5 arg7 harg7 arg8 harg8 arg11 harg11 arg12 harg12 arg16 arg17 arg18 arg19) _ _ inb_S512x1024_S256x256_0_768 y,
    fun y => y_piece x0 x1 x2 x3 x4 x5 x6 x7 x8 x9 x10 harg9 harg10 0 0 512 (by decide) rfl (by decide) (kernelRun0_A.sl.v2154 (F := Ideal) c arg2 harg2 arg3 harg3 arg4 harg4 arg5 harg5 arg7 harg7 arg8 harg8 arg11 harg11 arg12 harg12 arg16 arg17 arg18 arg19 x0 x1 x2 x3 x5 x6 x9 x10) (word_v2154 c x0 x1 x2 x3 x4 x5 x6 x7 x8 x9 x10 arg2 harg2 arg3 harg3 arg4 harg4 arg5 harg5 arg7 harg7 arg8 harg8 arg11 harg11 arg12 harg12 arg16 arg17 arg18 arg19) _ _ inb_S512x1024_S256x256_0_512 y,
    fun y => y_piece x0 x1 x2 x3 x4 x5 x6 x7 x8 x9 x10 harg9 harg10 0 0 256 (by decide) rfl (by decide) (kernelRun0_A.sl.v1915 (F := Ideal) c arg2 harg2 arg3 harg3 arg4 harg4 arg5 harg5 arg7 harg7 arg8 harg8 arg11 harg11 arg12 harg12 arg16 arg17 arg18 arg19 x0 x1 x2 x3 x5 x6 x9 x10) (word_v1915 c x0 x1 x2 x3 x4 x5 x6 x7 x8 x9 x10 arg2 harg2 arg3 harg3 arg4 harg4 arg5 harg5 arg7 harg7 arg8 harg8 arg11 harg11 arg12 harg12 arg16 arg17 arg18 arg19) _ _ inb_S512x1024_S256x256_0_256 y,
    fun y => y_piece x0 x1 x2 x3 x4 x5 x6 x7 x8 x9 x10 harg9 harg10 0 0 0 (by decide) rfl (by decide) (kernelRun0_A.sl.v1735 (F := Ideal) c arg2 harg2 arg3 harg3 arg4 harg4 arg5 harg5 arg7 harg7 arg8 harg8 arg11 harg11 arg12 harg12 arg16 arg17 arg18 arg19 x0 x1 x2 x3 x5 x6 x9 x10) (word_v1735 c x0 x1 x2 x3 x4 x5 x6 x7 x8 x9 x10 arg2 harg2 arg3 harg3 arg4 harg4 arg5 harg5 arg7 harg7 arg8 harg8 arg11 harg11 arg12 harg12 arg16 arg17 arg18 arg19) _ _ inb_S512x1024_S256x256_0_0 y,
    trivial⟩

/-- And those of the other four. -/
theorem pieces_HS4_8 : View.PiecesOf (yB x0 x1 x2 x3 x4 x5 x6 x7 x8 x9 x10) (kernelRun0_A.sl.HS4_8 (F := Ideal) c arg2 harg2 arg3 harg3 arg4 harg4 arg5 harg5 arg7 harg7 arg8 harg8 arg9 harg9 arg10 harg10 arg11 harg11 arg12 harg12 arg16 arg17 arg18 arg19 x0 x1 x2 x3 x5 x6 x7 x8 x9 x10) := by
  unfold kernelRun0_A.sl.HS4_8
  exact ⟨fun y => y_piece x0 x1 x2 x3 x4 x5 x6 x7 x8 x9 x10 harg9 harg10 4 256 768 (by decide) rfl (by decide) (kernelRun0_A.sl.v2964 (F := Ideal) c arg2 harg2 arg3 harg3 arg4 harg4 arg5 harg5 arg7 harg7 arg8 harg8 arg11 harg11 arg12 harg12 arg16 arg17 arg18 arg19 x0 x1 x2 x3 x5 x6 x9 x10) (word_v2964 c x0 x1 x2 x3 x4 x5 x6 x7 x8 x9 x10 arg2 harg2 arg3 harg3 arg4 harg4 arg5 harg5 arg7 harg7 arg8 harg8 arg11 harg11 arg12 harg12 arg16 arg17 arg18 arg19) _ _ inb_S512x1024_S256x256_256_768 y,
    fun y => y_piece x0 x1 x2 x3 x4 x5 x6 x7 x8 x9 x10 harg9 harg10 4 256 512 (by decide) rfl (by decide) (kernelRun0_A.sl.v2964 (F := Ideal) c arg2 harg2 arg3 harg3 arg4 harg4 arg5 harg5 arg7 harg7 arg8 harg8 arg11 harg11 arg12 harg12 arg16 arg17 arg18 arg19 x0 x1 x2 x3 x5 x6 x9 x10) (word_v2964 c x0 x1 x2 x3 x4 x5 x6 x7 x8 x9 x10 arg2 harg2 arg3 harg3 arg4 harg4 arg5 harg5 arg7 harg7 arg8 harg8 arg11 harg11 arg12 harg12 arg16 arg17 arg18 arg19) _ _ inb_S512x1024_S256x256_256_512 y,
    fun y => y_piece x0 x1 x2 x3 x4 x5 x6 x7 x8 x9 x10 harg9 harg10 4 256 256 (by decide) rfl (by decide) (kernelRun0_A.sl.v2964 (F := Ideal) c arg2 harg2 arg3 harg3 arg4 harg4 arg5 harg5 arg7 harg7 arg8 harg8 arg11 harg11 arg12 harg12 arg16 arg17 arg18 arg19 x0 x1 x2 x3 x5 x6 x9 x10) (word_v2964 c x0 x1 x2 x3 x4 x5 x6 x7 x8 x9 x10 arg2 harg2 arg3 harg3 arg4 harg4 arg5 harg5 arg7 harg7 arg8 harg8 arg11 harg11 arg12 harg12 arg16 arg17 arg18 arg19) _ _ inb_S512x1024_S256x256_256_256 y,
    fun y => y_piece x0 x1 x2 x3 x4 x5 x6 x7 x8 x9 x10 harg9 harg10 4 256 0 (by decide) rfl (by decide) (kernelRun0_A.sl.v2964 (F := Ideal) c arg2 harg2 arg3 harg3 arg4 harg4 arg5 harg5 arg7 harg7 arg8 harg8 arg11 harg11 arg12 harg12 arg16 arg17 arg18 arg19 x0 x1 x2 x3 x5 x6 x9 x10) (word_v2964 c x0 x1 x2 x3 x4 x5 x6 x7 x8 x9 x10 arg2 harg2 arg3 harg3 arg4 harg4 arg5 harg5 arg7 harg7 arg8 harg8 arg11 harg11 arg12 harg12 arg16 arg17 arg18 arg19) _ _ inb_S512x1024_S256x256_256_0 y,
    pieces_HS4_4 c x0 x1 x2 x3 x4 x5 x6 x7 x8 x9 x10 arg2 harg2 arg3 harg3 arg4 harg4 arg5 harg5 arg7 harg7 arg8 harg8 arg9 harg9 arg10 harg10 arg11 harg11 arg12 harg12 arg16 arg17 arg18 arg19⟩

/-- A load of four streams' projection back. -/
theorem word_v2632 (r : Fin 256) (n : Fin 1024) : (kernelRun0_A.sl.v2632 (F := Ideal) c arg2 harg2 arg3 harg3 arg4 harg4 arg5 harg5 arg7 harg7 arg8 harg8 arg9 harg9 arg10 harg10 arg11 harg11 arg12 harg12 arg16 arg17 arg18 arg19 arg20 x0 x1 x2 x3 x5 x6 x7 x8 x9 x10) (ix2 r n)
    = backS divK (rowsBlk x0 x1 x2 x3 x4 x5 x6 x7 x8 x9 x10 ⟨0 + r.val / 64, by omega⟩) ⟨r.val % 64, by omega⟩ n := by
  unfold kernelRun0_A.sl.v2632
  exact y_word x0 x1 x2 x3 x4 x5 x6 x7 x8 x9 x10 (pieces_HS4_4 c x0 x1 x2 x3 x4 x5 x6 x7 x8 x9 x10 arg2 harg2 arg3 harg3 arg4 harg4 arg5 harg5 arg7 harg7 arg8 harg8 arg9 harg9 arg10 harg10 arg11 harg11 arg12 harg12 arg16 arg17 arg18 arg19) (.split 1 512 (.split 1 256 (.leaf 3) (.leaf 2)) (.split 1 256 (.leaf 1) (.leaf 0))) 0 0 (by decide) rfl inb_S512x1024_S256x1024_0_0 (by sl_kernel_rfl) r n

/-- A load of four streams' projection back. -/
theorem word_v3008 (r : Fin 256) (n : Fin 1024) : (kernelRun0_A.sl.v3008 (F := Ideal) c arg2 harg2 arg3 harg3 arg4 harg4 arg5 harg5 arg7 harg7 arg8 harg8 arg9 harg9 arg10 harg10 arg11 harg11 arg12 harg12 arg16 arg17 arg18 arg19 arg20 x0 x1 x2 x3 x5 x6 x7 x8 x9 x10) (ix2 r n)
    = backS divK (rowsBlk x0 x1 x2 x3 x4 x5 x6 x7 x8 x9 x10 ⟨4 + r.val / 64, by omega⟩) ⟨r.val % 64, by omega⟩ n := by
  unfold kernelRun0_A.sl.v3008
  exact y_word x0 x1 x2 x3 x4 x5 x6 x7 x8 x9 x10 (pieces_HS4_8 c x0 x1 x2 x3 x4 x5 x6 x7 x8 x9 x10 arg2 harg2 arg3 harg3 arg4 harg4 arg5 harg5 arg7 harg7 arg8 harg8 arg9 harg9 arg10 harg10 arg11 harg11 arg12 harg12 arg16 arg17 arg18 arg19) (.split 1 512 (.split 1 256 (.leaf 3) (.leaf 2)) (.split 1 256 (.leaf 1) (.leaf 0))) 4 256 (by decide) rfl inb_S512x1024_S256x1024_256_0 (by sl_kernel_rfl) r n

end Cert.SinkAttn

end
-- ==== Proof.AttnPoint.lean ====
/-
  What a grid point's body leaves in the three output blocks, as the layer's rows of the point's input blocks.
-/
module

public import proofs.«01_k».proof.Proof.AttnBack

@[expose] public section

set_option maxRecDepth 16384

noncomputable section

namespace Cert.AttnIdeal.Value

open Cert.AttnIdeal Cert.AttnIdeal.Gen Idealize.ShloMosaic Idealize.ShloMosaic.TcCoe Idealize.SL.Sem Cert.SinkAttn

variable (m : (ℓ : Loc nD τ sig) → Buf (Elt Ideal) ℓ)

/-- The rows a grid point writes. -/
theorem out_point (c : Dev nD) (t : Fin cfg0.N) :
    (outsAt0 m c t).1 = outB (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  unfold outsAt0
  unfold out0_A_11
  dsimp only
  delta kernelRun0_A
  dsimp only
  funext y
  rw [View.read_writes_junk_apply_eq_canon]
  refine View.canon_apply_of_pieces _ _ (View.PiecesOf.mem (?_ : View.PiecesOf _ _)) y (View.cover_of_tiledL _ ![4, 64, 1024] (by sl_kernel_rfl) y)
  refine ⟨?_, ?_, trivial⟩
  · exact fun y => out_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (hs0_0 t) (hs0_4 t) 4 (by decide) _ (word_v3008 c (iblk m c 0 t) (iblk m c 1 t) (iblk m c 2 t) (iblk m c 3 t) (iblk m c 4 t) (iblk m c 5 t) (iblk m c 6 t) (iblk m c 7 t) (iblk m c 8 t) (iblk m c 9 t) (iblk m c 10 t) (ms0_0 t) (hs0_0 t) (ms0_1 t) (hs0_1 t) (ms0_2 t) (hs0_2 t) (ms0_3 t) (hs0_3 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 scM0_4) _ _ inb_S8x64x1024_S4x64x1024_4_0_0 y
  · exact fun y => out_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (hs0_0 t) (hs0_4 t) 0 (by decide) _ (word_v2632 c (iblk m c 0 t) (iblk m c 1 t) (iblk m c 2 t) (iblk m c 3 t) (iblk m c 4 t) (iblk m c 5 t) (iblk m c 6 t) (iblk m c 7 t) (iblk m c 8 t) (iblk m c 9 t) (iblk m c 10 t) (ms0_0 t) (hs0_0 t) (ms0_1 t) (hs0_1 t) (ms0_2 t) (hs0_2 t) (ms0_3 t) (hs0_3 t) (ms0_5 t) (hs0_5 t) (ms0_6 t) (hs0_6 t) (ms0_7 t) (hs0_7 t) (ms0_8 t) (hs0_8 t) (ms0_9 t) (hs0_9 t) (ms0_10 t) (hs0_10 t) scM0_0 scM0_1 scM0_2 scM0_3 scM0_4) _ _ inb_S8x64x1024_S4x64x1024_0_0_0 y

/-- The keys. -/
theorem key_point (c : Dev nD) (t : Fin cfg0.N) :
    (outsAt0 m c t).2.1 = kvB (iblk m c 0 t) (iblk m c 1 t) (iblk m c 2 t) (iblk m c 3 t) (iblk m c 4 t) (iblk m c 5 t) (iblk m c 6 t) (iblk m c 7 t) (iblk m c 8 t) (iblk m c 9 t) (iblk m c 10 t) 1024 (by decide) := by
  unfold outsAt0
  unfold out0_A_12
  dsimp only
  delta kernelRun0_A
  dsimp only
  funext y
  rw [View.read_writes_junk_apply_eq_canon]
  refine View.canon_apply_of_pieces _ _ (View.PiecesOf.mem (?_ : View.PiecesOf _ _)) y (View.cover_of_tiledL _ ![4, 64, 256] (by sl_kernel_rfl) y)
  refine ⟨?_, ?_, trivial⟩
  · exact fun y => kv_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (hs0_0 t) (hs0_3 t) (hs0_5 t) (hs0_6 t) 1024 (by decide) 4 (by decide) _ _ _ _ inb_S8x64x256_S4x64x256_4_0_0 y
  · exact fun y => kv_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (hs0_0 t) (hs0_3 t) (hs0_5 t) (hs0_6 t) 1024 (by decide) 0 (by decide) _ _ _ _ inb_S8x64x256_S4x64x256_0_0_0 y

/-- The values. -/
theorem val_point (c : Dev nD) (t : Fin cfg0.N) :
    (outsAt0 m c t).2.2 = kvB (iblk m c 0 t) (iblk m c 1 t) (iblk m c 2 t) (iblk m c 3 t) (iblk m c 4 t) (iblk m c 5 t) (iblk m c 6 t) (iblk m c 7 t) (iblk m c 8 t) (iblk m c 9 t) (iblk m c 10 t) 1280 (by decide) := by
  unfold outsAt0
  unfold out0_A_13
  dsimp only
  delta kernelRun0_A
  dsimp only
  funext y
  rw [View.read_writes_junk_apply_eq_canon]
  refine View.canon_apply_of_pieces _ _ (View.PiecesOf.mem (?_ : View.PiecesOf _ _)) y (View.cover_of_tiledL _ ![4, 64, 256] (by sl_kernel_rfl) y)
  refine ⟨?_, ?_, trivial⟩
  · exact fun y => kv_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (hs0_0 t) (hs0_3 t) (hs0_5 t) (hs0_6 t) 1280 (by decide) 4 (by decide) _ _ _ _ inb_S8x64x256_S4x64x256_4_0_0 y
  · exact fun y => kv_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (hs0_0 t) (hs0_3 t) (hs0_5 t) (hs0_6 t) 1280 (by decide) 0 (by decide) _ _ _ _ inb_S8x64x256_S4x64x256_0_0_0 y

end Cert.AttnIdeal.Value

end
-- ==== Proof.AttnRefValue.lean ====
/-
  The reference of the attention layer, its three results read at an index: the layer with the reference's division.
-/
module

public import proofs.«01_k».proof.Proof.AttnSpec
public import proofs.«01_k».proof.Proof.Gen.AttnRefIdeal.Read
public import Idealize.ShloMosaic.Lib.KernelVsHost

@[expose] public section

set_option maxRecDepth 16384

noncomputable section

namespace Cert.SinkAttn

open Cert.AttnRefIdeal Cert.AttnRefIdeal.Gen Cert.AttnRefIdeal.Read Idealize.ShloMosaic Cert.ConvFfn

variable (x0 : FVec Ideal S16x64x1024 .f32) (x1 x2 : FVec Ideal S16x128x4x64 .f32) (x3 x4 : FVec Ideal S1024 .f32)
  (x5 : FVec Ideal S2x1024x1536 .f32) (x6 : FVec Ideal S1536 .f32) (x7 : FVec Ideal S2x1024x1024 .f32) (x8 : FVec Ideal S1024 .f32)
  (x9 : FVec Ideal S16 .f32) (x10 : FVec Ideal S4x4x64x192 .f32)

/-- One stream's share of the argument arrays; of the stacked weights the first layer's. -/
def rowsOf (b : Fin 16) : Rows where
  x t k := x0 (ix3 b t k)
  ck p j d := x1 (ix4 b p j d)
  cv p j d := x2 (ix4 b p j d)
  gi k := x3 (ix1 k)
  go k := x4 (ix1 k)
  w k l := x5 (ix3 0 k l)
  b l := x6 (ix1 l)
  wo k n := x7 (ix3 0 k n)
  bo n := x8 (ix1 n)
  sk h := x9 (ix1 h)
  bias j g q p := x10 (ix4 j g q p)

/-- The normed rows. -/
theorem refHidden (b : Fin 16) (t : Fin 64) (k : Fin 1024) : val_main_v12 (F := Ideal) x0 x3 (ix3 b t k)
    = x0 (ix3 b t k) * rmsS (fun k => x0 (ix3 b t k)) * x3 (ix1 k) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The three projections. -/
theorem refProj (b : Fin 16) (t : Fin 64) (l : Fin 1536) : val_main_v18 (F := Ideal) x0 x3 x5 x6 (ix3 b t l)
    = projS (rowsOf x0 x1 x2 x3 x4 x5 x6 x7 x8 x9 x10 b) t l := by
  pointwise [val_main_v18, val_main_v17, val_main_v16, val_main_v15, val_main_v14, val_main_v13, refHidden]
  rfl

/-- The new keys. -/
theorem refNewK (b : Fin 16) (t : Fin 64) (l : Fin 256) : val_main_v20 (F := Ideal) x0 x3 x5 x6 (ix3 b t l)
    = projS (rowsOf x0 x1 x2 x3 x4 x5 x6 x7 x8 x9 x10 b) t ⟨1024 + l.val, by omega⟩ := by
  pointwise [val_main_v20]
  exact refProj x0 x1 x2 x3 x4 x5 x6 x7 x8 x9 x10 b t _

/-- The new values. -/
theorem refNewV (b : Fin 16) (t : Fin 64) (l : Fin 256) : val_main_v21 (F := Ideal) x0 x3 x5 x6 (ix3 b t l)
    = projS (rowsOf x0 x1 x2 x3 x4 x5 x6 x7 x8 x9 x10 b) t ⟨1280 + l.val, by omega⟩ := by
  pointwise [val_main_v21]
  exact refProj x0 x1 x2 x3 x4 x5 x6 x7 x8 x9 x10 b t _

/-- The queries, by head. -/
theorem refQ (b : Fin 16) (t : Fin 64) (j g : Fin 4) (d : Fin 64) : val_main_v22 (F := Ideal) x0 x3 x5 x6 (ix5 b t j g d)
    = projS (rowsOf x0 x1 x2 x3 x4 x5 x6 x7 x8 x9 x10 b) t ⟨256 * j.val + 64 * g.val + d.val, by omega⟩ := by
  pointwise [val_main_v22, val_main_v19]
  rw [refProj x0 x1 x2 x3 x4 x5 x6 x7 x8 x9 x10]
  congr 1
  exact Fin.ext (by show j.val * 256 + g.val * 64 + d.val = 256 * j.val + 64 * g.val + d.val; omega)

/-- The keys. -/
theorem refK (b : Fin 16) (p : Fin 192) (j : Fin 4) (d : Fin 64) : val_main_v24 (F := Ideal) x0 x1 x3 x5 x6 (ix4 b p j d)
    = keyS (rowsOf x0 x1 x2 x3 x4 x5 x6 x7 x8 x9 x10 b) p j d := by
  pointwise [val_main_v24, val_main_v23]
  unfold keyS
  split
  · rfl
  · rw [refNewK x0 x1 x2 x3 x4 x5 x6 x7 x8 x9 x10]
    congr 1
    exact Fin.ext (by show 1024 + (j.val * 64 + d.val) = 1024 + 64 * j.val + d.val; omega)

/-- The values. -/
theorem refV (b : Fin 16) (p : Fin 192) (j : Fin 4) (d : Fin 64) : val_main_v26 (F := Ideal) x0 x2 x3 x5 x6 (ix4 b p j d)
    = valS (rowsOf x0 x1 x2 x3 x4 x5 x6 x7 x8 x9 x10 b) p j d := by
  pointwise [val_main_v26, val_main_v25]
  unfold valS
  split
  · rfl
  · rw [refNewV x0 x1 x2 x3 x4 x5 x6 x7 x8 x9 x10]
    congr 1
    exact Fin.ext (by show 1280 + (j.val * 64 + d.val) = 1280 + 64 * j.val + d.val; omega)

/-- The scores. -/
theorem refScore (b : Fin 16) (j g : Fin 4) (q : Fin 64) (p : Fin 192) : val_main_v33 (F := Ideal) x0 x1 x3 x5 x6 x10 (ix5 b j g q p)
    = scoreS (rowsOf x0 x1 x2 x3 x4 x5 x6 x7 x8 x9 x10 b) j g q p := by
  pointwise [val_main_v33, val_main_v32, val_main_v31, val_main_v30, val_main_v29, val_main_v28, val_main_v27, val_main_cst_2]
  simp only [refK x0 x1 x2 x3 x4 x5 x6 x7 x8 x9 x10, refQ x0 x1 x2 x3 x4 x5 x6 x7 x8 x9 x10]
  rfl

/-- A head's sink. -/
theorem refSink (b : Fin 16) (j g : Fin 4) : val_main_v34 (F := Ideal) x9 (ix4 j g 0 0) = sinkS (rowsOf x0 x1 x2 x3 x4 x5 x6 x7 x8 x9 x10 b) j g := by
  pointwise [val_main_v34]
  exact congrArg x9 (congrArg ix1 (Fin.ext (by show j.val * 4 + g.val = 4 * j.val + g.val; omega)))

/-- A maximum over the last axis of five. -/
theorem max_apply (y : FVec Ideal S16x4x4x64x192 .f32) (b : Fin 16) (j g : Fin 4) (q : Fin 64) :
    Host.reduce FloatOps.maximumf y (constant S_ .f32 0xFF800000#32) reducesTo_S16x4x4x64x192_S16x4x4x64_d4 h_S_ (ix4 b j g q)
      = Finset.univ.fold max (Ideal.ofBits .f32 0xFF800000#32) fun p : Fin 192 => y (ix5 b j g q p) := by
  have hr : S16x4x4x64x192.Reduces [4] S16x4x4x64 := by decide
  have hf : FKind.Formats .f32 := by decide
  refine (congrFun (hostReduce_maximumf_eq_multiReduction y 0xFF800000#32 reducesTo_S16x4x4x64x192_S16x4x4x64_d4 h_S_ hr hf rfl) (ix4 b j g q)).trans
    ((Ideal.multiReduction_maximumf_single y _ hr hf rfl (ix4 b j g q)).trans ?_)
  refine congrArg (fun f : Fin 192 → EReal => Finset.univ.fold max (Ideal.ofBits .f32 0xFF800000#32) f) (funext fun p => congrArg y ?_)
  funext a; fin_cases a <;> rfl

/-- The greatest score of a query. -/
theorem refMax (b : Fin 16) (j g : Fin 4) (q : Fin 64) : val_main_v35 (F := Ideal) x0 x1 x3 x5 x6 x10 (ix4 b j g q)
    = Finset.univ.fold max (Ideal.ofBits .f32 0xFF800000#32) (scoreS (rowsOf x0 x1 x2 x3 x4 x5 x6 x7 x8 x9 x10 b) j g q) := by
  refine (max_apply _ b j g q).trans ?_
  simp only [refScore x0 x1 x2 x3 x4 x5 x6 x7 x8 x9 x10]

/-- That, as a column. -/
theorem refMaxCol (b : Fin 16) (j g : Fin 4) (q : Fin 64) :
    val_main_v36 (F := Ideal) x0 x1 x3 x5 x6 x10 (ix5 b j g q 0) = val_main_v35 (F := Ideal) x0 x1 x3 x5 x6 x10 (ix4 b j g q) := by
  rw [val_main_v36_apply]
  refine congrArg _ ?_
  funext a; fin_cases a <;> rfl

/-- The sinks, as columns. -/
theorem refSinkCol (b : Fin 16) (j g : Fin 4) (q : Fin 64) :
    val_main_v38 (F := Ideal) x9 (ix5 b j g q 0) = val_main_v34 (F := Ideal) x9 (ix4 j g 0 0) := by
  rw [val_main_v38_apply, val_main_v37_apply]
  refine congrArg _ ?_
  funext a; fin_cases a <;> rfl

/-- The greatest score of a query, or the sink. -/
theorem refTop (b : Fin 16) (j g : Fin 4) (q : Fin 64) : val_main_v39 (F := Ideal) x0 x1 x3 x5 x6 x9 x10 (ix5 b j g q 0)
    = topOf (scoreS (rowsOf x0 x1 x2 x3 x4 x5 x6 x7 x8 x9 x10 b) j g q) (sinkS (rowsOf x0 x1 x2 x3 x4 x5 x6 x7 x8 x9 x10 b) j g) := by
  rw [val_main_v39_apply, refMaxCol, refSinkCol, refMax x0 x1 x2 x3 x4 x5 x6 x7 x8 x9 x10, refSink x0 x1 x2 x3 x4 x5 x6 x7 x8 x9 x10 b]
  rfl

/-- The weights of a query. -/
theorem refWeight (b : Fin 16) (j g : Fin 4) (q : Fin 64) (p : Fin 192) : val_main_v51 (F := Ideal) x0 x1 x3 x5 x6 x9 x10 (ix5 b j g q p)
    = divR (Ideal.exp (scoreS (rowsOf x0 x1 x2 x3 x4 x5 x6 x7 x8 x9 x10 b) j g q p - topOf (scoreS (rowsOf x0 x1 x2 x3 x4 x5 x6 x7 x8 x9 x10 b) j g q) (sinkS (rowsOf x0 x1 x2 x3 x4 x5 x6 x7 x8 x9 x10 b) j g))) (denOf (scoreS (rowsOf x0 x1 x2 x3 x4 x5 x6 x7 x8 x9 x10 b) j g q) (sinkS (rowsOf x0 x1 x2 x3 x4 x5 x6 x7 x8 x9 x10 b) j g)) := by
  pointwise [val_main_v51, val_main_v50, val_main_v49, val_main_v48, val_main_v47, val_main_v46, val_main_v45, val_main_v44, val_main_v43, val_main_v42, val_main_v41, val_main_v40, val_main_cst_4]
  simp only [refScore x0 x1 x2 x3 x4 x5 x6 x7 x8 x9 x10, refTop x0 x1 x2 x3 x4 x5 x6 x7 x8 x9 x10, refSink x0 x1 x2 x3 x4 x5 x6 x7 x8 x9 x10 b]
  rfl

/-- The heads' rows side by side. -/
theorem refAtt (b : Fin 16) (q : Fin 64) (k : Fin 1024) : val_main_v54 (F := Ideal) x0 x1 x2 x3 x5 x6 x9 x10 (ix3 b q k)
    = attS divR (rowsOf x0 x1 x2 x3 x4 x5 x6 x7 x8 x9 x10 b) q ⟨k.val / 256, by omega⟩ ⟨k.val % 256 / 64, by omega⟩ ⟨k.val % 64, by omega⟩ := by
  pointwise [val_main_v54, val_main_v53, val_main_v52]
  simp only [refV x0 x1 x2 x3 x4 x5 x6 x7 x8 x9 x10, refWeight x0 x1 x2 x3 x4 x5 x6 x7 x8 x9 x10]
  unfold attS
  have e : (⟨k.val / 64 % 4, by omega⟩ : Fin 4) = ⟨k.val % 256 / 64, by omega⟩ := Fin.ext (by show k.val / 64 % 4 = k.val % 256 / 64; omega)
  simp only [mul_comm (valS _ _ _ _), e]

/-- The projection back. -/
theorem refBack (b : Fin 16) (t : Fin 64) (n : Fin 1024) : val_main_v60 (F := Ideal) x0 x1 x2 x3 x5 x6 x7 x8 x9 x10 (ix3 b t n)
    = backS divR (rowsOf x0 x1 x2 x3 x4 x5 x6 x7 x8 x9 x10 b) t n := by
  pointwise [val_main_v60, val_main_v59, val_main_v58, val_main_v57, val_main_v56, val_main_v55]
  simp only [refAtt x0 x1 x2 x3 x4 x5 x6 x7 x8 x9 x10]
  rfl

/-- The rows. -/
theorem refOut (b : Fin 16) (t : Fin 64) (n : Fin 1024) : val_main_v74 (F := Ideal) x0 x1 x2 x3 x4 x5 x6 x7 x8 x9 x10 (ix3 b t n)
    = outS divR (rowsOf x0 x1 x2 x3 x4 x5 x6 x7 x8 x9 x10 b) t n := by
  pointwise [val_main_v74, val_main_v73, val_main_v72, val_main_v71, val_main_v70, val_main_v69, val_main_v68, val_main_v67, val_main_v66, val_main_v65, val_main_v64, val_main_v63, val_main_v62, val_main_v61, val_main_cst_5, val_main_cst_6, val_main_cst_7]
  simp only [refBack x0 x1 x2 x3 x4 x5 x6 x7 x8 x9 x10]
  rfl

end Cert.SinkAttn

end
-- ==== Proof.AttnValue.lean ====
/-
  The three result arrays of the attention layer after the run, at an index, as the layer's rows of the argument arrays.
-/
module

public import proofs.«01_k».proof.Proof.AttnPoint
public import proofs.«01_k».proof.Proof.AttnRefValue

@[expose] public section

set_option maxRecDepth 16384

noncomputable section

namespace Cert.AttnIdeal.Value

open Cert.AttnIdeal Cert.AttnIdeal.Gen Idealize.ShloMosaic Idealize.ShloMosaic.TcCoe Idealize.SL.Sem Cert.SinkAttn

variable (m : (ℓ : Loc nD τ sig) → Buf (Elt Ideal) ℓ)

/-- The windows' blocks: eight streams a grid point, and the whole of the weights. -/
theorem at_x : ∀ t : Fin cfg0.N, win0_0.index t = ![t.val, 0, 0] := (by decide +kernel : ∀ t : Fin grid0.N, win0_0.index t = ![t.val, 0, 0])
theorem at_key_cache : ∀ t : Fin cfg0.N, win0_1.index t = ![t.val, 0, 0] := (by decide +kernel : ∀ t : Fin grid0.N, win0_1.index t = ![t.val, 0, 0])
theorem at_value_cache : ∀ t : Fin cfg0.N, win0_2.index t = ![t.val, 0, 0] := (by decide +kernel : ∀ t : Fin grid0.N, win0_2.index t = ![t.val, 0, 0])
theorem at_gain_in : ∀ t : Fin cfg0.N, win0_3.index t = ![0, 0] := (by decide +kernel : ∀ t : Fin grid0.N, win0_3.index t = ![0, 0])
theorem at_gain_out : ∀ t : Fin cfg0.N, win0_4.index t = ![0, 0] := (by decide +kernel : ∀ t : Fin grid0.N, win0_4.index t = ![0, 0])
theorem at_proj : ∀ t : Fin cfg0.N, win0_5.index t = ![0, 0, 0] := (by decide +kernel : ∀ t : Fin grid0.N, win0_5.index t = ![0, 0, 0])
theorem at_proj_bias : ∀ t : Fin cfg0.N, win0_6.index t = ![0, 0] := (by decide +kernel : ∀ t : Fin grid0.N, win0_6.index t = ![0, 0])
theorem at_back : ∀ t : Fin cfg0.N, win0_7.index t = ![0, 0, 0] := (by decide +kernel : ∀ t : Fin grid0.N, win0_7.index t = ![0, 0, 0])
theorem at_back_bias : ∀ t : Fin cfg0.N, win0_8.index t = ![0, 0] := (by decide +kernel : ∀ t : Fin grid0.N, win0_8.index t = ![0, 0])
theorem at_sinks : ∀ t : Fin cfg0.N, win0_9.index t = ![0] := (by decide +kernel : ∀ t : Fin grid0.N, win0_9.index t = ![0])
theorem at_tiles : ∀ t : Fin cfg0.N, win0_10.index t = ![0, 0, 0, 0] := (by decide +kernel : ∀ t : Fin grid0.N, win0_10.index t = ![0, 0, 0, 0])
theorem at_out : ∀ t : Fin cfg0.N, win0_11.index t = ![t.val, 0, 0] := (by decide +kernel : ∀ t : Fin grid0.N, win0_11.index t = ![t.val, 0, 0])
theorem at_keys : ∀ t : Fin cfg0.N, win0_12.index t = ![t.val, 0, 0] := (by decide +kernel : ∀ t : Fin grid0.N, win0_12.index t = ![t.val, 0, 0])
theorem at_values : ∀ t : Fin cfg0.N, win0_13.index t = ![t.val, 0, 0] := (by decide +kernel : ∀ t : Fin grid0.N, win0_13.index t = ![t.val, 0, 0])

/-- The stream that a grid point's block holds at `b`. -/
def streamOf (t : Fin cfg0.N) (b : Fin 8) : Fin 16 := ⟨t.val * 8 + b.val, by have h : t.val < 2 := t.isLt; omega⟩

theorem blk_x (c : Dev nD) (t : Fin cfg0.N) (b : Fin 8) (s : Fin 64) (k : Fin 1024) : iblk m c 0 t (ix3 b s k) = m ((c : Thread nD τ).loc main_arg0) (ix3 (streamOf t b) s k) := by
  blk_point [iblk, V, at_x t]
  try rfl
theorem blk_key_cache (c : Dev nD) (t : Fin cfg0.N) (b : Fin 8) (p : Fin 128) (j : Fin 4) (d : Fin 64) : iblk m c 1 t (ix3 b p ⟨64 * j.val + d.val, by omega⟩) = m ((c : Thread nD τ).loc main_arg1) (ix4 (streamOf t b) p j d) := by
  blk_point [iblk, V, at_key_cache t]
  try rfl
theorem blk_value_cache (c : Dev nD) (t : Fin cfg0.N) (b : Fin 8) (p : Fin 128) (j : Fin 4) (d : Fin 64) : iblk m c 2 t (ix3 b p ⟨64 * j.val + d.val, by omega⟩) = m ((c : Thread nD τ).loc main_arg2) (ix4 (streamOf t b) p j d) := by
  blk_point [iblk, V, at_value_cache t]
  try rfl
theorem blk_gain_in (c : Dev nD) (t : Fin cfg0.N) (k : Fin 1024) : iblk m c 3 t (ix2 0 k) = m ((c : Thread nD τ).loc main_arg3) (ix1 k) := by
  blk_point [iblk, V, at_gain_in t]
theorem blk_gain_out (c : Dev nD) (t : Fin cfg0.N) (k : Fin 1024) : iblk m c 4 t (ix2 0 k) = m ((c : Thread nD τ).loc main_arg4) (ix1 k) := by
  blk_point [iblk, V, at_gain_out t]
theorem blk_proj (c : Dev nD) (t : Fin cfg0.N) (k : Fin 1024) (l : Fin 1536) : iblk m c 5 t (ix3 0 k l) = m ((c : Thread nD τ).loc main_arg5) (ix3 0 k l) := by
  blk_point [iblk, V, at_proj t]
theorem blk_proj_bias (c : Dev nD) (t : Fin cfg0.N) (l : Fin 1536) : iblk m c 6 t (ix2 0 l) = m ((c : Thread nD τ).loc main_arg6) (ix1 l) := by
  blk_point [iblk, V, at_proj_bias t]
theorem blk_back (c : Dev nD) (t : Fin cfg0.N) (k : Fin 1024) (n : Fin 1024) : iblk m c 7 t (ix3 0 k n) = m ((c : Thread nD τ).loc main_arg7) (ix3 0 k n) := by
  blk_point [iblk, V, at_back t]
theorem blk_back_bias (c : Dev nD) (t : Fin cfg0.N) (n : Fin 1024) : iblk m c 8 t (ix2 0 n) = m ((c : Thread nD τ).loc main_arg8) (ix1 n) := by
  blk_point [iblk, V, at_back_bias t]
theorem blk_sinks (c : Dev nD) (t : Fin cfg0.N) (h : Fin 16) : iblk m c 9 t (ix1 h) = m ((c : Thread nD τ).loc main_arg9) (ix1 h) := by
  blk_point [iblk, V, at_sinks t]
theorem blk_tiles (c : Dev nD) (t : Fin cfg0.N) (j g : Fin 4) (q : Fin 64) (p : Fin 192) : iblk m c 10 t (ix4 j ⟨g.val % 2, by omega⟩ p ⟨64 * (g.val / 2) + q.val, by omega⟩) = m ((c : Thread nD τ).loc main_arg10) (ix4 j g q p) := by
  blk_point [iblk, V, at_tiles t]

/-- One stream's share of the argument arrays. -/
abbrev argRows (c : Dev nD) (b : Fin 16) : Rows := rowsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b

/-- A block's rows are the arrays'. -/
theorem rows_eq (c : Dev nD) (t : Fin cfg0.N) (b : Fin 8) : rowsBlk (iblk m c 0 t) (iblk m c 1 t) (iblk m c 2 t) (iblk m c 3 t) (iblk m c 4 t) (iblk m c 5 t) (iblk m c 6 t) (iblk m c 7 t) (iblk m c 8 t) (iblk m c 9 t) (iblk m c 10 t) b = argRows m c (streamOf t b) := by
  unfold rowsBlk argRows rowsOf
  simp only [blk_x, blk_key_cache, blk_value_cache, blk_gain_in, blk_gain_out, blk_proj, blk_proj_bias, blk_back, blk_back_bias, blk_sinks, blk_tiles]

/-- The rows. -/
theorem out_array (c : Dev nD) :
    (dats m 0 c).arrAt 11 cfg0.N = fun i : S16x64x1024.Idx => outS divK (argRows m c ⟨(i 0).val, (i 0).isLt⟩) ⟨(i 1).val, (i 1).isLt⟩ ⟨(i 2).val, (i 2).isLt⟩ := by
  refine (dats m 0 c).arrAt_eq_of_covers 11 _ (by decide +kernel) fun t hf y => ?_
  blk_simp
  rw [after0_11, out_point]
  unfold outB
  rw [rows_eq]
  have e0 : win0_11.index t 0 * 8 + (y 0).val = t.val * 8 + (y 0).val := by rw [at_out t]; rfl
  have e1 : win0_11.index t 1 * 64 + (y 1).val = (y 1).val := by rw [at_out t]; exact Nat.zero_add _
  have e2 : win0_11.index t 2 * 1024 + (y 2).val = (y 2).val := by rw [at_out t]; exact Nat.zero_add _
  simp only [e0, e1, e2]
  rfl

/-- The keys. -/
theorem keys_array (c : Dev nD) :
    (dats m 0 c).arrAt 12 cfg0.N = fun i : S16x64x256.Idx => projS (argRows m c ⟨(i 0).val, (i 0).isLt⟩) ⟨(i 1).val, (i 1).isLt⟩ ⟨1024 + (i 2).val, by have h2 : (i 2).val < 256 := (i 2).isLt; omega⟩ := by
  refine (dats m 0 c).arrAt_eq_of_covers 12 _ (by decide +kernel) fun t hf y => ?_
  blk_simp
  rw [after0_12, key_point]
  unfold kvB
  rw [rows_eq]
  have e0 : win0_12.index t 0 * 8 + (y 0).val = t.val * 8 + (y 0).val := by rw [at_keys t]; rfl
  have e1 : win0_12.index t 1 * 64 + (y 1).val = (y 1).val := by rw [at_keys t]; exact Nat.zero_add _
  have e2 : win0_12.index t 2 * 256 + (y 2).val = (y 2).val := by rw [at_keys t]; exact Nat.zero_add _
  simp only [e0, e1, e2]
  rfl

/-- The values. -/
theorem values_array (c : Dev nD) :
    (dats m 0 c).arrAt 13 cfg0.N = fun i : S16x64x256.Idx => projS (argRows m c ⟨(i 0).val, (i 0).isLt⟩) ⟨(i 1).val, (i 1).isLt⟩ ⟨1280 + (i 2).val, by have h2 : (i 2).val < 256 := (i 2).isLt; omega⟩ := by
  refine (dats m 0 c).arrAt_eq_of_covers 13 _ (by decide +kernel) fun t hf y => ?_
  blk_simp
  rw [after0_13, val_point]
  unfold kvB
  rw [rows_eq]
  have e0 : win0_13.index t 0 * 8 + (y 0).val = t.val * 8 + (y 0).val := by rw [at_values t]; rfl
  have e1 : win0_13.index t 1 * 64 + (y 1).val = (y 1).val := by rw [at_values t]; exact Nat.zero_add _
  have e2 : win0_13.index t 2 * 256 + (y 2).val = (y 2).val := by rw [at_values t]; exact Nat.zero_add _
  simp only [e0, e1, e2]
  rfl

end Cert.AttnIdeal.Value

end
-- ==== Proof.AttnPre.lean ====
/-
  The precondition of the attention call, decoded: what the scores are made of holds real numbers.
-/
module

public import proofs.«01_k».proof.Proof.Pre
public import proofs.«01_k».proof.Proof.Gen.Pre_attn_args_finite
public import proofs.«01_k».proof.Proof.AttnRefValue

@[expose] public section

set_option maxRecDepth 16384

noncomputable section

namespace Cert.SinkAttn

open Cert.Pre_attn_args_finite Cert.Pre_attn_args_finite.Gen Idealize.ShloMosaic Cert.ConvFfn

variable (x0 : FVec Ideal S16x64x1024 .f32) (x1 x2 : FVec Ideal S16x128x4x64 .f32) (x3 x4 : FVec Ideal S1024 .f32)
  (x5 : FVec Ideal S2x1024x1536 .f32) (x6 : FVec Ideal S1536 .f32) (x7 : FVec Ideal S2x1024x1024 .f32) (x8 : FVec Ideal S1024 .f32)
  (x9 : FVec Ideal S16 .f32) (x10 : FVec Ideal S4x4x64x192 .f32)

/-- The query and key columns of the first layer's projection. -/
theorem slice_w (k : Fin 1024) (l : Fin 1280) :
    shapeCast S1024x1280 (extractStridedSlice S1x1024x1280 ![0, 0, 0] x5 Facts.slices_S2x1024x1536_S1x1024x1280_0_0_0) Facts.shapeCasts_S1x1024x1280_S1024x1280 (ix2 k l)
      = x5 (ix3 0 k ⟨l.val, by omega⟩) := by
  pointwise []

/-- Those of its bias. -/
theorem slice_b (l : Fin 1280) : extractStridedSlice S1280 ![0] x6 Facts.slices_S1536_S1280_0 (ix1 l) = x6 (ix1 ⟨l.val, by omega⟩) := by
  pointwise []

/-- The arrays, or their parts, that the precondition names hold real numbers. -/
theorem reals_of_pre (h : fn (F := Ideal) x0 x1 x2 x3 x4 x5 x6 x7 x8 x9 x10 = fun _ => 1#1) (b : Fin 16) :
    (rowsOf x0 x1 x2 x3 x4 x5 x6 x7 x8 x9 x10 b).Fin' := by
  have : Subsingleton S_.Idx := ⟨fun a b => funext fun k => k.elim0⟩
  have e := congrFun h (fun k => k.elim0)
  obtain ⟨e, e10⟩ := IntOp.andi_eq_one.1 e
  obtain ⟨e, e9⟩ := IntOp.andi_eq_one.1 e
  obtain ⟨e, e6⟩ := IntOp.andi_eq_one.1 e
  obtain ⟨e, e5⟩ := IntOp.andi_eq_one.1 e
  obtain ⟨e1, e3⟩ := IntOp.andi_eq_one.1 e
  refine ⟨fun p j d => real_of_cmp (Host.reduce_andi_all _ _ _ _ _ e1 (ix4 b p j d)), fun k => real_of_cmp (Host.reduce_andi_all _ _ _ _ _ e3 (ix1 k)),
    fun k l hl => ?_, fun l hl => ?_, fun i => real_of_cmp (Host.reduce_andi_all _ _ _ _ _ e9 (ix1 i)),
    fun j g q p => real_of_cmp (Host.reduce_andi_all _ _ _ _ _ e10 (ix4 j g q p))⟩
  · have q := real_of_cmp (Host.reduce_andi_all _ _ _ _ _ e5 (ix2 k ⟨l.val, hl⟩))
    exact (congrArg Real' (slice_w x5 k ⟨l.val, hl⟩)).mp q
  · have q := real_of_cmp (Host.reduce_andi_all _ _ _ _ _ e6 (ix1 ⟨l.val, hl⟩))
    exact (congrArg Real' (slice_b x6 ⟨l.val, hl⟩)).mp q

end Cert.SinkAttn

end
-- ==== Proof.AttnClaims.lean ====
/-
  The claims about the attention call, each on its own: the frames and the equality of the results.
-/
module

public import proofs.«01_k».proof.Defs
public import proofs.«01_k».proof.Proof.Gen.Attn.Frame
public import proofs.«01_k».proof.Proof.AttnValue
public import proofs.«01_k».proof.Proof.AttnPre

@[expose] public section

set_option maxRecDepth 16384

noncomputable section

namespace Cert.Proof.Attn

open Idealize.ShloMosaic Idealize.ShloMosaic.TcCoe Idealize.SL.Sem Cert.SinkAttn

/-- The kernel runs, keeps its arguments and ends with every semaphore at zero, on words and on the extended reals. -/
theorem frame_kernel : Cert.quiescent_Attn := fun m ρ _ => Cert.Attn.Gen.frame m ρ
theorem frame_ideal : Cert.quiescent_AttnIdeal := fun m ρ _ => Cert.AttnIdeal.Gen.frame m ρ
theorem frame_ideal_pre : Cert.quiescent_AttnIdeal_pre_attn_args_finite := fun m ρ _ => Cert.AttnIdeal.Gen.frame m ρ

/-- The reference's run; it declares no semaphore. -/
theorem frame_ref : Cert.quiescent_AttnRefIdeal := fun m ρ _ =>
  (θ_run Cert.AttnRefIdeal.defs _ _).mono (fun r h => ⟨fun c => (h c).2.2.2,
      Idealize.ShloMosaic.sem_eq_zero_of_no_sems (by decide) r.2⟩)
    (Cert.AttnRefIdeal.Value.run (F := Ideal) m ρ)
theorem frame_ref_pre : Cert.quiescent_AttnRefIdeal_pre_attn_args_finite := fun m ρ _ => frame_ref m ρ trivial

/-- The kernel's idealization renames nothing. -/
theorem preserves : Cert.preserves_Attn_AttnIdeal := trivial

/-- At the extended reals the kernel's three results are the reference's. -/
theorem algebraic : Cert.algebraic_AttnIdeal_AttnRefIdeal_pre_attn_args_finite := by
  intro m ρ m' ρ' hpre hagree
  refine ⟨_, _, _, Cert.AttnIdeal.Value.run_blocks (F := Ideal) m ρ, ?_⟩
  refine (θ_run Cert.AttnRefIdeal.defs _ _).mono (fun _ h c => ⟨(h c).1.trans ?_, (h c).2.1.trans ?_, (h c).2.2.1.trans ?_, (h c).2.2.2⟩)
    (Cert.AttnRefIdeal.Value.run (F := Ideal) m' ρ')
  · rw [Cert.AttnIdeal.Value.out_array, Cert.AttnRefIdeal.Read.val_main_v74_eq]
    obtain ⟨a0, a1, a2, a3, a4, a5, a6, a7, a8, a9, a10⟩ := hagree c
    have q : Cert.AttnRefIdeal.Read.val_main_v74 (F := Ideal) (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg1)) (m' ((c.tc : Thread Cert.AttnRefIdeal.nD Cert.AttnRefIdeal.τ).loc Cert.AttnRefIdeal.main_arg2)) (m' ((c.tc : Thread Cert.AttnRefIdeal.nD Cert.AttnRefIdeal.τ).loc Cert.AttnRefIdeal.main_arg3)) (m' ((c.tc : Thread Cert.AttnRefIdeal.nD Cert.AttnRefIdeal.τ).loc Cert.AttnRefIdeal.main_arg4)) (m' ((c.tc : Thread Cert.AttnRefIdeal.nD Cert.AttnRefIdeal.τ).loc Cert.AttnRefIdeal.main_arg5)) (m' ((c.tc : Thread Cert.AttnRefIdeal.nD Cert.AttnRefIdeal.τ).loc Cert.AttnRefIdeal.main_arg6)) (m' ((c.tc : Thread Cert.AttnRefIdeal.nD Cert.AttnRefIdeal.τ).loc Cert.AttnRefIdeal.main_arg7)) (m' ((c.tc : Thread Cert.AttnRefIdeal.nD Cert.AttnRefIdeal.τ).loc Cert.AttnRefIdeal.main_arg8)) (m' ((c.tc : Thread Cert.AttnRefIdeal.nD Cert.AttnRefIdeal.τ).loc Cert.AttnRefIdeal.main_arg9)) (m' ((c.tc : Thread Cert.AttnRefIdeal.nD Cert.AttnRefIdeal.τ).loc Cert.AttnRefIdeal.main_arg10))
        = fun i : Cert.AttnIdeal.S16x64x1024.Idx => outS divK (Cert.AttnIdeal.Value.argRows m c ⟨(i 0).val, (i 0).isLt⟩) ⟨(i 1).val, (i 1).isLt⟩ ⟨(i 2).val, (i 2).isLt⟩ := by
      rw [a0, a1, a2, a3, a4, a5, a6, a7, a8, a9, a10]
      funext i
      have e := refOut (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (i 0) (i 1) (i 2)
      rw [← outS_eq _ (reals_of_pre _ _ _ _ _ _ _ _ _ _ _ (hpre c) (i 0))] at e
      refine Eq.trans (congrArg _ ?_) e
      funext a; fin_cases a <;> rfl
    exact q
  · rw [Cert.AttnIdeal.Value.keys_array, Cert.AttnRefIdeal.Read.val_main_v20_eq]
    obtain ⟨a0, a1, a2, a3, a4, a5, a6, a7, a8, a9, a10⟩ := hagree c
    have q : Cert.AttnRefIdeal.Read.val_main_v20 (F := Ideal) (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg3)) (m' ((c.tc : Thread Cert.AttnRefIdeal.nD Cert.AttnRefIdeal.τ).loc Cert.AttnRefIdeal.main_arg5)) (m' ((c.tc : Thread Cert.AttnRefIdeal.nD Cert.AttnRefIdeal.τ).loc Cert.AttnRefIdeal.main_arg6))
        = fun i : Cert.AttnIdeal.S16x64x256.Idx => projS (Cert.AttnIdeal.Value.argRows m c ⟨(i 0).val, (i 0).isLt⟩) ⟨(i 1).val, (i 1).isLt⟩ ⟨1024 + (i 2).val, by have h2 : (i 2).val < 256 := (i 2).isLt; omega⟩ := by
      rw [a0, a3, a5, a6]
      funext i
      have e := refNewK (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (i 0) (i 1) (i 2)
      refine Eq.trans (congrArg _ ?_) e
      funext a; fin_cases a <;> rfl
    exact q
  · rw [Cert.AttnIdeal.Value.values_array, Cert.AttnRefIdeal.Read.val_main_v21_eq]
    obtain ⟨a0, a1, a2, a3, a4, a5, a6, a7, a8, a9, a10⟩ := hagree c
    have q : Cert.AttnRefIdeal.Read.val_main_v21 (F := Ideal) (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg3)) (m' ((c.tc : Thread Cert.AttnRefIdeal.nD Cert.AttnRefIdeal.τ).loc Cert.AttnRefIdeal.main_arg5)) (m' ((c.tc : Thread Cert.AttnRefIdeal.nD Cert.AttnRefIdeal.τ).loc Cert.AttnRefIdeal.main_arg6))
        = fun i : Cert.AttnIdeal.S16x64x256.Idx => projS (Cert.AttnIdeal.Value.argRows m c ⟨(i 0).val, (i 0).isLt⟩) ⟨(i 1).val, (i 1).isLt⟩ ⟨1280 + (i 2).val, by have h2 : (i 2).val < 256 := (i 2).isLt; omega⟩ := by
      rw [a0, a3, a5, a6]
      funext i
      have e := refNewV (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (i 0) (i 1) (i 2)
      refine Eq.trans (congrArg _ ?_) e
      funext a; fin_cases a <;> rfl
    exact q

end Cert.Proof.Attn

end
-- ==== Proof.CmlpSpec.lean ====
/-
  The spatial-gating MLP layer, one sequence at a time, over the extended reals: root-mean-square norm, the projection
  with its gelu, the layer norm of the second half, the mixing of its rows by each group's matrix, the gated product, the
  projection back and the normed residual. The gelu is a parameter, since the two programs write it differently.
-/
module

public import proofs.«01_k».proof.Proof.Consts

@[expose] public section

noncomputable section

namespace Cert.GateMlp

open Idealize.ShloMosaic Cert.ConvFfn

/-- What the layer reads for one sequence. -/
structure Rows where
  /-- The sequence. -/
  x : Fin 64 → Fin 1024 → EReal
  /-- The gain before the projection. -/
  gi : Fin 1024 → EReal
  /-- The gain of the residual's norm. -/
  go : Fin 1024 → EReal
  /-- The projection's weights. -/
  wi : Fin 1024 → Fin 4096 → EReal
  /-- The projection's bias. -/
  bi : Fin 4096 → EReal
  /-- The layer norm's gain. -/
  lg : Fin 2048 → EReal
  /-- The layer norm's bias. -/
  lb : Fin 2048 → EReal
  /-- The mixing matrices, one a group. -/
  ws : Fin 4 → Fin 64 → Fin 64 → EReal
  /-- The mixing's bias. -/
  bs : Fin 4 → Fin 64 → EReal
  /-- The weights of the projection back. -/
  wo : Fin 2048 → Fin 1024 → EReal
  /-- Its bias. -/
  bo : Fin 1024 → EReal

/-- The projection of a normed row. -/
def preS (R : Rows) (t : Fin 64) (l : Fin 4096) : EReal := (∑ k, R.x t k * rmsS (R.x t) * R.gi k * R.wi k l) + R.bi l

/-- A row's mean. -/
def meanS (v : Fin 2048 → EReal) : EReal := Ideal.div (∑ k, v k) (Ideal.ofBits .f32 0x45000000#32)

/-- A row's layer norm. -/
def lnS (v g b : Fin 2048 → EReal) (k : Fin 2048) : EReal :=
  (v k - meanS v) * Ideal.rsqrt (meanS (fun k => (v k - meanS v) * (v k - meanS v)) + Ideal.ofBits .f32 0x3727C5AC#32) * g k + b k

/-- The rows that are mixed. -/
def vS (G : EReal → EReal) (R : Rows) (t : Fin 64) (k : Fin 2048) : EReal :=
  lnS (fun k => G (preS R t ⟨2048 + k.val, by omega⟩)) R.lg R.lb k

/-- The mixed rows. -/
def gateS (G : EReal → EReal) (R : Rows) (t : Fin 64) (k : Fin 2048) : EReal :=
  (∑ j, R.ws ⟨k.val / 512, by omega⟩ t j * vS G R j k) + R.bs ⟨k.val / 512, by omega⟩ t

/-- The gated product. -/
def mixS (G : EReal → EReal) (R : Rows) (t : Fin 64) (k : Fin 2048) : EReal :=
  G (preS R t ⟨k.val, by omega⟩) * gateS G R t k

/-- The projection back. -/
def backS (G : EReal → EReal) (R : Rows) (t : Fin 64) (n : Fin 1024) : EReal := (∑ k, mixS G R t k * R.wo k n) + R.bo n

/-- The layer's row. -/
def outS (G : EReal → EReal) (R : Rows) (t : Fin 64) (n : Fin 1024) : EReal :=
  R.x t n + backS G R t n * rmsS (backS G R t) * R.go n

/-- The arguments that the gelu's operand depends on beside the sequence are real. -/
structure Rows.Fin' (R : Rows) : Prop where
  gi : ∀ k, Real' (R.gi k)
  wi : ∀ k l, Real' (R.wi k l)
  bi : ∀ l, Real' (R.bi l)

theorem real_preS (R : Rows) (h : R.Fin') (t : Fin 64) (l : Fin 4096) : Real' (preS R t l) :=
  (Real'.sum _ fun k => ((real_norm _ k).mul (h.gi k)).mul (h.wi k l)).add (h.bi l)

/-- With real operands the two gelus give one layer. -/
theorem vS_eq (R : Rows) (h : R.Fin') : vS geluK R = vS geluR R := by
  funext t k
  unfold vS
  simp only [gelu_eq (real_preS R h t _)]

theorem outS_eq (R : Rows) (h : R.Fin') : outS geluK R = outS geluR R := by
  have hm : mixS geluK R = mixS geluR R := by
    funext t k
    unfold mixS gateS
    rw [gelu_eq (real_preS R h t _), vS_eq R h]
  have hb : backS geluK R = backS geluR R := by
    unfold backS
    rw [hm]
  unfold outS
  rw [hb]

end Cert.GateMlp

end
-- ==== Proof.CmlpPay.lean ====
/-
  The spatial-gating MLP kernel's payloads read at an index, in the layer's terms: the gelu of the projection, the layer
  norm of its second half, one cell of the gated product — a sequence's 64 rows by a group's 512 columns — and the
  projection back with its norm and residual.
-/
module

public import proofs.«01_k».proof.Proof.CmlpSpec
public import proofs.«01_k».proof.Proof.Gen.CmlpIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateMlp

open Cert.CmlpIdeal Cert.CmlpIdeal.Gen Idealize.ShloMosaic Idealize.ShloMosaic.TcCoe Cert.ConvFfn

section Generic
variable {F : FTy → Type} [FloatOps F] [Named F]

/-- The chunk number of a mixing matrix's row. -/
def chunkRow : IVec S64x64 32 := k0_pay11 (iota .tc S64x64 32 [0] iota_S64x64_d0_w32) 64#32 k0_pay8 k0_pay9 k0_pay10

/-- A mixing matrix under its mask. -/
def mixV (w : Vec F S1x64x64 .f32) : FVec F S64x64 .bf16 := k0_pay29 chunkRow k0_pay12 w

/-- One cell of the gated product: the rows at `o` of a group's gelu, times the group's mixed rows. -/
def cellV (o : ℕ) (h : S512x512.Slices ![o, 0] S64x512) (u : FVec F S512x512 .f32) (w : FVec F S64x64 .bf16) (v : Vec F S64x512 .bf16)
    (b : Vec F S1x64x1 .f32) : FVec F S64x512 .bf16 :=
  shapeCast S64x512 (truncf .bf16 (mulf (extractStridedSlice S64x512 ![o, 0] u h)
    (addf (matmul dot_S64x64_S64x512_S64x512_1_0_0_1_n_n none w v (constant S64x512 .f32 0x00000000#32))
      (broadcastTo S64x512 (shapeCast S64x1 b shapeCasts_S1x64x1_S64x1 : FVec F S64x1 .f32) broadcasts_S64x1_S64x512))) bitsLt_bf16_f32) shapeCasts_S64x512_S64x512

end Generic

variable (x : FVec Ideal S8x64x1024 .f32) (gi go : FVec Ideal S1x1024 .f32) (wi : FVec Ideal S1024x4096 .bf16) (bi : FVec Ideal S1x4096 .f32)
  (lg lb : FVec Ideal S1x2048 .f32) (ws : FVec Ideal S4x64x64 .f32) (bs : FVec Ideal S4x64x1 .f32) (wo : FVec Ideal S2048x1024 .bf16) (bo : FVec Ideal S1x1024 .f32)

/-- One sequence's share of a grid point's blocks. -/
def rowsBlk (b : Fin 8) : Rows where
  x t k := x (ix3 b t k)
  gi k := gi (ix2 0 k)
  go k := go (ix2 0 k)
  wi k l := wi (ix2 k l)
  bi l := bi (ix2 0 l)
  lg k := lg (ix2 0 k)
  lb k := lb (ix2 0 k)
  ws g i j := ws (ix3 g i j)
  bs g i := bs (ix3 g i 0)
  wo k n := wo (ix2 k n)
  bo n := bo (ix2 0 n)

/-- 512 columns of the projection's weights. -/
abbrev ldW (lo : ℕ) (h : ∀ a, (![0, lo] : Fin S1024x4096.rank → ℕ) a + (![1024, 512] : Fin S1024x4096.rank → ℕ) a ≤ S1024x4096.size a) :
    Vec Ideal S1024x512 .bf16 := View.ld (Val := Elt Ideal) wi (Rect.unit (s := S1024x4096) ![0, lo] ![1024, 512] h)

/-- 512 columns of its bias. -/
abbrev ldB (lo : ℕ) (h : ∀ a, (![0, lo] : Fin S1x4096.rank → ℕ) a + (![1, 512] : Fin S1x4096.rank → ℕ) a ≤ S1x4096.size a) :
    Vec Ideal S1x512 .f32 := View.ld (Val := Elt Ideal) bi (Rect.unit (s := S1x4096) ![0, lo] ![1, 512] h)

/-- The second half of the projection's weights. -/
abbrev ldW2 (h : ∀ a, (![0, 2048] : Fin S1024x4096.rank → ℕ) a + (![1024, 2048] : Fin S1024x4096.rank → ℕ) a ≤ S1024x4096.size a) :
    Vec Ideal S1024x2048 .bf16 := View.ld (Val := Elt Ideal) wi (Rect.unit (s := S1024x4096) ![0, 2048] ![1024, 2048] h)

/-- The second half of its bias. -/
abbrev ldB2 (h : ∀ a, (![0, 2048] : Fin S1x4096.rank → ℕ) a + (![1, 2048] : Fin S1x4096.rank → ℕ) a ≤ S1x4096.size a) :
    Vec Ideal S1x2048 .f32 := View.ld (Val := Elt Ideal) bi (Rect.unit (s := S1x4096) ![0, 2048] ![1, 2048] h)

/-- One group's mixing matrix. -/
abbrev ldM (g : ℕ) (h : ∀ a, (![g, 0, 0] : Fin S4x64x64.rank → ℕ) a + (![1, 64, 64] : Fin S4x64x64.rank → ℕ) a ≤ S4x64x64.size a) :
    Vec Ideal S1x64x64 .f32 := View.ld (Val := Elt Ideal) ws (Rect.unit (s := S4x64x64) ![g, 0, 0] ![1, 64, 64] h)

/-- One group's mixing bias. -/
abbrev ldS (g : ℕ) (h : ∀ a, (![g, 0, 0] : Fin S4x64x1.rank → ℕ) a + (![1, 64, 1] : Fin S4x64x1.rank → ℕ) a ≤ S4x64x1.size a) :
    Vec Ideal S1x64x1 .f32 := View.ld (Val := Elt Ideal) bs (Rect.unit (s := S4x64x1) ![g, 0, 0] ![1, 64, 1] h)

theorem ldW_apply (lo : ℕ) (h) (k : Fin 1024) (j : Fin 512) (hlo : lo + 512 ≤ 4096) : ldW wi lo h (ix2 k j) = wi (ix2 k ⟨lo + j.val, by omega⟩) := by
  pointwise [ldW]

theorem ldB_apply (lo : ℕ) (h) (j : Fin 512) (hlo : lo + 512 ≤ 4096) : ldB bi lo h (ix2 0 j) = bi (ix2 0 ⟨lo + j.val, by omega⟩) := by
  pointwise [ldB]

theorem ldW2_apply (h) (k : Fin 1024) (j : Fin 2048) : ldW2 wi h (ix2 k j) = wi (ix2 k ⟨2048 + j.val, by omega⟩) := by
  pointwise [ldW2]

theorem ldB2_apply (h) (j : Fin 2048) : ldB2 bi h (ix2 0 j) = bi (ix2 0 ⟨2048 + j.val, by omega⟩) := by
  pointwise [ldB2]

theorem ldM_apply (g : ℕ) (h) (i j : Fin 64) (hg : g < 4) : ldM ws g h (ix3 0 i j) = ws (ix3 ⟨g, hg⟩ i j) := by
  pointwise [ldM]

theorem ldS_apply (g : ℕ) (h) (i : Fin 64) (hg : g < 4) : ldS bs g h (ix3 0 i 0) = bs (ix3 ⟨g, hg⟩ i 0) := by
  pointwise [ldS]

/-- All positions lie in the first chunk. -/
theorem chunkRow_zero (i j : Fin 64) : chunkRow (ix2 i j) = 0#32 := by
  pointwise [chunkRow, k0_pay11, k0_pay8, k0_pay9, k0_pay10]
  revert i
  decide

theorem chunkCol_zero (i j : Fin 64) : k0_pay12 (ix2 i j) = 0#32 := by
  pointwise [k0_pay12]
  revert j
  decide

/-- So the mask keeps a mixing matrix whole. -/
theorem mixV_apply (w : FVec Ideal S1x64x64 .f32) (i j : Fin 64) : mixV (F := Ideal) w (ix2 i j) = w (ix3 0 i j) := by
  pointwise [mixV, k0_pay29]
  rw [chunkRow_zero, chunkCol_zero]
  rfl

/-- The normed rows. -/
theorem hidden_apply (r : Fin 512) (k : Fin 1024) :
    k0_pay2 (F := Ideal) x gi (ix2 r k) = x (ix3 ⟨r.val / 64, by omega⟩ ⟨r.val % 64, by omega⟩ k)
      * rmsS (fun k => x (ix3 ⟨r.val / 64, by omega⟩ ⟨r.val % 64, by omega⟩ k)) * gi (ix2 0 k) := by
  pointwise [k0_pay2, k0_pay1]
  rfl

/-- A group's gelu. -/
theorem gelu_apply (lo : ℕ) (hlo : lo + 512 ≤ 4096) (hw) (hb) (r : Fin 512) (j : Fin 512) :
    k0_pay28 (F := Ideal) (k0_pay2 x gi) (ldW wi lo hw) (ldB bi lo hb) (ix2 r j)
      = geluK (preS (rowsBlk x gi go wi bi lg lb ws bs wo bo ⟨r.val / 64, by omega⟩) ⟨r.val % 64, by omega⟩ ⟨lo + j.val, by omega⟩) := by
  have e : ∀ (h : FVec Ideal S512x1024 .bf16) (w : FVec Ideal S1024x512 .bf16) (b : FVec Ideal S1x512 .f32),
      k0_pay28 (F := Ideal) h w b (ix2 r j) = geluK ((∑ k, h (ix2 r k) * w (ix2 k j)) + b (ix2 0 j)) := by
    intro h w b
    pointwise [k0_pay28]
    rw [IdealRules.named_const.ideal_named_scalar κ "gelu_c1" _ _ rfl]
    rfl
  rw [e]
  simp only [hidden_apply, ldW_apply wi lo hw _ j hlo, ldB_apply bi lo hb j hlo]
  rfl

/-- The second half's gelu. -/
theorem gelu2_apply (hw) (hb) (r : Fin 512) (j : Fin 2048) :
    k0_pay3 (F := Ideal) x gi (ldW2 wi hw) (ldB2 bi hb) (ix2 r j)
      = geluK (preS (rowsBlk x gi go wi bi lg lb ws bs wo bo ⟨r.val / 64, by omega⟩) ⟨r.val % 64, by omega⟩ ⟨2048 + j.val, by omega⟩) := by
  have e : ∀ (w : FVec Ideal S1024x2048 .bf16) (b : FVec Ideal S1x2048 .f32),
      k0_pay3 (F := Ideal) x gi w b (ix2 r j) = geluK ((∑ k, k0_pay2 (F := Ideal) x gi (ix2 r k) * w (ix2 k j)) + b (ix2 0 j)) := by
    intro w b
    pointwise [k0_pay3]
    rw [IdealRules.named_const.ideal_named_scalar κ "gelu_c1" _ _ rfl]
    rfl
  rw [e]
  simp only [hidden_apply, ldW2_apply wi hw _ j, ldB2_apply bi hb j]
  rfl

/-- The layer norm. -/
theorem ln_apply (h : FVec Ideal S512x2048 .f32) (g b : FVec Ideal S1x2048 .f32) (r : Fin 512) (k : Fin 2048) :
    k0_pay5 (F := Ideal) h (k0_pay4 g) b (ix2 r k) = lnS (fun k => h (ix2 r k)) (fun k => g (ix2 0 k)) (fun k => b (ix2 0 k)) k := by
  pointwise [k0_pay5, k0_pay4]
  rfl

/-- The rows that are mixed. -/
theorem v_apply (hw) (hb) (r : Fin 512) (k : Fin 2048) :
    k0_pay5 (F := Ideal) (k0_pay3 x gi (ldW2 wi hw) (ldB2 bi hb)) (k0_pay4 lg) lb (ix2 r k)
      = vS geluK (rowsBlk x gi go wi bi lg lb ws bs wo bo ⟨r.val / 64, by omega⟩) ⟨r.val % 64, by omega⟩ k := by
  rw [ln_apply]
  simp only [gelu2_apply x gi go wi bi lg lb ws bs wo bo]
  rfl

/-- One cell at an index. -/
theorem cellV_apply (o : ℕ) (ho : o + 64 ≤ 512) (h) (u : FVec Ideal S512x512 .f32) (w : FVec Ideal S64x64 .bf16) (v : FVec Ideal S64x512 .bf16) (b : FVec Ideal S1x64x1 .f32)
    (s : Fin 64) (j : Fin 512) :
    cellV (F := Ideal) o h u w v b (ix2 s j) = u (ix2 ⟨o + s.val, by omega⟩ j) * ((∑ i, w (ix2 s i) * v (ix2 i j)) + b (ix3 0 s 0)) := by
  pointwise [cellV]

/-- A cell is the layer's gated product. -/
theorem cell_rows (n : ℕ) (hn : n < 8) (g : ℕ) (hg : g < 4) (o lo : ℕ) (ho : o = 64 * n) (hlo : lo = 512 * g) (h) (hw) (hb) (hm) (hs) (v : FVec Ideal S64x512 .bf16)
    (hv : ∀ (i : Fin 64) (j : Fin 512), v (ix2 i j) = vS geluK (rowsBlk x gi go wi bi lg lb ws bs wo bo ⟨n, hn⟩) i ⟨lo + j.val, by omega⟩)
    (s : Fin 64) (j : Fin 512) :
    cellV (F := Ideal) o h (k0_pay28 (k0_pay2 x gi) (ldW wi lo hw) (ldB bi lo hb)) (mixV (ldM ws g hm)) v (ldS bs g hs) (ix2 s j)
      = mixS geluK (rowsBlk x gi go wi bi lg lb ws bs wo bo ⟨n, hn⟩) s ⟨lo + j.val, by omega⟩ := by
  rw [cellV_apply o (by omega), gelu_apply x gi go wi bi lg lb ws bs wo bo lo (by omega)]
  simp only [mixV_apply, hv, ldM_apply ws g hm _ _ hg, ldS_apply bs g hs _ hg]
  unfold mixS gateS
  have eg : (⟨(lo + j.val) / 512, by omega⟩ : Fin 4) = ⟨g, hg⟩ := Fin.ext (by dsimp only; omega)
  have er : (⟨(o + s.val) / 64, by omega⟩ : Fin 8) = ⟨n, hn⟩ := Fin.ext (by dsimp only; omega)
  have es : (⟨(o + s.val) % 64, by omega⟩ : Fin 64) = s := Fin.ext (by dsimp only; omega)
  simp only [eg, er, es]
  rfl

/-- The last stage. -/
theorem back_apply (y : FVec Ideal S512x2048 .bf16)
    (hy : ∀ (r : Fin 512) (k : Fin 2048), y (ix2 r k)
      = mixS geluK (rowsBlk x gi go wi bi lg lb ws bs wo bo ⟨r.val / 64, by omega⟩) ⟨r.val % 64, by omega⟩ k)
    (b : Fin 8) (s : Fin 64) (n : Fin 1024) :
    k0_pay69 (F := Ideal) (k0_pay1 x) y wo bo go (ix3 b s n) = outS geluK (rowsBlk x gi go wi bi lg lb ws bs wo bo b) s n := by
  have hr : ∀ k, y (ix2 (⟨b.val * 64 + s.val, by omega⟩ : Fin 512) k) = mixS geluK (rowsBlk x gi go wi bi lg lb ws bs wo bo b) s k := by
    intro k
    rw [hy]
    congr 1
    · exact congrArg _ (Fin.ext (by dsimp only; omega))
    · exact Fin.ext (by dsimp only; omega)
  have hx : x (ix3 (⟨(b.val * 64 + s.val) / 64, by omega⟩ : Fin 8) (⟨(b.val * 64 + s.val) % 64, by omega⟩ : Fin 64) n) = x (ix3 b s n) := by
    have hb : (⟨(b.val * 64 + s.val) / 64, by omega⟩ : Fin 8) = b := Fin.ext (by dsimp only; omega)
    have hs : (⟨(b.val * 64 + s.val) % 64, by omega⟩ : Fin 64) = s := Fin.ext (by dsimp only; omega)
    rw [hb, hs]
  pointwise [k0_pay69, k0_pay1]
  simp only [hr]
  rfl

end Cert.GateMlp

end
-- ==== Proof.CmlpBlock.lean ====
/-
  The blocks a grid point of the spatial-gating MLP writes: the gated product is stored in 32 cells, read back whole and
  projected back.
-/
module

public import proofs.«01_k».proof.Proof.CmlpPay

@[expose] public section

set_option maxRecDepth 16384

noncomputable section

namespace Cert.GateMlp

open Cert.CmlpIdeal Cert.CmlpIdeal.Gen Idealize.ShloMosaic Idealize.ShloMosaic.TcCoe Cert.ConvFfn

variable (x : FVec Ideal S8x64x1024 .f32) (gi go : FVec Ideal S1x1024 .f32) (wi : FVec Ideal S1024x4096 .bf16) (bi : FVec Ideal S1x4096 .f32)
  (lg lb : FVec Ideal S1x2048 .f32) (ws : FVec Ideal S4x64x64 .f32) (bs : FVec Ideal S4x64x1 .f32) (wo : FVec Ideal S2048x1024 .bf16) (bo : FVec Ideal S1x1024 .f32)

/-- The rows that are mixed, of a grid point's eight sequences, one under the other. -/
def vBuf : S512x2048.Idx → Elt Ideal .bf16 := fun y =>
  vS geluK (rowsBlk x gi go wi bi lg lb ws bs wo bo ⟨(y 0).val / 64, by have h0 : (y 0).val < 512 := (y 0).isLt; omega⟩)
    ⟨(y 0).val % 64, Nat.mod_lt _ (by decide)⟩ ⟨(y 1).val, (y 1).isLt⟩

/-- The gated product of the 512 rows. -/
def mixBuf : S512x2048.Idx → Elt Ideal .bf16 := fun y =>
  mixS geluK (rowsBlk x gi go wi bi lg lb ws bs wo bo ⟨(y 0).val / 64, by have h0 : (y 0).val < 512 := (y 0).isLt; omega⟩)
    ⟨(y 0).val % 64, Nat.mod_lt _ (by decide)⟩ ⟨(y 1).val, (y 1).isLt⟩

/-- The layer's rows of a grid point's eight sequences. -/
def outBuf : S8x64x1024.Idx → Elt Ideal .f32 := fun y =>
  outS geluK (rowsBlk x gi go wi bi lg lb ws bs wo bo ⟨(y 0).val, (y 0).isLt⟩) ⟨(y 1).val, (y 1).isLt⟩ ⟨(y 2).val, (y 2).isLt⟩

/-- Their rows that are mixed. -/
def valBuf : S8x64x2048.Idx → Elt Ideal .f32 := fun y =>
  vS geluK (rowsBlk x gi go wi bi lg lb ws bs wo bo ⟨(y 0).val, (y 0).isLt⟩) ⟨(y 1).val, (y 1).isLt⟩ ⟨(y 2).val, (y 2).isLt⟩

/-- The stored rows, read back for one sequence and one group. -/
theorem v_load {κ' : Kind} {sp : Space} {v : View sig κ' sp S512x2048 .bf16} (hw) (hb) (n : ℕ) (hn : n < 8) (o lo : ℕ) (ho : o = 64 * n) (hlo : lo + 512 ≤ 2048)
    (hz : ∀ a, (![0, 0] : Fin S512x2048.rank → ℕ) a + (![512, 2048] : Fin S512x2048.rank → ℕ) a ≤ S512x2048.size a)
    (h : ∀ a, (![o, lo] : Fin S512x2048.rank → ℕ) a + (![64, 512] : Fin S512x2048.rank → ℕ) a ≤ S512x2048.size a) (i : Fin 64) (j : Fin 512) :
    View.readCov (Val := Elt Ideal) v [⟨Rect.unit (s := S512x2048) ![0, 0] ![512, 2048] hz,
        k0_pay7 (F := Ideal) (k0_pay3 x gi (ldW2 wi hw) (ldB2 bi hb)) (k0_pay4 lg) lb⟩]
      (Rect.unit (s := S512x2048) ![o, lo] ![64, 512] h).toLoadRect (ix2 (n0 := 64) (n1 := 512) i j)
      = vS geluK (rowsBlk x gi go wi bi lg lb ws bs wo bo ⟨n, hn⟩) i ⟨lo + j.val, by omega⟩ := by
  rw [View.readCov_eq_canon']
  refine (View.canon_apply_of_pieces (vBuf x gi go wi bi lg lb ws bs wo bo) _ ?_ _ ?_).trans ?_
  · refine View.PiecesOf.mem ⟨fun y => ?_, trivial⟩
    have h0 : (y 0).val < 512 := (y 0).isLt
    have h1 : (y 1).val < 2048 := (y 1).isLt
    have ey : y = ix2 (n0 := 512) (n1 := 2048) ⟨(y 0).val, h0⟩ ⟨(y 1).val, h1⟩ := by
      funext a; fin_cases a <;> rfl
    rw [ey]
    have e : k0_pay7 (F := Ideal) (k0_pay3 x gi (ldW2 wi hw) (ldB2 bi hb)) (k0_pay4 lg) lb (ix2 ⟨(y 0).val, h0⟩ ⟨(y 1).val, h1⟩)
        = k0_pay5 (F := Ideal) (k0_pay3 x gi (ldW2 wi hw) (ldB2 bi hb)) (k0_pay4 lg) lb (ix2 ⟨(y 0).val, h0⟩ ⟨(y 1).val, h1⟩) := by
      pointwise [k0_pay7]
    refine e.trans ?_
    rw [v_apply x gi go wi bi lg lb ws bs wo bo]
    unfold vBuf
    have e0 : (((Rect.unit (s := S512x2048) ![0, 0] ![512, 2048] hz).emb (ix2 (n0 := 512) (n1 := 2048) ⟨(y 0).val, h0⟩ ⟨(y 1).val, h1⟩)) 0).val = (y 0).val := by
      show 0 + 1 * (y 0).val = _; omega
    have e1 : (((Rect.unit (s := S512x2048) ![0, 0] ![512, 2048] hz).emb (ix2 (n0 := 512) (n1 := 2048) ⟨(y 0).val, h0⟩ ⟨(y 1).val, h1⟩)) 1).val = (y 1).val := by
      show 0 + 1 * (y 1).val = _; omega
    simp only [e0, e1]
  · exact View.cover_of_tiledL _ ![512, 2048] (by sl_kernel_rfl) _
  · unfold vBuf
    have e0 : (((Rect.unit (s := S512x2048) ![o, lo] ![64, 512] h).toLoadRect.idx (ix2 (n0 := 64) (n1 := 512) i j)) 0).val = o + i.val := by
      show o + 1 * i.val = _; omega
    have e1 : (((Rect.unit (s := S512x2048) ![o, lo] ![64, 512] h).toLoadRect.idx (ix2 (n0 := 64) (n1 := 512) i j)) 1).val = lo + j.val := by
      show lo + 1 * j.val = _; omega
    simp only [e0, e1]
    congr 1
    · exact congrArg _ (Fin.ext (by dsimp only; omega))
    · exact Fin.ext (by dsimp only; omega)

/-- A cell's store, as a piece of the gated product. -/
theorem cell_piece {κ' : Kind} {sp : Space} (v : View sig κ' sp S512x2048 .bf16) (n : ℕ) (hn : n < 8) (g : ℕ) (hg : g < 4) (o lo : ℕ) (ho : o = 64 * n) (hlo : lo = 512 * g)
    (hu) (hw) (hb) (hw2) (hb2) (hm) (hs) (hz : ∀ a, (![0, 0] : Fin S512x2048.rank → ℕ) a + (![512, 2048] : Fin S512x2048.rank → ℕ) a ≤ S512x2048.size a)
    (h : ∀ a, (![o, lo] : Fin S512x2048.rank → ℕ) a + (![64, 512] : Fin S512x2048.rank → ℕ) a ≤ S512x2048.size a)
    (y : (Rect.unit (s := S512x2048) ![o, lo] ![64, 512] h).shape.Idx) :
    cellV (F := Ideal) o hu (k0_pay28 (k0_pay2 x gi) (ldW wi lo hw) (ldB bi lo hb)) (mixV (ldM ws g hm))
      (View.readCov (Val := Elt Ideal) v [⟨Rect.unit (s := S512x2048) ![0, 0] ![512, 2048] hz,
        k0_pay7 (F := Ideal) (k0_pay3 x gi (ldW2 wi hw2) (ldB2 bi hb2)) (k0_pay4 lg) lb⟩]
        (Rect.unit (s := S512x2048) ![o, lo] ![64, 512] h).toLoadRect) (ldS bs g hs) y
      = mixBuf x gi go wi bi lg lb ws bs wo bo ((Rect.unit (s := S512x2048) ![o, lo] ![64, 512] h).emb y) := by
  have h0 : (y 0).val < 64 := (y 0).isLt
  have h1 : (y 1).val < 512 := (y 1).isLt
  have ey : y = ix2 (n0 := 64) (n1 := 512) ⟨(y 0).val, h0⟩ ⟨(y 1).val, h1⟩ := by
    funext a; fin_cases a <;> rfl
  rw [ey]
  refine (cell_rows x gi go wi bi lg lb ws bs wo bo n hn g hg o lo ho hlo hu hw hb hm hs _
    (v_load x gi go wi bi lg lb ws bs wo bo hw2 hb2 n hn o lo ho (by omega) hz h) _ _).trans ?_
  unfold mixBuf
  have e0 : (((Rect.unit (s := S512x2048) ![o, lo] ![64, 512] h).emb (ix2 (n0 := 64) (n1 := 512) ⟨(y 0).val, h0⟩ ⟨(y 1).val, h1⟩)) 0).val = o + (y 0).val := by
    show o + 1 * (y 0).val = _; omega
  have e1 : (((Rect.unit (s := S512x2048) ![o, lo] ![64, 512] h).emb (ix2 (n0 := 64) (n1 := 512) ⟨(y 0).val, h0⟩ ⟨(y 1).val, h1⟩)) 1).val = lo + (y 1).val := by
    show lo + 1 * (y 1).val = _; omega
  simp only [e0, e1]
  congr 1
  · exact congrArg _ (Fin.ext (by dsimp only; omega))
  · exact Fin.ext (by dsimp only; omega)

/-- The last stage, over cells that are the layer's. -/
theorem back_out {κ' : Kind} {sp : Space} {v : View sig κ' sp S512x2048 .bf16} {L : List (View.Piece (Elt Ideal) S512x2048 .bf16)}
    (hL : View.PiecesOf (mixBuf x gi go wi bi lg lb ws bs wo bo) L) (hc : ∀ y, ∃ p ∈ L, y ∈ p.1.set)
    (h : ∀ a, (![0, 0] : Fin S512x2048.rank → ℕ) a + (![512, 2048] : Fin S512x2048.rank → ℕ) a ≤ S512x2048.size a) :
    k0_pay69 (F := Ideal) (k0_pay1 x) (View.readCov (Val := Elt Ideal) v L (Rect.unit (s := S512x2048) ![0, 0] ![512, 2048] h).toLoadRect) wo bo go
      = outBuf x gi go wi bi lg lb ws bs wo bo := by
  funext y
  have ey : y = ix3 (n0 := 8) (n1 := 64) (n2 := 1024) ⟨(y 0).val, (y 0).isLt⟩ ⟨(y 1).val, (y 1).isLt⟩ ⟨(y 2).val, (y 2).isLt⟩ := by
    funext a; fin_cases a <;> rfl
  rw [ey]
  refine back_apply x gi go wi bi lg lb ws bs wo bo _ (fun r k => ?_) _ _ _
  rw [View.readCov_eq_canon']
  refine (View.canon_apply_of_pieces _ L hL.mem _ (hc _)).trans ?_
  unfold mixBuf
  have e0 : (((Rect.unit (s := S512x2048) ![0, 0] ![512, 2048] h).toLoadRect.idx (ix2 (n0 := 512) (n1 := 2048) r k)) 0).val = r.val := by
    show 0 + 1 * r.val = _; omega
  have e1 : (((Rect.unit (s := S512x2048) ![0, 0] ![512, 2048] h).toLoadRect.idx (ix2 (n0 := 512) (n1 := 2048) r k)) 1).val = k.val := by
    show 0 + 1 * k.val = _; omega
  simp only [e0, e1]

/-- The second output block. -/
theorem val_out (hw) (hb) : k0_pay6 (F := Ideal) (k0_pay3 x gi (ldW2 wi hw) (ldB2 bi hb)) (k0_pay4 lg) lb = valBuf x gi go wi bi lg lb ws bs wo bo := by
  funext y
  have ey : y = ix3 (n0 := 8) (n1 := 64) (n2 := 2048) ⟨(y 0).val, (y 0).isLt⟩ ⟨(y 1).val, (y 1).isLt⟩ ⟨(y 2).val, (y 2).isLt⟩ := by
    funext a; fin_cases a <;> rfl
  rw [ey]
  have h0 : (y 0).val < 8 := (y 0).isLt
  have h1 : (y 1).val < 64 := (y 1).isLt
  have h2 : (y 2).val < 2048 := (y 2).isLt
  have e : k0_pay6 (F := Ideal) (k0_pay3 x gi (ldW2 wi hw) (ldB2 bi hb)) (k0_pay4 lg) lb (ix3 ⟨(y 0).val, h0⟩ ⟨(y 1).val, h1⟩ ⟨(y 2).val, h2⟩)
      = k0_pay5 (F := Ideal) (k0_pay3 x gi (ldW2 wi hw) (ldB2 bi hb)) (k0_pay4 lg) lb (ix2 ⟨(y 0).val * 64 + (y 1).val, by omega⟩ ⟨(y 2).val, h2⟩) := by
    pointwise [k0_pay6]
  refine e.trans ?_
  rw [v_apply x gi go wi bi lg lb ws bs wo bo]
  unfold valBuf
  congr 1
  · exact congrArg _ (Fin.ext (by show ((y 0).val * 64 + (y 1).val) / 64 = (y 0).val; omega))
  · exact Fin.ext (by show ((y 0).val * 64 + (y 1).val) % 64 = (y 1).val; omega)

end Cert.GateMlp

end
-- ==== Proof.CmlpPoint.lean ====
/-
  What a grid point's body leaves in the two output blocks, as the layer's rows of the point's input blocks.
-/
module

public import proofs.«01_k».proof.Proof.CmlpBlock

@[expose] public section

set_option maxRecDepth 16384

noncomputable section

namespace Cert.CmlpIdeal.Value

open Cert.CmlpIdeal Cert.CmlpIdeal.Gen Idealize.ShloMosaic Idealize.ShloMosaic.TcCoe Idealize.SL.Sem Cert.GateMlp

variable (m : (ℓ : Loc nD τ sig) → Buf (Elt Ideal) ℓ)

/-- The rows a grid point writes. -/
theorem out_point (c : Dev nD) (t : Fin cfg0.N) :
    (outsAt0 m c t).1 = outBuf (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  unfold outsAt0
  frame_open
  frame_out
  refine back_out (iblk m c 0 t) (iblk m c 1 t) (iblk m c 2 t) (iblk m c 3 t) (iblk m c 4 t) (iblk m c 5 t) (iblk m c 6 t) (iblk m c 7 t) (iblk m c 8 t) (iblk m c 9 t) (iblk m c 10 t) ?_ (View.cover_of_tiledL _ ![64, 512] (by sl_kernel_rfl)) _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 7 (by decide) 3 (by decide) 448 1536 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 6 (by decide) 3 (by decide) 384 1536 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 5 (by decide) 3 (by decide) 320 1536 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 4 (by decide) 3 (by decide) 256 1536 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 3 (by decide) 3 (by decide) 192 1536 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 2 (by decide) 3 (by decide) 128 1536 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 1 (by decide) 3 (by decide) 64 1536 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 0 (by decide) 3 (by decide) 0 1536 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 7 (by decide) 2 (by decide) 448 1024 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 6 (by decide) 2 (by decide) 384 1024 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 5 (by decide) 2 (by decide) 320 1024 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 4 (by decide) 2 (by decide) 256 1024 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 3 (by decide) 2 (by decide) 192 1024 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 2 (by decide) 2 (by decide) 128 1024 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 1 (by decide) 2 (by decide) 64 1024 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 0 (by decide) 2 (by decide) 0 1024 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 7 (by decide) 1 (by decide) 448 512 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 6 (by decide) 1 (by decide) 384 512 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 5 (by decide) 1 (by decide) 320 512 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 4 (by decide) 1 (by decide) 256 512 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 3 (by decide) 1 (by decide) 192 512 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 2 (by decide) 1 (by decide) 128 512 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 1 (by decide) 1 (by decide) 64 512 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 0 (by decide) 1 (by decide) 0 512 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 7 (by decide) 0 (by decide) 448 0 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 6 (by decide) 0 (by decide) 384 0 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 5 (by decide) 0 (by decide) 320 0 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 4 (by decide) 0 (by decide) 256 0 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 3 (by decide) 0 (by decide) 192 0 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 2 (by decide) 0 (by decide) 128 0 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 1 (by decide) 0 (by decide) 64 0 rfl rfl _ _ _ _ _ _ _ _ (by decide)
  · exact cell_piece (iblk m c 0 t) (iblk m c 1 t) (iblk m c 2 t) (iblk m c 3 t) (iblk m c 4 t) (iblk m c 5 t) (iblk m c 6 t) (iblk m c 7 t) (iblk m c 8 t) (iblk m c 9 t) (iblk m c 10 t) _ 0 (by decide) 0 (by decide) 0 0 rfl rfl _ _ _ _ _ _ _ _ (by decide)

/-- The rows that it mixes. -/
theorem val_point (c : Dev nD) (t : Fin cfg0.N) :
    (outsAt0 m c t).2 = valBuf (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  unfold outsAt0
  frame_open
  frame_out
  exact val_out (iblk m c 0 t) (iblk m c 1 t) (iblk m c 2 t) (iblk m c 3 t) (iblk m c 4 t) (iblk m c 5 t) (iblk m c 6 t) (iblk m c 7 t) (iblk m c 8 t) (iblk m c 9 t) (iblk m c 10 t) _ _

end Cert.CmlpIdeal.Value

end
-- ==== Proof.CmlpRefValue.lean ====
/-
  The reference of the spatial-gating MLP layer, its two results read at an index: the layer with the reference's gelu.
-/
module

public import proofs.«01_k».proof.Proof.CmlpSpec
public import proofs.«01_k».proof.Proof.Gen.CmlpRefIdeal.Read

@[expose] public section

set_option maxRecDepth 16384

noncomputable section

namespace Cert.GateMlp

open Cert.CmlpRefIdeal Cert.CmlpRefIdeal.Gen Cert.CmlpRefIdeal.Read Idealize.ShloMosaic Cert.ConvFfn

variable (x0 : FVec Ideal S16x64x1024 .f32) (x1 x2 : FVec Ideal S1024 .f32) (x3 : FVec Ideal S1024x4096 .f32)
  (x4 : FVec Ideal S4096 .f32) (x5 x6 : FVec Ideal S2048 .f32) (x7 : FVec Ideal S4x128x128 .f32) (x8 : FVec Ideal S4x128 .f32)
  (x9 : FVec Ideal S2048x1024 .f32) (x10 : FVec Ideal S1024 .f32)

/-- One sequence's share of the argument arrays. -/
def rowsOf (b : Fin 16) : Rows where
  x t k := x0 (ix3 b t k)
  gi k := x1 (ix1 k)
  go k := x2 (ix1 k)
  wi k l := x3 (ix2 k l)
  bi l := x4 (ix1 l)
  lg k := x5 (ix1 k)
  lb k := x6 (ix1 k)
  ws g i j := x7 (ix3 g ⟨i.val, by omega⟩ ⟨j.val, by omega⟩)
  bs g i := x8 (ix2 g ⟨i.val, by omega⟩)
  wo k n := x9 (ix2 k n)
  bo n := x10 (ix1 n)

/-- The normed rows. -/
theorem refHidden (b : Fin 16) (t : Fin 64) (k : Fin 1024) : val_main_v12 (F := Ideal) x0 x1 (ix3 b t k)
    = x0 (ix3 b t k) * rmsS (fun k => x0 (ix3 b t k)) * x1 (ix1 k) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The projection. -/
theorem refPre (b : Fin 16) (t : Fin 64) (l : Fin 4096) : val_main_v16 (F := Ideal) x0 x1 x3 x4 (ix3 b t l)
    = preS (rowsOf x0 x1 x2 x3 x4 x5 x6 x7 x8 x9 x10 b) t l := by
  pointwise [val_main_v16, val_main_v15, val_main_v14, val_main_v13, refHidden]
  rfl

/-- The gelu of the projection. -/
theorem refGelu (b : Fin 16) (t : Fin 64) (l : Fin 4096) : val_main_v29 (F := Ideal) x0 x1 x3 x4 (ix3 b t l)
    = geluR (preS (rowsOf x0 x1 x2 x3 x4 x5 x6 x7 x8 x9 x10 b) t l) := by
  pointwise [val_main_v29, val_main_v28, val_main_v27, val_main_v26, val_main_v25, val_main_v24, val_main_v23, val_main_v22, val_main_v21, val_main_v20, val_main_v19, val_main_v18, val_main_v17, val_main_cst_2, val_main_cst_3, val_main_cst_4, val_main_cst_5]
  rw [refPre x0 x1 x2 x3 x4 x5 x6 x7 x8 x9 x10]
  rfl

/-- The rows that are mixed. -/
theorem refV (b : Fin 16) (t : Fin 64) (k : Fin 2048) : val_main_v55 (F := Ideal) x0 x1 x3 x4 x5 x6 (ix3 b t k)
    = vS geluR (rowsOf x0 x1 x2 x3 x4 x5 x6 x7 x8 x9 x10 b) t k := by
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_cst_6, val_main_cst_7, val_main_cst_8, val_main_cst_9, val_main_cst_10]
  simp only [refGelu x0 x1 x2 x3 x4 x5 x6 x7 x8 x9 x10]
  rfl

/-- All positions lie in one chunk, so the mask keeps every entry. -/
theorem refMask (i j : Fin 64) : val_main_v64 (F := Ideal) (ix2 i j) = 1#1 := by
  have e0 : ∀ j : Fin 64, val_main_v59 (F := Ideal) (ix2 0 j) = 0#32 := by
    intro j
    pointwise [val_main_v59, val_main_call0_v13, val_main_call0_v12, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_c, val_main_call0_c_0, val_main_c, val_main_v58, val_main_v57]
    revert j
    decide
  have e1 : ∀ i : Fin 64, val_main_v61 (F := Ideal) (ix2 i 0) = 0#32 := by
    intro i
    pointwise [val_main_v61, val_main_call1_v13, val_main_call1_v12, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_c, val_main_call1_c_0, val_main_c_11, val_main_v60, val_main_v57]
    revert i
    decide
  pointwise [val_main_v64, val_main_v63, val_main_v62]
  rw [e0, e1]
  rfl

/-- So the mixing matrices are the argument's leading blocks. -/
theorem refWs (g : Fin 4) (i j : Fin 64) : val_main_v66 (F := Ideal) x7 (ix3 g i j) = x7 (ix3 g ⟨i.val, by omega⟩ ⟨j.val, by omega⟩) := by
  pointwise [val_main_v66, val_main_v65, val_main_call2_v2, val_main_call2_v1, val_main_call2_v0, val_main_cst_12]
  rw [refMask]
  rfl

/-- The gated product. -/
theorem refMix (b : Fin 16) (t : Fin 64) (k : Fin 2048) : val_main_v75 (F := Ideal) x0 x1 x3 x4 x5 x6 x7 x8 (ix3 b t k)
    = mixS geluR (rowsOf x0 x1 x2 x3 x4 x5 x6 x7 x8 x9 x10 b) t k := by
  pointwise [val_main_v75, val_main_v74, val_main_v73, val_main_v72, val_main_v71, val_main_v70, val_main_v69, val_main_v68, val_main_v67, val_main_v56, val_main_v30]
  simp only [refGelu x0 x1 x2 x3 x4 x5 x6 x7 x8 x9 x10, refV x0 x1 x2 x3 x4 x5 x6 x7 x8 x9 x10, refWs]
  simp only [mul_comm (vS _ _ _ _)]
  rfl

/-- The first result. -/
theorem refOut (b : Fin 16) (t : Fin 64) (n : Fin 1024) : val_main_v93 (F := Ideal) x0 x1 x2 x3 x4 x5 x6 x7 x8 x9 x10 (ix3 b t n)
    = outS geluR (rowsOf x0 x1 x2 x3 x4 x5 x6 x7 x8 x9 x10 b) t n := by
  pointwise [val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_cst_13, val_main_cst_14, val_main_cst_15]
  simp only [refMix x0 x1 x2 x3 x4 x5 x6 x7 x8 x9 x10]
  rfl

end Cert.GateMlp

end
-- ==== Proof.CmlpValue.lean ====
/-
  The two result arrays of the spatial-gating MLP after the run, at an index, as the layer's rows of the argument arrays.
-/
module

public import proofs.«01_k».proof.Proof.CmlpPoint
public import proofs.«01_k».proof.Proof.CmlpRefValue

@[expose] public section

set_option maxRecDepth 16384

noncomputable section

namespace Cert.CmlpIdeal.Value

open Cert.CmlpIdeal Cert.CmlpIdeal.Gen Idealize.ShloMosaic Idealize.ShloMosaic.TcCoe Idealize.SL.Sem Cert.GateMlp

open Cert.ConvFfn (geluK)

variable (m : (ℓ : Loc nD τ sig) → Buf (Elt Ideal) ℓ)

/-- The windows' blocks: eight sequences a grid point, and the whole of the weights. -/
theorem at_x : ∀ t : Fin cfg0.N, win0_0.index t = ![t.val, 0, 0] := (by decide +kernel : ∀ t : Fin grid0.N, win0_0.index t = ![t.val, 0, 0])
theorem at_gain_in : ∀ t : Fin cfg0.N, win0_1.index t = ![0, 0] := (by decide +kernel : ∀ t : Fin grid0.N, win0_1.index t = ![0, 0])
theorem at_gain_out : ∀ t : Fin cfg0.N, win0_2.index t = ![0, 0] := (by decide +kernel : ∀ t : Fin grid0.N, win0_2.index t = ![0, 0])
theorem at_proj : ∀ t : Fin cfg0.N, win0_3.index t = ![0, 0] := (by decide +kernel : ∀ t : Fin grid0.N, win0_3.index t = ![0, 0])
theorem at_proj_bias : ∀ t : Fin cfg0.N, win0_4.index t = ![0, 0] := (by decide +kernel : ∀ t : Fin grid0.N, win0_4.index t = ![0, 0])
theorem at_norm_gain : ∀ t : Fin cfg0.N, win0_5.index t = ![0, 0] := (by decide +kernel : ∀ t : Fin grid0.N, win0_5.index t = ![0, 0])
theorem at_norm_bias : ∀ t : Fin cfg0.N, win0_6.index t = ![0, 0] := (by decide +kernel : ∀ t : Fin grid0.N, win0_6.index t = ![0, 0])
theorem at_mix : ∀ t : Fin cfg0.N, win0_7.index t = ![0, 0, 0] := (by decide +kernel : ∀ t : Fin grid0.N, win0_7.index t = ![0, 0, 0])
theorem at_mix_bias : ∀ t : Fin cfg0.N, win0_8.index t = ![0, 0, 0] := (by decide +kernel : ∀ t : Fin grid0.N, win0_8.index t = ![0, 0, 0])
theorem at_back : ∀ t : Fin cfg0.N, win0_9.index t = ![0, 0] := (by decide +kernel : ∀ t : Fin grid0.N, win0_9.index t = ![0, 0])
theorem at_back_bias : ∀ t : Fin cfg0.N, win0_10.index t = ![0, 0] := (by decide +kernel : ∀ t : Fin grid0.N, win0_10.index t = ![0, 0])
theorem at_out : ∀ t : Fin cfg0.N, win0_11.index t = ![t.val, 0, 0] := (by decide +kernel : ∀ t : Fin grid0.N, win0_11.index t = ![t.val, 0, 0])
theorem at_val : ∀ t : Fin cfg0.N, win0_12.index t = ![t.val, 0, 0] := (by decide +kernel : ∀ t : Fin grid0.N, win0_12.index t = ![t.val, 0, 0])

/-- The sequence that a grid point's block holds at `b`. -/
def seqOf (t : Fin cfg0.N) (b : Fin 8) : Fin 16 := ⟨t.val * 8 + b.val, by have h : t.val < 2 := t.isLt; omega⟩

theorem blk_x (c : Dev nD) (t : Fin cfg0.N) (b : Fin 8) (s : Fin 64) (k : Fin 1024) : iblk m c 0 t (ix3 b s k) = m ((c : Thread nD τ).loc main_arg0) (ix3 (seqOf t b) s k) := by
  blk_point [iblk, V, at_x t]
  try rfl
theorem blk_gain_in (c : Dev nD) (t : Fin cfg0.N) (k : Fin 1024) : iblk m c 1 t (ix2 0 k) = m ((c : Thread nD τ).loc main_arg1) (ix1 k) := by
  blk_point [iblk, V, at_gain_in t]
theorem blk_gain_out (c : Dev nD) (t : Fin cfg0.N) (k : Fin 1024) : iblk m c 2 t (ix2 0 k) = m ((c : Thread nD τ).loc main_arg2) (ix1 k) := by
  blk_point [iblk, V, at_gain_out t]
theorem blk_proj (c : Dev nD) (t : Fin cfg0.N) (k : Fin 1024) (l : Fin 4096) : iblk m c 3 t (ix2 k l) = m ((c : Thread nD τ).loc main_arg3) (ix2 k l) := by
  blk_point [iblk, V, at_proj t]
theorem blk_proj_bias (c : Dev nD) (t : Fin cfg0.N) (l : Fin 4096) : iblk m c 4 t (ix2 0 l) = m ((c : Thread nD τ).loc main_arg4) (ix1 l) := by
  blk_point [iblk, V, at_proj_bias t]
theorem blk_norm_gain (c : Dev nD) (t : Fin cfg0.N) (k : Fin 2048) : iblk m c 5 t (ix2 0 k) = m ((c : Thread nD τ).loc main_arg5) (ix1 k) := by
  blk_point [iblk, V, at_norm_gain t]
theorem blk_norm_bias (c : Dev nD) (t : Fin cfg0.N) (k : Fin 2048) : iblk m c 6 t (ix2 0 k) = m ((c : Thread nD τ).loc main_arg6) (ix1 k) := by
  blk_point [iblk, V, at_norm_bias t]
theorem blk_mix (c : Dev nD) (t : Fin cfg0.N) (g : Fin 4) (i j : Fin 64) : iblk m c 7 t (ix3 g i j) = m ((c : Thread nD τ).loc main_arg7) (ix3 g ⟨i.val, by omega⟩ ⟨j.val, by omega⟩) := by
  blk_point [iblk, V, at_mix t]
theorem blk_mix_bias (c : Dev nD) (t : Fin cfg0.N) (g : Fin 4) (i : Fin 64) : iblk m c 8 t (ix3 g i 0) = m ((c : Thread nD τ).loc main_arg8) (ix2 g ⟨i.val, by omega⟩) := by
  blk_point [iblk, V, at_mix_bias t]
theorem blk_back (c : Dev nD) (t : Fin cfg0.N) (k : Fin 2048) (n : Fin 1024) : iblk m c 9 t (ix2 k n) = m ((c : Thread nD τ).loc main_arg9) (ix2 k n) := by
  blk_point [iblk, V, at_back t]
theorem blk_back_bias (c : Dev nD) (t : Fin cfg0.N) (n : Fin 1024) : iblk m c 10 t (ix2 0 n) = m ((c : Thread nD τ).loc main_arg10) (ix1 n) := by
  blk_point [iblk, V, at_back_bias t]

/-- One sequence's share of the argument arrays. -/
abbrev argRows (c : Dev nD) (b : Fin 16) : Rows :=
  rowsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b

/-- A block's rows are the arrays'. -/
theorem rows_eq (c : Dev nD) (t : Fin cfg0.N) (b : Fin 8) :
    rowsBlk (iblk m c 0 t) (iblk m c 1 t) (iblk m c 2 t) (iblk m c 3 t) (iblk m c 4 t) (iblk m c 5 t) (iblk m c 6 t) (iblk m c 7 t) (iblk m c 8 t) (iblk m c 9 t) (iblk m c 10 t) b = argRows m c (seqOf t b) := by
  unfold rowsBlk argRows rowsOf
  simp only [blk_x, blk_gain_in, blk_gain_out, blk_proj, blk_proj_bias, blk_norm_gain, blk_norm_bias, blk_mix, blk_mix_bias, blk_back, blk_back_bias]

/-- The first result array. -/
theorem out_array (c : Dev nD) :
    (dats m 0 c).arrAt 11 cfg0.N = fun i : S16x64x1024.Idx => outS geluK (argRows m c ⟨(i 0).val, (i 0).isLt⟩) ⟨(i 1).val, (i 1).isLt⟩ ⟨(i 2).val, (i 2).isLt⟩ := by
  refine (dats m 0 c).arrAt_eq_of_covers 11 _ (by decide +kernel) fun t hf y => ?_
  blk_simp
  rw [after0_11, out_point]
  unfold outBuf
  rw [rows_eq]
  have e0 : win0_11.index t 0 * 8 + (y 0).val = t.val * 8 + (y 0).val := by rw [at_out t]; rfl
  have e1 : win0_11.index t 1 * 64 + (y 1).val = (y 1).val := by rw [at_out t]; exact Nat.zero_add _
  have e2 : win0_11.index t 2 * 1024 + (y 2).val = (y 2).val := by rw [at_out t]; exact Nat.zero_add _
  simp only [e0, e1, e2]
  rfl

/-- The second. -/
theorem val_array (c : Dev nD) :
    (dats m 0 c).arrAt 12 cfg0.N = fun i : S16x64x2048.Idx => vS geluK (argRows m c ⟨(i 0).val, (i 0).isLt⟩) ⟨(i 1).val, (i 1).isLt⟩ ⟨(i 2).val, (i 2).isLt⟩ := by
  refine (dats m 0 c).arrAt_eq_of_covers 12 _ (by decide +kernel) fun t hf y => ?_
  blk_simp
  rw [after0_12, val_point]
  unfold valBuf
  rw [rows_eq]
  have e0 : win0_12.index t 0 * 8 + (y 0).val = t.val * 8 + (y 0).val := by rw [at_val t]; rfl
  have e1 : win0_12.index t 1 * 64 + (y 1).val = (y 1).val := by rw [at_val t]; exact Nat.zero_add _
  have e2 : win0_12.index t 2 * 2048 + (y 2).val = (y 2).val := by rw [at_val t]; exact Nat.zero_add _
  simp only [e0, e1, e2]
  rfl

end Cert.CmlpIdeal.Value

end
-- ==== Proof.CmlpPre.lean ====
/-
  The precondition of the spatial-gating MLP call, decoded: the three arrays it names hold real numbers.
-/
module

public import proofs.«01_k».proof.Proof.Pre
public import proofs.«01_k».proof.Proof.Gen.Pre_cmlp_args_finite

@[expose] public section

set_option maxRecDepth 16384

noncomputable section

namespace Cert.GateMlp

open Cert.Pre_cmlp_args_finite Cert.Pre_cmlp_args_finite.Gen Idealize.ShloMosaic Cert.ConvFfn

variable (x0 : FVec Ideal S16x64x1024 .f32) (x1 x2 : FVec Ideal S1024 .f32) (x3 : FVec Ideal S1024x4096 .f32)
  (x4 : FVec Ideal S4096 .f32) (x5 x6 : FVec Ideal S2048 .f32) (x7 : FVec Ideal S4x128x128 .f32) (x8 : FVec Ideal S4x128 .f32)
  (x9 : FVec Ideal S2048x1024 .f32) (x10 : FVec Ideal S1024 .f32)

/-- The arrays that the precondition names hold real numbers. -/
theorem reals_of_pre (h : fn (F := Ideal) x0 x1 x2 x3 x4 x5 x6 x7 x8 x9 x10 = fun _ => 1#1) :
    (∀ i, Real' (x1 i)) ∧ (∀ i, Real' (x3 i)) ∧ ∀ i, Real' (x4 i) := by
  have : Subsingleton S_.Idx := ⟨fun a b => funext fun k => k.elim0⟩
  have e := congrFun h (fun k => k.elim0)
  obtain ⟨e, e4⟩ := IntOp.andi_eq_one.1 e
  obtain ⟨e1, e3⟩ := IntOp.andi_eq_one.1 e
  exact ⟨fun i => real_of_cmp (Host.reduce_andi_all _ _ _ _ _ e1 i), fun i => real_of_cmp (Host.reduce_andi_all _ _ _ _ _ e3 i),
    fun i => real_of_cmp (Host.reduce_andi_all _ _ _ _ _ e4 i)⟩

end Cert.GateMlp

end
-- ==== Proof.CmlpClaims.lean ====
/-
  The claims about the spatial-gating MLP call, each on its own: the frames, what the idealization changes, and the
  equality of the results.
-/
module

public import proofs.«01_k».proof.Defs
public import proofs.«01_k».proof.Proof.Gen.Cmlp.Frame
public import proofs.«01_k».proof.Proof.CmlpValue
public import proofs.«01_k».proof.Proof.CmlpPre

@[expose] public section

set_option maxRecDepth 16384

noncomputable section

namespace Cert.Proof.Cmlp

open Idealize.ShloMosaic Idealize.ShloMosaic.TcCoe Idealize.SL.Sem Cert.GateMlp

open Cert.ConvFfn (geluK)

/-- The kernel runs, keeps its arguments and ends with every semaphore at zero, on words and on the extended reals. -/
theorem frame_kernel : Cert.quiescent_Cmlp := fun m ρ _ => Cert.Cmlp.Gen.frame m ρ
theorem frame_ideal : Cert.quiescent_CmlpIdeal := fun m ρ _ => Cert.CmlpIdeal.Gen.frame m ρ
theorem frame_ideal_pre : Cert.quiescent_CmlpIdeal_pre_cmlp_args_finite := fun m ρ _ => Cert.CmlpIdeal.Gen.frame m ρ

/-- The reference's run; it declares no semaphore. -/
theorem frame_ref : Cert.quiescent_CmlpRefIdeal := fun m ρ _ =>
  (θ_run Cert.CmlpRefIdeal.defs _ _).mono (fun r h => ⟨fun c => (h c).2.2,
      Idealize.ShloMosaic.sem_eq_zero_of_no_sems (by decide) r.2⟩)
    (Cert.CmlpRefIdeal.Value.run (F := Ideal) m ρ)
theorem frame_ref_pre : Cert.quiescent_CmlpRefIdeal_pre_cmlp_args_finite := fun m ρ _ => frame_ref m ρ trivial

/-- The named constant lies within its literal's rounding. -/
theorem preserves : Cert.preserves_Cmlp_CmlpIdeal :=
  IdealRules.named_const.statement Cert.CmlpIdeal.κ "gelu_c1" .f32 0x3D122279#32 ((80338380498831 / 2251799813685248 : ℝ) : EReal) rfl

/-- Where the arguments named by the precondition are real, so is each sequence's share of them. -/
theorem rows_real (m : (ℓ : Loc Cert.CmlpIdeal.nD Cert.CmlpIdeal.τ Cert.CmlpIdeal.sig) → Buf (Elt Ideal) ℓ) (h : Cert.Pre_CmlpIdeal_cmlp_args_finite m)
    (c : Dev Cert.CmlpIdeal.nD) (b : Fin 16) : (Cert.CmlpIdeal.Value.argRows m c b).Fin' := by
  obtain ⟨h1, h3, h4⟩ := reals_of_pre _ _ _ _ _ _ _ _ _ _ _ (h c)
  exact ⟨fun _ => h1 _, fun _ _ => h3 _, fun _ => h4 _⟩

/-- At the extended reals the kernel's two results are the reference's. -/
theorem algebraic : Cert.algebraic_CmlpIdeal_CmlpRefIdeal_pre_cmlp_args_finite := by
  intro m ρ m' ρ' hpre hagree
  refine ⟨_, _, Cert.CmlpIdeal.Value.run_blocks (F := Ideal) m ρ, ?_⟩
  refine (θ_run Cert.CmlpRefIdeal.defs _ _).mono (fun _ h c => ⟨(h c).1.trans ?_, (h c).2.1.trans ?_, (h c).2.2⟩)
    (Cert.CmlpRefIdeal.Value.run (F := Ideal) m' ρ')
  · rw [Cert.CmlpIdeal.Value.out_array, Cert.CmlpRefIdeal.Read.val_main_v93_eq]
    obtain ⟨a0, a1, a2, a3, a4, a5, a6, a7, a8, a9, a10⟩ := hagree c
    have q : Cert.CmlpRefIdeal.Read.val_main_v93 (F := Ideal) (m' ((c.tc : Thread Cert.CmlpRefIdeal.nD Cert.CmlpRefIdeal.τ).loc Cert.CmlpRefIdeal.main_arg0)) (m' ((c.tc : Thread Cert.CmlpRefIdeal.nD Cert.CmlpRefIdeal.τ).loc Cert.CmlpRefIdeal.main_arg1)) (m' ((c.tc : Thread Cert.CmlpRefIdeal.nD Cert.CmlpRefIdeal.τ).loc Cert.CmlpRefIdeal.main_arg2)) (m' ((c.tc : Thread Cert.CmlpRefIdeal.nD Cert.CmlpRefIdeal.τ).loc Cert.CmlpRefIdeal.main_arg3)) (m' ((c.tc : Thread Cert.CmlpRefIdeal.nD Cert.CmlpRefIdeal.τ).loc Cert.CmlpRefIdeal.main_arg4)) (m' ((c.tc : Thread Cert.CmlpRefIdeal.nD Cert.CmlpRefIdeal.τ).loc Cert.CmlpRefIdeal.main_arg5)) (m' ((c.tc : Thread Cert.CmlpRefIdeal.nD Cert.CmlpRefIdeal.τ).loc Cert.CmlpRefIdeal.main_arg6)) (m' ((c.tc : Thread Cert.CmlpRefIdeal.nD Cert.CmlpRefIdeal.τ).loc Cert.CmlpRefIdeal.main_arg7)) (m' ((c.tc : Thread Cert.CmlpRefIdeal.nD Cert.CmlpRefIdeal.τ).loc Cert.CmlpRefIdeal.main_arg8)) (m' ((c.tc : Thread Cert.CmlpRefIdeal.nD Cert.CmlpRefIdeal.τ).loc Cert.CmlpRefIdeal.main_arg9)) (m' ((c.tc : Thread Cert.CmlpRefIdeal.nD Cert.CmlpRefIdeal.τ).loc Cert.CmlpRefIdeal.main_arg10))
        = fun i : Cert.CmlpIdeal.S16x64x1024.Idx => outS geluK (Cert.CmlpIdeal.Value.argRows m c ⟨(i 0).val, (i 0).isLt⟩) ⟨(i 1).val, (i 1).isLt⟩ ⟨(i 2).val, (i 2).isLt⟩ := by
      rw [a0, a1, a2, a3, a4, a5, a6, a7, a8, a9, a10]
      funext i
      have e := refOut (m ((c.tc : Thread Cert.CmlpIdeal.nD Cert.CmlpIdeal.τ).loc Cert.CmlpIdeal.main_arg0)) (m ((c.tc : Thread Cert.CmlpIdeal.nD Cert.CmlpIdeal.τ).loc Cert.CmlpIdeal.main_arg1)) (m ((c.tc : Thread Cert.CmlpIdeal.nD Cert.CmlpIdeal.τ).loc Cert.CmlpIdeal.main_arg2)) (m ((c.tc : Thread Cert.CmlpIdeal.nD Cert.CmlpIdeal.τ).loc Cert.CmlpIdeal.main_arg3)) (m ((c.tc : Thread Cert.CmlpIdeal.nD Cert.CmlpIdeal.τ).loc Cert.CmlpIdeal.main_arg4)) (m ((c.tc : Thread Cert.CmlpIdeal.nD Cert.CmlpIdeal.τ).loc Cert.CmlpIdeal.main_arg5)) (m ((c.tc : Thread Cert.CmlpIdeal.nD Cert.CmlpIdeal.τ).loc Cert.CmlpIdeal.main_arg6)) (m ((c.tc : Thread Cert.CmlpIdeal.nD Cert.CmlpIdeal.τ).loc Cert.CmlpIdeal.main_arg7)) (m ((c.tc : Thread Cert.CmlpIdeal.nD Cert.CmlpIdeal.τ).loc Cert.CmlpIdeal.main_arg8)) (m ((c.tc : Thread Cert.CmlpIdeal.nD Cert.CmlpIdeal.τ).loc Cert.CmlpIdeal.main_arg9)) (m ((c.tc : Thread Cert.CmlpIdeal.nD Cert.CmlpIdeal.τ).loc Cert.CmlpIdeal.main_arg10)) (i 0) (i 1) (i 2)
      rw [← outS_eq _ (rows_real m hpre c (i 0))] at e
      refine Eq.trans (congrArg _ ?_) e
      funext a; fin_cases a <;> rfl
    exact q
  · rw [Cert.CmlpIdeal.Value.val_array, Cert.CmlpRefIdeal.Read.val_main_v55_eq]
    obtain ⟨a0, a1, a2, a3, a4, a5, a6, a7, a8, a9, a10⟩ := hagree c
    have q : Cert.CmlpRefIdeal.Read.val_main_v55 (F := Ideal) (m' ((c.tc : Thread Cert.CmlpRefIdeal.nD Cert.CmlpRefIdeal.τ).loc Cert.CmlpRefIdeal.main_arg0)) (m' ((c.tc : Thread Cert.CmlpRefIdeal.nD Cert.CmlpRefIdeal.τ).loc Cert.CmlpRefIdeal.main_arg1)) (m' ((c.tc : Thread Cert.CmlpRefIdeal.nD Cert.CmlpRefIdeal.τ).loc Cert.CmlpRefIdeal.main_arg3)) (m' ((c.tc : Thread Cert.CmlpRefIdeal.nD Cert.CmlpRefIdeal.τ).loc Cert.CmlpRefIdeal.main_arg4)) (m' ((c.tc : Thread Cert.CmlpRefIdeal.nD Cert.CmlpRefIdeal.τ).loc Cert.CmlpRefIdeal.main_arg5)) (m' ((c.tc : Thread Cert.CmlpRefIdeal.nD Cert.CmlpRefIdeal.τ).loc Cert.CmlpRefIdeal.main_arg6))
        = fun i : Cert.CmlpIdeal.S16x64x2048.Idx => vS geluK (Cert.CmlpIdeal.Value.argRows m c ⟨(i 0).val, (i 0).isLt⟩) ⟨(i 1).val, (i 1).isLt⟩ ⟨(i 2).val, (i 2).isLt⟩ := by
      rw [a0, a1, a3, a4, a5, a6]
      funext i
      have e := refV (m ((c.tc : Thread Cert.CmlpIdeal.nD Cert.CmlpIdeal.τ).loc Cert.CmlpIdeal.main_arg0)) (m ((c.tc : Thread Cert.CmlpIdeal.nD Cert.CmlpIdeal.τ).loc Cert.CmlpIdeal.main_arg1)) (m ((c.tc : Thread Cert.CmlpIdeal.nD Cert.CmlpIdeal.τ).loc Cert.CmlpIdeal.main_arg2)) (m ((c.tc : Thread Cert.CmlpIdeal.nD Cert.CmlpIdeal.τ).loc Cert.CmlpIdeal.main_arg3)) (m ((c.tc : Thread Cert.CmlpIdeal.nD Cert.CmlpIdeal.τ).loc Cert.CmlpIdeal.main_arg4)) (m ((c.tc : Thread Cert.CmlpIdeal.nD Cert.CmlpIdeal.τ).loc Cert.CmlpIdeal.main_arg5)) (m ((c.tc : Thread Cert.CmlpIdeal.nD Cert.CmlpIdeal.τ).loc Cert.CmlpIdeal.main_arg6)) (m ((c.tc : Thread Cert.CmlpIdeal.nD Cert.CmlpIdeal.τ).loc Cert.CmlpIdeal.main_arg7)) (m ((c.tc : Thread Cert.CmlpIdeal.nD Cert.CmlpIdeal.τ).loc Cert.CmlpIdeal.main_arg8)) (m ((c.tc : Thread Cert.CmlpIdeal.nD Cert.CmlpIdeal.τ).loc Cert.CmlpIdeal.main_arg9)) (m ((c.tc : Thread Cert.CmlpIdeal.nD Cert.CmlpIdeal.τ).loc Cert.CmlpIdeal.main_arg10)) (i 0) (i 1) (i 2)
      rw [← vS_eq _ (rows_real m hpre c (i 0))] at e
      refine Eq.trans (congrArg _ ?_) e
      funext a; fin_cases a <;> rfl
    exact q

end Cert.Proof.Cmlp

end
-- ==== Proof.PromptBuffer.lean ====
/-
  One chunk's buffer of the ConvFFN kernel on a prompt: rows 8 to 519 hold the block's up projection, each in two halves
  of 256 lanes (the gate's and the value's), and rows 6 and 7 the two rows before the block; at a sequence's first block
  those are the state, over zeros in rows 0 to 5, and at the block's end they become its last two rows. The lemmas read
  the buffer back through the boxes the kernel loads, and at rows 6 and 7 after the block.
-/
module

public import proofs.«01_k».proof.Proof.PayApply
public import proofs.«01_k».proof.Proof.Gen.PromptIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.PromptFfn

open Cert.PromptIdeal Cert.PromptIdeal.Gen Idealize.ShloMosaic Idealize.ShloMosaic.TcCoe

variable {Val : EltTy → Type} [∀ e, Nonempty (Val e)]

/-- The eight history rows of one half: six rows of the fill, then the two state rows. -/
def histRows (z : S1x6x512.Idx → Val .f32) (s : S1x2x256.Idx → Val .f32) (lane : ℕ) (hl : lane + 256 ≤ 512) :
    S1x8x256.Idx → Val .f32 := fun x =>
  if h : (x 1).val < 6 then z (ix3 (n0 := 1) (n1 := 6) (n2 := 512) (x 0) ⟨(x 1).val, h⟩ ⟨lane + (x 2).val, by have h2 : (x 2).val < 256 := (x 2).isLt; omega⟩)
  else s (ix3 (n0 := 1) (n1 := 2) (n2 := 256) (x 0) ⟨(x 1).val - 6, by have h1 : (x 1).val < 8 := (x 1).isLt; omega⟩ (x 2))

/-- The last two rows of a block of 512 rows. -/
def lastRows (p : S1x512x256.Idx → Val .f32) : S1x2x256.Idx → Val .f32 := fun x =>
  p (ix3 (n0 := 1) (n1 := 512) (n2 := 256) (x 0) ⟨510 + (x 1).val, by have h1 : (x 1).val < 2 := (x 1).isLt; omega⟩ (x 2))

variable (v : View sig .tc .vmem S1x520x512 .f32)
  {h1 : ∀ a, (![0, 8, 256] : Fin S1x520x512.rank → ℕ) a + (![1, 512, 256] : Fin S1x520x512.rank → ℕ) a ≤ S1x520x512.size a}
  {h2 : ∀ a, (![0, 8, 0] : Fin S1x520x512.rank → ℕ) a + (![1, 512, 256] : Fin S1x520x512.rank → ℕ) a ≤ S1x520x512.size a}
  {h3 : ∀ a, (![0, 6, 256] : Fin S1x520x512.rank → ℕ) a + (![1, 2, 256] : Fin S1x520x512.rank → ℕ) a ≤ S1x520x512.size a}
  {h4 : ∀ a, (![0, 6, 0] : Fin S1x520x512.rank → ℕ) a + (![1, 2, 256] : Fin S1x520x512.rank → ℕ) a ≤ S1x520x512.size a}
  {h5 : ∀ a, (![0, 0, 0] : Fin S1x520x512.rank → ℕ) a + (![1, 6, 512] : Fin S1x520x512.rank → ℕ) a ≤ S1x520x512.size a}
  (p1 : (Rect.unit (s := S1x520x512) ![0, 8, 256] ![1, 512, 256] h1).shape.Idx → Val .f32)
  (p2 : (Rect.unit (s := S1x520x512) ![0, 8, 0] ![1, 512, 256] h2).shape.Idx → Val .f32)
  (p3 : (Rect.unit (s := S1x520x512) ![0, 6, 256] ![1, 2, 256] h3).shape.Idx → Val .f32)
  (p4 : (Rect.unit (s := S1x520x512) ![0, 6, 0] ![1, 2, 256] h4).shape.Idx → Val .f32)
  (p5 : (Rect.unit (s := S1x520x512) ![0, 0, 0] ![1, 6, 512] h5).shape.Idx → Val .f32)
  (L : List (View.Piece Val S1x520x512 .f32))

/-- Rows 8 to 519 of the second half: what was stored there last. -/
theorem load_cur_hi {g : ∀ a, (![0, 8, 256] : Fin S1x520x512.rank → ℕ) a + (![1, 512, 256] : Fin S1x520x512.rank → ℕ) a ≤ S1x520x512.size a} :
    v.readCov (⟨Rect.unit ![0, 8, 256] ![1, 512, 256] h1, p1⟩ :: L) (Rect.unit (s := S1x520x512) ![0, 8, 256] ![1, 512, 256] g).toLoadRect = p1 :=
  View.readCov_cons_toLoadRect v (Rect.unit (s := S1x520x512) ![0, 8, 256] ![1, 512, 256] h1) p1 _

/-- Rows 8 to 519 of the first half. -/
theorem load_cur_lo {g : ∀ a, (![0, 8, 0] : Fin S1x520x512.rank → ℕ) a + (![1, 512, 256] : Fin S1x520x512.rank → ℕ) a ≤ S1x520x512.size a} :
    v.readCov (⟨Rect.unit ![0, 8, 256] ![1, 512, 256] h1, p1⟩ :: ⟨Rect.unit ![0, 8, 0] ![1, 512, 256] h2, p2⟩ :: L) (Rect.unit (s := S1x520x512) ![0, 8, 0] ![1, 512, 256] g).toLoadRect = p2 := by
  rw [View.readCov_skip v _ p1 _ _ rfl]
  exact View.readCov_cons_toLoadRect v (Rect.unit (s := S1x520x512) ![0, 8, 0] ![1, 512, 256] h2) p2 _

/-- The last two of those rows, second half. -/
theorem load_last_hi {g : ∀ a, (![0, 518, 256] : Fin S1x520x512.rank → ℕ) a + (![1, 2, 256] : Fin S1x520x512.rank → ℕ) a ≤ S1x520x512.size a} :
    v.readCov (⟨Rect.unit ![0, 8, 256] ![1, 512, 256] h1, p1⟩ :: L) (Rect.unit (s := S1x520x512) ![0, 518, 256] ![1, 2, 256] g).toLoadRect = lastRows p1 := by
  rw [View.readCov_eq_canon']
  funext x
  have hx1 : (x 1).val < 2 := (x 1).isLt
  refine (congrArg _ (?_ : _ = (Rect.unit (s := S1x520x512) ![0, 8, 256] ![1, 512, 256] h1).emb (ix3 (n0 := 1) (n1 := 512) (n2 := 256) (x 0) ⟨510 + (x 1).val, by omega⟩ (x 2)))).trans
    (View.canon_cons_emb (Rect.unit (s := S1x520x512) ![0, 8, 256] ![1, 512, 256] h1) p1 _ _)
  funext a
  apply Fin.ext
  fin_cases a
  · rfl
  · show 518 + 1 * (x 1).val = 8 + 1 * (510 + (x 1).val); omega
  · rfl

/-- The last two of those rows, first half. -/
theorem load_last_lo {g : ∀ a, (![0, 518, 0] : Fin S1x520x512.rank → ℕ) a + (![1, 2, 256] : Fin S1x520x512.rank → ℕ) a ≤ S1x520x512.size a} :
    v.readCov (⟨Rect.unit ![0, 8, 256] ![1, 512, 256] h1, p1⟩ :: ⟨Rect.unit ![0, 8, 0] ![1, 512, 256] h2, p2⟩ :: L) (Rect.unit (s := S1x520x512) ![0, 518, 0] ![1, 2, 256] g).toLoadRect = lastRows p2 := by
  rw [View.readCov_skip v _ p1 _ _ rfl, View.readCov_eq_canon']
  funext x
  have hx1 : (x 1).val < 2 := (x 1).isLt
  refine (congrArg _ (?_ : _ = (Rect.unit (s := S1x520x512) ![0, 8, 0] ![1, 512, 256] h2).emb (ix3 (n0 := 1) (n1 := 512) (n2 := 256) (x 0) ⟨510 + (x 1).val, by omega⟩ (x 2)))).trans
    (View.canon_cons_emb (Rect.unit (s := S1x520x512) ![0, 8, 0] ![1, 512, 256] h2) p2 _ _)
  funext a
  apply Fin.ext
  fin_cases a
  · rfl
  · show 518 + 1 * (x 1).val = 8 + 1 * (510 + (x 1).val); omega
  · rfl

/-- The eight history rows, second half. -/
theorem load_hist_hi {g : ∀ a, (![0, 0, 256] : Fin S1x520x512.rank → ℕ) a + (![1, 8, 256] : Fin S1x520x512.rank → ℕ) a ≤ S1x520x512.size a} :
    v.readCov [⟨Rect.unit ![0, 8, 256] ![1, 512, 256] h1, p1⟩, ⟨Rect.unit ![0, 8, 0] ![1, 512, 256] h2, p2⟩, ⟨Rect.unit ![0, 6, 256] ![1, 2, 256] h3, p3⟩,
      ⟨Rect.unit ![0, 6, 0] ![1, 2, 256] h4, p4⟩, ⟨Rect.unit ![0, 0, 0] ![1, 6, 512] h5, p5⟩] (Rect.unit (s := S1x520x512) ![0, 0, 256] ![1, 8, 256] g).toLoadRect
      = histRows p5 p3 256 (by decide) := by
  rw [View.readCov_skip v _ p1 _ _ rfl, View.readCov_skip v _ p2 _ _ rfl, View.readCov_eq_canon']
  funext x
  have hx1 : (x 1).val < 8 := (x 1).isLt
  have hx2 : (x 2).val < 256 := (x 2).isLt
  unfold histRows
  by_cases h : (x 1).val < 6
  · rw [dif_pos h]
    have k3 : (Rect.unit (s := S1x520x512) ![0, 0, 256] ![1, 8, 256] g).toLoadRect.idx x ∉ (Rect.unit (s := S1x520x512) ![0, 6, 256] ![1, 2, 256] h3).set :=
      ConvFfn.not_mem_unit (s := S1x520x512) (off := ![0, 6, 256]) (size := ![1, 2, 256]) 1 (Or.inl (show 0 + 1 * (x 1).val < 6 by omega))
    have k4 : (Rect.unit (s := S1x520x512) ![0, 0, 256] ![1, 8, 256] g).toLoadRect.idx x ∉ (Rect.unit (s := S1x520x512) ![0, 6, 0] ![1, 2, 256] h4).set :=
      ConvFfn.not_mem_unit (s := S1x520x512) (off := ![0, 6, 0]) (size := ![1, 2, 256]) 1 (Or.inl (show 0 + 1 * (x 1).val < 6 by omega))
    refine (View.canon_cons_of_not_mem ⟨Rect.unit (s := S1x520x512) ![0, 6, 256] ![1, 2, 256] h3, p3⟩ _ k3).trans ?_
    refine (View.canon_cons_of_not_mem ⟨Rect.unit (s := S1x520x512) ![0, 6, 0] ![1, 2, 256] h4, p4⟩ _ k4).trans ?_
    refine (congrArg _ (?_ : _ = (Rect.unit (s := S1x520x512) ![0, 0, 0] ![1, 6, 512] h5).emb (ix3 (n0 := 1) (n1 := 6) (n2 := 512) (x 0) ⟨(x 1).val, h⟩ ⟨256 + (x 2).val, by omega⟩))).trans
      (View.canon_cons_emb (Rect.unit (s := S1x520x512) ![0, 0, 0] ![1, 6, 512] h5) p5 _ _)
    funext a
    apply Fin.ext
    fin_cases a
    · rfl
    · rfl
    · show 256 + 1 * (x 2).val = 0 + 1 * (256 + (x 2).val); omega
  · rw [dif_neg h]
    refine (congrArg _ (?_ : _ = (Rect.unit (s := S1x520x512) ![0, 6, 256] ![1, 2, 256] h3).emb (ix3 (n0 := 1) (n1 := 2) (n2 := 256) (x 0) ⟨(x 1).val - 6, by omega⟩ (x 2)))).trans
      (View.canon_cons_emb (Rect.unit (s := S1x520x512) ![0, 6, 256] ![1, 2, 256] h3) p3 _ _)
    funext a
    apply Fin.ext
    fin_cases a
    · rfl
    · show 0 + 1 * (x 1).val = 6 + 1 * ((x 1).val - 6); omega
    · rfl

/-- The eight history rows, first half. -/
theorem load_hist_lo {g : ∀ a, (![0, 0, 0] : Fin S1x520x512.rank → ℕ) a + (![1, 8, 256] : Fin S1x520x512.rank → ℕ) a ≤ S1x520x512.size a} :
    v.readCov [⟨Rect.unit ![0, 8, 256] ![1, 512, 256] h1, p1⟩, ⟨Rect.unit ![0, 8, 0] ![1, 512, 256] h2, p2⟩, ⟨Rect.unit ![0, 6, 256] ![1, 2, 256] h3, p3⟩,
      ⟨Rect.unit ![0, 6, 0] ![1, 2, 256] h4, p4⟩, ⟨Rect.unit ![0, 0, 0] ![1, 6, 512] h5, p5⟩] (Rect.unit (s := S1x520x512) ![0, 0, 0] ![1, 8, 256] g).toLoadRect
      = histRows p5 p4 0 (by decide) := by
  rw [View.readCov_skip v _ p1 _ _ rfl, View.readCov_skip v _ p2 _ _ rfl, View.readCov_skip v _ p3 _ _ rfl, View.readCov_eq_canon']
  funext x
  have hx1 : (x 1).val < 8 := (x 1).isLt
  have hx2 : (x 2).val < 256 := (x 2).isLt
  unfold histRows
  by_cases h : (x 1).val < 6
  · rw [dif_pos h]
    have k4 : (Rect.unit (s := S1x520x512) ![0, 0, 0] ![1, 8, 256] g).toLoadRect.idx x ∉ (Rect.unit (s := S1x520x512) ![0, 6, 0] ![1, 2, 256] h4).set :=
      ConvFfn.not_mem_unit (s := S1x520x512) (off := ![0, 6, 0]) (size := ![1, 2, 256]) 1 (Or.inl (show 0 + 1 * (x 1).val < 6 by omega))
    refine (View.canon_cons_of_not_mem ⟨Rect.unit (s := S1x520x512) ![0, 6, 0] ![1, 2, 256] h4, p4⟩ _ k4).trans ?_
    refine (congrArg _ (?_ : _ = (Rect.unit (s := S1x520x512) ![0, 0, 0] ![1, 6, 512] h5).emb (ix3 (n0 := 1) (n1 := 6) (n2 := 512) (x 0) ⟨(x 1).val, h⟩ ⟨0 + (x 2).val, by omega⟩))).trans
      (View.canon_cons_emb (Rect.unit (s := S1x520x512) ![0, 0, 0] ![1, 6, 512] h5) p5 _ _)
    funext a
    apply Fin.ext
    fin_cases a
    · rfl
    · rfl
    · show 0 + 1 * (x 2).val = 0 + 1 * (0 + (x 2).val); omega
  · rw [dif_neg h]
    refine (congrArg _ (?_ : _ = (Rect.unit (s := S1x520x512) ![0, 6, 0] ![1, 2, 256] h4).emb (ix3 (n0 := 1) (n1 := 2) (n2 := 256) (x 0) ⟨(x 1).val - 6, by omega⟩ (x 2)))).trans
      (View.canon_cons_emb (Rect.unit (s := S1x520x512) ![0, 6, 0] ![1, 2, 256] h4) p4 _ _)
    funext a
    apply Fin.ext
    fin_cases a
    · rfl
    · show 0 + 1 * (x 1).val = 6 + 1 * ((x 1).val - 6); omega
    · rfl

variable (f : v.ty.Contents Val)
  (q3 : (Rect.unit (s := S1x520x512) ![0, 6, 256] ![1, 2, 256] h3).shape.Idx → Val .f32)
  (q4 : (Rect.unit (s := S1x520x512) ![0, 6, 0] ![1, 2, 256] h4).shape.Idx → Val .f32)

/-- Rows 6 and 7 after the block, second half. -/
theorem left_hi (i : Fin 2) (j : Fin 256) :
    v.read Val (v.writes Val f (⟨Rect.unit ![0, 6, 256] ![1, 2, 256] h3, q3⟩ :: L)) (ix3 (n0 := 1) (n1 := 520) (n2 := 512) 0 ⟨6 + i.val, by omega⟩ ⟨256 + j.val, by omega⟩)
      = q3 (ix3 (n0 := 1) (n1 := 2) (n2 := 256) 0 i j) := by
  refine View.read_writes_cons_hit v f (Rect.unit (s := S1x520x512) ![0, 6, 256] ![1, 2, 256] h3) q3 L _ _ ?_
  funext a
  apply Fin.ext
  fin_cases a
  · rfl
  · show 6 + 1 * i.val = 6 + i.val; omega
  · show 256 + 1 * j.val = 256 + j.val; omega

/-- Rows 6 and 7 after the block, first half. -/
theorem left_lo (i : Fin 2) (j : Fin 256) :
    v.read Val (v.writes Val f (⟨Rect.unit ![0, 6, 256] ![1, 2, 256] h3, q3⟩ :: ⟨Rect.unit ![0, 6, 0] ![1, 2, 256] h4, q4⟩ :: L))
        (ix3 (n0 := 1) (n1 := 520) (n2 := 512) 0 ⟨6 + i.val, by omega⟩ ⟨j.val, by omega⟩)
      = q4 (ix3 (n0 := 1) (n1 := 2) (n2 := 256) 0 i j) := by
  refine (View.read_writes_cons_miss_of_axis v f ⟨Rect.unit (s := S1x520x512) ![0, 6, 256] ![1, 2, 256] h3, q3⟩ _ _ 2 256 256 rfl rfl rfl (Or.inl j.isLt)).trans ?_
  refine View.read_writes_cons_hit v f (Rect.unit (s := S1x520x512) ![0, 6, 0] ![1, 2, 256] h4) q4 L _ _ ?_
  funext a
  apply Fin.ext
  fin_cases a
  · rfl
  · show 6 + 1 * i.val = 6 + i.val; omega
  · show 0 + 1 * j.val = j.val; omega

end Cert.PromptFfn

end
-- ==== Proof.PromptChunk.lean ====
/-
  One chunk of the ConvFFN kernel on a prompt's block as a vector function: the two depthwise convolutions over delayed tiles, the gate's gelu
  and their product. The printed payloads of the eleven chunks cut this function at different places; all of them are it.
  Read at an index the convolution is three shifted products, the shift crossing into the history rows at the block's
  first two steps.
-/
module

public import proofs.«01_k».proof.Proof.PromptBuffer

@[expose] public section

set_option maxRecDepth 16384

noncomputable section

namespace Cert.PromptFfn

open Cert.PromptIdeal Cert.PromptIdeal.Gen Idealize.ShloMosaic Idealize.ShloMosaic.TcCoe

section Generic
variable {F : FTy → Type} [FloatOps F] [Named F]

/-- The tile's row number at every index. -/
abbrev rowNo : IVec S64x8x256 32 := iota Kind.tc S64x8x256 32 [1] iota_S64x8x256_d1_w32

/-- The up projection of 256 columns, stored as a block's rows. -/
def upV (h : FVec F S512x1024 .bf16) (w : Vec F S1024x256 .bf16) : FVec F S1x512x256 .f32 :=
  shapeCast S1x512x256 (shapeCast S1x512x256 (matmul dot_S512x1024_S1024x256_S512x256_1_0_0_1_n_n none h
    (shapeCast S1024x256 w shapeCasts_S1024x256_S1024x256 : FVec F S1024x256 .bf16) (constant S512x256 .f32 0x00000000#32)) shapeCasts_S512x256_S1x512x256)
    shapeCasts_S1x512x256_S1x512x256

/-- A row of taps, over tiles. -/
def tapV (k : ℕ) (h : S3x256.Slices ![k, 0] S1x256) (w : Vec F S3x256 .f32) : FVec F S1x1x256 .f32 :=
  shapeCast S1x1x256 (extractStridedSlice S1x256 ![k, 0] w h) shapeCasts_S1x256_S1x1x256

/-- The rows moved down by one: within a tile by the rotation, a tile's first row from the tile before it, and the
    block's first row from the rotated history. -/
def delayV (cur : FVec F S64x8x256 .f32) (hist : FVec F S1x8x256 .f32) : FVec F S64x8x256 .f32 :=
  select (cmpi .slt rowNo (broadcast S64x8x256 1#32))
    (shapeCast S64x8x256 (concatenate S1x64x8x256 1 [⟨S1x1x8x256, shapeCast S1x1x8x256 hist shapeCasts_S1x8x256_S1x1x8x256⟩,
      ⟨S1x63x8x256, extractStridedSlice S1x63x8x256 ![0, 0, 0, 0] (shapeCast S1x64x8x256 (dynamicRotate 1 1#32 none cur rotates_S64x8x256_d1) shapeCasts_S64x8x256_S1x64x8x256)
        slices_S1x64x8x256_o0_0_0_0_S1x63x8x256⟩] concatenates_S1x1x8x256_S1x63x8x256_S1x64x8x256_d1) shapeCasts_S1x64x8x256_S64x8x256)
    (dynamicRotate 1 1#32 none cur rotates_S64x8x256_d1)

/-- The depthwise convolution of one half of a chunk. -/
def convV (w : Vec F S3x256 .f32) (cur : Vec F S1x512x256 .f32) (hist : Vec F S1x8x256 .f32) (b : Vec F S1x256 .f32) : FVec F S512x256 .f32 :=
  shapeCast S512x256
    (addf
      (addf (mulf (shapeCast S64x8x256 cur shapeCasts_S1x512x256_S64x8x256 : FVec F S64x8x256 .f32) (broadcastTo S64x8x256 (tapV 2 slices_S3x256_o2_0_S1x256 w) broadcasts_S1x1x256_S64x8x256))
        (broadcastTo S64x8x256 (shapeCast S1x1x256 (shapeCast S1x256 b shapeCasts_S1x256_S1x256 : FVec F S1x256 .f32) shapeCasts_S1x256_S1x1x256) broadcasts_S1x1x256_S64x8x256))
      (delayV
        (addf (mulf (shapeCast S64x8x256 cur shapeCasts_S1x512x256_S64x8x256 : FVec F S64x8x256 .f32) (broadcastTo S64x8x256 (tapV 1 slices_S3x256_o1_0_S1x256 w) broadcasts_S1x1x256_S64x8x256))
          (delayV (mulf (shapeCast S64x8x256 cur shapeCasts_S1x512x256_S64x8x256 : FVec F S64x8x256 .f32) (broadcastTo S64x8x256 (tapV 0 slices_S3x256_o0_0_S1x256 w) broadcasts_S1x1x256_S64x8x256))
            (dynamicRotate 1 1#32 none (mulf hist (broadcastTo S1x8x256 (tapV 0 slices_S3x256_o0_0_S1x256 w) broadcasts_S1x1x256_S1x8x256)) rotates_S1x8x256_d1)))
        (dynamicRotate 1 1#32 none
          (addf (mulf hist (broadcastTo S1x8x256 (tapV 1 slices_S3x256_o1_0_S1x256 w) broadcasts_S1x1x256_S1x8x256))
            (dynamicRotate 1 1#32 none (mulf hist (broadcastTo S1x8x256 (tapV 0 slices_S3x256_o0_0_S1x256 w) broadcasts_S1x1x256_S1x8x256)) rotates_S1x8x256_d1))
          rotates_S1x8x256_d1)))
    shapeCasts_S64x8x256_S512x256

/-- The gate's gelu as the kernel writes it. -/
def geluV (x : FVec F S512x256 .f32) : FVec F S512x256 .f32 :=
  addf (mulf (broadcast S512x256 (Scalar.ofBits .f32 0x3F000000#32)) x)
    (mulf (mulf (broadcast S512x256 (Scalar.ofBits .f32 0x3F000000#32)) x)
      (tanh (mulf x (addf (broadcast S512x256 (Scalar.ofBits .f32 0x3F4C422A#32))
        (mulf (broadcast S512x256 (Named.named κ "gelu_c1" 0x3D122279#32)) (mulf x x))))))

/-- What a chunk stores for the down projection. -/
def actV (wg : Vec F S3x256 .f32) (cg : Vec F S1x512x256 .f32) (hg : Vec F S1x8x256 .f32) (bg : Vec F S1x256 .f32)
    (wu : Vec F S3x256 .f32) (cu : Vec F S1x512x256 .f32) (hu : Vec F S1x8x256 .f32) (bu : Vec F S1x256 .f32) : FVec F S512x256 .bf16 :=
  shapeCast S512x256 (truncf .bf16 (mulf (geluV (convV wg cg hg bg)) (convV wu cu hu bu)) bitsLt_bf16_f32) shapeCasts_S512x256_S512x256

/-- The first chunk's payload is the function. -/
theorem chunk0 (wg : Vec F S3x256 .f32) (cg : Vec F S1x512x256 .f32) (hg : Vec F S1x8x256 .f32) (bg : Vec F S1x256 .f32)
    (wu : Vec F S3x256 .f32) (cu : Vec F S1x512x256 .f32) (hu : Vec F S1x8x256 .f32) (bu : Vec F S1x256 .f32) :
    k0_pay53 rowNo (k0_pay48 (k0_pay45 cg) (k0_pay46 rowNo wg cg hg) (k0_pay47 wg) bg) wu (k0_pay49 cu) hu (k0_pay50 wu hu)
      (k0_pay51 rowNo wu cu hu) (k0_pay52 wu) bu = actV wg cg hg bg wu cu hu bu := rfl

end Generic

/-- The delayed rows at an index: the row before, or at the block's first row the rotated history's first row. -/
theorem delayV_apply (cur : FVec Ideal S64x8x256 .f32) (hist : FVec Ideal S1x8x256 .f32) (n : Fin 64) (s : Fin 8) (j : Fin 256) :
    delayV cur hist (ix3 n s j) =
      if s.val = 0 then
        (if n.val = 0 then hist (ix3 0 0 j) else cur (ix3 ⟨n.val - 1, by omega⟩ 7 j))
      else cur (ix3 n ⟨s.val - 1, by omega⟩ j) := by
  pointwise [delayV]
  have hc : ∀ s : Fin 8, IntOp.cmpi CmpIPredicate.slt (BitVec.ofNat 32 s.val) 1#32 = if s.val = 0 then 1#1 else 0#1 := by decide
  rw [hc]
  by_cases hs : s.val = 0
  · simp only [if_pos hs, ValueIdx.select_one]
    split
    · next h =>
      have hz : n.val = 0 := by have h' := h; omega
      refine Eq.trans ?_ (if_pos hz).symm
      exact ConvFfn.at_eq hist j rfl hs
    · next h =>
      have hz : ¬ n.val = 0 := by have h' := h; omega
      refine Eq.trans ?_ (if_neg hz).symm
      exact ConvFfn.at_eq cur j rfl (show (s.val + 8 - 1) % 8 = 7 by omega)
  · simp only [if_neg hs, ValueIdx.select_zero]
    exact ConvFfn.at_eq cur j rfl (show (s.val + 8 - 1) % 8 = s.val - 1 by omega)

/-- The convolution at an index, of rows `X τ`: those of number 0 and 1 are the history's last two, the others the
    block's own. -/
theorem convV_apply (w : FVec Ideal S3x256 .f32) (cur : FVec Ideal S1x512x256 .f32) (hist : FVec Ideal S1x8x256 .f32) (b : FVec Ideal S1x256 .f32)
    (X : Nat → Fin 256 → EReal)
    (h6 : ∀ j : Fin 256, hist (ix3 0 6 j) = X 0 j) (h7 : ∀ j : Fin 256, hist (ix3 0 7 j) = X 1 j)
    (hc : ∀ (s : Fin 512) (j : Fin 256), cur (ix3 0 s j) = X (s.val + 2) j)
    (r : Fin 512) (j : Fin 256) :
    convV (F := Ideal) w cur hist b (ix2 r j) =
      X (r.val + 2) j * w (ix2 2 j) + b (ix2 0 j) + (X (r.val + 1) j * w (ix2 1 j) + X r.val j * w (ix2 0 j)) := by
  pointwise [convV, delayV_apply, tapV]
  simp only [h6, h7, hc]
  have e : ∀ {a b : Nat}, a = b → X a j = X b j := fun h => by rw [h]
  split_ifs
  all_goals
    congr 2
    all_goals refine congrArg (fun z => z * _) (e (by (try dsimp only); omega))

end Cert.PromptFfn

end
-- ==== Proof.PromptPay.lean ====
/-
  The block's payloads on a prompt read at an index, in the layer's terms: the normed rows, their projection, one chunk's
  gated product and one part of the down projection with its norm and residual. A block is taken as a sequence of 512 steps
  whose two carried rows are `H`.
-/
module

public import proofs.«01_k».proof.Proof.PromptChunk

@[expose] public section

set_option maxRecDepth 16384

noncomputable section

namespace Cert.PromptFfn

open Cert.PromptIdeal Cert.PromptIdeal.Gen Idealize.ShloMosaic Idealize.ShloMosaic.TcCoe
open Cert.ConvFfn (Rows rmsS upS xpS convS actS downS outS nextS geluK ldU ldT ldB ldU_apply ldT_apply ldB_apply)

variable (x : FVec Ideal S1x512x1024 .f32) (H : Fin 2 → Fin 5632 → EReal) (gi go : FVec Ideal S1x1024 .f32)
  (wu : FVec Ideal S1024x5632 .bf16) (wd : FVec Ideal S3x5632 .f32) (bd : FVec Ideal S1x5632 .f32) (wo : FVec Ideal S2816x1024 .bf16)

/-- A grid point's block as a sequence of its own. -/
def rowsBlk : Rows 512 where
  x t k := x (ix3 0 t k)
  st := H
  gi k := gi (ix2 0 k)
  go k := go (ix2 0 k)
  wu k l := wu (ix2 k l)
  wd i l := wd (ix2 i l)
  bd l := bd (ix2 0 l)
  wo k n := wo (ix2 k n)

/-- The normed rows. -/
theorem hidden_apply (g : FVec Ideal S1x1024 .f32) (r : Fin 512) (k : Fin 1024) :
    k0_pay41 (F := Ideal) x g (ix2 r k) = x (ix3 0 r k) * rmsS (fun k => x (ix3 0 r k)) * g (ix2 0 k) := by
  pointwise [k0_pay41, k0_pay40]
  try rfl

theorem upV_apply (h : FVec Ideal S512x1024 .bf16) (w : FVec Ideal S1024x256 .bf16) (s : Fin 512) (j : Fin 256) :
    upV (F := Ideal) h w (ix3 0 s j) = ∑ k : Fin 1024, h (ix2 s k) * w (ix2 k j) := by
  pointwise [upV]

/-- A chunk's projected rows are the layer's. -/
theorem up_rows (lo : ℕ) (hlo : lo + 256 ≤ 5632) (hw) (s : Fin 512) (j : Fin 256) :
    upV (F := Ideal) (k0_pay41 x gi) (ldU wu lo hw) (ix3 0 s j)
      = xpS (rowsBlk x H gi go wu wd bd wo) (s.val + 2) ⟨lo + j.val, by omega⟩ := by
  rw [upV_apply]
  simp only [hidden_apply, ldU_apply wu lo hw _ j hlo]
  unfold xpS
  rw [dif_neg (by omega), dif_pos (show s.val + 2 - 2 < 512 by omega)]
  rfl

/-- The two history rows of a half chunk are the carried rows, from column `lo` on. -/
def Hist (h : Vec Ideal S1x8x256 .f32) (lo : ℕ) : Prop :=
  ∀ (i : Fin 2) (j : Fin 256) (hl : lo + j.val < 5632), h (ix3 (n0 := 1) (n1 := 8) (n2 := 256) 0 ⟨6 + i.val, by omega⟩ j) = H i ⟨lo + j.val, hl⟩

/-- The gated product at an index. -/
theorem actV_apply (wg : FVec Ideal S3x256 .f32) (cg : FVec Ideal S1x512x256 .f32) (hg : FVec Ideal S1x8x256 .f32) (bg : FVec Ideal S1x256 .f32)
    (wu : FVec Ideal S3x256 .f32) (cu : FVec Ideal S1x512x256 .f32) (hu : FVec Ideal S1x8x256 .f32) (bu : FVec Ideal S1x256 .f32) (r : Fin 512) (j : Fin 256) :
    actV (F := Ideal) wg cg hg bg wu cu hu bu (ix2 r j) = geluK (convV (F := Ideal) wg cg hg bg (ix2 r j)) * convV (F := Ideal) wu cu hu bu (ix2 r j) := by
  pointwise [actV, geluV]
  rw [IdealRules.named_const.ideal_named_scalar κ "gelu_c1" _ _ rfl]
  rfl

/-- A half chunk's convolution is the layer's. -/
theorem conv_rows (h : FVec Ideal S1x8x256 .f32) (lo : ℕ) (hlo : lo + 256 ≤ 5632) (hh : Hist H h lo) (hw) (hd) (hb)
    (r : Fin 512) (j : Fin 256) :
    convV (F := Ideal) (ldT wd lo hd) (upV (k0_pay41 x gi) (ldU wu lo hw)) h (ldB bd lo hb) (ix2 r j)
      = convS (rowsBlk x H gi go wu wd bd wo) r ⟨lo + j.val, by omega⟩ := by
  rw [convV_apply _ _ _ _ (fun τ j => xpS (rowsBlk x H gi go wu wd bd wo) τ ⟨lo + j.val, by omega⟩)
    (fun j => hh 0 j (by omega)) (fun j => hh 1 j (by omega))
    (fun s j => up_rows x H gi go wu wd bd wo lo hlo hw s j)]
  rw [ldT_apply wd lo hd _ j hlo, ldT_apply wd lo hd _ j hlo, ldT_apply wd lo hd _ j hlo, ldB_apply bd lo hb _ j hlo]
  unfold convS
  simp only [rowsBlk]
  ac_rfl

/-- One chunk's payload is the layer's gated product. -/
theorem chunk_rows (hg hu : FVec Ideal S1x8x256 .f32) (lo up : ℕ) (hlo : lo + 256 ≤ 2816) (hup : up = 2816 + lo)
    (hhg : Hist H hg lo) (hhu : Hist H hu up) (hw) (hd) (hb) (hw') (hd') (hb') (r : Fin 512) (j : Fin 256) :
    actV (F := Ideal) (ldT wd lo hd) (upV (k0_pay41 x gi) (ldU wu lo hw)) hg (ldB bd lo hb)
      (ldT wd up hd') (upV (k0_pay41 x gi) (ldU wu up hw')) hu (ldB bd up hb') (ix2 r j)
      = actS geluK (rowsBlk x H gi go wu wd bd wo) r ⟨lo + j.val, by omega⟩ := by
  subst hup
  rw [actV_apply, conv_rows x H gi go wu wd bd wo hg lo (by omega) hhg, conv_rows x H gi go wu wd bd wo hu (2816 + lo) (by omega) hhu]
  unfold actS
  simp only [Nat.add_assoc]

/-- One part of the last stage, over rows of the gated product that are the layer's. -/
theorem down_rows (a : FVec Ideal S128x2816 .bf16) (o : ℕ) (ho : o + 128 ≤ 512)
    (ha : ∀ (p : Fin 128) (k : Fin 2816), a (ix2 p k) = actS geluK (rowsBlk x H gi go wu wd bd wo) ⟨o + p.val, by omega⟩ k)
    (s : Fin 128) (n : Fin 1024) :
    x (ix3 0 ⟨o + s.val, by omega⟩ n) + (∑ k, a (ix2 s k) * wo (ix2 k n)) *
          Ideal.rsqrt (Ideal.div (∑ l, (∑ k, a (ix2 s k) * wo (ix2 k l)) *
                    ∑ k, a (ix2 s k) * wo (ix2 k l)) (Ideal.ofBits FTy.f32 1149239296#32) +
              Ideal.ofBits FTy.f32 897988541#32) * go (ix2 0 n)
      = outS geluK (rowsBlk x H gi go wu wd bd wo) ⟨o + s.val, by omega⟩ n := by
  simp only [ha]
  rfl

/-- Part 0 of the last stage: rows 0 to 127. -/
theorem part0 (a : FVec Ideal S128x2816 .bf16)
    (ha : ∀ (p : Fin 128) (k : Fin 2816), a (ix2 p k) = actS geluK (rowsBlk x H gi go wu wd bd wo) ⟨0 + p.val, by omega⟩ k)
    (s : Fin 128) (n : Fin 1024) :
    k0_pay180 (F := Ideal) (k0_pay40 (F := Ideal) x) a wo go (ix3 0 s n)
      = outS geluK (rowsBlk x H gi go wu wd bd wo) ⟨0 + s.val, by omega⟩ n := by
  refine Eq.trans ?_ (down_rows x H gi go wu wd bd wo a 0 (by decide) ha s n)
  pointwise [k0_pay180, k0_pay40]

/-- Part 1 of the last stage: rows 128 to 255. -/
theorem part1 (a : FVec Ideal S128x2816 .bf16)
    (ha : ∀ (p : Fin 128) (k : Fin 2816), a (ix2 p k) = actS geluK (rowsBlk x H gi go wu wd bd wo) ⟨128 + p.val, by omega⟩ k)
    (s : Fin 128) (n : Fin 1024) :
    k0_pay185 (F := Ideal) (k0_pay181 (k0_pay40 (F := Ideal) x)) (k0_pay182 a wo) (k0_pay183 go) (k0_pay184 a wo) (ix3 0 s n)
      = outS geluK (rowsBlk x H gi go wu wd bd wo) ⟨128 + s.val, by omega⟩ n := by
  pointwise [k0_pay185, k0_pay181, k0_pay182, k0_pay183, k0_pay184, k0_pay40]
  rw [← down_rows x H gi go wu wd bd wo a 128 (by decide) ha s n]

/-- Part 2 of the last stage: rows 256 to 383. -/
theorem part2 (a : FVec Ideal S128x2816 .bf16)
    (ha : ∀ (p : Fin 128) (k : Fin 2816), a (ix2 p k) = actS geluK (rowsBlk x H gi go wu wd bd wo) ⟨256 + p.val, by omega⟩ k)
    (s : Fin 128) (n : Fin 1024) :
    k0_pay186 (F := Ideal) (k0_pay40 (F := Ideal) x) a wo go (ix3 0 s n)
      = outS geluK (rowsBlk x H gi go wu wd bd wo) ⟨256 + s.val, by omega⟩ n := by
  pointwise [k0_pay186, k0_pay40]
  rw [← down_rows x H gi go wu wd bd wo a 256 (by decide) ha s n]

/-- Part 3 of the last stage: rows 384 to 511. -/
theorem part3 (a : FVec Ideal S128x2816 .bf16)
    (ha : ∀ (p : Fin 128) (k : Fin 2816), a (ix2 p k) = actS geluK (rowsBlk x H gi go wu wd bd wo) ⟨384 + p.val, by omega⟩ k)
    (s : Fin 128) (n : Fin 1024) :
    k0_pay188 (F := Ideal) (k0_pay187 (k0_pay40 (F := Ideal) x)) a wo go (ix3 0 s n)
      = outS geluK (rowsBlk x H gi go wu wd bd wo) ⟨384 + s.val, by omega⟩ n := by
  pointwise [k0_pay188, k0_pay187, k0_pay40]
  rw [← down_rows x H gi go wu wd bd wo a 384 (by decide) ha s n]

end Cert.PromptFfn

end
-- ==== Proof.PromptBlock.lean ====
/-
  The block a grid point writes on a prompt: the eleven chunks' stores make up the gated product, the four parts read it
  back and store the layer's rows, and the rows carried on are the last two projected rows.
-/
module

public import proofs.«01_k».proof.Proof.PromptPay

@[expose] public section

set_option maxRecDepth 16384

noncomputable section

namespace Cert.PromptFfn

open Cert.PromptIdeal Cert.PromptIdeal.Gen Idealize.ShloMosaic Idealize.ShloMosaic.TcCoe
open Cert.ConvFfn (Rows rmsS upS xpS convS actS downS outS nextS geluK ldU ldT ldB ldS ldU_apply ldT_apply ldB_apply)

variable (x : FVec Ideal S1x512x1024 .f32) (H : Fin 2 → Fin 5632 → EReal) (gi go : FVec Ideal S1x1024 .f32)
  (wu : FVec Ideal S1024x5632 .bf16) (wd : FVec Ideal S3x5632 .f32) (bd : FVec Ideal S1x5632 .f32) (wo : FVec Ideal S2816x1024 .bf16)

/-- The gated product of a grid point's 512 rows. -/
def actBuf : S512x2816.Idx → Elt Ideal .bf16 := fun y =>
  actS geluK (rowsBlk x H gi go wu wd bd wo) ⟨(y 0).val, (y 0).isLt⟩ ⟨(y 1).val, (y 1).isLt⟩

/-- The layer's rows of a grid point's block. -/
def outBuf : S1x512x1024.Idx → Elt Ideal .f32 := fun y =>
  outS geluK (rowsBlk x H gi go wu wd bd wo) ⟨(y 1).val, (y 1).isLt⟩ ⟨(y 2).val, (y 2).isLt⟩

/-- The rows carried on. -/
def nextBuf : S1x2x5632.Idx → Elt Ideal .f32 := fun y =>
  nextS (rowsBlk x H gi go wu wd bd wo) ⟨(y 1).val, (y 1).isLt⟩ ⟨(y 2).val, (y 2).isLt⟩

/-- A chunk's store, as a piece of the gated product. -/
theorem chunk_piece (hg hu : FVec Ideal S1x8x256 .f32) (lo up : ℕ) (hlo : lo + 256 ≤ 2816) (hup : up = 2816 + lo)
    (hhg : Hist H hg lo) (hhu : Hist H hu up) (hw) (hd) (hb) (hw') (hd') (hb')
    (h : ∀ a, (![0, lo] : Fin S512x2816.rank → ℕ) a + (![512, 256] : Fin S512x2816.rank → ℕ) a ≤ S512x2816.size a)
    (y : (Rect.unit (s := S512x2816) ![0, lo] ![512, 256] h).shape.Idx) :
    actV (F := Ideal) (ldT wd lo hd) (upV (k0_pay41 x gi) (ldU wu lo hw)) hg (ldB bd lo hb)
      (ldT wd up hd') (upV (k0_pay41 x gi) (ldU wu up hw')) hu (ldB bd up hb') y
      = actBuf x H gi go wu wd bd wo ((Rect.unit (s := S512x2816) ![0, lo] ![512, 256] h).emb y) := by
  have h0 : (y 0).val < 512 := (y 0).isLt
  have h1 : (y 1).val < 256 := (y 1).isLt
  have ey : y = ix2 (n0 := 512) (n1 := 256) ⟨(y 0).val, h0⟩ ⟨(y 1).val, h1⟩ := by
    funext a; fin_cases a <;> rfl
  rw [ey]
  rw [chunk_rows x H gi go wu wd bd wo hg hu lo up hlo hup hhg hhu hw hd hb hw' hd' hb']
  unfold actBuf
  have e0 : (((Rect.unit (s := S512x2816) ![0, lo] ![512, 256] h).emb (ix2 (n0 := 512) (n1 := 256) ⟨(y 0).val, h0⟩ ⟨(y 1).val, h1⟩)) 0).val = (y 0).val := by
    show 0 + 1 * (y 0).val = _; omega
  have e1 : (((Rect.unit (s := S512x2816) ![0, lo] ![512, 256] h).emb (ix2 (n0 := 512) (n1 := 256) ⟨(y 0).val, h0⟩ ⟨(y 1).val, h1⟩)) 1).val = lo + (y 1).val := by
    show lo + 1 * (y 1).val = _; omega
  simp only [e0, e1]

/-- 128 rows of the gated product, loaded. -/
theorem act_load {κ' : Kind} {sp : Space} {v : View sig κ' sp S512x2816 .bf16} {L : List (View.Piece (Elt Ideal) S512x2816 .bf16)}
    (hL : View.PiecesOf (actBuf x H gi go wu wd bd wo) L) (hc : ∀ y, ∃ p ∈ L, y ∈ p.1.set) (off : ℕ) (hoff : off + 128 ≤ 512)
    (h : ∀ a, (![off, 0] : Fin S512x2816.rank → ℕ) a + (![128, 2816] : Fin S512x2816.rank → ℕ) a ≤ S512x2816.size a) (p : Fin 128) (k : Fin 2816) :
    View.readCov (Val := Elt Ideal) v L (Rect.unit (s := S512x2816) ![off, 0] ![128, 2816] h).toLoadRect (ix2 (n0 := 128) (n1 := 2816) p k)
      = actS geluK (rowsBlk x H gi go wu wd bd wo) ⟨off + p.val, by omega⟩ k := by
  rw [View.readCov_eq_canon']
  refine (View.canon_apply_of_pieces _ L hL.mem _ (hc _)).trans ?_
  unfold actBuf
  have e0 : (((Rect.unit (s := S512x2816) ![off, 0] ![128, 2816] h).toLoadRect.idx (ix2 (n0 := 128) (n1 := 2816) p k)) 0).val = off + p.val := by
    show off + 1 * p.val = _; omega
  have e1 : (((Rect.unit (s := S512x2816) ![off, 0] ![128, 2816] h).toLoadRect.idx (ix2 (n0 := 128) (n1 := 2816) p k)) 1).val = k.val := by
    show 0 + 1 * k.val = _; omega
  simp only [e0, e1]

/-- A part's store, as a piece of the layer's rows. -/
theorem part_piece (off : ℕ) (hoff : off + 128 ≤ 512)
    (h : ∀ a, (![0, off, 0] : Fin S1x512x1024.rank → ℕ) a + (![1, 128, 1024] : Fin S1x512x1024.rank → ℕ) a ≤ S1x512x1024.size a)
    (P : S1x128x1024.Idx → Elt Ideal .f32) (hP : ∀ (s : Fin 128) (n : Fin 1024),
      P (ix3 0 s n) = outS geluK (rowsBlk x H gi go wu wd bd wo) ⟨off + s.val, by omega⟩ n)
    (y : (Rect.unit (s := S1x512x1024) ![0, off, 0] ![1, 128, 1024] h).shape.Idx) :
    P y = outBuf x H gi go wu wd bd wo ((Rect.unit (s := S1x512x1024) ![0, off, 0] ![1, 128, 1024] h).emb y) := by
  have h0 : (y 0).val < 1 := (y 0).isLt
  have h1 : (y 1).val < 128 := (y 1).isLt
  have h2 : (y 2).val < 1024 := (y 2).isLt
  have ey : y = ix3 (n0 := 1) (n1 := 128) (n2 := 1024) 0 ⟨(y 1).val, h1⟩ ⟨(y 2).val, h2⟩ := by
    funext a; fin_cases a
    · exact Fin.ext (by show (y 0).val = 0; omega)
    · rfl
    · rfl
  rw [ey]
  refine (hP _ _).trans ?_
  unfold outBuf
  have e1 : (((Rect.unit (s := S1x512x1024) ![0, off, 0] ![1, 128, 1024] h).emb (ix3 (n0 := 1) (n1 := 128) (n2 := 1024) 0 ⟨(y 1).val, h1⟩ ⟨(y 2).val, h2⟩)) 1).val = off + (y 1).val := by
    show off + 1 * (y 1).val = _; omega
  have e2 : (((Rect.unit (s := S1x512x1024) ![0, off, 0] ![1, 128, 1024] h).emb (ix3 (n0 := 1) (n1 := 128) (n2 := 1024) 0 ⟨(y 1).val, h1⟩ ⟨(y 2).val, h2⟩)) 2).val = (y 2).val := by
    show 0 + 1 * (y 2).val = _; omega
  simp only [e1, e2]

/-- A chunk half's two rows carried on. -/
theorem last_rows (lo : ℕ) (hlo : lo + 256 ≤ 5632) (hw) (i : Fin 2) (j : Fin 256) :
    lastRows (Val := Elt Ideal) (upV (F := Ideal) (k0_pay41 x gi) (ldU wu lo hw)) (ix3 (n0 := 1) (n1 := 2) (n2 := 256) 0 i j)
      = nextS (rowsBlk x H gi go wu wd bd wo) i ⟨lo + j.val, by omega⟩ := by
  refine (up_rows x H gi go wu wd bd wo lo hlo hw ⟨510 + i.val, by omega⟩ j).trans ?_
  unfold nextS
  exact congrArg (fun τ => xpS (rowsBlk x H gi go wu wd bd wo) τ _) (by dsimp only; omega)

/-- The same rows, as a piece of the second result. -/
theorem next_piece (lo : ℕ) (hlo : lo + 256 ≤ 5632) (hw)
    (h : ∀ a, (![0, 0, lo] : Fin S1x2x5632.rank → ℕ) a + (![1, 2, 256] : Fin S1x2x5632.rank → ℕ) a ≤ S1x2x5632.size a)
    (y : (Rect.unit (s := S1x2x5632) ![0, 0, lo] ![1, 2, 256] h).shape.Idx) :
    lastRows (Val := Elt Ideal) (upV (F := Ideal) (k0_pay41 x gi) (ldU wu lo hw)) y
      = nextBuf x H gi go wu wd bd wo ((Rect.unit (s := S1x2x5632) ![0, 0, lo] ![1, 2, 256] h).emb y) := by
  have h0 : (y 0).val < 1 := (y 0).isLt
  have h1 : (y 1).val < 2 := (y 1).isLt
  have h2 : (y 2).val < 256 := (y 2).isLt
  have ey : y = ix3 (n0 := 1) (n1 := 2) (n2 := 256) 0 ⟨(y 1).val, h1⟩ ⟨(y 2).val, h2⟩ := by
    funext a; fin_cases a
    · exact Fin.ext (by show (y 0).val = 0; omega)
    · rfl
    · rfl
  rw [ey]
  refine (last_rows x H gi go wu wd bd wo lo hlo hw ⟨(y 1).val, h1⟩ ⟨(y 2).val, h2⟩).trans ?_
  unfold nextBuf
  have e1 : (((Rect.unit (s := S1x2x5632) ![0, 0, lo] ![1, 2, 256] h).emb (ix3 (n0 := 1) (n1 := 2) (n2 := 256) 0 ⟨(y 1).val, h1⟩ ⟨(y 2).val, h2⟩)) 1).val = (y 1).val := by
    show 0 + 1 * (y 1).val = _; omega
  have e2 : (((Rect.unit (s := S1x2x5632) ![0, 0, lo] ![1, 2, 256] h).emb (ix3 (n0 := 1) (n1 := 2) (n2 := 256) 0 ⟨(y 1).val, h1⟩ ⟨(y 2).val, h2⟩)) 2).val = lo + (y 2).val := by
    show lo + 1 * (y 2).val = _; omega
  simp only [e1, e2]

/-- The four parts, over a gated product that is the layer's. -/
theorem parts_out {κ' : Kind} {sp : Space} {v : View sig κ' sp S512x2816 .bf16} {L : List (View.Piece (Elt Ideal) S512x2816 .bf16)}
    (hL : View.PiecesOf (actBuf x H gi go wu wd bd wo) L) (hc : ∀ y, ∃ p ∈ L, y ∈ p.1.set) {h0 h1 h2 h3 g0 g1 g2 g3} :
    View.canon (Val := Elt Ideal) [
      ⟨Rect.unit (s := S1x512x1024) ![0, 384, 0] ![1, 128, 1024] h3, k0_pay188 (F := Ideal) (k0_pay187 (k0_pay40 x)) (View.readCov (Val := Elt Ideal) v L (Rect.unit (s := S512x2816) ![384, 0] ![128, 2816] g3).toLoadRect) wo go⟩,
      ⟨Rect.unit (s := S1x512x1024) ![0, 256, 0] ![1, 128, 1024] h2, k0_pay186 (F := Ideal) (k0_pay40 x) (View.readCov (Val := Elt Ideal) v L (Rect.unit (s := S512x2816) ![256, 0] ![128, 2816] g2).toLoadRect) wo go⟩,
      ⟨Rect.unit (s := S1x512x1024) ![0, 128, 0] ![1, 128, 1024] h1, k0_pay185 (F := Ideal) (k0_pay181 (k0_pay40 x)) (k0_pay182 (View.readCov (Val := Elt Ideal) v L (Rect.unit (s := S512x2816) ![128, 0] ![128, 2816] g1).toLoadRect) wo) (k0_pay183 go)
        (k0_pay184 (View.readCov (Val := Elt Ideal) v L (Rect.unit (s := S512x2816) ![128, 0] ![128, 2816] g1).toLoadRect) wo)⟩,
      ⟨Rect.unit (s := S1x512x1024) ![0, 0, 0] ![1, 128, 1024] h0, k0_pay180 (F := Ideal) (k0_pay40 x) (View.readCov (Val := Elt Ideal) v L (Rect.unit (s := S512x2816) ![0, 0] ![128, 2816] g0).toLoadRect) wo go⟩]
      = outBuf x H gi go wu wd bd wo := by
  funext y
  refine View.canon_apply_of_pieces _ _ ?_ y (View.cover_of_tiledL _ ![1, 128, 1024] (by sl_kernel_rfl) y)
  refine View.PiecesOf.mem ⟨?_, ?_, ?_, ?_, trivial⟩
  · exact part_piece x H gi go wu wd bd wo 384 (by decide) h3 _
      (part3 x H gi go wu wd bd wo _ (act_load x H gi go wu wd bd wo hL hc 384 (by decide) g3))
  · exact part_piece x H gi go wu wd bd wo 256 (by decide) h2 _
      (part2 x H gi go wu wd bd wo _ (act_load x H gi go wu wd bd wo hL hc 256 (by decide) g2))
  · exact part_piece x H gi go wu wd bd wo 128 (by decide) h1 _
      (part1 x H gi go wu wd bd wo _ (act_load x H gi go wu wd bd wo hL hc 128 (by decide) g1))
  · exact part_piece x H gi go wu wd bd wo 0 (by decide) h0 _
      (part0 x H gi go wu wd bd wo _ (act_load x H gi go wu wd bd wo hL hc 0 (by decide) g0))

/-- At a sequence's first block the history rows are the state's. -/
theorem hist_state (st : FVec Ideal S1x2x5632 .f32) (z : Vec Ideal S1x6x512 .f32) (lane : ℕ) (hl : lane + 256 ≤ 512) (lo : ℕ) (hlo : lo + 256 ≤ 5632)
    (hs : ∀ a, (![0, 0, lo] : Fin S1x2x5632.rank → ℕ) a + (![1, 2, 256] : Fin S1x2x5632.rank → ℕ) a ≤ S1x2x5632.size a)
    (hH : ∀ i l, st (ix3 0 i l) = H i l) :
    Hist H (histRows (Val := Elt Ideal) z (View.ld (Val := Elt Ideal) st (Rect.unit (s := S1x2x5632) ![0, 0, lo] ![1, 2, 256] hs)) lane hl) lo := by
  intro i j hj
  refine (dif_neg (show ¬ (6 + i.val) < 6 by omega)).trans ?_
  rw [← hH]
  refine congrArg st (funext fun a => Fin.ext ?_)
  fin_cases a
  · rfl
  · show 0 + 1 * (6 + i.val - 6) = i.val; omega
  · show lo + 1 * j.val = lo + j.val; omega

/-- Later it is what the point before left in rows 6 and 7, second half. -/
theorem hist_carried_hi (xs : FVec Ideal S1x520x512 .f32) (lo : ℕ)
    (g : ∀ a, (![0, 0, 256] : Fin S1x520x512.rank → ℕ) a + (![1, 8, 256] : Fin S1x520x512.rank → ℕ) a ≤ S1x520x512.size a)
    (hx : ∀ (i : Fin 2) (j : Fin 256) (hl : lo + j.val < 5632), xs (ix3 (n0 := 1) (n1 := 520) (n2 := 512) 0 ⟨6 + i.val, by omega⟩ ⟨256 + j.val, by omega⟩) = H i ⟨lo + j.val, hl⟩) :
    Hist H (View.ld (Val := Elt Ideal) xs (Rect.unit (s := S1x520x512) ![0, 0, 256] ![1, 8, 256] g)) lo := by
  intro i j hj
  rw [← hx]
  refine congrArg xs (funext fun a => Fin.ext ?_)
  fin_cases a
  · rfl
  · show 0 + 1 * (6 + i.val) = 6 + i.val; omega
  · show 256 + 1 * j.val = 256 + j.val; omega

/-- And first half. -/
theorem hist_carried_lo (xs : FVec Ideal S1x520x512 .f32) (lo : ℕ)
    (g : ∀ a, (![0, 0, 0] : Fin S1x520x512.rank → ℕ) a + (![1, 8, 256] : Fin S1x520x512.rank → ℕ) a ≤ S1x520x512.size a)
    (hx : ∀ (i : Fin 2) (j : Fin 256) (hl : lo + j.val < 5632), xs (ix3 (n0 := 1) (n1 := 520) (n2 := 512) 0 ⟨6 + i.val, by omega⟩ ⟨j.val, by omega⟩) = H i ⟨lo + j.val, hl⟩) :
    Hist H (View.ld (Val := Elt Ideal) xs (Rect.unit (s := S1x520x512) ![0, 0, 0] ![1, 8, 256] g)) lo := by
  intro i j hj
  rw [← hx]
  refine congrArg xs (funext fun a => Fin.ext ?_)
  fin_cases a
  · rfl
  · show 0 + 1 * (6 + i.val) = 6 + i.val; omega
  · show 0 + 1 * j.val = j.val; omega

/-- Rows 6 and 7 of a chunk's buffer are the two rows `H`: the gate's half from column `lo` on, the value's from `2816 + lo`. -/
structure Carries (S : FVec Ideal S1x520x512 .f32) (lo : ℕ) : Prop where
  gate : ∀ (i : Fin 2) (j : Fin 256) (hl : lo + j.val < 5632),
    S (ix3 (n0 := 1) (n1 := 520) (n2 := 512) 0 ⟨6 + i.val, by omega⟩ ⟨j.val, by omega⟩) = H i ⟨lo + j.val, hl⟩
  value : ∀ (i : Fin 2) (j : Fin 256) (hl : 2816 + lo + j.val < 5632),
    S (ix3 (n0 := 1) (n1 := 520) (n2 := 512) 0 ⟨6 + i.val, by omega⟩ ⟨256 + j.val, by omega⟩) = H i ⟨2816 + lo + j.val, hl⟩

/-- After a block they are its last two projected rows. -/
theorem carries_of {v : View sig .tc .vmem S1x520x512 .f32} {f : v.ty.Contents (Elt Ideal)} {L : List (View.Piece (Elt Ideal) S1x520x512 .f32)} (lo : ℕ) (hlo : lo + 256 ≤ 2816)
    {h3 : ∀ a, (![0, 6, 256] : Fin S1x520x512.rank → ℕ) a + (![1, 2, 256] : Fin S1x520x512.rank → ℕ) a ≤ S1x520x512.size a}
    {h4 : ∀ a, (![0, 6, 0] : Fin S1x520x512.rank → ℕ) a + (![1, 2, 256] : Fin S1x520x512.rank → ℕ) a ≤ S1x520x512.size a}
    {p3 : (Rect.unit (s := S1x520x512) ![0, 6, 256] ![1, 2, 256] h3).shape.Idx → Elt Ideal .f32} {p4 : (Rect.unit (s := S1x520x512) ![0, 6, 0] ![1, 2, 256] h4).shape.Idx → Elt Ideal .f32}
    (e3 : ∀ (i : Fin 2) (j : Fin 256), p3 (ix3 (n0 := 1) (n1 := 2) (n2 := 256) 0 i j) = nextS (rowsBlk x H gi go wu wd bd wo) i ⟨2816 + lo + j.val, by omega⟩)
    (e4 : ∀ (i : Fin 2) (j : Fin 256), p4 (ix3 (n0 := 1) (n1 := 2) (n2 := 256) 0 i j) = nextS (rowsBlk x H gi go wu wd bd wo) i ⟨lo + j.val, by omega⟩) :
    Carries (nextS (rowsBlk x H gi go wu wd bd wo)) (v.read (Elt Ideal) (v.writes (Elt Ideal) f
      (⟨Rect.unit ![0, 6, 256] ![1, 2, 256] h3, p3⟩ :: ⟨Rect.unit ![0, 6, 0] ![1, 2, 256] h4, p4⟩ :: L))) lo where
  gate i j hl := (left_lo (Val := Elt Ideal) v L f p3 p4 i j).trans (e4 i j)
  value i j hl := (left_hi (Val := Elt Ideal) v _ f p3 i j).trans (e3 i j)

end Cert.PromptFfn

end
-- ==== Proof.PromptRefValue.lean ====
/-
  The reference's two results on a prompt, read at an index: the layer of Spec with the reference's gelu, from a state of
  zeros.
-/
module

public import proofs.«01_k».proof.Proof.Consts
public import proofs.«01_k».proof.Proof.Gen.PromptRefIdeal.Read

@[expose] public section

set_option maxRecDepth 16384

noncomputable section

namespace Cert.PromptFfn

open Cert.PromptRefIdeal Cert.PromptRefIdeal.Gen Cert.PromptRefIdeal.Read Idealize.ShloMosaic
open Cert.ConvFfn (Rows rmsS upS xpS convS actS downS outS nextS geluR)

variable (x0 : FVec Ideal S4x4096x1024 .f32) (x1 x2 : FVec Ideal S1024 .f32)
  (x3 : FVec Ideal S1024x5632 .f32) (x4 : FVec Ideal S3x5632 .f32) (x5 : FVec Ideal S5632 .f32) (x6 : FVec Ideal S2816x1024 .f32)

/-- One sequence's share of the argument arrays. -/
def rowsOf (b : Fin 4) : Rows 4096 where
  x t k := x0 (ix3 b t k)
  st _ _ := 0
  gi k := x1 (ix1 k)
  go k := x2 (ix1 k)
  wu k l := x3 (ix2 k l)
  wd i l := x4 (ix2 i l)
  bd l := x5 (ix1 l)
  wo k n := x6 (ix2 k n)

/-- The normed rows. -/
theorem refHidden (b : Fin 4) (t : Fin 4096) (k : Fin 1024) : val_main_v12 (F := Ideal) x0 x1 (ix3 b t k)
    = x0 (ix3 b t k) * rmsS (fun k => x0 (ix3 b t k)) * x1 (ix1 k) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The rows the convolution reads. -/
theorem refRows (b : Fin 4) (t : Fin 4098) (l : Fin 5632) : val_main_v15 (F := Ideal) x0 x1 x3 (ix3 b t l)
    = xpS (rowsOf x0 x1 x2 x3 x4 x5 x6 b) t.val l := by
  pointwise [val_main_v15, val_main_v14, val_main_v13, val_main_cst_2, refHidden]
  unfold xpS
  by_cases h : t.val < 2
  · rw [dif_pos h, dif_pos h]
    rfl
  · rw [dif_neg h, dif_neg h, dif_pos (show t.val - 2 < 4096 by omega)]
    rfl

/-- The convolution. -/
theorem refConv (b : Fin 4) (t : Fin 4096) (l : Fin 5632) : val_main_v38 (F := Ideal) x0 x1 x3 x4 x5 (ix3 b t l)
    = convS (rowsOf x0 x1 x2 x3 x4 x5 x6 b) t l := by
  pointwise [val_main_v38, val_main_v37, val_main_v36, val_main_v35, val_main_v34, val_main_v33, val_main_v32, val_main_v31, val_main_v30, val_main_v29, val_main_v28,
   val_main_v27, val_main_v26, val_main_v25, val_main_v24, val_main_v23, val_main_v22, val_main_v21, val_main_v20, val_main_v19, val_main_v18, val_main_v17, val_main_v16]
  simp only [refRows x0 x1 x2 x3 x4 x5 x6]
  unfold convS
  rw [Nat.add_comm t.val 1, Nat.add_comm t.val 2]
  rfl

/-- The gated product. -/
theorem refAct (b : Fin 4) (t : Fin 4096) (k : Fin 2816) : val_main_v54 (F := Ideal) x0 x1 x3 x4 x5 (ix3 b t k)
    = actS geluR (rowsOf x0 x1 x2 x3 x4 x5 x6 b) t k := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_cst_3, val_main_cst_4, val_main_cst_5, val_main_cst_6]
  simp only [refConv x0 x1 x2 x3 x4 x5 x6]
  rfl

/-- The first result. -/
theorem refOut (b : Fin 4) (t : Fin 4096) (n : Fin 1024) : val_main_v69 (F := Ideal) x0 x1 x2 x3 x4 x5 x6 (ix3 b t n)
    = outS geluR (rowsOf x0 x1 x2 x3 x4 x5 x6 b) t n := by
  pointwise [val_main_v69, val_main_v68, val_main_v67, val_main_v66, val_main_v65, val_main_v64, val_main_v63, val_main_v62, val_main_v61, val_main_v60, val_main_v59, val_main_v58, val_main_v57, val_main_v56, val_main_v55, val_main_cst_7, val_main_cst_8, val_main_cst_9]
  simp only [refAct x0 x1 x2 x3 x4 x5 x6]
  rfl

/-- The second result. -/
theorem refNext (b : Fin 4) (i : Fin 2) (l : Fin 5632) : val_main_v70 (F := Ideal) x0 x1 x3 (ix3 b i l)
    = nextS (rowsOf x0 x1 x2 x3 x4 x5 x6 b) i l := by
  pointwise [val_main_v70]
  exact refRows x0 x1 x2 x3 x4 x5 x6 b _ l

end Cert.PromptFfn

end
-- ==== Proof.PromptRows.lean ====
/-
  A grid point's blocks as a stretch of 512 steps of a whole sequence: with the rows carried in from the steps before, the
  layer on the stretch is the layer on the sequence, 512 times the block's number further on.
-/
module

public import proofs.«01_k».proof.Proof.PromptBlock
public import proofs.«01_k».proof.Proof.PromptRefValue

@[expose] public section

set_option maxRecDepth 16384

noncomputable section

namespace Cert.PromptFfn

open Idealize.ShloMosaic
open Cert.ConvFfn (Rows rmsS upS xpS convS actS downS outS nextS geluK)

section Shift

variable (R : Rows 4096) (B : Rows 512) (q : ℕ) (hq : q < 8)

/-- A stretch of a sequence: the same weights, the steps from 512 q on, and the rows carried in. -/
structure Stretch : Prop where
  x : ∀ s : Fin 512, B.x s = R.x ⟨512 * q + s.val, by omega⟩
  st : ∀ i l, B.st i l = xpS R (512 * q + i.val) l
  gi : B.gi = R.gi
  go : B.go = R.go
  wu : B.wu = R.wu
  wd : B.wd = R.wd
  bd : B.bd = R.bd
  wo : B.wo = R.wo

variable {R B q hq} (h : Stretch R B q hq)

include h

theorem xpS_shift (τ : ℕ) (hτ : τ < 514) (l : Fin 5632) : xpS B τ l = xpS R (512 * q + τ) l := by
  by_cases h2 : τ < 2
  · refine Eq.trans ?_ (h.st ⟨τ, h2⟩ l)
    unfold xpS
    rw [dif_pos h2]
  · unfold xpS
    rw [dif_neg h2, dif_pos (show τ - 2 < 512 by omega), dif_neg (show ¬ 512 * q + τ < 2 by omega),
      dif_pos (show 512 * q + τ - 2 < 4096 by omega), h.x, h.gi, h.wu]
    refine congrArg (fun v => upS (R.x v) R.gi fun k => R.wu k l) (Fin.ext ?_)
    show 512 * q + (τ - 2) = 512 * q + τ - 2
    omega

theorem convS_shift (s : Fin 512) (l : Fin 5632) : convS B s l = convS R ⟨512 * q + s.val, by omega⟩ l := by
  unfold convS
  rw [xpS_shift h _ (by omega), xpS_shift h _ (by omega), xpS_shift h _ (by omega), h.wd, h.bd]
  rfl

theorem actS_shift (G : EReal → EReal) (s : Fin 512) (k : Fin 2816) : actS G B s k = actS G R ⟨512 * q + s.val, by omega⟩ k := by
  unfold actS
  rw [convS_shift h, convS_shift h]

theorem downS_shift (G : EReal → EReal) (s : Fin 512) : downS G B s = downS G R ⟨512 * q + s.val, by omega⟩ := by
  funext n
  unfold downS
  simp only [actS_shift h, h.wo]

theorem outS_shift (G : EReal → EReal) (s : Fin 512) (n : Fin 1024) : outS G B s n = outS G R ⟨512 * q + s.val, by omega⟩ n := by
  unfold outS
  rw [downS_shift h, h.x, h.go]

theorem nextS_shift (i : Fin 2) (l : Fin 5632) : nextS B i l = xpS R (512 * (q + 1) + i.val) l := by
  unfold nextS
  rw [xpS_shift h _ (by omega)]
  exact congrArg (fun τ => xpS R τ l) (by omega)

end Shift

open Cert.PromptIdeal Cert.PromptIdeal.Gen Cert.PromptIdeal.Value Idealize.ShloMosaic.TcCoe Idealize.SL.Sem

variable (m : (ℓ : Loc nD τ sig) → Buf (Elt Ideal) ℓ)

/-- The windows' blocks: 512 steps of one sequence a grid point, and the whole of the weights. -/
theorem at_x : ∀ t : Fin cfg0.N, win0_0.index t = ![t.val / 8, t.val % 8, 0] := (by decide +kernel : ∀ t : Fin grid0.N, win0_0.index t = ![t.val / 8, t.val % 8, 0])
theorem at_state : ∀ t : Fin cfg0.N, win0_1.index t = ![t.val / 8, 0, 0] := (by decide +kernel : ∀ t : Fin grid0.N, win0_1.index t = ![t.val / 8, 0, 0])
theorem at_gain_in : ∀ t : Fin cfg0.N, win0_2.index t = ![0, 0] := (by decide +kernel : ∀ t : Fin grid0.N, win0_2.index t = ![0, 0])
theorem at_gain_out : ∀ t : Fin cfg0.N, win0_3.index t = ![0, 0] := (by decide +kernel : ∀ t : Fin grid0.N, win0_3.index t = ![0, 0])
theorem at_up : ∀ t : Fin cfg0.N, win0_4.index t = ![0, 0] := (by decide +kernel : ∀ t : Fin grid0.N, win0_4.index t = ![0, 0])
theorem at_taps : ∀ t : Fin cfg0.N, win0_5.index t = ![0, 0] := (by decide +kernel : ∀ t : Fin grid0.N, win0_5.index t = ![0, 0])
theorem at_bias : ∀ t : Fin cfg0.N, win0_6.index t = ![0, 0] := (by decide +kernel : ∀ t : Fin grid0.N, win0_6.index t = ![0, 0])
theorem at_down : ∀ t : Fin cfg0.N, win0_7.index t = ![0, 0] := (by decide +kernel : ∀ t : Fin grid0.N, win0_7.index t = ![0, 0])
theorem at_out : ∀ t : Fin cfg0.N, win0_8.index t = ![t.val / 8, t.val % 8, 0] := (by decide +kernel : ∀ t : Fin grid0.N, win0_8.index t = ![t.val / 8, t.val % 8, 0])
theorem at_next : ∀ t : Fin cfg0.N, win0_9.index t = ![t.val / 8, 0, 0] := (by decide +kernel : ∀ t : Fin grid0.N, win0_9.index t = ![t.val / 8, 0, 0])

/-- The sequence a grid point works on. -/
def seqOf (t : Fin cfg0.N) : Fin 4 := ⟨t.val / 8, by have h : t.val < 32 := t.isLt; omega⟩

/-- And the step that its block holds at `s`. -/
def stepOf (t : Fin cfg0.N) (s : Fin 512) : Fin 4096 := ⟨512 * (t.val % 8) + s.val, by omega⟩

theorem blk_x (c : Dev nD) (t : Fin cfg0.N) (s : Fin 512) (k : Fin 1024) :
    iblk m c 0 t (ix3 0 s k) = m ((c : Thread nD τ).loc main_arg0) (ix3 (seqOf t) (stepOf t s) k) := by
  blk_point [iblk, V, at_x t]
  all_goals first | rfl | (unfold stepOf; dsimp only; omega)
theorem blk_state (c : Dev nD) (t : Fin cfg0.N) (i : Fin 2) (l : Fin 5632) : iblk m c 1 t (ix3 0 i l) = (0 : EReal) := by
  blk_point [iblk, V, at_state t]
  try rfl
theorem blk_gain_in (c : Dev nD) (t : Fin cfg0.N) (k : Fin 1024) : iblk m c 2 t (ix2 0 k) = m ((c : Thread nD τ).loc main_arg1) (ix1 k) := by
  blk_point [iblk, V, at_gain_in t]
theorem blk_gain_out (c : Dev nD) (t : Fin cfg0.N) (k : Fin 1024) : iblk m c 3 t (ix2 0 k) = m ((c : Thread nD τ).loc main_arg2) (ix1 k) := by
  blk_point [iblk, V, at_gain_out t]
theorem blk_up (c : Dev nD) (t : Fin cfg0.N) (k : Fin 1024) (l : Fin 5632) : iblk m c 4 t (ix2 k l) = m ((c : Thread nD τ).loc main_arg3) (ix2 k l) := by
  blk_point [iblk, V, at_up t]
theorem blk_taps (c : Dev nD) (t : Fin cfg0.N) (k : Fin 3) (l : Fin 5632) : iblk m c 5 t (ix2 k l) = m ((c : Thread nD τ).loc main_arg4) (ix2 k l) := by
  blk_point [iblk, V, at_taps t]
theorem blk_bias (c : Dev nD) (t : Fin cfg0.N) (l : Fin 5632) : iblk m c 6 t (ix2 0 l) = m ((c : Thread nD τ).loc main_arg5) (ix1 l) := by
  blk_point [iblk, V, at_bias t]
theorem blk_down (c : Dev nD) (t : Fin cfg0.N) (k : Fin 2816) (n : Fin 1024) : iblk m c 7 t (ix2 k n) = m ((c : Thread nD τ).loc main_arg6) (ix2 k n) := by
  blk_point [iblk, V, at_down t]

/-- One sequence's share of the argument arrays. -/
abbrev argRows (c : Dev nD) (b : Fin 4) : Rows 4096 :=
  rowsOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) b

/-- The rows carried into a grid point. -/
def carried (c : Dev nD) (t : Fin cfg0.N) : Fin 2 → Fin 5632 → EReal := fun i l => xpS (argRows m c (seqOf t)) (512 * (t.val % 8) + i.val) l

/-- The layer's rows at a grid point. -/
abbrev blkRows (c : Dev nD) (t : Fin cfg0.N) : Rows 512 :=
  rowsBlk (iblk m c 0 t) (carried m c t) (iblk m c 2 t) (iblk m c 3 t) (iblk m c 4 t) (iblk m c 5 t) (iblk m c 6 t) (iblk m c 7 t)

theorem stretch (c : Dev nD) (t : Fin cfg0.N) : Stretch (argRows m c (seqOf t)) (blkRows m c t) (t.val % 8) (by omega) where
  x s := funext fun k => blk_x m c t s k
  st _ _ := rfl
  gi := funext fun k => blk_gain_in m c t k
  go := funext fun k => blk_gain_out m c t k
  wu := funext fun k => funext fun l => blk_up m c t k l
  wd := funext fun k => funext fun l => blk_taps m c t k l
  bd := funext fun l => blk_bias m c t l
  wo := funext fun k => funext fun n => blk_down m c t k n

/-- At a sequence's first block the rows carried in are zero. -/
theorem carried_first (c : Dev nD) (t : Fin cfg0.N) (h : t.val % 8 = 0) (i : Fin 2) (l : Fin 5632) : carried m c t i l = 0 := by
  unfold carried xpS
  rw [dif_pos (show 512 * (t.val % 8) + i.val < 2 by omega)]
  rfl

/-- Later they are what the block before carries on. -/
theorem carried_later (c : Dev nD) (t s : Fin cfg0.N) (h : t.val % 8 ≠ 0) (hs : s.val = t.val - 1) (i : Fin 2) (l : Fin 5632) :
    nextS (blkRows m c s) i l = carried m c t i l := by
  rw [nextS_shift (stretch m c s)]
  have e : seqOf s = seqOf t := Fin.ext (by show s.val / 8 = t.val / 8; omega)
  unfold carried
  rw [e]
  exact congrArg (fun τ => xpS _ τ l) (by omega)

end Cert.PromptFfn

end
-- ==== Proof.PromptCarry.lean ====
/-
  What a grid point leaves in the chunks' buffers for the point after it: its last two projected rows.
-/
module

public import proofs.«01_k».proof.Proof.PromptRows

@[expose] public section

set_option maxRecDepth 16384

noncomputable section

namespace Cert.PromptFfn

open Cert.PromptIdeal Cert.PromptIdeal.Gen Cert.PromptIdeal.Value Idealize.ShloMosaic Idealize.ShloMosaic.TcCoe Idealize.SL.Sem
open Cert.ConvFfn (nextS)

variable (m : (ℓ : Loc nD τ sig) → Buf (Elt Ideal) ℓ)

/-- Chunk 0's buffer after a point that is not its sequence's last. -/
theorem left_1 (c : Dev nD) (t : Fin cfg0.N) (h1 : ¬ t.val % 8 = 7) :
    Carries (nextS (blkRows m c t)) (outsAt0 m c t.val t.isLt).2.2.1 0 := by
  by_cases h0 : t.val % 8 = 0
  · rw [outsAt0_A m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 0 (by decide) (fun i j => ?_) (fun i j => ?_)
    · exact (congrFun (shapeCast_self _ _) _).trans <| last_rows _ _ _ _ _ _ _ _ 2816 (by decide) (by decide) i j
    · exact (congrFun (shapeCast_self _ _) _).trans <| last_rows _ _ _ _ _ _ _ _ 0 (by decide) (by decide) i j
  · rw [outsAt0_B m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 0 (by decide) (fun i j => ?_) (fun i j => ?_)
    · exact (congrFun (shapeCast_self _ _) _).trans <| last_rows _ _ _ _ _ _ _ _ 2816 (by decide) (by decide) i j
    · exact (congrFun (shapeCast_self _ _) _).trans <| last_rows _ _ _ _ _ _ _ _ 0 (by decide) (by decide) i j

/-- Chunk 1's buffer after a point that is not its sequence's last. -/
theorem left_2 (c : Dev nD) (t : Fin cfg0.N) (h1 : ¬ t.val % 8 = 7) :
    Carries (nextS (blkRows m c t)) (outsAt0 m c t.val t.isLt).2.2.2.1 256 := by
  by_cases h0 : t.val % 8 = 0
  · rw [outsAt0_A m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 256 (by decide) (fun i j => ?_) (fun i j => ?_)
    · exact (congrFun (shapeCast_self _ _) _).trans <| last_rows _ _ _ _ _ _ _ _ 3072 (by decide) (by decide) i j
    · exact (congrFun (shapeCast_self _ _) _).trans <| last_rows _ _ _ _ _ _ _ _ 256 (by decide) (by decide) i j
  · rw [outsAt0_B m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 256 (by decide) (fun i j => ?_) (fun i j => ?_)
    · exact (congrFun (shapeCast_self _ _) _).trans <| last_rows _ _ _ _ _ _ _ _ 3072 (by decide) (by decide) i j
    · exact (congrFun (shapeCast_self _ _) _).trans <| last_rows _ _ _ _ _ _ _ _ 256 (by decide) (by decide) i j

/-- Chunk 2's buffer after a point that is not its sequence's last. -/
theorem left_3 (c : Dev nD) (t : Fin cfg0.N) (h1 : ¬ t.val % 8 = 7) :
    Carries (nextS (blkRows m c t)) (outsAt0 m c t.val t.isLt).2.2.2.2.1 512 := by
  by_cases h0 : t.val % 8 = 0
  · rw [outsAt0_A m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 512 (by decide) (fun i j => ?_) (fun i j => ?_)
    · exact (congrFun (shapeCast_self _ _) _).trans <| last_rows _ _ _ _ _ _ _ _ 3328 (by decide) (by decide) i j
    · exact (congrFun (shapeCast_self _ _) _).trans <| last_rows _ _ _ _ _ _ _ _ 512 (by decide) (by decide) i j
  · rw [outsAt0_B m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 512 (by decide) (fun i j => ?_) (fun i j => ?_)
    · exact (congrFun (shapeCast_self _ _) _).trans <| last_rows _ _ _ _ _ _ _ _ 3328 (by decide) (by decide) i j
    · exact (congrFun (shapeCast_self _ _) _).trans <| last_rows _ _ _ _ _ _ _ _ 512 (by decide) (by decide) i j

/-- Chunk 3's buffer after a point that is not its sequence's last. -/
theorem left_4 (c : Dev nD) (t : Fin cfg0.N) (h1 : ¬ t.val % 8 = 7) :
    Carries (nextS (blkRows m c t)) (outsAt0 m c t.val t.isLt).2.2.2.2.2.1 768 := by
  by_cases h0 : t.val % 8 = 0
  · rw [outsAt0_A m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 768 (by decide) (fun i j => ?_) (fun i j => ?_)
    · exact (congrFun (shapeCast_self _ _) _).trans <| last_rows _ _ _ _ _ _ _ _ 3584 (by decide) (by decide) i j
    · exact (congrFun (shapeCast_self _ _) _).trans <| last_rows _ _ _ _ _ _ _ _ 768 (by decide) (by decide) i j
  · rw [outsAt0_B m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 768 (by decide) (fun i j => ?_) (fun i j => ?_)
    · exact (congrFun (shapeCast_self _ _) _).trans <| last_rows _ _ _ _ _ _ _ _ 3584 (by decide) (by decide) i j
    · exact (congrFun (shapeCast_self _ _) _).trans <| last_rows _ _ _ _ _ _ _ _ 768 (by decide) (by decide) i j

/-- Chunk 4's buffer after a point that is not its sequence's last. -/
theorem left_5 (c : Dev nD) (t : Fin cfg0.N) (h1 : ¬ t.val % 8 = 7) :
    Carries (nextS (blkRows m c t)) (outsAt0 m c t.val t.isLt).2.2.2.2.2.2.1 1024 := by
  by_cases h0 : t.val % 8 = 0
  · rw [outsAt0_A m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 1024 (by decide) (fun i j => ?_) (fun i j => ?_)
    · exact (congrFun (shapeCast_self _ _) _).trans <| last_rows _ _ _ _ _ _ _ _ 3840 (by decide) (by decide) i j
    · exact (congrFun (shapeCast_self _ _) _).trans <| last_rows _ _ _ _ _ _ _ _ 1024 (by decide) (by decide) i j
  · rw [outsAt0_B m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 1024 (by decide) (fun i j => ?_) (fun i j => ?_)
    · exact (congrFun (shapeCast_self _ _) _).trans <| last_rows _ _ _ _ _ _ _ _ 3840 (by decide) (by decide) i j
    · exact (congrFun (shapeCast_self _ _) _).trans <| last_rows _ _ _ _ _ _ _ _ 1024 (by decide) (by decide) i j

/-- Chunk 5's buffer after a point that is not its sequence's last. -/
theorem left_6 (c : Dev nD) (t : Fin cfg0.N) (h1 : ¬ t.val % 8 = 7) :
    Carries (nextS (blkRows m c t)) (outsAt0 m c t.val t.isLt).2.2.2.2.2.2.2.1 1280 := by
  by_cases h0 : t.val % 8 = 0
  · rw [outsAt0_A m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 1280 (by decide) (fun i j => ?_) (fun i j => ?_)
    · exact (congrFun (shapeCast_self _ _) _).trans <| last_rows _ _ _ _ _ _ _ _ 4096 (by decide) (by decide) i j
    · exact (congrFun (shapeCast_self _ _) _).trans <| last_rows _ _ _ _ _ _ _ _ 1280 (by decide) (by decide) i j
  · rw [outsAt0_B m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 1280 (by decide) (fun i j => ?_) (fun i j => ?_)
    · exact (congrFun (shapeCast_self _ _) _).trans <| last_rows _ _ _ _ _ _ _ _ 4096 (by decide) (by decide) i j
    · exact (congrFun (shapeCast_self _ _) _).trans <| last_rows _ _ _ _ _ _ _ _ 1280 (by decide) (by decide) i j

/-- Chunk 6's buffer after a point that is not its sequence's last. -/
theorem left_7 (c : Dev nD) (t : Fin cfg0.N) (h1 : ¬ t.val % 8 = 7) :
    Carries (nextS (blkRows m c t)) (outsAt0 m c t.val t.isLt).2.2.2.2.2.2.2.2.1 1536 := by
  by_cases h0 : t.val % 8 = 0
  · rw [outsAt0_A m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 1536 (by decide) (fun i j => ?_) (fun i j => ?_)
    · exact (congrFun (shapeCast_self _ _) _).trans <| last_rows _ _ _ _ _ _ _ _ 4352 (by decide) (by decide) i j
    · exact (congrFun (shapeCast_self _ _) _).trans <| last_rows _ _ _ _ _ _ _ _ 1536 (by decide) (by decide) i j
  · rw [outsAt0_B m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 1536 (by decide) (fun i j => ?_) (fun i j => ?_)
    · exact (congrFun (shapeCast_self _ _) _).trans <| last_rows _ _ _ _ _ _ _ _ 4352 (by decide) (by decide) i j
    · exact (congrFun (shapeCast_self _ _) _).trans <| last_rows _ _ _ _ _ _ _ _ 1536 (by decide) (by decide) i j

/-- Chunk 7's buffer after a point that is not its sequence's last. -/
theorem left_8 (c : Dev nD) (t : Fin cfg0.N) (h1 : ¬ t.val % 8 = 7) :
    Carries (nextS (blkRows m c t)) (outsAt0 m c t.val t.isLt).2.2.2.2.2.2.2.2.2.1 1792 := by
  by_cases h0 : t.val % 8 = 0
  · rw [outsAt0_A m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 1792 (by decide) (fun i j => ?_) (fun i j => ?_)
    · exact (congrFun (shapeCast_self _ _) _).trans <| last_rows _ _ _ _ _ _ _ _ 4608 (by decide) (by decide) i j
    · exact (congrFun (shapeCast_self _ _) _).trans <| last_rows _ _ _ _ _ _ _ _ 1792 (by decide) (by decide) i j
  · rw [outsAt0_B m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 1792 (by decide) (fun i j => ?_) (fun i j => ?_)
    · exact (congrFun (shapeCast_self _ _) _).trans <| last_rows _ _ _ _ _ _ _ _ 4608 (by decide) (by decide) i j
    · exact (congrFun (shapeCast_self _ _) _).trans <| last_rows _ _ _ _ _ _ _ _ 1792 (by decide) (by decide) i j

/-- Chunk 8's buffer after a point that is not its sequence's last. -/
theorem left_9 (c : Dev nD) (t : Fin cfg0.N) (h1 : ¬ t.val % 8 = 7) :
    Carries (nextS (blkRows m c t)) (outsAt0 m c t.val t.isLt).2.2.2.2.2.2.2.2.2.2.1 2048 := by
  by_cases h0 : t.val % 8 = 0
  · rw [outsAt0_A m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 2048 (by decide) (fun i j => ?_) (fun i j => ?_)
    · exact (congrFun (shapeCast_self _ _) _).trans <| last_rows _ _ _ _ _ _ _ _ 4864 (by decide) (by decide) i j
    · exact (congrFun (shapeCast_self _ _) _).trans <| last_rows _ _ _ _ _ _ _ _ 2048 (by decide) (by decide) i j
  · rw [outsAt0_B m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 2048 (by decide) (fun i j => ?_) (fun i j => ?_)
    · exact (congrFun (shapeCast_self _ _) _).trans <| last_rows _ _ _ _ _ _ _ _ 4864 (by decide) (by decide) i j
    · exact (congrFun (shapeCast_self _ _) _).trans <| last_rows _ _ _ _ _ _ _ _ 2048 (by decide) (by decide) i j

/-- Chunk 9's buffer after a point that is not its sequence's last. -/
theorem left_10 (c : Dev nD) (t : Fin cfg0.N) (h1 : ¬ t.val % 8 = 7) :
    Carries (nextS (blkRows m c t)) (outsAt0 m c t.val t.isLt).2.2.2.2.2.2.2.2.2.2.2.1 2304 := by
  by_cases h0 : t.val % 8 = 0
  · rw [outsAt0_A m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 2304 (by decide) (fun i j => ?_) (fun i j => ?_)
    · exact (congrFun (shapeCast_self _ _) _).trans <| last_rows _ _ _ _ _ _ _ _ 5120 (by decide) (by decide) i j
    · exact (congrFun (shapeCast_self _ _) _).trans <| last_rows _ _ _ _ _ _ _ _ 2304 (by decide) (by decide) i j
  · rw [outsAt0_B m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 2304 (by decide) (fun i j => ?_) (fun i j => ?_)
    · exact (congrFun (shapeCast_self _ _) _).trans <| last_rows _ _ _ _ _ _ _ _ 5120 (by decide) (by decide) i j
    · exact (congrFun (shapeCast_self _ _) _).trans <| last_rows _ _ _ _ _ _ _ _ 2304 (by decide) (by decide) i j

/-- Chunk 10's buffer after a point that is not its sequence's last. -/
theorem left_11 (c : Dev nD) (t : Fin cfg0.N) (h1 : ¬ t.val % 8 = 7) :
    Carries (nextS (blkRows m c t)) (outsAt0 m c t.val t.isLt).2.2.2.2.2.2.2.2.2.2.2.2 2560 := by
  by_cases h0 : t.val % 8 = 0
  · rw [outsAt0_A m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 2560 (by decide) (fun i j => ?_) (fun i j => ?_)
    · exact (congrFun (shapeCast_self _ _) _).trans <| last_rows _ _ _ _ _ _ _ _ 5376 (by decide) (by decide) i j
    · exact (congrFun (shapeCast_self _ _) _).trans <| last_rows _ _ _ _ _ _ _ _ 2560 (by decide) (by decide) i j
  · rw [outsAt0_B m c t h0 h1]
    frame_open
    simp only [↓ load_last_hi, ↓ load_last_lo]
    simp (disch := decide) only [View.ld_unit_lit', View.readAt_eq_ld, Memref.IsWhole.read_unread]
    refine carries_of (iblk m c 0 t) (carried m c t) (iblk m c 2 t) (iblk m c 3 t) (iblk m c 4 t) (iblk m c 5 t) (iblk m c 6 t) (iblk m c 7 t) 2560 (by decide) (fun i j => ?_) (fun i j => ?_)
    · exact (congrFun (shapeCast_self _ _) _).trans <| last_rows _ _ _ _ _ _ _ _ 5376 (by decide) (by decide) i j
    · exact (congrFun (shapeCast_self _ _) _).trans <| last_rows _ _ _ _ _ _ _ _ 2560 (by decide) (by decide) i j

/-- The point before, and the rows it carries on. -/
theorem before (c : Dev nD) (t : Fin cfg0.N) (h : ¬ t.val % 8 = 0) :
    nextS (blkRows m c ⟨t.val - 1, Nat.lt_of_le_of_lt (Nat.sub_le _ _) t.isLt⟩) = carried m c t :=
  funext fun i => funext fun l => carried_later m c t _ h rfl i l
theorem held_1 (c : Dev nD) (t : Fin cfg0.N) (h : ¬ t.val % 8 = 0) :
    Carries (carried m c t) (outsAt0 m c (t.val - 1) (Nat.lt_of_le_of_lt (Nat.sub_le _ _) t.isLt)).2.2.1 0 :=
  before m c t h ▸ left_1 m c ⟨t.val - 1, Nat.lt_of_le_of_lt (Nat.sub_le _ _) t.isLt⟩ (by dsimp only; omega)
theorem held_2 (c : Dev nD) (t : Fin cfg0.N) (h : ¬ t.val % 8 = 0) :
    Carries (carried m c t) (outsAt0 m c (t.val - 1) (Nat.lt_of_le_of_lt (Nat.sub_le _ _) t.isLt)).2.2.2.1 256 :=
  before m c t h ▸ left_2 m c ⟨t.val - 1, Nat.lt_of_le_of_lt (Nat.sub_le _ _) t.isLt⟩ (by dsimp only; omega)
theorem held_3 (c : Dev nD) (t : Fin cfg0.N) (h : ¬ t.val % 8 = 0) :
    Carries (carried m c t) (outsAt0 m c (t.val - 1) (Nat.lt_of_le_of_lt (Nat.sub_le _ _) t.isLt)).2.2.2.2.1 512 :=
  before m c t h ▸ left_3 m c ⟨t.val - 1, Nat.lt_of_le_of_lt (Nat.sub_le _ _) t.isLt⟩ (by dsimp only; omega)
theorem held_4 (c : Dev nD) (t : Fin cfg0.N) (h : ¬ t.val % 8 = 0) :
    Carries (carried m c t) (outsAt0 m c (t.val - 1) (Nat.lt_of_le_of_lt (Nat.sub_le _ _) t.isLt)).2.2.2.2.2.1 768 :=
  before m c t h ▸ left_4 m c ⟨t.val - 1, Nat.lt_of_le_of_lt (Nat.sub_le _ _) t.isLt⟩ (by dsimp only; omega)
theorem held_5 (c : Dev nD) (t : Fin cfg0.N) (h : ¬ t.val % 8 = 0) :
    Carries (carried m c t) (outsAt0 m c (t.val - 1) (Nat.lt_of_le_of_lt (Nat.sub_le _ _) t.isLt)).2.2.2.2.2.2.1 1024 :=
  before m c t h ▸ left_5 m c ⟨t.val - 1, Nat.lt_of_le_of_lt (Nat.sub_le _ _) t.isLt⟩ (by dsimp only; omega)
theorem held_6 (c : Dev nD) (t : Fin cfg0.N) (h : ¬ t.val % 8 = 0) :
    Carries (carried m c t) (outsAt0 m c (t.val - 1) (Nat.lt_of_le_of_lt (Nat.sub_le _ _) t.isLt)).2.2.2.2.2.2.2.1 1280 :=
  before m c t h ▸ left_6 m c ⟨t.val - 1, Nat.lt_of_le_of_lt (Nat.sub_le _ _) t.isLt⟩ (by dsimp only; omega)
theorem held_7 (c : Dev nD) (t : Fin cfg0.N) (h : ¬ t.val % 8 = 0) :
    Carries (carried m c t) (outsAt0 m c (t.val - 1) (Nat.lt_of_le_of_lt (Nat.sub_le _ _) t.isLt)).2.2.2.2.2.2.2.2.1 1536 :=
  before m c t h ▸ left_7 m c ⟨t.val - 1, Nat.lt_of_le_of_lt (Nat.sub_le _ _) t.isLt⟩ (by dsimp only; omega)
theorem held_8 (c : Dev nD) (t : Fin cfg0.N) (h : ¬ t.val % 8 = 0) :
    Carries (carried m c t) (outsAt0 m c (t.val - 1) (Nat.lt_of_le_of_lt (Nat.sub_le _ _) t.isLt)).2.2.2.2.2.2.2.2.2.1 1792 :=
  before m c t h ▸ left_8 m c ⟨t.val - 1, Nat.lt_of_le_of_lt (Nat.sub_le _ _) t.isLt⟩ (by dsimp only; omega)
theorem held_9 (c : Dev nD) (t : Fin cfg0.N) (h : ¬ t.val % 8 = 0) :
    Carries (carried m c t) (outsAt0 m c (t.val - 1) (Nat.lt_of_le_of_lt (Nat.sub_le _ _) t.isLt)).2.2.2.2.2.2.2.2.2.2.1 2048 :=
  before m c t h ▸ left_9 m c ⟨t.val - 1, Nat.lt_of_le_of_lt (Nat.sub_le _ _) t.isLt⟩ (by dsimp only; omega)
theorem held_10 (c : Dev nD) (t : Fin cfg0.N) (h : ¬ t.val % 8 = 0) :
    Carries (carried m c t) (outsAt0 m c (t.val - 1) (Nat.lt_of_le_of_lt (Nat.sub_le _ _) t.isLt)).2.2.2.2.2.2.2.2.2.2.2.1 2304 :=
  before m c t h ▸ left_10 m c ⟨t.val - 1, Nat.lt_of_le_of_lt (Nat.sub_le _ _) t.isLt⟩ (by dsimp only; omega)
theorem held_11 (c : Dev nD) (t : Fin cfg0.N) (h : ¬ t.val % 8 = 0) :
    Carries (carried m c t) (outsAt0 m c (t.val - 1) (Nat.lt_of_le_of_lt (Nat.sub_le _ _) t.isLt)).2.2.2.2.2.2.2.2.2.2.2.2 2560 :=
  before m c t h ▸ left_11 m c ⟨t.val - 1, Nat.lt_of_le_of_lt (Nat.sub_le _ _) t.isLt⟩ (by dsimp only; omega)

end Cert.PromptFfn

end
-- ==== Proof.PromptPoint.lean ====
/-
  What a grid point's body leaves in the two output blocks, as the layer's rows of the point's input blocks and of the rows
  carried in: at a sequence's first point, at its last and in between.
-/
module

public import proofs.«01_k».proof.Proof.PromptCarry

@[expose] public section

set_option maxRecDepth 16384

noncomputable section

namespace Cert.PromptFfn

open Cert.PromptIdeal Cert.PromptIdeal.Gen Cert.PromptIdeal.Value Idealize.ShloMosaic Idealize.ShloMosaic.TcCoe Idealize.SL.Sem

/-- A tile's rows moved down by one, of the row put in front and of the rows kept. -/
def frontRow {α : Type} (a : S1x1x8x256.Idx → α) (b : S1x63x8x256.Idx → α) : S1x64x8x256.Idx → α :=
  concatenate S1x64x8x256 1 [⟨S1x1x8x256, a⟩, ⟨S1x63x8x256, b⟩] concatenates_S1x1x8x256_S1x63x8x256_S1x64x8x256_d1

/-- The kernel's concatenation is this. -/
theorem frontRow_eq {α : Type} (a : S1x1x8x256.Idx → α) (b : S1x63x8x256.Idx → α)
    (h : Shape.Concatenates ([(⟨S1x1x8x256, a⟩ : (s : Shape) × (s.Idx → α)), ⟨S1x63x8x256, b⟩].map (·.1)) S1x64x8x256 1) :
    concatenate S1x64x8x256 1 [⟨S1x1x8x256, a⟩, ⟨S1x63x8x256, b⟩] h = frontRow a b := rfl

variable (m : (ℓ : Loc nD τ sig) → Buf (Elt Ideal) ℓ)

/-- At a sequence's first point the state's block is the two rows. -/
theorem state_first (c : Dev nD) (t : Fin cfg0.N) (h : t.val % 8 = 0) (i : Fin 2) (l : Fin 5632) :
    iblk m c 1 t (ix3 0 i l) = carried m c t i l := (blk_state m c t i l).trans (carried_first m c t h i l).symm

/-- And so are the history rows it is stored to. -/
theorem hist_first {H : Fin 2 → Fin 5632 → EReal} (st : FVec Ideal S1x2x5632 .f32) (z : Vec Ideal S1x6x512 .f32) (lane : ℕ) (hl : lane + 256 ≤ 512) (lo : ℕ) (hlo : lo + 256 ≤ 5632)
    (hs : ∀ a, (![0, 0, lo] : Fin S1x2x5632.rank → ℕ) a + (![1, 2, 256] : Fin S1x2x5632.rank → ℕ) a ≤ S1x2x5632.size a)
    (h h' : S1x2x256.ShapeCasts S1x2x256) (hH : ∀ i l, st (ix3 0 i l) = H i l) :
    Hist H (histRows (Val := Elt Ideal) z (shapeCast S1x2x256 (shapeCast S1x2x256 (View.ld (Val := Elt Ideal) st (Rect.unit (s := S1x2x5632) ![0, 0, lo] ![1, 2, 256] hs)) h) h') lane hl) lo := by
  exact (congrArg (fun w : S1x2x256.Idx → Elt Ideal .f32 => Hist H (histRows (Val := Elt Ideal) z w lane hl) lo) ((shapeCast_self _ _).trans (shapeCast_self _ _))).mpr
    (hist_state _ st z lane hl lo hlo hs hH)

set_option maxHeartbeats 2000000 in
/-- The rows a sequence's first point writes. -/
theorem out_point_A (c : Dev nD) (t : Fin cfg0.N) (h0 : t.val % 8 = 0) (h1 : ¬ t.val % 8 = 7) :
    (outsAt0 m c t.val t.isLt).1 = outBuf (iblk m c 0 t) (carried m c t) (iblk m c 2 t) (iblk m c 3 t) (iblk m c 4 t) (iblk m c 5 t) (iblk m c 6 t) (iblk m c 7 t) := by
  rw [outsAt0_A m c t h0 h1]
  frame_open
  simp only [↓ frontRow_eq, ↓ load_cur_hi, ↓ load_cur_lo, ↓ load_hist_hi, ↓ load_hist_lo]
  frame_out
  refine parts_out (iblk m c 0 t) (carried m c t) (iblk m c 2 t) (iblk m c 3 t) (iblk m c 4 t) (iblk m c 5 t) (iblk m c 6 t) (iblk m c 7 t) ?_ (View.cover_of_tiledL _ ![512, 256] (by sl_kernel_rfl))
  refine ⟨?_, ?_, ?_, ?_, ?_, ?_, ?_, ?_, ?_, ?_, ?_, trivial⟩
  · exact chunk_piece _ _ _ _ _ _ _ _ _ _ 2560 5376 (by decide) rfl (hist_first (iblk m c 1 t) _ 0 (by decide) 2560 (by decide) (by decide) _ _ (state_first m c t h0)) (hist_first (iblk m c 1 t) _ 256 (by decide) 5376 (by decide) (by decide) _ _ (state_first m c t h0)) _ _ _ _ _ _ (by decide)
  · exact chunk_piece _ _ _ _ _ _ _ _ _ _ 2304 5120 (by decide) rfl (hist_first (iblk m c 1 t) _ 0 (by decide) 2304 (by decide) (by decide) _ _ (state_first m c t h0)) (hist_first (iblk m c 1 t) _ 256 (by decide) 5120 (by decide) (by decide) _ _ (state_first m c t h0)) _ _ _ _ _ _ (by decide)
  · exact chunk_piece _ _ _ _ _ _ _ _ _ _ 2048 4864 (by decide) rfl (hist_first (iblk m c 1 t) _ 0 (by decide) 2048 (by decide) (by decide) _ _ (state_first m c t h0)) (hist_first (iblk m c 1 t) _ 256 (by decide) 4864 (by decide) (by decide) _ _ (state_first m c t h0)) _ _ _ _ _ _ (by decide)
  · exact chunk_piece _ _ _ _ _ _ _ _ _ _ 1792 4608 (by decide) rfl (hist_first (iblk m c 1 t) _ 0 (by decide) 1792 (by decide) (by decide) _ _ (state_first m c t h0)) (hist_first (iblk m c 1 t) _ 256 (by decide) 4608 (by decide) (by decide) _ _ (state_first m c t h0)) _ _ _ _ _ _ (by decide)
  · exact chunk_piece _ _ _ _ _ _ _ _ _ _ 1536 4352 (by decide) rfl (hist_first (iblk m c 1 t) _ 0 (by decide) 1536 (by decide) (by decide) _ _ (state_first m c t h0)) (hist_first (iblk m c 1 t) _ 256 (by decide) 4352 (by decide) (by decide) _ _ (state_first m c t h0)) _ _ _ _ _ _ (by decide)
  · exact chunk_piece _ _ _ _ _ _ _ _ _ _ 1280 4096 (by decide) rfl (hist_first (iblk m c 1 t) _ 0 (by decide) 1280 (by decide) (by decide) _ _ (state_first m c t h0)) (hist_first (iblk m c 1 t) _ 256 (by decide) 4096 (by decide) (by decide) _ _ (state_first m c t h0)) _ _ _ _ _ _ (by decide)
  · exact chunk_piece _ _ _ _ _ _ _ _ _ _ 1024 3840 (by decide) rfl (hist_first (iblk m c 1 t) _ 0 (by decide) 1024 (by decide) (by decide) _ _ (state_first m c t h0)) (hist_first (iblk m c 1 t) _ 256 (by decide) 3840 (by decide) (by decide) _ _ (state_first m c t h0)) _ _ _ _ _ _ (by decide)
  · exact chunk_piece _ _ _ _ _ _ _ _ _ _ 768 3584 (by decide) rfl (hist_first (iblk m c 1 t) _ 0 (by decide) 768 (by decide) (by decide) _ _ (state_first m c t h0)) (hist_first (iblk m c 1 t) _ 256 (by decide) 3584 (by decide) (by decide) _ _ (state_first m c t h0)) _ _ _ _ _ _ (by decide)
  · exact chunk_piece _ _ _ _ _ _ _ _ _ _ 512 3328 (by decide) rfl (hist_first (iblk m c 1 t) _ 0 (by decide) 512 (by decide) (by decide) _ _ (state_first m c t h0)) (hist_first (iblk m c 1 t) _ 256 (by decide) 3328 (by decide) (by decide) _ _ (state_first m c t h0)) _ _ _ _ _ _ (by decide)
  · exact chunk_piece _ _ _ _ _ _ _ _ _ _ 256 3072 (by decide) rfl (hist_first (iblk m c 1 t) _ 0 (by decide) 256 (by decide) (by decide) _ _ (state_first m c t h0)) (hist_first (iblk m c 1 t) _ 256 (by decide) 3072 (by decide) (by decide) _ _ (state_first m c t h0)) _ _ _ _ _ _ (by decide)
  · exact chunk_piece _ _ _ _ _ _ _ _ _ _ 0 2816 (by decide) rfl (hist_first (iblk m c 1 t) _ 0 (by decide) 0 (by decide) (by decide) _ _ (state_first m c t h0)) (hist_first (iblk m c 1 t) _ 256 (by decide) 2816 (by decide) (by decide) _ _ (state_first m c t h0)) _ _ _ _ _ _ (by decide)

set_option maxHeartbeats 2000000 in
/-- A point in between. -/
theorem out_point_B (c : Dev nD) (t : Fin cfg0.N) (h0 : ¬ t.val % 8 = 0) (h1 : ¬ t.val % 8 = 7) :
    (outsAt0 m c t.val t.isLt).1 = outBuf (iblk m c 0 t) (carried m c t) (iblk m c 2 t) (iblk m c 3 t) (iblk m c 4 t) (iblk m c 5 t) (iblk m c 6 t) (iblk m c 7 t) := by
  rw [outsAt0_B m c t h0 h1]
  frame_open
  simp only [↓ frontRow_eq, ↓ load_cur_hi, ↓ load_cur_lo]
  frame_out
  simp only [read_unread_whole]
  refine parts_out (iblk m c 0 t) (carried m c t) (iblk m c 2 t) (iblk m c 3 t) (iblk m c 4 t) (iblk m c 5 t) (iblk m c 6 t) (iblk m c 7 t) ?_ (View.cover_of_tiledL _ ![512, 256] (by sl_kernel_rfl))
  refine ⟨?_, ?_, ?_, ?_, ?_, ?_, ?_, ?_, ?_, ?_, ?_, trivial⟩
  · exact chunk_piece _ _ _ _ _ _ _ _ _ _ 2560 5376 (by decide) rfl (hist_carried_lo _ _ 2560 _ (held_11 m c t h0).gate) (hist_carried_hi _ _ 5376 _ (held_11 m c t h0).value) _ _ _ _ _ _ (by decide)
  · exact chunk_piece _ _ _ _ _ _ _ _ _ _ 2304 5120 (by decide) rfl (hist_carried_lo _ _ 2304 _ (held_10 m c t h0).gate) (hist_carried_hi _ _ 5120 _ (held_10 m c t h0).value) _ _ _ _ _ _ (by decide)
  · exact chunk_piece _ _ _ _ _ _ _ _ _ _ 2048 4864 (by decide) rfl (hist_carried_lo _ _ 2048 _ (held_9 m c t h0).gate) (hist_carried_hi _ _ 4864 _ (held_9 m c t h0).value) _ _ _ _ _ _ (by decide)
  · exact chunk_piece _ _ _ _ _ _ _ _ _ _ 1792 4608 (by decide) rfl (hist_carried_lo _ _ 1792 _ (held_8 m c t h0).gate) (hist_carried_hi _ _ 4608 _ (held_8 m c t h0).value) _ _ _ _ _ _ (by decide)
  · exact chunk_piece _ _ _ _ _ _ _ _ _ _ 1536 4352 (by decide) rfl (hist_carried_lo _ _ 1536 _ (held_7 m c t h0).gate) (hist_carried_hi _ _ 4352 _ (held_7 m c t h0).value) _ _ _ _ _ _ (by decide)
  · exact chunk_piece _ _ _ _ _ _ _ _ _ _ 1280 4096 (by decide) rfl (hist_carried_lo _ _ 1280 _ (held_6 m c t h0).gate) (hist_carried_hi _ _ 4096 _ (held_6 m c t h0).value) _ _ _ _ _ _ (by decide)
  · exact chunk_piece _ _ _ _ _ _ _ _ _ _ 1024 3840 (by decide) rfl (hist_carried_lo _ _ 1024 _ (held_5 m c t h0).gate) (hist_carried_hi _ _ 3840 _ (held_5 m c t h0).value) _ _ _ _ _ _ (by decide)
  · exact chunk_piece _ _ _ _ _ _ _ _ _ _ 768 3584 (by decide) rfl (hist_carried_lo _ _ 768 _ (held_4 m c t h0).gate) (hist_carried_hi _ _ 3584 _ (held_4 m c t h0).value) _ _ _ _ _ _ (by decide)
  · exact chunk_piece _ _ _ _ _ _ _ _ _ _ 512 3328 (by decide) rfl (hist_carried_lo _ _ 512 _ (held_3 m c t h0).gate) (hist_carried_hi _ _ 3328 _ (held_3 m c t h0).value) _ _ _ _ _ _ (by decide)
  · exact chunk_piece _ _ _ _ _ _ _ _ _ _ 256 3072 (by decide) rfl (hist_carried_lo _ _ 256 _ (held_2 m c t h0).gate) (hist_carried_hi _ _ 3072 _ (held_2 m c t h0).value) _ _ _ _ _ _ (by decide)
  · exact chunk_piece _ _ _ _ _ _ _ _ _ _ 0 2816 (by decide) rfl (hist_carried_lo _ _ 0 _ (held_1 m c t h0).gate) (hist_carried_hi _ _ 2816 _ (held_1 m c t h0).value) _ _ _ _ _ _ (by decide)

set_option maxHeartbeats 2000000 in
/-- Its last point. -/
theorem out_point_C (c : Dev nD) (t : Fin cfg0.N) (h0 : ¬ t.val % 8 = 0) (h1 : t.val % 8 = 7) :
    (outsAt0 m c t.val t.isLt).1 = outBuf (iblk m c 0 t) (carried m c t) (iblk m c 2 t) (iblk m c 3 t) (iblk m c 4 t) (iblk m c 5 t) (iblk m c 6 t) (iblk m c 7 t) := by
  rw [outsAt0_C m c t h0 h1]
  frame_open
  simp only [↓ frontRow_eq, ↓ load_cur_hi, ↓ load_cur_lo]
  frame_out
  simp only [read_unread_whole]
  refine parts_out (iblk m c 0 t) (carried m c t) (iblk m c 2 t) (iblk m c 3 t) (iblk m c 4 t) (iblk m c 5 t) (iblk m c 6 t) (iblk m c 7 t) ?_ (View.cover_of_tiledL _ ![512, 256] (by sl_kernel_rfl))
  refine ⟨?_, ?_, ?_, ?_, ?_, ?_, ?_, ?_, ?_, ?_, ?_, trivial⟩
  · exact chunk_piece _ _ _ _ _ _ _ _ _ _ 2560 5376 (by decide) rfl (hist_carried_lo _ _ 2560 _ (held_11 m c t h0).gate) (hist_carried_hi _ _ 5376 _ (held_11 m c t h0).value) _ _ _ _ _ _ (by decide)
  · exact chunk_piece _ _ _ _ _ _ _ _ _ _ 2304 5120 (by decide) rfl (hist_carried_lo _ _ 2304 _ (held_10 m c t h0).gate) (hist_carried_hi _ _ 5120 _ (held_10 m c t h0).value) _ _ _ _ _ _ (by decide)
  · exact chunk_piece _ _ _ _ _ _ _ _ _ _ 2048 4864 (by decide) rfl (hist_carried_lo _ _ 2048 _ (held_9 m c t h0).gate) (hist_carried_hi _ _ 4864 _ (held_9 m c t h0).value) _ _ _ _ _ _ (by decide)
  · exact chunk_piece _ _ _ _ _ _ _ _ _ _ 1792 4608 (by decide) rfl (hist_carried_lo _ _ 1792 _ (held_8 m c t h0).gate) (hist_carried_hi _ _ 4608 _ (held_8 m c t h0).value) _ _ _ _ _ _ (by decide)
  · exact chunk_piece _ _ _ _ _ _ _ _ _ _ 1536 4352 (by decide) rfl (hist_carried_lo _ _ 1536 _ (held_7 m c t h0).gate) (hist_carried_hi _ _ 4352 _ (held_7 m c t h0).value) _ _ _ _ _ _ (by decide)
  · exact chunk_piece _ _ _ _ _ _ _ _ _ _ 1280 4096 (by decide) rfl (hist_carried_lo _ _ 1280 _ (held_6 m c t h0).gate) (hist_carried_hi _ _ 4096 _ (held_6 m c t h0).value) _ _ _ _ _ _ (by decide)
  · exact chunk_piece _ _ _ _ _ _ _ _ _ _ 1024 3840 (by decide) rfl (hist_carried_lo _ _ 1024 _ (held_5 m c t h0).gate) (hist_carried_hi _ _ 3840 _ (held_5 m c t h0).value) _ _ _ _ _ _ (by decide)
  · exact chunk_piece _ _ _ _ _ _ _ _ _ _ 768 3584 (by decide) rfl (hist_carried_lo _ _ 768 _ (held_4 m c t h0).gate) (hist_carried_hi _ _ 3584 _ (held_4 m c t h0).value) _ _ _ _ _ _ (by decide)
  · exact chunk_piece _ _ _ _ _ _ _ _ _ _ 512 3328 (by decide) rfl (hist_carried_lo _ _ 512 _ (held_3 m c t h0).gate) (hist_carried_hi _ _ 3328 _ (held_3 m c t h0).value) _ _ _ _ _ _ (by decide)
  · exact chunk_piece _ _ _ _ _ _ _ _ _ _ 256 3072 (by decide) rfl (hist_carried_lo _ _ 256 _ (held_2 m c t h0).gate) (hist_carried_hi _ _ 3072 _ (held_2 m c t h0).value) _ _ _ _ _ _ (by decide)
  · exact chunk_piece _ _ _ _ _ _ _ _ _ _ 0 2816 (by decide) rfl (hist_carried_lo _ _ 0 _ (held_1 m c t h0).gate) (hist_carried_hi _ _ 2816 _ (held_1 m c t h0).value) _ _ _ _ _ _ (by decide)

/-- The rows a grid point writes. -/
theorem out_point (c : Dev nD) (t : Fin cfg0.N) : (outsAt0 m c t.val t.isLt).1 = outBuf (iblk m c 0 t) (carried m c t) (iblk m c 2 t) (iblk m c 3 t) (iblk m c 4 t) (iblk m c 5 t) (iblk m c 6 t) (iblk m c 7 t) := by
  by_cases h0 : t.val % 8 = 0
  · exact out_point_A m c t h0 (by omega)
  · by_cases h1 : t.val % 8 = 7
    · exact out_point_C m c t h0 h1
    · exact out_point_B m c t h0 h1

/-- The rows that a sequence's last point carries on. -/
theorem next_point (c : Dev nD) (t : Fin cfg0.N) (h1 : t.val % 8 = 7) : (outsAt0 m c t.val t.isLt).2.1 = nextBuf (iblk m c 0 t) (carried m c t) (iblk m c 2 t) (iblk m c 3 t) (iblk m c 4 t) (iblk m c 5 t) (iblk m c 6 t) (iblk m c 7 t) := by
  rw [outsAt0_C m c t (by omega) h1]
  frame_open
  simp only [↓ load_last_hi, ↓ load_last_lo]
  frame_out
  funext y
  refine View.canon_apply_of_pieces _ _ ?_ y (View.cover_of_tiledL _ ![1, 2, 256] (by sl_kernel_rfl) y)
  refine View.PiecesOf.mem ⟨?_, ?_, ?_, ?_, ?_, ?_, ?_, ?_, ?_, ?_, ?_, ?_, ?_, ?_, ?_, ?_, ?_, ?_, ?_, ?_, ?_, ?_, trivial⟩
  · exact next_piece _ _ _ _ _ _ _ _ 5376 (by decide) _ (by decide)
  · exact next_piece _ _ _ _ _ _ _ _ 2560 (by decide) _ (by decide)
  · exact next_piece _ _ _ _ _ _ _ _ 5120 (by decide) _ (by decide)
  · exact next_piece _ _ _ _ _ _ _ _ 2304 (by decide) _ (by decide)
  · exact next_piece _ _ _ _ _ _ _ _ 4864 (by decide) _ (by decide)
  · exact next_piece _ _ _ _ _ _ _ _ 2048 (by decide) _ (by decide)
  · exact next_piece _ _ _ _ _ _ _ _ 4608 (by decide) _ (by decide)
  · exact next_piece _ _ _ _ _ _ _ _ 1792 (by decide) _ (by decide)
  · exact next_piece _ _ _ _ _ _ _ _ 4352 (by decide) _ (by decide)
  · exact next_piece _ _ _ _ _ _ _ _ 1536 (by decide) _ (by decide)
  · exact next_piece _ _ _ _ _ _ _ _ 4096 (by decide) _ (by decide)
  · exact next_piece _ _ _ _ _ _ _ _ 1280 (by decide) _ (by decide)
  · exact next_piece _ _ _ _ _ _ _ _ 3840 (by decide) _ (by decide)
  · exact next_piece _ _ _ _ _ _ _ _ 1024 (by decide) _ (by decide)
  · exact next_piece _ _ _ _ _ _ _ _ 3584 (by decide) _ (by decide)
  · exact next_piece _ _ _ _ _ _ _ _ 768 (by decide) _ (by decide)
  · exact next_piece _ _ _ _ _ _ _ _ 3328 (by decide) _ (by decide)
  · exact next_piece _ _ _ _ _ _ _ _ 512 (by decide) _ (by decide)
  · exact next_piece _ _ _ _ _ _ _ _ 3072 (by decide) _ (by decide)
  · exact next_piece _ _ _ _ _ _ _ _ 256 (by decide) _ (by decide)
  · exact next_piece _ _ _ _ _ _ _ _ 2816 (by decide) _ (by decide)
  · exact next_piece _ _ _ _ _ _ _ _ 0 (by decide) _ (by decide)

end Cert.PromptFfn

end
-- ==== Proof.PromptValue.lean ====
/-
  The two result arrays after the run on a prompt, at an index, as the layer's rows of the argument arrays.
-/
module

public import proofs.«01_k».proof.Proof.PromptPoint

@[expose] public section

set_option maxRecDepth 16384

noncomputable section

namespace Cert.PromptFfn

open Cert.PromptIdeal Cert.PromptIdeal.Gen Cert.PromptIdeal.Value Idealize.ShloMosaic Idealize.ShloMosaic.TcCoe Idealize.SL.Sem
open Cert.ConvFfn (Rows xpS outS nextS geluK)

variable (m : (ℓ : Loc nD τ sig) → Buf (Elt Ideal) ℓ)

/-- The first result array. -/
theorem out_array (c : Dev nD) :
    (dats m 0 c).arrAt 8 cfg0.N = fun i : S4x4096x1024.Idx => outS geluK (argRows m c ⟨(i 0).val, (i 0).isLt⟩) ⟨(i 1).val, (i 1).isLt⟩ ⟨(i 2).val, (i 2).isLt⟩ := by
  refine (dats m 0 c).arrAt_eq_of_covers 8 _ (by decide +kernel) fun t hf y => ?_
  blk_simp
  rw [after0_8, out_point]
  have h0 : (y 0).val < 1 := (y 0).isLt
  refine (outS_shift (stretch m c t) geluK ⟨(y 1).val, (y 1).isLt⟩ ⟨(y 2).val, (y 2).isLt⟩).trans ?_
  have e0 : win0_8.index t 0 = t.val / 8 := by rw [at_out t]; rfl
  have e1 : win0_8.index t 1 * 512 + (y 1).val = 512 * (t.val % 8) + (y 1).val := by rw [at_out t]; show t.val % 8 * 512 + (y 1).val = _; omega
  have e2 : win0_8.index t 2 * 1024 + (y 2).val = (y 2).val := by rw [at_out t]; exact Nat.zero_add _
  simp only [e0, e1, e2]
  rfl

/-- The second, which a sequence's last block writes. -/
theorem next_array (c : Dev nD) :
    (dats m 0 c).arrAt 9 cfg0.N = fun i : S4x2x5632.Idx => nextS (argRows m c ⟨(i 0).val, (i 0).isLt⟩) ⟨(i 1).val, (i 1).isLt⟩ ⟨(i 2).val, (i 2).isLt⟩ := by
  refine (dats m 0 c).arrAt_eq_of_covers 9 _ (by decide +kernel) fun t hf y => ?_
  have h7 : t.val % 8 = 7 := (by decide +kernel : ∀ t : Fin cfg0.N, (cfg0.win 9).flush t = true → t.val % 8 = 7) t hf
  blk_simp
  rw [after0_9, next_point m c t h7]
  have h0 : (y 0).val < 1 := (y 0).isLt
  refine (nextS_shift (stretch m c t) ⟨(y 1).val, (y 1).isLt⟩ ⟨(y 2).val, (y 2).isLt⟩).trans ?_
  have e0 : win0_9.index t 0 = t.val / 8 := by rw [at_next t]; rfl
  have e1 : win0_9.index t 1 * 2 + (y 1).val = (y 1).val := by rw [at_next t]; exact Nat.zero_add _
  have e2 : win0_9.index t 2 * 5632 + (y 2).val = (y 2).val := by rw [at_next t]; exact Nat.zero_add _
  simp only [e0, e1, e2]
  unfold nextS
  rw [h7]
  rfl

end Cert.PromptFfn

end
-- ==== Proof.PromptPre.lean ====
/-
  The prompt call's precondition, decoded: the four arrays that it names hold real numbers.
-/
module

public import proofs.«01_k».proof.Proof.Pre
public import proofs.«01_k».proof.Proof.Gen.Pre_prompt_args_finite

@[expose] public section

set_option maxRecDepth 16384

noncomputable section

namespace Cert.PromptFfn

open Cert.Pre_prompt_args_finite Cert.Pre_prompt_args_finite.Gen Idealize.ShloMosaic
open Cert.ConvFfn (Real' real_of_cmp)

variable (x0 : FVec Ideal S4x4096x1024 .f32) (x1 x2 : FVec Ideal S1024 .f32)
  (x3 : FVec Ideal S1024x5632 .f32) (x4 : FVec Ideal S3x5632 .f32) (x5 : FVec Ideal S5632 .f32) (x6 : FVec Ideal S2816x1024 .f32)

/-- The four arrays that the precondition names hold real numbers. -/
theorem reals_of_pre (h : fn (F := Ideal) x0 x1 x2 x3 x4 x5 x6 = fun _ => 1#1) :
    (∀ i, Real' (x1 i)) ∧ (∀ i, Real' (x3 i)) ∧ (∀ i, Real' (x4 i)) ∧ ∀ i, Real' (x5 i) := by
  have : Subsingleton S_.Idx := ⟨fun a b => funext fun k => k.elim0⟩
  have e := congrFun h (fun k => k.elim0)
  obtain ⟨e, e5⟩ := IntOp.andi_eq_one.1 e
  obtain ⟨e, e4⟩ := IntOp.andi_eq_one.1 e
  obtain ⟨e1, e3⟩ := IntOp.andi_eq_one.1 e
  exact ⟨fun i => real_of_cmp (Host.reduce_andi_all _ _ _ _ _ e1 i), fun i => real_of_cmp (Host.reduce_andi_all _ _ _ _ _ e3 i),
    fun i => real_of_cmp (Host.reduce_andi_all _ _ _ _ _ e4 i), fun i => real_of_cmp (Host.reduce_andi_all _ _ _ _ _ e5 i)⟩

end Cert.PromptFfn

end
-- ==== Proof.PromptClaims.lean ====
/-
  The claims about the ConvFFN call on the prompt, each on its own: the frames, what the idealization changes, and the
  equality of the results.
-/
module

public import proofs.«01_k».proof.Defs
public import proofs.«01_k».proof.Proof.Gen.Prompt.Frame
public import proofs.«01_k».proof.Proof.PromptValue
public import proofs.«01_k».proof.Proof.PromptPre

@[expose] public section

set_option maxRecDepth 16384

noncomputable section

namespace Cert.Proof.Prompt

open Idealize.ShloMosaic Idealize.ShloMosaic.TcCoe Idealize.SL.Sem Cert.PromptFfn
open Cert.ConvFfn (outS nextS geluK outS_eq)

/-- The kernel runs, keeps its arguments and ends with every semaphore at zero, on words and on the extended reals. -/
theorem frame_kernel : Cert.quiescent_Prompt := fun m ρ _ => Cert.Prompt.Gen.frame m ρ
theorem frame_ideal : Cert.quiescent_PromptIdeal := fun m ρ _ => Cert.PromptIdeal.Gen.frame m ρ
theorem frame_ideal_pre : Cert.quiescent_PromptIdeal_pre_prompt_args_finite := fun m ρ _ => Cert.PromptIdeal.Gen.frame m ρ

/-- The reference's run; it declares no semaphore. -/
theorem frame_ref : Cert.quiescent_PromptRefIdeal := fun m ρ _ =>
  (θ_run Cert.PromptRefIdeal.defs _ _).mono (fun r h => ⟨fun c => (h c).2.2,
      Idealize.ShloMosaic.sem_eq_zero_of_no_sems (by decide) r.2⟩)
    (Cert.PromptRefIdeal.Value.run (F := Ideal) m ρ)
theorem frame_ref_pre : Cert.quiescent_PromptRefIdeal_pre_prompt_args_finite := fun m ρ _ => frame_ref m ρ trivial

/-- The named constant lies within its literal's rounding. -/
theorem preserves : Cert.preserves_Prompt_PromptIdeal :=
  IdealRules.named_const.statement Cert.PromptIdeal.κ "gelu_c1" .f32 0x3D122279#32 ((80338380498831 / 2251799813685248 : ℝ) : EReal) rfl

/-- Where the arguments named by the precondition are real, so is each sequence's share of them. -/
theorem rows_real (m : (ℓ : Loc Cert.PromptIdeal.nD Cert.PromptIdeal.τ Cert.PromptIdeal.sig) → Buf (Elt Ideal) ℓ) (h : Cert.Pre_PromptIdeal_prompt_args_finite m)
    (c : Dev Cert.PromptIdeal.nD) (b : Fin 4) : (argRows m c b).Fin' := by
  obtain ⟨h1, h3, h4, h5⟩ := reals_of_pre _ _ _ _ _ _ _ (h c)
  exact ⟨fun _ _ => ⟨0, rfl⟩, fun _ => h1 _, fun _ _ => h3 _, fun _ _ => h4 _, fun _ => h5 _⟩

/-- At the extended reals the kernel's two results are the reference's. -/
theorem algebraic : Cert.algebraic_PromptIdeal_PromptRefIdeal_pre_prompt_args_finite := by
  intro m ρ m' ρ' hpre hagree
  refine ⟨_, _, Cert.PromptIdeal.Value.run_blocks (F := Ideal) m ρ, ?_⟩
  refine (θ_run Cert.PromptRefIdeal.defs _ _).mono (fun _ h c => ⟨(h c).1.trans ?_, (h c).2.1.trans ?_, (h c).2.2⟩)
    (Cert.PromptRefIdeal.Value.run (F := Ideal) m' ρ')
  · rw [out_array, Cert.PromptRefIdeal.Read.val_main_v69_eq]
    obtain ⟨a0, a1, a2, a3, a4, a5, a6⟩ := hagree c
    rw [a0, a1, a2, a3, a4, a5, a6]
    funext i
    have e := refOut (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (i 0) (i 1) (i 2)
    rw [← outS_eq _ (rows_real m hpre c (i 0))] at e
    refine Eq.trans (congrArg _ ?_) e
    funext a; fin_cases a <;> rfl
  · rw [next_array]
    obtain ⟨a0, a1, a2, a3, a4, a5, a6⟩ := hagree c
    rw [a0, a1, a3]
    funext i
    have e := refNext (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (i 0) (i 1) (i 2)
    refine Eq.trans (congrArg _ ?_) e
    funext a; fin_cases a <;> rfl

end Cert.Proof.Prompt

end
-- ==== Proof.lean ====
/-
  The claim, put together from the claims about the ConvFFN call, the attention call and the spatial-gating MLP call on the
  sample, and the ConvFFN call on the prompt.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_args_finite
public import proofs.«01_k».proof.Proof.FfnClaims
public import proofs.«01_k».proof.Proof.AttnClaims
public import proofs.«01_k».proof.Proof.CmlpClaims
public import proofs.«01_k».proof.Proof.PromptClaims
public import proofs.«01_k».proof.Proof.Gen.Attn
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Pre_attn_args_finite
public import proofs.«01_k».proof.Proof.Gen.Attn.Frame
public import proofs.«01_k».proof.Proof.Gen.PromptIdeal
public import proofs.«01_k».proof.Proof.Gen.PromptIdeal.Frame
public import proofs.«01_k».proof.Proof.Gen.PromptIdeal.Value
public import proofs.«01_k».proof.Proof.Gen.PromptRefIdeal.Run
public import proofs.«01_k».proof.Proof.Gen.PromptRefIdeal.Read
public import proofs.«01_k».proof.Proof.Gen.Pre_prompt_args_finite
public import proofs.«01_k».proof.Proof.Gen.Prompt
public import proofs.«01_k».proof.Proof.Gen.Prompt.Frame
public import proofs.«01_k».proof.Proof.Gen.Cmlp
public import proofs.«01_k».proof.Proof.Gen.CmlpIdeal.Frame
public import proofs.«01_k».proof.Proof.Gen.CmlpIdeal.Value
public import proofs.«01_k».proof.Proof.Gen.CmlpRefIdeal.Run
public import proofs.«01_k».proof.Proof.Gen.CmlpRefIdeal.Read
public import proofs.«01_k».proof.Proof.Gen.Pre_cmlp_args_finite
public import proofs.«01_k».proof.Proof.Gen.Cmlp.Frame

@[expose] public section

noncomputable section

namespace Cert.Proof

theorem claim : Cert.Claim := ⟨Cert.Kernel.Gen.facts, Cert.KernelIdeal.Gen.facts, Cert.ReferenceIdeal.Gen.facts,
  Cert.Attn.Gen.facts, Cert.AttnIdeal.Gen.facts, Cert.AttnRefIdeal.Gen.facts,
  Cert.Cmlp.Gen.facts, Cert.CmlpIdeal.Gen.facts, Cert.CmlpRefIdeal.Gen.facts,
  Cert.Prompt.Gen.facts, Cert.PromptIdeal.Gen.facts, Cert.PromptRefIdeal.Gen.facts,
  Cert.Pre_args_finite.Gen.facts, Cert.Pre_attn_args_finite.Gen.facts, Cert.Pre_cmlp_args_finite.Gen.facts, Cert.Pre_prompt_args_finite.Gen.facts,
  Ffn.frame_kernel, Ffn.frame_ideal, Ffn.frame_ideal_pre, Ffn.frame_ref, Ffn.frame_ref_pre,
  Attn.frame_kernel, Attn.frame_ideal, Attn.frame_ideal_pre, Attn.frame_ref, Attn.frame_ref_pre,
  Cmlp.frame_kernel, Cmlp.frame_ideal, Cmlp.frame_ideal_pre, Cmlp.frame_ref, Cmlp.frame_ref_pre,
  Prompt.frame_kernel, Prompt.frame_ideal, Prompt.frame_ideal_pre, Prompt.frame_ref, Prompt.frame_ref_pre,
  Ffn.preserves, Ffn.algebraic, Attn.preserves, Attn.algebraic, Cmlp.preserves, Cmlp.algebraic,
  Prompt.preserves, Prompt.algebraic⟩

end Cert.Proof

end
